-- ==== Defs.lean ====
def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_gmlp_finite [hPre_gmlp_finite : Cert.Pre_gmlp_finite.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).2.1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).2.2.1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).2.2.2.1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).2.2.2.2 = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_gmlp_finite [hPre_gmlp_finite : Cert.Pre_gmlp_finite.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))) = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ r.2.sem = fun _ => 0)

def quiescent_GmlpBwdIdeal_pre_gmlp_finite [hGmlpBwdIdeal : Cert.GmlpBwdIdeal.Facts] [hPre_gmlp_finite : Cert.Pre_gmlp_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_gmlp_finite m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_GmlpRefIdeal_pre_gmlp_finite [hGmlpRefIdeal : Cert.GmlpRefIdeal.Facts] [hPre_gmlp_finite : Cert.Pre_gmlp_finite.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_gmlp_finite m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)) →
    ∃ (v0 : (c : Dev Cert.MixBwdIdeal.nD) → Buf (Elt Ideal) ((c.tc : Thread Cert.MixBwdIdeal.nD Cert.MixBwdIdeal.τ).loc Cert.MixBwdIdeal.main_v4_0)) (v1 : (c : Dev Cert.MixBwdIdeal.nD) → Buf (Elt Ideal) ((c.tc : Thread Cert.MixBwdIdeal.nD Cert.MixBwdIdeal.τ).loc Cert.MixBwdIdeal.main_v4_1)) (v2 : (c : Dev Cert.MixBwdIdeal.nD) → Buf (Elt Ideal) ((c.tc : Thread Cert.MixBwdIdeal.nD Cert.MixBwdIdeal.τ).loc Cert.MixBwdIdeal.main_v4_2)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v4_0) = v0 c
          ∧ r.2.mem ((c.tc : Thread Cert.MixBwdIdeal.nD Cert.MixBwdIdeal.τ).loc Cert.MixBwdIdeal.main_v4_1) = v1 c
          ∧ r.2.mem ((c.tc : Thread Cert.MixBwdIdeal.nD Cert.MixBwdIdeal.τ).loc Cert.MixBwdIdeal.main_v4_2) = v2 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v55) = v0 c
          ∧ r.2.mem ((c.tc : Thread Cert.MixRefIdeal.nD Cert.MixRefIdeal.τ).loc Cert.MixRefIdeal.main_v57) = v1 c
          ∧ r.2.mem ((c.tc : Thread Cert.MixRefIdeal.nD Cert.MixRefIdeal.τ).loc Cert.MixRefIdeal.main_v56) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_GmlpBwd_GmlpBwdIdeal : Prop :=
  IdealRules.named_const.Statement Cert.GmlpBwdIdeal.κ "sqrt_half" .f32 0x3F3504F3#32 (((Real.sqrt 2)⁻¹ : ℝ) : EReal)
  ∧ IdealRules.named_const.Statement Cert.GmlpBwdIdeal.κ "density" .f32 0x3ECC422A#32 (((9465531 / 16777216) * (Real.sqrt 2)⁻¹ : ℝ) : EReal)

def algebraic_GmlpBwdIdeal_GmlpRefIdeal_pre_gmlp_finite [hGmlpBwdIdeal : Cert.GmlpBwdIdeal.Facts] [hGmlpRefIdeal : Cert.GmlpRefIdeal.Facts] [hPre_gmlp_finite : Cert.Pre_gmlp_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpBwdIdeal_gmlp_finite m →
    (∀ c : Dev Cert.GmlpBwdIdeal.nD,
      m' ((c.tc : Thread Cert.GmlpRefIdeal.nD Cert.GmlpRefIdeal.τ).loc Cert.GmlpRefIdeal.main_arg0) = m ((c.tc : Thread Cert.GmlpBwdIdeal.nD Cert.GmlpBwdIdeal.τ).loc Cert.GmlpBwdIdeal.main_arg0)
      ∧ m' ((c.tc : Thread Cert.GmlpRefIdeal.nD Cert.GmlpRefIdeal.τ).loc Cert.GmlpRefIdeal.main_arg1) = m ((c.tc : Thread Cert.GmlpBwdIdeal.nD Cert.GmlpBwdIdeal.τ).loc Cert.GmlpBwdIdeal.main_arg1)
      ∧ m' ((c.tc : Thread Cert.GmlpRefIdeal.nD Cert.GmlpRefIdeal.τ).loc Cert.GmlpRefIdeal.main_arg2) = m ((c.tc : Thread Cert.GmlpBwdIdeal.nD Cert.GmlpBwdIdeal.τ).loc Cert.GmlpBwdIdeal.main_arg2)
      ∧ m' ((c.tc : Thread Cert.GmlpRefIdeal.nD Cert.GmlpRefIdeal.τ).loc Cert.GmlpRefIdeal.main_arg3) = m ((c.tc : Thread Cert.GmlpBwdIdeal.nD Cert.GmlpBwdIdeal.τ).loc Cert.GmlpBwdIdeal.main_arg3)
      ∧ m' ((c.tc : Thread Cert.GmlpRefIdeal.nD Cert.GmlpRefIdeal.τ).loc Cert.GmlpRefIdeal.main_arg4) = m ((c.tc : Thread Cert.GmlpBwdIdeal.nD Cert.GmlpBwdIdeal.τ).loc Cert.GmlpBwdIdeal.main_arg4)) →
    ∃ (v0 : (c : Dev Cert.GmlpBwdIdeal.nD) → Buf (Elt Ideal) ((c.tc : Thread Cert.GmlpBwdIdeal.nD Cert.GmlpBwdIdeal.τ).loc Cert.GmlpBwdIdeal.main_v3_0)) (v1 : (c : Dev Cert.GmlpBwdIdeal.nD) → Buf (Elt Ideal) ((c.tc : Thread Cert.GmlpBwdIdeal.nD Cert.GmlpBwdIdeal.τ).loc Cert.GmlpBwdIdeal.main_v3_1)) (v2 : (c : Dev Cert.GmlpBwdIdeal.nD) → Buf (Elt Ideal) ((c.tc : Thread Cert.GmlpBwdIdeal.nD Cert.GmlpBwdIdeal.τ).loc Cert.GmlpBwdIdeal.main_v3_2)) (v3 : (c : Dev Cert.GmlpBwdIdeal.nD) → Buf (Elt Ideal) ((c.tc : Thread Cert.GmlpBwdIdeal.nD Cert.GmlpBwdIdeal.τ).loc Cert.GmlpBwdIdeal.main_v3_3)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v3_0) = v0 c
          ∧ r.2.mem ((c.tc : Thread Cert.GmlpBwdIdeal.nD Cert.GmlpBwdIdeal.τ).loc Cert.GmlpBwdIdeal.main_v3_1) = v1 c
          ∧ r.2.mem ((c.tc : Thread Cert.GmlpBwdIdeal.nD Cert.GmlpBwdIdeal.τ).loc Cert.GmlpBwdIdeal.main_v3_2) = v2 c
          ∧ r.2.mem ((c.tc : Thread Cert.GmlpBwdIdeal.nD Cert.GmlpBwdIdeal.τ).loc Cert.GmlpBwdIdeal.main_v3_3) = v3 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v123) = v0 c
          ∧ r.2.mem ((c.tc : Thread Cert.GmlpRefIdeal.nD Cert.GmlpRefIdeal.τ).loc Cert.GmlpRefIdeal.main_v124) = v1 c
          ∧ r.2.mem ((c.tc : Thread Cert.GmlpRefIdeal.nD Cert.GmlpRefIdeal.τ).loc Cert.GmlpRefIdeal.main_v126) = v2 c
          ∧ r.2.mem ((c.tc : Thread Cert.GmlpRefIdeal.nD Cert.GmlpRefIdeal.τ).loc Cert.GmlpRefIdeal.main_v100) = v3 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v6_0)) (v1 : (c : Dev Cert.FfnBwdIdeal.nD) → Buf (Elt Ideal) ((c.tc : Thread Cert.FfnBwdIdeal.nD Cert.FfnBwdIdeal.τ).loc Cert.FfnBwdIdeal.main_v7_0)) (v2 : (c : Dev Cert.FfnBwdIdeal.nD) → Buf (Elt Ideal) ((c.tc : Thread Cert.FfnBwdIdeal.nD Cert.FfnBwdIdeal.τ).loc Cert.FfnBwdIdeal.main_v7_1)) (v3 : (c : Dev Cert.FfnBwdIdeal.nD) → Buf (Elt Ideal) ((c.tc : Thread Cert.FfnBwdIdeal.nD Cert.FfnBwdIdeal.τ).loc Cert.FfnBwdIdeal.main_v7_2)) (v4 : (c : Dev Cert.FfnBwdIdeal.nD) → Buf (Elt Ideal) ((c.tc : Thread Cert.FfnBwdIdeal.nD Cert.FfnBwdIdeal.τ).loc Cert.FfnBwdIdeal.main_v7_3)) (v5 : (c : Dev Cert.FfnBwdIdeal.nD) → Buf (Elt Ideal) ((c.tc : Thread Cert.FfnBwdIdeal.nD Cert.FfnBwdIdeal.τ).loc Cert.FfnBwdIdeal.main_v7_4)) (v6 : (c : Dev Cert.FfnBwdIdeal.nD) → Buf (Elt Ideal) ((c.tc : Thread Cert.FfnBwdIdeal.nD Cert.FfnBwdIdeal.τ).loc Cert.FfnBwdIdeal.main_v7_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v6_0) = v0 c
          ∧ r.2.mem ((c.tc : Thread Cert.FfnBwdIdeal.nD Cert.FfnBwdIdeal.τ).loc Cert.FfnBwdIdeal.main_v7_0) = v1 c
          ∧ r.2.mem ((c.tc : Thread Cert.FfnBwdIdeal.nD Cert.FfnBwdIdeal.τ).loc Cert.FfnBwdIdeal.main_v7_1) = v2 c
          ∧ r.2.mem ((c.tc : Thread Cert.FfnBwdIdeal.nD Cert.FfnBwdIdeal.τ).loc Cert.FfnBwdIdeal.main_v7_2) = v3 c
          ∧ r.2.mem ((c.tc : Thread Cert.FfnBwdIdeal.nD Cert.FfnBwdIdeal.τ).loc Cert.FfnBwdIdeal.main_v7_3) = v4 c
          ∧ r.2.mem ((c.tc : Thread Cert.FfnBwdIdeal.nD Cert.FfnBwdIdeal.τ).loc Cert.FfnBwdIdeal.main_v7_4) = v5 c
          ∧ r.2.mem ((c.tc : Thread Cert.FfnBwdIdeal.nD Cert.FfnBwdIdeal.τ).loc Cert.FfnBwdIdeal.main_v7_5) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v73) = v0 c
          ∧ r.2.mem ((c.tc : Thread Cert.FfnRefIdeal.nD Cert.FfnRefIdeal.τ).loc Cert.FfnRefIdeal.main_v69) = v1 c
          ∧ r.2.mem ((c.tc : Thread Cert.FfnRefIdeal.nD Cert.FfnRefIdeal.τ).loc Cert.FfnRefIdeal.main_v74) = v2 c
          ∧ r.2.mem ((c.tc : Thread Cert.FfnRefIdeal.nD Cert.FfnRefIdeal.τ).loc Cert.FfnRefIdeal.main_v75) = v3 c
          ∧ r.2.mem ((c.tc : Thread Cert.FfnRefIdeal.nD Cert.FfnRefIdeal.τ).loc Cert.FfnRefIdeal.main_v76) = v4 c
          ∧ r.2.mem ((c.tc : Thread Cert.FfnRefIdeal.nD Cert.FfnRefIdeal.τ).loc Cert.FfnRefIdeal.main_v77) = v5 c
          ∧ r.2.mem ((c.tc : Thread Cert.FfnRefIdeal.nD Cert.FfnRefIdeal.τ).loc Cert.FfnRefIdeal.main_v70) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v7_0)) (v1 : (c : Dev Cert.HeadIdeal.nD) → Buf (Elt Ideal) ((c.tc : Thread Cert.HeadIdeal.nD Cert.HeadIdeal.τ).loc Cert.HeadIdeal.main_v7_1)) (v2 : (c : Dev Cert.HeadIdeal.nD) → Buf (Elt Ideal) ((c.tc : Thread Cert.HeadIdeal.nD Cert.HeadIdeal.τ).loc Cert.HeadIdeal.main_v7_2)) (v3 : (c : Dev Cert.HeadIdeal.nD) → Buf (Elt Ideal) ((c.tc : Thread Cert.HeadIdeal.nD Cert.HeadIdeal.τ).loc Cert.HeadIdeal.main_v7_3)) (v4 : (c : Dev Cert.HeadIdeal.nD) → Buf (Elt Ideal) ((c.tc : Thread Cert.HeadIdeal.nD Cert.HeadIdeal.τ).loc Cert.HeadIdeal.main_v7_4)) (v5 : (c : Dev Cert.HeadIdeal.nD) → Buf (Elt Ideal) ((c.tc : Thread Cert.HeadIdeal.nD Cert.HeadIdeal.τ).loc Cert.HeadIdeal.main_v7_5)) (v6 : (c : Dev Cert.HeadIdeal.nD) → Buf (Elt Ideal) ((c.tc : Thread Cert.HeadIdeal.nD Cert.HeadIdeal.τ).loc Cert.HeadIdeal.main_v7_6)) (v7 : (c : Dev Cert.HeadIdeal.nD) → Buf (Elt Ideal) ((c.tc : Thread Cert.HeadIdeal.nD Cert.HeadIdeal.τ).loc Cert.HeadIdeal.main_v7_7)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v7_0) = v0 c
          ∧ r.2.mem ((c.tc : Thread Cert.HeadIdeal.nD Cert.HeadIdeal.τ).loc Cert.HeadIdeal.main_v7_1) = v1 c
          ∧ r.2.mem ((c.tc : Thread Cert.HeadIdeal.nD Cert.HeadIdeal.τ).loc Cert.HeadIdeal.main_v7_2) = v2 c
          ∧ r.2.mem ((c.tc : Thread Cert.HeadIdeal.nD Cert.HeadIdeal.τ).loc Cert.HeadIdeal.main_v7_3) = v3 c
          ∧ r.2.mem ((c.tc : Thread Cert.HeadIdeal.nD Cert.HeadIdeal.τ).loc Cert.HeadIdeal.main_v7_4) = v4 c
          ∧ r.2.mem ((c.tc : Thread Cert.HeadIdeal.nD Cert.HeadIdeal.τ).loc Cert.HeadIdeal.main_v7_5) = v5 c
          ∧ r.2.mem ((c.tc : Thread Cert.HeadIdeal.nD Cert.HeadIdeal.τ).loc Cert.HeadIdeal.main_v7_6) = v6 c
          ∧ r.2.mem ((c.tc : Thread Cert.HeadIdeal.nD Cert.HeadIdeal.τ).loc Cert.HeadIdeal.main_v7_7) = v7 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v123) = v0 c
          ∧ r.2.mem ((c.tc : Thread Cert.HeadRefIdeal.nD Cert.HeadRefIdeal.τ).loc Cert.HeadRefIdeal.main_v124) = v1 c
          ∧ r.2.mem ((c.tc : Thread Cert.HeadRefIdeal.nD Cert.HeadRefIdeal.τ).loc Cert.HeadRefIdeal.main_v121) = v2 c
          ∧ r.2.mem ((c.tc : Thread Cert.HeadRefIdeal.nD Cert.HeadRefIdeal.τ).loc Cert.HeadRefIdeal.main_v125) = v3 c
          ∧ r.2.mem ((c.tc : Thread Cert.HeadRefIdeal.nD Cert.HeadRefIdeal.τ).loc Cert.HeadRefIdeal.main_v126) = v4 c
          ∧ r.2.mem ((c.tc : Thread Cert.HeadRefIdeal.nD Cert.HeadRefIdeal.τ).loc Cert.HeadRefIdeal.main_v127) = v5 c
          ∧ r.2.mem ((c.tc : Thread Cert.HeadRefIdeal.nD Cert.HeadRefIdeal.τ).loc Cert.HeadRefIdeal.main_v128) = v6 c
          ∧ r.2.mem ((c.tc : Thread Cert.HeadRefIdeal.nD Cert.HeadRefIdeal.τ).loc Cert.HeadRefIdeal.main_v129) = v7 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_AttnBwd_AttnBwdIdeal : Prop :=
  IdealRules.named_const.Statement Cert.AttnBwdIdeal.κ "scale_log2_e" .f32 0x3E38AA3B#32 ((8⁻¹ * (Real.log 2)⁻¹ : ℝ) : EReal)
  ∧ IdealRules.named_const.Statement Cert.AttnBwdIdeal.κ "log2_e_inv" .f32 0x3FB8AA3B#32 (((Real.log 2)⁻¹ : ℝ) : EReal)

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v4_0)) (v1 : (c : Dev Cert.MixFwdIdeal.nD) → Buf (Elt Ideal) ((c.tc : Thread Cert.MixFwdIdeal.nD Cert.MixFwdIdeal.τ).loc Cert.MixFwdIdeal.main_v4_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4_0) = v0 c
          ∧ r.2.mem ((c.tc : Thread Cert.MixFwdIdeal.nD Cert.MixFwdIdeal.τ).loc Cert.MixFwdIdeal.main_v4_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v16) = v0 c
          ∧ r.2.mem ((c.tc : Thread Cert.MixFwdRefIdeal.nD Cert.MixFwdRefIdeal.τ).loc Cert.MixFwdRefIdeal.main_v18) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2))

def preserves_GmlpFwd_GmlpFwdIdeal : Prop :=
  IdealRules.named_const.Statement Cert.GmlpFwdIdeal.κ "sqrt_half" .f32 0x3F3504F3#32 (((Real.sqrt 2)⁻¹ : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)) →
    ∃ (v0 : (c : Dev Cert.GmlpFwdIdeal.nD) → Buf (Elt Ideal) ((c.tc : Thread Cert.GmlpFwdIdeal.nD Cert.GmlpFwdIdeal.τ).loc Cert.GmlpFwdIdeal.main_v4)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v4) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v52) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3))

def preserves_AttnFwd_AttnFwdIdeal : Prop :=
  IdealRules.named_const.Statement Cert.AttnFwdIdeal.κ "scale_log2_e" .f32 0x3E38AA3B#32 ((8⁻¹ * (Real.log 2)⁻¹ : ℝ) : EReal)
  ∧ IdealRules.named_const.Statement Cert.AttnFwdIdeal.κ "log2_e_inv" .f32 0x3FB8AA3B#32 (((Real.log 2)⁻¹ : ℝ) : EReal)

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v33) = v0 c
          ∧ r.2.mem ((c.tc : Thread Cert.AttnFwdRefIdeal.nD Cert.AttnFwdRefIdeal.τ).loc Cert.AttnFwdRefIdeal.main_v46) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v1_0)) (v1 : (c : Dev Cert.OutBwdIdeal.nD) → Buf (Elt Ideal) ((c.tc : Thread Cert.OutBwdIdeal.nD Cert.OutBwdIdeal.τ).loc Cert.OutBwdIdeal.main_v1_1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1_0) = v0 c
          ∧ r.2.mem ((c.tc : Thread Cert.OutBwdIdeal.nD Cert.OutBwdIdeal.τ).loc Cert.OutBwdIdeal.main_v1_1) = v1 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v3) = v0 c
          ∧ r.2.mem ((c.tc : Thread Cert.OutBwdRefIdeal.nD Cert.OutBwdRefIdeal.τ).loc Cert.OutBwdRefIdeal.main_v4) = v1 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0_0)) (v1 : (c : Dev Cert.WgradIdeal.nD) → Buf (Elt Ideal) ((c.tc : Thread Cert.WgradIdeal.nD Cert.WgradIdeal.τ).loc Cert.WgradIdeal.main_v0_1)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0_0) = v0 c
          ∧ r.2.mem ((c.tc : Thread Cert.WgradIdeal.nD Cert.WgradIdeal.τ).loc Cert.WgradIdeal.main_v0_1) = v1 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v7) = v0 c
          ∧ r.2.mem ((c.tc : Thread Cert.WgradRefIdeal.nD Cert.WgradRefIdeal.τ).loc Cert.WgradRefIdeal.main_v8) = v1 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def Claim : Prop :=
  ∃ (hMixBwd : Cert.MixBwd.Facts) (hMixBwdIdeal : Cert.MixBwdIdeal.Facts) (hMixRefIdeal : Cert.MixRefIdeal.Facts) (hGmlpBwd : Cert.GmlpBwd.Facts) (hGmlpBwdIdeal : Cert.GmlpBwdIdeal.Facts) (hGmlpRefIdeal : Cert.GmlpRefIdeal.Facts) (hFfnBwd : Cert.FfnBwd.Facts) (hFfnBwdIdeal : Cert.FfnBwdIdeal.Facts) (hFfnRefIdeal : Cert.FfnRefIdeal.Facts) (hHead : Cert.Head.Facts) (hHeadIdeal : Cert.HeadIdeal.Facts) (hHeadRefIdeal : Cert.HeadRefIdeal.Facts) (hAttnBwd : Cert.AttnBwd.Facts) (hAttnBwdIdeal : Cert.AttnBwdIdeal.Facts) (hAttnRefIdeal : Cert.AttnRefIdeal.Facts) (hMixFwd : Cert.MixFwd.Facts) (hMixFwdIdeal : Cert.MixFwdIdeal.Facts) (hMixFwdRefIdeal : Cert.MixFwdRefIdeal.Facts) (hGmlpFwd : Cert.GmlpFwd.Facts) (hGmlpFwdIdeal : Cert.GmlpFwdIdeal.Facts) (hGmlpFwdRefIdeal : Cert.GmlpFwdRefIdeal.Facts) (hAttnFwd : Cert.AttnFwd.Facts) (hAttnFwdIdeal : Cert.AttnFwdIdeal.Facts) (hAttnFwdRefIdeal : Cert.AttnFwdRefIdeal.Facts) (hOutFwd : Cert.OutFwd.Facts) (hOutFwdIdeal : Cert.OutFwdIdeal.Facts) (hOutFwdRefIdeal : Cert.OutFwdRefIdeal.Facts) (hOutBwd : Cert.OutBwd.Facts) (hOutBwdIdeal : Cert.OutBwdIdeal.Facts) (hOutBwdRefIdeal : Cert.OutBwdRefIdeal.Facts) (hWgrad : Cert.Wgrad.Facts) (hWgradIdeal : Cert.WgradIdeal.Facts) (hWgradRefIdeal : Cert.WgradRefIdeal.Facts) (hAdamW : Cert.AdamW.Facts) (hAdamWIdeal : Cert.AdamWIdeal.Facts) (hAdamWRefIdeal : Cert.AdamWRefIdeal.Facts) (hPre_gmlp_finite : Cert.Pre_gmlp_finite.Facts) (hPre_ffn_finite : Cert.Pre_ffn_finite.Facts) (hPre_attn_fwd_finite : Cert.Pre_attn_fwd_finite.Facts),
    quiescent_MixBwd (hMixBwd := hMixBwd)
    ∧ quiescent_MixBwdIdeal (hMixBwdIdeal := hMixBwdIdeal)
    ∧ quiescent_MixRefIdeal (hMixRefIdeal := hMixRefIdeal)
    ∧ quiescent_GmlpBwd (hGmlpBwd := hGmlpBwd)
    ∧ quiescent_GmlpBwdIdeal (hGmlpBwdIdeal := hGmlpBwdIdeal)
    ∧ quiescent_GmlpBwdIdeal_pre_gmlp_finite (hGmlpBwdIdeal := hGmlpBwdIdeal) (hPre_gmlp_finite := hPre_gmlp_finite)
    ∧ quiescent_GmlpRefIdeal (hGmlpRefIdeal := hGmlpRefIdeal)
    ∧ quiescent_GmlpRefIdeal_pre_gmlp_finite (hGmlpRefIdeal := hGmlpRefIdeal) (hPre_gmlp_finite := hPre_gmlp_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Head (hHead := hHead)
    ∧ quiescent_HeadIdeal (hHeadIdeal := hHeadIdeal)
    ∧ quiescent_HeadRefIdeal (hHeadRefIdeal := hHeadRefIdeal)
    ∧ quiescent_AttnBwd (hAttnBwd := hAttnBwd)
    ∧ quiescent_AttnBwdIdeal (hAttnBwdIdeal := hAttnBwdIdeal)
    ∧ quiescent_AttnRefIdeal (hAttnRefIdeal := hAttnRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_MixBwd_MixBwdIdeal
    ∧ algebraic_MixBwdIdeal_MixRefIdeal (hMixBwdIdeal := hMixBwdIdeal) (hMixRefIdeal := hMixRefIdeal)
    ∧ preserves_GmlpBwd_GmlpBwdIdeal
    ∧ algebraic_GmlpBwdIdeal_GmlpRefIdeal_pre_gmlp_finite (hGmlpBwdIdeal := hGmlpBwdIdeal) (hGmlpRefIdeal := hGmlpRefIdeal) (hPre_gmlp_finite := hPre_gmlp_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_Head_HeadIdeal
    ∧ algebraic_HeadIdeal_HeadRefIdeal (hHeadIdeal := hHeadIdeal) (hHeadRefIdeal := hHeadRefIdeal)
    ∧ preserves_AttnBwd_AttnBwdIdeal
    ∧ preserves_MixFwd_MixFwdIdeal
    ∧ algebraic_MixFwdIdeal_MixFwdRefIdeal (hMixFwdIdeal := hMixFwdIdeal) (hMixFwdRefIdeal := hMixFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_OutFwd_OutFwdIdeal
    ∧ algebraic_OutFwdIdeal_OutFwdRefIdeal (hOutFwdIdeal := hOutFwdIdeal) (hOutFwdRefIdeal := hOutFwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_Wgrad_WgradIdeal
    ∧ algebraic_WgradIdeal_WgradRefIdeal (hWgradIdeal := hWgradIdeal) (hWgradRefIdeal := hWgradRefIdeal)
    ∧ preserves_AdamW_AdamWIdeal
    ∧ algebraic_AdamWIdeal_AdamWRefIdeal (hAdamWIdeal := hAdamWIdeal) (hAdamWRefIdeal := hAdamWRefIdeal)
-- ==== Pre_attn_fwd_finite.lean ====
abbrev S4096x1536 : Shape := ⟨2, ![4096, 1536]⟩
abbrev S4096x1024 : Shape := ⟨2, ![4096, 1024]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)

variable [Facts]

def fn {F : FTy → Type} [FloatOps F] (main_arg0 : FVec F S4096x1536 .bf16) (main_arg1 : FVec F S4096x1024 .bf16) : IVec S4096x1536 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  main_v3
-- ==== Pre_ffn_finite.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S4096x1024 .f32) (main_arg1 : FVec F S4096x1024 .f32) (main_arg2 : FVec F S1x1024 .f32) (main_arg3 : FVec F S1x1024x5632 .f32) (main_arg4 : FVec F S1x2816x1024 .f32) : IVec S4096x1024 1 × IVec S4096x1024 1 × IVec S1x1024 1 × IVec S1x1024x5632 1 × IVec S1x2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5632 .f32 := Host.absf main_arg3
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  (main_v2, main_v5, main_v8, main_v11, main_v14)
-- ==== Pre_gmlp_finite.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S_ : Shape := ⟨0, ![]⟩
abbrev S4096x512 : Shape := ⟨2, ![4096, 512]⟩

class Facts : Prop where
  bcast_S_S4096x1024 : S_.BroadcastsInDim S4096x1024 (![] : Fin 0 → Fin S4096x1024.rank)
  slices_S4096x1024_S4096x512_0_0 : S4096x1024.Slices ![0, 0] S4096x512
  bitsLt_bf16_f32 : FTy.bits .bf16 < FTy.bits .f32
  bcast_S_S4096x512 : S_.BroadcastsInDim S4096x512 (![] : Fin 0 → Fin S4096x512.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)

variable [Facts]

def fn {F : FTy → Type} [FloatOps F] (main_arg0 : FVec F S4096x1024 .f32) (main_arg1 : FVec F S4096x1024 .bf16) (main_arg2 : FVec F S1x512 .f32) (main_arg3 : FVec F S1x4x128x128 .f32) (main_arg4 : FVec F S1x4x128 .f32) : IVec S4096x1024 1 × IVec S4096x512 1 × IVec S1x512 1 × IVec S1x4x128x128 1 × IVec S1x4x128 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .bf16 := (extractStridedSlice S4096x512 ![0, 0] · slices_S4096x1024_S4096x512_0_0) main_arg1
  let main_v4 : FVec F S4096x512 .f32 := (extf .f32 · bitsLt_bf16_f32) main_v3
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S1x512 .f32 := Host.absf main_arg2
  let main_cst_1 : FVec F S_ .f32 := constant S_ .f32 0x7F800000#32
  let main_v9 : FVec F S1x512 .f32 := broadcastInDim S1x512 ![] bcast_S_S1x512 main_cst_1
  let main_v10 : IVec S1x512 1 := cmpf .olt main_v8 main_v9
  let main_v11 : FVec F S1x4x128x128 .f32 := Host.absf main_arg3
  let main_cst_2 : FVec F S_ .f32 := constant S_ .f32 0x7F800000#32
  let main_v12 : FVec F S1x4x128x128 .f32 := broadcastInDim S1x4x128x128 ![] bcast_S_S1x4x128x128 main_cst_2
  let main_v13 : IVec S1x4x128x128 1 := cmpf .olt main_v11 main_v12
  let main_v14 : FVec F S1x4x128 .f32 := Host.absf main_arg4
  let main_cst_3 : FVec F S_ .f32 := constant S_ .f32 0x7F800000#32
  let main_v15 : FVec F S1x4x128 .f32 := broadcastInDim S1x4x128 ![] bcast_S_S1x4x128 main_cst_3
  let main_v16 : IVec S1x4x128 1 := cmpf .olt main_v14 main_v15
  (main_v2, main_v7, main_v10, main_v13, main_v16)
-- ==== MixBwd.lean ====
abbrev S4096x1024 : Shape := ⟨2, ![4096, 1024]⟩
abbrev S4096x2560 : Shape := ⟨2, ![4096, 2560]⟩
abbrev S1x1024x2560 : Shape := ⟨3, ![1, 1024, 2560]⟩
abbrev S1x1024 : Shape := ⟨2, ![1, 1024]⟩
abbrev S1024x2560 : Shape := ⟨2, ![1024, 2560]⟩
abbrev S1024x4x640 : Shape := ⟨3, ![1024, 4, 640]⟩
abbrev S4x1024x640 : Shape := ⟨3, ![4, 1024, 640]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S512x640 : Shape := ⟨2, ![512, 640]⟩
abbrev S1x1024x640 : Shape := ⟨3, ![1, 1024, 640]⟩
abbrev S1024x640 : Shape := ⟨2, ![1024, 640]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2560, .bf16⟩
  | .hbm, ⟨2, _⟩ => ⟨S1x1024x2560, .f32⟩
  | .hbm, ⟨3, _⟩ => ⟨S4096x1024, .f32⟩
  | .hbm, ⟨4, _⟩ => ⟨S1x1024, .f32⟩
  | .hbm, ⟨5, _⟩ => ⟨S1024x2560, .f32⟩
  | .hbm, ⟨6, _⟩ => ⟨S1024x2560, .bf16⟩
  | .hbm, ⟨7, _⟩ => ⟨S1024x4x640, .bf16⟩
  | .hbm, ⟨8, _⟩ => ⟨S4x1024x640, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2560, .bf16⟩
  | .local _ .vmem, ⟨3, _⟩ => ⟨S512x2560, .bf16⟩
  | .local _ .vmem, ⟨4, _⟩ => ⟨S4x1024x640, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixRefIdeal.lean ====
abbrev S4096x1024 : Shape := ⟨2, ![4096, 1024]⟩
abbrev S4096x2560 : Shape := ⟨2, ![4096, 2560]⟩
abbrev S1x1024x2560 : Shape := ⟨3, ![1, 1024, 2560]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2560 : Shape := ⟨2, ![1024, 2560]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .bf16⟩
  | .hbm, ⟨2, _⟩ => ⟨S1x1024x2560, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1024x2560, .f32⟩
  | .hbm, ⟨44, _⟩ => ⟨S4096x2560, .f32⟩
  | .hbm, ⟨45, _⟩ => ⟨S4096x2560, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x1024, .f32⟩
  | .hbm, ⟨74, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== GmlpBwd.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S512x128 : Shape := ⟨2, ![512, 128]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x512, .f32⟩
  | .hbm, ⟨3, _⟩ => ⟨S1x4x128x128, .f32⟩
  | .hbm, ⟨4, _⟩ => ⟨S1x4x128, .f32⟩
  | .hbm, ⟨5, _⟩ => ⟨S4x128x128, .f32⟩
  | .hbm, ⟨6, _⟩ => ⟨S4x128, .f32⟩
  | .hbm, ⟨7, _⟩ => ⟨S128x4, .f32⟩
  | .hbm, ⟨8, _⟩ => ⟨S4096x1024, .bf16⟩
  | .hbm, ⟨9, _⟩ => ⟨S4x128x128, .f32⟩
  | .hbm, ⟨10, _⟩ => ⟨S128x4, .f32⟩
  | .hbm, ⟨11, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S512x1024, .bf16⟩
  | .local _ .vmem, ⟨8, _⟩ => ⟨S512x1024, .bf16⟩
  | .local _ .vmem, ⟨9, _⟩ => ⟨S4x128x128, .f32⟩
  | .local _ .vmem, ⟨10, _⟩ => ⟨S128x4, .f32⟩
  | .local _ .vmem, ⟨11, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GmlpBwdIdeal.lean ====
variable {F : FTy → Type} [FloatOps F] [Named F]
def κ : String → Option EReal := fun
  | "density" => some (((9465531 / 16777216) * (Real.sqrt 2)⁻¹ : ℝ) : EReal)
  | "sqrt_half" => some (((Real.sqrt 2)⁻¹ : ℝ) : EReal)
  | _ => none
-- ==== GmlpRefIdeal.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S1x4096x512 : Shape := ⟨3, ![1, 4096, 512]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S4096x512 : Shape := ⟨2, ![4096, 512]⟩
abbrev S1x128x4 : Shape := ⟨3, ![1, 128, 4]⟩
abbrev S4096 : Shape := ⟨1, ![4096]⟩

abbrev nBuf : Space → Nat
  | .hbm => 169
  | .vmem => 0
  | .smem => 0
  | _ => 0

abbrev hbmTy0_0 (i : Nat) : BufTy := match i % 128 with
  | 0 => ⟨S4096x1024, .f32⟩
  | 1 => ⟨S4096x1024, .bf16⟩
  | 2 => ⟨S1x512, .f32⟩
  | 3 => ⟨S1x4x128x128, .f32⟩
  | 4 => ⟨S1x4x128, .f32⟩
  | 5 => ⟨S1x4096x1024, .f32⟩
  | 6 => ⟨S1x4096x512, .f32⟩
  | 7 => ⟨S1x4096x512, .f32⟩
  | 8 => ⟨S_, .f32⟩
  | 9 => ⟨S1x4096x512, .f32⟩
  | 10 => ⟨S1x4096x512, .f32⟩
  | 11 => ⟨S_, .f32⟩
  | 12 => ⟨S_, .f32⟩
  | 13 => ⟨S1x4096x512, .f32⟩
  | 14 => ⟨S1x4096x512, .f32⟩
  | 15 => ⟨S1x4096x512, .f32⟩
  | 16 => ⟨S1x4096x512, .f32⟩
  | 17 => ⟨S1x4096x512, .f32⟩
  | 18 => ⟨S1x4096x512, .f32⟩
  | 19 => ⟨S_, .f32⟩
  | 20 => ⟨S1x4096x512, .f32⟩
  | 21 => ⟨S1x4096x512, .f32⟩
  | 22 => ⟨S1x4096x512, .f32⟩
  | 23 => ⟨S_, .f32⟩
  | 24 => ⟨S1x4096x512, .f32⟩
  | 25 => ⟨S1x4096x512, .f32⟩
  | 26 => ⟨S_, .f32⟩
  | 27 => ⟨S_, .f32⟩
  | 28 => ⟨S1x4096x512, .f32⟩
  | 29 => ⟨S1x4096x512, .f32⟩
  | 30 => ⟨S1x4096x512, .f32⟩
  | 31 => ⟨S1x4096x512, .f32⟩
  | 32 => ⟨S1x4096x512, .f32⟩
  | 33 => ⟨S1x4096x512, .f32⟩
  | 34 => ⟨S_, .f32⟩
  | 35 => ⟨S1x4096x512, .f32⟩
  | 36 => ⟨S1x4096x512, .f32⟩
  | 37 => ⟨S1x4096x512, .f32⟩
  | 38 => ⟨S512, .f32⟩
  | 39 => ⟨S4x128x128, .f32⟩
  | 40 => ⟨S4x128, .f32⟩
  | 41 => ⟨S1x4096x512, .f32⟩
  | 42 => ⟨S_, .f32⟩
  | 43 => ⟨S1x4096, .f32⟩
  | 44 => ⟨S1x4096x1, .f32⟩
  | 45 => ⟨S_, .f32⟩
  | 46 => ⟨S1x4096x1, .f32⟩
  | 47 => ⟨S1x4096x1, .f32⟩
  | 48 => ⟨S_, .f32⟩
  | 49 => ⟨S1x4096x1, .f32⟩
  | 50 => ⟨S1x4096x1, .f32⟩
  | 51 => ⟨S1x4096x1, .f32⟩
  | 52 => ⟨S1x4096x1, .f32⟩
  | 53 => ⟨S_, .f32⟩
  | 54 => ⟨S1x4096x1, .f32⟩
  | 55 => ⟨S1x4096x1, .f32⟩
  | 56 => ⟨S1x4096x512, .f32⟩
  | 57 => ⟨S1x4096x512, .f32⟩
  | 58 => ⟨S1x1x512, .f32⟩
  | 59 => ⟨S1x4096x512, .f32⟩
  | 60 => ⟨S1x4096x512, .f32⟩
  | 61 => ⟨S1x32x128x4x128, .f32⟩
  | 62 => ⟨S_, .i1⟩
  | 63 => ⟨S128x128, .i1⟩
  | 64 => ⟨S128x128, .i32⟩
  | 65 => ⟨S_, .i32⟩
  | 66 => ⟨S128x128, .i32⟩
  | 67 => ⟨S128x128, .i32⟩
  | 68 => ⟨S128x128, .i32⟩
  | 69 => ⟨S128x128, .i1⟩
  | 70 => ⟨S_, .i1⟩
  | 71 => ⟨S128x128, .i1⟩
  | 72 => ⟨S128x128, .i1⟩
  | 73 => ⟨S1x128x128, .i1⟩
  | 74 => ⟨S_, .f32⟩
  | 75 => ⟨S4x128x128, .f32⟩
  | 76 => ⟨S4x128x128, .i1⟩
  | 77 => ⟨S4x128x128, .f32⟩
  | 78 => ⟨S_, .f32⟩
  | 79 => ⟨S4x128x128, .f32⟩
  | 80 => ⟨S4x1x32x128x128, .f32⟩
  | 81 => ⟨S1x32x128x4x128, .f32⟩
  | 82 => ⟨S128x4, .f32⟩
  | 83 => ⟨S1x1x128x4x1, .f32⟩
  | 84 => ⟨S1x32x128x4x128, .f32⟩
  | 85 => ⟨S1x32x128x4x128, .f32⟩
  | 86 => ⟨S1x4096x512, .f32⟩
  | 87 => ⟨S1x4096x512, .f32⟩
  | 88 => ⟨S4096x512, .f32⟩
  | 89 => ⟨S4096x512, .bf16⟩
  | 90 => ⟨S4096x512, .f32⟩
  | 91 => ⟨S1x4096x512, .f32⟩
  | 92 => ⟨S1x4096x512, .f32⟩
  | 93 => ⟨S1x4096x512, .f32⟩
  | 94 => ⟨S1x32x128x4x128, .f32⟩
  | 95 => ⟨S_, .f32⟩
  | 96 => ⟨S1x128x4, .f32⟩
  | 97 => ⟨S1x1x128x4x1, .f32⟩
  | 98 => ⟨S_, .f32⟩
  | 99 => ⟨S128x4, .f32⟩
  | 100 => ⟨S4x128, .f32⟩
  | 101 => ⟨S4x1x32x128x128, .f32⟩
  | 102 => ⟨S4x128x128, .f32⟩
  | 103 => ⟨S4x1x32x128x128, .f32⟩
  | 104 => ⟨S1x32x128x4x128, .f32⟩
  | 105 => ⟨S_, .f32⟩
  | 106 => ⟨S4x128x128, .f32⟩
  | 107 => ⟨S4x128x128, .f32⟩
  | 108 => ⟨S1x4096x512, .f32⟩
  | 109 => ⟨S1x4096x512, .f32⟩
  | 110 => ⟨S_, .f32⟩
  | 111 => ⟨S1x512, .f32⟩
  | 112 => ⟨S1x1x512, .f32⟩
  | 113 => ⟨S1x4096x512, .f32⟩
  | 114 => ⟨S1x4096x512, .f32⟩
  | 115 => ⟨S_, .f32⟩
  | 116 => ⟨S512, .f32⟩
  | 117 => ⟨S1x4096x512, .f32⟩
  | 118 => ⟨S_, .f32⟩
  | 119 => ⟨S1x4096, .f32⟩
  | 120 => ⟨S1x4096x1, .f32⟩
  | 121 => ⟨S1x4096x512, .f32⟩
  | 122 => ⟨S1x4096x512, .f32⟩
  | 123 => ⟨S1x4096x1, .f32⟩
  | 124 => ⟨S_, .f32⟩
  | 125 => ⟨S1x4096x1, .f32⟩
  | 126 => ⟨S1x4096x1, .f32⟩
  | 127 => ⟨S_, .f32⟩
  | _ => ⟨S4096x1024, .f32⟩

abbrev hbmTy0_1 (i : Nat) : BufTy := match i % 128 with
  | 0 => ⟨S4096, .f32⟩
  | 1 => ⟨S1x4096, .f32⟩
  | 2 => ⟨S1x4096x512, .f32⟩
  | 3 => ⟨S1x4096x512, .f32⟩
  | 4 => ⟨S1x4096x512, .f32⟩
  | 5 => ⟨S1x4096x512, .f32⟩
  | 6 => ⟨S1x4096x512, .f32⟩
  | 7 => ⟨S1x4x128, .f32⟩
  | 8 => ⟨S1x4x128x128, .f32⟩
  | 9 => ⟨S1x512, .f32⟩
  | 10 => ⟨S1x4096x512, .f32⟩
  | 11 => ⟨S1x4096x512, .f32⟩
  | 12 => ⟨S_, .f32⟩
  | 13 => ⟨S1x4096x512, .f32⟩
  | 14 => ⟨S1x4096x512, .f32⟩
  | 15 => ⟨S1x4096x512, .f32⟩
  | 16 => ⟨S1x4096x512, .f32⟩
  | 17 => ⟨S1x4096x512, .f32⟩
  | 18 => ⟨S_, .f32⟩
  | 19 => ⟨S1x4096x512, .f32⟩
  | 20 => ⟨S1x4096x512, .f32⟩
  | 21 => ⟨S1x4096x512, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S1x4096x512, .f32⟩
  | 28 => ⟨S1x4096x512, .f32⟩
  | 29 => ⟨S1x4096x512, .f32⟩
  | 30 => ⟨S_, .f32⟩
  | 31 => ⟨S1x4096x512, .f32⟩
  | 32 => ⟨S1x4096x512, .f32⟩
  | 33 => ⟨S1x4096x512, .f32⟩
  | 34 => ⟨S1x4096x1024, .f32⟩
  | 35 => ⟨S_, .f32⟩
  | 36 => ⟨S4096x1024, .f32⟩
  | 37 => ⟨S4096x1024, .bf16⟩
  | 38 => ⟨S4x128x128, .f32⟩
  | 39 => ⟨S4x128, .f32⟩
  | 40 => ⟨S128x4, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_v47 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51_1 : Ref sig .tc := ⟨.hbm, 76, rfl⟩
abbrev main_v51_0 : Ref sig .tc := ⟨.hbm, 77, rfl⟩
abbrev main_call1_cst : Ref sig .tc := ⟨.hbm, 78, rfl⟩
abbrev main_v51_2 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_10 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_cst : Ref sig .tc := ⟨.hbm, 105, rfl⟩
abbrev main_call2_v0 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_12 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_13 : Ref sig .tc := ⟨.hbm, 115, rfl⟩
abbrev main_v82 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_v89 : Ref sig .tc := ⟨.hbm, 125, rfl⟩
abbrev main_v90 : Ref sig .tc := ⟨.hbm, 126, rfl⟩
abbrev main_cst_16 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_17 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_18 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_19 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_20 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_21 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩

abbrev nD : Nat := 1
abbrev τ : Topo := Topo.v7x

variable {F : FTy → Type} [FloatOps F]
-- ==== FfnBwd.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S4096x5632 : Shape := ⟨2, ![4096, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1408x1024 : Shape := ⟨2, ![1408, 1024]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S256x1408 : Shape := ⟨2, ![256, 1408]⟩
abbrev S1024 : Shape := ⟨1, ![1024]⟩

abbrev nBuf : Space → Nat
  | .hbm => 19
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024x5632, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S2816x1024, .f32⟩
  | .hbm, ⟨10, _⟩ => ⟨S2816x1024, .bf16⟩
  | .hbm, ⟨11, _⟩ => ⟨S4096x1024, .f32⟩
  | .hbm, ⟨12, _⟩ => ⟨S4096x5632, .bf16⟩
  | .hbm, ⟨13, _⟩ => ⟨S4096x1024, .f32⟩
  | .hbm, ⟨14, _⟩ => ⟨S4096x5632, .bf16⟩
  | .hbm, ⟨15, _⟩ => ⟨S4096x1024, .bf16⟩
  | .hbm, ⟨16, _⟩ => ⟨S4096x2816, .bf16⟩
  | .hbm, ⟨17, _⟩ => ⟨S4096x1024, .bf16⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x5632, .bf16⟩
  | .local _ .vmem, ⟨8, _⟩ => ⟨S512x5632, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x5632, .bf16⟩
  | .local _ .vmem, ⟨15, _⟩ => ⟨S256x5632, .bf16⟩
  | .local _ .vmem, ⟨16, _⟩ => ⟨S4x1024x1408, .bf16⟩
  | .local _ .vmem, ⟨17, _⟩ => ⟨S2816x1024, .bf16⟩
  | .local _ .vmem, ⟨18, _⟩ => ⟨S256x1024, .f32⟩
  | .local _ .vmem, ⟨19, _⟩ => ⟨S256x1024, .f32⟩
  | .local _ .vmem, ⟨20, _⟩ => ⟨S256x5632, .bf16⟩
  | .local _ .vmem, ⟨21, _⟩ => ⟨S256x5632, .bf16⟩
  | .local _ .vmem, ⟨22, _⟩ => ⟨S256x1024, .bf16⟩
  | .local _ .vmem, ⟨23, _⟩ => ⟨S256x1024, .bf16⟩
  | .local _ .vmem, ⟨24, _⟩ => ⟨S256x2816, .bf16⟩
  | .local _ .vmem, ⟨25, _⟩ => ⟨S256x2816, .bf16⟩
  | .local _ .vmem, ⟨26, _⟩ => ⟨S256x1024, .bf16⟩
  | .local _ .vmem, ⟨27, _⟩ => ⟨S256x1024, .bf16⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x1024x1408 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x5632 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== FfnRefIdeal.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S2816x1024 : Shape := ⟨2, ![2816, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x5632, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S2816x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S1024x5632, .f32⟩
  | .hbm, ⟨75, _⟩ => ⟨S4096x5632, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S1x1024, .f32⟩
  | .hbm, ⟨104, _⟩ => ⟨S_, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x5632, .bf16⟩
  | .hbm, ⟨109, _⟩ => ⟨S4096x1024, .bf16⟩
  | .hbm, ⟨110, _⟩ => ⟨S4096x2816, .bf16⟩
  | .hbm, ⟨111, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Head.lean ====
abbrev S4096x1024 : Shape := ⟨2, ![4096, 1024]⟩
abbrev S4096x256 : Shape := ⟨2, ![4096, 256]⟩
abbrev S1x1024 : Shape := ⟨2, ![1, 1024]⟩
abbrev S1024 : Shape := ⟨1, ![1024]⟩
abbrev S1x1024x1024 : Shape := ⟨3, ![1, 1024, 1024]⟩
abbrev S1x256x1024 : Shape := ⟨3, ![1, 256, 1024]⟩
abbrev S256x1024 : Shape := ⟨2, ![256, 1024]⟩
abbrev S256x4x256 : Shape := ⟨3, ![256, 4, 256]⟩
abbrev S4x256x256 : Shape := ⟨3, ![4, 256, 256]⟩
abbrev S1024x1024 : Shape := ⟨2, ![1024, 1024]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 22
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S1x1024x1024, .f32⟩
  | .hbm, ⟨6, _⟩ => ⟨S1x256x1024, .f32⟩
  | .hbm, ⟨7, _⟩ => ⟨S256x1024, .f32⟩
  | .hbm, ⟨8, _⟩ => ⟨S256x1024, .bf16⟩
  | .hbm, ⟨9, _⟩ => ⟨S256x4x256, .bf16⟩
  | .hbm, ⟨10, _⟩ => ⟨S4x256x256, .bf16⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1x128, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x256, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S4x256x256, .bf16⟩
  | .local _ .vmem, ⟨10, _⟩ => ⟨S1x128, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x256, .bf16⟩
  | .local _ .vmem, ⟨22, _⟩ => ⟨S512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== HeadRefIdeal.lean ====
abbrev S4096x1024 : Shape := ⟨2, ![4096, 1024]⟩
abbrev S4096x256 : Shape := ⟨2, ![4096, 256]⟩
abbrev S1x1024 : Shape := ⟨2, ![1, 1024]⟩
abbrev S1024 : Shape := ⟨1, ![1024]⟩
abbrev S1x1024x1024 : Shape := ⟨3, ![1, 1024, 1024]⟩
abbrev S1x256x1024 : Shape := ⟨3, ![1, 256, 1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S256x1024 : Shape := ⟨2, ![256, 1024]⟩
abbrev S1x1 : Shape := ⟨2, ![1, 1]⟩
abbrev S1x128 : Shape := ⟨2, ![1, 128]⟩

abbrev nBuf : Space → Nat
  | .hbm => 169
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1x1024, .f32⟩
  | 4 => ⟨S1024, .f32⟩
  | 5 => ⟨S1x1024x1024, .f32⟩
  | 6 => ⟨S1x256x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S1024x1024, .f32⟩
  | 46 => ⟨S4096x1024, .f32⟩
  | 47 => ⟨S256x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1024, .f32⟩
  | 79 => ⟨S4096x1024, .f32⟩
  | 80 => ⟨S1x1024, .f32⟩
  | 81 => ⟨S4096x1024, .f32⟩
  | 82 => ⟨S4096x1024, .f32⟩
  | 83 => ⟨S4096x1024, .f32⟩
  | 84 => ⟨S4096x1024, .f32⟩
  | 85 => ⟨S_, .f32⟩
  | 86 => ⟨S4096x1024, .f32⟩
  | 87 => ⟨S4096x1024, .f32⟩
  | 88 => ⟨S_, .f32⟩
  | 89 => ⟨S4096, .f32⟩
  | 90 => ⟨S_, .f32⟩
  | 91 => ⟨S4096, .f32⟩
  | 92 => ⟨S4096, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S4096, .f32⟩
  | 101 => ⟨S_, .f32⟩
  | 102 => ⟨S4096, .f32⟩
  | 103 => ⟨S4096, .f32⟩
  | 104 => ⟨S4096x1024, .f32⟩
  | 105 => ⟨S4096x1024, .f32⟩
  | 106 => ⟨S4096x1024, .f32⟩
  | 107 => ⟨S_, .f32⟩
  | 108 => ⟨S1024, .f32⟩
  | 109 => ⟨S1x1024, .f32⟩
  | 110 => ⟨S4096x1024, .f32⟩
  | 111 => ⟨S4096x1024, .f32⟩
  | 112 => ⟨S_, .f32⟩
  | 113 => ⟨S1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1024, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S4096x1024, .f32⟩
  | 12 => ⟨S4096x1024, .f32⟩
  | 13 => ⟨S_, .f32⟩
  | 14 => ⟨S1024, .f32⟩
  | 15 => ⟨S4096x1024, .f32⟩
  | 16 => ⟨S_, .f32⟩
  | 17 => ⟨S4096, .f32⟩
  | 18 => ⟨S4096x1, .f32⟩
  | 19 => ⟨S4096x1024, .f32⟩
  | 20 => ⟨S4096x1024, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S1x1024, .f32⟩
  | 33 => ⟨S1x1, .f32⟩
  | 34 => ⟨S1x128, .f32⟩
  | 35 => ⟨S1x1024, .f32⟩
  | 36 => ⟨S4096x1024, .f32⟩
  | 37 => ⟨S4096x1024, .bf16⟩
  | 38 => ⟨S4096x1024, .bf16⟩
  | 39 => ⟨S4096x1024, .bf16⟩
  | 40 => ⟨S4096x256, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_cst_18 : Ref sig .tc := ⟨.hbm, 97, rfl⟩
abbrev main_cst_19 : Ref sig .tc := ⟨.hbm, 98, rfl⟩
abbrev main_v71 : Ref sig .tc := ⟨.hbm, 99, rfl⟩
abbrev main_v72 : Ref sig .tc := ⟨.hbm, 100, rfl⟩
abbrev main_cst_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_21 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_22 : Ref sig .tc := ⟨.hbm, 112, rfl⟩
abbrev main_v82 : Ref sig .tc := ⟨.hbm, 113, rfl⟩
abbrev main_v83 : Ref sig .tc := ⟨.hbm, 114, rfl⟩
abbrev main_cst_23 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_24 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_26 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_27 : Ref sig .tc := ⟨.hbm, 141, rfl⟩
abbrev main_v106 : Ref sig .tc := ⟨.hbm, 142, rfl⟩
abbrev main_v107 : Ref sig .tc := ⟨.hbm, 143, rfl⟩
abbrev main_cst_28 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_29 : Ref sig .tc := ⟨.hbm, 150, rfl⟩
abbrev main_v113 : Ref sig .tc := ⟨.hbm, 151, rfl⟩
abbrev main_v114 : Ref sig .tc := ⟨.hbm, 152, rfl⟩
abbrev main_cst_30 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩

abbrev nD : Nat := 1
abbrev τ : Topo := Topo.v7x

variable {F : FTy → Type} [FloatOps F]
-- ==== AttnBwd.lean ====
abbrev S4096x1536 : Shape := ⟨2, ![4096, 1536]⟩
abbrev S4096x1024 : Shape := ⟨2, ![4096, 1024]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096x32x128 : Shape := ⟨4, ![8, 4096, 32, 128]⟩
abbrev S8x4096x32 : Shape := ⟨3, ![8, 4096, 32]⟩
abbrev S4x2x4096x32 : Shape := ⟨4, ![4, 2, 4096, 32]⟩
abbrev S4x4096x2x32 : Shape := ⟨4, ![4, 4096, 2, 32]⟩
abbrev S4x4096x64 : Shape := ⟨3, ![4, 4096, 64]⟩
abbrev S4x4096x128 : Shape := ⟨3, ![4, 4096, 128]⟩
abbrev S512x128 : Shape := ⟨2, ![512, 128]⟩
abbrev S4096x128 : Shape := ⟨2, ![4096, 128]⟩
abbrev S1x512x128 : Shape := ⟨3, ![1, 512, 128]⟩
abbrev S8192x128 : Shape := ⟨2, ![8192, 128]⟩
abbrev S512x256 : Shape := ⟨2, ![512, 256]⟩
abbrev S512x512 : Shape := ⟨2, ![512, 512]⟩
abbrev S1x128 : Shape := ⟨2, ![1, 128]⟩
abbrev S256x256 : Shape := ⟨2, ![256, 256]⟩
abbrev S1x256 : Shape := ⟨2, ![1, 256]⟩
abbrev S128x128 : Shape := ⟨2, ![128, 128]⟩
abbrev S512 : Shape := ⟨1, ![512]⟩
abbrev S512x1 : Shape := ⟨2, ![512, 1]⟩
abbrev S256x128 : Shape := ⟨2, ![256, 128]⟩
abbrev S256x512 : Shape := ⟨2, ![256, 512]⟩
abbrev S1x256x128 : Shape := ⟨3, ![1, 256, 128]⟩
abbrev S256 : Shape := ⟨1, ![256]⟩
abbrev S256x1 : Shape := ⟨2, ![256, 1]⟩

abbrev nBuf : Space → Nat
  | .hbm => 62
  | .vmem => 30
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .f32⟩
  | .hbm, ⟨6, _⟩ => ⟨S4096x8x64, .f32⟩
  | .hbm, ⟨7, _⟩ => ⟨S4096x512, .f32⟩
  | .hbm, ⟨8, _⟩ => ⟨S4096x8x64, .f32⟩
  | .hbm, ⟨9, _⟩ => ⟨S4096x512, .f32⟩
  | .hbm, ⟨10, _⟩ => ⟨S4096x8x64, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x1x4096, .i32⟩
  | .hbm, ⟨17, _⟩ => ⟨S4096, .i32⟩
  | .hbm, ⟨18, _⟩ => ⟨S1x4096x1, .i32⟩
  | .hbm, ⟨19, _⟩ => ⟨S1x4096x4096, .i32⟩
  | .hbm, ⟨20, _⟩ => ⟨S1x4096x4096, .i32⟩
  | .hbm, ⟨21, _⟩ => ⟨S1x4096x4096, .i1⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S_, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S8x4096x32x128, .f32⟩
  | .hbm, ⟨42, _⟩ => ⟨S_, .f32⟩
  | .hbm, ⟨43, _⟩ => ⟨S8x4096x32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x4096x32, .f32⟩
  | .hbm, ⟨48, _⟩ => ⟨S8x4096x32, .f32⟩
  | .hbm, ⟨49, _⟩ => ⟨S_, .f32⟩
  | .hbm, ⟨50, _⟩ => ⟨S_, .f32⟩
  | .hbm, ⟨51, _⟩ => ⟨S8x4096x32, .f32⟩
  | .hbm, ⟨52, _⟩ => ⟨S8x4096x32, .f32⟩
  | .hbm, ⟨53, _⟩ => ⟨S4x2x4096x32, .f32⟩
  | .hbm, ⟨54, _⟩ => ⟨S4x4096x2x32, .f32⟩
  | .hbm, ⟨55, _⟩ => ⟨S4x4096x64, .f32⟩
  | .hbm, ⟨56, _⟩ => ⟨S_, .i32⟩
  | .hbm, ⟨57, _⟩ => ⟨S_, .f32⟩
  | .hbm, ⟨58, _⟩ => ⟨S4x4096x128, .f32⟩
  | .hbm, ⟨59, _⟩ => ⟨S4096x512, .bf16⟩
  | .hbm, ⟨60, _⟩ => ⟨S4096x512, .bf16⟩
  | .hbm, ⟨61, _⟩ => ⟨S4096x512, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S8192x128, .bf16⟩
  | .local _ .vmem, ⟨17, _⟩ => ⟨S8192x128, .bf16⟩
  | .local _ .vmem, ⟨18, _⟩ => ⟨S4096x128, .f32⟩
  | .local _ .vmem, ⟨19, _⟩ => ⟨S4096x128, .f32⟩
  | .local _ .vmem, ⟨20, _⟩ => ⟨S512x128, .f32⟩
  | .local _ .vmem, ⟨21, _⟩ => ⟨S512x256, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v19 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call2_cst : Ref sig .tc := ⟨.hbm, 49, rfl⟩
abbrev main_call2_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c : Ref sig .tc := ⟨.hbm, 56, rfl⟩
abbrev main_call3_v0 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v33_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_scratch13 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v42 : BitVec 1 := Scalar.cmpi .eq arg1 c0_i32
  let v43 : BitVec 32 := Scalar.extui v42
  let c0_i32_9 : BitVec 32 := 0#32
  let v44 : BitVec 1 := Scalar.cmpi .ne v43 c0_i32_9
  v44

@[reducible] def k0_t1_loop : Scf.Loop 32 :=
  let c0_i32_216 : BitVec 32 := 0#32
  let c32_i32_217 : BitVec 32 := 32#32
  let v550 : BitVec 32 := Scalar.addi c0_i32_216 c32_i32_217
  let c1_i32_218 : BitVec 32 := 1#32
  ⟨c0_i32_216, v550, c1_i32_218⟩
def k0_mult1 (k0_t1 : Fin k0_t1_loop.trips) : BitVec 32 :=
  let c0_i32_216 : BitVec 32 := 0#32
  let c1_i32_218 : BitVec 32 := 1#32
  let arg24 : BitVec 32 := Scf.iv c0_i32_216 c1_i32_218 k0_t1
  let c128_i32_226 : BitVec 32 := 128#32
  let v559 : BitVec 32 := Scalar.muli arg24 c128_i32_226
  v559
def k0_mult2 (k0_t1 : Fin k0_t1_loop.trips) : BitVec 32 :=
  let c0_i32_216 : BitVec 32 := 0#32
  let c1_i32_218 : BitVec 32 := 1#32
  let arg24 : BitVec 32 := Scf.iv c0_i32_216 c1_i32_218 k0_t1
  let c2_i32_227 : BitVec 32 := 2#32
  let v561 : BitVec 32 := Scalar.muli arg24 c2_i32_227
  let c128_i32_228 : BitVec 32 := 128#32
  let v562 : BitVec 32 := Scalar.muli v561 c128_i32_228
  v562
def k0_mult3 (k0_t1 : Fin k0_t1_loop.trips) : BitVec 32 :=
  let c0_i32_216 : BitVec 32 := 0#32
  let c1_i32_218 : BitVec 32 := 1#32
  let arg24 : BitVec 32 := Scf.iv c0_i32_216 c1_i32_218 k0_t1
  let c2_i32_229 : BitVec 32 := 2#32
  let v564 : BitVec 32 := Scalar.muli arg24 c2_i32_229
  let c128_i32_230 : BitVec 32 := 128#32
  let v565 : BitVec 32 := Scalar.muli v564 c128_i32_230
  let c128_i32_231 : BitVec 32 := 128#32
  let v566 : BitVec 32 := Scalar.addi v565 c128_i32_231
  v566
def k0_off1 (k0_t1 : Fin k0_t1_loop.trips) : Fin 2 → Nat :=
  let c0_i32_216 : BitVec 32 := 0#32
  let c1_i32_218 : BitVec 32 := 1#32
  let arg24 : BitVec 32 := Scf.iv c0_i32_216 c1_i32_218 k0_t1
  let c128_i32_226 : BitVec 32 := 128#32
  let v559 : BitVec 32 := Scalar.muli arg24 c128_i32_226
  let v560 : BitVec 32 := v559
  let v568 : Index := Scalar.indexCast v560
  let c0_232 : Index := 0#32
  ![v568.toNat, 0]
def k0_off2 (k0_t1 : Fin k0_t1_loop.trips) : Fin 2 → Nat :=
  let c0_i32_216 : BitVec 32 := 0#32
  let c1_i32_218 : BitVec 32 := 1#32
  let arg24 : BitVec 32 := Scf.iv c0_i32_216 c1_i32_218 k0_t1
  let c2_i32_227 : BitVec 32 := 2#32
  let v561 : BitVec 32 := Scalar.muli arg24 c2_i32_227
  let c128_i32_228 : BitVec 32 := 128#32
  let v562 : BitVec 32 := Scalar.muli v561 c128_i32_228
  let v563 : BitVec 32 := v562
  let v576 : Index := Scalar.indexCast v563
  let c0_235 : Index := 0#32
  ![v576.toNat, 0]
def k0_off3 (k0_t1 : Fin k0_t1_loop.trips) : Fin 2 → Nat :=
  let c0_i32_216 : BitVec 32 := 0#32
  let c1_i32_218 : BitVec 32 := 1#32
  let arg24 : BitVec 32 := Scf.iv c0_i32_216 c1_i32_218 k0_t1
  let c2_i32_229 : BitVec 32 := 2#32
  let v564 : BitVec 32 := Scalar.muli arg24 c2_i32_229
  let c128_i32_230 : BitVec 32 := 128#32
  let v565 : BitVec 32 := Scalar.muli v564 c128_i32_230
  let c128_i32_231 : BitVec 32 := 128#32
  let v566 : BitVec 32 := Scalar.addi v565 c128_i32_231
  let v567 : BitVec 32 := v566
  let v583 : Index := Scalar.indexCast v567
  let c0_236 : Index := 0#32
  ![v583.toNat, 0]
def k0_cond2 (i : grid0.Coords) : BitVec 1 :=
  let arg1 : BitVec 32 := BitVec.ofNat 32 (i 1).val
  let c0_i32_23 : BitVec 32 := 0#32
  let v64 : BitVec 1 := Scalar.cmpi .sgt arg1 c0_i32_23
  let v65 : BitVec 32 := Scalar.extui v64
  let c0_i32_24 : BitVec 32 := 0#32
  let v66 : BitVec 1 := Scalar.cmpi .ne v65 c0_i32_24
  v66

def k0_mult4 : BitVec 32 :=
  let c0_i32_215 : BitVec 32 := 0#32
  c0_i32_215
def k0_mult5 : BitVec 32 :=
  let c0_i32_232 : BitVec 32 := 0#32
  c0_i32_232
@[reducible] def k0_t2_loop (i : grid0.Coords) : Scf.Loop 32 :=
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_241 : BitVec 32 := 1#32
  ⟨c0_i32_239, v596, c1_i32_241⟩
def k0_mult6 (i : grid0.Coords) (k0_t2 : Fin (k0_t2_loop i).trips) : BitVec 32 :=
  let c2_i32_397 : BitVec 32 := 2#32
  let c0_i32_239 : BitVec 32 := 0#32
  let c1_i32_241 : BitVec 32 := 1#32
  let arg24 : BitVec 32 := Scf.iv c0_i32_239 c1_i32_241 k0_t2
  let v986 : BitVec 32 := Scalar.muli c2_i32_397 arg24
  let c1_i32_398 : BitVec 32 := 1#32
  let v987 : BitVec 32 := Scalar.addi v986 c1_i32_398
  let c4_i32_399 : BitVec 32 := 4#32
  let v988 : BitVec 32 := Scalar.muli v987 c4_i32_399
  let c128_i32_400 : BitVec 32 := 128#32
  let v989 : BitVec 32 := Scalar.muli v988 c128_i32_400
  v989
def k0_off4 (i : grid0.Coords) (k0_t2 : Fin (k0_t2_loop i).trips) (c1_i32_398 : BitVec 32) : Fin 2 → Nat :=
  let c2_i32_397 : BitVec 32 := 2#32
  let c0_i32_239 : BitVec 32 := 0#32
  let c1_i32_241 : BitVec 32 := 1#32
  let arg24 : BitVec 32 := Scf.iv c0_i32_239 c1_i32_241 k0_t2
  let v986 : BitVec 32 := Scalar.muli c2_i32_397 arg24
  let v987 : BitVec 32 := Scalar.addi v986 c1_i32_398
  let c4_i32_399 : BitVec 32 := 4#32
  let v988 : BitVec 32 := Scalar.muli v987 c4_i32_399
  let c128_i32_400 : BitVec 32 := 128#32
  let v989 : BitVec 32 := Scalar.muli v988 c128_i32_400
  let v990 : BitVec 32 := v989
  let v991 : Index := Scalar.indexCast v990
  let c0_401 : Index := 0#32
  ![v991.toNat, 0]
def k0_mult7 (i : grid0.Coords) (k0_t2 : Fin (k0_t2_loop i).trips) : BitVec 32 :=
  let c2_i32_397 : BitVec 32 := 2#32
  let c0_i32_239 : BitVec 32 := 0#32
  let c1_i32_241 : BitVec 32 := 1#32
  let arg24 : BitVec 32 := Scf.iv c0_i32_239 c1_i32_241 k0_t2
  let v986 : BitVec 32 := Scalar.muli c2_i32_397 arg24
  let c1_i32_398 : BitVec 32 := 1#32
  let v987 : BitVec 32 := Scalar.addi v986 c1_i32_398
  let c4_i32_417 : BitVec 32 := 4#32
  let v1026 : BitVec 32 := Scalar.muli v987 c4_i32_417
  let c128_i32_418 : BitVec 32 := 128#32
  let v1027 : BitVec 32 := Scalar.muli v1026 c128_i32_418
  v1027
def k0_mult8 (i : grid0.Coords) (k0_t2 : Fin (k0_t2_loop i).trips) : BitVec 32 :=
  let c2_i32_423 : BitVec 32 := 2#32
  let c0_i32_239 : BitVec 32 := 0#32
  let c1_i32_241 : BitVec 32 := 1#32
  let arg24 : BitVec 32 := Scf.iv c0_i32_239 c1_i32_241 k0_t2
  let v1035 : BitVec 32 := Scalar.muli c2_i32_423 arg24
  let c4_i32_472 : BitVec 32 := 4#32
  let v1152 : BitVec 32 := Scalar.muli v1035 c4_i32_472
  let c128_i32_473 : BitVec 32 := 128#32
  let v1153 : BitVec 32 := Scalar.muli v1152 c128_i32_473
  v1153
def k0_off5 (i : grid0.Coords) (k0_t2 : Fin (k0_t2_loop i).trips) : Fin 2 → Nat :=
  let c2_i32_423 : BitVec 32 := 2#32
  let c0_i32_239 : BitVec 32 := 0#32
  let c1_i32_241 : BitVec 32 := 1#32
  let arg24 : BitVec 32 := Scf.iv c0_i32_239 c1_i32_241 k0_t2
  let v1035 : BitVec 32 := Scalar.muli c2_i32_423 arg24
  let c4_i32_472 : BitVec 32 := 4#32
  let v1152 : BitVec 32 := Scalar.muli v1035 c4_i32_472
  let c128_i32_473 : BitVec 32 := 128#32
  let v1153 : BitVec 32 := Scalar.muli v1152 c128_i32_473
  let v1154 : BitVec 32 := v1153
  let v1155 : Index := Scalar.indexCast v1154
  let c0_474 : Index := 0#32
  ![v1155.toNat, 0]
def k0_mult9 (i : grid0.Coords) (k0_t2 : Fin (k0_t2_loop i).trips) : BitVec 32 :=
  let c2_i32_423 : BitVec 32 := 2#32
  let c0_i32_239 : BitVec 32 := 0#32
  let c1_i32_241 : BitVec 32 := 1#32
  let arg24 : BitVec 32 := Scf.iv c0_i32_239 c1_i32_241 k0_t2
  let v1035 : BitVec 32 := Scalar.muli c2_i32_423 arg24
  let c2_i32_480 : BitVec 32 := 2#32
  let v1165 : BitVec 32 := Scalar.muli v1035 c2_i32_480
  let c128_i32_481 : BitVec 32 := 128#32
  let v1166 : BitVec 32 := Scalar.muli v1165 c128_i32_481
  v1166
def k0_off6 (i : grid0.Coords) (k0_t2 : Fin (k0_t2_loop i).trips) : Fin 2 → Nat :=
  let c2_i32_423 : BitVec 32 := 2#32
  let c0_i32_239 : BitVec 32 := 0#32
  let c1_i32_241 : BitVec 32 := 1#32
  let arg24 : BitVec 32 := Scf.iv c0_i32_239 c1_i32_241 k0_t2
  let v1035 : BitVec 32 := Scalar.muli c2_i32_423 arg24
  let c2_i32_480 : BitVec 32 := 2#32
  let v1165 : BitVec 32 := Scalar.muli v1035 c2_i32_480
  let c128_i32_481 : BitVec 32 := 128#32
  let v1166 : BitVec 32 := Scalar.muli v1165 c128_i32_481
  let v1167 : BitVec 32 := v1166
  let v1168 : Index := Scalar.indexCast v1167
  let c0_482 : Index := 0#32
  ![v1168.toNat, 0]
def k0_mult10 (i : grid0.Coords) (k0_t2 : Fin (k0_t2_loop i).trips) : BitVec 32 :=
  let c2_i32_486 : BitVec 32 := 2#32
  let c0_i32_239 : BitVec 32 := 0#32
  let c1_i32_241 : BitVec 32 := 1#32
  let arg24 : BitVec 32 := Scf.iv c0_i32_239 c1_i32_241 k0_t2
  let v1204 : BitVec 32 := Scalar.muli c2_i32_486 arg24
  let c2_i32_487 : BitVec 32 := 2#32
  let v1205 : BitVec 32 := Scalar.addi v1204 c2_i32_487
  let c4_i32_488 : BitVec 32 := 4#32
  let v1206 : BitVec 32 := Scalar.muli v1205 c4_i32_488
  let c128_i32_489 : BitVec 32 := 128#32
  let v1207 : BitVec 32 := Scalar.muli v1206 c128_i32_489
  v1207
def k0_mult11 (i : grid0.Coords) (k0_t2 : Fin (k0_t2_loop i).trips) : BitVec 32 :=
  let c2_i32_486 : BitVec 32 := 2#32
  let c0_i32_239 : BitVec 32 := 0#32
  let c1_i32_241 : BitVec 32 := 1#32
  let arg24 : BitVec 32 := Scf.iv c0_i32_239 c1_i32_241 k0_t2
  let v1204 : BitVec 32 := Scalar.muli c2_i32_486 arg24
  let c2_i32_487 : BitVec 32 := 2#32
  let v1205 : BitVec 32 := Scalar.addi v1204 c2_i32_487
  let c4_i32_506 : BitVec 32 := 4#32
  let v1244 : BitVec 32 := Scalar.muli v1205 c4_i32_506
  let c128_i32_507 : BitVec 32 := 128#32
  let v1245 : BitVec 32 := Scalar.muli v1244 c128_i32_507
  v1245
def k0_mult12 (i : grid0.Coords) (k0_t2 : Fin (k0_t2_loop i).trips) : BitVec 32 :=
  let c2_i32_512 : BitVec 32 := 2#32
  let c0_i32_239 : BitVec 32 := 0#32
  let c1_i32_241 : BitVec 32 := 1#32
  let arg24 : BitVec 32 := Scf.iv c0_i32_239 c1_i32_241 k0_t2
  let v1253 : BitVec 32 := Scalar.muli c2_i32_512 arg24
  let c1_i32_513 : BitVec 32 := 1#32
  let v1254 : BitVec 32 := Scalar.addi v1253 c1_i32_513
  let c4_i32_562 : BitVec 32 := 4#32
  let v1371 : BitVec 32 := Scalar.muli v1254 c4_i32_562
  let c128_i32_563 : BitVec 32 := 128#32
  let v1372 : BitVec 32 := Scalar.muli v1371 c128_i32_563
  v1372
def k0_mult13 (i : grid0.Coords) (k0_t2 : Fin (k0_t2_loop i).trips) : BitVec 32 :=
  let c2_i32_512 : BitVec 32 := 2#32
  let c0_i32_239 : BitVec 32 := 0#32
  let c1_i32_241 : BitVec 32 := 1#32
  let arg24 : BitVec 32 := Scf.iv c0_i32_239 c1_i32_241 k0_t2
  let v1253 : BitVec 32 := Scalar.muli c2_i32_512 arg24
  let c1_i32_513 : BitVec 32 := 1#32
  let v1254 : BitVec 32 := Scalar.addi v1253 c1_i32_513
  let c2_i32_570 : BitVec 32 := 2#32
  let v1384 : BitVec 32 := Scalar.muli v1254 c2_i32_570
  let c128_i32_571 : BitVec 32 := 128#32
  let v1385 : BitVec 32 := Scalar.muli v1384 c128_i32_571
  v1385
def k0_off7 (i : grid0.Coords) (k0_t2 : Fin (k0_t2_loop i).trips) : Fin 2 → Nat :=
  let c2_i32_512 : BitVec 32 := 2#32
  let c0_i32_239 : BitVec 32 := 0#32
  let c1_i32_241 : BitVec 32 := 1#32
  let arg24 : BitVec 32 := Scf.iv c0_i32_239 c1_i32_241 k0_t2
  let v1253 : BitVec 32 := Scalar.muli c2_i32_512 arg24
  let c1_i32_513 : BitVec 32 := 1#32
  let v1254 : BitVec 32 := Scalar.addi v1253 c1_i32_513
  let c2_i32_570 : BitVec 32 := 2#32
  let v1384 : BitVec 32 := Scalar.muli v1254 c2_i32_570
  let c128_i32_571 : BitVec 32 := 128#32
  let v1385 : BitVec 32 := Scalar.muli v1384 c128_i32_571
  let v1386 : BitVec 32 := v1385
  let v1387 : Index := Scalar.indexCast v1386
  let c0_572 : Index := 0#32
  ![v1387.toNat, 0]
@[reducible] def k0_t3_loop (i : grid0.Coords) : Scf.Loop 32 :=
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let v593 : BitVec 32 := Scalar.addi c0_i32_239 v592
  let c1_i32_242 : BitVec 32 := 1#32
  ⟨v596, v593, c1_i32_242⟩
def k0_mult14 (i : grid0.Coords) (k0_t3 : Fin (k0_t3_loop i).trips) : BitVec 32 :=
  let c2_i32_397 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v986 : BitVec 32 := Scalar.muli c2_i32_397 arg24
  let c1_i32_398 : BitVec 32 := 1#32
  let v987 : BitVec 32 := Scalar.addi v986 c1_i32_398
  let c4_i32_399 : BitVec 32 := 4#32
  let v988 : BitVec 32 := Scalar.muli v987 c4_i32_399
  let c128_i32_400 : BitVec 32 := 128#32
  let v989 : BitVec 32 := Scalar.muli v988 c128_i32_400
  v989
def k0_off8 (i : grid0.Coords) (k0_t3 : Fin (k0_t3_loop i).trips) (c1_i32_398 : BitVec 32) : Fin 2 → Nat :=
  let c2_i32_397 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v986 : BitVec 32 := Scalar.muli c2_i32_397 arg24
  let v987 : BitVec 32 := Scalar.addi v986 c1_i32_398
  let c4_i32_399 : BitVec 32 := 4#32
  let v988 : BitVec 32 := Scalar.muli v987 c4_i32_399
  let c128_i32_400 : BitVec 32 := 128#32
  let v989 : BitVec 32 := Scalar.muli v988 c128_i32_400
  let v990 : BitVec 32 := v989
  let v991 : Index := Scalar.indexCast v990
  let c0_401 : Index := 0#32
  ![v991.toNat, 0]
def k0_mult15 (i : grid0.Coords) (k0_t3 : Fin (k0_t3_loop i).trips) : BitVec 32 :=
  let c2_i32_397 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v986 : BitVec 32 := Scalar.muli c2_i32_397 arg24
  let c1_i32_398 : BitVec 32 := 1#32
  let v987 : BitVec 32 := Scalar.addi v986 c1_i32_398
  let c4_i32_417 : BitVec 32 := 4#32
  let v1026 : BitVec 32 := Scalar.muli v987 c4_i32_417
  let c128_i32_418 : BitVec 32 := 128#32
  let v1027 : BitVec 32 := Scalar.muli v1026 c128_i32_418
  v1027
def k0_mult16 (i : grid0.Coords) (k0_t3 : Fin (k0_t3_loop i).trips) : BitVec 32 :=
  let c2_i32_423 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1035 : BitVec 32 := Scalar.muli c2_i32_423 arg24
  let c4_i32_472 : BitVec 32 := 4#32
  let v1152 : BitVec 32 := Scalar.muli v1035 c4_i32_472
  let c128_i32_473 : BitVec 32 := 128#32
  let v1153 : BitVec 32 := Scalar.muli v1152 c128_i32_473
  v1153
def k0_off9 (i : grid0.Coords) (k0_t3 : Fin (k0_t3_loop i).trips) : Fin 2 → Nat :=
  let c2_i32_423 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1035 : BitVec 32 := Scalar.muli c2_i32_423 arg24
  let c4_i32_472 : BitVec 32 := 4#32
  let v1152 : BitVec 32 := Scalar.muli v1035 c4_i32_472
  let c128_i32_473 : BitVec 32 := 128#32
  let v1153 : BitVec 32 := Scalar.muli v1152 c128_i32_473
  let v1154 : BitVec 32 := v1153
  let v1155 : Index := Scalar.indexCast v1154
  let c0_474 : Index := 0#32
  ![v1155.toNat, 0]
def k0_mult17 (i : grid0.Coords) (k0_t3 : Fin (k0_t3_loop i).trips) : BitVec 32 :=
  let c2_i32_423 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1035 : BitVec 32 := Scalar.muli c2_i32_423 arg24
  let c2_i32_480 : BitVec 32 := 2#32
  let v1165 : BitVec 32 := Scalar.muli v1035 c2_i32_480
  let c128_i32_481 : BitVec 32 := 128#32
  let v1166 : BitVec 32 := Scalar.muli v1165 c128_i32_481
  v1166
def k0_off10 (i : grid0.Coords) (k0_t3 : Fin (k0_t3_loop i).trips) : Fin 2 → Nat :=
  let c2_i32_423 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1035 : BitVec 32 := Scalar.muli c2_i32_423 arg24
  let c2_i32_480 : BitVec 32 := 2#32
  let v1165 : BitVec 32 := Scalar.muli v1035 c2_i32_480
  let c128_i32_481 : BitVec 32 := 128#32
  let v1166 : BitVec 32 := Scalar.muli v1165 c128_i32_481
  let v1167 : BitVec 32 := v1166
  let v1168 : Index := Scalar.indexCast v1167
  let c0_482 : Index := 0#32
  ![v1168.toNat, 0]
def k0_mult18 (i : grid0.Coords) (k0_t3 : Fin (k0_t3_loop i).trips) : BitVec 32 :=
  let c2_i32_486 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1204 : BitVec 32 := Scalar.muli c2_i32_486 arg24
  let c2_i32_487 : BitVec 32 := 2#32
  let v1205 : BitVec 32 := Scalar.addi v1204 c2_i32_487
  let c4_i32_488 : BitVec 32 := 4#32
  let v1206 : BitVec 32 := Scalar.muli v1205 c4_i32_488
  let c128_i32_489 : BitVec 32 := 128#32
  let v1207 : BitVec 32 := Scalar.muli v1206 c128_i32_489
  v1207
def k0_mult19 (i : grid0.Coords) (k0_t3 : Fin (k0_t3_loop i).trips) : BitVec 32 :=
  let c2_i32_486 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1204 : BitVec 32 := Scalar.muli c2_i32_486 arg24
  let c2_i32_487 : BitVec 32 := 2#32
  let v1205 : BitVec 32 := Scalar.addi v1204 c2_i32_487
  let c4_i32_506 : BitVec 32 := 4#32
  let v1244 : BitVec 32 := Scalar.muli v1205 c4_i32_506
  let c128_i32_507 : BitVec 32 := 128#32
  let v1245 : BitVec 32 := Scalar.muli v1244 c128_i32_507
  v1245
def k0_mult20 (i : grid0.Coords) (k0_t3 : Fin (k0_t3_loop i).trips) : BitVec 32 :=
  let c2_i32_512 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1253 : BitVec 32 := Scalar.muli c2_i32_512 arg24
  let c1_i32_513 : BitVec 32 := 1#32
  let v1254 : BitVec 32 := Scalar.addi v1253 c1_i32_513
  let c4_i32_562 : BitVec 32 := 4#32
  let v1371 : BitVec 32 := Scalar.muli v1254 c4_i32_562
  let c128_i32_563 : BitVec 32 := 128#32
  let v1372 : BitVec 32 := Scalar.muli v1371 c128_i32_563
  v1372
def k0_mult21 (i : grid0.Coords) (k0_t3 : Fin (k0_t3_loop i).trips) : BitVec 32 :=
  let c2_i32_512 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1253 : BitVec 32 := Scalar.muli c2_i32_512 arg24
  let c1_i32_513 : BitVec 32 := 1#32
  let v1254 : BitVec 32 := Scalar.addi v1253 c1_i32_513
  let c2_i32_570 : BitVec 32 := 2#32
  let v1384 : BitVec 32 := Scalar.muli v1254 c2_i32_570
  let c128_i32_571 : BitVec 32 := 128#32
  let v1385 : BitVec 32 := Scalar.muli v1384 c128_i32_571
  v1385
def k0_off11 (i : grid0.Coords) (k0_t3 : Fin (k0_t3_loop i).trips) : Fin 2 → Nat :=
  let c2_i32_512 : BitVec 32 := 2#32
  let c0_i32_239 : BitVec 32 := 0#32
  let arg1 : BitVec 32 := BitVec.ofNat 32 (i 1).val
  let c1_i32_237 : BitVec 32 := 1#32
  let v591 : BitVec 32 := Scalar.subi arg1 c1_i32_237
  let v592 : BitVec 32 := Scalar.subi v591 c0_i32_239
  let c1_i32_240 : BitVec 32 := 1#32
  let v594 : BitVec 32 := Scalar.divsi v592 c1_i32_240
  let v595 : BitVec 32 := Scalar.muli v594 c1_i32_240
  let v596 : BitVec 32 := Scalar.addi c0_i32_239 v595
  let c1_i32_242 : BitVec 32 := 1#32
  let arg24 : BitVec 32 := Scf.iv v596 c1_i32_242 k0_t3
  let v1253 : BitVec 32 := Scalar.muli c2_i32_512 arg24
  let c1_i32_513 : BitVec 32 := 1#32
  let v1254 : BitVec 32 := Scalar.addi v1253 c1_i32_513
  let c2_i32_570 : BitVec 32 := 2#32
  let v1384 : BitVec 32 := Scalar.muli v1254 c2_i32_570
  let c128_i32_571 : BitVec 32 := 128#32
  let v1385 : BitVec 32 := Scalar.muli v1384 c128_i32_571
  let v1386 : BitVec 32 := v1385
  let v1387 : Index := Scalar.indexCast v1386
  let c0_572 : Index := 0#32
  ![v1387.toNat, 0]
def k0_mult22 (i : grid0.Coords) : BitVec 32 :=
  let c2_i32_243 : BitVec 32 := 2#32
  let arg1 : BitVec 32 := BitVec.ofNat 32 (i 1).val
  let v597 : BitVec 32 := Scalar.muli c2_i32_243 arg1
  let c1_i32_244 : BitVec 32 := 1#32
  let v598 : BitVec 32 := Scalar.subi v597 c1_i32_244
  let c4_i32_245 : BitVec 32 := 4#32
  let v599 : BitVec 32 := Scalar.muli v598 c4_i32_245
  let c128_i32_246 : BitVec 32 := 128#32
  let v600 : BitVec 32 := Scalar.muli v599 c128_i32_246
  v600
def k0_off12 (i : grid0.Coords) (c1_i32_244 : BitVec 32) : Fin 2 → Nat :=
  let c2_i32_243 : BitVec 32 := 2#32
  let arg1 : BitVec 32 := BitVec.ofNat 32 (i 1).val
  let v597 : BitVec 32 := Scalar.muli c2_i32_243 arg1
  let v598 : BitVec 32 := Scalar.subi v597 c1_i32_244
  let c4_i32_245 : BitVec 32 := 4#32
  let v599 : BitVec 32 := Scalar.muli v598 c4_i32_245
  let c128_i32_246 : BitVec 32 := 128#32
  let v600 : BitVec 32 := Scalar.muli v599 c128_i32_246
  let v601 : BitVec 32 := v600
  let v602 : Index := Scalar.indexCast v601
  let c0_247 : Index := 0#32
  ![v602.toNat, 0]
def k0_mult23 (i : grid0.Coords) : BitVec 32 :=
  let c2_i32_243 : BitVec 32 := 2#32
  let arg1 : BitVec 32 := BitVec.ofNat 32 (i 1).val
  let v597 : BitVec 32 := Scalar.muli c2_i32_243 arg1
  let c1_i32_244 : BitVec 32 := 1#32
  let v598 : BitVec 32 := Scalar.subi v597 c1_i32_244
  let c4_i32_263 : BitVec 32 := 4#32
  let v637 : BitVec 32 := Scalar.muli v598 c4_i32_263
  let c128_i32_264 : BitVec 32 := 128#32
  let v638 : BitVec 32 := Scalar.muli v637 c128_i32_264
  v638
def k0_mult24 (i : grid0.Coords) : BitVec 32 :=
  let c2_i32_269 : BitVec 32 := 2#32
  let arg1 : BitVec 32 := BitVec.ofNat 32 (i 1).val
  let v646 : BitVec 32 := Scalar.muli c2_i32_269 arg1
  let c2_i32_270 : BitVec 32 := 2#32
  let v647 : BitVec 32 := Scalar.subi v646 c2_i32_270
  let c4_i32_319 : BitVec 32 := 4#32
  let v764 : BitVec 32 := Scalar.muli v647 c4_i32_319
  let c128_i32_320 : BitVec 32 := 128#32
  let v765 : BitVec 32 := Scalar.muli v764 c128_i32_320
  v765
def k0_mult25 (i : grid0.Coords) : BitVec 32 :=
  let c2_i32_269 : BitVec 32 := 2#32
  let arg1 : BitVec 32 := BitVec.ofNat 32 (i 1).val
  let v646 : BitVec 32 := Scalar.muli c2_i32_269 arg1
  let c2_i32_270 : BitVec 32 := 2#32
  let v647 : BitVec 32 := Scalar.subi v646 c2_i32_270
  let c2_i32_327 : BitVec 32 := 2#32
  let v777 : BitVec 32 := Scalar.muli v647 c2_i32_327
  let c128_i32_328 : BitVec 32 := 128#32
  let v778 : BitVec 32 := Scalar.muli v777 c128_i32_328
  v778
def k0_off13 (i : grid0.Coords) (c2_i32_270 : BitVec 32) : Fin 2 → Nat :=
  let c2_i32_269 : BitVec 32 := 2#32
  let arg1 : BitVec 32 := BitVec.ofNat 32 (i 1).val
  let v646 : BitVec 32 := Scalar.muli c2_i32_269 arg1
  let v647 : BitVec 32 := Scalar.subi v646 c2_i32_270
  let c2_i32_327 : BitVec 32 := 2#32
  let v777 : BitVec 32 := Scalar.muli v647 c2_i32_327
  let c128_i32_328 : BitVec 32 := 128#32
  let v778 : BitVec 32 := Scalar.muli v777 c128_i32_328
  let v779 : BitVec 32 := v778
  let v780 : Index := Scalar.indexCast v779
  let c0_329 : Index := 0#32
  ![v780.toNat, 0]
def k0_mult26 (i : grid0.Coords) : BitVec 32 :=
  let c2_i32_333 : BitVec 32 := 2#32
  let arg1 : BitVec 32 := BitVec.ofNat 32 (i 1).val
  let v816 : BitVec 32 := Scalar.muli c2_i32_333 arg1
  let c1_i32_334 : BitVec 32 := 1#32
  let v817 : BitVec 32 := Scalar.subi v816 c1_i32_334
  let c4_i32_383 : BitVec 32 := 4#32
  let v934 : BitVec 32 := Scalar.muli v817 c4_i32_383
  let c128_i32_384 : BitVec 32 := 128#32
  let v935 : BitVec 32 := Scalar.muli v934 c128_i32_384
  v935
def k0_mult27 (i : grid0.Coords) : BitVec 32 :=
  let c2_i32_333 : BitVec 32 := 2#32
  let arg1 : BitVec 32 := BitVec.ofNat 32 (i 1).val
  let v816 : BitVec 32 := Scalar.muli c2_i32_333 arg1
  let c1_i32_334 : BitVec 32 := 1#32
  let v817 : BitVec 32 := Scalar.subi v816 c1_i32_334
  let c2_i32_391 : BitVec 32 := 2#32
  let v947 : BitVec 32 := Scalar.muli v817 c2_i32_391
  let c128_i32_392 : BitVec 32 := 128#32
  let v948 : BitVec 32 := Scalar.muli v947 c128_i32_392
  v948
def k0_mult28 (i : grid0.Coords) : BitVec 32 :=
  let c2_i32 : BitVec 32 := 2#32
  let arg1 : BitVec 32 := BitVec.ofNat 32 (i 1).val
  let v71 : BitVec 32 := Scalar.muli c2_i32 arg1
  let c4_i32 : BitVec 32 := 4#32
  let v72 : BitVec 32 := Scalar.muli v71 c4_i32
  let c128_i32_26 : BitVec 32 := 128#32
  let v73 : BitVec 32 := Scalar.muli v72 c128_i32_26
  v73
def k0_off14 (i : grid0.Coords) : Fin 2 → Nat :=
  let c2_i32 : BitVec 32 := 2#32
  let arg1 : BitVec 32 := BitVec.ofNat 32 (i 1).val
  let v71 : BitVec 32 := Scalar.muli c2_i32 arg1
  let c4_i32 : BitVec 32 := 4#32
  let v72 : BitVec 32 := Scalar.muli v71 c4_i32
  let c128_i32_26 : BitVec 32 := 128#32
  let v73 : BitVec 32 := Scalar.muli v72 c128_i32_26
  let v74 : BitVec 32 := v73
  let v75 : Index := Scalar.indexCast v74
  let c0_27 : Index := 0#32
  ![v75.toNat, 0]
def k0_mult29 (i : grid0.Coords) : BitVec 32 :=
  let c2_i32 : BitVec 32 := 2#32
  let arg1 : BitVec 32 := BitVec.ofNat 32 (i 1).val
  let v71 : BitVec 32 := Scalar.muli c2_i32 arg1
  let c4_i32_43 : BitVec 32 := 4#32
  let v112 : BitVec 32 := Scalar.muli v71 c4_i32_43
  let c128_i32_44 : BitVec 32 := 128#32
  let v113 : BitVec 32 := Scalar.muli v112 c128_i32_44
  v113
def k0_mult30 (i : grid0.Coords) : BitVec 32 :=
  let c2_i32_49 : BitVec 32 := 2#32
  let arg1 : BitVec 32 := BitVec.ofNat 32 (i 1).val
  let v121 : BitVec 32 := Scalar.muli c2_i32_49 arg1
  let c1_i32 : BitVec 32 := 1#32
  let v122 : BitVec 32 := Scalar.addi v121 c1_i32
  let c4_i32_50 : BitVec 32 := 4#32
  let v124 : BitVec 32 := Scalar.muli v122 c4_i32_50
  let c128_i32_51 : BitVec 32 := 128#32
  let v125 : BitVec 32 := Scalar.muli v124 c128_i32_51
  v125
def k0_off15 (i : grid0.Coords) : Fin 2 → Nat :=
  let c2_i32_49 : BitVec 32 := 2#32
  let arg1 : BitVec 32 := BitVec.ofNat 32 (i 1).val
  let v121 : BitVec 32 := Scalar.muli c2_i32_49 arg1
  let c1_i32 : BitVec 32 := 1#32
  let v122 : BitVec 32 := Scalar.addi v121 c1_i32
  let c4_i32_50 : BitVec 32 := 4#32
  let v124 : BitVec 32 := Scalar.muli v122 c4_i32_50
  let c128_i32_51 : BitVec 32 := 128#32
  let v125 : BitVec 32 := Scalar.muli v124 c128_i32_51
  let v126 : BitVec 32 := v125
  let v127 : Index := Scalar.indexCast v126
  let c0_52 : Index := 0#32
  ![v127.toNat, 0]
def k0_mult31 (i : grid0.Coords) : BitVec 32 :=
  let c2_i32_49 : BitVec 32 := 2#32
  let arg1 : BitVec 32 := BitVec.ofNat 32 (i 1).val
  let v121 : BitVec 32 := Scalar.muli c2_i32_49 arg1
  let c1_i32 : BitVec 32 := 1#32
  let v122 : BitVec 32 := Scalar.addi v121 c1_i32
  let c4_i32_69 : BitVec 32 := 4#32
  let v166 : BitVec 32 := Scalar.muli v122 c4_i32_69
  let c128_i32_70 : BitVec 32 := 128#32
  let v167 : BitVec 32 := Scalar.muli v166 c128_i32_70
  v167
def k0_mult32 (i : grid0.Coords) : BitVec 32 :=
  let c2_i32_75 : BitVec 32 := 2#32
  let arg1 : BitVec 32 := BitVec.ofNat 32 (i 1).val
  let v175 : BitVec 32 := Scalar.muli c2_i32_75 arg1
  let c4_i32_127 : BitVec 32 := 4#32
  let v304 : BitVec 32 := Scalar.muli v175 c4_i32_127
  let c128_i32_128 : BitVec 32 := 128#32
  let v305 : BitVec 32 := Scalar.muli v304 c128_i32_128
  v305
def k0_mult33 (i : grid0.Coords) : BitVec 32 :=
  let c2_i32_75 : BitVec 32 := 2#32
  let arg1 : BitVec 32 := BitVec.ofNat 32 (i 1).val
  let v175 : BitVec 32 := Scalar.muli c2_i32_75 arg1
  let c2_i32_135 : BitVec 32 := 2#32
  let v317 : BitVec 32 := Scalar.muli v175 c2_i32_135
  let c128_i32_136 : BitVec 32 := 128#32
  let v318 : BitVec 32 := Scalar.muli v317 c128_i32_136
  v318
def k0_off16 (i : grid0.Coords) : Fin 2 → Nat :=
  let c2_i32_75 : BitVec 32 := 2#32
  let arg1 : BitVec 32 := BitVec.ofNat 32 (i 1).val
  let v175 : BitVec 32 := Scalar.muli c2_i32_75 arg1
  let c2_i32_135 : BitVec 32 := 2#32
  let v317 : BitVec 32 := Scalar.muli v175 c2_i32_135
  let c128_i32_136 : BitVec 32 := 128#32
  let v318 : BitVec 32 := Scalar.muli v317 c128_i32_136
  let v319 : BitVec 32 := v318
  let v320 : Index := Scalar.indexCast v319
  let c0_137 : Index := 0#32
  ![v320.toNat, 0]
def k0_mult34 (i : grid0.Coords) : BitVec 32 :=
  let c2_i32_141 : BitVec 32 := 2#32
  let arg1 : BitVec 32 := BitVec.ofNat 32 (i 1).val
  let v356 : BitVec 32 := Scalar.muli c2_i32_141 arg1
  let c1_i32_142 : BitVec 32 := 1#32
  let v357 : BitVec 32 := Scalar.addi v356 c1_i32_142
  let c4_i32_195 : BitVec 32 := 4#32
  let v486 : BitVec 32 := Scalar.muli v357 c4_i32_195
  let c128_i32_196 : BitVec 32 := 128#32
  let v487 : BitVec 32 := Scalar.muli v486 c128_i32_196
  v487
def k0_mult35 (i : grid0.Coords) : BitVec 32 :=
  let c2_i32_141 : BitVec 32 := 2#32
  let arg1 : BitVec 32 := BitVec.ofNat 32 (i 1).val
  let v356 : BitVec 32 := Scalar.muli c2_i32_141 arg1
  let c1_i32_142 : BitVec 32 := 1#32
  let v357 : BitVec 32 := Scalar.addi v356 c1_i32_142
  let c2_i32_203 : BitVec 32 := 2#32
  let v501 : BitVec 32 := Scalar.muli v357 c2_i32_203
  let c128_i32_204 : BitVec 32 := 128#32
  let v502 : BitVec 32 := Scalar.muli v501 c128_i32_204
  v502
def k0_off17 (i : grid0.Coords) : Fin 2 → Nat :=
  let c2_i32_141 : BitVec 32 := 2#32
  let arg1 : BitVec 32 := BitVec.ofNat 32 (i 1).val
  let v356 : BitVec 32 := Scalar.muli c2_i32_141 arg1
  let c1_i32_142 : BitVec 32 := 1#32
  let v357 : BitVec 32 := Scalar.addi v356 c1_i32_142
  let c2_i32_203 : BitVec 32 := 2#32
  let v501 : BitVec 32 := Scalar.muli v357 c2_i32_203
  let c128_i32_204 : BitVec 32 := 128#32
  let v502 : BitVec 32 := Scalar.muli v501 c128_i32_204
  let v503 : BitVec 32 := v502
  let v504 : Index := Scalar.indexCast v503
  let c0_205 : Index := 0#32
  ![v504.toNat, 0]
def k0_cond3 (i : grid0.Coords) : BitVec 1 :=
  let arg1 : BitVec 32 := BitVec.ofNat 32 (i 1).val
  let c7_i32 : BitVec 32 := 7#32
  let v545 : BitVec 1 := Scalar.cmpi .eq arg1 c7_i32
  let v546 : BitVec 32 := Scalar.extui v545
  let c0_i32_214 : BitVec 32 := 0#32
  let v547 : BitVec 1 := Scalar.cmpi .ne v546 c0_i32_214
  v547

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttnBwdIdeal.lean ====
variable {F : FTy → Type} [FloatOps F] [Named F]
def κ : String → Option EReal := fun
  | "log2_e_inv" => some (((Real.log 2)⁻¹ : ℝ) : EReal)
  | "scale_log2_e" => some ((8⁻¹ * (Real.log 2)⁻¹ : ℝ) : EReal)
  | _ => none
-- ==== AttnRefIdeal.lean ====
abbrev S4096x1536 : Shape := ⟨2, ![4096, 1536]⟩
abbrev S4096x1024 : Shape := ⟨2, ![4096, 1024]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x64x4096 : Shape := ⟨3, ![8, 64, 4096]⟩
abbrev S8x4096x64 : Shape := ⟨3, ![8, 4096, 64]⟩

abbrev nBuf : Space → Nat
  | .hbm => 177
  | .vmem => 0
  | .smem => 0
  | _ => 0

abbrev hbmTy0_0 (i : Nat) : BufTy := match i % 128 with
  | 0 => ⟨S4096x1536, .bf16⟩
  | 1 => ⟨S4096x1024, .bf16⟩
  | 2 => ⟨S4096x512, .bf16⟩
  | 3 => ⟨S4096x512, .bf16⟩
  | 4 => ⟨S4096x512, .bf16⟩
  | 5 => ⟨S4096x512, .f32⟩
  | 6 => ⟨S4096x8x64, .f32⟩
  | 7 => ⟨S4096x512, .f32⟩
  | 8 => ⟨S4096x8x64, .f32⟩
  | 9 => ⟨S4096x512, .f32⟩
  | 10 => ⟨S4096x8x64, .f32⟩
  | 11 => ⟨S4096x512, .bf16⟩
  | 12 => ⟨S4096x512, .f32⟩
  | 13 => ⟨S4096x8x64, .f32⟩
  | 14 => ⟨S8x4096x4096, .f32⟩
  | 15 => ⟨S_, .f32⟩
  | 16 => ⟨S8x4096x4096, .f32⟩
  | 17 => ⟨S8x4096x4096, .f32⟩
  | 18 => ⟨S4096, .i32⟩
  | 19 => ⟨S1x1x4096, .i32⟩
  | 20 => ⟨S4096, .i32⟩
  | 21 => ⟨S1x4096x1, .i32⟩
  | 22 => ⟨S1x4096x4096, .i32⟩
  | 23 => ⟨S1x4096x4096, .i32⟩
  | 24 => ⟨S1x4096x4096, .i1⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .i1⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .i1⟩
  | 42 => ⟨S_, .f32⟩
  | 43 => ⟨S8x4096x4096, .f32⟩
  | 44 => ⟨S8x4096x4096, .f32⟩
  | 45 => ⟨S_, .f32⟩
  | 46 => ⟨S8x4096x4096, .f32⟩
  | 47 => ⟨S8x4096x4096, .i1⟩
  | 48 => ⟨S_, .f32⟩
  | 49 => ⟨S8x4096x4096, .f32⟩
  | 50 => ⟨S8x4096x4096, .f32⟩
  | 51 => ⟨S8x4096x4096, .f32⟩
  | 52 => ⟨S8x4096x4096, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x4096x4096, .f32⟩
  | 61 => ⟨S8x4096x4096, .i1⟩
  | 62 => ⟨S_, .f32⟩
  | 63 => ⟨S8x4096x4096, .f32⟩
  | 64 => ⟨S8x4096x4096, .f32⟩
  | 65 => ⟨S8x4096x4096, .f32⟩
  | 66 => ⟨S8x4096x4096, .f32⟩
  | 67 => ⟨S8x4096x4096, .f32⟩
  | 68 => ⟨S_, .f32⟩
  | 69 => ⟨S8x4096x4096, .f32⟩
  | 70 => ⟨S8x4096x4096, .f32⟩
  | 71 => ⟨S8x4096x4096, .f32⟩
  | 72 => ⟨S_, .f32⟩
  | 73 => ⟨S_, .f32⟩
  | 74 => ⟨S8x4096x4096, .i1⟩
  | 75 => ⟨S8x4096x4096, .f32⟩
  | 76 => ⟨S8x4096x4096, .f32⟩
  | 77 => ⟨S_, .f32⟩
  | 78 => ⟨S8x4096x4096, .f32⟩
  | 79 => ⟨S_, .f32⟩
  | 80 => ⟨S_, .f32⟩
  | 81 => ⟨S8x4096x4096, .f32⟩
  | 82 => ⟨S8x4096x4096, .f32⟩
  | 83 => ⟨S8x4096x4096, .f32⟩
  | 84 => ⟨S_, .f32⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .i1⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S8x4096x4096, .f32⟩
  | 98 => ⟨S_, .f32⟩
  | 99 => ⟨S8x4096x4096, .f32⟩
  | 100 => ⟨S8x4096x4096, .i1⟩
  | 101 => ⟨S_, .f32⟩
  | 102 => ⟨S8x4096x4096, .f32⟩
  | 103 => ⟨S8x4096x4096, .f32⟩
  | 104 => ⟨S_, .f32⟩
  | 105 => ⟨S8x4096x4096, .f32⟩
  | 106 => ⟨S8x4096x4096, .i1⟩
  | 107 => ⟨S_, .f32⟩
  | 108 => ⟨S8x4096x4096, .f32⟩
  | 109 => ⟨S8x4096x4096, .f32⟩
  | 110 => ⟨S8x4096x4096, .f32⟩
  | 111 => ⟨S8x4096x4096, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S8x4096x4096, .f32⟩
  | 120 => ⟨S8x4096x4096, .i1⟩
  | 121 => ⟨S_, .f32⟩
  | 122 => ⟨S8x4096x4096, .f32⟩
  | 123 => ⟨S8x4096x4096, .f32⟩
  | 124 => ⟨S8x4096x4096, .f32⟩
  | 125 => ⟨S8x4096x4096, .f32⟩
  | 126 => ⟨S8x4096x4096, .f32⟩
  | 127 => ⟨S_, .f32⟩
  | _ => ⟨S4096x1536, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S8x4096x4096, .f32⟩
  | 5 => ⟨S_, .f32⟩
  | 6 => ⟨S_, .f32⟩
  | 7 => ⟨S8x4096x4096, .i1⟩
  | 8 => ⟨S8x4096x4096, .f32⟩
  | 9 => ⟨S8x4096x4096, .f32⟩
  | 10 => ⟨S_, .f32⟩
  | 11 => ⟨S8x4096x4096, .f32⟩
  | 12 => ⟨S8x64x4096, .f32⟩
  | 13 => ⟨S4096x8x64, .f32⟩
  | 14 => ⟨S8x64x4096, .f32⟩
  | 15 => ⟨S8x4096x4096, .f32⟩
  | 16 => ⟨S8x64x4096, .f32⟩
  | 17 => ⟨S4096x8x64, .f32⟩
  | 18 => ⟨S_, .f32⟩
  | 19 => ⟨S8x4096x4096, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S_, .f32⟩
  | 27 => ⟨S_, .f32⟩
  | 28 => ⟨S8x4096x4096, .f32⟩
  | 29 => ⟨S8x4096x4096, .f32⟩
  | 30 => ⟨S_, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S_, .f32⟩
  | 37 => ⟨S8x4096x4096, .f32⟩
  | 38 => ⟨S8x4096x4096, .f32⟩
  | 39 => ⟨S8x4096x64, .f32⟩
  | 40 => ⟨S4096x8x64, .f32⟩
  | 41 => ⟨S8x4096x64, .f32⟩
  | 42 => ⟨S4096x8x64, .f32⟩
  | 43 => ⟨S4096x512, .f32⟩
  | 44 => ⟨S4096x512, .bf16⟩
  | 45 => ⟨S4096x512, .f32⟩
  | 46 => ⟨S4096x512, .bf16⟩
  | 47 => ⟨S4096x512, .f32⟩
  | 48 => ⟨S4096x512, .bf16⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v22_0 : Ref sig .tc := ⟨.hbm, 38, rfl⟩
abbrev main_call0_cst_0 : Ref sig .tc := ⟨.hbm, 39, rfl⟩
abbrev main_call0_v13 : Ref sig .tc := ⟨.hbm, 40, rfl⟩
abbrev main_call0_v14 : Ref sig .tc := ⟨.hbm, 41, rfl⟩
abbrev main_call0_cst_1 : Ref sig .tc := ⟨.hbm, 42, rfl⟩
abbrev main_call0_v15 : Ref sig .tc := ⟨.hbm, 43, rfl⟩
abbrev main_call0_v16 : Ref sig .tc := ⟨.hbm, 44, rfl⟩
abbrev main_call0_cst_2 : Ref sig .tc := ⟨.hbm, 45, rfl⟩
abbrev main_call0_v17 : Ref sig .tc := ⟨.hbm, 46, rfl⟩
abbrev main_call0_v18 : Ref sig .tc := ⟨.hbm, 47, rfl⟩
abbrev main_call0_cst_3 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_v22_1 : Ref sig .tc := ⟨.hbm, 52, rfl⟩
abbrev main_call0_cst_4 : Ref sig .tc := ⟨.hbm, 53, rfl⟩
abbrev main_call0_cst_5 : Ref sig .tc := ⟨.hbm, 54, rfl⟩
abbrev main_call0_v23 : Ref sig .tc := ⟨.hbm, 55, rfl⟩
abbrev main_call0_cst_6 : Ref sig .tc := ⟨.hbm, 56, rfl⟩
abbrev main_call0_cst_7 : Ref sig .tc := ⟨.hbm, 57, rfl⟩
abbrev main_call0_v24 : Ref sig .tc := ⟨.hbm, 58, rfl⟩
abbrev main_call0_cst_8 : Ref sig .tc := ⟨.hbm, 59, rfl⟩
abbrev main_call0_v25 : Ref sig .tc := ⟨.hbm, 60, rfl⟩
abbrev main_call0_v26 : Ref sig .tc := ⟨.hbm, 61, rfl⟩
abbrev main_call0_cst_9 : Ref sig .tc := ⟨.hbm, 62, rfl⟩
abbrev main_call0_v27 : Ref sig .tc := ⟨.hbm, 63, rfl⟩
abbrev main_call0_v28 : Ref sig .tc := ⟨.hbm, 64, rfl⟩
abbrev main_call0_v29 : Ref sig .tc := ⟨.hbm, 65, rfl⟩
abbrev main_call0_v30 : Ref sig .tc := ⟨.hbm, 66, rfl⟩
abbrev main_call0_v31 : Ref sig .tc := ⟨.hbm, 67, rfl⟩
abbrev main_call0_cst_10 : Ref sig .tc := ⟨.hbm, 68, rfl⟩
abbrev main_call0_v32 : Ref sig .tc := ⟨.hbm, 69, rfl⟩
abbrev main_v22_2 : Ref sig .tc := ⟨.hbm, 70, rfl⟩
abbrev main_v23 : Ref sig .tc := ⟨.hbm, 71, rfl⟩
abbrev main_cst_0 : Ref sig .tc := ⟨.hbm, 72, rfl⟩
abbrev main_call1_v0 : Ref sig .tc := ⟨.hbm, 73, rfl⟩
abbrev main_v24_1 : Ref sig .tc := ⟨.hbm, 74, rfl⟩
abbrev main_call1_v2 : Ref sig .tc := ⟨.hbm, 75, rfl⟩
abbrev main_v24_0 : Ref sig .tc := ⟨.hbm, 76, rfl⟩
abbrev main_call1_cst : Ref sig .tc := ⟨.hbm, 77, rfl⟩
abbrev main_v24_2 : Ref sig .tc := ⟨.hbm, 78, rfl⟩
abbrev main_call2_cst : Ref sig .tc := ⟨.hbm, 79, rfl⟩
abbrev main_call2_v0 : Ref sig .tc := ⟨.hbm, 80, rfl⟩
abbrev main_v25 : Ref sig .tc := ⟨.hbm, 81, rfl⟩
abbrev main_v26 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v27_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v27_2 : Ref sig .tc := ⟨.hbm, 129, rfl⟩
abbrev main_v27_0 : Ref sig .tc := ⟨.hbm, 130, rfl⟩
abbrev main_v28 : Ref sig .tc := ⟨.hbm, 131, rfl⟩
abbrev main_v29 : Ref sig .tc := ⟨.hbm, 132, rfl⟩
abbrev main_cst_1 : Ref sig .tc := ⟨.hbm, 133, rfl⟩
abbrev main_call4_v0 : Ref sig .tc := ⟨.hbm, 134, rfl⟩
abbrev main_v30_1 : Ref sig .tc := ⟨.hbm, 135, rfl⟩
abbrev main_call4_v2 : Ref sig .tc := ⟨.hbm, 136, rfl⟩
abbrev main_v30_0 : Ref sig .tc := ⟨.hbm, 137, rfl⟩
abbrev main_call4_cst : Ref sig .tc := ⟨.hbm, 138, rfl⟩
abbrev main_v30_2 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_call5_cst : Ref sig .tc := ⟨.hbm, 146, rfl⟩
abbrev main_call5_v0 : Ref sig .tc := ⟨.hbm, 147, rfl⟩
abbrev main_v37 : Ref sig .tc := ⟨.hbm, 148, rfl⟩
abbrev main_v38 : Ref sig .tc := ⟨.hbm, 149, rfl⟩
abbrev main_call6_v0 : Ref sig .tc := ⟨.hbm, 150, rfl⟩
abbrev main_call6_v1 : Ref sig .tc := ⟨.hbm, 151, rfl⟩
abbrev main_v39 : Ref sig .tc := ⟨.hbm, 152, rfl⟩
abbrev main_v40 : Ref sig .tc := ⟨.hbm, 153, rfl⟩
abbrev main_call7_cst : Ref sig .tc := ⟨.hbm, 154, rfl⟩
abbrev main_call7_v0 : Ref sig .tc := ⟨.hbm, 155, rfl⟩
abbrev main_v41 : Ref sig .tc := ⟨.hbm, 156, rfl⟩
abbrev main_v42 : Ref sig .tc := ⟨.hbm, 157, rfl⟩
abbrev main_call8_cst : Ref sig .tc := ⟨.hbm, 158, rfl⟩
abbrev main_call8_v0 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_cst_2 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩

abbrev nD : Nat := 1
abbrev τ : Topo := Topo.v7x

variable {F : FTy → Type} [FloatOps F]
-- ==== MixFwd.lean ====
abbrev S4096x1024 : Shape := ⟨2, ![4096, 1024]⟩
abbrev S1x1024 : Shape := ⟨2, ![1, 1024]⟩
abbrev S1x1024x2560 : Shape := ⟨3, ![1, 1024, 2560]⟩
abbrev S1024x2560 : Shape := ⟨2, ![1024, 2560]⟩
abbrev S1024x4x640 : Shape := ⟨3, ![1024, 4, 640]⟩
abbrev S4x1024x640 : Shape := ⟨3, ![4, 1024, 640]⟩
abbrev S4096x1536 : Shape := ⟨2, ![4096, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩
abbrev S512x384 : Shape := ⟨2, ![512, 384]⟩
abbrev S512x256 : Shape := ⟨2, ![512, 256]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2560, .f32⟩
  | .hbm, ⟨3, _⟩ => ⟨S1024x2560, .f32⟩
  | .hbm, ⟨4, _⟩ => ⟨S1024x2560, .bf16⟩
  | .hbm, ⟨5, _⟩ => ⟨S1024x4x640, .bf16⟩
  | .hbm, ⟨6, _⟩ => ⟨S4x1024x640, .bf16⟩
  | .hbm, ⟨7, _⟩ => ⟨S4096x1024, .f32⟩
  | .hbm, ⟨8, _⟩ => ⟨S4096x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x1024, .f32⟩
  | .local _ .vmem, ⟨5, _⟩ => ⟨S512x1024, .f32⟩
  | .local _ .vmem, ⟨6, _⟩ => ⟨S512x1536, .bf16⟩
  | .local _ .vmem, ⟨7, _⟩ => ⟨S512x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixFwdRefIdeal.lean ====
abbrev S4096x1024 : Shape := ⟨2, ![4096, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2560 : Shape := ⟨2, ![1024, 2560]⟩
abbrev S4096x2560 : Shape := ⟨2, ![4096, 2560]⟩
abbrev S4096x1536 : Shape := ⟨2, ![4096, 1536]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2560, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x2560, .f32⟩
  | .hbm, ⟨21, _⟩ => ⟨S4096x2560, .f32⟩
  | .hbm, ⟨22, _⟩ => ⟨S4096x1024, .f32⟩
  | .hbm, ⟨23, _⟩ => ⟨S4096x1536, .f32⟩
  | .hbm, ⟨24, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== GmlpFwd.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S4096x512 : Shape := ⟨2, ![4096, 512]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x512, .f32⟩
  | .hbm, ⟨2, _⟩ => ⟨S1x4x128x128, .f32⟩
  | .hbm, ⟨3, _⟩ => ⟨S1x4x128, .f32⟩
  | .hbm, ⟨4, _⟩ => ⟨S4x128x128, .f32⟩
  | .hbm, ⟨5, _⟩ => ⟨S4x128, .f32⟩
  | .hbm, ⟨6, _⟩ => ⟨S128x4, .f32⟩
  | .hbm, ⟨7, _⟩ => ⟨S4096x1024, .bf16⟩
  | .hbm, ⟨8, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x512, .f32⟩
  | .local _ .vmem, ⟨3, _⟩ => ⟨S4x128x128, .f32⟩
  | .local _ .vmem, ⟨4, _⟩ => ⟨S128x4, .f32⟩
  | .local _ .vmem, ⟨5, _⟩ => ⟨S512x512, .bf16⟩
  | .local _ .vmem, ⟨6, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GmlpFwdIdeal.lean ====
variable {F : FTy → Type} [FloatOps F] [Named F]
def κ : String → Option EReal := fun
  | "sqrt_half" => some (((Real.sqrt 2)⁻¹ : ℝ) : EReal)
  | _ => none
-- ==== GmlpFwdRefIdeal.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S1x4096x512 : Shape := ⟨3, ![1, 4096, 512]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S4096x512 : Shape := ⟨2, ![4096, 512]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x512, .f32⟩
  | .hbm, ⟨2, _⟩ => ⟨S1x4x128x128, .f32⟩
  | .hbm, ⟨3, _⟩ => ⟨S1x4x128, .f32⟩
  | .hbm, ⟨4, _⟩ => ⟨S1x4096x1024, .f32⟩
  | .hbm, ⟨5, _⟩ => ⟨S1x4096x512, .f32⟩
  | .hbm, ⟨6, _⟩ => ⟨S1x4096x512, .f32⟩
  | .hbm, ⟨7, _⟩ => ⟨S_, .f32⟩
  | .hbm, ⟨8, _⟩ => ⟨S1x4096x512, .f32⟩
  | .hbm, ⟨9, _⟩ => ⟨S1x4096x512, .f32⟩
  | .hbm, ⟨10, _⟩ => ⟨S_, .f32⟩
  | .hbm, ⟨11, _⟩ => ⟨S_, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S_, .f32⟩
  | .hbm, ⟨16, _⟩ => ⟨S1x4096x512, .f32⟩
  | .hbm, ⟨17, _⟩ => ⟨S1x4096x512, .f32⟩
  | .hbm, ⟨18, _⟩ => ⟨S1x4096x512, .f32⟩
  | .hbm, ⟨19, _⟩ => ⟨S_, .f32⟩
  | .hbm, ⟨20, _⟩ => ⟨S1x4096x512, .f32⟩
  | .hbm, ⟨21, _⟩ => ⟨S1x4096x512, .f32⟩
  | .hbm, ⟨22, _⟩ => ⟨S_, .f32⟩
  | .hbm, ⟨23, _⟩ => ⟨S_, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S_, .f32⟩
  | .hbm, ⟨28, _⟩ => ⟨S1x4096x512, .f32⟩
  | .hbm, ⟨29, _⟩ => ⟨S1x4096x512, .f32⟩
  | .hbm, ⟨30, _⟩ => ⟨S1x4096x512, .f32⟩
  | .hbm, ⟨31, _⟩ => ⟨S512, .f32⟩
  | .hbm, ⟨32, _⟩ => ⟨S4x128x128, .f32⟩
  | .hbm, ⟨33, _⟩ => ⟨S4x128, .f32⟩
  | .hbm, ⟨34, _⟩ => ⟨S1x4096x512, .f32⟩
  | .hbm, ⟨35, _⟩ => ⟨S_, .f32⟩
  | .hbm, ⟨36, _⟩ => ⟨S1x4096, .f32⟩
  | .hbm, ⟨37, _⟩ => ⟨S1x4096x1, .f32⟩
  | .hbm, ⟨38, _⟩ => ⟨S_, .f32⟩
  | .hbm, ⟨39, _⟩ => ⟨S1x4096x1, .f32⟩
  | .hbm, ⟨40, _⟩ => ⟨S1x4096x1, .f32⟩
  | .hbm, ⟨41, _⟩ => ⟨S_, .f32⟩
  | .hbm, ⟨42, _⟩ => ⟨S1x4096x1, .f32⟩
  | .hbm, ⟨43, _⟩ => ⟨S1x4096x1, .f32⟩
  | .hbm, ⟨44, _⟩ => ⟨S1x4096x1, .f32⟩
  | .hbm, ⟨45, _⟩ => ⟨S1x4096x512, .f32⟩
  | .hbm, ⟨46, _⟩ => ⟨S1x4096x512, .f32⟩
  | .hbm, ⟨47, _⟩ => ⟨S1x1x512, .f32⟩
  | .hbm, ⟨48, _⟩ => ⟨S1x4096x512, .f32⟩
  | .hbm, ⟨49, _⟩ => ⟨S1x4096x512, .f32⟩
  | .hbm, ⟨50, _⟩ => ⟨S1x32x128x4x128, .f32⟩
  | .hbm, ⟨51, _⟩ => ⟨S_, .i1⟩
  | .hbm, ⟨52, _⟩ => ⟨S128x128, .i1⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S_, .i1⟩
  | .hbm, ⟨60, _⟩ => ⟨S128x128, .i1⟩
  | .hbm, ⟨61, _⟩ => ⟨S128x128, .i1⟩
  | .hbm, ⟨62, _⟩ => ⟨S1x128x128, .i1⟩
  | .hbm, ⟨63, _⟩ => ⟨S_, .f32⟩
  | .hbm, ⟨64, _⟩ => ⟨S4x128x128, .f32⟩
  | .hbm, ⟨65, _⟩ => ⟨S4x128x128, .i1⟩
  | .hbm, ⟨66, _⟩ => ⟨S4x128x128, .f32⟩
  | .hbm, ⟨67, _⟩ => ⟨S4x1x32x128x128, .f32⟩
  | .hbm, ⟨68, _⟩ => ⟨S1x32x128x4x128, .f32⟩
  | .hbm, ⟨69, _⟩ => ⟨S128x4, .f32⟩
  | .hbm, ⟨70, _⟩ => ⟨S1x1x128x4x1, .f32⟩
  | .hbm, ⟨71, _⟩ => ⟨S1x32x128x4x128, .f32⟩
  | .hbm, ⟨72, _⟩ => ⟨S1x32x128x4x128, .f32⟩
  | .hbm, ⟨73, _⟩ => ⟨S1x4096x512, .f32⟩
  | .hbm, ⟨74, _⟩ => ⟨S1x4096x512, .f32⟩
  | .hbm, ⟨75, _⟩ => ⟨S4096x512, .f32⟩
  | .hbm, ⟨76, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_v38 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_0 : Ref sig .tc := ⟨.hbm, 59, rfl⟩
abbrev main_call0_v5 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_call1_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== AttnFwd.lean ====
abbrev S4096x1536 : Shape := ⟨2, ![4096, 1536]⟩
abbrev S4096x1024 : Shape := ⟨2, ![4096, 1024]⟩
abbrev S4x4096x128 : Shape := ⟨3, ![4, 4096, 128]⟩
abbrev S512x128 : Shape := ⟨2, ![512, 128]⟩
abbrev S4096x128 : Shape := ⟨2, ![4096, 128]⟩
abbrev S1x512x128 : Shape := ⟨3, ![1, 512, 128]⟩
abbrev S8192x128 : Shape := ⟨2, ![8192, 128]⟩
abbrev S512x256 : Shape := ⟨2, ![512, 256]⟩
abbrev S512x512 : Shape := ⟨2, ![512, 512]⟩
abbrev S1x128 : Shape := ⟨2, ![1, 128]⟩
abbrev S256x256 : Shape := ⟨2, ![256, 256]⟩
abbrev S1x256 : Shape := ⟨2, ![1, 256]⟩
abbrev S128x128 : Shape := ⟨2, ![128, 128]⟩
abbrev S256x128 : Shape := ⟨2, ![256, 128]⟩
abbrev S256x512 : Shape := ⟨2, ![256, 512]⟩
abbrev S1x256x128 : Shape := ⟨3, ![1, 256, 128]⟩
abbrev S256x1 : Shape := ⟨2, ![256, 1]⟩
abbrev S512x1 : Shape := ⟨2, ![512, 1]⟩

abbrev nBuf : Space → Nat
  | .hbm => 4
  | .vmem => 18
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1024, .bf16⟩
  | .hbm, ⟨3, _⟩ => ⟨S4x4096x128, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S8192x128, .bf16⟩
  | .local _ .vmem, ⟨11, _⟩ => ⟨S8192x128, .bf16⟩
  | .local _ .vmem, ⟨12, _⟩ => ⟨S512x128, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_7 : BitVec 32 := 0#32
  let v36 : BitVec 1 := Scalar.cmpi .ne v35 c0_i32_7
  v36

@[reducible] def k0_t1_loop : Scf.Loop 32 :=
  let c0_i32_150 : BitVec 32 := 0#32
  let c32_i32_151 : BitVec 32 := 32#32
  let v340 : BitVec 32 := Scalar.addi c0_i32_150 c32_i32_151
  let c1_i32_152 : BitVec 32 := 1#32
  ⟨c0_i32_150, v340, c1_i32_152⟩
def k0_mult1 (k0_t1 : Fin k0_t1_loop.trips) : BitVec 32 :=
  let c0_i32_150 : BitVec 32 := 0#32
  let c1_i32_152 : BitVec 32 := 1#32
  let arg16 : BitVec 32 := Scf.iv c0_i32_150 c1_i32_152 k0_t1
  let c128_i32_154 : BitVec 32 := 128#32
  let v341 : BitVec 32 := Scalar.muli arg16 c128_i32_154
  v341
def k0_mult2 (k0_t1 : Fin k0_t1_loop.trips) : BitVec 32 :=
  let c0_i32_150 : BitVec 32 := 0#32
  let c1_i32_152 : BitVec 32 := 1#32
  let arg16 : BitVec 32 := Scf.iv c0_i32_150 c1_i32_152 k0_t1
  let c2_i32_155 : BitVec 32 := 2#32
  let v343 : BitVec 32 := Scalar.muli arg16 c2_i32_155
  let c128_i32_156 : BitVec 32 := 128#32
  let v344 : BitVec 32 := Scalar.muli v343 c128_i32_156
  v344
def k0_mult3 (k0_t1 : Fin k0_t1_loop.trips) : BitVec 32 :=
  let c0_i32_150 : BitVec 32 := 0#32
  let c1_i32_152 : BitVec 32 := 1#32
  let arg16 : BitVec 32 := Scf.iv c0_i32_150 c1_i32_152 k0_t1
  let c2_i32_157 : BitVec 32 := 2#32
  let v346 : BitVec 32 := Scalar.muli arg16 c2_i32_157
  let c128_i32_158 : BitVec 32 := 128#32
  let v347 : BitVec 32 := Scalar.muli v346 c128_i32_158
  let c128_i32_159 : BitVec 32 := 128#32
  let v348 : BitVec 32 := Scalar.addi v347 c128_i32_159
  v348
def k0_off1 (k0_t1 : Fin k0_t1_loop.trips) : Fin 2 → Nat :=
  let c0_i32_150 : BitVec 32 := 0#32
  let c1_i32_152 : BitVec 32 := 1#32
  let arg16 : BitVec 32 := Scf.iv c0_i32_150 c1_i32_152 k0_t1
  let c128_i32_154 : BitVec 32 := 128#32
  let v341 : BitVec 32 := Scalar.muli arg16 c128_i32_154
  let v342 : BitVec 32 := v341
  let v350 : Index := Scalar.indexCast v342
  let c0_160 : Index := 0#32
  ![v350.toNat, 0]
def k0_off2 (k0_t1 : Fin k0_t1_loop.trips) : Fin 2 → Nat :=
  let c0_i32_150 : BitVec 32 := 0#32
  let c1_i32_152 : BitVec 32 := 1#32
  let arg16 : BitVec 32 := Scf.iv c0_i32_150 c1_i32_152 k0_t1
  let c2_i32_155 : BitVec 32 := 2#32
  let v343 : BitVec 32 := Scalar.muli arg16 c2_i32_155
  let c128_i32_156 : BitVec 32 := 128#32
  let v344 : BitVec 32 := Scalar.muli v343 c128_i32_156
  let v345 : BitVec 32 := v344
  let v358 : Index := Scalar.indexCast v345
  let c0_163 : Index := 0#32
  ![v358.toNat, 0]
def k0_off3 (k0_t1 : Fin k0_t1_loop.trips) : Fin 2 → Nat :=
  let c0_i32_150 : BitVec 32 := 0#32
  let c1_i32_152 : BitVec 32 := 1#32
  let arg16 : BitVec 32 := Scf.iv c0_i32_150 c1_i32_152 k0_t1
  let c2_i32_157 : BitVec 32 := 2#32
  let v346 : BitVec 32 := Scalar.muli arg16 c2_i32_157
  let c128_i32_158 : BitVec 32 := 128#32
  let v347 : BitVec 32 := Scalar.muli v346 c128_i32_158
  let c128_i32_159 : BitVec 32 := 128#32
  let v348 : BitVec 32 := Scalar.addi v347 c128_i32_159
  let v349 : BitVec 32 := v348
  let v365 : Index := Scalar.indexCast v349
  let c0_164 : Index := 0#32
  ![v365.toNat, 0]
def k0_mult4 (i : grid0.Coords) : BitVec 32 :=
  let c2_i32 : BitVec 32 := 2#32
  let arg1 : BitVec 32 := BitVec.ofNat 32 (i 1).val
  let v58 : BitVec 32 := Scalar.muli c2_i32 arg1
  let c1_i32 : BitVec 32 := 1#32
  let v59 : BitVec 32 := Scalar.addi v58 c1_i32
  let c4_i32 : BitVec 32 := 4#32
  let v61 : BitVec 32 := Scalar.muli v59 c4_i32
  let c128_i32_21 : BitVec 32 := 128#32
  let v62 : BitVec 32 := Scalar.muli v61 c128_i32_21
  v62
def k0_off4 (i : grid0.Coords) : Fin 2 → Nat :=
  let c2_i32 : BitVec 32 := 2#32
  let arg1 : BitVec 32 := BitVec.ofNat 32 (i 1).val
  let v58 : BitVec 32 := Scalar.muli c2_i32 arg1
  let c1_i32 : BitVec 32 := 1#32
  let v59 : BitVec 32 := Scalar.addi v58 c1_i32
  let c4_i32 : BitVec 32 := 4#32
  let v61 : BitVec 32 := Scalar.muli v59 c4_i32
  let c128_i32_21 : BitVec 32 := 128#32
  let v62 : BitVec 32 := Scalar.muli v61 c128_i32_21
  let v63 : BitVec 32 := v62
  let v64 : Index := Scalar.indexCast v63
  let c0_22 : Index := 0#32
  ![v64.toNat, 0]
def k0_mult5 (i : grid0.Coords) : BitVec 32 :=
  let c2_i32_36 : BitVec 32 := 2#32
  let arg1 : BitVec 32 := BitVec.ofNat 32 (i 1).val
  let v97 : BitVec 32 := Scalar.muli c2_i32_36 arg1
  let c4_i32_37 : BitVec 32 := 4#32
  let v98 : BitVec 32 := Scalar.muli v97 c4_i32_37
  let c128_i32_38 : BitVec 32 := 128#32
  let v99 : BitVec 32 := Scalar.muli v98 c128_i32_38
  v99
def k0_off5 (i : grid0.Coords) : Fin 2 → Nat :=
  let c2_i32_36 : BitVec 32 := 2#32
  let arg1 : BitVec 32 := BitVec.ofNat 32 (i 1).val
  let v97 : BitVec 32 := Scalar.muli c2_i32_36 arg1
  let c4_i32_37 : BitVec 32 := 4#32
  let v98 : BitVec 32 := Scalar.muli v97 c4_i32_37
  let c128_i32_38 : BitVec 32 := 128#32
  let v99 : BitVec 32 := Scalar.muli v98 c128_i32_38
  let v100 : BitVec 32 := v99
  let v101 : Index := Scalar.indexCast v100
  let c0_39 : Index := 0#32
  ![v101.toNat, 0]
def k0_mult6 (i : grid0.Coords) : BitVec 32 :=
  let c2_i32_54 : BitVec 32 := 2#32
  let arg1 : BitVec 32 := BitVec.ofNat 32 (i 1).val
  let v133 : BitVec 32 := Scalar.muli c2_i32_54 arg1
  let c1_i32_55 : BitVec 32 := 1#32
  let v134 : BitVec 32 := Scalar.addi v133 c1_i32_55
  let c4_i32_93 : BitVec 32 := 4#32
  let v223 : BitVec 32 := Scalar.muli v134 c4_i32_93
  let c128_i32_94 : BitVec 32 := 128#32
  let v224 : BitVec 32 := Scalar.muli v223 c128_i32_94
  v224
def k0_mult7 (i : grid0.Coords) : BitVec 32 :=
  let c2_i32_99 : BitVec 32 := 2#32
  let arg1 : BitVec 32 := BitVec.ofNat 32 (i 1).val
  let v233 : BitVec 32 := Scalar.muli c2_i32_99 arg1
  let c4_i32_138 : BitVec 32 := 4#32
  let v322 : BitVec 32 := Scalar.muli v233 c4_i32_138
  let c128_i32_139 : BitVec 32 := 128#32
  let v323 : BitVec 32 := Scalar.muli v322 c128_i32_139
  v323
def k0_cond2 (i : grid0.Coords) : BitVec 1 :=
  let arg1 : BitVec 32 := BitVec.ofNat 32 (i 1).val
  let c0_i32_144 : BitVec 32 := 0#32
  let v332 : BitVec 1 := Scalar.cmpi .sgt arg1 c0_i32_144
  let v333 : BitVec 32 := Scalar.extui v332
  let c0_i32_145 : BitVec 32 := 0#32
  let v334 : BitVec 1 := Scalar.cmpi .ne v333 c0_i32_145
  v334

def k0_mult8 (i : grid0.Coords) : BitVec 32 :=
  let c2_i32_150 : BitVec 32 := 2#32
  let arg1 : BitVec 32 := BitVec.ofNat 32 (i 1).val
  let v338 : BitVec 32 := Scalar.muli c2_i32_150 arg1
  let c1_i32_151 : BitVec 32 := 1#32
  let v339 : BitVec 32 := Scalar.subi v338 c1_i32_151
  let c4_i32_152 : BitVec 32 := 4#32
  let v340 : BitVec 32 := Scalar.muli v339 c4_i32_152
  let c128_i32_153 : BitVec 32 := 128#32
  let v341 : BitVec 32 := Scalar.muli v340 c128_i32_153
  v341
def k0_off6 (i : grid0.Coords) : Fin 2 → Nat :=
  let c2_i32_150 : BitVec 32 := 2#32
  let arg1 : BitVec 32 := BitVec.ofNat 32 (i 1).val
  let v338 : BitVec 32 := Scalar.muli c2_i32_150 arg1
  let c1_i32_151 : BitVec 32 := 1#32
  let v339 : BitVec 32 := Scalar.subi v338 c1_i32_151
  let c4_i32_152 : BitVec 32 := 4#32
  let v340 : BitVec 32 := Scalar.muli v339 c4_i32_152
  let c128_i32_153 : BitVec 32 := 128#32
  let v341 : BitVec 32 := Scalar.muli v340 c128_i32_153
  let v342 : BitVec 32 := v341
  let v343 : Index := Scalar.indexCast v342
  let c0_154 : Index := 0#32
  ![v343.toNat, 0]
@[reducible] def k0_t2_loop (i : grid0.Coords) : Scf.Loop 32 :=
  let c0_i32_170 : BitVec 32 := 0#32
  let arg1 : BitVec 32 := BitVec.ofNat 32 (i 1).val
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let c1_i32_172 : BitVec 32 := 1#32
  ⟨c0_i32_170, v378, c1_i32_172⟩
def k0_mult9 (i : grid0.Coords) (k0_t2 : Fin (k0_t2_loop i).trips) : BitVec 32 :=
  let c2_i32_263 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_172 : BitVec 32 := 1#32
  let arg16 : BitVec 32 := Scf.iv c0_i32_170 c1_i32_172 k0_t2
  let v579 : BitVec 32 := Scalar.subi v578 arg16
  let v580 : BitVec 32 := Scalar.muli c2_i32_263 v579
  let c4_i32_264 : BitVec 32 := 4#32
  let v581 : BitVec 32 := Scalar.muli v580 c4_i32_264
  let c128_i32_265 : BitVec 32 := 128#32
  let v582 : BitVec 32 := Scalar.muli v581 c128_i32_265
  v582
def k0_off7 (i : grid0.Coords) (k0_t2 : Fin (k0_t2_loop i).trips) : Fin 2 → Nat :=
  let c2_i32_263 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_172 : BitVec 32 := 1#32
  let arg16 : BitVec 32 := Scf.iv c0_i32_170 c1_i32_172 k0_t2
  let v579 : BitVec 32 := Scalar.subi v578 arg16
  let v580 : BitVec 32 := Scalar.muli c2_i32_263 v579
  let c4_i32_264 : BitVec 32 := 4#32
  let v581 : BitVec 32 := Scalar.muli v580 c4_i32_264
  let c128_i32_265 : BitVec 32 := 128#32
  let v582 : BitVec 32 := Scalar.muli v581 c128_i32_265
  let v583 : BitVec 32 := v582
  let v584 : Index := Scalar.indexCast v583
  let c0_266 : Index := 0#32
  ![v584.toNat, 0]
def k0_mult10 (i : grid0.Coords) (k0_t2 : Fin (k0_t2_loop i).trips) : BitVec 32 :=
  let c2_i32_280 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_172 : BitVec 32 := 1#32
  let arg16 : BitVec 32 := Scf.iv c0_i32_170 c1_i32_172 k0_t2
  let v579 : BitVec 32 := Scalar.subi v578 arg16
  let v614 : BitVec 32 := Scalar.muli c2_i32_280 v579
  let c1_i32_281 : BitVec 32 := 1#32
  let v615 : BitVec 32 := Scalar.addi v614 c1_i32_281
  let c4_i32_318 : BitVec 32 := 4#32
  let v698 : BitVec 32 := Scalar.muli v615 c4_i32_318
  let c128_i32_319 : BitVec 32 := 128#32
  let v699 : BitVec 32 := Scalar.muli v698 c128_i32_319
  v699
def k0_off8 (i : grid0.Coords) (k0_t2 : Fin (k0_t2_loop i).trips) : Fin 2 → Nat :=
  let c2_i32_280 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_172 : BitVec 32 := 1#32
  let arg16 : BitVec 32 := Scf.iv c0_i32_170 c1_i32_172 k0_t2
  let v579 : BitVec 32 := Scalar.subi v578 arg16
  let v614 : BitVec 32 := Scalar.muli c2_i32_280 v579
  let c1_i32_281 : BitVec 32 := 1#32
  let v615 : BitVec 32 := Scalar.addi v614 c1_i32_281
  let c4_i32_318 : BitVec 32 := 4#32
  let v698 : BitVec 32 := Scalar.muli v615 c4_i32_318
  let c128_i32_319 : BitVec 32 := 128#32
  let v699 : BitVec 32 := Scalar.muli v698 c128_i32_319
  let v700 : BitVec 32 := v699
  let v701 : Index := Scalar.indexCast v700
  let c0_320 : Index := 0#32
  ![v701.toNat, 0]
def k0_mult11 (i : grid0.Coords) (k0_t2 : Fin (k0_t2_loop i).trips) : BitVec 32 :=
  let c2_i32_324 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_172 : BitVec 32 := 1#32
  let arg16 : BitVec 32 := Scf.iv c0_i32_170 c1_i32_172 k0_t2
  let v579 : BitVec 32 := Scalar.subi v578 arg16
  let v708 : BitVec 32 := Scalar.muli c2_i32_324 v579
  let c1_i32_325 : BitVec 32 := 1#32
  let v709 : BitVec 32 := Scalar.subi v708 c1_i32_325
  let c4_i32_326 : BitVec 32 := 4#32
  let v710 : BitVec 32 := Scalar.muli v709 c4_i32_326
  let c128_i32_327 : BitVec 32 := 128#32
  let v711 : BitVec 32 := Scalar.muli v710 c128_i32_327
  v711
def k0_off9 (i : grid0.Coords) (k0_t2 : Fin (k0_t2_loop i).trips) : Fin 2 → Nat :=
  let c2_i32_324 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_172 : BitVec 32 := 1#32
  let arg16 : BitVec 32 := Scf.iv c0_i32_170 c1_i32_172 k0_t2
  let v579 : BitVec 32 := Scalar.subi v578 arg16
  let v708 : BitVec 32 := Scalar.muli c2_i32_324 v579
  let c1_i32_325 : BitVec 32 := 1#32
  let v709 : BitVec 32 := Scalar.subi v708 c1_i32_325
  let c4_i32_326 : BitVec 32 := 4#32
  let v710 : BitVec 32 := Scalar.muli v709 c4_i32_326
  let c128_i32_327 : BitVec 32 := 128#32
  let v711 : BitVec 32 := Scalar.muli v710 c128_i32_327
  let v712 : BitVec 32 := v711
  let v713 : Index := Scalar.indexCast v712
  let c0_328 : Index := 0#32
  ![v713.toNat, 0]
def k0_mult12 (i : grid0.Coords) (k0_t2 : Fin (k0_t2_loop i).trips) : BitVec 32 :=
  let c2_i32_342 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_172 : BitVec 32 := 1#32
  let arg16 : BitVec 32 := Scf.iv c0_i32_170 c1_i32_172 k0_t2
  let v579 : BitVec 32 := Scalar.subi v578 arg16
  let v743 : BitVec 32 := Scalar.muli c2_i32_342 v579
  let c4_i32_379 : BitVec 32 := 4#32
  let v826 : BitVec 32 := Scalar.muli v743 c4_i32_379
  let c128_i32_380 : BitVec 32 := 128#32
  let v827 : BitVec 32 := Scalar.muli v826 c128_i32_380
  v827
@[reducible] def k0_t3_loop (i : grid0.Coords) : Scf.Loop 32 :=
  let c0_i32_170 : BitVec 32 := 0#32
  let arg1 : BitVec 32 := BitVec.ofNat 32 (i 1).val
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let v375 : BitVec 32 := Scalar.addi c0_i32_170 v374
  let c1_i32_173 : BitVec 32 := 1#32
  ⟨v378, v375, c1_i32_173⟩
def k0_mult13 (i : grid0.Coords) (k0_t3 : Fin (k0_t3_loop i).trips) : BitVec 32 :=
  let c2_i32_263 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let c1_i32_173 : BitVec 32 := 1#32
  let arg16 : BitVec 32 := Scf.iv v378 c1_i32_173 k0_t3
  let v579 : BitVec 32 := Scalar.subi v578 arg16
  let v580 : BitVec 32 := Scalar.muli c2_i32_263 v579
  let c4_i32_264 : BitVec 32 := 4#32
  let v581 : BitVec 32 := Scalar.muli v580 c4_i32_264
  let c128_i32_265 : BitVec 32 := 128#32
  let v582 : BitVec 32 := Scalar.muli v581 c128_i32_265
  v582
def k0_off10 (i : grid0.Coords) (k0_t3 : Fin (k0_t3_loop i).trips) : Fin 2 → Nat :=
  let c2_i32_263 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let c1_i32_173 : BitVec 32 := 1#32
  let arg16 : BitVec 32 := Scf.iv v378 c1_i32_173 k0_t3
  let v579 : BitVec 32 := Scalar.subi v578 arg16
  let v580 : BitVec 32 := Scalar.muli c2_i32_263 v579
  let c4_i32_264 : BitVec 32 := 4#32
  let v581 : BitVec 32 := Scalar.muli v580 c4_i32_264
  let c128_i32_265 : BitVec 32 := 128#32
  let v582 : BitVec 32 := Scalar.muli v581 c128_i32_265
  let v583 : BitVec 32 := v582
  let v584 : Index := Scalar.indexCast v583
  let c0_266 : Index := 0#32
  ![v584.toNat, 0]
def k0_mult14 (i : grid0.Coords) (k0_t3 : Fin (k0_t3_loop i).trips) : BitVec 32 :=
  let c2_i32_280 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let c1_i32_173 : BitVec 32 := 1#32
  let arg16 : BitVec 32 := Scf.iv v378 c1_i32_173 k0_t3
  let v579 : BitVec 32 := Scalar.subi v578 arg16
  let v614 : BitVec 32 := Scalar.muli c2_i32_280 v579
  let c1_i32_281 : BitVec 32 := 1#32
  let v615 : BitVec 32 := Scalar.addi v614 c1_i32_281
  let c4_i32_318 : BitVec 32 := 4#32
  let v698 : BitVec 32 := Scalar.muli v615 c4_i32_318
  let c128_i32_319 : BitVec 32 := 128#32
  let v699 : BitVec 32 := Scalar.muli v698 c128_i32_319
  v699
def k0_off11 (i : grid0.Coords) (k0_t3 : Fin (k0_t3_loop i).trips) : Fin 2 → Nat :=
  let c2_i32_280 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let c1_i32_173 : BitVec 32 := 1#32
  let arg16 : BitVec 32 := Scf.iv v378 c1_i32_173 k0_t3
  let v579 : BitVec 32 := Scalar.subi v578 arg16
  let v614 : BitVec 32 := Scalar.muli c2_i32_280 v579
  let c1_i32_281 : BitVec 32 := 1#32
  let v615 : BitVec 32 := Scalar.addi v614 c1_i32_281
  let c4_i32_318 : BitVec 32 := 4#32
  let v698 : BitVec 32 := Scalar.muli v615 c4_i32_318
  let c128_i32_319 : BitVec 32 := 128#32
  let v699 : BitVec 32 := Scalar.muli v698 c128_i32_319
  let v700 : BitVec 32 := v699
  let v701 : Index := Scalar.indexCast v700
  let c0_320 : Index := 0#32
  ![v701.toNat, 0]
def k0_mult15 (i : grid0.Coords) (k0_t3 : Fin (k0_t3_loop i).trips) : BitVec 32 :=
  let c2_i32_324 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let c1_i32_173 : BitVec 32 := 1#32
  let arg16 : BitVec 32 := Scf.iv v378 c1_i32_173 k0_t3
  let v579 : BitVec 32 := Scalar.subi v578 arg16
  let v708 : BitVec 32 := Scalar.muli c2_i32_324 v579
  let c1_i32_325 : BitVec 32 := 1#32
  let v709 : BitVec 32 := Scalar.subi v708 c1_i32_325
  let c4_i32_326 : BitVec 32 := 4#32
  let v710 : BitVec 32 := Scalar.muli v709 c4_i32_326
  let c128_i32_327 : BitVec 32 := 128#32
  let v711 : BitVec 32 := Scalar.muli v710 c128_i32_327
  v711
def k0_off12 (i : grid0.Coords) (k0_t3 : Fin (k0_t3_loop i).trips) : Fin 2 → Nat :=
  let c2_i32_324 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let c1_i32_173 : BitVec 32 := 1#32
  let arg16 : BitVec 32 := Scf.iv v378 c1_i32_173 k0_t3
  let v579 : BitVec 32 := Scalar.subi v578 arg16
  let v708 : BitVec 32 := Scalar.muli c2_i32_324 v579
  let c1_i32_325 : BitVec 32 := 1#32
  let v709 : BitVec 32 := Scalar.subi v708 c1_i32_325
  let c4_i32_326 : BitVec 32 := 4#32
  let v710 : BitVec 32 := Scalar.muli v709 c4_i32_326
  let c128_i32_327 : BitVec 32 := 128#32
  let v711 : BitVec 32 := Scalar.muli v710 c128_i32_327
  let v712 : BitVec 32 := v711
  let v713 : Index := Scalar.indexCast v712
  let c0_328 : Index := 0#32
  ![v713.toNat, 0]
def k0_mult16 (i : grid0.Coords) (k0_t3 : Fin (k0_t3_loop i).trips) : BitVec 32 :=
  let c2_i32_342 : BitVec 32 := 2#32
  let arg1 : BitVec 32 := BitVec.ofNat 32 (i 1).val
  let c1_i32_262 : BitVec 32 := 1#32
  let v578 : BitVec 32 := Scalar.subi arg1 c1_i32_262
  let c0_i32_170 : BitVec 32 := 0#32
  let c1_i32_168 : BitVec 32 := 1#32
  let v373 : BitVec 32 := Scalar.subi arg1 c1_i32_168
  let v374 : BitVec 32 := Scalar.subi v373 c0_i32_170
  let c1_i32_171 : BitVec 32 := 1#32
  let v376 : BitVec 32 := Scalar.divsi v374 c1_i32_171
  let v377 : BitVec 32 := Scalar.muli v376 c1_i32_171
  let v378 : BitVec 32 := Scalar.addi c0_i32_170 v377
  let c1_i32_173 : BitVec 32 := 1#32
  let arg16 : BitVec 32 := Scf.iv v378 c1_i32_173 k0_t3
  let v579 : BitVec 32 := Scalar.subi v578 arg16
  let v743 : BitVec 32 := Scalar.muli c2_i32_342 v579
  let c4_i32_379 : BitVec 32 := 4#32
  let v826 : BitVec 32 := Scalar.muli v743 c4_i32_379
  let c128_i32_380 : BitVec 32 := 128#32
  let v827 : BitVec 32 := Scalar.muli v826 c128_i32_380
  v827
def k0_mult17 : BitVec 32 :=
  let c0_i32_174 : BitVec 32 := 0#32
  c0_i32_174
def k0_mult18 : BitVec 32 :=
  let c512_i32 : BitVec 32 := 512#32
  c512_i32
def k0_mult19 : BitVec 32 :=
  let c0_i32_257 : BitVec 32 := 0#32
  c0_i32_257
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "log2_e_inv" => some (((Real.log 2)⁻¹ : ℝ) : EReal)
  | "scale_log2_e" => some ((8⁻¹ * (Real.log 2)⁻¹ : ℝ) : EReal)
  | _ => none
-- ==== AttnFwdRefIdeal.lean ====
abbrev S4096x1536 : Shape := ⟨2, ![4096, 1536]⟩
abbrev S4096x1024 : Shape := ⟨2, ![4096, 1024]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x64x4096 : Shape := ⟨3, ![8, 64, 4096]⟩
abbrev S8x4096x32x128 : Shape := ⟨4, ![8, 4096, 32, 128]⟩
abbrev S8x4096x32x1 : Shape := ⟨4, ![8, 4096, 32, 1]⟩
abbrev S8x4096x32 : Shape := ⟨3, ![8, 4096, 32]⟩
abbrev S4x2x4096x32 : Shape := ⟨4, ![4, 2, 4096, 32]⟩
abbrev S4x4096x2x32 : Shape := ⟨4, ![4, 4096, 2, 32]⟩
abbrev S4x4096x64 : Shape := ⟨3, ![4, 4096, 64]⟩
abbrev S4x4096x128 : Shape := ⟨3, ![4, 4096, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .f32⟩
  | .hbm, ⟨6, _⟩ => ⟨S4096x8x64, .f32⟩
  | .hbm, ⟨7, _⟩ => ⟨S4096x512, .f32⟩
  | .hbm, ⟨8, _⟩ => ⟨S4096x8x64, .f32⟩
  | .hbm, ⟨9, _⟩ => ⟨S4096x512, .f32⟩
  | .hbm, ⟨10, _⟩ => ⟨S4096x8x64, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x1x4096, .i32⟩
  | .hbm, ⟨17, _⟩ => ⟨S4096, .i32⟩
  | .hbm, ⟨18, _⟩ => ⟨S1x4096x1, .i32⟩
  | .hbm, ⟨19, _⟩ => ⟨S1x4096x4096, .i32⟩
  | .hbm, ⟨20, _⟩ => ⟨S1x4096x4096, .i32⟩
  | .hbm, ⟨21, _⟩ => ⟨S1x4096x4096, .i1⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .i1⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S_, .f32⟩
  | .hbm, ⟨66, _⟩ => ⟨S8x4096x4096, .i1⟩
  | .hbm, ⟨67, _⟩ => ⟨S8x4096x4096, .f32⟩
  | .hbm, ⟨68, _⟩ => ⟨S8x4096x4096, .f32⟩
  | .hbm, ⟨69, _⟩ => ⟨S8x64x4096, .f32⟩
  | .hbm, ⟨70, _⟩ => ⟨S4096x8x64, .f32⟩
  | .hbm, ⟨71, _⟩ => ⟨S4096x512, .f32⟩
  | .hbm, ⟨72, _⟩ => ⟨S4096x512, .bf16⟩
  | .hbm, ⟨73, _⟩ => ⟨S4096x512, .bf16⟩
  | .hbm, ⟨74, _⟩ => ⟨S4096x1024, .bf16⟩
  | .hbm, ⟨75, _⟩ => ⟨S8x4096x32x128, .f32⟩
  | .hbm, ⟨76, _⟩ => ⟨S8x4096x32x1, .f32⟩
  | .hbm, ⟨77, _⟩ => ⟨S8x4096x32, .f32⟩
  | .hbm, ⟨78, _⟩ => ⟨S8x4096x32, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8x4096x32, .f32⟩
  | .hbm, ⟨83, _⟩ => ⟨S8x4096x32, .f32⟩
  | .hbm, ⟨84, _⟩ => ⟨S4x2x4096x32, .f32⟩
  | .hbm, ⟨85, _⟩ => ⟨S4x4096x2x32, .f32⟩
  | .hbm, ⟨86, _⟩ => ⟨S4x4096x64, .f32⟩
  | .hbm, ⟨87, _⟩ => ⟨S_, .f32⟩
  | .hbm, ⟨88, _⟩ => ⟨S4x4096x64, .f32⟩
  | .hbm, ⟨89, _⟩ => ⟨S4x4096x128, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_call2_cst : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_2 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_3 : Ref sig .tc := ⟨.hbm, 87, rfl⟩
abbrev main_v45 : Ref sig .tc := ⟨.hbm, 88, rfl⟩
abbrev main_v46 : Ref sig .tc := ⟨.hbm, 89, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutFwdRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutBwdRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wgrad.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .hbm, ⟨3, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== WgradRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamW.lean ====
abbrev S1024x1408 : Shape := ⟨2, ![1024, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.Norm.lean ====
/-
  One row of an RMS norm and its gradient, over the extended reals: `y k = h k * r * g k` with
  `r = (mean of the squares + ε)^(-1/2)`. The kernels write the gradient with `r * r * r` and one term; the gradient of the
  reference writes `r / (mean + ε)` and meets each row's own entry twice. The two are the same at every value,
  the infinite ones among them. `w` is the float word of the row's length, `Len w` that it is a positive real.
-/
module

public import Idealize.ShloMosaic.PureOps.Ideal
public import Idealize.ShloMosaic.PureOps.Ideal.Laws
public import Idealize.ShloMosaic.Lib.Pointwise

@[expose] public section

noncomputable section

open Idealize.ShloMosaic

namespace Cert.Common

/-- The float words that stand in the norms: the row's length, ε, minus one half. -/
theorem word_1024 : Ideal.ofBits .f32 0x44800000#32 = ((1024 : ℝ) : EReal) := by
  simp [Ideal.ofBits, Ideal.ieee]; rw [← EReal.coe_mul]; norm_num

theorem word_512 : Ideal.ofBits .f32 0x44000000#32 = ((512 : ℝ) : EReal) := by
  simp [Ideal.ofBits, Ideal.ieee]; rw [← EReal.coe_mul]; norm_num

/-- The word is a row's length. -/
def Len (w : BitVec 32) : Prop := ∃ r : ℝ, 0 < r ∧ Ideal.ofBits .f32 w = (r : EReal)

theorem len_1024 : Len 0x44800000#32 := ⟨1024, by norm_num, word_1024⟩
theorem len_512 : Len 0x44000000#32 := ⟨512, by norm_num, word_512⟩

theorem word_neg_half : Ideal.ofBits .f32 0xBF000000#32 = ((-(1 / 2) : ℝ) : EReal) := by
  simp [Ideal.ofBits, Ideal.ieee]; rw [← EReal.coe_mul]; norm_num

theorem word_eps_pos : 0 < Ideal.ofBits .f32 0x358637BD#32 := by
  simp [Ideal.ofBits, Ideal.ieee, -EReal.coe_mul]

theorem mul_self_nonneg (x : EReal) : 0 ≤ x * x := by
  induction x with
  | bot => simp
  | top => simp
  | coe r => rw [← EReal.coe_mul]; exact_mod_cast _root_.mul_self_nonneg r

theorem Len.div {w : BitVec 32} (hw : Len w) : ∃ r : ℝ, 0 < r ∧ ∀ x, Ideal.div x (Ideal.ofBits .f32 w) = x * (r : EReal) := by
  obtain ⟨r, hr, e⟩ := hw
  refine ⟨r⁻¹, inv_pos.mpr hr, fun x => ?_⟩
  rw [e, Ideal.div, if_neg (by exact_mod_cast hr.ne'), EReal.coe_inv]

/-- The mean of the squares of a row, ε added. -/
def meanSq (w : BitVec 32) {n : ℕ} (h : Fin n → EReal) : EReal :=
  Ideal.div (∑ k, h k * h k) (Ideal.ofBits .f32 w) + Ideal.ofBits .f32 0x358637BD#32

theorem meanSq_pos {w : BitVec 32} (hw : Len w) {n : ℕ} (h : Fin n → EReal) : 0 < meanSq w h := by
  obtain ⟨r, hr, e⟩ := hw.div
  unfold meanSq
  rw [e]
  exact lt_of_lt_of_le word_eps_pos (le_add_of_nonneg_left (mul_nonneg (Finset.sum_nonneg fun k _ => mul_self_nonneg _)
    (by exact_mod_cast hr.le)))

/-- At a positive argument the cube of the inverse square root is the inverse square root over the argument. -/
theorem rsqrt_cube {x : EReal} (hx : 0 < x) : Ideal.rsqrt x * Ideal.rsqrt x * Ideal.rsqrt x = Ideal.div (Ideal.rsqrt x) x := by
  rw [Ideal.div, if_neg hx.ne']
  induction x with
  | bot => exact absurd hx (by simp)
  | top => simp
  | coe r =>
    have hr : (0 : ℝ) < r := by exact_mod_cast hx
    rw [Ideal.rsqrt_coe, if_neg (not_lt.mpr hr.le), if_neg hr.ne', ← EReal.coe_inv, ← EReal.coe_mul, ← EReal.coe_mul, ← EReal.coe_mul]
    congr 1
    have hs : Real.sqrt r * Real.sqrt r = r := Real.mul_self_sqrt hr.le
    rw [mul_assoc, mul_comm, ← mul_inv, hs]
    ring

/-- Twice minus a half of a value is the value with its sign changed. -/
theorem neg_half_twice (u : EReal) :
    Ideal.ofBits .f32 0xBF000000#32 * u + Ideal.ofBits .f32 0xBF000000#32 * u = -u := by
  rw [word_neg_half]
  induction u with
  | bot => rw [EReal.coe_mul_bot_of_neg (by norm_num)]; simp
  | top => rw [EReal.coe_mul_top_of_neg (by norm_num)]; simp
  | coe r => rw [← EReal.coe_mul, ← EReal.coe_add, ← EReal.coe_neg]; congr 1; ring

/-- The row's factor that both terms of the reference's gradient share. -/
def half (w : BitVec 32) {n : ℕ} (h dy g : Fin n → EReal) : EReal :=
  Ideal.div ((∑ k, h k * (dy k * g k)) * (Ideal.ofBits .f32 0xBF000000#32 * Ideal.div (Ideal.rsqrt (meanSq w h)) (meanSq w h)))
    (Ideal.ofBits .f32 w)

/-- The kernels' gradient of a row at the entry `k`. -/
def grad (w : BitVec 32) {n : ℕ} (h dy g : Fin n → EReal) (k : Fin n) : EReal :=
  Ideal.rsqrt (meanSq w h) * (dy k * g k)
    - h k * (Ideal.rsqrt (meanSq w h) * Ideal.rsqrt (meanSq w h) * Ideal.rsqrt (meanSq w h))
      * Ideal.div (∑ k, dy k * g k * h k) (Ideal.ofBits .f32 w)

theorem half_twice {w : BitVec 32} (hw : Len w) {n : ℕ} (h dy g : Fin n → EReal) (k : Fin n) :
    h k * half w h dy g + half w h dy g * h k
      = -(h k * (Ideal.rsqrt (meanSq w h) * Ideal.rsqrt (meanSq w h) * Ideal.rsqrt (meanSq w h))
        * Ideal.div (∑ k, dy k * g k * h k) (Ideal.ofBits .f32 w)) := by
  obtain ⟨r, _, hr⟩ := hw.div
  rw [rsqrt_cube (meanSq_pos hw h), mul_comm (half w h dy g), ← neg_half_twice]
  have e : (∑ k, h k * (dy k * g k)) = ∑ k, dy k * g k * h k := Finset.sum_congr rfl fun k _ => mul_comm _ _
  unfold half
  simp only [hr, e]
  have : h k * ((∑ k, dy k * g k * h k) * (Ideal.ofBits .f32 0xBF000000#32 * Ideal.div (Ideal.rsqrt (meanSq w h)) (meanSq w h)) * (r : EReal))
      = Ideal.ofBits .f32 0xBF000000#32 * (h k * Ideal.div (Ideal.rsqrt (meanSq w h)) (meanSq w h) * ((∑ k, dy k * g k * h k) * (r : EReal))) := by
    ac_rfl
  rw [this]

/-- The gradient of a row, what comes along the residual added: the reference's three terms are the kernels' two. -/
theorem grad_eq {w : BitVec 32} (hw : Len w) {n : ℕ} (h dy g : Fin n → EReal) (b : EReal) (k : Fin n) :
    b + dy k * g k * Ideal.rsqrt (meanSq w h) + h k * half w h dy g + half w h dy g * h k = b + grad w h dy g k := by
  rw [add_assoc (b + _), half_twice hw, grad, sub_eq_add_neg, add_assoc, mul_comm (dy k * g k)]

end Cert.Common

end
-- ==== Proof.Mix.Value.lean ====
/-
  The gradient of the mixer's input projection and its norm: what the kernel's three arrays hold after its run, over the
  arguments' arrays, and that the reference's three results are these.
-/
module

public import proofs.«01_k».proof.Proof.Common.Norm
public import proofs.«01_k».proof.Proof.Gen.MixBwdIdeal.Value
public import proofs.«01_k».proof.Proof.Gen.MixRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixBwdIdeal.Mix

open Cert.MixBwdIdeal Cert.MixBwdIdeal.Gen Cert.Common

/-! ## The three results, over the arguments' arrays -/

/-- The cotangent of the normed row: the projection's cotangent against the weight's rows. -/
def dn (dz : FVec Ideal S4096x2560 .bf16) (w : FVec Ideal S1x1024x2560 .f32) (p : Fin 4096) (k : Fin 1024) : EReal :=
  ∑ j : Fin 2560, dz (ix2 p j) * w (ix3 0 k j)

/-- A row's gradient, what comes along the residual added. -/
def dh (dres : FVec Ideal S4096x1024 .f32) (dz : FVec Ideal S4096x2560 .bf16) (w : FVec Ideal S1x1024x2560 .f32)
    (h : FVec Ideal S4096x1024 .f32) (g : FVec Ideal S1x1024 .f32) : FVec Ideal S4096x1024 .f32 := fun i =>
  dres i + grad 0x44800000#32 (fun k : Fin 1024 => h (ix2 (i 0) k)) (fun k => dn dz w (i 0) k) (fun k => g (ix2 0 k)) (i 1)

/-- The normed rows. -/
def nrm (h : FVec Ideal S4096x1024 .f32) (g : FVec Ideal S1x1024 .f32) : FVec Ideal S4096x1024 .bf16 := fun i =>
  h i * Ideal.rsqrt (meanSq 0x44800000#32 fun k : Fin 1024 => h (ix2 (i 0) k)) * g (ix2 0 (i 1))

/-- The gain's gradient. -/
def dg (dz : FVec Ideal S4096x2560 .bf16) (w : FVec Ideal S1x1024x2560 .f32)
    (h : FVec Ideal S4096x1024 .f32) : FVec Ideal S1x1024 .f32 := fun j =>
  ∑ p : Fin 4096, dn dz w p (j 1) * h (ix2 p (j 1)) * Ideal.rsqrt (meanSq 0x44800000#32 fun k : Fin 1024 => h (ix2 p k))

/-! ## The kernel -/

variable (m : (ℓ : Loc nD τ sig) → Buf (Elt Ideal) ℓ)

abbrev aDres (c : Dev nD) : FVec Ideal S4096x1024 .f32 := m ((c : Thread nD τ).loc main_arg0)
abbrev aDz (c : Dev nD) : FVec Ideal S4096x2560 .bf16 := m ((c : Thread nD τ).loc main_arg1)
abbrev aW (c : Dev nD) : FVec Ideal S1x1024x2560 .f32 := m ((c : Thread nD τ).loc main_arg2)
abbrev aH (c : Dev nD) : FVec Ideal S4096x1024 .f32 := m ((c : Thread nD τ).loc main_arg3)
abbrev aG (c : Dev nD) : FVec Ideal S1x1024 .f32 := m ((c : Thread nD τ).loc main_arg4)

abbrev bDres (c : Dev nD) (t : Fin cfg0.N) : FVec Ideal S512x1024 .f32 := iblk m c 0 t
abbrev bH (c : Dev nD) (t : Fin cfg0.N) : FVec Ideal S512x1024 .f32 := iblk m c 3 t
abbrev bG (c : Dev nD) (t : Fin cfg0.N) : FVec Ideal S1x1024 .f32 := iblk m c 4 t

/-- Where each window stands at a point. -/
theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0] ∧ win0_6.index t = ![t.val, 0] :=
  (by decide +kernel : ∀ t : Fin grid0.N, _)

/-- The cotangent of the normed row as the body of point `t` computes it, four column blocks one after another. -/
abbrev part (c : Dev nD) (t : Fin cfg0.N) : FVec Ideal S512x1024 .f32 :=
  k0_pay5 (k0_pay3 (View.ld (iblk m c 1 t) (Rect.unit ![0, 0] ![512, 640] inb_S512x2560_S512x640_0_0))
        (View.ld (iblk m c 2 t) (Rect.unit ![0, 0, 0] ![1, 1024, 640] inb_S4x1024x640_S1x1024x640_0_0_0))
        (View.ld (iblk m c 1 t) (Rect.unit ![0, 640] ![512, 640] inb_S512x2560_S512x640_0_640))
        (View.ld (iblk m c 2 t) (Rect.unit ![1, 0, 0] ![1, 1024, 640] inb_S4x1024x640_S1x1024x640_1_0_0)))
      (View.ld (iblk m c 1 t) (Rect.unit ![0, 1280] ![512, 640] inb_S512x2560_S512x640_0_1280))
      (k0_pay4 (View.ld (iblk m c 2 t) (Rect.unit ![2, 0, 0] ![1, 1024, 640] inb_S4x1024x640_S1x1024x640_2_0_0)))
      (constant S512x1024 FTy.f32 0#32)
      (View.ld (iblk m c 1 t) (Rect.unit ![0, 1920] ![512, 640] inb_S512x2560_S512x640_0_1920))
      (View.ld (iblk m c 2 t) (Rect.unit ![3, 0, 0] ![1, 1024, 640] inb_S4x1024x640_S1x1024x640_3_0_0))

theorem part_at (c : Dev nD) (t : Fin cfg0.N) (a : Fin 512) (b : Fin 1024) (p : Fin 4096) (hp : p.val = t.val * 512 + a.val) :
    part m c t (ix2 a b) = dn (aDz m c) (aW m c) p b := by
  have e := Fin.sum_mul_add_fin 4 640 fun j : Fin 2560 => aDz m c (ix2 p j) * aW m c (ix3 0 b j)
  rw [dn, ← e, Fin.sum_univ_four]
  pointwise [part, k0_pay3, k0_pay4, k0_pay5]
  blk_point [iblk, V, idx t]

/-- What a point stores for a row's gradient, the cotangent of the normed row left as it stands. -/
theorem pay6_at (dres : Vec Ideal S512x1024 .f32) (h : Vec Ideal S512x1024 .f32) (g : Vec Ideal S1x1024 .f32) (v26 v27 v29 z v32 v33)
    (a : Fin 512) (b : Fin 1024) :
    k0_pay6 (F := Ideal) h g (k0_pay1 h) v26 v27 v29 z v32 v33 dres (ix2 a b)
      = dres (ix2 a b) + grad 0x44800000#32 (fun k : Fin 1024 => h (ix2 a k)) (fun k => k0_pay5 v26 v27 v29 z v32 v33 (ix2 a k)) (fun k => g (ix2 0 k)) b := by
  pointwise [k0_pay6, k0_pay1, grad, meanSq]

theorem row5 (c : Dev nD) (t : Fin cfg0.N) (a : Fin 512) (b : Fin 1024) :
    bDres m c t (ix2 a b) + grad 0x44800000#32 (fun k : Fin 1024 => bH m c t (ix2 a k))
      (fun k => part m c t (ix2 a k)) (fun k => bG m c t (ix2 0 k)) b
      = dh (aDres m c) (aDz m c) (aW m c) (aH m c) (aG m c) (((cfg0.win 5).blk t).view.emb (ix2 a b)) := by
  have e : ∀ k, part m c t (ix2 a k) = dn (aDz m c) (aW m c) (((cfg0.win 5).blk t).view.emb (ix2 a b) 0) k := fun k =>
    part_at m c t a k _ (by blk_simp [idx t])
  simp only [e, dh, grad, meanSq]
  blk_point [iblk, V, idx t]

theorem point5 (c : Dev nD) (t : Fin cfg0.N) (y : S512x1024.Idx) :
    (outsAt0 m c t.val t.isLt).1 y
      = dh (aDres m c) (aDz m c) (aW m c) (aH m c) (aG m c) (((cfg0.win 5).blk t).view.emb y) := by
  rw [eq_ix2 y]
  by_cases h0 : t.val % 8 = 0
  · rw [outsAt0_A m c t h0]; frame_out
    exact (pay6_at ..).trans (row5 m c t _ _)
  · rw [outsAt0_B m c t h0]; frame_out
    exact (pay6_at ..).trans (row5 m c t _ _)

theorem final5 (c : Dev nD) : (dats m 0 c).arrAt 5 (cfgs 0).N = dh (aDres m c) (aDz m c) (aW m c) (aH m c) (aG m c) := by
  refine (dats m 0 c).arrAt_eq_of_covers 5 _ (by decide +kernel) fun t hf y => ?_
  blk_simp
  rw [after0_5]
  exact point5 m c t y

theorem final6 (c : Dev nD) : (dats m 0 c).arrAt 6 (cfgs 0).N = nrm (aH m c) (aG m c) := by
  refine (dats m 0 c).arrAt_eq_of_covers 6 _ (by decide +kernel) fun t hf y => ?_
  blk_simp
  rw [after0_6]
  have key : k0_pay2 (iblk m c 3 t) (iblk m c 4 t) y = nrm (aH m c) (aG m c) (((cfg0.win 6).blk t).view.emb y) := by
    pointwise [k0_pay2, k0_pay1, nrm, meanSq]
    blk_point [iblk, V, idx t]
  by_cases h0 : t.val % 8 = 0
  · rw [outsAt0_A m c t h0]; frame_out
    exact key
  · rw [outsAt0_B m c t h0]; frame_out
    exact key

/-- What a point adds to the gain's gradient. -/
theorem pay8_at (h : Vec Ideal S512x1024 .f32) (v26 v27 v29 z v32 v33) (acc : Vec Ideal S1x1024 .f32) (j : S1x1024.Idx) :
    k0_pay8 (F := Ideal) h (k0_pay1 h) v26 v27 v29 z v32 v33 acc j
      = acc j + ∑ a : Fin 512, k0_pay5 v26 v27 v29 z v32 v33 (ix2 a (j 1)) * h (ix2 a (j 1)) * Ideal.rsqrt (meanSq 0x44800000#32 fun k : Fin 1024 => h (ix2 a k)) := by
  pointwise [k0_pay8, k0_pay1, meanSq]

theorem pay7_at (j : S1x1024.Idx) : k0_pay7 (F := Ideal) j = 0 := by pointwise [k0_pay7]

theorem final7 (c : Dev nD) : (dats m 0 c).arrAt 7 (cfgs 0).N = dg (aDz m c) (aW m c) (aH m c) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ a : Fin 512, part m c t (ix2 a (j 1)) * bH m c t (ix2 a (j 1))
      * Ideal.rsqrt (meanSq 0x44800000#32 fun k : Fin 1024 => bH m c t (ix2 a k)))
    (fun t h j => by rw [outsAt0_A m c t h]; frame_out; rw [pay8_at, pay7_at]; rfl)
    (fun t h j => by rw [outsAt0_B m c t h]; frame_out; rw [pay8_at]; rfl)
    (le_of_eq N_0) t0_7 rfl j, zero_add, dg]
  refine Fin.sum_mul_add_congr (S := 8) (n := 512) fun t a hl => ?_
  rw [part_at m c t a (j 1) ⟨t.val * 512 + a.val, hl⟩ rfl]
  simp only [meanSq]
  blk_point [bH, aH, iblk, V, idx t]

end Cert.MixBwdIdeal.Mix

end
-- ==== Proof.Mix.Ref.lean ====
/-
  The reference's three results are the arrays of `Mix/Value.lean`, over the reference's own arguments.
-/
module

public import proofs.«01_k».proof.Proof.Mix.Value

@[expose] public section

set_option maxRecDepth 16384

noncomputable section

open Idealize.ShloMosaic Idealize.ShloMosaic.TcCoe Idealize.SL.Sem

namespace Cert.MixRefIdeal.Mix

open Cert.MixRefIdeal Cert.MixRefIdeal.Gen Cert.MixRefIdeal.Value Cert.Common

variable (m : (ℓ : Loc nD τ sig) → Buf (Elt Ideal) ℓ)

abbrev aDres (c : Dev nD) : FVec Ideal S4096x1024 .f32 := m ((c : Thread nD τ).loc main_arg0)
abbrev aDz (c : Dev nD) : FVec Ideal S4096x2560 .bf16 := m ((c : Thread nD τ).loc main_arg1)
abbrev aW (c : Dev nD) : FVec Ideal S1x1024x2560 .f32 := m ((c : Thread nD τ).loc main_arg2)
abbrev aH (c : Dev nD) : FVec Ideal S4096x1024 .f32 := m ((c : Thread nD τ).loc main_arg3)
abbrev aG (c : Dev nD) : FVec Ideal S1x1024 .f32 := m ((c : Thread nD τ).loc main_arg4)

/-! ## The terms that stand in the results more than once -/

/-- The mean of the squares of each row, ε added. -/
def rMean (h : FVec Ideal S4096x1024 .f32) : FVec Ideal S4096x1 .f32 :=
  addf (Host.divf (broadcastInDim S4096x1 ![0] bcast_S4096_S4096x1_0
      (Host.reduceAdd (mulf h h) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

/-- The cotangent of the normed rows. -/
def rDn (dz : FVec Ideal S4096x2560 .bf16) (w : FVec Ideal S1x1024x2560 .f32) : FVec Ideal S4096x1024 .f32 :=
  Host.dotGeneral (F := Ideal) dot_S4096x2560_S1024x2560_S4096x1024_1_1_0_0_n_n none (extf .f32 dz bitsLt_bf16_f32)
    (shapeCast S1024x2560 w shapeCasts_S1x1024x2560_S1024x2560 : FVec Ideal S1024x2560 .f32)

theorem rMean_at (h : FVec Ideal S4096x1024 .f32) (p : Fin 4096) : rMean h (ix2 p 0) = meanSq 0x44800000#32 fun k : Fin 1024 => h (ix2 p k) := by
  pointwise [rMean, meanSq]

theorem rDn_at (dz : FVec Ideal S4096x2560 .bf16) (w : FVec Ideal S1x1024x2560 .f32) (p : Fin 4096) (k : Fin 1024) :
    rDn dz w (ix2 p k) = Cert.MixBwdIdeal.Mix.dn dz w p k := by
  pointwise [rDn, Cert.MixBwdIdeal.Mix.dn]

/-- The cotangent of the normed rows times the gain. -/
def rDyg (dz : FVec Ideal S4096x2560 .bf16) (w : FVec Ideal S1x1024x2560 .f32) (g : FVec Ideal S1x1024 .f32) : FVec Ideal S4096x1024 .f32 :=
  mulf (rDn dz w) (broadcastInDim S4096x1024 ![0, 1] bcast_S1x1024_S4096x1024_0_1
    (broadcastInDim S1x1024 ![1] bcast_S1024_S1x1024_1 (shapeCast S1024 g shapeCasts_S1x1024_S1024 : FVec Ideal S1024 .f32)))

theorem rDyg_at (dz : FVec Ideal S4096x2560 .bf16) (w : FVec Ideal S1x1024x2560 .f32) (g : FVec Ideal S1x1024 .f32) (p : Fin 4096) (k : Fin 1024) :
    rDyg dz w g (ix2 p k) = Cert.MixBwdIdeal.Mix.dn dz w p k * g (ix2 0 k) := by
  rw [← rDn_at]
  pointwise [rDyg]

/-- The factor of a row that both terms of its gradient share. -/
def rHalf (dz : FVec Ideal S4096x2560 .bf16) (w : FVec Ideal S1x1024x2560 .f32) (h : FVec Ideal S4096x1024 .f32) (g : FVec Ideal S1x1024 .f32) :
    FVec Ideal S4096 .f32 :=
  Host.reduceAdd (Host.divf (mulf
      (shapeCast S4096x1 (Host.reduceAdd (mulf h (rDyg dz w g)) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (rMean h)) (rMean h))))
    (broadcastInDim S4096x1 ![] bcast_S_S4096x1 (constant S_ .f32 0x44800000#32)))
    (constant S_ .f32 0x00000000#32) reducesTo_S4096x1_S4096_d1 h_S_

theorem rHalf_at (dz : FVec Ideal S4096x2560 .bf16) (w : FVec Ideal S1x1024x2560 .f32) (h : FVec Ideal S4096x1024 .f32) (g : FVec Ideal S1x1024 .f32)
    (p : Fin 4096) : rHalf dz w h g (ix1 p)
      = half 0x44800000#32 (fun k : Fin 1024 => h (ix2 p k)) (fun k => Cert.MixBwdIdeal.Mix.dn dz w p k) (fun k => g (ix2 0 k)) := by
  unfold half
  simp only [← rDyg_at, ← rMean_at]
  pointwise [rHalf]
  exact Fin.sum_univ_one _

theorem dh_at (dres : FVec Ideal S4096x1024 .f32) (dz : FVec Ideal S4096x2560 .bf16) (w : FVec Ideal S1x1024x2560 .f32)
    (h : FVec Ideal S4096x1024 .f32) (g : FVec Ideal S1x1024 .f32) :
    addf (addf (addf dres (mulf (rDyg dz w g) (broadcastInDim S4096x1024 ![0, 1] bcast_S4096x1_S4096x1024_0_1 (Host.rsqrt (rMean h)))))
      (mulf h (broadcastInDim S4096x1024 ![0] bcast_S4096_S4096x1024_0 (rHalf dz w h g))))
      (mulf (broadcastInDim S4096x1024 ![0] bcast_S4096_S4096x1024_0 (rHalf dz w h g)) h) = Cert.MixBwdIdeal.Mix.dh dres dz w h g := by
  funext i
  obtain ⟨p, k, rfl⟩ : ∃ (p : Fin 4096) (k : Fin 1024), i = ix2 p k := ⟨_, _, eq_ix2 i⟩
  refine Eq.trans ?_ (grad_eq len_1024 (fun k : Fin 1024 => h (ix2 p k)) (fun k => Cert.MixBwdIdeal.Mix.dn dz w p k) (fun k => g (ix2 0 k)) (dres (ix2 p k)) k)
  rw [← rHalf_at, ← rMean_at, ← rDyg_at]
  pointwise []

theorem dh_eq (c : Dev nD) : res_main_v55 m c
    = Cert.MixBwdIdeal.Mix.dh (aDres m c) (aDz m c) (aW m c) (aH m c) (aG m c) := by
  have e : res_main_v55 m c = addf (addf (addf (aDres m c) (mulf (rDyg (aDz m c) (aW m c) (aG m c))
      (broadcastInDim S4096x1024 ![0, 1] bcast_S4096x1_S4096x1024_0_1 (Host.rsqrt (rMean (aH m c))))))
      (mulf (aH m c) (broadcastInDim S4096x1024 ![0] bcast_S4096_S4096x1024_0 (rHalf (aDz m c) (aW m c) (aH m c) (aG m c)))))
      (mulf (broadcastInDim S4096x1024 ![0] bcast_S4096_S4096x1024_0 (rHalf (aDz m c) (aW m c) (aH m c) (aG m c))) (aH m c)) := rfl
  rw [e]
  clear e
  exact dh_at _ _ _ _ _
theorem nrm_eq (h : FVec Ideal S4096x1024 .f32) (g : FVec Ideal S1x1024 .f32) :
    truncf .bf16 (mulf (mulf h (broadcastInDim S4096x1024 ![0, 1] bcast_S4096x1_S4096x1024_0_1 (Host.rsqrt (rMean h))))
      (broadcastInDim S4096x1024 ![0, 1] bcast_S1x1024_S4096x1024_0_1 (broadcastInDim S1x1024 ![1] bcast_S1024_S1x1024_1
        (shapeCast S1024 g shapeCasts_S1x1024_S1024 : FVec Ideal S1024 .f32)))) bitsLt_bf16_f32
      = Cert.MixBwdIdeal.Mix.nrm h g := by
  funext i
  obtain ⟨p, k, rfl⟩ : ∃ (p : Fin 4096) (k : Fin 1024), i = ix2 p k := ⟨_, _, eq_ix2 i⟩
  refine Eq.trans ?_ (show h (ix2 p k) * Ideal.rsqrt (meanSq 0x44800000#32 fun k : Fin 1024 => h (ix2 p k)) * g (ix2 0 k) = _ from rfl)
  rw [← rMean_at]
  pointwise []

theorem dg_eq (dz : FVec Ideal S4096x2560 .bf16) (w : FVec Ideal S1x1024x2560 .f32) (h : FVec Ideal S4096x1024 .f32) :
    broadcastInDim S1x1024 ![1] bcast_S1024_S1x1024_1 (Host.reduceAdd (F := Ideal) (shapeCast S1x1024 (Host.reduceAdd (mulf
      (mulf h (broadcastInDim S4096x1024 ![0, 1] bcast_S4096x1_S4096x1024_0_1 (Host.rsqrt (rMean h)))) (rDn dz w))
      (constant S_ .f32 0x00000000#32) reducesTo_S4096x1024_S1024_d0 h_S_) shapeCasts_S1024_S1x1024)
      (constant S_ .f32 0x00000000#32) reducesTo_S1x1024_S1024_d0 h_S_)
      = Cert.MixBwdIdeal.Mix.dg dz w h := by
  funext i
  obtain ⟨p, k, rfl⟩ : ∃ (p : Fin 1) (k : Fin 1024), i = ix2 p k := ⟨_, _, eq_ix2 i⟩
  have e : Cert.MixBwdIdeal.Mix.dg dz w h (ix2 p k) = ∑ p : Fin 4096, h (ix2 p k) * Ideal.rsqrt (rMean h (ix2 p 0)) * rDn dz w (ix2 p k) := by
    refine Finset.sum_congr rfl fun p _ => ?_
    rw [rMean_at, rDn_at, mul_assoc, mul_comm]
    rfl
  rw [e]
  pointwise []
  exact Fin.sum_univ_one _

end Cert.MixRefIdeal.Mix

end
-- ==== Proof.Mix.Claim.lean ====
/-
  The value claim of the mixer's input projection and its norm, backward: the kernel's three results are the gradient's.
-/
module

public import proofs.«01_k».proof.Defs
public import proofs.«01_k».proof.Proof.Mix.Ref
public import Idealize.ShloMosaic.Lib.Claim

@[expose] public section

set_option maxRecDepth 16384

noncomputable section

open Idealize.ShloMosaic Idealize.ShloMosaic.TcCoe Idealize.SL.Sem

namespace Cert.Mix

theorem algebraic : Cert.algebraic_MixBwdIdeal_MixRefIdeal := by
  pair_intro
  · run_from Cert.MixBwdIdeal.Gen.run_main m g
  · run_from Cert.MixRefIdeal.Value.run m' g'
    · rw [Cert.MixRefIdeal.Mix.dh_eq, Cert.MixBwdIdeal.Mix.final5]
      obtain ⟨h0, h1, h2, h3, h4⟩ := hagree c
      rw [Cert.MixRefIdeal.Mix.aDres, h0, Cert.MixRefIdeal.Mix.aDz, h1, Cert.MixRefIdeal.Mix.aW, h2, Cert.MixRefIdeal.Mix.aH, h3,
        Cert.MixRefIdeal.Mix.aG, h4]
    · exact (Cert.MixRefIdeal.Mix.nrm_eq _ _).trans (Cert.MixBwdIdeal.Mix.final6 m c).symm
    · exact (Cert.MixRefIdeal.Mix.dg_eq _ _ _).trans (Cert.MixBwdIdeal.Mix.final7 m c).symm

theorem frame_ref : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run m ρ)

end Cert.Mix

end
-- ==== Proof.Gmlp.Spec.lean ====
/-
  The gated MLP's gradient as functions of the rows: `row p s` is the row at position `s` of the chunk that holds row `p`.
  The same functions speak of a block of 512 rows and of all 4096.
-/
module

public import proofs.«01_k».proof.Proof.Common.Norm
public import proofs.«01_k».proof.Proof.Gen.GmlpBwdIdeal.Value
public import Idealize.ShloMosaic.Lib.Pointwise

@[expose] public section

noncomputable section

open Idealize.ShloMosaic Idealize.ShloMosaic.TcCoe

namespace Cert.GmlpBwdIdeal.Gmlp

open Cert.GmlpBwdIdeal Cert.Common

/-- The two constants that the kernel rounds: the inverse root of two and the density's factor. -/
abbrev cS : EReal := Named.named (F := Ideal) (φ := .f32) κ "sqrt_half" 0x3F3504F3#32
abbrev cD : EReal := Named.named (F := Ideal) (φ := .f32) κ "density" 0x3ECC422A#32

def gelu (x : EReal) : EReal :=
  Ideal.ofBits .f32 0x3F000000#32 * x * (1 + FloatOps.erf (F := Ideal) (φ := .f32) (x * cS))

def geluGrad (x : EReal) : EReal :=
  Ideal.ofBits .f32 0x3F000000#32 * (1 + FloatOps.erf (F := Ideal) (φ := .f32) (x * cS))
    + x * Ideal.exp (Ideal.ofBits .f32 0xBF000000#32 * x * x) * cD

/-- The causal mask's entry: the value where position `t` is not before `s`. -/
def sel (t s : ℕ) (x : EReal) : EReal :=
  Scalar.select (IntOp.cmpi .sge (BitVec.ofNat 32 t) (BitVec.ofNat 32 s)) x 0

/-- The row's position in its chunk, the column's head. -/
def lo {n : ℕ} (p : Fin n) : Fin 128 := ⟨p.val % 128, Nat.mod_lt _ (by norm_num)⟩
def hd (j : Fin 512) : Fin 4 := ⟨j.val / 128, by omega⟩

variable {n : ℕ} (row : Fin n → Fin 128 → Fin n)
  (zu zv d : Fin n → Fin 512 → EReal) (g : Fin 512 → EReal) (w : Fin 4 → Fin 128 → Fin 128 → EReal) (b : Fin 128 → Fin 4 → EReal)

/-- The value half after its activation, its rows' inverse roots, and normed with the gain. -/
def vv (p : Fin n) (j : Fin 512) : EReal := gelu (zv p j)
def vr (p : Fin n) : EReal := Ideal.rsqrt (meanSq 0x44000000#32 (vv zv p))
def vn (p : Fin n) (j : Fin 512) : EReal := vv zv p j * vr zv p * g j

/-- The cotangent of the mixed values and of the gate. -/
def ds (p : Fin n) (j : Fin 512) : EReal := d p j * gelu (zu p j)
def du (p : Fin n) (j : Fin 512) : EReal :=
  d p j * ((∑ s : Fin 128, sel (lo p) s (w (hd j) (lo p) s * vn zv g (row p s) j)) + b (lo p) (hd j))

/-- The cotangent of the normed values. -/
def dvn (p : Fin n) (j : Fin 512) : EReal :=
  ∑ t : Fin 128, sel t (lo p) (w (hd j) t (lo p) * ds zu d (row p t) j)

/-- The two halves of the input's gradient. -/
def dzu (p : Fin n) (j : Fin 512) : EReal := du row zv d g w b p j * geluGrad (zu p j)
def dzv (p : Fin n) (j : Fin 512) : EReal :=
  grad 0x44000000#32 (vv zv p) (dvn row zu d w p) g j * geluGrad (zv p j)

/-- A row's part of the gain's gradient. -/
def dgp (p : Fin n) (j : Fin 512) : EReal := dvn row zu d w p j * vv zv p j * vr zv p

/-- What the chunk that starts at row `r` brings to a head's weight (unmasked) and to its bias. -/
def dwp (at' : Fin 128 → Fin n) (h : Fin 4) (t s : Fin 128) : EReal :=
  ∑ k : Fin 128, ds zu d (at' t) ⟨128 * h + k, by omega⟩ * vn zv g (at' s) ⟨128 * h + k, by omega⟩
def dbp (at' : Fin 128 → Fin n) (h : Fin 4) (t : Fin 128) : EReal :=
  ∑ k : Fin 128, ds zu d (at' t) ⟨128 * h + k, by omega⟩

/-! ## A part of the rows -/

section

variable {N : ℕ} (row' : Fin N → Fin 128 → Fin N) (e : Fin n → Fin N) (he : ∀ a s, e (row a s) = row' (e a) s)
  (hl : ∀ a, lo (e a) = lo a) (zu' zv' d' : Fin N → Fin 512 → EReal)

include he hl

theorem dzu_comp (a : Fin n) (j : Fin 512) :
    dzu row (fun a => zu' (e a)) (fun a => zv' (e a)) (fun a => d' (e a)) g w b a j = dzu row' zu' zv' d' g w b (e a) j := by
  simp only [dzu, du, ← he, hl]; rfl

theorem dvn_comp (a : Fin n) :
    dvn row (fun a => zu' (e a)) (fun a => d' (e a)) w a = dvn row' zu' d' w (e a) := by
  funext j
  simp only [dvn, ← he, hl]; rfl

theorem dzv_comp (a : Fin n) (j : Fin 512) :
    dzv row (fun a => zu' (e a)) (fun a => zv' (e a)) (fun a => d' (e a)) g w a j = dzv row' zu' zv' d' g w (e a) j := by
  simp only [dzv, dvn_comp row w row' e he hl]; rfl

theorem dgp_comp (a : Fin n) (j : Fin 512) :
    dgp row (fun a => zu' (e a)) (fun a => zv' (e a)) (fun a => d' (e a)) w a j = dgp row' zu' zv' d' w (e a) j := by
  simp only [dgp, dvn_comp row w row' e he hl]; rfl

end

/-- The mask goes past a sum. -/
theorem sel_sum {ι : Type} (S : Finset ι) (t s : ℕ) (f : ι → EReal) : sel t s (∑ i ∈ S, f i) = ∑ i ∈ S, sel t s (f i) := by
  unfold sel Scalar.select
  split_ifs
  · rfl
  · simp

end Cert.GmlpBwdIdeal.Gmlp

end
-- ==== Proof.Gmlp.Tile.lean ====
/-
  The gated MLP's gradient on one block of 512 rows: the values that the kernel's body computes, entry by entry.
-/
module

public import proofs.«01_k».proof.Proof.Gmlp.Spec
public import Idealize.ShloMosaic.Lib.Pipeline.ValueKit

@[expose] public section

set_option maxRecDepth 16384

noncomputable section

open Idealize.ShloMosaic Idealize.ShloMosaic.TcCoe

namespace Cert.GmlpBwdIdeal.Gmlp

open Cert.GmlpBwdIdeal Cert.GmlpBwdIdeal.Gen Cert.Common

/-- Row `s` of the chunk of a block's row. -/
def rowB (a : Fin 512) (s : Fin 128) : Fin 512 := ⟨a.val / 128 * 128 + s.val, by omega⟩

/-- Four tiles of 128 rows on one another; four of 128 columns beside one another. -/
theorem rows_at (v0 v1 v2 v3 : FVec Ideal S128x128 .f32) (f : Fin 512 → Fin 128 → EReal)
    (h0 : ∀ t d : Fin 128, v0 (ix2 t d) = f ⟨0 + t, by omega⟩ d) (h1 : ∀ t d : Fin 128, v1 (ix2 t d) = f ⟨128 + t, by omega⟩ d)
    (h2 : ∀ t d : Fin 128, v2 (ix2 t d) = f ⟨256 + t, by omega⟩ d) (h3 : ∀ t d : Fin 128, v3 (ix2 t d) = f ⟨384 + t, by omega⟩ d)
    (a : Fin 512) (d : Fin 128) :
    concatenate S512x128 0 [⟨S128x128, v0⟩, ⟨S128x128, v1⟩, ⟨S128x128, v2⟩, ⟨S128x128, v3⟩]
      concatenates_S128x128_S128x128_S128x128_S128x128_S512x128_d0 (ix2 a d) = f a d := by
  pointwise []
  split_ifs <;> simp only [h0, h1, h2, h3] <;> congr 1 <;> refine Fin.ext ?_ <;> simp only [] <;> omega

theorem cols_at (v0 v1 v2 v3 : FVec Ideal S512x128 .f32) (f : Fin 512 → Fin 512 → EReal)
    (h0 : ∀ (a : Fin 512) (d : Fin 128), v0 (ix2 a d) = f a ⟨0 + d, by omega⟩) (h1 : ∀ (a : Fin 512) (d : Fin 128), v1 (ix2 a d) = f a ⟨128 + d, by omega⟩)
    (h2 : ∀ (a : Fin 512) (d : Fin 128), v2 (ix2 a d) = f a ⟨256 + d, by omega⟩) (h3 : ∀ (a : Fin 512) (d : Fin 128), v3 (ix2 a d) = f a ⟨384 + d, by omega⟩)
    (a b : Fin 512) :
    concatenate S512x512 1 [⟨S512x128, v0⟩, ⟨S512x128, v1⟩, ⟨S512x128, v2⟩, ⟨S512x128, v3⟩]
      concatenates_S512x128_S512x128_S512x128_S512x128_S512x512_d1 (ix2 a b) = f a b := by
  pointwise []
  split_ifs <;> simp only [h0, h1, h2, h3] <;> congr 1 <;> refine Fin.ext ?_ <;> simp only [] <;> omega

/-! ## The activation and the norm -/

theorem pay4_at (z : Vec Ideal S512x512 .f32) (a b : Fin 512) : k0_pay4 z (ix2 a b) = vv (fun a b => z (ix2 a b)) a b := by
  pointwise [k0_pay4, vv, gelu]

theorem pay5_at (z : Vec Ideal S512x512 .f32) (a : Fin 512) : k0_pay5 z (ix2 a 0) = vr (fun a b => z (ix2 a b)) a := by
  pointwise [k0_pay5, pay4_at, vr, meanSq]

theorem pay6_at (z : Vec Ideal S512x512 .f32) (g : Vec Ideal S1x512 .f32) (a b : Fin 512) :
    k0_pay6 z g (ix2 a b) = vn (fun a b => z (ix2 a b)) (fun j => g (ix2 0 j)) a b := by
  pointwise [k0_pay6, pay4_at, pay5_at, vn]

theorem pay8_at (z : Vec Ideal S512x512 .f32) (d : Vec Ideal S512x512 .bf16) (a b : Fin 512) :
    k0_pay8 z d (ix2 a b) = ds (fun a b => z (ix2 a b)) (fun a b => d (ix2 a b)) a b := by
  pointwise [k0_pay8, k0_pay7, ds, gelu]

/-! ## A chunk of a head -/

variable (w : Vec Ideal S1x128x128 .f32) (bt : Vec Ideal S128x1 .f32) (r c : ℕ) (hs : S512x512.Slices ![r, c] S128x128)

/-- The gate's cotangent. -/
def tU (n : FVec Ideal S512x512 .bf16) (d : FVec Ideal S512x512 .f32) : FVec Ideal S128x128 .f32 :=
  mulf (extractStridedSlice S128x128 ![r, c] d hs)
    (addf (matmul dot_S128x128_S128x128_S128x128_1_0_0_1_n_n none (k0_pay10 w) (extractStridedSlice S128x128 ![r, c] n hs)
      (constant S128x128 .f32 0x00000000#32))
      (broadcastTo S128x128 (shapeCast S128x1 bt shapeCasts_S128x1_S128x1) broadcasts_S128x1_S128x128))

theorem tU_at (hr : r + 128 ≤ 512) (hc : c + 128 ≤ 512) (n : FVec Ideal S512x512 .bf16) (d : FVec Ideal S512x512 .f32) (t k : Fin 128) :
    tU w bt r c hs n d (ix2 t k) = d (ix2 ⟨r + t, by omega⟩ ⟨c + k, by omega⟩)
      * ((∑ s : Fin 128, sel t s (w (ix3 0 t s) * n (ix2 ⟨r + s, by omega⟩ ⟨c + k, by omega⟩))) + bt (ix2 t 0)) := by
  pointwise [tU, k0_pay10, k0_pay9, sel]

/-- The cotangent of the normed values. -/
def tN (q : FVec Ideal S512x512 .bf16) : FVec Ideal S128x128 .f32 :=
  matmul dot_S128x128_S128x128_S128x128_0_0_1_1_n_n none (k0_pay10 w) (extractStridedSlice S128x128 ![r, c] q hs)
    (constant S128x128 .f32 0x00000000#32)

theorem tN_at (hr : r + 128 ≤ 512) (hc : c + 128 ≤ 512) (q : FVec Ideal S512x512 .bf16) (s k : Fin 128) :
    tN w r c hs q (ix2 s k) = ∑ t : Fin 128, sel t s (w (ix3 0 t s) * q (ix2 ⟨r + t, by omega⟩ ⟨c + k, by omega⟩)) := by
  pointwise [tN, k0_pay10, k0_pay9, sel]

/-- Four chunks of a head. -/
abbrev Cuts (c : ℕ) : Prop := ∀ r : Fin 4, S512x512.Slices ![128 * r, c] S128x128

def cU (hs : Cuts c) (n : FVec Ideal S512x512 .bf16) (d : FVec Ideal S512x512 .f32) : FVec Ideal S512x128 .f32 :=
  concatenate S512x128 0 [⟨S128x128, tU w bt 0 c (hs 0) n d⟩, ⟨S128x128, tU w bt 128 c (hs 1) n d⟩, ⟨S128x128, tU w bt 256 c (hs 2) n d⟩,
    ⟨S128x128, tU w bt 384 c (hs 3) n d⟩] concatenates_S128x128_S128x128_S128x128_S128x128_S512x128_d0

def cN (hs : Cuts c) (q : FVec Ideal S512x512 .bf16) : FVec Ideal S512x128 .f32 :=
  concatenate S512x128 0 [⟨S128x128, tN w 0 c (hs 0) q⟩, ⟨S128x128, tN w 128 c (hs 1) q⟩, ⟨S128x128, tN w 256 c (hs 2) q⟩,
    ⟨S128x128, tN w 384 c (hs 3) q⟩] concatenates_S128x128_S128x128_S128x128_S128x128_S512x128_d0

theorem chunk (r : ℕ) (hr : r % 128 = 0) (h : r + 128 ≤ 512) (t : Fin 128) :
    lo (⟨r + t, by omega⟩ : Fin 512) = t ∧ ∀ s : Fin 128, rowB ⟨r + t, by omega⟩ s = ⟨r + s, by omega⟩ :=
  ⟨Fin.ext (by show (r + t.val) % 128 = t.val; omega), fun s => Fin.ext (by show (r + t.val) / 128 * 128 + s.val = r + s.val; omega)⟩

theorem cU_at (hc : c + 128 ≤ 512) (hs : Cuts c) (n : FVec Ideal S512x512 .bf16) (d : FVec Ideal S512x512 .f32) (a : Fin 512) (k : Fin 128) :
    cU w bt c hs n d (ix2 a k) = d (ix2 a ⟨c + k, by omega⟩)
      * ((∑ s : Fin 128, sel (lo a) s (w (ix3 0 (lo a) s) * n (ix2 (rowB a s) ⟨c + k, by omega⟩))) + bt (ix2 (lo a) 0)) := by
  refine rows_at _ _ _ _ (fun a k => d (ix2 a ⟨c + k, by omega⟩)
      * ((∑ s : Fin 128, sel (lo a) s (w (ix3 0 (lo a) s) * n (ix2 (rowB a s) ⟨c + k, by omega⟩))) + bt (ix2 (lo a) 0))) ?_ ?_ ?_ ?_ a k
  · intro t k; obtain ⟨e, e'⟩ := chunk 0 rfl (by norm_num) t; simp only [e, e']; exact tU_at w bt 0 c (hs 0) (by norm_num) hc n d t k
  · intro t k; obtain ⟨e, e'⟩ := chunk 128 rfl (by norm_num) t; simp only [e, e']; exact tU_at w bt 128 c (hs 1) (by norm_num) hc n d t k
  · intro t k; obtain ⟨e, e'⟩ := chunk 256 rfl (by norm_num) t; simp only [e, e']; exact tU_at w bt 256 c (hs 2) (by norm_num) hc n d t k
  · intro t k; obtain ⟨e, e'⟩ := chunk 384 rfl (by norm_num) t; simp only [e, e']; exact tU_at w bt 384 c (hs 3) (by norm_num) hc n d t k

theorem cN_at (hc : c + 128 ≤ 512) (hs : Cuts c) (q : FVec Ideal S512x512 .bf16) (a : Fin 512) (k : Fin 128) :
    cN w c hs q (ix2 a k) = ∑ t : Fin 128, sel t (lo a) (w (ix3 0 t (lo a)) * q (ix2 (rowB a t) ⟨c + k, by omega⟩)) := by
  refine rows_at _ _ _ _ (fun a k => ∑ t : Fin 128, sel t (lo a) (w (ix3 0 t (lo a)) * q (ix2 (rowB a t) ⟨c + k, by omega⟩))) ?_ ?_ ?_ ?_ a k
  · intro t k; obtain ⟨e, e'⟩ := chunk 0 rfl (by norm_num) t; simp only [e, e']; exact tN_at w 0 c (hs 0) (by norm_num) hc q t k
  · intro t k; obtain ⟨e, e'⟩ := chunk 128 rfl (by norm_num) t; simp only [e, e']; exact tN_at w 128 c (hs 1) (by norm_num) hc q t k
  · intro t k; obtain ⟨e, e'⟩ := chunk 256 rfl (by norm_num) t; simp only [e, e']; exact tN_at w 256 c (hs 2) (by norm_num) hc q t k
  · intro t k; obtain ⟨e, e'⟩ := chunk 384 rfl (by norm_num) t; simp only [e, e']; exact tN_at w 384 c (hs 3) (by norm_num) hc q t k

/-- A head's weight and bias: what stood there, and the four chunks' parts. -/
def tW (hs : Cuts c) (n q : FVec Ideal S512x512 .bf16) (old : Vec Ideal S1x128x128 .f32) : FVec Ideal S1x128x128 .f32 :=
  let m (r : ℕ) (h : S512x512.Slices ![r, c] S128x128) := matmul dot_S128x128_S128x128_S128x128_1_1_0_0_n_n none
    (extractStridedSlice S128x128 ![r, c] q h) (extractStridedSlice S128x128 ![r, c] n h) (constant S128x128 .f32 0x00000000#32)
  shapeCast S1x128x128 (addf (shapeCast S128x128 old shapeCasts_S1x128x128_S128x128)
    (select k0_pay9 (addf (addf (addf (addf (broadcast S128x128 (Scalar.ofBits .f32 0x00000000#32)) (m 0 (hs 0))) (m 128 (hs 1))) (m 256 (hs 2))) (m 384 (hs 3)))
      (broadcast S128x128 (Scalar.ofBits .f32 0x00000000#32)))) shapeCasts_S128x128_S1x128x128

def tB (hs : Cuts c) (q : FVec Ideal S512x512 .bf16) (old : Vec Ideal S128x1 .f32) : FVec Ideal S128x1 .f32 :=
  let m (r : ℕ) (h : S512x512.Slices ![r, c] S128x128) := shapeCast S128x1 (multiReduction .add [1] S128
    (extf .f32 (extractStridedSlice S128x128 ![r, c] q h) bitsLt_bf16_f32) 0x00000000#32 reduces_S128x128_S128 (.inl rfl) rfl) shapeCasts_S128_S128x1
  addf (shapeCast S128x1 old shapeCasts_S128x1_S128x1)
    (addf (addf (addf (addf (broadcast S128x1 (Scalar.ofBits .f32 0x00000000#32)) (m 0 (hs 0))) (m 128 (hs 1))) (m 256 (hs 2))) (m 384 (hs 3)))

theorem tW_at (hc : c + 128 ≤ 512) (hs : Cuts c) (n q : FVec Ideal S512x512 .bf16) (old : Vec Ideal S1x128x128 .f32) (t s : Fin 128) :
    tW c hs n q old (ix3 0 t s) = old (ix3 0 t s) + sel t s (∑ r : Fin 4, ∑ k : Fin 128,
      q (ix2 ⟨128 * r + t, by omega⟩ ⟨c + k, by omega⟩) * n (ix2 ⟨128 * r + s, by omega⟩ ⟨c + k, by omega⟩)) := by
  rw [Fin.sum_univ_four]
  pointwise [tW, k0_pay9, sel]

theorem tB_at (hc : c + 128 ≤ 512) (hs : Cuts c) (q : FVec Ideal S512x512 .bf16) (old : Vec Ideal S128x1 .f32) (t : Fin 128) :
    tB c hs q old (ix2 t 0) = old (ix2 t 0) + ∑ r : Fin 4, ∑ k : Fin 128, q (ix2 ⟨128 * r + t, by omega⟩ ⟨c + k, by omega⟩) := by
  rw [Fin.sum_univ_four]
  pointwise [tB]

end Cert.GmlpBwdIdeal.Gmlp

end
-- ==== Proof.Gmlp.Block.lean ====
/-
  The gated MLP's gradient on one block: the four stored values over the block's loads.
-/
module

public import proofs.«01_k».proof.Proof.Gmlp.Tile

@[expose] public section

set_option maxRecDepth 16384

noncomputable section

open Idealize.ShloMosaic Idealize.ShloMosaic.TcCoe

namespace Cert.GmlpBwdIdeal.Gmlp

open Cert.GmlpBwdIdeal Cert.GmlpBwdIdeal.Gen Cert.Common

theorem cuts0 : Cuts 0 := by decide
theorem cuts1 : Cuts 128 := by decide
theorem cuts2 : Cuts 256 := by decide
theorem cuts3 : Cuts 384 := by decide

/-- A column of a head. -/
theorem hd_at (h : ℕ) (hh : h < 4) (k : Fin 128) : hd (⟨128 * h + k, by omega⟩ : Fin 512) = ⟨h, hh⟩ :=
  Fin.ext (by show (128 * h + k.val) / 128 = h; omega)

variable (zu zv : Vec Ideal S512x512 .f32) (d : Vec Ideal S512x512 .bf16) (g : Vec Ideal S1x512 .f32)
  (w0 w1 w2 w3 : Vec Ideal S1x128x128 .f32) (b0 b1 b2 b3 : Vec Ideal S128x1 .f32)
  (W : Fin 4 → Fin 128 → Fin 128 → EReal) (B : Fin 128 → Fin 4 → EReal)

/-- Two-index functions of the loads. -/
abbrev rd (z : FVec Ideal S512x512 .f32) (a b : Fin 512) : EReal := z (ix2 a b)
abbrev rdb (z : FVec Ideal S512x512 .bf16) (a b : Fin 512) : EReal := z (ix2 a b)

/-- The gate's cotangent over the block, its four heads beside one another. -/
def bU : FVec Ideal S512x512 .f32 :=
  concatenate S512x512 1 [⟨S512x128, cU w0 b0 0 cuts0 (k0_pay6 zv g) (k0_pay7 d)⟩, ⟨S512x128, cU w1 b1 128 cuts1 (k0_pay6 zv g) (k0_pay7 d)⟩,
    ⟨S512x128, cU w2 b2 256 cuts2 (k0_pay6 zv g) (k0_pay7 d)⟩, ⟨S512x128, cU w3 b3 384 cuts3 (k0_pay6 zv g) (k0_pay7 d)⟩]
    concatenates_S512x128_S512x128_S512x128_S512x128_S512x512_d1

def bN : FVec Ideal S512x512 .f32 :=
  concatenate S512x512 1 [⟨S512x128, cN w0 0 cuts0 (k0_pay8 zu d)⟩, ⟨S512x128, cN w1 128 cuts1 (k0_pay8 zu d)⟩,
    ⟨S512x128, cN w2 256 cuts2 (k0_pay8 zu d)⟩, ⟨S512x128, cN w3 384 cuts3 (k0_pay8 zu d)⟩]
    concatenates_S512x128_S512x128_S512x128_S512x128_S512x512_d1

theorem pay7_at (a b : Fin 512) : k0_pay7 d (ix2 a b) = d (ix2 a b) := by pointwise [k0_pay7]

variable (hw0 : ∀ t s, w0 (ix3 0 t s) = W 0 t s) (hw1 : ∀ t s, w1 (ix3 0 t s) = W 1 t s)
  (hw2 : ∀ t s, w2 (ix3 0 t s) = W 2 t s) (hw3 : ∀ t s, w3 (ix3 0 t s) = W 3 t s)
  (hb0 : ∀ t, b0 (ix2 t 0) = B t 0) (hb1 : ∀ t, b1 (ix2 t 0) = B t 1) (hb2 : ∀ t, b2 (ix2 t 0) = B t 2) (hb3 : ∀ t, b3 (ix2 t 0) = B t 3)

include hw0 hw1 hw2 hw3

theorem bN_at (a b : Fin 512) :
    bN zu d w0 w1 w2 w3 (ix2 a b) = dvn rowB (rd zu) (rdb d) W a b := by
  refine cols_at _ _ _ _ (dvn rowB (rd zu) (rdb d) W) ?_ ?_ ?_ ?_ a b <;> intro a k <;> rw [cN_at _ _ (by norm_num)] <;> unfold dvn
  · simp only [hw0, pay8_at]; rw [show hd (⟨0 + k, by omega⟩ : Fin 512) = 0 from hd_at 0 (by norm_num) k]
  · simp only [hw1, pay8_at]; rw [show hd (⟨128 + k, by omega⟩ : Fin 512) = 1 from hd_at 1 (by norm_num) k]
  · simp only [hw2, pay8_at]; rw [show hd (⟨256 + k, by omega⟩ : Fin 512) = 2 from hd_at 2 (by norm_num) k]
  · simp only [hw3, pay8_at]; rw [show hd (⟨384 + k, by omega⟩ : Fin 512) = 3 from hd_at 3 (by norm_num) k]

include hb0 hb1 hb2 hb3

theorem bU_at (a b : Fin 512) :
    bU zv d g w0 w1 w2 w3 b0 b1 b2 b3 (ix2 a b) = du rowB (rd zv) (rdb d) (fun j => g (ix2 0 j)) W B a b := by
  refine cols_at _ _ _ _ (du rowB (rd zv) (rdb d) (fun j => g (ix2 0 j)) W B) ?_ ?_ ?_ ?_ a b <;> intro a k <;>
    rw [cU_at _ _ _ (by norm_num)] <;> unfold du
  · simp only [hw0, hb0, pay6_at, pay7_at]; rw [show hd (⟨0 + k, by omega⟩ : Fin 512) = 0 from hd_at 0 (by norm_num) k]
  · simp only [hw1, hb1, pay6_at, pay7_at]; rw [show hd (⟨128 + k, by omega⟩ : Fin 512) = 1 from hd_at 1 (by norm_num) k]
  · simp only [hw2, hb2, pay6_at, pay7_at]; rw [show hd (⟨256 + k, by omega⟩ : Fin 512) = 2 from hd_at 2 (by norm_num) k]
  · simp only [hw3, hb3, pay6_at, pay7_at]; rw [show hd (⟨384 + k, by omega⟩ : Fin 512) = 3 from hd_at 3 (by norm_num) k]

/-- The input's gradient, its gate half. -/
theorem storeU_at (a b : Fin 512) :
    k0_pay82 zu (bU zv d g w0 w1 w2 w3 b0 b1 b2 b3) k0_pay81 (ix2 a b)
      = dzu rowB (rd zu) (rd zv) (rdb d) (fun j => g (ix2 0 j)) W B a b := by
  pointwise [k0_pay82, k0_pay81, bU_at zv d g w0 w1 w2 w3 b0 b1 b2 b3 W B hw0 hw1 hw2 hw3 hb0 hb1 hb2 hb3, dzu, geluGrad]

omit hb0 hb1 hb2 hb3

/-- Its value half. -/
def sV : FVec Ideal S512x512 .bf16 :=
  k0_pay83 zv (k0_pay79 (k0_pay4 zv) (k0_pay5 zv) g (cN w0 0 cuts0 (k0_pay8 zu d)) (cN w1 128 cuts1 (k0_pay8 zu d)) (cN w2 256 cuts2 (k0_pay8 zu d))
    (tN w3 0 384 (cuts3 0) (k0_pay8 zu d)) (tN w3 128 384 (cuts3 1) (k0_pay8 zu d)) (tN w3 256 384 (cuts3 2) (k0_pay8 zu d)) (tN w3 384 384 (cuts3 3) (k0_pay8 zu d)))

theorem pay78_at (a b : Fin 512) :
    k0_pay78 (cN w0 0 cuts0 (k0_pay8 zu d)) (cN w1 128 cuts1 (k0_pay8 zu d)) (cN w2 256 cuts2 (k0_pay8 zu d))
      (tN w3 0 384 (cuts3 0) (k0_pay8 zu d)) (tN w3 128 384 (cuts3 1) (k0_pay8 zu d)) (tN w3 256 384 (cuts3 2) (k0_pay8 zu d)) (tN w3 384 384 (cuts3 3) (k0_pay8 zu d)) (ix2 a b)
      = dvn rowB (rd zu) (rdb d) W a b :=
  bN_at zu d w0 w1 w2 w3 W hw0 hw1 hw2 hw3 a b

theorem storeV_at (a b : Fin 512) :
    sV zu zv d g w0 w1 w2 w3 (ix2 a b) = dzv rowB (rd zu) (rd zv) (rdb d) (fun j => g (ix2 0 j)) W a b := by
  unfold sV
  pointwise [k0_pay83, k0_pay79, pay78_at zu d w0 w1 w2 w3 W hw0 hw1 hw2 hw3, pay4_at, pay5_at, dzv, geluGrad, grad, vr]

/-- The gain's gradient: what stood there and the block's rows. -/
def sG (old : Vec Ideal S1x512 .f32) : FVec Ideal S1x512 .f32 :=
  k0_pay80 (k0_pay4 zv) (k0_pay5 zv) (cN w0 0 cuts0 (k0_pay8 zu d)) (cN w1 128 cuts1 (k0_pay8 zu d)) (cN w2 256 cuts2 (k0_pay8 zu d))
    (tN w3 0 384 (cuts3 0) (k0_pay8 zu d)) (tN w3 128 384 (cuts3 1) (k0_pay8 zu d)) (tN w3 256 384 (cuts3 2) (k0_pay8 zu d)) (tN w3 384 384 (cuts3 3) (k0_pay8 zu d)) old

theorem storeG_at (old : Vec Ideal S1x512 .f32) (j : Fin 512) :
    sG zu zv d w0 w1 w2 w3 old (ix2 0 j) = old (ix2 0 j) + ∑ a : Fin 512, dgp rowB (rd zu) (rd zv) (rdb d) W a j := by
  unfold sG
  pointwise [k0_pay80, pay78_at zu d w0 w1 w2 w3 W hw0 hw1 hw2 hw3, pay4_at, pay5_at, dgp]

omit hw0 hw1 hw2 hw3

/-- A head's weight and bias. -/
theorem storeW_at (h : Fin 4) (hs : Cuts (128 * h)) (old : Vec Ideal S1x128x128 .f32) (t s : Fin 128) :
    tW (128 * h) hs (k0_pay6 zv g) (k0_pay8 zu d) old (ix3 0 t s) = old (ix3 0 t s)
      + sel t s (∑ r : Fin 4, dwp (rd zu) (rd zv) (rdb d) (fun j => g (ix2 0 j)) (fun t => ⟨128 * r + t, by omega⟩) h t s) := by
  rw [tW_at _ (by omega)]
  simp only [pay6_at, pay8_at, dwp]

theorem storeB_at (h : Fin 4) (hs : Cuts (128 * h)) (old : Vec Ideal S128x1 .f32) (t : Fin 128) :
    tB (128 * h) hs (k0_pay8 zu d) old (ix2 t 0) = old (ix2 t 0)
      + ∑ r : Fin 4, dbp (rd zu) (rdb d) (fun t => (⟨128 * r + t, by omega⟩ : Fin 512)) h t := by
  rw [tB_at _ (by omega)]
  simp only [pay8_at, dbp]

end Cert.GmlpBwdIdeal.Gmlp

end
-- ==== Proof.Common.Slabs.lean ====
/-
  A window stored four rectangles at a time over a whole fill: what an entry of it holds, and what a load through one of
  the rectangles reads before its own store.
-/
module

public import Idealize.ShloMosaic.Lib.Pipeline.ValueKit
public import Idealize.ShloMosaic.Lib.Pipeline.FrameBody

@[expose] public section

noncomputable section

open Idealize.ShloMosaic

namespace Cert.Common

variable {s : Shape} {e : EltTy} {Val : EltTy → Type} [∀ e, Nonempty (Val e)] {r0 r1 r2 r3 : Rect s}
  (w0 : r0.shape.Idx → Val e) (w1 : r1.shape.Idx → Val e) (w2 : r2.shape.Idx → Val e) (w3 : r3.shape.Idx → Val e)
  (L : List (View.Piece Val s e))

theorem canon_first (y : s.Idx) (x : r0.shape.Idx) (hy : y = r0.emb x) : View.canon (⟨r0, w0⟩ :: L) y = w0 x := by
  subst hy; exact View.canon_cons_emb r0 w0 L x

theorem canon_second (d : Disjoint r1.set r0.set) (y : s.Idx) (x : r0.shape.Idx) (hy : y = r0.emb x) :
    View.canon (⟨r1, w1⟩ :: ⟨r0, w0⟩ :: L) y = w0 x := by
  subst hy
  rw [View.canon_cons_of_not_mem _ _ (Finset.disjoint_right.mp d (r0.idx_mem x))]
  exact View.canon_cons_emb r0 w0 L x

theorem canon_third (d : Disjoint r1.set r0.set) (d' : Disjoint r2.set r0.set) (y : s.Idx) (x : r0.shape.Idx) (hy : y = r0.emb x) :
    View.canon (⟨r2, w2⟩ :: ⟨r1, w1⟩ :: ⟨r0, w0⟩ :: L) y = w0 x := by
  rw [View.canon_cons_of_not_mem _ _ (by subst hy; exact Finset.disjoint_right.mp d' (r0.idx_mem x))]
  exact canon_second w0 w1 L d y x hy

theorem canon_fourth (d : Disjoint r1.set r0.set) (d' : Disjoint r2.set r0.set) (d'' : Disjoint r3.set r0.set) (y : s.Idx)
    (x : r0.shape.Idx) (hy : y = r0.emb x) :
    View.canon (⟨r3, w3⟩ :: ⟨r2, w2⟩ :: ⟨r1, w1⟩ :: ⟨r0, w0⟩ :: L) y = w0 x := by
  rw [View.canon_cons_of_not_mem _ _ (by subst hy; exact Finset.disjoint_right.mp d'' (r0.idx_mem x))]
  exact canon_third w0 w1 w2 L d d' y x hy

section

variable {sig : RefSig} {κ : Kind} {sp : Space} (v : View sig κ sp s e) (off : Fin s.rank → ℕ) (h0 : off = fun _ => 0)
  (inb : ∀ a, off a + s.size a ≤ s.size a) (w : s.Idx → Val e) (c : Val e) (hw : ∀ y, w y = c) (r : Rect s)

include h0 hw

theorem cov_zero (x : r.shape.Idx) : v.readCov [⟨Rect.unit off s.size inb, w⟩] r.toLoadRect x = c := by
  rw [View.readCov_eq_canon', View.canon_cons_unit_zero h0]
  exact hw _

theorem cov_one (d0 : Disjoint r0.set r.set) (x : r.shape.Idx) :
    v.readCov [⟨r0, w0⟩, ⟨Rect.unit off s.size inb, w⟩] r.toLoadRect x = c := by
  rw [View.readCov_cons_of_disjoint _ _ _ _ d0]
  exact cov_zero v off h0 inb w c hw r x

theorem cov_two (d0 : Disjoint r0.set r.set) (d1 : Disjoint r1.set r.set) (x : r.shape.Idx) :
    v.readCov [⟨r1, w1⟩, ⟨r0, w0⟩, ⟨Rect.unit off s.size inb, w⟩] r.toLoadRect x = c := by
  rw [View.readCov_cons_of_disjoint _ _ _ _ d1]
  exact cov_one w0 v off h0 inb w c hw r d0 x

theorem cov_three (d0 : Disjoint r0.set r.set) (d1 : Disjoint r1.set r.set) (d2 : Disjoint r2.set r.set) (x : r.shape.Idx) :
    v.readCov [⟨r2, w2⟩, ⟨r1, w1⟩, ⟨r0, w0⟩, ⟨Rect.unit off s.size inb, w⟩] r.toLoadRect x = c := by
  rw [View.readCov_cons_of_disjoint _ _ _ _ d2]
  exact cov_two w0 w1 v off h0 inb w c hw r d0 d1 x

end

end Cert.Common

end
-- ==== Proof.Gmlp.Value.lean ====
/-
  The gated MLP's gradient: what the kernel's four arrays hold after its run, over the arguments' arrays.
-/
module

public import proofs.«01_k».proof.Proof.Gmlp.Block
public import proofs.«01_k».proof.Proof.Common.Slabs

@[expose] public section

set_option maxRecDepth 16384

noncomputable section

open Idealize.ShloMosaic Idealize.ShloMosaic.TcCoe Idealize.SL.Sem
open Idealize.ShloMosaic.Pipeline (Dat)

namespace Cert.GmlpBwdIdeal.Gmlp

open Cert.GmlpBwdIdeal Cert.GmlpBwdIdeal.Gen Cert.Common

def rowA (p : Fin 4096) (s : Fin 128) : Fin 4096 := ⟨p.val / 128 * 128 + s.val, by omega⟩

/-! ## The arguments read as functions of a row and a column -/

section

variable (z : FVec Ideal S4096x1024 .f32) (dm : FVec Ideal S4096x1024 .bf16) (gv : FVec Ideal S1x512 .f32)
  (ws : FVec Ideal S1x4x128x128 .f32) (gb : FVec Ideal S1x4x128 .f32)

def fU (p : Fin 4096) (j : Fin 512) : EReal := z (ix2 p ⟨j, by omega⟩)
def fV (p : Fin 4096) (j : Fin 512) : EReal := z (ix2 p ⟨512 + j, by omega⟩)
def fD (p : Fin 4096) (j : Fin 512) : EReal := dm (ix2 p ⟨j, by omega⟩)
def fG (j : Fin 512) : EReal := gv (ix2 0 j)
def fW (h : Fin 4) (t s : Fin 128) : EReal := ws (ix4 0 h t s)
def fB (t : Fin 128) (h : Fin 4) : EReal := gb (ix3 0 h t)

/-! ## The four results -/

def dz : FVec Ideal S4096x1024 .bf16 := fun i =>
  if h : (i 1).val < 512 then dzu rowA (fU z) (fV z) (fD dm) (fG gv) (fW ws) (fB gb) (i 0) ⟨(i 1).val, h⟩
  else dzv rowA (fU z) (fV z) (fD dm) (fG gv) (fW ws) (i 0) ⟨(i 1).val - 512, by have : (i 1).val < 1024 := (i 1).isLt; omega⟩

def dw : FVec Ideal S4x128x128 .f32 := fun i =>
  ∑ c : Fin 32, sel (i 1).val (i 2).val (dwp (fU z) (fV z) (fD dm) (fG gv) (fun t => ⟨128 * c + t, by omega⟩) (i 0) (i 1) (i 2))

def dbt : FVec Ideal S128x4 .f32 := fun i =>
  ∑ c : Fin 32, dbp (fU z) (fD dm) (fun t => (⟨128 * c + t, by omega⟩ : Fin 4096)) (i 1) (i 0)

def dgv : FVec Ideal S1x512 .f32 := fun i =>
  ∑ p : Fin 4096, dgp rowA (fU z) (fV z) (fD dm) (fW ws) p (i 1)

end

/-! ## The kernel -/

variable (m : (ℓ : Loc nD τ sig) → Buf (Elt Ideal) ℓ)

abbrev aZ (c : Dev nD) : FVec Ideal S4096x1024 .f32 := m ((c : Thread nD τ).loc main_arg0)
abbrev aD (c : Dev nD) : FVec Ideal S4096x1024 .bf16 := m ((c : Thread nD τ).loc main_arg1)
abbrev aG (c : Dev nD) : FVec Ideal S1x512 .f32 := m ((c : Thread nD τ).loc main_arg2)
abbrev aW (c : Dev nD) : FVec Ideal S1x4x128x128 .f32 := m ((c : Thread nD τ).loc main_arg3)
abbrev aB (c : Dev nD) : FVec Ideal S1x4x128 .f32 := m ((c : Thread nD τ).loc main_arg4)

/-- Where each window stands at a point. -/
theorem idx : ∀ t : Fin cfg0.N, win0_0.index t = ![t.val, 0] ∧ win0_1.index t = ![t.val, 0] ∧ win0_2.index t = ![0, 0]
    ∧ win0_3.index t = ![0, 0, 0] ∧ win0_4.index t = ![0, 0] ∧ win0_5.index t = ![t.val, 0] :=
  (by decide +kernel : ∀ t : Fin grid0.N, _)

/-- The row of the array under a block's row. -/
def em (t : Fin cfg0.N) (a : Fin 512) : Fin 4096 :=
  ⟨t.val * 512 + a.val, by have h := t.isLt; have : cfg0.N = 8 := N_0; omega⟩

theorem em_row (t : Fin cfg0.N) (a : Fin 512) (s : Fin 128) : em t (rowB a s) = rowA (em t a) s :=
  Fin.ext (by show t.val * 512 + (a.val / 128 * 128 + s.val) = (t.val * 512 + a.val) / 128 * 128 + s.val; omega)

theorem em_lo (t : Fin cfg0.N) (a : Fin 512) : lo (em t a) = lo a :=
  Fin.ext (by show (t.val * 512 + a.val) % 128 = a.val % 128; omega)

/-! ### A point's loads -/

abbrev lU (c : Dev nD) (t : Fin cfg0.N) : FVec Ideal S512x512 .f32 :=
  View.ld (iblk m c 0 t) (Rect.unit ![0, 0] ![512, 512] inb_S512x1024_S512x512_0_0)
abbrev lV (c : Dev nD) (t : Fin cfg0.N) : FVec Ideal S512x512 .f32 :=
  View.ld (iblk m c 0 t) (Rect.unit ![0, 512] ![512, 512] inb_S512x1024_S512x512_0_512)
abbrev lD (c : Dev nD) (t : Fin cfg0.N) : FVec Ideal S512x512 .bf16 := iblk m c 1 t
abbrev lG (c : Dev nD) (t : Fin cfg0.N) : FVec Ideal S1x512 .f32 := iblk m c 2 t

theorem lU_eq (c : Dev nD) (t : Fin cfg0.N) : rd (lU m c t) = fun a => fU (aZ m c) (em t a) := by
  funext a j; pointwise [rd, lU, fU]; blk_point [iblk, V, idx t, em, aZ]
theorem lV_eq (c : Dev nD) (t : Fin cfg0.N) : rd (lV m c t) = fun a => fV (aZ m c) (em t a) := by
  funext a j; pointwise [rd, lV, fV]; blk_point [iblk, V, idx t, em, aZ]
theorem lD_eq (c : Dev nD) (t : Fin cfg0.N) : rdb (lD m c t) = fun a => fD (aD m c) (em t a) := by
  funext a j; pointwise [rdb, lD, fD]; blk_point [iblk, V, idx t, em, aD]
theorem lG_eq (c : Dev nD) (t : Fin cfg0.N) : (fun j => lG m c t (ix2 0 j)) = fG (aG m c) := by
  funext j; pointwise [lG, fG]; blk_point [iblk, V, idx t, aG]

abbrev lW0 (c : Dev nD) (t : Fin cfg0.N) : FVec Ideal S1x128x128 .f32 :=
  View.ld (iblk m c 3 t) (Rect.unit ![0, 0, 0] ![1, 128, 128] inb_S4x128x128_S1x128x128_0_0_0)
abbrev lW1 (c : Dev nD) (t : Fin cfg0.N) : FVec Ideal S1x128x128 .f32 :=
  View.ld (iblk m c 3 t) (Rect.unit ![1, 0, 0] ![1, 128, 128] inb_S4x128x128_S1x128x128_1_0_0)
abbrev lW2 (c : Dev nD) (t : Fin cfg0.N) : FVec Ideal S1x128x128 .f32 :=
  View.ld (iblk m c 3 t) (Rect.unit ![2, 0, 0] ![1, 128, 128] inb_S4x128x128_S1x128x128_2_0_0)
abbrev lW3 (c : Dev nD) (t : Fin cfg0.N) : FVec Ideal S1x128x128 .f32 :=
  View.ld (iblk m c 3 t) (Rect.unit ![3, 0, 0] ![1, 128, 128] inb_S4x128x128_S1x128x128_3_0_0)
abbrev lB0 (c : Dev nD) (t : Fin cfg0.N) : FVec Ideal S128x1 .f32 :=
  View.ld (iblk m c 4 t) (Rect.unit ![0, 0] ![128, 1] inb_S128x4_S128x1_0_0)
abbrev lB1 (c : Dev nD) (t : Fin cfg0.N) : FVec Ideal S128x1 .f32 :=
  View.ld (iblk m c 4 t) (Rect.unit ![0, 1] ![128, 1] inb_S128x4_S128x1_0_1)
abbrev lB2 (c : Dev nD) (t : Fin cfg0.N) : FVec Ideal S128x1 .f32 :=
  View.ld (iblk m c 4 t) (Rect.unit ![0, 2] ![128, 1] inb_S128x4_S128x1_0_2)
abbrev lB3 (c : Dev nD) (t : Fin cfg0.N) : FVec Ideal S128x1 .f32 :=
  View.ld (iblk m c 4 t) (Rect.unit ![0, 3] ![128, 1] inb_S128x4_S128x1_0_3)

theorem lW0_at (c : Dev nD) (t : Fin cfg0.N) (p s : Fin 128) : lW0 m c t (ix3 0 p s) = fW (aW m c) 0 p s := by
  pointwise [lW0, fW]; blk_point [iblk, V, idx t, aW]
theorem lW1_at (c : Dev nD) (t : Fin cfg0.N) (p s : Fin 128) : lW1 m c t (ix3 0 p s) = fW (aW m c) 1 p s := by
  pointwise [lW1, fW]; blk_point [iblk, V, idx t, aW]
theorem lW2_at (c : Dev nD) (t : Fin cfg0.N) (p s : Fin 128) : lW2 m c t (ix3 0 p s) = fW (aW m c) 2 p s := by
  pointwise [lW2, fW]; blk_point [iblk, V, idx t, aW]
theorem lW3_at (c : Dev nD) (t : Fin cfg0.N) (p s : Fin 128) : lW3 m c t (ix3 0 p s) = fW (aW m c) 3 p s := by
  pointwise [lW3, fW]; blk_point [iblk, V, idx t, aW]
theorem lB0_at (c : Dev nD) (t : Fin cfg0.N) (p : Fin 128) : lB0 m c t (ix2 p 0) = fB (aB m c) p 0 := by
  pointwise [lB0, fB]; blk_point [iblk, V, idx t, aB]
theorem lB1_at (c : Dev nD) (t : Fin cfg0.N) (p : Fin 128) : lB1 m c t (ix2 p 0) = fB (aB m c) p 1 := by
  pointwise [lB1, fB]; blk_point [iblk, V, idx t, aB]
theorem lB2_at (c : Dev nD) (t : Fin cfg0.N) (p : Fin 128) : lB2 m c t (ix2 p 0) = fB (aB m c) p 2 := by
  pointwise [lB2, fB]; blk_point [iblk, V, idx t, aB]
theorem lB3_at (c : Dev nD) (t : Fin cfg0.N) (p : Fin 128) : lB3 m c t (ix2 p 0) = fB (aB m c) p 3 := by
  pointwise [lB3, fB]; blk_point [iblk, V, idx t, aB]

/-! ### What a point stores, over the arrays -/

theorem pU (c : Dev nD) (t : Fin cfg0.N) (a b : Fin 512) :
    k0_pay82 (lU m c t) (bU (lV m c t) (lD m c t) (lG m c t) (lW0 m c t) (lW1 m c t) (lW2 m c t) (lW3 m c t) (lB0 m c t) (lB1 m c t) (lB2 m c t) (lB3 m c t))
      k0_pay81 (ix2 a b)
      = dzu rowA (fU (aZ m c)) (fV (aZ m c)) (fD (aD m c)) (fG (aG m c)) (fW (aW m c)) (fB (aB m c)) (em t a) b := by
  rw [storeU_at _ _ _ _ _ _ _ _ _ _ _ _ (fW (aW m c)) (fB (aB m c)) (lW0_at m c t) (lW1_at m c t) (lW2_at m c t) (lW3_at m c t)
    (lB0_at m c t) (lB1_at m c t) (lB2_at m c t) (lB3_at m c t), lU_eq, lV_eq, lD_eq, lG_eq]
  exact dzu_comp _ _ _ _ _ _ (em_row t) (em_lo t) _ _ _ a b

theorem pV (c : Dev nD) (t : Fin cfg0.N) (a b : Fin 512) :
    sV (lU m c t) (lV m c t) (lD m c t) (lG m c t) (lW0 m c t) (lW1 m c t) (lW2 m c t) (lW3 m c t) (ix2 a b)
      = dzv rowA (fU (aZ m c)) (fV (aZ m c)) (fD (aD m c)) (fG (aG m c)) (fW (aW m c)) (em t a) b := by
  rw [storeV_at _ _ _ _ _ _ _ _ (fW (aW m c)) (lW0_at m c t) (lW1_at m c t) (lW2_at m c t) (lW3_at m c t), lU_eq, lV_eq, lD_eq, lG_eq]
  exact dzv_comp _ _ _ _ _ (em_row t) (em_lo t) _ _ _ a b

theorem pG (c : Dev nD) (t : Fin cfg0.N) (old : FVec Ideal S1x512 .f32) (j : Fin 512) :
    sG (lU m c t) (lV m c t) (lD m c t) (lW0 m c t) (lW1 m c t) (lW2 m c t) (lW3 m c t) old (ix2 0 j)
      = old (ix2 0 j) + ∑ a : Fin 512, dgp rowA (fU (aZ m c)) (fV (aZ m c)) (fD (aD m c)) (fW (aW m c)) (em t a) j := by
  rw [storeG_at _ _ _ _ _ _ _ (fW (aW m c)) (lW0_at m c t) (lW1_at m c t) (lW2_at m c t) (lW3_at m c t), lU_eq, lV_eq, lD_eq]
  exact congrArg _ (Finset.sum_congr rfl fun a _ => dgp_comp _ _ _ _ (em_row t) (em_lo t) _ _ _ a j)

theorem hz2 : (![0, 0] : Fin 2 → ℕ) = fun _ => 0 := by decide

theorem row_ix (j : S1x512.Idx) : ∃ k : Fin 512, j = ix2 0 k :=
  ⟨j 1, (eq_ix2 j).trans (congrArg (ix2 · (j 1)) (Fin.fin_one_eq_zero (j 0)))⟩

theorem emb5 (t : Fin cfg0.N) (y : S512x1024.Idx) : ((cfg0.win 5).blk t).view.emb y = ix2 (em t (y 0)) (y 1) := by
  funext a
  refine Fin.ext ?_
  fin_cases a <;> blk_simp [idx t, em] <;> rfl

theorem dz_lo (z : FVec Ideal S4096x1024 .f32) (dm : FVec Ideal S4096x1024 .bf16) (gv : FVec Ideal S1x512 .f32)
    (ws : FVec Ideal S1x4x128x128 .f32) (gb : FVec Ideal S1x4x128 .f32) (p : Fin 4096) (q : Fin 1024) (b : Fin 512) (h : q.val = b.val) :
    dz z dm gv ws gb (ix2 p q) = dzu rowA (fU z) (fV z) (fD dm) (fG gv) (fW ws) (fB gb) p b := by
  have e : (⟨q.val, h ▸ b.isLt⟩ : Fin 512) = b := Fin.ext h
  exact (dif_pos (h ▸ b.isLt : q.val < 512)).trans (congrArg (dzu rowA (fU z) (fV z) (fD dm) (fG gv) (fW ws) (fB gb) p) e)

theorem dz_hi (z : FVec Ideal S4096x1024 .f32) (dm : FVec Ideal S4096x1024 .bf16) (gv : FVec Ideal S1x512 .f32)
    (ws : FVec Ideal S1x4x128x128 .f32) (gb : FVec Ideal S1x4x128 .f32) (p : Fin 4096) (q : Fin 1024) (b : Fin 512) (h : q.val = 512 + b.val) :
    dz z dm gv ws gb (ix2 p q) = dzv rowA (fU z) (fV z) (fD dm) (fG gv) (fW ws) p b := by
  have e : (⟨q.val - 512, by omega⟩ : Fin 512) = b := Fin.ext (by show q.val - 512 = b.val; omega)
  exact (dif_neg (by omega : ¬ q.val < 512)).trans (congrArg (dzv rowA (fU z) (fV z) (fD dm) (fG gv) (fW ws) p) e)

theorem point5A (c : Dev nD) (t : Fin cfg0.N) (c0 : t.val % 8 = 0) (y : S512x1024.Idx) :
    (outsAt0 m c t.val t.isLt).1 y
      = dz (aZ m c) (aD m c) (aG m c) (aW m c) (aB m c) (((cfg0.win 5).blk t).view.emb y) := by
  rw [outsAt0_A m c t c0]; frame_out
  rw [(hs0_0 t).read_unread, (hs0_1 t).read_unread, (hs0_3 t).read_unread, View.ld_unit_zero (S := S512x512) hz2]
  rw [(hs0_2 t).read_unread, (hs0_4 t).read_unread, View.ld_unit_zero (S := S1x512) hz2]
  canon_tiles x h <;>
    obtain ⟨a, b, rfl⟩ : ∃ a b : Fin 512, x = ix2 a b := ⟨_, _, eq_ix2 x⟩ <;>
    obtain rfl : y 0 = a := Fin.ext h0
  · exact (pV m c t (y 0) b).trans ((dz_hi _ _ _ _ _ _ (y 1) b h1).symm.trans (congrArg _ (emb5 t y).symm))
  · exact (pU m c t (y 0) b).trans ((dz_lo _ _ _ _ _ _ (y 1) b h1).symm.trans (congrArg _ (emb5 t y).symm))

theorem point5B (c : Dev nD) (t : Fin cfg0.N) (c0 : ¬ t.val % 8 = 0) (y : S512x1024.Idx) :
    (outsAt0 m c t.val t.isLt).1 y
      = dz (aZ m c) (aD m c) (aG m c) (aW m c) (aB m c) (((cfg0.win 5).blk t).view.emb y) := by
  rw [outsAt0_B m c t c0]; frame_out
  rw [(hs0_0 t).read_unread, (hs0_1 t).read_unread, (hs0_3 t).read_unread, View.ld_unit_zero (S := S512x512) hz2]
  rw [(hs0_2 t).read_unread, (hs0_4 t).read_unread, View.ld_unit_zero (S := S1x512) hz2]
  canon_tiles x h <;>
    obtain ⟨a, b, rfl⟩ : ∃ a b : Fin 512, x = ix2 a b := ⟨_, _, eq_ix2 x⟩ <;>
    obtain rfl : y 0 = a := Fin.ext h0
  · exact (pV m c t (y 0) b).trans ((dz_hi _ _ _ _ _ _ (y 1) b h1).symm.trans (congrArg _ (emb5 t y).symm))
  · exact (pU m c t (y 0) b).trans ((dz_lo _ _ _ _ _ _ (y 1) b h1).symm.trans (congrArg _ (emb5 t y).symm))

theorem final5 (c : Dev nD) : (dats m 0 c).arrAt 5 (cfgs 0).N = dz (aZ m c) (aD m c) (aG m c) (aW m c) (aB m c) := by
  refine (dats m 0 c).arrAt_eq_of_covers 5 _ (by decide +kernel) fun t hf y => ?_
  blk_simp
  rw [after0_5]
  exact if c0 : t.val % 8 = 0 then point5A m c t c0 y else point5B m c t c0 y

theorem pay3_at (j : S1x512.Idx) : k0_pay3 (F := Ideal) j = 0 := by pointwise [k0_pay3]

theorem final8 (c : Dev nD) : (dats m 0 c).arrAt 8 (cfgs 0).N = dgv (aZ m c) (aD m c) (aW m c) := by
  refine (dats m 0 c).arrAt_eq_of_after_last 8 t0_7 (by decide +kernel) _ fun j => ?_
  obtain ⟨j, rfl⟩ := row_ix j
  blk_simp
  rw [after0_8, Pipeline.eq_sum_fin_of_reset_step_apply_last (fun n h => (outsAt0 m c n h).2.2.2) 8 (fun _ => 0)
    (fun t j => ∑ a : Fin 512, dgp rowA (fU (aZ m c)) (fV (aZ m c)) (fD (aD m c)) (fW (aW m c)) (em t a) (j 1))
    (fun t h j => by
      obtain ⟨j, rfl⟩ := row_ix j
      rw [outsAt0_A m c t h]; frame_out
      rw [(hs0_0 t).read_unread, (hs0_1 t).read_unread, (hs0_3 t).read_unread, View.ld_unit_zero (S := S512x512) hz2]
      exact (pG m c t _ j).trans (by rw [pay3_at]; rfl))
    (fun t h j => by
      obtain ⟨j, rfl⟩ := row_ix j
      rw [outsAt0_B m c t h]; frame_out
      rw [(hs0_0 t).read_unread, (hs0_1 t).read_unread, (hs0_3 t).read_unread, View.ld_unit_zero (S := S512x512) hz2]
      exact pG m c t _ j)
    (le_of_eq N_0) t0_7 rfl _, zero_add, dgv]
  exact Fin.sum_mul_add_congr (S := 8) (n := 512) fun t a hl => rfl

theorem pW (c : Dev nD) (t : Fin cfg0.N) (h : Fin 4) (hs : Cuts (128 * h)) (old : FVec Ideal S1x128x128 .f32) (p s : Fin 128) :
    tW (128 * h) hs (k0_pay6 (lV m c t) (lG m c t)) (k0_pay8 (lU m c t) (lD m c t)) old (ix3 0 p s) = old (ix3 0 p s)
      + sel p s (∑ r : Fin 4, dwp (fU (aZ m c)) (fV (aZ m c)) (fD (aD m c)) (fG (aG m c)) (fun q => em t ⟨128 * r + q, by omega⟩) h p s) := by
  rw [storeW_at, lU_eq, lV_eq, lD_eq, lG_eq]
  rfl

theorem pB (c : Dev nD) (t : Fin cfg0.N) (h : Fin 4) (hs : Cuts (128 * h)) (old : FVec Ideal S128x1 .f32) (p : Fin 128) :
    tB (128 * h) hs (k0_pay8 (lU m c t) (lD m c t)) old (ix2 p 0) = old (ix2 p 0)
      + ∑ r : Fin 4, dbp (fU (aZ m c)) (fD (aD m c)) (fun q => em t ⟨128 * r + q, by omega⟩) h p := by
  rw [storeB_at, lU_eq, lD_eq]
  rfl

/-- What a point adds to the heads' weights. -/
abbrev addW (c : Dev nD) (t : Fin cfg0.N) (y : S4x128x128.Idx) : EReal :=
  sel (y 1).val (y 2).val (∑ r : Fin 4, dwp (fU (aZ m c)) (fV (aZ m c)) (fD (aD m c)) (fG (aG m c)) (fun q => em t ⟨128 * r + q, by omega⟩) (y 0) (y 1) (y 2))

theorem ext3 {n k l : ℕ} (i j : (⟨3, ![n, k, l]⟩ : Shape).Idx) (h0 : (i 0).val = (j 0).val) (h1 : (i 1).val = (j 1).val)
    (h2 : (i 2).val = (j 2).val) : i = j := by
  funext a
  fin_cases a
  exacts [Fin.ext h0, Fin.ext h1, Fin.ext h2]

theorem pay1_at (j : S4x128x128.Idx) : k0_pay1 (F := Ideal) j = 0 := by pointwise [k0_pay1]
theorem pay2_at (j : S128x4.Idx) : k0_pay2 (F := Ideal) j = 0 := by pointwise [k0_pay2]

theorem hz3 : (![0, 0, 0] : Fin 3 → ℕ) = fun _ => 0 := by decide

/-- Two slabs' rectangles. -/
theorem apart (i j : ℕ) (hij : i ≠ j) (hi : ∀ a, (![i, 0, 0] : Fin 3 → ℕ) a + (![1, 128, 128] : Fin 3 → ℕ) a ≤ S4x128x128.size a)
    (hj : ∀ a, (![j, 0, 0] : Fin 3 → ℕ) a + (![1, 128, 128] : Fin 3 → ℕ) a ≤ S4x128x128.size a) :
    Disjoint (Rect.unit (s := S4x128x128) ![i, 0, 0] ![1, 128, 128] hi).set (Rect.unit (s := S4x128x128) ![j, 0, 0] ![1, 128, 128] hj).set :=
  Rect.unit_disjoint (0 : Fin 3) (by show i + 1 ≤ j ∨ j + 1 ≤ i; omega)

theorem slab_emb (k : Fin 4) (a b : Fin 128) (inb : ∀ i, (![k.val, 0, 0] : Fin 3 → ℕ) i + (![1, 128, 128] : Fin 3 → ℕ) i ≤ S4x128x128.size i) :
    (ix3 k a b : S4x128x128.Idx) = (Rect.unit (s := S4x128x128) ![k.val, 0, 0] ![1, 128, 128] inb).emb (ix3 0 a b) :=
  ext3 _ _ (by show k.val = k.val + 1 * 0; omega) (by show a.val = 0 + 1 * a.val; omega) (by show b.val = 0 + 1 * b.val; omega)

theorem step6A (c : Dev nD) (t : Fin cfg0.N) (c0 : t.val % 8 = 0) (y : S4x128x128.Idx) :
    (outsAt0 m c t.val t.isLt).2.1 y = 0 + addW m c t y := by
  rw [outsAt0_A m c t c0]; frame_out
  obtain ⟨h, a, b, rfl⟩ : ∃ (h : Fin 4) (a b : Fin 128), y = ix3 h a b := ⟨_, _, _, eq_ix3 y⟩
  match h with
  | 3 =>
    refine Eq.trans (canon_first _ _ _ (ix3 0 a b) ?_) ?_
    · exact slab_emb 3 a b _
    refine (pW m c t 3 (by decide) _ a b).trans (congrArg (· + _) ?_)
    exact cov_three _ _ _ _ _ hz3 _ _ 0 pay1_at _ (apart _ _ (by decide) _ _) (apart _ _ (by decide) _ _) (apart _ _ (by decide) _ _) _
  | 2 =>
    refine Eq.trans (canon_second _ _ _ (apart _ _ (by decide) _ _) _ (ix3 0 a b) ?_) ?_
    · exact slab_emb 2 a b _
    refine (pW m c t 2 (by decide) _ a b).trans (congrArg (· + _) ?_)
    exact cov_two _ _ _ _ hz3 _ _ 0 pay1_at _ (apart _ _ (by decide) _ _) (apart _ _ (by decide) _ _) _
  | 1 =>
    refine Eq.trans (canon_third _ _ _ _ (apart _ _ (by decide) _ _) (apart _ _ (by decide) _ _) _ (ix3 0 a b) ?_) ?_
    · exact slab_emb 1 a b _
    refine (pW m c t 1 (by decide) _ a b).trans (congrArg (· + _) ?_)
    exact cov_one _ _ _ hz3 _ _ 0 pay1_at _ (apart _ _ (by decide) _ _) _
  | 0 =>
    refine Eq.trans (canon_fourth _ _ _ _ _ (apart _ _ (by decide) _ _) (apart _ _ (by decide) _ _) (apart _ _ (by decide) _ _) _ (ix3 0 a b) ?_) ?_
    · exact slab_emb 0 a b _
    refine (pW m c t 0 (by decide) _ a b).trans (congrArg (· + _) ?_)
    exact cov_zero _ _ hz3 _ _ 0 pay1_at _  _

theorem step6B (c : Dev nD) (t : Fin cfg0.N) (c0 : ¬ t.val % 8 = 0) (y : S4x128x128.Idx) :
    (outsAt0 m c t.val t.isLt).2.1 y = (outsAt0 m c (t.val - 1) (lt_of_le_of_lt (Nat.sub_le _ _) t.isLt)).2.1 y + addW m c t y := by
  rw [outsAt0_B m c t c0]; frame_out
  obtain ⟨h, a, b, rfl⟩ : ∃ (h : Fin 4) (a b : Fin 128), y = ix3 h a b := ⟨_, _, _, eq_ix3 y⟩
  match h with
  | 3 =>
    refine Eq.trans (canon_first _ _ _ (ix3 0 a b) ?_) ?_
    · exact slab_emb 3 a b _
    refine (pW m c t 3 (by decide) _ a b).trans (congrArg (· + _) ?_)
    exact congrArg (outsAt0 m c (t.val - 1) _).2.1 (slab_emb 3 a b _).symm
  | 2 =>
    refine Eq.trans (canon_second _ _ _ (apart _ _ (by decide) _ _) _ (ix3 0 a b) ?_) ?_
    · exact slab_emb 2 a b _
    refine (pW m c t 2 (by decide) _ a b).trans (congrArg (· + _) ?_)
    exact congrArg (outsAt0 m c (t.val - 1) _).2.1 (slab_emb 2 a b _).symm
  | 1 =>
    refine Eq.trans (canon_third _ _ _ _ (apart _ _ (by decide) _ _) (apart _ _ (by decide) _ _) _ (ix3 0 a b) ?_) ?_
    · exact slab_emb 1 a b _
    refine (pW m c t 1 (by decide) _ a b).trans (congrArg (· + _) ?_)
    exact congrArg (outsAt0 m c (t.val - 1) _).2.1 (slab_emb 1 a b _).symm
  | 0 =>
    refine Eq.trans (canon_fourth _ _ _ _ _ (apart _ _ (by decide) _ _) (apart _ _ (by decide) _ _) (apart _ _ (by decide) _ _) _ (ix3 0 a b) ?_) ?_
    · exact slab_emb 0 a b _
    refine (pW m c t 0 (by decide) _ a b).trans (congrArg (· + _) ?_)
    exact congrArg (outsAt0 m c (t.val - 1) _).2.1 (slab_emb 0 a b _).symm

theorem rows32 (t : Fin 8) (r : Fin 4) (q : Fin 128) (c : Fin 32) (hc : c.val = t.val * 4 + r.val) :
    (⟨t.val * 512 + (128 * r.val + q.val), by omega⟩ : Fin 4096) = ⟨128 * c + q, by omega⟩ := by
  refine Fin.ext ?_
  show t.val * 512 + (128 * r.val + q.val) = 128 * c.val + q.val
  omega

theorem final6 (c : Dev nD) : (dats m 0 c).arrAt 6 (cfgs 0).N = dw (aZ m c) (aD m c) (aG m c) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t j => addW m c t j) (fun t h j => step6A m c t h j) (fun t h j => step6B m c t h j) (le_of_eq N_0) t0_7 rfl _, zero_add, dw]
  simp only [addW, sel_sum]
  refine Fin.sum_mul_add_congr (S := 8) (n := 4) fun t r hl => ?_
  exact congrArg (fun f => sel _ _ (dwp _ _ _ _ f _ _ _)) (funext fun q => rows32 t r q ⟨t.val * 4 + r.val, hl⟩ rfl)

/-- What a point adds to the heads' biases. -/
abbrev addB (c : Dev nD) (t : Fin cfg0.N) (y : S128x4.Idx) : EReal :=
  ∑ r : Fin 4, dbp (fU (aZ m c)) (fD (aD m c)) (fun q => em t ⟨128 * r + q, by omega⟩) (y 1) (y 0)

theorem side (i j : ℕ) (hij : i ≠ j) (hi : ∀ a, (![0, i] : Fin 2 → ℕ) a + (![128, 1] : Fin 2 → ℕ) a ≤ S128x4.size a)
    (hj : ∀ a, (![0, j] : Fin 2 → ℕ) a + (![128, 1] : Fin 2 → ℕ) a ≤ S128x4.size a) :
    Disjoint (Rect.unit (s := S128x4) ![0, i] ![128, 1] hi).set (Rect.unit (s := S128x4) ![0, j] ![128, 1] hj).set :=
  Rect.unit_disjoint (1 : Fin 2) (by show i + 1 ≤ j ∨ j + 1 ≤ i; omega)

theorem col_emb (k : Fin 4) (a : Fin 128) (inb : ∀ i, (![0, k.val] : Fin 2 → ℕ) i + (![128, 1] : Fin 2 → ℕ) i ≤ S128x4.size i) :
    (ix2 a k : S128x4.Idx) = (Rect.unit (s := S128x4) ![0, k.val] ![128, 1] inb).emb (ix2 a 0) := by
  funext i
  fin_cases i
  exacts [Fin.ext (by show a.val = 0 + 1 * a.val; omega), Fin.ext (by show k.val = k.val + 1 * 0; omega)]

theorem step7A (c : Dev nD) (t : Fin cfg0.N) (c0 : t.val % 8 = 0) (y : S128x4.Idx) :
    (outsAt0 m c t.val t.isLt).2.2.1 y = 0 + addB m c t y := by
  rw [outsAt0_A m c t c0]; frame_out
  obtain ⟨a, h, rfl⟩ : ∃ (a : Fin 128) (h : Fin 4), y = ix2 a h := ⟨_, _, eq_ix2 y⟩
  match h with
  | 3 =>
    refine Eq.trans (canon_first _ _ _ (ix2 a 0) ?_) ?_
    · exact col_emb 3 a _
    refine (pB m c t 3 (by decide) _ a).trans (congrArg (· + _) ?_)
    exact cov_three _ _ _ _ _ hz2 _ _ 0 pay2_at _ (side _ _ (by decide) _ _) (side _ _ (by decide) _ _) (side _ _ (by decide) _ _) _
  | 2 =>
    refine Eq.trans (canon_second _ _ _ (side _ _ (by decide) _ _) _ (ix2 a 0) ?_) ?_
    · exact col_emb 2 a _
    refine (pB m c t 2 (by decide) _ a).trans (congrArg (· + _) ?_)
    exact cov_two _ _ _ _ hz2 _ _ 0 pay2_at _ (side _ _ (by decide) _ _) (side _ _ (by decide) _ _) _
  | 1 =>
    refine Eq.trans (canon_third _ _ _ _ (side _ _ (by decide) _ _) (side _ _ (by decide) _ _) _ (ix2 a 0) ?_) ?_
    · exact col_emb 1 a _
    refine (pB m c t 1 (by decide) _ a).trans (congrArg (· + _) ?_)
    exact cov_one _ _ _ hz2 _ _ 0 pay2_at _ (side _ _ (by decide) _ _) _
  | 0 =>
    refine Eq.trans (canon_fourth _ _ _ _ _ (side _ _ (by decide) _ _) (side _ _ (by decide) _ _) (side _ _ (by decide) _ _) _ (ix2 a 0) ?_) ?_
    · exact col_emb 0 a _
    refine (pB m c t 0 (by decide) _ a).trans (congrArg (· + _) ?_)
    exact cov_zero _ _ hz2 _ _ 0 pay2_at _  _

theorem step7B (c : Dev nD) (t : Fin cfg0.N) (c0 : ¬ t.val % 8 = 0) (y : S128x4.Idx) :
    (outsAt0 m c t.val t.isLt).2.2.1 y = (outsAt0 m c (t.val - 1) (lt_of_le_of_lt (Nat.sub_le _ _) t.isLt)).2.2.1 y + addB m c t y := by
  rw [outsAt0_B m c t c0]; frame_out
  obtain ⟨a, h, rfl⟩ : ∃ (a : Fin 128) (h : Fin 4), y = ix2 a h := ⟨_, _, eq_ix2 y⟩
  match h with
  | 3 =>
    refine Eq.trans (canon_first _ _ _ (ix2 a 0) ?_) ?_
    · exact col_emb 3 a _
    refine (pB m c t 3 (by decide) _ a).trans (congrArg (· + _) ?_)
    exact congrArg (outsAt0 m c (t.val - 1) _).2.2.1 (col_emb 3 a _).symm
  | 2 =>
    refine Eq.trans (canon_second _ _ _ (side _ _ (by decide) _ _) _ (ix2 a 0) ?_) ?_
    · exact col_emb 2 a _
    refine (pB m c t 2 (by decide) _ a).trans (congrArg (· + _) ?_)
    exact congrArg (outsAt0 m c (t.val - 1) _).2.2.1 (col_emb 2 a _).symm
  | 1 =>
    refine Eq.trans (canon_third _ _ _ _ (side _ _ (by decide) _ _) (side _ _ (by decide) _ _) _ (ix2 a 0) ?_) ?_
    · exact col_emb 1 a _
    refine (pB m c t 1 (by decide) _ a).trans (congrArg (· + _) ?_)
    exact congrArg (outsAt0 m c (t.val - 1) _).2.2.1 (col_emb 1 a _).symm
  | 0 =>
    refine Eq.trans (canon_fourth _ _ _ _ _ (side _ _ (by decide) _ _) (side _ _ (by decide) _ _) (side _ _ (by decide) _ _) _ (ix2 a 0) ?_) ?_
    · exact col_emb 0 a _
    refine (pB m c t 0 (by decide) _ a).trans (congrArg (· + _) ?_)
    exact congrArg (outsAt0 m c (t.val - 1) _).2.2.1 (col_emb 0 a _).symm

theorem final7 (c : Dev nD) : (dats m 0 c).arrAt 7 (cfgs 0).N = dbt (aZ m c) (aD m c) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t j => addB m c t j) (fun t h j => step7A m c t h j) (fun t h j => step7B m c t h j) (le_of_eq N_0) t0_7 rfl _, zero_add, dbt]
  refine Fin.sum_mul_add_congr (S := 8) (n := 4) fun t r hl => ?_
  exact congrArg (fun f => dbp _ _ f _ _) (funext fun q => rows32 t r q ⟨t.val * 4 + r.val, hl⟩ rfl)

end Cert.GmlpBwdIdeal.Gmlp

end
-- ==== Proof.Common.Fibers.lean ====
/-
  Sums over several axes at once, as sums over the coordinates that go: a reduction's fibre and a contraction's index.
-/
module

public import Idealize.ShloMosaic.Lib.Pipeline.ValueKit
public import Idealize.ShloMosaic.Lib.Pointwise

@[expose] public section

noncomputable section

open Idealize.ShloMosaic

namespace Cert.Common

/-- A sum over the elements that `f` sends to `j`, by coordinates `e` of those elements with the reading `r`. -/
theorem sum_fiber {α ι β M : Type} [AddCommMonoid M] [Fintype α] [Fintype ι] [DecidableEq β] {f : α → β} {j : β} (g : α → M)
    (e : ι → α) (r : α → ι) (he : ∀ k, f (e k) = j) (hr : ∀ k, r (e k) = k) (hi : ∀ i, f i = j → e (r i) = i) :
    ∑ i ∈ Finset.univ.filter (fun i => f i = j), g i = ∑ k, g (e k) :=
  Finset.sum_nbij' r e (fun _ _ => Finset.mem_univ _) (fun k _ => by simp [he]) (fun i h => hi i (by simpa using h)) (fun k _ => hr k)
    (fun i h => by rw [hi i (by simpa using h)])

/-- A sum over all elements, by coordinates. -/
theorem sum_coords {α ι M : Type} [AddCommMonoid M] [Fintype α] [Fintype ι] (g : α → M)
    (e : ι → α) (r : α → ι) (hr : ∀ k, r (e k) = k) (hi : ∀ i, e (r i) = i) : ∑ i, g i = ∑ k, g (e k) :=
  (Equiv.sum_comp ⟨e, r, hr, hi⟩ g).symm

end Cert.Common

end
-- ==== Proof.Common.Reals.lean ====
/-
  Values that are real numbers, and the operations under which they stay so.
-/
module

public import proofs.«01_k».proof.Proof.Common.Norm

@[expose] public section

noncomputable section

open Idealize.ShloMosaic

namespace Cert.Common

/-- The value is a real number. -/
def IsReal (x : EReal) : Prop := ∃ r : ℝ, x = r

namespace IsReal

theorem coe (r : ℝ) : IsReal (r : EReal) := ⟨r, rfl⟩
theorem zero : IsReal 0 := ⟨0, rfl⟩
theorem one : IsReal 1 := ⟨1, rfl⟩

theorem add {x y : EReal} : IsReal x → IsReal y → IsReal (x + y)
  | ⟨a, ha⟩, ⟨b, hb⟩ => ⟨a + b, by rw [ha, hb, EReal.coe_add]⟩

theorem mul {x y : EReal} : IsReal x → IsReal y → IsReal (x * y)
  | ⟨a, ha⟩, ⟨b, hb⟩ => ⟨a * b, by rw [ha, hb, EReal.coe_mul]⟩

theorem sub {x y : EReal} : IsReal x → IsReal y → IsReal (x - y)
  | ⟨a, ha⟩, ⟨b, hb⟩ => ⟨a - b, by rw [ha, hb, EReal.coe_sub]⟩

theorem sum {ι : Type} (S : Finset ι) {f : ι → EReal} (h : ∀ i, IsReal (f i)) : IsReal (∑ i ∈ S, f i) :=
  Finset.sum_induction _ IsReal (fun _ _ => add) zero fun i _ => h i

theorem exp {x : EReal} : IsReal x → IsReal (Ideal.exp x)
  | ⟨a, ha⟩ => ⟨Real.exp a, by rw [ha, Ideal.exp_coe]⟩

theorem erf (x : EReal) : IsReal (Ideal.erf x) := by
  induction x with
  | bot => exact ⟨-1, rfl⟩
  | top => exact ⟨1, rfl⟩
  | coe r => exact ⟨_, rfl⟩

theorem rsqrt {x : EReal} (hx : 0 < x) : IsReal (Ideal.rsqrt x) := by
  induction x with
  | bot => exact absurd hx (by simp)
  | top => exact ⟨0, rfl⟩
  | coe r =>
    have hr : (0 : ℝ) < r := by exact_mod_cast hx
    exact ⟨(Real.sqrt r)⁻¹, by rw [Ideal.rsqrt_coe, if_neg (not_lt.mpr hr.le), if_neg hr.ne']⟩

theorem select {x y : EReal} (c : BitVec 1) (hx : IsReal x) (hy : IsReal y) : IsReal (Scalar.select c x y) := by
  unfold Scalar.select
  split_ifs <;> assumption

theorem div_len {w : BitVec 32} (hw : Len w) {x : EReal} (hx : IsReal x) : IsReal (Ideal.div x (Ideal.ofBits .f32 w)) := by
  obtain ⟨r, _, e⟩ := hw.div
  rw [e]
  exact hx.mul (coe r)

/-- A row's norm gradient is real where the row, its cotangent and the gain are. -/
theorem grad {w : BitVec 32} (hw : Len w) {n : ℕ} {h dy g : Fin n → EReal} (hh : ∀ k, IsReal (h k)) (hd : ∀ k, IsReal (dy k))
    (hg : ∀ k, IsReal (g k)) (k : Fin n) : IsReal (Cert.Common.grad w h dy g k) := by
  have hr : IsReal (Ideal.rsqrt (meanSq w h)) := rsqrt (meanSq_pos hw h)
  exact (hr.mul ((hd k).mul (hg k))).sub (((hh k).mul ((hr.mul hr).mul hr)).mul
    (div_len hw (sum _ fun i => ((hd i).mul (hg i)).mul (hh i))))

/-- An element below infinity in absolute value is real. -/
theorem of_finite {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact coe r

end IsReal

/-- The words of one half and of one. -/
theorem word_half : Ideal.ofBits .f32 0x3F000000#32 = ((1 / 2 : ℝ) : EReal) := by
  simp [Ideal.ofBits, Ideal.ieee]; rw [← EReal.coe_mul]; norm_num

end Cert.Common

end
-- ==== Proof.Gmlp.Real.lean ====
/-
  The gelu of the reference and its gradient, and that the cotangents on the way are real where the arguments are.
  The kernel multiplies the cotangent by the sum of the derivative's two terms, the reference adds the two products:
  on reals the two are one.
-/
module

public import proofs.«01_k».proof.Proof.Gmlp.Spec
public import proofs.«01_k».proof.Proof.Common.Reals

@[expose] public section

set_option maxRecDepth 16384

noncomputable section

open Idealize.ShloMosaic Idealize.ShloMosaic.TcCoe Idealize.SL.Sem

namespace Cert.GmlpBwdIdeal.Gmlp

open Cert.GmlpBwdIdeal Cert.Common

/-- The run-time root of two that the reference divides by. -/
abbrev root2 : EReal := Ideal.sqrt (Ideal.ofBits .f32 0x40000000#32)

theorem cS_eq : cS = (((Real.sqrt 2)⁻¹ : ℝ) : EReal) := IdealRules.named_const.ideal_named_scalar _ _ _ _ rfl

theorem cD_eq : cD = ((9465531 / 16777216 * (Real.sqrt 2)⁻¹ : ℝ) : EReal) := IdealRules.named_const.ideal_named_scalar _ _ _ _ rfl

theorem root2_eq : root2 = ((Real.sqrt 2 : ℝ) : EReal) := by
  have e : Ideal.ofBits .f32 0x40000000#32 = ((2 : ℝ) : EReal) := by
    simp [Ideal.ofBits, Ideal.ieee]; rw [← EReal.coe_mul]; norm_num
  rw [root2, e, Ideal.sqrt_coe, if_neg (by norm_num)]

theorem div_root (x : EReal) : Ideal.div x root2 = x * cS := by
  have h : Real.sqrt 2 ≠ 0 := by positivity
  rw [root2_eq, Ideal.div, if_neg (by exact_mod_cast h), cS_eq, EReal.coe_inv]

theorem word_slope : Ideal.ofBits .f32 0x3F906EBB#32 = ((9465531 / 8388608 : ℝ) : EReal) := by
  simp [Ideal.ofBits, Ideal.ieee]; rw [← EReal.coe_mul]; norm_num

theorem gelu_real {x : EReal} (hx : IsReal x) : IsReal (gelu x) :=
  ((word_half ▸ IsReal.coe _ : IsReal (Ideal.ofBits .f32 0x3F000000#32)).mul hx).mul (IsReal.one.add (IsReal.erf _))

/-- The reference's two products are the kernel's product with the sum. -/
theorem slope_eq {x y : EReal} (hx : IsReal x) (hy : IsReal y) :
    Ideal.div (Ideal.ofBits .f32 0x3F906EBB#32 * (Ideal.ofBits .f32 0x3F000000#32 * x * y) * Ideal.exp (-(Ideal.div x root2 * Ideal.div x root2))) root2
      + Ideal.ofBits .f32 0x3F000000#32 * (y * (1 + Ideal.erf (Ideal.div x root2))) = y * geluGrad x := by
  obtain ⟨a, rfl⟩ := hx
  obtain ⟨b, rfl⟩ := hy
  obtain ⟨e, he⟩ := IsReal.erf (a * cS)
  have hs : Real.sqrt 2 * Real.sqrt 2 = 2 := Real.mul_self_sqrt (by norm_num)
  have h0 : Real.sqrt 2 ≠ 0 := by positivity
  have hi : (Real.sqrt 2)⁻¹ * (Real.sqrt 2)⁻¹ = 1 / 2 := by rw [← mul_inv, hs]; norm_num
  have e1 : FloatOps.erf (F := Ideal) (φ := .f32) (a * cS) = Ideal.erf (a * cS) := rfl
  simp only [geluGrad, div_root, e1, he]
  rw [word_slope, word_half, word_neg_half, cS_eq, cD_eq]
  have x1 : -(a * (Real.sqrt 2)⁻¹ * (a * (Real.sqrt 2)⁻¹)) = -(1 / 2) * a * a := by linear_combination (-(a * a)) * hi
  simp only [← EReal.coe_mul, ← EReal.coe_neg, Ideal.exp_coe, ← EReal.coe_one, ← EReal.coe_add, x1]
  congr 1
  ring

section

variable {n : ℕ} {row : Fin n → Fin 128 → Fin n}
  {zu zv d : Fin n → Fin 512 → EReal} {g : Fin 512 → EReal} {w : Fin 4 → Fin 128 → Fin 128 → EReal} {b : Fin 128 → Fin 4 → EReal}
  (hu : ∀ p j, IsReal (zu p j)) (hv : ∀ p j, IsReal (zv p j)) (hd' : ∀ p j, IsReal (d p j)) (hg : ∀ j, IsReal (g j))
  (hw : ∀ h t s, IsReal (w h t s)) (hb : ∀ t h, IsReal (b t h))

include hv hd' hg hw hb in
theorem du_real (p : Fin n) (j : Fin 512) : IsReal (du row zv d g w b p j) :=
  (hd' p j).mul ((IsReal.sum _ fun s => IsReal.select _ ((hw _ _ _).mul (((gelu_real (hv _ _)).mul
    (IsReal.rsqrt (meanSq_pos len_512 _))).mul (hg _))) IsReal.zero).add (hb _ _))

include hu hd' hw in
theorem dvn_real (p : Fin n) (j : Fin 512) : IsReal (dvn row zu d w p j) :=
  IsReal.sum _ fun t => IsReal.select _ ((hw _ _ _).mul ((hd' _ _).mul (gelu_real (hu _ _)))) IsReal.zero

include hu hv hd' hg hw in
theorem dv_real (p : Fin n) (j : Fin 512) : IsReal (grad 0x44000000#32 (vv zv p) (dvn row zu d w p) g j) :=
  IsReal.grad len_512 (fun k => gelu_real (hv p k)) (fun k => dvn_real hu hd' hw p k) hg j

end

end Cert.GmlpBwdIdeal.Gmlp

end
-- ==== Proof.Gmlp.Ref.lean ====
module

public import proofs.«01_k».proof.Proof.Gmlp.Value
public import proofs.«01_k».proof.Proof.Common.Fibers
public import proofs.«01_k».proof.Proof.Gmlp.Real
public import proofs.«01_k».proof.Proof.Gen.GmlpRefIdeal.Run

@[expose] public section

set_option maxRecDepth 16384

noncomputable section

open Idealize.ShloMosaic Idealize.ShloMosaic.TcCoe Idealize.SL.Sem

namespace Cert.GmlpRefIdeal.Gmlp

open Cert.GmlpRefIdeal Cert.GmlpRefIdeal.Gen Cert.GmlpRefIdeal.Value Cert.Common

/-- The gate half of the input. -/
def rU (z : FVec Ideal S4096x1024 .f32) : FVec Ideal S1x4096x512 .f32 :=
  extractStridedSlice S1x4096x512 ![0, 0, 0] (broadcastInDim S1x4096x1024 ![1, 2] bcast_S4096x1024_S1x4096x1024_1_2 z)
    slices_S1x4096x1024_S1x4096x512_0_0_0

/-- The value half of the input. -/
def rV (z : FVec Ideal S4096x1024 .f32) : FVec Ideal S1x4096x512 .f32 :=
  extractStridedSlice S1x4096x512 ![0, 0, 512] (broadcastInDim S1x4096x1024 ![1, 2] bcast_S4096x1024_S1x4096x1024_1_2 z)
    slices_S1x4096x1024_S1x4096x512_0_0_512

/-- The cotangent. -/
def rD (dm : FVec Ideal S4096x1024 .bf16) : FVec Ideal S1x4096x512 .f32 :=
  broadcastInDim S1x4096x512 ![1, 2] bcast_S4096x512_S1x4096x512_1_2 (extf .f32 (extractStridedSlice S4096x512 ![0, 0] dm
    slices_S4096x1024_S4096x512_0_0) bitsLt_bf16_f32)

/-- The gain along every row. -/
def rRow (gv : FVec Ideal S1x512 .f32) : FVec Ideal S1x4096x512 .f32 :=
  broadcastInDim S1x4096x512 ![0, 1, 2] bcast_S1x1x512_S1x4096x512_0_1_2 (broadcastInDim S1x1x512 ![2] bcast_S512_S1x1x512_2 (shapeCast _ gv
    shapeCasts_S1x512_S512))

/-- The gelu. -/
def rGelu (x : FVec Ideal S1x4096x512 .f32) : FVec Ideal S1x4096x512 .f32 :=
  mulf (mulf (broadcastInDim S1x4096x512 ![] bcast_S_S1x4096x512 (constant S_ .f32 0x3F000000#32)) x) (addf (broadcastInDim S1x4096x512 ![]
    bcast_S_S1x4096x512 (constant S_ .f32 0x3F800000#32)) (Host.erf (Host.divf x (broadcastInDim S1x4096x512 ![] bcast_S_S1x4096x512 (Host.sqrt
    (constant S_ .f32 0x40000000#32))))))

/-- The gelu's gradient. -/
def rSlope (x dy : FVec Ideal S1x4096x512 .f32) : FVec Ideal S1x4096x512 .f32 :=
  addf (Host.divf (mulf (mulf (broadcastInDim S1x4096x512 ![] bcast_S_S1x4096x512 (constant S_ .f32 0x3F906EBB#32)) (mulf (mulf (broadcastInDim
    S1x4096x512 ![] bcast_S_S1x4096x512 (constant S_ .f32 0x3F000000#32)) x) dy)) (Host.exp (Host.negf (mulf (Host.divf x (broadcastInDim S1x4096x512
    ![] bcast_S_S1x4096x512 (Host.sqrt (constant S_ .f32 0x40000000#32)))) (Host.divf x (broadcastInDim S1x4096x512 ![] bcast_S_S1x4096x512 (Host.sqrt
    (constant S_ .f32 0x40000000#32)))))))) (broadcastInDim S1x4096x512 ![] bcast_S_S1x4096x512 (Host.sqrt (constant S_ .f32 0x40000000#32)))) (mulf
    (broadcastInDim S1x4096x512 ![] bcast_S_S1x4096x512 (constant S_ .f32 0x3F000000#32)) (mulf dy (addf (broadcastInDim S1x4096x512 ![]
    bcast_S_S1x4096x512 (constant S_ .f32 0x3F800000#32)) (Host.erf (Host.divf x (broadcastInDim S1x4096x512 ![] bcast_S_S1x4096x512 (Host.sqrt
    (constant S_ .f32 0x40000000#32))))))))

/-- The mean of the squares of each row, ε added. -/
def rMean (v : FVec Ideal S1x4096x512 .f32) : FVec Ideal S1x4096x1 .f32 :=
  addf (Host.divf (broadcastInDim S1x4096x1 ![0, 1] bcast_S1x4096_S1x4096x1_0_1 (Host.reduceAdd (mulf v v) (constant S_ .f32 0x00000000#32)
    reducesTo_S1x4096x512_S1x4096_d2 h_S_)) (broadcastInDim S1x4096x1 ![] bcast_S_S1x4096x1 (constant S_ .f32 0x44000000#32))) (broadcastInDim
    S1x4096x1 ![] bcast_S_S1x4096x1 (constant S_ .f32 0x358637BD#32))

/-- The rows over their norms. -/
def rUnit (v : FVec Ideal S1x4096x512 .f32) : FVec Ideal S1x4096x512 .f32 :=
  mulf v (broadcastInDim S1x4096x512 ![0, 1, 2] bcast_S1x4096x1_S1x4096x512_0_1_2 (Host.rsqrt (rMean v)))

/-- The causal mask. -/
def rMask  : IVec S4x128x128 1 :=
  broadcastInDim S4x128x128 ![0, 1, 2] bcast_S1x128x128_S4x128x128_0_1_2 (broadcastInDim S1x128x128 ![1, 2] bcast_S128x128_S1x128x128_1_2 (select
    (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))))

/-- The masked weights. -/
def rW (ws : FVec Ideal S1x4x128x128 .f32) : FVec Ideal S4x128x128 .f32 :=
  select rMask (shapeCast _ ws shapeCasts_S1x4x128x128_S4x128x128) (broadcastInDim S4x128x128 ![] bcast_S_S4x128x128 (constant S_ .f32 0x00000000#32))

/-- The mixed values with the bias. -/
def rGate (n : FVec Ideal S1x4096x512 .f32) (w : FVec Ideal S4x128x128 .f32) (gb : FVec Ideal S1x4x128 .f32) : FVec Ideal S1x4096x512 .f32 :=
  shapeCast _ (addf (transpose S1x32x128x4x128 [1, 2, 4, 0, 3] (Host.dotGeneral dot_S1x32x128x4x128_S4x128x128_S4x1x32x128x128_2_2_014_1_3_0 none
    (shapeCast _ n shapeCasts_S1x4096x512_S1x32x128x4x128) w) transposes_S4x1x32x128x128_S1x32x128x4x128_1_2_4_0_3) (broadcastInDim S1x32x128x4x128
    ![0, 1, 2, 3, 4] bcast_S1x1x128x4x1_S1x32x128x4x128_0_1_2_3_4 (broadcastInDim S1x1x128x4x1 ![2, 3] bcast_S128x4_S1x1x128x4x1_2_3 (transpose S128x4
    [1, 0] (shapeCast _ gb shapeCasts_S1x4x128_S4x128) transposes_S4x128_S128x4_1_0)))) shapeCasts_S1x32x128x4x128_S1x4096x512

/-- The cotangent of the normed values. -/
def rDn (s : FVec Ideal S1x4096x512 .f32) (w : FVec Ideal S4x128x128 .f32) : FVec Ideal S1x4096x512 .f32 :=
  shapeCast _ (transpose S1x32x128x4x128 [1, 2, 4, 0, 3] (Host.dotGeneral dot_S4x1x32x128x128_S4x128x128_S4x1x32x128x128_4_1_123_2_0_0 none (transpose
    S4x1x32x128x128 [3, 0, 1, 4, 2] (shapeCast _ s shapeCasts_S1x4096x512_S1x32x128x4x128) transposes_S1x32x128x4x128_S4x1x32x128x128_3_0_1_4_2) w)
    transposes_S4x1x32x128x128_S1x32x128x4x128_1_2_4_0_3) shapeCasts_S1x32x128x4x128_S1x4096x512

/-- The factor of a row that both terms of its gradient share. -/
def rHalf (v y : FVec Ideal S1x4096x512 .f32) : FVec Ideal S4096 .f32 :=
  Host.reduceAdd (Host.divf (mulf (shapeCast _ (Host.reduceAdd (mulf v y) (constant S_ .f32 0x00000000#32) reducesTo_S1x4096x512_S1x4096_d2 h_S_)
    shapeCasts_S1x4096_S1x4096x1) (mulf (broadcastInDim S1x4096x1 ![] bcast_S_S1x4096x1 (constant S_ .f32 0xBF000000#32)) (Host.divf (Host.rsqrt
    (rMean v)) (rMean v)))) (broadcastInDim S1x4096x1 ![] bcast_S_S1x4096x1 (constant S_ .f32 0x44000000#32))) (constant S_ .f32 0x00000000#32)
    reducesTo_S1x4096x1_S4096_d0_2 h_S_

/-- The gradient of a norm. -/
def rDv (v y : FVec Ideal S1x4096x512 .f32) : FVec Ideal S1x4096x512 .f32 :=
  addf (addf (mulf y (broadcastInDim S1x4096x512 ![0, 1, 2] bcast_S1x4096x1_S1x4096x512_0_1_2 (Host.rsqrt (rMean v)))) (mulf v (broadcastInDim
    S1x4096x512 ![0, 1] bcast_S1x4096_S1x4096x512_0_1 (broadcastInDim S1x4096 ![1] bcast_S4096_S1x4096_1 (rHalf v y))))) (mulf (broadcastInDim
    S1x4096x512 ![0, 1] bcast_S1x4096_S1x4096x512_0_1 (broadcastInDim S1x4096 ![1] bcast_S4096_S1x4096_1 (rHalf v y))) v)

/-- The two halves side by side. -/
def rDz (a b : FVec Ideal S1x4096x512 .f32) : FVec Ideal S4096x1024 .bf16 :=
  truncf .bf16 (Host.reduceAdd (concatenate S1x4096x1024 2 [⟨S1x4096x512, a⟩, ⟨S1x4096x512, b⟩] concatenates_S1x4096x512_S1x4096x512_S1x4096x1024_d2)
    (constant S_ .f32 0x00000000#32) reducesTo_S1x4096x1024_S4096x1024_d0 h_S_) bitsLt_bf16_f32

/-- The weights' gradient. -/
def rDw (s n : FVec Ideal S1x4096x512 .f32) : FVec Ideal S4x128x128 .f32 :=
  shapeCast _ (broadcastInDim S1x4x128x128 ![1, 2, 3] bcast_S4x128x128_S1x4x128x128_1_2_3 (select rMask (Host.dotGeneral
    dot_S4x1x32x128x128_S1x32x128x4x128_S4x128x128_123_014_4_2_0_3 none (transpose S4x1x32x128x128 [3, 0, 1, 4, 2] (shapeCast _ s
    shapeCasts_S1x4096x512_S1x32x128x4x128) transposes_S1x32x128x4x128_S4x1x32x128x128_3_0_1_4_2) (shapeCast _ n
    shapeCasts_S1x4096x512_S1x32x128x4x128)) (broadcastInDim S4x128x128 ![] bcast_S_S4x128x128 (constant S_ .f32 0x00000000#32))))
    shapeCasts_S1x4x128x128_S4x128x128

/-- The biases' gradient. -/
def rDb (s : FVec Ideal S1x4096x512 .f32) : FVec Ideal S128x4 .f32 :=
  transpose S128x4 [1, 0] (shapeCast _ (broadcastInDim S1x4x128 ![1, 2] bcast_S4x128_S1x4x128_1_2 (transpose S4x128 [1, 0] (Host.reduceAdd (shapeCast
    _ (Host.reduceAdd (shapeCast _ s shapeCasts_S1x4096x512_S1x32x128x4x128) (constant S_ .f32 0x00000000#32) reducesTo_S1x32x128x4x128_S1x128x4_d1_4
    h_S_) shapeCasts_S1x128x4_S1x1x128x4x1) (constant S_ .f32 0x00000000#32) reducesTo_S1x1x128x4x1_S128x4_d0_1_4 h_S_) transposes_S128x4_S4x128_1_0))
    shapeCasts_S1x4x128_S4x128) transposes_S4x128_S128x4_1_0

/-- The gain's gradient. -/
def rDg (u y : FVec Ideal S1x4096x512 .f32) : FVec Ideal S1x512 .f32 :=
  broadcastInDim S1x512 ![1] bcast_S512_S1x512_1 (Host.reduceAdd (shapeCast _ (Host.reduceAdd (mulf u y) (constant S_ .f32 0x00000000#32)
    reducesTo_S1x4096x512_S1x512_d1 h_S_) shapeCasts_S1x512_S1x1x512) (constant S_ .f32 0x00000000#32) reducesTo_S1x1x512_S512_d0_1 h_S_)

variable (z : FVec Ideal S4096x1024 .f32) (dm : FVec Ideal S4096x1024 .bf16) (gv : FVec Ideal S1x512 .f32)
  (ws : FVec Ideal S1x4x128x128 .f32) (gb : FVec Ideal S1x4x128 .f32) (x y : FVec Ideal S1x4096x512 .f32) (w : FVec Ideal S4x128x128 .f32)
  (p : Fin 4096) (j : Fin 512) (h : Fin 4) (t s : Fin 128)

theorem red_rows (f : FVec Ideal S1x4096x1 .f32) (c : EReal) :
    Ideal.hostReduceAdd reducesTo_S1x4096x1_S4096_d0_2 f c (ix1 p) = c + f (ix3 0 p 0) := by
  refine congrArg (c + ·) ((sum_fiber f (fun _ : Unit => ix3 0 p 0) (fun _ => ()) (fun _ => ?_) (fun _ => rfl) fun i hi => ?_).trans (by simp))
  · funext b; fin_cases b; rfl
  · have h1 : i 1 = p := congrFun hi 0
    subst h1
    exact (eq_ix3 i).symm ▸ by funext b; fin_cases b <;> first | rfl | exact (Fin.fin_one_eq_zero _).symm

theorem red_cols (f : FVec Ideal S1x1x512 .f32) (c : EReal) :
    Ideal.hostReduceAdd reducesTo_S1x1x512_S512_d0_1 f c (ix1 j) = c + f (ix3 0 0 j) := by
  refine congrArg (c + ·) ((sum_fiber f (fun _ : Unit => ix3 0 0 j) (fun _ => ()) (fun _ => ?_) (fun _ => rfl) fun i hi => ?_).trans (by simp))
  · funext b; fin_cases b; rfl
  · have h1 : i 2 = j := congrFun hi 0
    subst h1
    funext b; fin_cases b <;> first | rfl | exact (Fin.fin_one_eq_zero _).symm

theorem red_heads (f : FVec Ideal S1x1x128x4x1 .f32) (c : EReal) :
    Ideal.hostReduceAdd reducesTo_S1x1x128x4x1_S128x4_d0_1_4 f c (ix2 t h) = c + f (ix5 0 0 t h 0) := by
  refine congrArg (c + ·) ((sum_fiber f (fun _ : Unit => ix5 0 0 t h 0) (fun _ => ()) (fun _ => ?_) (fun _ => rfl) fun i hi => ?_).trans (by simp))
  · funext b; fin_cases b <;> rfl
  · have h1 : i 2 = t := congrFun hi 0
    have h2 : i 3 = h := congrFun hi 1
    subst h1 h2
    funext b; fin_cases b <;> first | rfl | exact (Fin.fin_one_eq_zero _).symm

theorem red_chunks (f : FVec Ideal S1x32x128x4x128 .f32) (c : EReal) :
    Ideal.hostReduceAdd reducesTo_S1x32x128x4x128_S1x128x4_d1_4 f c (ix3 0 t h) = c + ∑ q : Fin 32 × Fin 128, f (ix5 0 q.1 t h q.2) := by
  refine congrArg (c + ·) (sum_fiber f (fun q : Fin 32 × Fin 128 => ix5 0 q.1 t h q.2) (fun i => (i 1, i 4)) (fun _ => ?_) (fun _ => rfl) fun i hi => ?_)
  · funext b; fin_cases b <;> rfl
  · have h1 : i 2 = t := congrFun hi 1
    have h2 : i 3 = h := congrFun hi 2
    subst h1 h2
    funext b; fin_cases b <;> first | rfl | exact (Fin.fin_one_eq_zero _).symm

/-- The coordinates of the weights' contraction. -/
def chunkIx (q : Fin 32 × Fin 128) : dot_S4x1x32x128x128_S1x32x128x4x128_S4x128x128_123_014_4_2_0_3.contr.Idx :=
  fun (a : Fin 3) => match a with
    | 0 => (0 : Fin 1)
    | 1 => q.1
    | 2 => q.2

theorem dot_chunks (x : FVec Ideal S4x1x32x128x128 .f32) (y : FVec Ideal S1x32x128x4x128 .f32) :
    Ideal.matmul dot_S4x1x32x128x128_S1x32x128x4x128_S4x128x128_123_014_4_2_0_3 x y (fun _ => 0) (ix3 h t s)
      = ∑ q : Fin 32 × Fin 128, x (ix5 h 0 q.1 q.2 t) * y (ix5 0 q.1 s h q.2) := by
  unfold Ideal.matmul
  rw [zero_add, sum_coords _ chunkIx (fun i => (i (1 : Fin 3), i (2 : Fin 3))) (fun _ => rfl) ?_]
  · refine Finset.sum_congr rfl fun q _ => congrArg₂ (· * ·) (congrArg x ?_) (congrArg y ?_)
    · funext b; fin_cases b <;> rfl
    · funext b; fin_cases b <;> rfl
  · refine fun i => funext fun (b : Fin 3) => ?_
    match b with
    | 0 => exact (Fin.fin_one_eq_zero (i (0 : Fin 3) : Fin 1)).symm
    | 1 => rfl
    | 2 => rfl

open Cert.GmlpBwdIdeal.Gmlp

/-- The elements by row and column. -/
def rd3 (x : FVec Ideal S1x4096x512 .f32) (p : Fin 4096) (j : Fin 512) : EReal := x (ix3 0 p j)

theorem rU_at : rd3 (rU z) = fU z := by funext p j; pointwise [rd3, rU, fU]
theorem rV_at : rd3 (rV z) = fV z := by funext p j; pointwise [rd3, rV, fV]
theorem rD_at : rd3 (rD dm) = fD dm := by funext p j; pointwise [rd3, rD, fD]
theorem rRow_at : rRow gv (ix3 0 p j) = fG gv j := by pointwise [rRow, fG]

theorem rGelu_at : rGelu x (ix3 0 p j) = gelu (rd3 x p j) := by
  rw [gelu, ← div_root]
  pointwise [rd3, rGelu]
  rfl

theorem rSlope_at (hx : IsReal (rd3 x p j)) (hy : IsReal (rd3 y p j)) : rSlope x y (ix3 0 p j) = rd3 y p j * geluGrad (rd3 x p j) := by
  rw [← slope_eq hx hy]
  pointwise [rd3, rSlope]

theorem rMean_at : rMean x (ix3 0 p 0) = meanSq 0x44000000#32 (rd3 x p) := by pointwise [rMean, meanSq, rd3]

theorem rUnit_at : rUnit x (ix3 0 p j) = rd3 x p j * Ideal.rsqrt (meanSq 0x44000000#32 (rd3 x p)) := by
  rw [← rMean_at]
  pointwise [rUnit, rd3]

theorem mask_eq (t s : ℕ) (x : EReal) :
    Scalar.select (Scalar.select (IntOp.cmpi .sge (IntOp.addi (BitVec.ofNat 32 t) 0#32) (BitVec.ofNat 32 s)) 1#1 0#1) x 0 = sel t s x := by
  have e : ∀ c : BitVec 1, Scalar.select c 1#1 0#1 = c := by decide
  rw [e, sel, show IntOp.addi (BitVec.ofNat 32 t) 0#32 = BitVec.ofNat 32 t from BitVec.add_zero _]

theorem rW_at : rW ws (ix3 h t s) = sel t s (fW ws h t s) := by
  rw [← mask_eq]
  pointwise [rW, rMask, fW]

theorem rGate_at : rGate x w gb (ix3 0 p j) = (∑ s : Fin 128, rd3 x (rowA p s) j * w (ix3 (hd j) (lo p) s)) + fB gb (lo p) (hd j) := by
  pointwise [rGate, rd3, fB, hd, lo, rowA]

theorem rDn_at : rDn x w (ix3 0 p j) = ∑ t : Fin 128, rd3 x (rowA p t) j * w (ix3 (hd j) t (lo p)) := by
  pointwise [rDn, rd3, hd, lo, rowA]

theorem rHalf_at (d : Fin 4096 → Fin 512 → EReal) (g : Fin 512 → EReal) (hy : ∀ p j, rd3 y p j = d p j * g j) :
    rHalf x y (ix1 p) = half 0x44000000#32 (rd3 x p) (d p) g := by
  unfold half
  simp only [← hy, ← rMean_at]
  pointwise [rHalf, red_rows, rd3]

theorem rDv_at (d : Fin 4096 → Fin 512 → EReal) (g : Fin 512 → EReal) (hy : ∀ p j, rd3 y p j = d p j * g j) :
    rDv x y (ix3 0 p j) = grad 0x44000000#32 (rd3 x p) (d p) g j := by
  refine Eq.trans ?_ ((congrArg (fun e => e + _ + _) (zero_add _).symm).trans ((grad_eq len_512 (rd3 x p) (d p) g 0 j).trans (zero_add _)))
  rw [← rHalf_at x y p d g hy, ← rMean_at, ← hy]
  pointwise [rDv, rd3]

theorem rDz_at (j : Fin 1024) : rDz x y (ix2 p j)
    = if h : j.val < 512 then rd3 x p ⟨j.val, h⟩ else rd3 y p ⟨j.val - 512, by omega⟩ := by
  pointwise [rDz, rd3]
  exact Fin.sum_univ_one _

theorem chunk_rows (c : Fin 32) (t : Fin 128) : (⟨c.val * 128 + t.val, by omega⟩ : Fin 4096) = ⟨128 * c.val + t.val, by omega⟩ :=
  Fin.ext (by show c.val * 128 + t.val = 128 * c.val + t.val; omega)

theorem head_cols (h : Fin 4) (k : Fin 128) : (⟨h.val * 128 + k.val, by omega⟩ : Fin 512) = ⟨128 * h.val + k.val, by omega⟩ :=
  Fin.ext (by show h.val * 128 + k.val = 128 * h.val + k.val; omega)

theorem rDw_at : rDw x y (ix3 h t s) = ∑ c : Fin 32, sel t s (∑ k : Fin 128,
    rd3 x ⟨128 * c + t, by omega⟩ ⟨128 * h + k, by omega⟩ * rd3 y ⟨128 * c + s, by omega⟩ ⟨128 * h + k, by omega⟩) := by
  rw [← sel_sum, ← mask_eq, ← Fintype.sum_prod_type' (f := fun (c : Fin 32) (k : Fin 128) =>
    rd3 x ⟨128 * c + t, by omega⟩ ⟨128 * h + k, by omega⟩ * rd3 y ⟨128 * c + s, by omega⟩ ⟨128 * h + k, by omega⟩)]
  simp only [← chunk_rows, ← head_cols]
  pointwise [rDw, rMask, rd3]
  rw [dot_chunks]
  pointwise []

theorem rDb_at : rDb x (ix2 t h) = ∑ c : Fin 32, ∑ k : Fin 128, rd3 x ⟨128 * c + t, by omega⟩ ⟨128 * h + k, by omega⟩ := by
  rw [← Fintype.sum_prod_type' (f := fun (c : Fin 32) (k : Fin 128) => rd3 x ⟨128 * c + t, by omega⟩ ⟨128 * h + k, by omega⟩)]
  simp only [← chunk_rows, ← head_cols]
  pointwise [rDb, red_heads, red_chunks, rd3]

theorem rDg_at : rDg x y (ix2 0 j) = ∑ p : Fin 4096, rd3 x p j * rd3 y p j := by pointwise [rDg, red_cols, rd3]

/-! ## The stages on the arguments -/

/-- The normed values with their gain, and the cotangent of the mixed values. -/
def rN : FVec Ideal S1x4096x512 .f32 := mulf (rUnit (rGelu (rV z))) (rRow gv)
def rS : FVec Ideal S1x4096x512 .f32 := mulf (rGelu (rU z)) (rD dm)
/-- The cotangents of the two halves after their activations. -/
def rDu : FVec Ideal S1x4096x512 .f32 := mulf (rD dm) (rGate (rN z gv) (rW ws) gb)
def rDvv : FVec Ideal S1x4096x512 .f32 := rDv (rGelu (rV z)) (mulf (rDn (rS z dm) (rW ws)) (rRow gv))

theorem sel_mul (t s : ℕ) (x y : EReal) : x * sel t s y = sel t s (y * x) := by
  unfold sel Scalar.select
  split_ifs
  · exact mul_comm _ _
  · exact mul_zero _

theorem rGelu_rd (f : Fin 4096 → Fin 512 → EReal) (hf : rd3 x = f) : rd3 (rGelu x) = fun p j => gelu (f p j) := by
  subst hf
  funext p j
  exact rGelu_at x p j

theorem rN_at : rd3 (rN z gv) = vn (fV z) (fG gv) := by
  funext p j
  have e : rd3 (rN z gv) p j = rUnit (rGelu (rV z)) (ix3 0 p j) * rRow gv (ix3 0 p j) := rfl
  rw [e, rUnit_at, rRow_at, rGelu_rd _ _ (rV_at z)]
  rfl

theorem rS_at : rd3 (rS z dm) = ds (fU z) (fD dm) := by
  funext p j
  have e : rd3 (rS z dm) p j = rGelu (rU z) (ix3 0 p j) * rd3 (rD dm) p j := rfl
  rw [e, rGelu_at, rU_at, rD_at, mul_comm]
  rfl

theorem rDu_at : rd3 (rDu z dm gv ws gb) = du rowA (fV z) (fD dm) (fG gv) (fW ws) (fB gb) := by
  funext p j
  have e : rd3 (rDu z dm gv ws gb) p j = rd3 (rD dm) p j * rGate (rN z gv) (rW ws) gb (ix3 0 p j) := rfl
  rw [e, rGate_at, rD_at, rN_at]
  simp only [rW_at, sel_mul]
  rfl

theorem rDn_eq : rd3 (rDn (rS z dm) (rW ws)) = dvn rowA (fU z) (fD dm) (fW ws) := by
  funext p j
  refine (rDn_at _ _ _ _).trans ?_
  rw [rS_at]
  simp only [rW_at, sel_mul]
  rfl

theorem rDvv_at : rd3 (rDvv z dm gv ws) = fun p => grad 0x44000000#32 (vv (fV z) p) (dvn rowA (fU z) (fD dm) (fW ws) p) (fG gv) := by
  funext p j
  refine (rDv_at _ _ _ _ (dvn rowA (fU z) (fD dm) (fW ws)) (fG gv) fun p j => ?_).trans ?_
  · rw [← rDn_eq, ← rRow_at]
    rfl
  · rw [rGelu_rd _ _ (rV_at z)]
    rfl

/-! ## The four results -/

theorem dz_eq (hz : ∀ i, IsReal (z i)) (hd : ∀ p j, IsReal (fD dm p j)) (hg : ∀ i, IsReal (gv i)) (hw : ∀ i, IsReal (ws i)) (hb : ∀ i, IsReal (gb i)) :
    rDz (rSlope (rU z) (rDu z dm gv ws gb)) (rSlope (rV z) (rDvv z dm gv ws)) = Cert.GmlpBwdIdeal.Gmlp.dz z dm gv ws gb := by
  have hu : ∀ p j, IsReal (fU z p j) := fun p j => hz _
  have hv : ∀ p j, IsReal (fV z p j) := fun p j => hz _
  funext i
  obtain ⟨p, j, rfl⟩ : ∃ (p : Fin 4096) (j : Fin 1024), i = ix2 p j := ⟨_, _, eq_ix2 i⟩
  rw [rDz_at, Cert.GmlpBwdIdeal.Gmlp.dz]
  refine dite_congr rfl (fun h => ?_) fun h => ?_
  · refine (rSlope_at _ _ _ _ (rU_at z ▸ hu _ _) (rDu_at z dm gv ws gb ▸ du_real hv hd (fun _ => hg _) (fun _ _ _ => hw _) (fun _ _ => hb _) _ _)).trans ?_
    rw [rU_at, rDu_at]
    rfl
  · refine (rSlope_at _ _ _ _ (rV_at z ▸ hv _ _) (rDvv_at z dm gv ws ▸ dv_real hu hv hd (fun _ => hg _) (fun _ _ _ => hw _) _ _)).trans ?_
    rw [rV_at, rDvv_at]
    rfl

theorem dw_eq : rDw (rS z dm) (rN z gv) = Cert.GmlpBwdIdeal.Gmlp.dw z dm gv := by
  funext i
  obtain ⟨h, t, s, rfl⟩ : ∃ (h : Fin 4) (t s : Fin 128), i = ix3 h t s := ⟨_, _, _, eq_ix3 i⟩
  rw [rDw_at, rS_at, rN_at]
  rfl

theorem dbt_eq : rDb (rS z dm) = Cert.GmlpBwdIdeal.Gmlp.dbt z dm := by
  funext i
  obtain ⟨t, h, rfl⟩ : ∃ (t : Fin 128) (h : Fin 4), i = ix2 t h := ⟨_, _, eq_ix2 i⟩
  rw [rDb_at, rS_at]
  rfl

theorem dgv_eq : rDg (rUnit (rGelu (rV z))) (rDn (rS z dm) (rW ws)) = Cert.GmlpBwdIdeal.Gmlp.dgv z dm ws := by
  funext i
  obtain ⟨p, j, rfl⟩ : ∃ (p : Fin 1) (j : Fin 512), i = ix2 p j := ⟨_, _, eq_ix2 i⟩
  obtain rfl : p = 0 := Fin.fin_one_eq_zero p
  rw [rDg_at, rDn_eq]
  refine Finset.sum_congr rfl fun p _ => ?_
  refine (congrArg (· * _) (rUnit_at _ _ _)).trans ?_
  rw [rGelu_rd _ _ (rV_at z), mul_comm, ← mul_assoc]
  rfl

/-! ## The run's terms -/

variable (m : (ℓ : Loc nD τ sig) → Buf (Elt Ideal) ℓ)

abbrev aZ (c : Dev nD) : FVec Ideal S4096x1024 .f32 := m ((c : Thread nD τ).loc main_arg0)
abbrev aD (c : Dev nD) : FVec Ideal S4096x1024 .bf16 := m ((c : Thread nD τ).loc main_arg1)
abbrev aG (c : Dev nD) : FVec Ideal S1x512 .f32 := m ((c : Thread nD τ).loc main_arg2)
abbrev aW (c : Dev nD) : FVec Ideal S1x4x128x128 .f32 := m ((c : Thread nD τ).loc main_arg3)
abbrev aB (c : Dev nD) : FVec Ideal S1x4x128 .f32 := m ((c : Thread nD τ).loc main_arg4)

theorem out0_eq (c : Dev nD) : res_out0 m c
    = rDz (rSlope (rU (aZ m c)) (rDu (aZ m c) (aD m c) (aG m c) (aW m c) (aB m c))) (rSlope (rV (aZ m c)) (rDvv (aZ m c) (aD m c) (aG m c) (aW m c))) := rfl
theorem out1_eq (c : Dev nD) : res_out1 m c = rDw (rS (aZ m c) (aD m c)) (rN (aZ m c) (aG m c)) := rfl
theorem out3_eq (c : Dev nD) : res_out3 m c = rDg (rUnit (rGelu (rV (aZ m c)))) (rDn (rS (aZ m c) (aD m c)) (rW (aW m c))) := rfl

end Cert.GmlpRefIdeal.Gmlp

end
-- ==== Proof.Gmlp.Claim.lean ====
/-
  The value claim of the chunked gMLP, backward: the kernel's four results are the gradient's where the arguments are finite.
-/
module

public import proofs.«01_k».proof.Defs
public import proofs.«01_k».proof.Proof.Gmlp.Ref
public import Idealize.ShloMosaic.Lib.Claim

@[expose] public section

set_option maxRecDepth 16384

noncomputable section

open Idealize.ShloMosaic Idealize.ShloMosaic.TcCoe Idealize.SL.Sem

namespace Cert.Gmlp

open Cert.GmlpBwdIdeal.Gmlp Cert.Common

/-- The precondition as it is used: every element of the arguments is real. -/
theorem real_args [Cert.Pre_gmlp_finite.Facts] (m : (ℓ : Loc Cert.GmlpBwdIdeal.nD Cert.GmlpBwdIdeal.τ Cert.GmlpBwdIdeal.sig) → Buf (Elt Ideal) ℓ)
    (h : Cert.Pre_GmlpBwdIdeal_gmlp_finite m) (c : Dev Cert.GmlpBwdIdeal.nD) :
    (∀ i, IsReal (aZ m c i)) ∧ (∀ p j, IsReal (fD (aD m c) p j)) ∧ (∀ i, IsReal (aG m c i)) ∧ (∀ i, IsReal (aW m c i)) ∧ ∀ i, IsReal (aB m c i) := by
  obtain ⟨h0, h1, h2, h3, h4⟩ := h c
  refine ⟨fun i => .of_finite (congrFun h0 i), fun p j => ?_, fun i => .of_finite (congrFun h2 i), fun i => .of_finite (congrFun h3 i),
    fun i => .of_finite (congrFun h4 i)⟩
  have e := congrFun h1 (ix2 p j)
  refine IsReal.of_finite (Eq.trans ?_ e)
  pointwise [Cert.Pre_gmlp_finite.fn, fD, aD]
  rfl

theorem algebraic [Cert.Pre_gmlp_finite.Facts] : Cert.algebraic_GmlpBwdIdeal_GmlpRefIdeal_pre_gmlp_finite := by
  pair_intro
  · run_from Cert.GmlpBwdIdeal.Gen.run_main m g
  · run_from Cert.GmlpRefIdeal.Value.run m' g'
    · obtain ⟨h0, h1, h2, h3, h4⟩ := hagree c
      obtain ⟨z, d, v, w, b⟩ := real_args m hpre c
      refine (Cert.GmlpRefIdeal.Gmlp.out0_eq m' c).trans ?_
      rw [final5, Cert.GmlpRefIdeal.Gmlp.aZ, h0, Cert.GmlpRefIdeal.Gmlp.aD, h1, Cert.GmlpRefIdeal.Gmlp.aG, h2, Cert.GmlpRefIdeal.Gmlp.aW, h3, Cert.GmlpRefIdeal.Gmlp.aB, h4]
      exact Cert.GmlpRefIdeal.Gmlp.dz_eq _ _ _ _ _ z d v w b
    · obtain ⟨h0, h1, h2, h3, h4⟩ := hagree c
      refine (Cert.GmlpRefIdeal.Gmlp.out1_eq m' c).trans ?_
      rw [final6, Cert.GmlpRefIdeal.Gmlp.aZ, h0, Cert.GmlpRefIdeal.Gmlp.aD, h1, Cert.GmlpRefIdeal.Gmlp.aG, h2]
      exact Cert.GmlpRefIdeal.Gmlp.dw_eq _ _ _
    · exact (Cert.GmlpRefIdeal.Gmlp.dbt_eq _ _).trans (final7 m c).symm
    · obtain ⟨h0, h1, h2, h3, h4⟩ := hagree c
      refine (Cert.GmlpRefIdeal.Gmlp.out3_eq m' c).trans ?_
      rw [final8, Cert.GmlpRefIdeal.Gmlp.aZ, h0, Cert.GmlpRefIdeal.Gmlp.aD, h1, Cert.GmlpRefIdeal.Gmlp.aW, h3]
      exact Cert.GmlpRefIdeal.Gmlp.dgv_eq _ _ _

theorem frame_ref : Cert.quiescent_GmlpRefIdeal := fun m ρ _ =>
  (θ_run Cert.GmlpRefIdeal.defs _ _).mono (fun r h => ⟨fun c => (h c).2.2.2.2, sem_eq_zero_of_no_sems (by decide) r.2⟩)
    (Cert.GmlpRefIdeal.Value.run m ρ)

theorem preserves : Cert.preserves_GmlpBwd_GmlpBwdIdeal :=
  ⟨IdealRules.named_const.statement _ _ _ _ _ rfl, IdealRules.named_const.statement _ _ _ _ _ rfl⟩

end Cert.Gmlp

end
-- ==== Proof.Ffn.Spec.lean ====
/-
  The feed-forward half step and its gradient: the results as functions of the arguments' entries.
-/
module

public import proofs.«01_k».proof.Proof.Common.Norm

@[expose] public section

noncomputable section

open Idealize.ShloMosaic

namespace Cert.Ffn

open Cert.Common

/-- A row normed: the row over its norm, times the gain. -/
def nrm (h g : Fin 1024 → EReal) (k : Fin 1024) : EReal := h k * Ideal.rsqrt (meanSq 0x44800000#32 h) * g k

/-- What enters the gate: the normed row through the first weight. -/
def pre (h g : Fin 1024 → EReal) (w : Fin 1024 → Fin 5632 → EReal) (j : Fin 5632) : EReal := ∑ k, nrm h g k * w k j

/-- The gate's half and the value's half of what enters the gate. -/
def gt (u : Fin 5632 → EReal) (j : Fin 2816) : EReal := u ⟨j, by omega⟩
def up (u : Fin 5632 → EReal) (j : Fin 2816) : EReal := u ⟨2816 + j, by omega⟩

/-- The gated value. -/
def act (u : Fin 5632 → EReal) (j : Fin 2816) : EReal := gt u j * Ideal.logistic (gt u j) * up u j

/-- The row after the half step. -/
def out (h : Fin 1024 → EReal) (u : Fin 5632 → EReal) (o : Fin 2816 → Fin 1024 → EReal) (k : Fin 1024) : EReal :=
  h k + Ideal.ofBits .f32 0x3F000000#32 * ∑ j, act u j * o j k

/-- The cotangent of the half step's addend. -/
def dhh (d : Fin 1024 → EReal) (k : Fin 1024) : EReal := Ideal.ofBits .f32 0x3F000000#32 * d k

/-- The cotangent of the gated value. -/
def dact (d : Fin 1024 → EReal) (o : Fin 2816 → Fin 1024 → EReal) (j : Fin 2816) : EReal := ∑ k, dhh d k * o j k

/-- The cotangents of the gate's half and of the value's half. -/
def dgt (d : Fin 1024 → EReal) (u : Fin 5632 → EReal) (o : Fin 2816 → Fin 1024 → EReal) (j : Fin 2816) : EReal :=
  dact d o j * up u j * (Ideal.logistic (gt u j)
    * (Ideal.ofBits .f32 0x3F800000#32 + gt u j * (Ideal.ofBits .f32 0x3F800000#32 - Ideal.logistic (gt u j))))
def dup (d : Fin 1024 → EReal) (u : Fin 5632 → EReal) (o : Fin 2816 → Fin 1024 → EReal) (j : Fin 2816) : EReal :=
  dact d o j * (gt u j * Ideal.logistic (gt u j))

/-- The two side by side. -/
def dgu (d : Fin 1024 → EReal) (u : Fin 5632 → EReal) (o : Fin 2816 → Fin 1024 → EReal) (j : Fin 5632) : EReal :=
  if h : j.val < 2816 then dgt d u o ⟨j, h⟩ else dup d u o ⟨j.val - 2816, by omega⟩

/-- The cotangent of the normed row. -/
def dn (d : Fin 1024 → EReal) (u : Fin 5632 → EReal) (w : Fin 1024 → Fin 5632 → EReal) (o : Fin 2816 → Fin 1024 → EReal) (k : Fin 1024) : EReal :=
  ∑ j, dgt d u o j * gt (w k) j + ∑ j, dup d u o j * up (w k) j

/-- The row's gradient, what comes along the residual added. -/
def dh (d h g : Fin 1024 → EReal) (u : Fin 5632 → EReal) (w : Fin 1024 → Fin 5632 → EReal) (o : Fin 2816 → Fin 1024 → EReal) (k : Fin 1024) : EReal :=
  d k + grad 0x44800000#32 h (dn d u w o) g k

/-- A row's part of the gain's gradient. -/
def dgp (d h : Fin 1024 → EReal) (u : Fin 5632 → EReal) (w : Fin 1024 → Fin 5632 → EReal) (o : Fin 2816 → Fin 1024 → EReal) (k : Fin 1024) : EReal :=
  dn d u w o k * h k * Ideal.rsqrt (meanSq 0x44800000#32 h)

/-- The weight's columns stacked in four blocks. -/
def unstack (wp : FVec Ideal (⟨3, ![4, 1024, 1408]⟩ : Shape) .bf16) (k : Fin 1024) (j : Fin 5632) : EReal :=
  wp (ix3 ⟨j.val / 1408, by omega⟩ k ⟨j.val % 1408, by omega⟩)

theorem unstack_at (wp) (q : Fin 4) (k : Fin 1024) (r : Fin 1408) (j : Fin 5632) (h : j.val = 1408 * q.val + r.val) :
    unstack wp k j = wp (ix3 q k r) := by
  have e : (⟨j.val / 1408, by omega⟩ : Fin 4) = q := Fin.ext (by show j.val / 1408 = q.val; omega)
  have e' : (⟨j.val % 1408, by omega⟩ : Fin 1408) = r := Fin.ext (by show j.val % 1408 = r.val; omega)
  rw [unstack, e, e']

/-- A sum over the value's width, in its two column blocks. -/
theorem sum_blocks (f : Fin 2816 → EReal) :
    ∑ j, f j = (∑ r : Fin 1408, f ⟨r, by omega⟩) + ∑ r : Fin 1408, f ⟨1408 + r, by omega⟩ :=
  Fin.sum_univ_add (a := 1408) (b := 1408) f

end Cert.Ffn

end
-- ==== Proof.Ffn.Value.lean ====
/-
  The feed-forward half step and its gradient: what the arrays of the two regions hold after each, over what they hold
  at its entry.
-/
module

public import proofs.«01_k».proof.Proof.Ffn.Spec
public import proofs.«01_k».proof.Proof.Gen.FfnBwdIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnBwdIdeal.Ffn

open Cert.FfnBwdIdeal Cert.FfnBwdIdeal.Gen Cert.Common Cert.Ffn

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] :=
  (by decide +kernel : ∀ t : Fin grid0.N, _)

theorem idx1 : ∀ t : Fin cfg1.N, win1_0.index t = ![t.val, 0] ∧ win1_1.index t = ![t.val, 0] ∧ win1_2.index t = ![0, 0]
    ∧ win1_3.index t = ![t.val, 0] ∧ win1_4.index t = ![0, 0, 0] ∧ win1_5.index t = ![0, 0] ∧ win1_6.index t = ![t.val, 0]
    ∧ win1_7.index t = ![t.val, 0] ∧ win1_8.index t = ![t.val, 0] ∧ win1_9.index t = ![t.val, 0] ∧ win1_10.index t = ![t.val, 0] :=
  (by decide +kernel : ∀ t : Fin grid1.N, _)

/-! ## The arrays a region finds, read as functions of a row and a column -/

abbrev fD (c : Dev nD) (p : Fin 4096) (k : Fin 1024) : EReal := (V c main_arg0 : FVec Ideal S4096x1024 .f32) (ix2 p k)
abbrev fH (c : Dev nD) (p : Fin 4096) (k : Fin 1024) : EReal := (V c main_arg1 : FVec Ideal S4096x1024 .f32) (ix2 p k)
abbrev fG (c : Dev nD) (k : Fin 1024) : EReal := (V c main_arg2 : FVec Ideal S1x1024 .f32) (ix2 0 k)
abbrev fU (c : Dev nD) (p : Fin 4096) (j : Fin 5632) : EReal := (V c main_v6_1 : FVec Ideal S4096x5632 .bf16) (ix2 p j)
abbrev fW (c : Dev nD) : Fin 1024 → Fin 5632 → EReal := unstack (V c main_v3 : FVec Ideal S4x1024x1408 .bf16)
abbrev fO (c : Dev nD) (j : Fin 2816) (k : Fin 1024) : EReal := (V c main_v5 : FVec Ideal S2816x1024 .bf16) (ix2 j k)

/-! ## The forward region -/

def em0 (t : Fin cfg0.N) (a : Fin 512) : Fin 4096 := ⟨t.val * 512 + a.val, by have h := t.isLt; have : cfg0.N = 8 := N_0; omega⟩

abbrev bH (c : Dev nD) (t : Fin cfg0.N) : FVec Ideal S512x1024 .f32 := View.ld (iblk0 V c 0 t) r0_0
abbrev bG (c : Dev nD) (t : Fin cfg0.N) : FVec Ideal S1x1024 .f32 := View.ld (iblk0 V c 1 t) r0_1
abbrev bW0 (c : Dev nD) (t : Fin cfg0.N) : FVec Ideal S1x1024x1408 .bf16 := View.ld (iblk0 V c 2 t) r0_2
abbrev bW1 (c : Dev nD) (t : Fin cfg0.N) : FVec Ideal S1x1024x1408 .bf16 := View.ld (iblk0 V c 2 t) r0_7
abbrev bW2 (c : Dev nD) (t : Fin cfg0.N) : FVec Ideal S1x1024x1408 .bf16 := View.ld (iblk0 V c 2 t) r0_3
abbrev bW3 (c : Dev nD) (t : Fin cfg0.N) : FVec Ideal S1x1024x1408 .bf16 := View.ld (iblk0 V c 2 t) r0_8
abbrev bO0 (c : Dev nD) (t : Fin cfg0.N) : FVec Ideal S1408x1024 .bf16 := View.ld (iblk0 V c 3 t) r0_6
abbrev bO1 (c : Dev nD) (t : Fin cfg0.N) : FVec Ideal S1408x1024 .bf16 := View.ld (iblk0 V c 3 t) r0_11

section
variable (c : Dev nD) (t : Fin cfg0.N)

theorem bH_at (a : Fin 512) (k : Fin 1024) : bH V c t (ix2 a k) = fH V c (em0 t a) k := by
  pointwise [bH, fH]; blk_point [iblk0, idx0 t, em0]
theorem bG_at (k : Fin 1024) : bG V c t (ix2 0 k) = fG V c k := by
  pointwise [bG, fG]; blk_point [iblk0, idx0 t]
theorem bW0_at (k : Fin 1024) (r : Fin 1408) : bW0 V c t (ix3 0 k r) = gt (fW V c k) ⟨r, by omega⟩ := by
  refine Eq.trans ?_ (unstack_at _ 0 k r _ (by show r.val = 1408 * 0 + r.val; omega)).symm
  pointwise [bW0]; blk_point [iblk0, idx0 t]
theorem bW1_at (k : Fin 1024) (r : Fin 1408) : bW1 V c t (ix3 0 k r) = gt (fW V c k) ⟨1408 + r, by omega⟩ := by
  refine Eq.trans ?_ (unstack_at _ 1 k r _ (by show 1408 + r.val = 1408 * 1 + r.val; omega)).symm
  pointwise [bW1]; blk_point [iblk0, idx0 t]
theorem bW2_at (k : Fin 1024) (r : Fin 1408) : bW2 V c t (ix3 0 k r) = up (fW V c k) ⟨r, by omega⟩ := by
  refine Eq.trans ?_ (unstack_at _ 2 k r _ (by show 2816 + r.val = 1408 * 2 + r.val; omega)).symm
  pointwise [bW2]; blk_point [iblk0, idx0 t]
theorem bW3_at (k : Fin 1024) (r : Fin 1408) : bW3 V c t (ix3 0 k r) = up (fW V c k) ⟨1408 + r, by omega⟩ := by
  refine Eq.trans ?_ (unstack_at _ 3 k r _ (by show 2816 + (1408 + r.val) = 1408 * 3 + r.val; omega)).symm
  pointwise [bW3]; blk_point [iblk0, idx0 t]
theorem bO0_at (r : Fin 1408) (k : Fin 1024) : bO0 V c t (ix2 r k) = fO V c ⟨r, by omega⟩ k := by
  pointwise [bO0]; blk_point [iblk0, idx0 t]
theorem bO1_at (r : Fin 1408) (k : Fin 1024) : bO1 V c t (ix2 r k) = fO V c ⟨1408 + r, by omega⟩ k := by
  pointwise [bO1]; blk_point [iblk0, idx0 t]

end

/-- The normed rows of a block. -/
theorem pay6_at (h : FVec Ideal S512x1024 .f32) (g : FVec Ideal S1x1024 .f32) (a : Fin 512) (k : Fin 1024) :
    k0_pay6 (F := Ideal) h g (ix2 a k) = nrm (fun k => h (ix2 a k)) (fun k => g (ix2 0 k)) k := by
  pointwise [k0_pay6, nrm, meanSq]

/-- A column block of what enters the gate. -/
theorem mm_at (n : FVec Ideal S512x1024 .bf16) (w : FVec Ideal S1x1024x1408 .bf16) (a : Fin 512) (b : Fin 1408) :
    k0_pay1 (F := Ideal) n w (ix2 a b) = ∑ k : Fin 1024, n (ix2 a k) * w (ix3 0 k b) := by
  pointwise [k0_pay1]

theorem pay5_at (h acc : FVec Ideal S512x1024 .f32) (n : FVec Ideal S512x1024 .bf16) (w w' : FVec Ideal S1x1024x1408 .bf16)
    (o : FVec Ideal S1408x1024 .bf16) (a : Fin 512) (k : Fin 1024) :
    k0_pay5 (F := Ideal) h n acc w w' o (ix2 a k) = h (ix2 a k) + Ideal.ofBits .f32 0x3F000000#32 * (acc (ix2 a k)
      + ∑ j : Fin 1408, k0_pay1 (F := Ideal) n w (ix2 a j) * Ideal.logistic (k0_pay1 (F := Ideal) n w (ix2 a j))
        * k0_pay1 (F := Ideal) n w' (ix2 a j) * o (ix2 j k)) := by
  pointwise [k0_pay5, k0_pay2, k0_pay1]

theorem pay11_at (h : FVec Ideal S512x1024 .f32) (g : FVec Ideal S1x1024 .f32) (w w' : FVec Ideal S1x1024x1408 .bf16)
    (o : FVec Ideal S1408x1024 .bf16) (a : Fin 512) (k : Fin 1024) :
    k0_pay11 (F := Ideal) h g w w' o (ix2 a k)
      = ∑ j : Fin 1408, k0_pay1 (F := Ideal) (k0_pay6 h g) w (ix2 a j) * Ideal.logistic (k0_pay1 (F := Ideal) (k0_pay6 h g) w (ix2 a j))
        * k0_pay1 (F := Ideal) (k0_pay6 h g) w' (ix2 a j) * o (ix2 j k) := by
  pointwise [k0_pay11, k0_pay7, k0_pay8, k0_pay1]

section
variable (c : Dev nD) (t : Fin cfg0.N)

/-- The four column blocks over the arrays. -/
abbrev preU (p : Fin 4096) : Fin 5632 → EReal := pre (fH V c p) (fG V c) (fW V c)

theorem mm0 (a : Fin 512) (r : Fin 1408) :
    k0_pay1 (F := Ideal) (k0_pay6 (bH V c t) (bG V c t)) (bW0 V c t) (ix2 a r) = gt (preU V c (em0 t a)) ⟨r, by omega⟩ := by
  simp only [mm_at, pay6_at, bH_at, bG_at, bW0_at]; rfl
theorem mm1 (a : Fin 512) (r : Fin 1408) :
    k0_pay1 (F := Ideal) (k0_pay6 (bH V c t) (bG V c t)) (bW1 V c t) (ix2 a r) = gt (preU V c (em0 t a)) ⟨1408 + r, by omega⟩ := by
  simp only [mm_at, pay6_at, bH_at, bG_at, bW1_at]; rfl
theorem mm2 (a : Fin 512) (r : Fin 1408) :
    k0_pay1 (F := Ideal) (k0_pay6 (bH V c t) (bG V c t)) (bW2 V c t) (ix2 a r) = up (preU V c (em0 t a)) ⟨r, by omega⟩ := by
  simp only [mm_at, pay6_at, bH_at, bG_at, bW2_at]; rfl
theorem mm3 (a : Fin 512) (r : Fin 1408) :
    k0_pay1 (F := Ideal) (k0_pay6 (bH V c t) (bG V c t)) (bW3 V c t) (ix2 a r) = up (preU V c (em0 t a)) ⟨1408 + r, by omega⟩ := by
  simp only [mm_at, pay6_at, bH_at, bG_at, bW3_at]; rfl

theorem emb4 (y : S512x1024.Idx) : ((cfg0.win 4).blk t).view.emb y = ix2 (em0 t (y 0)) (y 1) := by
  funext a
  refine Fin.ext ?_
  fin_cases a <;> blk_simp [idx0 t, em0] <;> rfl
theorem emb5 (y : S512x5632.Idx) : ((cfg0.win 5).blk t).view.emb y = ix2 (em0 t (y 0)) (y 1) := by
  funext a
  refine Fin.ext ?_
  fin_cases a <;> blk_simp [idx0 t, em0] <;> rfl

end

/-- The rows after the half step. -/
def outA (c : Dev nD) : FVec Ideal S4096x1024 .f32 := fun i => out (fH V c (i 0)) (preU V c (i 0)) (fO V c) (i 1)
/-- What enters the gate. -/
def guA (c : Dev nD) : FVec Ideal S4096x5632 .bf16 := fun i => preU V c (i 0) (i 1)

theorem hz2 : (![0, 0] : Fin 2 → ℕ) = fun _ => 0 := by decide

theorem final4 (c : Dev nD) : (dat0 V c).arrAt 4 cfg0.N = outA V c := by
  refine (dat0 V c).arrAt_eq_of_covers 4 _ (by decide +kernel) fun t hf y => ?_
  blk_simp
  rw [after0_4]
  unfold out0_4
  rw [View.canon_cons_unit_zero hz2]
  refine Eq.trans ?_ (congrArg (outA V c) (emb4 t y).symm)
  obtain ⟨a, k, rfl⟩ : ∃ (a : Fin 512) (k : Fin 1024), y = ix2 a k := ⟨_, _, eq_ix2 y⟩
  refine (pay5_at _ _ _ _ _ _ _ _).trans ?_
  rw [pay11_at]
  show bH V c t _ + _ * ((∑ j : Fin 1408, k0_pay1 (F := Ideal) (k0_pay6 (bH V c t) (bG V c t)) (bW0 V c t) (ix2 a j) * Ideal.logistic (k0_pay1 (F := Ideal) (k0_pay6 (bH V c t) (bG V c t)) (bW0 V c t) (ix2 a j))
        * k0_pay1 (F := Ideal) (k0_pay6 (bH V c t) (bG V c t)) (bW2 V c t) (ix2 a j) * bO0 V c t (ix2 j k))
      + ∑ j : Fin 1408, k0_pay1 (F := Ideal) (k0_pay6 (bH V c t) (bG V c t)) (bW1 V c t) (ix2 a j) * Ideal.logistic (k0_pay1 (F := Ideal) (k0_pay6 (bH V c t) (bG V c t)) (bW1 V c t) (ix2 a j))
        * k0_pay1 (F := Ideal) (k0_pay6 (bH V c t) (bG V c t)) (bW3 V c t) (ix2 a j) * bO1 V c t (ix2 j k)) = out _ _ _ _
  simp only [mm0, mm1, mm2, mm3, bH_at, bO0_at, bO1_at, out, sum_blocks]
  rfl

theorem final5 (c : Dev nD) : (dat0 V c).arrAt 5 cfg0.N = guA V c := by
  refine (dat0 V c).arrAt_eq_of_covers 5 _ (by decide +kernel) fun t hf y => ?_
  blk_simp
  rw [after0_5]
  unfold out0_5
  canon_tiles x h <;>
    refine Eq.trans ?_ (congrArg (guA V c) (emb5 t y).symm) <;>
    obtain ⟨a, b, rfl⟩ : ∃ (a : Fin 512) (b : Fin 1408), x = ix2 a b := ⟨_, _, eq_ix2 x⟩ <;>
    obtain rfl : y 0 = a := Fin.ext h0
  · exact (mm3 V c t (y 0) b).trans (congrArg (preU V c (em0 t (y 0))) (Fin.ext (by show 2816 + (1408 + b.val) = (y 1).val; rw [h1]; show _ = 4224 + b.val; omega)))
  · exact (mm1 V c t (y 0) b).trans (congrArg (preU V c (em0 t (y 0))) (Fin.ext h1.symm))
  · exact (mm2 V c t (y 0) b).trans (congrArg (preU V c (em0 t (y 0))) (Fin.ext h1.symm))
  · exact (mm0 V c t (y 0) b).trans (congrArg (preU V c (em0 t (y 0))) (Fin.ext h1.symm))

/-! ## The backward region -/

def em1 (t : Fin cfg1.N) (a : Fin 256) : Fin 4096 := ⟨t.val * 256 + a.val, by have h := t.isLt; have : cfg1.N = 16 := N_1; omega⟩

abbrev cD (c : Dev nD) (t : Fin cfg1.N) : FVec Ideal S256x1024 .f32 := iblk1 V c 0 t
abbrev cH (c : Dev nD) (t : Fin cfg1.N) : FVec Ideal S256x1024 .f32 := iblk1 V c 1 t
abbrev cG (c : Dev nD) (t : Fin cfg1.N) : FVec Ideal S1x1024 .f32 := iblk1 V c 2 t
abbrev cU0 (c : Dev nD) (t : Fin cfg1.N) : FVec Ideal S256x1408 .bf16 :=
  View.ld (iblk1 V c 3 t) (Rect.unit ![0, 0] ![256, 1408] inb_S256x5632_S256x1408_0_0)
abbrev cU1 (c : Dev nD) (t : Fin cfg1.N) : FVec Ideal S256x1408 .bf16 :=
  View.ld (iblk1 V c 3 t) (Rect.unit ![0, 1408] ![256, 1408] inb_S256x5632_S256x1408_0_1408)
abbrev cU2 (c : Dev nD) (t : Fin cfg1.N) : FVec Ideal S256x1408 .bf16 :=
  View.ld (iblk1 V c 3 t) (Rect.unit ![0, 2816] ![256, 1408] inb_S256x5632_S256x1408_0_2816)
abbrev cU3 (c : Dev nD) (t : Fin cfg1.N) : FVec Ideal S256x1408 .bf16 :=
  View.ld (iblk1 V c 3 t) (Rect.unit ![0, 4224] ![256, 1408] inb_S256x5632_S256x1408_0_4224)
abbrev cW0 (c : Dev nD) (t : Fin cfg1.N) : FVec Ideal S1x1024x1408 .bf16 :=
  View.ld (iblk1 V c 4 t) (Rect.unit ![0, 0, 0] ![1, 1024, 1408] inb_S4x1024x1408_S1x1024x1408_0_0_0)
abbrev cW1 (c : Dev nD) (t : Fin cfg1.N) : FVec Ideal S1x1024x1408 .bf16 :=
  View.ld (iblk1 V c 4 t) (Rect.unit ![1, 0, 0] ![1, 1024, 1408] inb_S4x1024x1408_S1x1024x1408_1_0_0)
abbrev cW2 (c : Dev nD) (t : Fin cfg1.N) : FVec Ideal S1x1024x1408 .bf16 :=
  View.ld (iblk1 V c 4 t) (Rect.unit ![2, 0, 0] ![1, 1024, 1408] inb_S4x1024x1408_S1x1024x1408_2_0_0)
abbrev cW3 (c : Dev nD) (t : Fin cfg1.N) : FVec Ideal S1x1024x1408 .bf16 :=
  View.ld (iblk1 V c 4 t) (Rect.unit ![3, 0, 0] ![1, 1024, 1408] inb_S4x1024x1408_S1x1024x1408_3_0_0)
abbrev cO0 (c : Dev nD) (t : Fin cfg1.N) : FVec Ideal S1408x1024 .bf16 :=
  View.ld (iblk1 V c 5 t) (Rect.unit ![0, 0] ![1408, 1024] inb_S2816x1024_S1408x1024_0_0)
abbrev cO1 (c : Dev nD) (t : Fin cfg1.N) : FVec Ideal S1408x1024 .bf16 :=
  View.ld (iblk1 V c 5 t) (Rect.unit ![1408, 0] ![1408, 1024] inb_S2816x1024_S1408x1024_1408_0)

section
variable (c : Dev nD) (t : Fin cfg1.N)

theorem cD_at (a : Fin 256) (k : Fin 1024) : cD V c t (ix2 a k) = fD V c (em1 t a) k := by
  pointwise [cD, fD]; blk_point [iblk1, idx1 t, em1]
theorem cH_at (a : Fin 256) (k : Fin 1024) : cH V c t (ix2 a k) = fH V c (em1 t a) k := by
  pointwise [cH, fH]; blk_point [iblk1, idx1 t, em1]
theorem cG_at (k : Fin 1024) : cG V c t (ix2 0 k) = fG V c k := by
  pointwise [cG, fG]; blk_point [iblk1, idx1 t]
theorem cU0_at (a : Fin 256) (r : Fin 1408) : cU0 V c t (ix2 a r) = gt (fU V c (em1 t a)) ⟨r, by omega⟩ := by
  pointwise [cU0, gt]; blk_point [iblk1, idx1 t, em1]
theorem cU1_at (a : Fin 256) (r : Fin 1408) : cU1 V c t (ix2 a r) = gt (fU V c (em1 t a)) ⟨1408 + r, by omega⟩ := by
  pointwise [cU1, gt]; blk_point [iblk1, idx1 t, em1]
theorem cU2_at (a : Fin 256) (r : Fin 1408) : cU2 V c t (ix2 a r) = up (fU V c (em1 t a)) ⟨r, by omega⟩ := by
  pointwise [cU2, up]; blk_point [iblk1, idx1 t, em1]
theorem cU3_at (a : Fin 256) (r : Fin 1408) : cU3 V c t (ix2 a r) = up (fU V c (em1 t a)) ⟨1408 + r, by omega⟩ := by
  refine Eq.trans ?_ (congrArg (fU V c (em1 t a)) (Fin.ext (by show 4224 + r.val = 2816 + (1408 + r.val); omega) : (⟨4224 + r, by omega⟩ : Fin 5632) = _))
  pointwise [cU3]; blk_point [iblk1, idx1 t, em1]
theorem cW0_at (k : Fin 1024) (r : Fin 1408) : cW0 V c t (ix3 0 k r) = gt (fW V c k) ⟨r, by omega⟩ := by
  refine Eq.trans ?_ (unstack_at _ 0 k r _ (by show r.val = 1408 * 0 + r.val; omega)).symm
  pointwise [cW0]; blk_point [iblk1, idx1 t]
theorem cW1_at (k : Fin 1024) (r : Fin 1408) : cW1 V c t (ix3 0 k r) = gt (fW V c k) ⟨1408 + r, by omega⟩ := by
  refine Eq.trans ?_ (unstack_at _ 1 k r _ (by show 1408 + r.val = 1408 * 1 + r.val; omega)).symm
  pointwise [cW1]; blk_point [iblk1, idx1 t]
theorem cW2_at (k : Fin 1024) (r : Fin 1408) : cW2 V c t (ix3 0 k r) = up (fW V c k) ⟨r, by omega⟩ := by
  refine Eq.trans ?_ (unstack_at _ 2 k r _ (by show 2816 + r.val = 1408 * 2 + r.val; omega)).symm
  pointwise [cW2]; blk_point [iblk1, idx1 t]
theorem cW3_at (k : Fin 1024) (r : Fin 1408) : cW3 V c t (ix3 0 k r) = up (fW V c k) ⟨1408 + r, by omega⟩ := by
  refine Eq.trans ?_ (unstack_at _ 3 k r _ (by show 2816 + (1408 + r.val) = 1408 * 3 + r.val; omega)).symm
  pointwise [cW3]; blk_point [iblk1, idx1 t]
theorem cO0_at (r : Fin 1408) (k : Fin 1024) : cO0 V c t (ix2 r k) = fO V c ⟨r, by omega⟩ k := by
  pointwise [cO0]; blk_point [iblk1, idx1 t]
theorem cO1_at (r : Fin 1408) (k : Fin 1024) : cO1 V c t (ix2 r k) = fO V c ⟨1408 + r, by omega⟩ k := by
  pointwise [cO1]; blk_point [iblk1, idx1 t]

end

/-! ### The body's values over its loads -/

theorem pdact_at (d : FVec Ideal S256x1024 .f32) (o : FVec Ideal S1408x1024 .bf16) (a : Fin 256) (b : Fin 1408) :
    k1_pay8 (F := Ideal) d o (ix2 a b) = ∑ k : Fin 1024, dhh (fun k => d (ix2 a k)) k * o (ix2 b k) := by
  pointwise [k1_pay8, k1_pay6, dhh]

theorem pdact'_at (d : FVec Ideal S256x1024 .f32) (o : FVec Ideal S1408x1024 .bf16) (a : Fin 256) (b : Fin 1408) :
    k1_pay17 (F := Ideal) (k1_pay6 d) o (ix2 a b) = ∑ k : Fin 1024, dhh (fun k => d (ix2 a k)) k * o (ix2 b k) := by
  pointwise [k1_pay17, k1_pay6, dhh]

theorem pdgt_at (da : FVec Ideal S256x1408 .f32) (g u : FVec Ideal S256x1408 .bf16) (i : S256x1408.Idx) :
    k1_pay14 (F := Ideal) da (k1_pay9 g) (k1_pay10 u) (k1_pay11 g) i = da i * u i * (Ideal.logistic (g i)
      * (Ideal.ofBits .f32 0x3F800000#32 + g i * (Ideal.ofBits .f32 0x3F800000#32 - Ideal.logistic (g i)))) := by
  pointwise [k1_pay14, k1_pay9, k1_pay10, k1_pay11]

theorem pdgt'_at (da : FVec Ideal S256x1408 .f32) (g u : FVec Ideal S256x1408 .bf16) (i : S256x1408.Idx) :
    k1_pay24 (F := Ideal) da (k1_pay18 g) (k1_pay19 u) (k1_pay20 g) i = da i * u i * (Ideal.logistic (g i)
      * (Ideal.ofBits .f32 0x3F800000#32 + g i * (Ideal.ofBits .f32 0x3F800000#32 - Ideal.logistic (g i)))) := by
  pointwise [k1_pay24, k1_pay18, k1_pay19, k1_pay20]

theorem pdup_at (da : FVec Ideal S256x1408 .f32) (g : FVec Ideal S256x1408 .bf16) (i : S256x1408.Idx) :
    k1_pay15 (F := Ideal) da (k1_pay12 g) i = da i * (g i * Ideal.logistic (g i)) := by
  pointwise [k1_pay15, k1_pay12, k1_pay11, k1_pay9]

theorem pdup'_at (da : FVec Ideal S256x1408 .f32) (g : FVec Ideal S256x1408 .bf16) (i : S256x1408.Idx) :
    k1_pay25 (F := Ideal) da (k1_pay21 g) i = da i * (g i * Ideal.logistic (g i)) := by
  pointwise [k1_pay25, k1_pay21, k1_pay20, k1_pay18]

theorem pact_at (g u : FVec Ideal S256x1408 .bf16) (i : S256x1408.Idx) :
    k1_pay13 (F := Ideal) g u i = g i * Ideal.logistic (g i) * u i := by
  pointwise [k1_pay13, k1_pay12, k1_pay11, k1_pay10, k1_pay9]

theorem pact'_at (g u : FVec Ideal S256x1408 .bf16) (i : S256x1408.Idx) :
    k1_pay23 (F := Ideal) (k1_pay22 g u) i = g i * Ideal.logistic (g i) * u i := by
  pointwise [k1_pay23, k1_pay22, k1_pay21, k1_pay20, k1_pay19, k1_pay18]

theorem pn_at (h : FVec Ideal S256x1024 .f32) (g : FVec Ideal S1x1024 .f32) (a : Fin 256) (k : Fin 1024) :
    k1_pay5 (F := Ideal) h g (ix2 a k) = nrm (fun k => h (ix2 a k)) (fun k => g (ix2 0 k)) k := by
  pointwise [k1_pay5, k1_pay4, nrm, meanSq]

theorem pdhh_at (d : FVec Ideal S256x1024 .f32) (a : Fin 256) (k : Fin 1024) :
    k1_pay6 (F := Ideal) d (ix2 a k) = dhh (fun k => d (ix2 a k)) k := by
  pointwise [k1_pay6, dhh]

theorem pmid_at (da : FVec Ideal S256x1408 .f32) (g u : FVec Ideal S256x1408 .bf16) (w w' : FVec Ideal S1x1024x1408 .bf16)
    (a : Fin 256) (k : Fin 1024) :
    k1_pay16 (F := Ideal) k1_pay7 da (k1_pay9 g) (k1_pay10 u) (k1_pay11 g) (k1_pay12 g) w w' (ix2 a k)
      = (∑ r : Fin 1408, k1_pay14 (F := Ideal) da (k1_pay9 g) (k1_pay10 u) (k1_pay11 g) (ix2 a r) * w (ix3 0 k r))
        + ∑ r : Fin 1408, k1_pay15 (F := Ideal) da (k1_pay12 g) (ix2 a r) * w' (ix3 0 k r) := by
  pointwise [k1_pay16, k1_pay7]

theorem pdn_at (acc : FVec Ideal S256x1024 .f32) (da : FVec Ideal S256x1408 .f32) (g u : FVec Ideal S256x1408 .bf16)
    (w w' : FVec Ideal S1x1024x1408 .bf16) (a : Fin 256) (k : Fin 1024) :
    k1_pay26 (F := Ideal) acc da (k1_pay18 g) (k1_pay19 u) (k1_pay20 g) (k1_pay21 g) w w' (ix2 a k)
      = acc (ix2 a k) + (∑ r : Fin 1408, k1_pay24 (F := Ideal) da (k1_pay18 g) (k1_pay19 u) (k1_pay20 g) (ix2 a r) * w (ix3 0 k r))
        + ∑ r : Fin 1408, k1_pay25 (F := Ideal) da (k1_pay21 g) (ix2 a r) * w' (ix3 0 k r) := by
  pointwise [k1_pay26]

theorem pdh_at (d h : FVec Ideal S256x1024 .f32) (gn : FVec Ideal S1x1024 .f32) (acc : FVec Ideal S256x1024 .f32) (da v62 v65 v66 v67) (w w')
    (a : Fin 256) (k : Fin 1024) :
    k1_pay1 (F := Ideal) d (k1_pay27 h gn (k1_pay4 h) acc da v62 v65 v66 v67 w w') (ix2 a k)
      = d (ix2 a k) + grad 0x44800000#32 (fun k => h (ix2 a k)) (fun k => k1_pay26 (F := Ideal) acc da v62 v65 v66 v67 w w' (ix2 a k)) (fun k => gn (ix2 0 k)) k := by
  pointwise [k1_pay1, k1_pay27, k1_pay4, grad, meanSq]

theorem pdg_at (h y : FVec Ideal S256x1024 .f32) (old : FVec Ideal S1x1024 .f32) (k : Fin 1024) :
    k1_pay3 (F := Ideal) h (k1_pay4 h) y old (ix2 0 k)
      = old (ix2 0 k) + ∑ a : Fin 256, y (ix2 a k) * h (ix2 a k) * Ideal.rsqrt (meanSq 0x44800000#32 fun k => h (ix2 a k)) := by
  pointwise [k1_pay3, k1_pay4, meanSq]

theorem pz_at (j : S1x1024.Idx) : k1_pay2 (F := Ideal) j = 0 := by pointwise [k1_pay2]

/-! ### Over the arrays -/

section
variable (c : Dev nD) (t : Fin cfg1.N)

theorem da0 (a : Fin 256) (r : Fin 1408) :
    k1_pay8 (F := Ideal) (cD V c t) (cO0 V c t) (ix2 a r) = dact (fD V c (em1 t a)) (fO V c) ⟨r, by omega⟩ := by
  simp only [pdact_at, cD_at, cO0_at]; rfl
theorem da1 (a : Fin 256) (r : Fin 1408) :
    k1_pay17 (F := Ideal) (k1_pay6 (cD V c t)) (cO1 V c t) (ix2 a r) = dact (fD V c (em1 t a)) (fO V c) ⟨1408 + r, by omega⟩ := by
  simp only [pdact'_at, cD_at, cO1_at]; rfl

abbrev xD (p : Fin 4096) (j : Fin 2816) : EReal := dgt (fD V c p) (fU V c p) (fO V c) j
abbrev xU (p : Fin 4096) (j : Fin 2816) : EReal := dup (fD V c p) (fU V c p) (fO V c) j

theorem dgt0 (a : Fin 256) (r : Fin 1408) :
    k1_pay14 (F := Ideal) (k1_pay8 (cD V c t) (cO0 V c t)) (k1_pay9 (cU0 V c t)) (k1_pay10 (cU2 V c t)) (k1_pay11 (cU0 V c t)) (ix2 a r)
      = xD V c (em1 t a) ⟨r, by omega⟩ := by
  simp only [pdgt_at, da0, cU0_at, cU2_at]; rfl
theorem dgt1 (a : Fin 256) (r : Fin 1408) :
    k1_pay24 (F := Ideal) (k1_pay17 (k1_pay6 (cD V c t)) (cO1 V c t)) (k1_pay18 (cU1 V c t)) (k1_pay19 (cU3 V c t)) (k1_pay20 (cU1 V c t)) (ix2 a r)
      = xD V c (em1 t a) ⟨1408 + r, by omega⟩ := by
  simp only [pdgt'_at, da1, cU1_at, cU3_at]; rfl
theorem dup0 (a : Fin 256) (r : Fin 1408) :
    k1_pay15 (F := Ideal) (k1_pay8 (cD V c t) (cO0 V c t)) (k1_pay12 (cU0 V c t)) (ix2 a r) = xU V c (em1 t a) ⟨r, by omega⟩ := by
  simp only [pdup_at, da0, cU0_at]; rfl
theorem dup1 (a : Fin 256) (r : Fin 1408) :
    k1_pay25 (F := Ideal) (k1_pay17 (k1_pay6 (cD V c t)) (cO1 V c t)) (k1_pay21 (cU1 V c t)) (ix2 a r) = xU V c (em1 t a) ⟨1408 + r, by omega⟩ := by
  simp only [pdup'_at, da1, cU1_at]; rfl

/-- The cotangent of the normed row as the body computes it, a column block after another. -/
abbrev part : FVec Ideal S256x1024 .f32 :=
  k1_pay26 (k1_pay16 k1_pay7 (k1_pay8 (cD V c t) (cO0 V c t)) (k1_pay9 (cU0 V c t)) (k1_pay10 (cU2 V c t)) (k1_pay11 (cU0 V c t))
      (k1_pay12 (cU0 V c t)) (cW0 V c t) (cW2 V c t))
    (k1_pay17 (k1_pay6 (cD V c t)) (cO1 V c t)) (k1_pay18 (cU1 V c t)) (k1_pay19 (cU3 V c t)) (k1_pay20 (cU1 V c t)) (k1_pay21 (cU1 V c t))
    (cW1 V c t) (cW3 V c t)

abbrev dnA (p : Fin 4096) (k : Fin 1024) : EReal := dn (fD V c p) (fU V c p) (fW V c) (fO V c) k

theorem part_at (a : Fin 256) (k : Fin 1024) : part V c t (ix2 a k) = dnA V c (em1 t a) k := by
  refine (pdn_at _ _ _ _ _ _ _ _).trans ?_
  rw [pmid_at]
  simp only [dgt0, dgt1, dup0, dup1, cW0_at, cW1_at, cW2_at, cW3_at]
  unfold dnA dn
  rw [sum_blocks, sum_blocks fun j => dup _ _ _ j * _, add_right_comm (∑ r, _ : EReal), add_assoc]

theorem emb6 (y : S256x1024.Idx) : ((cfg1.win 6).blk t).view.emb y = ix2 (em1 t (y 0)) (y 1) := by
  funext a; refine Fin.ext ?_; fin_cases a <;> blk_simp [idx1 t, em1] <;> rfl
theorem emb7 (y : S256x5632.Idx) : ((cfg1.win 7).blk t).view.emb y = ix2 (em1 t (y 0)) (y 1) := by
  funext a; refine Fin.ext ?_; fin_cases a <;> blk_simp [idx1 t, em1] <;> rfl
theorem emb8 (y : S256x1024.Idx) : ((cfg1.win 8).blk t).view.emb y = ix2 (em1 t (y 0)) (y 1) := by
  funext a; refine Fin.ext ?_; fin_cases a <;> blk_simp [idx1 t, em1] <;> rfl
theorem emb9 (y : S256x2816.Idx) : ((cfg1.win 9).blk t).view.emb y = ix2 (em1 t (y 0)) (y 1) := by
  funext a; refine Fin.ext ?_; fin_cases a <;> blk_simp [idx1 t, em1] <;> rfl
theorem emb10 (y : S256x1024.Idx) : ((cfg1.win 10).blk t).view.emb y = ix2 (em1 t (y 0)) (y 1) := by
  funext a; refine Fin.ext ?_; fin_cases a <;> blk_simp [idx1 t, em1] <;> rfl

end

def dhA (c : Dev nD) : FVec Ideal S4096x1024 .f32 := fun i =>
  dh (fD V c (i 0)) (fH V c (i 0)) (fG V c) (fU V c (i 0)) (fW V c) (fO V c) (i 1)
def dguA (c : Dev nD) : FVec Ideal S4096x5632 .bf16 := fun i => dgu (fD V c (i 0)) (fU V c (i 0)) (fO V c) (i 1)
def nA (c : Dev nD) : FVec Ideal S4096x1024 .bf16 := fun i => nrm (fH V c (i 0)) (fG V c) (i 1)
def actA (c : Dev nD) : FVec Ideal S4096x2816 .bf16 := fun i => act (fU V c (i 0)) (i 1)
def dhhA (c : Dev nD) : FVec Ideal S4096x1024 .bf16 := fun i => dhh (fD V c (i 0)) (i 1)
def dgA (c : Dev nD) : FVec Ideal S1x1024 .f32 := fun i =>
  ∑ p : Fin 4096, dgp (fD V c p) (fH V c p) (fU V c p) (fW V c) (fO V c) (i 1)

theorem point6 (c : Dev nD) (t : Fin cfg1.N) (a : Fin 256) (k : Fin 1024) :
    cD V c t (ix2 a k) + grad 0x44800000#32 (fun k => cH V c t (ix2 a k)) (fun k => part V c t (ix2 a k)) (fun k => cG V c t (ix2 0 k)) k
      = dhA V c (ix2 (em1 t a) k) := by
  simp only [cD_at, cH_at, cG_at, part_at]; rfl

theorem final6 (c : Dev nD) : (dat1 V c).arrAt 6 cfg1.N = dhA V c := by
  refine (dat1 V c).arrAt_eq_of_covers 6 _ (by decide +kernel) fun t hf y => ?_
  blk_simp
  rw [after1_6]
  refine Eq.trans ?_ (congrArg (dhA V c) (emb6 t y).symm)
  obtain ⟨a, k, rfl⟩ : ∃ (a : Fin 256) (k : Fin 1024), y = ix2 a k := ⟨_, _, eq_ix2 y⟩
  by_cases h0 : t.val % 16 = 0
  · rw [outsAt1_A V c t h0]; frame_out
    exact (pdh_at ..).trans (point6 V c t a k)
  · rw [outsAt1_B V c t h0]; frame_out
    exact (pdh_at ..).trans (point6 V c t a k)

theorem dgu_lo (d u o) (j : Fin 5632) (b : Fin 2816) (h : j.val = b.val) : dgu d u o j = dgt d u o b := by
  have e : (⟨j.val, h ▸ b.isLt⟩ : Fin 2816) = b := Fin.ext h
  exact (dif_pos (h ▸ b.isLt : j.val < 2816)).trans (congrArg (dgt d u o) e)
theorem dgu_hi (d u o) (j : Fin 5632) (b : Fin 2816) (h : j.val = 2816 + b.val) : dgu d u o j = dup d u o b := by
  have e : (⟨j.val - 2816, by omega⟩ : Fin 2816) = b := Fin.ext (by show j.val - 2816 = b.val; omega)
  exact (dif_neg (by omega : ¬ j.val < 2816)).trans (congrArg (dup d u o) e)

theorem point7 (c : Dev nD) (t : Fin cfg1.N) (y : S256x5632.Idx) :
    (outsAt1 V c t.val t.isLt).2.1 y = dguA V c (ix2 (em1 t (y 0)) (y 1)) := by
  by_cases c0 : t.val % 16 = 0
  · rw [outsAt1_A V c t c0]; frame_out
    canon_tiles x h <;>
      obtain ⟨a, b, rfl⟩ : ∃ (a : Fin 256) (b : Fin 1408), x = ix2 a b := ⟨_, _, eq_ix2 x⟩ <;>
      obtain rfl : y 0 = a := Fin.ext h0
    · exact (dup1 V c t (y 0) b).trans (dgu_hi _ _ _ (y 1) ⟨1408 + b, by omega⟩ (h1.trans (Nat.add_assoc 2816 1408 b.val))).symm
    · exact (dgt1 V c t (y 0) b).trans (dgu_lo _ _ _ (y 1) ⟨1408 + b, by omega⟩ h1).symm
    · exact (dup0 V c t (y 0) b).trans (dgu_hi _ _ _ (y 1) ⟨b, by omega⟩ h1).symm
    · exact (dgt0 V c t (y 0) b).trans (dgu_lo _ _ _ (y 1) ⟨b, by omega⟩ h1).symm
  · rw [outsAt1_B V c t c0]; frame_out
    canon_tiles x h <;>
      obtain ⟨a, b, rfl⟩ : ∃ (a : Fin 256) (b : Fin 1408), x = ix2 a b := ⟨_, _, eq_ix2 x⟩ <;>
      obtain rfl : y 0 = a := Fin.ext h0
    · exact (dup1 V c t (y 0) b).trans (dgu_hi _ _ _ (y 1) ⟨1408 + b, by omega⟩ (h1.trans (Nat.add_assoc 2816 1408 b.val))).symm
    · exact (dgt1 V c t (y 0) b).trans (dgu_lo _ _ _ (y 1) ⟨1408 + b, by omega⟩ h1).symm
    · exact (dup0 V c t (y 0) b).trans (dgu_hi _ _ _ (y 1) ⟨b, by omega⟩ h1).symm
    · exact (dgt0 V c t (y 0) b).trans (dgu_lo _ _ _ (y 1) ⟨b, by omega⟩ h1).symm

theorem final7 (c : Dev nD) : (dat1 V c).arrAt 7 cfg1.N = dguA V c := by
  refine (dat1 V c).arrAt_eq_of_covers 7 _ (by decide +kernel) fun t hf y => ?_
  blk_simp
  rw [after1_7]
  exact (point7 V c t y).trans (congrArg (dguA V c) (emb7 t y).symm)

theorem final8 (c : Dev nD) : (dat1 V c).arrAt 8 cfg1.N = nA V c := by
  refine (dat1 V c).arrAt_eq_of_covers 8 _ (by decide +kernel) fun t hf y => ?_
  blk_simp
  rw [after1_8]
  refine Eq.trans ?_ (congrArg (nA V c) (emb8 t y).symm)
  obtain ⟨a, k, rfl⟩ : ∃ (a : Fin 256) (k : Fin 1024), y = ix2 a k := ⟨_, _, eq_ix2 y⟩
  have key : k1_pay5 (F := Ideal) (cH V c t) (cG V c t) (ix2 a k) = nA V c (ix2 (em1 t a) k) := by
    simp only [pn_at, cH_at, cG_at]; rfl
  by_cases h0 : t.val % 16 = 0
  · rw [outsAt1_A V c t h0]; frame_out
    exact key
  · rw [outsAt1_B V c t h0]; frame_out
    exact key

theorem act0 (c : Dev nD) (t : Fin cfg1.N) (a : Fin 256) (r : Fin 1408) :
    k1_pay13 (F := Ideal) (cU0 V c t) (cU2 V c t) (ix2 a r) = act (fU V c (em1 t a)) ⟨r, by omega⟩ := by
  simp only [pact_at, cU0_at, cU2_at]; rfl
theorem act1 (c : Dev nD) (t : Fin cfg1.N) (a : Fin 256) (r : Fin 1408) :
    k1_pay23 (F := Ideal) (k1_pay22 (cU1 V c t) (cU3 V c t)) (ix2 a r) = act (fU V c (em1 t a)) ⟨1408 + r, by omega⟩ := by
  simp only [pact'_at, cU1_at, cU3_at]; rfl

theorem final9 (c : Dev nD) : (dat1 V c).arrAt 9 cfg1.N = actA V c := by
  refine (dat1 V c).arrAt_eq_of_covers 9 _ (by decide +kernel) fun t hf y => ?_
  blk_simp
  rw [after1_9]
  refine Eq.trans ?_ (congrArg (actA V c) (emb9 t y).symm)
  by_cases c0 : t.val % 16 = 0
  · rw [outsAt1_A V c t c0]; frame_out
    canon_tiles x h <;>
      obtain ⟨a, b, rfl⟩ : ∃ (a : Fin 256) (b : Fin 1408), x = ix2 a b := ⟨_, _, eq_ix2 x⟩ <;>
      obtain rfl : y 0 = a := Fin.ext h0
    · exact (act1 V c t (y 0) b).trans (congrArg (act (fU V c (em1 t (y 0)))) (Fin.ext h1.symm))
    · exact (act0 V c t (y 0) b).trans (congrArg (act (fU V c (em1 t (y 0)))) (Fin.ext h1.symm))
  · rw [outsAt1_B V c t c0]; frame_out
    canon_tiles x h <;>
      obtain ⟨a, b, rfl⟩ : ∃ (a : Fin 256) (b : Fin 1408), x = ix2 a b := ⟨_, _, eq_ix2 x⟩ <;>
      obtain rfl : y 0 = a := Fin.ext h0
    · exact (act1 V c t (y 0) b).trans (congrArg (act (fU V c (em1 t (y 0)))) (Fin.ext h1.symm))
    · exact (act0 V c t (y 0) b).trans (congrArg (act (fU V c (em1 t (y 0)))) (Fin.ext h1.symm))

theorem final10 (c : Dev nD) : (dat1 V c).arrAt 10 cfg1.N = dhhA V c := by
  refine (dat1 V c).arrAt_eq_of_covers 10 _ (by decide +kernel) fun t hf y => ?_
  blk_simp
  rw [after1_10]
  refine Eq.trans ?_ (congrArg (dhhA V c) (emb10 t y).symm)
  obtain ⟨a, k, rfl⟩ : ∃ (a : Fin 256) (k : Fin 1024), y = ix2 a k := ⟨_, _, eq_ix2 y⟩
  have key : k1_pay6 (F := Ideal) (cD V c t) (ix2 a k) = dhhA V c (ix2 (em1 t a) k) := by
    simp only [pdhh_at, cD_at]; rfl
  by_cases h0 : t.val % 16 = 0
  · rw [outsAt1_A V c t h0]; frame_out
    exact key
  · rw [outsAt1_B V c t h0]; frame_out
    exact key

theorem row_ix (j : S1x1024.Idx) : ∃ k : Fin 1024, j = ix2 0 k :=
  ⟨j 1, (eq_ix2 j).trans (congrArg (ix2 · (j 1)) (Fin.fin_one_eq_zero (j 0)))⟩

theorem pG (c : Dev nD) (t : Fin cfg1.N) (old : FVec Ideal S1x1024 .f32) (k : Fin 1024) :
    k1_pay3 (F := Ideal) (cH V c t) (k1_pay4 (cH V c t)) (part V c t) old (ix2 0 k)
      = old (ix2 0 k) + ∑ a : Fin 256, dgp (fD V c (em1 t a)) (fH V c (em1 t a)) (fU V c (em1 t a)) (fW V c) (fO V c) k := by
  simp only [pdg_at, part_at, cH_at]; rfl

theorem final11 (c : Dev nD) : (dat1 V c).arrAt 11 cfg1.N = dgA V c := by
  refine (dat1 V c).arrAt_eq_of_after_last 11 t1_15 (by decide +kernel) _ fun j => ?_
  obtain ⟨j, rfl⟩ := row_ix j
  blk_simp
  rw [after1_11, Pipeline.eq_sum_fin_of_reset_step_apply_last (fun n h => (outsAt1 V c n h).2.2.2.2.2) 16 (fun _ => 0)
    (fun t j => ∑ a : Fin 256, dgp (fD V c (em1 t a)) (fH V c (em1 t a)) (fU V c (em1 t a)) (fW V c) (fO V c) (j 1))
    (fun t h j => by
      obtain ⟨j, rfl⟩ := row_ix j
      rw [outsAt1_A V c t h]; frame_out
      exact (pG V c t _ j).trans (by rw [pz_at]; rfl))
    (fun t h j => by
      obtain ⟨j, rfl⟩ := row_ix j
      rw [outsAt1_B V c t h]; frame_out
      exact pG V c t _ j)
    (le_of_eq N_1) t1_15 rfl _, zero_add, dgA]
  exact Fin.sum_mul_add_congr (S := 16) (n := 256) fun t a hl => rfl

end Cert.FfnBwdIdeal.Ffn

end
-- ==== Proof.Ffn.Run.lean ====
/-
  The feed-forward half step and its gradient: the run of the two regions, each result at its value over the arguments.
-/
module

public import proofs.«01_k».proof.Proof.Ffn.Value

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

namespace Cert.FfnBwdIdeal.Ffn

open Cert.FfnBwdIdeal Cert.FfnBwdIdeal.Gen Cert.Common Cert.Ffn

variable (m : (ℓ : Loc nD τ sig) → Buf (Elt Ideal) ℓ) (ρ : Dev nD → PrngReg)

/-! ## The arguments read as functions of a row and a column -/

abbrev aD (c : Dev nD) : FVec Ideal S4096x1024 .f32 := m ((c : Thread nD τ).loc main_arg0)
abbrev aH (c : Dev nD) : FVec Ideal S4096x1024 .f32 := m ((c : Thread nD τ).loc main_arg1)
abbrev aG (c : Dev nD) : FVec Ideal S1x1024 .f32 := m ((c : Thread nD τ).loc main_arg2)
abbrev aW (c : Dev nD) : FVec Ideal S1x1024x5632 .f32 := m ((c : Thread nD τ).loc main_arg3)
abbrev aO (c : Dev nD) : FVec Ideal S1x2816x1024 .f32 := m ((c : Thread nD τ).loc main_arg4)

def mD (c : Dev nD) (p : Fin 4096) (k : Fin 1024) : EReal := aD m c (ix2 p k)
def mH (c : Dev nD) (p : Fin 4096) (k : Fin 1024) : EReal := aH m c (ix2 p k)
def mG (c : Dev nD) (k : Fin 1024) : EReal := aG m c (ix2 0 k)
def mW (c : Dev nD) (k : Fin 1024) (j : Fin 5632) : EReal := aW m c (ix3 0 k j)
def mO (c : Dev nD) (j : Fin 2816) (k : Fin 1024) : EReal := aO m c (ix3 0 j k)
def mU (c : Dev nD) (p : Fin 4096) : Fin 5632 → EReal := pre (mH m c p) (mG m c) (mW m c)

/-! ## What the regions find -/

theorem V1_H (c : Dev nD) : fH (V1 m ρ) c = mH m c := by
  funext p k; exact congrFun (W1_args m ρ c main_arg1 (by decide)) _
theorem V1_G (c : Dev nD) : fG (V1 m ρ) c = mG m c := by
  funext k; exact congrFun (W1_args m ρ c main_arg2 (by decide)) _
theorem V1_O (c : Dev nD) : fO (V1 m ρ) c = mO m c := by
  funext j k
  pointwise [fO, mO]
  blk_point [V1, W1, W0, aO]
theorem V1_W (c : Dev nD) : fW (V1 m ρ) c = mW m c := by
  funext k j
  pointwise [fW, mW, unstack]
  blk_point [V1, W1, W0, aW]

theorem V2_D (c : Dev nD) : fD (V2 m ρ) c = mD m c := by
  funext p k; exact congrFun (W2_args m ρ c main_arg0 (by decide)) _
theorem V2_H (c : Dev nD) : fH (V2 m ρ) c = mH m c := by
  funext p k; exact congrFun (W2_args m ρ c main_arg1 (by decide)) _
theorem V2_G (c : Dev nD) : fG (V2 m ρ) c = mG m c := by
  funext k; exact congrFun (W2_args m ρ c main_arg2 (by decide)) _
theorem V2_O (c : Dev nD) : fO (V2 m ρ) c = mO m c := by
  refine Eq.trans ?_ (V1_O m ρ c)
  funext j k; exact congrFun (W2_of m ρ c main_v5 (by decide +kernel)) _
theorem V2_W (c : Dev nD) : fW (V2 m ρ) c = mW m c := by
  refine Eq.trans ?_ (V1_W m ρ c)
  funext k j; exact congrFun (W2_of m ρ c main_v3 (by decide +kernel)) _
theorem V2_U (c : Dev nD) : fU (V2 m ρ) c = mU m c := by
  funext p j
  refine (congrFun ((W2_arr m ρ c 5).trans (final5 (V1 m ρ) c)) (ix2 p j)).trans ?_
  show pre (fH (V1 m ρ) c p) (fG (V1 m ρ) c) (fW (V1 m ρ) c) j = _
  rw [V1_H, V1_G, V1_W]; rfl

/-! ## The results -/

def res0 (c : Dev nD) : FVec Ideal S4096x1024 .f32 := fun i => out (mH m c (i 0)) (mU m c (i 0)) (mO m c) (i 1)
def res1 (c : Dev nD) : FVec Ideal S4096x1024 .f32 := fun i =>
  dh (mD m c (i 0)) (mH m c (i 0)) (mG m c) (mU m c (i 0)) (mW m c) (mO m c) (i 1)
def res2 (c : Dev nD) : FVec Ideal S4096x5632 .bf16 := fun i => dgu (mD m c (i 0)) (mU m c (i 0)) (mO m c) (i 1)
def res3 (c : Dev nD) : FVec Ideal S4096x1024 .bf16 := fun i => nrm (mH m c (i 0)) (mG m c) (i 1)
def res4 (c : Dev nD) : FVec Ideal S4096x2816 .bf16 := fun i => act (mU m c (i 0)) (i 1)
def res5 (c : Dev nD) : FVec Ideal S4096x1024 .bf16 := fun i => dhh (mD m c (i 0)) (i 1)
def res6 (c : Dev nD) : FVec Ideal S1x1024 .f32 := fun i =>
  ∑ p : Fin 4096, dgp (mD m c p) (mH m c p) (mU m c p) (mW m c) (mO m c) (i 1)

theorem W3_0 (c : Dev nD) : W3 m ρ c (Proc.devRef .tc main_v6_0) = res0 m c := by
  refine (W3_of m ρ c main_v6_0 (by decide +kernel)).trans (((W2_arr m ρ c 4).trans (final4 (V1 m ρ) c)).trans ?_)
  unfold outA; rw [show preU (V1 m ρ) c = mU m c by unfold preU; rw [V1_H, V1_G, V1_W]; rfl, V1_H, V1_O]; rfl
theorem W3_1 (c : Dev nD) : W3 m ρ c (Proc.devRef .tc main_v7_0) = res1 m c := by
  refine ((W3_arr m ρ c 6).trans (final6 (V2 m ρ) c)).trans ?_
  unfold dhA; rw [V2_D, V2_H, V2_G, V2_U, V2_W, V2_O]; rfl
theorem W3_2 (c : Dev nD) : W3 m ρ c (Proc.devRef .tc main_v7_1) = res2 m c := by
  refine ((W3_arr m ρ c 7).trans (final7 (V2 m ρ) c)).trans ?_
  unfold dguA; rw [V2_D, V2_U, V2_O]; rfl
theorem W3_3 (c : Dev nD) : W3 m ρ c (Proc.devRef .tc main_v7_2) = res3 m c := by
  refine ((W3_arr m ρ c 8).trans (final8 (V2 m ρ) c)).trans ?_
  unfold nA; rw [V2_H, V2_G]; rfl
theorem W3_4 (c : Dev nD) : W3 m ρ c (Proc.devRef .tc main_v7_3) = res4 m c := by
  refine ((W3_arr m ρ c 9).trans (final9 (V2 m ρ) c)).trans ?_
  unfold actA; rw [V2_U]; rfl
theorem W3_5 (c : Dev nD) : W3 m ρ c (Proc.devRef .tc main_v7_4) = res5 m c := by
  refine ((W3_arr m ρ c 10).trans (final10 (V2 m ρ) c)).trans ?_
  unfold dhhA; rw [V2_D]; rfl
theorem W3_6 (c : Dev nD) : W3 m ρ c (Proc.devRef .tc main_v7_5) = res6 m c := by
  refine ((W3_arr m ρ c 11).trans (final11 (V2 m ρ) c)).trans ?_
  unfold dgA; rw [V2_D, V2_H, V2_U, V2_W, V2_O]; rfl

/-! ## The run -/

local notation "𝕄" => MT nD τ sig Unit (Elt Ideal) ℕ (UR sig nD τ) ℕ

-- the launch's implicit arguments are found by unifying its conclusion with this one
set_option backward.isDefEq.respectTransparency.types false in
/-- Every execution ends with each unscoped buffer at what the second region leaves. -/
theorem run_read : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) := by
  refine Pipeline.θ_run_regions_kit_sems (pcfgs (F := Ideal)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?entry)
    (QY := fun c s => ∀ b ∈ Pipeline.ucRefs τ sig, s.mem (((c : Thread nD τ)).1, b) = W3 m ρ c b) (hfin := fun c s' => ?exit)
    (hQ := fun s h _ => h)
  case pipes => simp only [segs, Pipeline.Seg.pipes_host, Pipeline.Seg.pipes_region, Pipeline.Seg.pipes_nil]; decide
  case tokens =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case entry =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case exit =>
    iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

/-- Every execution ends with the results at their values and the arguments as launched. -/
theorem run : θ_run defs (onTc (τ := τ) (main (F := Ideal))) ⟨m, fun _ => 0, ρ⟩ (fun r => ∀ c : Dev nD,
      r.2.mem ((c.tc : Thread nD τ).loc main_v6_0) = res0 m c
      ∧ r.2.mem ((c.tc : Thread nD τ).loc main_v7_0) = res1 m c
      ∧ r.2.mem ((c.tc : Thread nD τ).loc main_v7_1) = res2 m c
      ∧ r.2.mem ((c.tc : Thread nD τ).loc main_v7_2) = res3 m c
      ∧ r.2.mem ((c.tc : Thread nD τ).loc main_v7_3) = res4 m c
      ∧ r.2.mem ((c.tc : Thread nD τ).loc main_v7_4) = res5 m c
      ∧ r.2.mem ((c.tc : Thread nD τ).loc main_v7_5) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v6_0 (by decide))).trans (W3_0 m ρ c), (h c _ (mem_uc main_v7_0 (by decide))).trans (W3_1 m ρ c),
      (h c _ (mem_uc main_v7_1 (by decide))).trans (W3_2 m ρ c), (h c _ (mem_uc main_v7_2 (by decide))).trans (W3_3 m ρ c),
      (h c _ (mem_uc main_v7_3 (by decide))).trans (W3_4 m ρ c), (h c _ (mem_uc main_v7_4 (by decide))).trans (W3_5 m ρ c),
      (h c _ (mem_uc main_v7_5 (by decide))).trans (W3_6 m ρ c),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c), (h c _ (mem_uc main_arg3 (by decide))).trans (W3_main_arg3 m ρ c),
      (h c _ (mem_uc main_arg4 (by decide))).trans (W3_main_arg4 m ρ c)⟩) (run_read m ρ)

end Cert.FfnBwdIdeal.Ffn

end
-- ==== Proof.Ffn.Ref.lean ====
/-
  The feed-forward half step's gradient: the reference's results are the kernel's where the arguments are finite.
-/
module

public import proofs.«01_k».proof.Proof.Ffn.Run
public import proofs.«01_k».proof.Proof.Common.Reals
public import proofs.«01_k».proof.Proof.Gen.FfnRefIdeal.Run

@[expose] public section

set_option maxRecDepth 16384

noncomputable section

open Idealize.ShloMosaic Idealize.ShloMosaic.TcCoe Idealize.SL.Sem

namespace Cert.FfnRefIdeal.Ffn

open Cert.FfnRefIdeal Cert.FfnRefIdeal.Gen Cert.FfnRefIdeal.Value Cert.Common Cert.Ffn

theorem word_one : Ideal.ofBits .f32 0x3F800000#32 = ((1 : ℝ) : EReal) := by
  simp [Ideal.ofBits, Ideal.ieee]; rw [← EReal.coe_mul]; norm_num

theorem logistic_real {x : EReal} : IsReal x → IsReal (Ideal.logistic x)
  | ⟨a, ha⟩ => by
    rw [ha, Ideal.logistic, ← EReal.coe_neg, Ideal.exp_coe, ← EReal.coe_one, ← EReal.coe_add, Ideal.div,
      if_neg (by exact_mod_cast (by positivity : (1 + Real.exp (-a)) ≠ 0)), ← EReal.coe_inv]
    exact (IsReal.coe 1).mul (IsReal.coe _)

/-- The gate's gradient in one factor: the reference's two terms. -/
theorem silu_grad {q g : EReal} (hq : IsReal q) (hg : IsReal g) :
    q * Ideal.logistic g + g * q * (Ideal.logistic g * (Ideal.ofBits .f32 0x3F800000#32 - Ideal.logistic g))
      = q * (Ideal.logistic g * (Ideal.ofBits .f32 0x3F800000#32 + g * (Ideal.ofBits .f32 0x3F800000#32 - Ideal.logistic g))) := by
  obtain ⟨s, hs⟩ := logistic_real hg
  obtain ⟨a, rfl⟩ := hq
  obtain ⟨b, rfl⟩ := hg
  rw [hs, word_one]
  norm_cast
  ring

/-- The mean of the squares of each row, ε added. -/
def rMean (h : FVec Ideal S4096x1024 .f32) : FVec Ideal S4096x1 .f32 :=
  addf (Host.divf (broadcastInDim S4096x1 ![0] bcast_S4096_S4096x1_0 (Host.reduceAdd (mulf h h) (constant S_ .f32 0x00000000#32)
    reducesTo_S4096x1024_S4096_d1 h_S_)) (broadcastInDim S4096x1 ![] bcast_S_S4096x1 (constant S_ .f32 0x44800000#32))) (broadcastInDim S4096x1 ![]
    bcast_S_S4096x1 (constant S_ .f32 0x358637BD#32))

/-- The rows over their norms. -/
def rUnit (h : FVec Ideal S4096x1024 .f32) : FVec Ideal S4096x1024 .f32 :=
  mulf h (broadcastInDim S4096x1024 ![0, 1] bcast_S4096x1_S4096x1024_0_1 (Host.rsqrt (rMean h)))

/-- The gain along every row. -/
def rRow (g : FVec Ideal S1x1024 .f32) : FVec Ideal S4096x1024 .f32 :=
  broadcastInDim S4096x1024 ![0, 1] bcast_S1x1024_S4096x1024_0_1 (broadcastInDim S1x1024 ![1] bcast_S1024_S1x1024_1 (shapeCast _ g
    shapeCasts_S1x1024_S1024))

/-- What enters the gate. -/
def rPre (n : FVec Ideal S4096x1024 .f32) (w : FVec Ideal S1x1024x5632 .f32) : FVec Ideal S4096x5632 .f32 :=
  Host.dotGeneral dot_S4096x1024_S1024x5632_S4096x5632_1_0_0_1_n_n none n (shapeCast _ w shapeCasts_S1x1024x5632_S1024x5632)

/-- The cotangent of the half step's addend. -/
def rDhh (dout : FVec Ideal S4096x1024 .f32) : FVec Ideal S4096x1024 .f32 :=
  mulf (broadcastInDim S4096x1024 ![] bcast_S_S4096x1024 (constant S_ .f32 0x3F000000#32)) dout

/-- The cotangent of the gated value. -/
def rDact (y : FVec Ideal S4096x1024 .f32) (o : FVec Ideal S1x2816x1024 .f32) : FVec Ideal S4096x2816 .f32 :=
  Host.dotGeneral dot_S4096x1024_S2816x1024_S4096x2816_1_1_0_0_n_n none y (shapeCast _ o shapeCasts_S1x2816x1024_S2816x1024)

/-- The gate's logistic. -/
def rSg (u : FVec Ideal S4096x5632 .f32) : FVec Ideal S4096x2816 .f32 :=
  Host.divf (broadcastInDim S4096x2816 ![] bcast_S_S4096x2816 (constant S_ .f32 0x3F800000#32)) (addf (broadcastInDim S4096x2816 ![]
    bcast_S_S4096x2816 (constant S_ .f32 0x3F800000#32)) (Host.exp (Host.negf (extractStridedSlice S4096x2816 ![0, 0] u
    slices_S4096x5632_S4096x2816_0_0))))

/-- The cotangent of the gate's half. -/
def rDgt (u : FVec Ideal S4096x5632 .f32) (s y : FVec Ideal S4096x2816 .f32) : FVec Ideal S4096x2816 .f32 :=
  addf (mulf (mulf y (extractStridedSlice S4096x2816 ![0, 2816] u slices_S4096x5632_S4096x2816_0_2816)) s) (mulf (mulf (extractStridedSlice S4096x2816
    ![0, 0] u slices_S4096x5632_S4096x2816_0_0) (mulf y (extractStridedSlice S4096x2816 ![0, 2816] u slices_S4096x5632_S4096x2816_0_2816))) (mulf s
    (subf (broadcastInDim S4096x2816 ![] bcast_S_S4096x2816 (constant S_ .f32 0x3F800000#32)) s)))

/-- The cotangent of the value's half. -/
def rDup (u : FVec Ideal S4096x5632 .f32) (s y : FVec Ideal S4096x2816 .f32) : FVec Ideal S4096x2816 .f32 :=
  mulf (mulf (extractStridedSlice S4096x2816 ![0, 0] u slices_S4096x5632_S4096x2816_0_0) s) y

/-- The two side by side. -/
def rDgu (a b : FVec Ideal S4096x2816 .f32) : FVec Ideal S4096x5632 .f32 :=
  concatenate S4096x5632 1 [⟨S4096x2816, a⟩, ⟨S4096x2816, b⟩] concatenates_S4096x2816_S4096x2816_S4096x5632_d1

/-- The cotangent of the normed rows. -/
def rDn (e : FVec Ideal S4096x5632 .f32) (w : FVec Ideal S1x1024x5632 .f32) : FVec Ideal S4096x1024 .f32 :=
  Host.dotGeneral dot_S4096x5632_S1024x5632_S4096x1024_1_1_0_0_n_n none e (shapeCast _ w shapeCasts_S1x1024x5632_S1024x5632)

/-- The factor of a row that both terms of its gradient share. -/
def rHalf (h y : FVec Ideal S4096x1024 .f32) : FVec Ideal S4096 .f32 :=
  Host.reduceAdd (Host.divf (mulf (shapeCast _ (Host.reduceAdd (mulf h y) (constant S_ .f32 0x00000000#32) reducesTo_S4096x1024_S4096_d1 h_S_)
    shapeCasts_S4096_S4096x1) (mulf (broadcastInDim S4096x1 ![] bcast_S_S4096x1 (constant S_ .f32 0xBF000000#32)) (Host.divf (Host.rsqrt (rMean h))
    (rMean h)))) (broadcastInDim S4096x1 ![] bcast_S_S4096x1 (constant S_ .f32 0x44800000#32))) (constant S_ .f32 0x00000000#32)
    reducesTo_S4096x1_S4096_d1 h_S_

/-- A row's gradient, what comes along the residual added. -/
def rDh (dout h y : FVec Ideal S4096x1024 .f32) : FVec Ideal S4096x1024 .f32 :=
  addf (addf (addf dout (mulf y (broadcastInDim S4096x1024 ![0, 1] bcast_S4096x1_S4096x1024_0_1 (Host.rsqrt (rMean h))))) (mulf h (broadcastInDim
    S4096x1024 ![0] bcast_S4096_S4096x1024_0 (rHalf h y)))) (mulf (broadcastInDim S4096x1024 ![0] bcast_S4096_S4096x1024_0 (rHalf h y)) h)

/-- The gain's gradient. -/
def rDg (u y : FVec Ideal S4096x1024 .f32) : FVec Ideal S1x1024 .f32 :=
  broadcastInDim S1x1024 ![1] bcast_S1024_S1x1024_1 (Host.reduceAdd (shapeCast _ (Host.reduceAdd (mulf u y) (constant S_ .f32 0x00000000#32)
    reducesTo_S4096x1024_S1024_d0 h_S_) shapeCasts_S1024_S1x1024) (constant S_ .f32 0x00000000#32) reducesTo_S1x1024_S1024_d0 h_S_)

/-- The gated value. -/
def rAct (u : FVec Ideal S4096x5632 .f32) (s : FVec Ideal S4096x2816 .f32) : FVec Ideal S4096x2816 .f32 :=
  mulf (mulf (extractStridedSlice S4096x2816 ![0, 0] u slices_S4096x5632_S4096x2816_0_0) s) (extractStridedSlice S4096x2816 ![0, 2816] u
    slices_S4096x5632_S4096x2816_0_2816)

/-- The rows after the half step. -/
def rOut (h : FVec Ideal S4096x1024 .f32) (a : FVec Ideal S4096x2816 .f32) (o : FVec Ideal S1x2816x1024 .f32) : FVec Ideal S4096x1024 .f32 :=
  addf h (mulf (broadcastInDim S4096x1024 ![] bcast_S_S4096x1024 (constant S_ .f32 0x3F000000#32)) (Host.dotGeneral
    dot_S4096x2816_S2816x1024_S4096x1024_1_0_0_1_n_n none a (shapeCast _ o shapeCasts_S1x2816x1024_S2816x1024)))

section
variable (dout h n u y : FVec Ideal S4096x1024 .f32) (g : FVec Ideal S1x1024 .f32) (w : FVec Ideal S1x1024x5632 .f32)
  (o : FVec Ideal S1x2816x1024 .f32) (e : FVec Ideal S4096x5632 .f32) (a b s z' : FVec Ideal S4096x2816 .f32)

theorem rMean_at (p : Fin 4096) : rMean h (ix2 p 0) = meanSq 0x44800000#32 fun k : Fin 1024 => h (ix2 p k) := by
  pointwise [rMean, meanSq]
theorem rUnit_at (p : Fin 4096) (k : Fin 1024) : rUnit h (ix2 p k) = h (ix2 p k) * Ideal.rsqrt (rMean h (ix2 p 0)) := by
  pointwise [rUnit]
theorem rRow_at (p : Fin 4096) (k : Fin 1024) : rRow g (ix2 p k) = g (ix2 0 k) := by
  pointwise [rRow]
theorem rPre_at (p : Fin 4096) (j : Fin 5632) : rPre n w (ix2 p j) = ∑ k : Fin 1024, n (ix2 p k) * w (ix3 0 k j) := by
  pointwise [rPre]
theorem rDhh_at (p : Fin 4096) (k : Fin 1024) : rDhh dout (ix2 p k) = dhh (fun k => dout (ix2 p k)) k := by
  pointwise [rDhh, dhh]
theorem rDact_at (p : Fin 4096) (j : Fin 2816) : rDact y o (ix2 p j) = ∑ k : Fin 1024, y (ix2 p k) * o (ix3 0 j k) := by
  pointwise [rDact]
theorem rSg_at (p : Fin 4096) (j : Fin 2816) : rSg e (ix2 p j) = Ideal.logistic (gt (fun j => e (ix2 p j)) j) := by
  unfold Ideal.logistic
  rw [← EReal.coe_one, ← word_one]
  pointwise [rSg, gt]
theorem rDgt_at (p : Fin 4096) (j : Fin 2816) : rDgt e s z' (ix2 p j)
    = z' (ix2 p j) * up (fun j => e (ix2 p j)) j * s (ix2 p j) + gt (fun j => e (ix2 p j)) j * (z' (ix2 p j) * up (fun j => e (ix2 p j)) j)
      * (s (ix2 p j) * (Ideal.ofBits .f32 0x3F800000#32 - s (ix2 p j))) := by
  pointwise [rDgt, gt, up]
theorem rDup_at (p : Fin 4096) (j : Fin 2816) : rDup e s z' (ix2 p j) = gt (fun j => e (ix2 p j)) j * s (ix2 p j) * z' (ix2 p j) := by
  pointwise [rDup, gt]
theorem rAct_at (p : Fin 4096) (j : Fin 2816) : rAct e s (ix2 p j) = gt (fun j => e (ix2 p j)) j * s (ix2 p j) * up (fun j => e (ix2 p j)) j := by
  pointwise [rAct, gt, up]
theorem rDgu_at (p : Fin 4096) (j : Fin 5632) : rDgu a b (ix2 p j)
    = if h : j.val < 2816 then a (ix2 p ⟨j, h⟩) else b (ix2 p ⟨j.val - 2816, by omega⟩) := by
  pointwise [rDgu]
theorem rDn_at (p : Fin 4096) (k : Fin 1024) : rDn e w (ix2 p k) = ∑ j : Fin 5632, e (ix2 p j) * w (ix3 0 k j) := by
  pointwise [rDn]
theorem rOut_at (p : Fin 4096) (k : Fin 1024) : rOut h a o (ix2 p k)
    = h (ix2 p k) + Ideal.ofBits .f32 0x3F000000#32 * ∑ j : Fin 2816, a (ix2 p j) * o (ix3 0 j k) := by
  pointwise [rOut]
theorem rDg_at (k : Fin 1024) : rDg u y (ix2 0 k) = ∑ p : Fin 4096, u (ix2 p k) * y (ix2 p k) := by
  pointwise [rDg]
  exact Fin.sum_univ_one _
theorem rHalf_at (p : Fin 4096) (dy gv : Fin 1024 → EReal) (hy : ∀ k, y (ix2 p k) = dy k * gv k) :
    rHalf h y (ix1 p) = half 0x44800000#32 (fun k : Fin 1024 => h (ix2 p k)) dy gv := by
  unfold half
  simp only [← hy, ← rMean_at]
  pointwise [rHalf]
  exact Fin.sum_univ_one _
theorem rDh_at (p : Fin 4096) (k : Fin 1024) (dy gv : Fin 1024 → EReal) (hy : ∀ k, y (ix2 p k) = dy k * gv k) :
    rDh dout h y (ix2 p k) = dout (ix2 p k) + grad 0x44800000#32 (fun k : Fin 1024 => h (ix2 p k)) dy gv k := by
  refine Eq.trans ?_ (grad_eq len_1024 _ dy gv _ k)
  rw [← rHalf_at h y p dy gv hy, ← rMean_at, ← hy]
  pointwise [rDh]

end

/-! ## The compositions -/

section
variable (dout h : FVec Ideal S4096x1024 .f32) (g : FVec Ideal S1x1024 .f32) (w : FVec Ideal S1x1024x5632 .f32) (o : FVec Ideal S1x2816x1024 .f32)

/-- The arguments read as functions of a row and a column. -/
def fX (x : FVec Ideal S4096x1024 .f32) (p : Fin 4096) (k : Fin 1024) : EReal := x (ix2 p k)
def fG (k : Fin 1024) : EReal := g (ix2 0 k)
def fW (k : Fin 1024) (j : Fin 5632) : EReal := w (ix3 0 k j)
def fO (j : Fin 2816) (k : Fin 1024) : EReal := o (ix3 0 j k)
def fU (p : Fin 4096) : Fin 5632 → EReal := pre (fX h p) (fG g) (fW w)

/-- The normed rows, what enters the gate, the cotangent of the gated value, of what enters the gate, of the normed rows. -/
def rN : FVec Ideal S4096x1024 .f32 := mulf (rUnit h) (rRow g)
def rU : FVec Ideal S4096x5632 .f32 := rPre (rN h g) w
def rA : FVec Ideal S4096x2816 .f32 := rDact (rDhh dout) o
def rE : FVec Ideal S4096x5632 .f32 :=
  rDgu (rDgt (rU h g w) (rSg (rU h g w)) (rA dout o)) (rDup (rU h g w) (rSg (rU h g w)) (rA dout o))
def rY : FVec Ideal S4096x1024 .f32 := mulf (rDn (rE dout h g w o) w) (rRow g)

theorem rN_at (p : Fin 4096) (k : Fin 1024) : rN h g (ix2 p k) = nrm (fX h p) (fG g) k := by
  show rUnit h (ix2 p k) * rRow g (ix2 p k) = _
  rw [rUnit_at, rRow_at, rMean_at]; rfl

theorem rU_at (p : Fin 4096) (j : Fin 5632) : rU h g w (ix2 p j) = fU h g w p j := by
  rw [rU, rPre_at]
  simp only [rN_at]
  rfl

theorem rU_row (p : Fin 4096) : (fun j => rU h g w (ix2 p j)) = fU h g w p := funext fun j => rU_at h g w p j

theorem rA_at (p : Fin 4096) (j : Fin 2816) : rA dout o (ix2 p j) = dact (fX dout p) (fO o) j := by
  rw [rA, rDact_at]
  simp only [rDhh_at]
  rfl

theorem pre_real (hh : ∀ i, IsReal (h i)) (hg : ∀ i, IsReal (g i)) (hw : ∀ i, IsReal (w i)) (p : Fin 4096) (j : Fin 5632) : IsReal (fU h g w p j) := by
  unfold fU pre nrm
  exact
  .sum _ fun k => (((hh _).mul (.rsqrt (meanSq_pos len_1024 _))).mul (hg _)).mul (hw _)

theorem dact_real (hd : ∀ i, IsReal (dout i)) (ho : ∀ i, IsReal (o i)) (p : Fin 4096) (j : Fin 2816) : IsReal (dact (fX dout p) (fO o) j) :=
  .sum _ fun k => ((word_half ▸ IsReal.coe _ : IsReal (Ideal.ofBits .f32 0x3F000000#32)).mul (hd _)).mul (ho _)

variable (hd : ∀ i, IsReal (dout i)) (hh : ∀ i, IsReal (h i)) (hg : ∀ i, IsReal (g i)) (hw : ∀ i, IsReal (w i)) (ho : ∀ i, IsReal (o i))
include hd hh hg hw ho

theorem rE_at (p : Fin 4096) (j : Fin 5632) : rE dout h g w o (ix2 p j) = dgu (fX dout p) (fU h g w p) (fO o) j := by
  rw [rE, rDgu_at, dgu]
  refine dite_congr rfl (fun hj => ?_) fun hj => ?_
  · rw [rDgt_at, rSg_at, rU_row, rA_at]
    exact silu_grad ((dact_real dout o hd ho p _).mul (pre_real h g w hh hg hw p _)) (pre_real h g w hh hg hw p _)
  · rw [rDup_at, rSg_at, rU_row, rA_at]
    exact mul_comm _ _

theorem rDn_eq (p : Fin 4096) (k : Fin 1024) : rDn (rE dout h g w o) w (ix2 p k) = dn (fX dout p) (fU h g w p) (fW w) (fO o) k := by
  rw [rDn_at]
  simp only [rE_at dout h g w o hd hh hg hw ho]
  refine (Fin.sum_univ_add (a := 2816) (b := 2816) fun j : Fin 5632 => dgu (fX dout p) (fU h g w p) (fO o) j * w (ix3 0 k j)).trans ?_
  refine congrArg₂ (· + ·) (Finset.sum_congr rfl fun j _ => ?_) (Finset.sum_congr rfl fun j _ => ?_)
  · exact congrArg (· * _) (Cert.FfnBwdIdeal.Ffn.dgu_lo _ _ _ _ _ rfl)
  · exact congrArg (· * _) (Cert.FfnBwdIdeal.Ffn.dgu_hi _ _ _ _ _ rfl)

theorem rY_at (p : Fin 4096) (k : Fin 1024) : rY dout h g w o (ix2 p k) = dn (fX dout p) (fU h g w p) (fW w) (fO o) k * fG g k := by
  show rDn (rE dout h g w o) w (ix2 p k) * rRow g (ix2 p k) = _
  rw [rDn_eq dout h g w o hd hh hg hw ho, rRow_at]; rfl

theorem dh_eq (p : Fin 4096) (k : Fin 1024) : rDh dout h (rY dout h g w o) (ix2 p k)
    = dh (fX dout p) (fX h p) (fG g) (fU h g w p) (fW w) (fO o) k :=
  rDh_at dout h _ p k _ _ (rY_at dout h g w o hd hh hg hw ho p)

theorem dg_eq (k : Fin 1024) : rDg (rUnit h) (rDn (rE dout h g w o) w) (ix2 0 k)
    = ∑ p : Fin 4096, dgp (fX dout p) (fX h p) (fU h g w p) (fW w) (fO o) k := by
  rw [rDg_at]
  refine Finset.sum_congr rfl fun p _ => ?_
  rw [rDn_eq dout h g w o hd hh hg hw ho, rUnit_at, rMean_at, dgp, mul_comm, ← mul_assoc]; rfl

omit hd hh hg hw ho in
theorem act_eq (p : Fin 4096) (j : Fin 2816) : rAct (rU h g w) (rSg (rU h g w)) (ix2 p j) = act (fU h g w p) j := by
  rw [rAct_at, rSg_at, rU_row]; rfl

omit hd hh hg hw ho in
theorem out_eq (p : Fin 4096) (k : Fin 1024) : rOut h (rAct (rU h g w) (rSg (rU h g w))) o (ix2 p k) = out (fX h p) (fU h g w p) (fO o) k := by
  rw [rOut_at]
  simp only [act_eq]
  rfl

end

/-! ## The run's terms -/

section
variable (m : (ℓ : Loc nD τ sig) → Buf (Elt Ideal) ℓ)

abbrev aD (c : Dev nD) : FVec Ideal S4096x1024 .f32 := m ((c : Thread nD τ).loc main_arg0)
abbrev aH (c : Dev nD) : FVec Ideal S4096x1024 .f32 := m ((c : Thread nD τ).loc main_arg1)
abbrev aG (c : Dev nD) : FVec Ideal S1x1024 .f32 := m ((c : Thread nD τ).loc main_arg2)
abbrev aW (c : Dev nD) : FVec Ideal S1x1024x5632 .f32 := m ((c : Thread nD τ).loc main_arg3)
abbrev aO (c : Dev nD) : FVec Ideal S1x2816x1024 .f32 := m ((c : Thread nD τ).loc main_arg4)

theorem out1_eq (c : Dev nD) : res_main_v69 m c = rDh (aD m c) (aH m c) (rY (aD m c) (aH m c) (aG m c) (aW m c) (aO m c)) := rfl
theorem out2_eq (c : Dev nD) : res_main_v74 m c = truncf .bf16 (rE (aD m c) (aH m c) (aG m c) (aW m c) (aO m c)) bitsLt_bf16_f32 := rfl
theorem out6_eq (c : Dev nD) : res_main_v70 m c = rDg (rUnit (aH m c)) (rDn (rE (aD m c) (aH m c) (aG m c) (aW m c) (aO m c)) (aW m c)) := rfl

end

end Cert.FfnRefIdeal.Ffn

end
-- ==== Proof.Ffn.Claim.lean ====
/-
  The value claim of the feed-forward half step and its gradient: the kernels' seven results are the reference's where the arguments are finite.
-/
module

public import proofs.«01_k».proof.Defs
public import proofs.«01_k».proof.Proof.Ffn.Ref
public import Idealize.ShloMosaic.Lib.Claim

@[expose] public section

set_option maxRecDepth 16384

noncomputable section

open Idealize.ShloMosaic Idealize.ShloMosaic.TcCoe Idealize.SL.Sem

namespace Cert.Ffn

open Cert.FfnBwdIdeal.Ffn Cert.Common

/-- The precondition as it is used: every element of the arguments is real. -/
theorem real_args [Cert.Pre_ffn_finite.Facts] (m : (ℓ : Loc Cert.FfnBwdIdeal.nD Cert.FfnBwdIdeal.τ Cert.FfnBwdIdeal.sig) → Buf (Elt Ideal) ℓ)
    (h : Cert.Pre_FfnBwdIdeal_ffn_finite m) (c : Dev Cert.FfnBwdIdeal.nD) :
    (∀ i, IsReal (aD m c i)) ∧ (∀ i, IsReal (aH m c i)) ∧ (∀ i, IsReal (aG m c i)) ∧ (∀ i, IsReal (aW m c i)) ∧ ∀ i, IsReal (aO m c i) := by
  obtain ⟨h0, h1, h2, h3, h4⟩ := h c
  exact ⟨fun i => .of_finite (congrFun h0 i), fun i => .of_finite (congrFun h1 i), fun i => .of_finite (congrFun h2 i),
    fun i => .of_finite (congrFun h3 i), fun i => .of_finite (congrFun h4 i)⟩

/-- Two arrays agree where they agree at every row and column. -/
theorem ext2 {a b : ℕ} {x y : (⟨2, ![a, b]⟩ : Shape).Idx → EReal} (h : ∀ (p : Fin a) (k : Fin b), x (ix2 p k) = y (ix2 p k)) : x = y :=
  funext fun i => by rw [eq_ix2 i]; exact h _ _

open Cert.FfnRefIdeal.Ffn in
theorem algebraic [Cert.Pre_ffn_finite.Facts] : Cert.algebraic_FfnBwdIdeal_FfnRefIdeal_pre_ffn_finite := by
  pair_intro
  · run_from Cert.FfnBwdIdeal.Ffn.run m g
  · run_from Cert.FfnRefIdeal.Value.run m' g'
    · exact ext2 fun p k => out_eq (aH m c) (aG m c) (aW m c) (aO m c) p k
    · obtain ⟨h0, h1, h2, h3, h4⟩ := hagree c
      obtain ⟨d, h, g, w, o⟩ := real_args m hpre c
      refine (out1_eq m' c).trans ?_
      rw [Cert.FfnRefIdeal.Ffn.aD, h0, Cert.FfnRefIdeal.Ffn.aH, h1, Cert.FfnRefIdeal.Ffn.aG, h2, Cert.FfnRefIdeal.Ffn.aW, h3, Cert.FfnRefIdeal.Ffn.aO, h4]
      exact ext2 fun p k => dh_eq _ _ _ _ _ d h g w o p k
    · obtain ⟨h0, h1, h2, h3, h4⟩ := hagree c
      obtain ⟨d, h, g, w, o⟩ := real_args m hpre c
      refine (out2_eq m' c).trans ?_
      rw [Cert.FfnRefIdeal.Ffn.aD, h0, Cert.FfnRefIdeal.Ffn.aH, h1, Cert.FfnRefIdeal.Ffn.aG, h2, Cert.FfnRefIdeal.Ffn.aW, h3, Cert.FfnRefIdeal.Ffn.aO, h4]
      exact ext2 fun p k => rE_at _ _ _ _ _ d h g w o p k
    · exact ext2 fun p k => rN_at (aH m c) (aG m c) p k
    · exact ext2 fun p k => act_eq (aH m c) (aG m c) (aW m c) p k
    · exact ext2 fun p k => rDhh_at (aD m c) p k
    · obtain ⟨h0, h1, h2, h3, h4⟩ := hagree c
      obtain ⟨d, h, g, w, o⟩ := real_args m hpre c
      refine (out6_eq m' c).trans ?_
      rw [Cert.FfnRefIdeal.Ffn.aD, h0, Cert.FfnRefIdeal.Ffn.aH, h1, Cert.FfnRefIdeal.Ffn.aG, h2, Cert.FfnRefIdeal.Ffn.aW, h3, Cert.FfnRefIdeal.Ffn.aO, h4]
      exact ext2 fun p k => (Fin.fin_one_eq_zero p) ▸ dg_eq _ _ _ _ _ d h g w o k

theorem frame_ref : Cert.quiescent_FfnRefIdeal := fun m ρ _ =>
  (θ_run Cert.FfnRefIdeal.defs _ _).mono (fun r h => ⟨fun c => (h c).2.2.2.2.2.2.2, sem_eq_zero_of_no_sems (by decide) r.2⟩)
    (Cert.FfnRefIdeal.Value.run m ρ)

end Cert.Ffn

end
-- ==== Proof.Head.Spec.lean ====
/-
  The loss, the gated per-layer embedding and its two norms, with their gradients: the results as functions of a row's entries.
-/
module

public import proofs.«01_k».proof.Proof.Ffn.Spec

@[expose] public section

noncomputable section

open Idealize.ShloMosaic

namespace Cert.Head

open Cert.Common

abbrev len : BitVec 32 := 0x44800000#32
abbrev one : EReal := Ideal.ofBits .f32 0x3F800000#32

/-- The inverse norm of a row. -/
def rs (h : Fin 1024 → EReal) : EReal := Ideal.rsqrt (meanSq len h)

/-- The gate: the normed row through its weight. -/
def gate (h g : Fin 1024 → EReal) (w : Fin 1024 → Fin 1024 → EReal) (k : Fin 1024) : EReal :=
  Ideal.logistic (∑ j, Cert.Ffn.nrm h g j * w j k)

/-- The embedding through its weight. -/
def pp (p : Fin 256 → EReal) (u : Fin 256 → Fin 1024 → EReal) (k : Fin 1024) : EReal := ∑ e, p e * u e k

/-- The row after the gated embedding is added, from the gate `s` and the embedding `y`. -/
def h4 (h s y : Fin 1024 → EReal) (k : Fin 1024) : EReal := h k + s k * y k

/-- What the loss squares, `x` the row the last norm takes. -/
def err (x f t : Fin 1024 → EReal) (k : Fin 1024) : EReal := x k * rs x * f k - t k

/-- Its cotangent. -/
def dy (x f t : Fin 1024 → EReal) (k : Fin 1024) : EReal := err x f t k * Ideal.ofBits .f32 0x3A800000#32

/-- The gradient of the row the last norm takes. -/
def dx (x f t : Fin 1024 → EReal) (k : Fin 1024) : EReal := grad len x (dy x f t) f k

/-- The cotangents of what enters the gate and of the embedding, `d` the row's. -/
def dz (d s y : Fin 1024 → EReal) (k : Fin 1024) : EReal := d k * y k * s k * (one - s k)
def dp (d s : Fin 1024 → EReal) (k : Fin 1024) : EReal := d k * s k

/-- The cotangent of the normed row. -/
def dn (d s y : Fin 1024 → EReal) (w : Fin 1024 → Fin 1024 → EReal) (k : Fin 1024) : EReal := ∑ j, dz d s y j * w k j

/-- The row's gradient. -/
def dh (h g d s y : Fin 1024 → EReal) (w : Fin 1024 → Fin 1024 → EReal) (k : Fin 1024) : EReal := d k + grad len h (dn d s y w) g k

/-- A row's parts of the two gains' gradients. -/
def df (x f t : Fin 1024 → EReal) (k : Fin 1024) : EReal := dy x f t k * x k * rs x
def dg (h d s y : Fin 1024 → EReal) (w : Fin 1024 → Fin 1024 → EReal) (k : Fin 1024) : EReal := dn d s y w k * h k * rs h

/-- A row's part of the loss. -/
def sq (x f t : Fin 1024 → EReal) : EReal := ∑ k, err x f t k * err x f t k

end Cert.Head

end
-- ==== Proof.Head.Value.lean ====
/-
  The loss and the gated embedding with their gradients: what the kernel's eight arrays hold after its run.
-/
module

public import proofs.«01_k».proof.Proof.Head.Spec
public import proofs.«01_k».proof.Proof.Gen.HeadIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HeadIdeal.Hd

open Cert.HeadIdeal Cert.HeadIdeal.Gen Cert.Common Cert.Head

variable (m : (ℓ : Loc nD τ sig) → Buf (Elt Ideal) ℓ)

abbrev aH (c : Dev nD) : FVec Ideal S4096x1024 .f32 := m ((c : Thread nD τ).loc main_arg0)
abbrev aP (c : Dev nD) : FVec Ideal S4096x256 .f32 := m ((c : Thread nD τ).loc main_arg1)
abbrev aT (c : Dev nD) : FVec Ideal S4096x1024 .f32 := m ((c : Thread nD τ).loc main_arg2)
abbrev aG (c : Dev nD) : FVec Ideal S1x1024 .f32 := m ((c : Thread nD τ).loc main_arg3)
abbrev aF (c : Dev nD) : FVec Ideal S1024 .f32 := m ((c : Thread nD τ).loc main_arg4)
abbrev aW (c : Dev nD) : FVec Ideal S1x1024x1024 .f32 := m ((c : Thread nD τ).loc main_arg5)
abbrev aU (c : Dev nD) : FVec Ideal S1x256x1024 .f32 := m ((c : Thread nD τ).loc main_arg6)

/-! ## The arguments read as functions of a row and a column, and the values of a row -/

def mH (c : Dev nD) (p : Fin 4096) (k : Fin 1024) : EReal := aH m c (ix2 p k)
def mP (c : Dev nD) (p : Fin 4096) (e : Fin 256) : EReal := aP m c (ix2 p e)
def mT (c : Dev nD) (p : Fin 4096) (k : Fin 1024) : EReal := aT m c (ix2 p k)
def mG (c : Dev nD) (k : Fin 1024) : EReal := aG m c (ix2 0 k)
def mF (c : Dev nD) (k : Fin 1024) : EReal := aF m c (ix1 k)
def mW (c : Dev nD) (j k : Fin 1024) : EReal := aW m c (ix3 0 j k)
def mU (c : Dev nD) (e : Fin 256) (k : Fin 1024) : EReal := aU m c (ix3 0 e k)
def mS (c : Dev nD) (p : Fin 4096) : Fin 1024 → EReal := gate (mH m c p) (mG m c) (mW m c)
def mY (c : Dev nD) (p : Fin 4096) : Fin 1024 → EReal := pp (mP m c p) (mU m c)
def mX (c : Dev nD) (p : Fin 4096) : Fin 1024 → EReal := h4 (mH m c p) (mS m c p) (mY m c p)
def mD (c : Dev nD) (p : Fin 4096) : Fin 1024 → EReal := dx (mX m c p) (mF m c) (mT m c p)

/-! ## A point's blocks -/

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

def em (t : Fin cfg0.N) (a : Fin 512) : Fin 4096 := ⟨t.val * 512 + a.val, by have h := t.isLt; have : cfg0.N = 8 := N_0; omega⟩

abbrev bH (c : Dev nD) (t : Fin cfg0.N) : FVec Ideal S512x1024 .f32 := iblk m c 0 t
abbrev bP (c : Dev nD) (t : Fin cfg0.N) : FVec Ideal S512x256 .f32 := iblk m c 1 t
abbrev bT (c : Dev nD) (t : Fin cfg0.N) : FVec Ideal S512x1024 .f32 := iblk m c 2 t
abbrev bG (c : Dev nD) (t : Fin cfg0.N) : FVec Ideal S1x1024 .f32 := iblk m c 3 t
abbrev bF (c : Dev nD) (t : Fin cfg0.N) : FVec Ideal S1x1024 .f32 := iblk m c 4 t
abbrev bW (c : Dev nD) (t : Fin cfg0.N) : FVec Ideal S1024x1024 .bf16 := iblk m c 5 t
abbrev bU0 (c : Dev nD) (t : Fin cfg0.N) : FVec Ideal S1x256x256 .bf16 :=
  View.ld (iblk m c 6 t) (Rect.unit ![0, 0, 0] ![1, 256, 256] inb_S4x256x256_S1x256x256_0_0_0)
abbrev bU1 (c : Dev nD) (t : Fin cfg0.N) : FVec Ideal S1x256x256 .bf16 :=
  View.ld (iblk m c 6 t) (Rect.unit ![1, 0, 0] ![1, 256, 256] inb_S4x256x256_S1x256x256_1_0_0)
abbrev bU2 (c : Dev nD) (t : Fin cfg0.N) : FVec Ideal S1x256x256 .bf16 :=
  View.ld (iblk m c 6 t) (Rect.unit ![2, 0, 0] ![1, 256, 256] inb_S4x256x256_S1x256x256_2_0_0)
abbrev bU3 (c : Dev nD) (t : Fin cfg0.N) : FVec Ideal S1x256x256 .bf16 :=
  View.ld (iblk m c 6 t) (Rect.unit ![3, 0, 0] ![1, 256, 256] inb_S4x256x256_S1x256x256_3_0_0)

section
variable (c : Dev nD) (t : Fin cfg0.N)

theorem bH_at (a : Fin 512) (k : Fin 1024) : bH m c t (ix2 a k) = mH m c (em t a) k := by
  pointwise [bH, mH]; blk_point [iblk, V, idx t, em]
theorem bP_at (a : Fin 512) (k : Fin 256) : bP m c t (ix2 a k) = mP m c (em t a) k := by
  pointwise [bP, mP]; blk_point [iblk, V, idx t, em]
theorem bT_at (a : Fin 512) (k : Fin 1024) : bT m c t (ix2 a k) = mT m c (em t a) k := by
  pointwise [bT, mT]; blk_point [iblk, V, idx t, em]
theorem bG_at (k : Fin 1024) : bG m c t (ix2 0 k) = mG m c k := by
  pointwise [bG, mG]; blk_point [iblk, V, idx t]
theorem bF_at (k : Fin 1024) : bF m c t (ix2 0 k) = mF m c k := by
  pointwise [bF, mF]; blk_point [iblk, V, idx t]
theorem bW_at (j k : Fin 1024) : bW m c t (ix2 j k) = mW m c j k := by
  pointwise [bW, mW]; blk_point [iblk, V, idx t]
theorem bU0_at (e r : Fin 256) : bU0 m c t (ix3 0 e r) = mU m c e ⟨r, by omega⟩ := by
  pointwise [bU0, mU]; blk_point [iblk, V, idx t]
theorem bU1_at (e r : Fin 256) : bU1 m c t (ix3 0 e r) = mU m c e ⟨256 + r, by omega⟩ := by
  pointwise [bU1, mU]; blk_point [iblk, V, idx t]
theorem bU2_at (e r : Fin 256) : bU2 m c t (ix3 0 e r) = mU m c e ⟨512 + r, by omega⟩ := by
  pointwise [bU2, mU]; blk_point [iblk, V, idx t]
theorem bU3_at (e r : Fin 256) : bU3 m c t (ix3 0 e r) = mU m c e ⟨768 + r, by omega⟩ := by
  pointwise [bU3, mU]; blk_point [iblk, V, idx t]

end

/-! ## The body's values over its loads -/

section
variable (h t x s y d : FVec Ideal S512x1024 .f32) (g f : FVec Ideal S1x1024 .f32) (w : FVec Ideal S1024x1024 .bf16)
  (p : FVec Ideal S512x256 .f32) (u u' : FVec Ideal S1x256x256 .bf16) (q : FVec Ideal S512x256 .bf16) (y0 y1 : FVec Ideal S512x256 .f32)

theorem pn_at (a : Fin 512) (k : Fin 1024) :
    k0_pay5 (F := Ideal) h g (ix2 a k) = Cert.Ffn.nrm (fun k => h (ix2 a k)) (fun k => g (ix2 0 k)) k := by
  pointwise [k0_pay5, k0_pay4, Cert.Ffn.nrm, meanSq]
theorem ps_at (a : Fin 512) (k : Fin 1024) : k0_pay6 (F := Ideal) h g w (ix2 a k)
    = Ideal.logistic (∑ j : Fin 1024, k0_pay5 (F := Ideal) h g (ix2 a j) * w (ix2 j k)) := by
  pointwise [k0_pay6]
theorem p0_at (a : Fin 512) (r : Fin 256) : k0_pay8 (F := Ideal) p u (ix2 a r) = ∑ e : Fin 256, p (ix2 a e) * u (ix3 0 e r) := by
  pointwise [k0_pay8, k0_pay7]
theorem p1_at (a : Fin 512) (r : Fin 256) : k0_pay9 (F := Ideal) p u (ix2 a r) = ∑ e : Fin 256, p (ix2 a e) * u (ix3 0 e r) := by
  pointwise [k0_pay9, k0_pay7]
theorem py0_at (a : Fin 512) (r : Fin 256) : k0_pay10 (F := Ideal) q y0 y1 u u' (ix2 a ⟨r, by omega⟩) = y0 (ix2 a r) := by
  pointwise [k0_pay10]
theorem py1_at (a : Fin 512) (r : Fin 256) : k0_pay10 (F := Ideal) q y0 y1 u u' (ix2 a ⟨256 + r, by omega⟩) = y1 (ix2 a r) := by
  pointwise [k0_pay10]
theorem py2_at (a : Fin 512) (r : Fin 256) : k0_pay10 (F := Ideal) q y0 y1 u u' (ix2 a ⟨512 + r, by omega⟩)
    = ∑ e : Fin 256, q (ix2 a e) * u (ix3 0 e r) := by
  pointwise [k0_pay10]
  rw [dif_neg (by omega), dif_neg (by omega), dif_pos (by omega)]
  exact Finset.sum_congr rfl fun e _ => congrArg (fun r : Fin 256 => q (ix2 a e) * u (ix3 0 e r)) (Fin.ext (by show 512 + r.val - 256 - 256 = r.val; omega))
theorem py3_at (a : Fin 512) (r : Fin 256) : k0_pay10 (F := Ideal) q y0 y1 u u' (ix2 a ⟨768 + r, by omega⟩)
    = ∑ e : Fin 256, q (ix2 a e) * u' (ix3 0 e r) := by
  pointwise [k0_pay10]
  rw [dif_neg (by omega), dif_neg (by omega), dif_neg (by omega)]
  exact Finset.sum_congr rfl fun e _ => congrArg (fun r : Fin 256 => q (ix2 a e) * u' (ix3 0 e r)) (Fin.ext (by show 768 + r.val - 256 - 256 - 256 = r.val; omega))
theorem px_at (i : S512x1024.Idx) : k0_pay11 (F := Ideal) h s q y0 y1 u u' i = h i + s i * k0_pay10 (F := Ideal) q y0 y1 u u' i := by
  pointwise [k0_pay11]
theorem pe_at (a : Fin 512) (k : Fin 1024) : k0_pay14 (F := Ideal) h s q y0 y1 u u' f t (ix2 a k)
    = err (fun k => k0_pay11 (F := Ideal) h s q y0 y1 u u' (ix2 a k)) (fun k => f (ix2 0 k)) (fun k => t (ix2 a k)) k := by
  pointwise [k0_pay14, k0_pay13, k0_pay12, err, rs, meanSq]
theorem pdy_at (a : Fin 512) (k : Fin 1024) : k0_pay15 (F := Ideal) h s q y0 y1 u u' f t (ix2 a k)
    = dy (fun k => k0_pay11 (F := Ideal) h s q y0 y1 u u' (ix2 a k)) (fun k => f (ix2 0 k)) (fun k => t (ix2 a k)) k := by
  unfold dy
  rw [← pe_at]
  pointwise [k0_pay15]
theorem pd_at (a : Fin 512) (k : Fin 1024) : k0_pay16 (F := Ideal) h s q y0 y1 u u' f t (ix2 a k)
    = dx (fun k => k0_pay11 (F := Ideal) h s q y0 y1 u u' (ix2 a k)) (fun k => f (ix2 0 k)) (fun k => t (ix2 a k)) k := by
  unfold dx grad
  simp only [← pdy_at]
  pointwise [k0_pay16, k0_pay12, k0_pay13, meanSq]
theorem pdf_at (a : Fin 512) (k : Fin 1024) : k0_pay17 (F := Ideal) h s q y0 y1 u u' f t (ix2 a k)
    = df (fun k => k0_pay11 (F := Ideal) h s q y0 y1 u u' (ix2 a k)) (fun k => f (ix2 0 k)) (fun k => t (ix2 a k)) k := by
  unfold df
  simp only [← pdy_at]
  pointwise [k0_pay17, k0_pay12, rs, meanSq]
theorem pdz_at (a : Fin 512) (k : Fin 1024) : k0_pay18 (F := Ideal) s y d (ix2 a k)
    = dz (fun k => d (ix2 a k)) (fun k => s (ix2 a k)) (fun k => y (ix2 a k)) k := by
  pointwise [k0_pay18, dz]
theorem pdp_at (a : Fin 512) (k : Fin 1024) : k0_pay19 (F := Ideal) s d (ix2 a k) = dp (fun k => d (ix2 a k)) (fun k => s (ix2 a k)) k := by
  pointwise [k0_pay19, dp]
theorem pdn_at (a : Fin 512) (k : Fin 1024) : k0_pay20 (F := Ideal) s y d w (ix2 a k)
    = dn (fun k => d (ix2 a k)) (fun k => s (ix2 a k)) (fun k => y (ix2 a k)) (fun k j => w (ix2 k j)) k := by
  unfold dn
  simp only [← pdz_at]
  pointwise [k0_pay20]
theorem pdg_at (a : Fin 512) (k : Fin 1024) : k0_pay21 (F := Ideal) h (k0_pay4 h) s y d w (ix2 a k)
    = dg (fun k => h (ix2 a k)) (fun k => d (ix2 a k)) (fun k => s (ix2 a k)) (fun k => y (ix2 a k)) (fun k j => w (ix2 k j)) k := by
  unfold dg
  simp only [← pdn_at]
  pointwise [k0_pay21, k0_pay4, rs, meanSq]
theorem pdh_at (a : Fin 512) (k : Fin 1024) : k0_pay22 (F := Ideal) h (k0_pay4 h) g s y d w (ix2 a k)
    = dh (fun k => h (ix2 a k)) (fun k => g (ix2 0 k)) (fun k => d (ix2 a k)) (fun k => s (ix2 a k)) (fun k => y (ix2 a k)) (fun k j => w (ix2 k j)) k := by
  unfold dh grad
  simp only [← pdn_at]
  pointwise [k0_pay22, k0_pay4, meanSq]

theorem ploss_at (old : FVec Ideal S1x128 .f32) (j : S1x128.Idx) : k0_pay1 (F := Ideal) (k0_pay26 old) (k0_pay27 x) j
    = old j + Ideal.ofBits .f32 0x3A000000#32 * ∑ a : Fin 512, ∑ k : Fin 1024, x (ix2 a k) * x (ix2 a k) := by
  pointwise [k0_pay1, k0_pay26, k0_pay27]
theorem psf_at (old : FVec Ideal S1x1024 .f32) (k : Fin 1024) : k0_pay2 (F := Ideal) x old (ix2 0 k) = old (ix2 0 k) + ∑ a : Fin 512, x (ix2 a k) := by
  pointwise [k0_pay2]
theorem psg_at (old : FVec Ideal S1x1024 .f32) (k : Fin 1024) : k0_pay3 (F := Ideal) x old (ix2 0 k) = old (ix2 0 k) + ∑ a : Fin 512, x (ix2 a k) := by
  pointwise [k0_pay3]
theorem pz7_at (j : S1x128.Idx) : k0_pay23 (F := Ideal) j = 0 := by pointwise [k0_pay23]
theorem pz8_at (j : S1x1024.Idx) : k0_pay24 (F := Ideal) j = 0 := by pointwise [k0_pay24]
theorem pz9_at (j : S1x1024.Idx) : k0_pay25 (F := Ideal) j = 0 := by pointwise [k0_pay25]

end

/-! ### Over the arrays -/

section
variable (c : Dev nD) (t : Fin cfg0.N)

abbrev kS : FVec Ideal S512x1024 .f32 := k0_pay6 (F := Ideal) (bH m c t) (bG m c t) (bW m c t)
abbrev kY : FVec Ideal S512x1024 .f32 := k0_pay10 (F := Ideal) (k0_pay7 (bP m c t)) (k0_pay8 (bP m c t) (bU0 m c t)) (k0_pay9 (bP m c t) (bU1 m c t)) (bU2 m c t) (bU3 m c t)
abbrev kX : FVec Ideal S512x1024 .f32 := k0_pay11 (F := Ideal) (bH m c t) (kS m c t) (k0_pay7 (bP m c t)) (k0_pay8 (bP m c t) (bU0 m c t)) (k0_pay9 (bP m c t) (bU1 m c t)) (bU2 m c t) (bU3 m c t)
abbrev kE : FVec Ideal S512x1024 .f32 := k0_pay14 (F := Ideal) (bH m c t) (kS m c t) (k0_pay7 (bP m c t)) (k0_pay8 (bP m c t) (bU0 m c t)) (k0_pay9 (bP m c t) (bU1 m c t)) (bU2 m c t) (bU3 m c t) (bF m c t) (bT m c t)
abbrev kD : FVec Ideal S512x1024 .f32 := k0_pay16 (F := Ideal) (bH m c t) (kS m c t) (k0_pay7 (bP m c t)) (k0_pay8 (bP m c t) (bU0 m c t)) (k0_pay9 (bP m c t) (bU1 m c t)) (bU2 m c t) (bU3 m c t) (bF m c t) (bT m c t)
abbrev kF : FVec Ideal S512x1024 .f32 := k0_pay17 (F := Ideal) (bH m c t) (kS m c t) (k0_pay7 (bP m c t)) (k0_pay8 (bP m c t) (bU0 m c t)) (k0_pay9 (bP m c t) (bU1 m c t)) (bU2 m c t) (bU3 m c t) (bF m c t) (bT m c t)
abbrev kG : FVec Ideal S512x1024 .f32 := k0_pay21 (F := Ideal) (bH m c t) (k0_pay4 (bH m c t)) (kS m c t) (kY m c t) (kD m c t) (bW m c t)

theorem kS_at (a : Fin 512) (k : Fin 1024) : kS m c t (ix2 a k) = mS m c (em t a) k := by
  simp only [kS, ps_at, pn_at, bH_at, bG_at, bW_at]; rfl

theorem lt0 (r : Fin 256) : r.val < 1024 := by omega
theorem lt256 (r : Fin 256) : 256 + r.val < 1024 := by omega
theorem lt512 (r : Fin 256) : 512 + r.val < 1024 := by omega
theorem lt768 (r : Fin 256) : 768 + r.val < 1024 := by omega

theorem kY_at (a : Fin 512) (k : Fin 1024) : kY m c t (ix2 a k) = mY m c (em t a) k := by
  rcases lt_or_ge k.val 256 with h | h
  · obtain ⟨r, rfl⟩ : ∃ r : Fin 256, k = ⟨r, lt0 r⟩ := ⟨⟨k, h⟩, rfl⟩
    rw [kY, py0_at, p0_at]; simp only [bP_at, bU0_at]; rfl
  rcases lt_or_ge k.val 512 with h' | h'
  · obtain ⟨r, rfl⟩ : ∃ r : Fin 256, k = ⟨256 + r, lt256 r⟩ := ⟨⟨k - 256, by omega⟩, Fin.ext (by show k.val = 256 + (k.val - 256); omega)⟩
    rw [kY, py1_at, p1_at]; simp only [bP_at, bU1_at]; rfl
  rcases lt_or_ge k.val 768 with h'' | h''
  · obtain ⟨r, rfl⟩ : ∃ r : Fin 256, k = ⟨512 + r, lt512 r⟩ := ⟨⟨k - 512, by omega⟩, Fin.ext (by show k.val = 512 + (k.val - 512); omega)⟩
    rw [kY, py2_at]
    show ∑ e : Fin 256, bP m c t (ix2 a e) * bU2 m c t (ix3 0 e r) = _
    simp only [bP_at, bU2_at]; rfl
  · obtain ⟨r, rfl⟩ : ∃ r : Fin 256, k = ⟨768 + r, lt768 r⟩ := ⟨⟨k - 768, by have := k.isLt; omega⟩, Fin.ext (by show k.val = 768 + (k.val - 768); omega)⟩
    rw [kY, py3_at]
    show ∑ e : Fin 256, bP m c t (ix2 a e) * bU3 m c t (ix3 0 e r) = _
    simp only [bP_at, bU3_at]; rfl

theorem kX_at (a : Fin 512) (k : Fin 1024) : kX m c t (ix2 a k) = mX m c (em t a) k := by
  rw [kX, px_at, bH_at, kS_at]
  show _ + _ * kY m c t (ix2 a k) = _
  rw [kY_at]; rfl
theorem kE_at (a : Fin 512) (k : Fin 1024) : kE m c t (ix2 a k) = err (mX m c (em t a)) (mF m c) (mT m c (em t a)) k := by
  rw [kE, pe_at]; simp only [kX_at, bF_at, bT_at]
theorem kD_at (a : Fin 512) (k : Fin 1024) : kD m c t (ix2 a k) = mD m c (em t a) k := by
  rw [kD, pd_at]; simp only [kX_at, bF_at, bT_at]; rfl
theorem kF_at (a : Fin 512) (k : Fin 1024) : kF m c t (ix2 a k) = df (mX m c (em t a)) (mF m c) (mT m c (em t a)) k := by
  rw [kF, pdf_at]; simp only [kX_at, bF_at, bT_at]
theorem kG_at (a : Fin 512) (k : Fin 1024) : kG m c t (ix2 a k)
    = dg (mH m c (em t a)) (mD m c (em t a)) (mS m c (em t a)) (mY m c (em t a)) (mW m c) k := by
  rw [kG, pdg_at]; simp only [bH_at, kD_at, kS_at, kY_at, bW_at]

end

/-! ## The results -/

def res0 (c : Dev nD) : FVec Ideal S1x128 .f32 := fun _ =>
  ∑ s : Fin 8, Ideal.ofBits .f32 0x3A000000#32 * ∑ a : Fin 512, sq (mX m c ⟨s.val * 512 + a.val, by omega⟩) (mF m c) (mT m c ⟨s.val * 512 + a.val, by omega⟩)
def res1 (c : Dev nD) : FVec Ideal S1x1024 .f32 := fun i => ∑ p : Fin 4096, df (mX m c p) (mF m c) (mT m c p) (i 1)
def res2 (c : Dev nD) : FVec Ideal S1x1024 .f32 := fun i => ∑ p : Fin 4096, dg (mH m c p) (mD m c p) (mS m c p) (mY m c p) (mW m c) (i 1)
def res3 (c : Dev nD) : FVec Ideal S4096x1024 .f32 := fun i =>
  dh (mH m c (i 0)) (mG m c) (mD m c (i 0)) (mS m c (i 0)) (mY m c (i 0)) (mW m c) (i 1)
def res4 (c : Dev nD) : FVec Ideal S4096x1024 .bf16 := fun i => dz (mD m c (i 0)) (mS m c (i 0)) (mY m c (i 0)) (i 1)
def res5 (c : Dev nD) : FVec Ideal S4096x1024 .bf16 := fun i => dp (mD m c (i 0)) (mS m c (i 0)) (i 1)
def res6 (c : Dev nD) : FVec Ideal S4096x1024 .bf16 := fun i => Cert.Ffn.nrm (mH m c (i 0)) (mG m c) (i 1)
def res7 (c : Dev nD) : FVec Ideal S4096x256 .bf16 := fun i => mP m c (i 0) (i 1)

section
variable (c : Dev nD) (t : Fin cfg0.N)
theorem emb10 (y : S512x1024.Idx) : ((cfg0.win 10).blk t).view.emb y = ix2 (em t (y 0)) (y 1) := by
  funext a; refine Fin.ext ?_; fin_cases a <;> blk_simp [idx t, em] <;> rfl
theorem emb11 (y : S512x1024.Idx) : ((cfg0.win 11).blk t).view.emb y = ix2 (em t (y 0)) (y 1) := by
  funext a; refine Fin.ext ?_; fin_cases a <;> blk_simp [idx t, em] <;> rfl
theorem emb12 (y : S512x1024.Idx) : ((cfg0.win 12).blk t).view.emb y = ix2 (em t (y 0)) (y 1) := by
  funext a; refine Fin.ext ?_; fin_cases a <;> blk_simp [idx t, em] <;> rfl
theorem emb13 (y : S512x1024.Idx) : ((cfg0.win 13).blk t).view.emb y = ix2 (em t (y 0)) (y 1) := by
  funext a; refine Fin.ext ?_; fin_cases a <;> blk_simp [idx t, em] <;> rfl
theorem emb14 (y : S512x256.Idx) : ((cfg0.win 14).blk t).view.emb y = ix2 (em t (y 0)) (y 1) := by
  funext a; refine Fin.ext ?_; fin_cases a <;> blk_simp [idx t, em] <;> rfl
end

theorem final10 (c : Dev nD) : (dats m 0 c).arrAt 10 (cfgs 0).N = res3 m c := by
  refine (dats m 0 c).arrAt_eq_of_covers 10 _ (by decide +kernel) fun t hf y => ?_
  blk_simp
  rw [after0_10]
  refine Eq.trans ?_ (congrArg (res3 m c) (emb10 t y).symm)
  obtain ⟨a, k, rfl⟩ : ∃ (a : Fin 512) (k : Fin 1024), y = ix2 a k := ⟨_, _, eq_ix2 y⟩
  have key : k0_pay22 (F := Ideal) (bH m c t) (k0_pay4 (bH m c t)) (bG m c t) (kS m c t) (kY m c t) (kD m c t) (bW m c t) (ix2 a k) = res3 m c (ix2 (em t a) k) := by
    rw [pdh_at]; simp only [bH_at, bG_at, kD_at, kS_at, kY_at, bW_at]; rfl
  by_cases h0 : t.val % 8 = 0
  · rw [outsAt0_A m c t h0]; frame_out
    exact key
  · rw [outsAt0_B m c t h0]; frame_out
    exact key

theorem final11 (c : Dev nD) : (dats m 0 c).arrAt 11 (cfgs 0).N = res4 m c := by
  refine (dats m 0 c).arrAt_eq_of_covers 11 _ (by decide +kernel) fun t hf y => ?_
  blk_simp
  rw [after0_11]
  refine Eq.trans ?_ (congrArg (res4 m c) (emb11 t y).symm)
  obtain ⟨a, k, rfl⟩ : ∃ (a : Fin 512) (k : Fin 1024), y = ix2 a k := ⟨_, _, eq_ix2 y⟩
  have key : k0_pay18 (F := Ideal) (kS m c t) (kY m c t) (kD m c t) (ix2 a k) = res4 m c (ix2 (em t a) k) := by
    rw [pdz_at]; simp only [kD_at, kS_at, kY_at]; rfl
  by_cases h0 : t.val % 8 = 0
  · rw [outsAt0_A m c t h0]; frame_out
    exact key
  · rw [outsAt0_B m c t h0]; frame_out
    exact key

theorem final12 (c : Dev nD) : (dats m 0 c).arrAt 12 (cfgs 0).N = res5 m c := by
  refine (dats m 0 c).arrAt_eq_of_covers 12 _ (by decide +kernel) fun t hf y => ?_
  blk_simp
  rw [after0_12]
  refine Eq.trans ?_ (congrArg (res5 m c) (emb12 t y).symm)
  obtain ⟨a, k, rfl⟩ : ∃ (a : Fin 512) (k : Fin 1024), y = ix2 a k := ⟨_, _, eq_ix2 y⟩
  have key : k0_pay19 (F := Ideal) (kS m c t) (kD m c t) (ix2 a k) = res5 m c (ix2 (em t a) k) := by
    rw [pdp_at]; simp only [kD_at, kS_at]; rfl
  by_cases h0 : t.val % 8 = 0
  · rw [outsAt0_A m c t h0]; frame_out
    exact key
  · rw [outsAt0_B m c t h0]; frame_out
    exact key

theorem final13 (c : Dev nD) : (dats m 0 c).arrAt 13 (cfgs 0).N = res6 m c := by
  refine (dats m 0 c).arrAt_eq_of_covers 13 _ (by decide +kernel) fun t hf y => ?_
  blk_simp
  rw [after0_13]
  refine Eq.trans ?_ (congrArg (res6 m c) (emb13 t y).symm)
  obtain ⟨a, k, rfl⟩ : ∃ (a : Fin 512) (k : Fin 1024), y = ix2 a k := ⟨_, _, eq_ix2 y⟩
  have key : k0_pay5 (F := Ideal) (bH m c t) (bG m c t) (ix2 a k) = res6 m c (ix2 (em t a) k) := by
    rw [pn_at]; simp only [bH_at, bG_at]; rfl
  by_cases h0 : t.val % 8 = 0
  · rw [outsAt0_A m c t h0]; frame_out
    exact key
  · rw [outsAt0_B m c t h0]; frame_out
    exact key

theorem final14 (c : Dev nD) : (dats m 0 c).arrAt 14 (cfgs 0).N = res7 m c := by
  refine (dats m 0 c).arrAt_eq_of_covers 14 _ (by decide +kernel) fun t hf y => ?_
  blk_simp
  rw [after0_14]
  refine Eq.trans ?_ (congrArg (res7 m c) (emb14 t y).symm)
  obtain ⟨a, k, rfl⟩ : ∃ (a : Fin 512) (k : Fin 256), y = ix2 a k := ⟨_, _, eq_ix2 y⟩
  have key : k0_pay7 (F := Ideal) (bP m c t) (ix2 a k) = res7 m c (ix2 (em t a) k) := bP_at m c t a k
  by_cases h0 : t.val % 8 = 0
  · rw [outsAt0_A m c t h0]; frame_out
    exact key
  · rw [outsAt0_B m c t h0]; frame_out
    exact key

theorem final7 (c : Dev nD) : (dats m 0 c).arrAt 7 (cfgs 0).N = res0 m c := by
  refine (dats m 0 c).arrAt_eq_of_after_last 7 t0_7 (by decide +kernel) _ fun j => ?_
  blk_simp
  rw [after0_7, Pipeline.eq_sum_fin_of_reset_step_apply_last (fun n h => (outsAt0 m c n h).1) 8 (fun _ => 0)
    (fun t j => Ideal.ofBits .f32 0x3A000000#32 * ∑ a : Fin 512, ∑ k : Fin 1024, kE m c t (ix2 a k) * kE m c t (ix2 a k))
    (fun t h j => by rw [outsAt0_A m c t h]; frame_out; refine (ploss_at _ _ _).trans ?_; rw [pz7_at]; rfl)
    (fun t h j => by rw [outsAt0_B m c t h]; frame_out; exact ploss_at _ _ _)
    (le_of_eq N_0) t0_7 rfl j, zero_add, res0]
  simp only [kE_at]
  rfl

theorem final8 (c : Dev nD) : (dats m 0 c).arrAt 8 (cfgs 0).N = res1 m c := by
  refine (dats m 0 c).arrAt_eq_of_after_last 8 t0_7 (by decide +kernel) _ fun j => ?_
  obtain ⟨z, k, rfl⟩ : ∃ (z : Fin 1) (k : Fin 1024), j = ix2 z k := ⟨_, _, eq_ix2 j⟩
  obtain rfl : z = 0 := Fin.fin_one_eq_zero z
  blk_simp
  rw [after0_8, Pipeline.eq_sum_fin_of_reset_step_apply_last (fun n h => (outsAt0 m c n h).2.1) 8 (fun _ => 0)
    (fun t j => ∑ a : Fin 512, kF m c t (ix2 a (j 1)))
    (fun t h j => by
      rw [outsAt0_A m c t h]; frame_out
      obtain ⟨z, k, rfl⟩ : ∃ (z : Fin 1) (k : Fin 1024), j = ix2 z k := ⟨_, _, eq_ix2 j⟩
      obtain rfl : z = 0 := Fin.fin_one_eq_zero z
      refine (psf_at _ _ _).trans ?_; rw [pz8_at]; rfl)
    (fun t h j => by
      rw [outsAt0_B m c t h]; frame_out
      obtain ⟨z, k, rfl⟩ : ∃ (z : Fin 1) (k : Fin 1024), j = ix2 z k := ⟨_, _, eq_ix2 j⟩
      obtain rfl : z = 0 := Fin.fin_one_eq_zero z
      exact psf_at _ _ _)
    (le_of_eq N_0) t0_7 rfl _, zero_add, res1]
  exact Fin.sum_mul_add_congr (S := 8) (n := 512) fun t a hl => kF_at m c t a k

theorem final9 (c : Dev nD) : (dats m 0 c).arrAt 9 (cfgs 0).N = res2 m c := by
  refine (dats m 0 c).arrAt_eq_of_after_last 9 t0_7 (by decide +kernel) _ fun j => ?_
  obtain ⟨z, k, rfl⟩ : ∃ (z : Fin 1) (k : Fin 1024), j = ix2 z k := ⟨_, _, eq_ix2 j⟩
  obtain rfl : z = 0 := Fin.fin_one_eq_zero z
  blk_simp
  rw [after0_9, Pipeline.eq_sum_fin_of_reset_step_apply_last (fun n h => (outsAt0 m c n h).2.2.1) 8 (fun _ => 0)
    (fun t j => ∑ a : Fin 512, kG m c t (ix2 a (j 1)))
    (fun t h j => by
      rw [outsAt0_A m c t h]; frame_out
      obtain ⟨z, k, rfl⟩ : ∃ (z : Fin 1) (k : Fin 1024), j = ix2 z k := ⟨_, _, eq_ix2 j⟩
      obtain rfl : z = 0 := Fin.fin_one_eq_zero z
      refine (psg_at _ _ _).trans ?_; rw [pz9_at]; rfl)
    (fun t h j => by
      rw [outsAt0_B m c t h]; frame_out
      obtain ⟨z, k, rfl⟩ : ∃ (z : Fin 1) (k : Fin 1024), j = ix2 z k := ⟨_, _, eq_ix2 j⟩
      obtain rfl : z = 0 := Fin.fin_one_eq_zero z
      exact psg_at _ _ _)
    (le_of_eq N_0) t0_7 rfl _, zero_add, res2]
  exact Fin.sum_mul_add_congr (S := 8) (n := 512) fun t a hl => kG_at m c t a k

end Cert.HeadIdeal.Hd

end
-- ==== Proof.Head.Ref.lean ====
/-
  The loss and the gated per-layer embedding: the reference's results as functions of a row's entries.
-/
module

public import proofs.«01_k».proof.Proof.Head.Value
public import proofs.«01_k».proof.Proof.Common.Reals
public import proofs.«01_k».proof.Proof.Gen.HeadRefIdeal.Run

@[expose] public section

set_option maxRecDepth 16384

noncomputable section

open Idealize.ShloMosaic Idealize.ShloMosaic.TcCoe Idealize.SL.Sem Idealize.ShloMosaic.StableHlo

namespace Cert.HeadRefIdeal.Hd

open Cert.HeadRefIdeal Cert.HeadRefIdeal.Gen Cert.HeadRefIdeal.Value Cert.Common Cert.Head

theorem word_one : Ideal.ofBits .f32 0x3F800000#32 = ((1 : ℝ) : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num
theorem word_mean : Ideal.ofBits .f32 0x3A800000#32 = ((1 / 1024 : ℝ) : EReal) := by
  simp [Ideal.ofBits, Ideal.ieee]; rw [← EReal.coe_mul]; norm_num
theorem word_half_mean : Ideal.ofBits .f32 0x3A000000#32 = ((1 / 2048 : ℝ) : EReal) := by
  simp [Ideal.ofBits, Ideal.ieee]; rw [← EReal.coe_mul]; norm_num

theorem div_len (x : EReal) : Ideal.div x (Ideal.ofBits .f32 0x44800000#32) = x * ((1 / 1024 : ℝ) : EReal) := by
  rw [word_1024, Ideal.div, if_neg (by norm_num), ← EReal.coe_inv]; norm_num

/-- A nonnegative real factor goes into a sum, whatever the summands. -/
theorem coe_mul_sum {ι : Type} (s : Finset ι) (f : ι → EReal) {r : ℝ} (hr : 0 ≤ r) : (r : EReal) * ∑ i ∈ s, f i = ∑ i ∈ s, (r : EReal) * f i :=
  map_sum (⟨⟨fun x => (r : EReal) * x, mul_zero _⟩, fun y z => EReal.left_distrib_of_nonneg_of_ne_top (by exact_mod_cast hr) (EReal.coe_ne_top _) y z⟩ : EReal →+ EReal) f s

/-- The cotangent of what the loss squares: the reference's factors in one. -/
theorem cot_factor (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  rw [div_len, word_half, word_one, word_two, word_mean, mul_comm e, ← mul_assoc]
  simp only [← EReal.coe_mul]
  norm_num

/-- The norm's gradient alone. -/
theorem grad_eq' {n : ℕ} {w : BitVec 32} (hw : Len w) (h dy g : Fin n → EReal) (k : Fin n) :
    dy k * g k * Ideal.rsqrt (meanSq w h) + h k * half w h dy g + half w h dy g * h k = grad w h dy g k := by
  have := grad_eq hw h dy g 0 k
  rwa [zero_add, zero_add] at this

/-! ## The operations -/

section
variable (h n x y d s : FVec Ideal S4096x1024 .f32) (p : FVec Ideal S4096x256 .f32) (t : FVec Ideal S4096x1024 .f32) (g : FVec Ideal S1x1024 .f32)
  (f : FVec Ideal S1024 .f32) (w : FVec Ideal S1x1024x1024 .f32) (u : FVec Ideal S1x256x1024 .f32)

def rMean : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def rUnit : FVec Ideal S4096x1024 .f32 := mulf x (broadcastInDim S4096x1024 ![0, 1] bcast_S4096x1_S4096x1024_0_1 (Host.rsqrt (rMean x)))
def rRow : FVec Ideal S4096x1024 .f32 :=
  broadcastInDim S4096x1024 ![0, 1] bcast_S1x1024_S4096x1024_0_1 (broadcastInDim S1x1024 ![1] bcast_S1024_S1x1024_1 (shapeCast _ g shapeCasts_S1x1024_S1024))
def rFin : FVec Ideal S4096x1024 .f32 :=
  broadcastInDim S4096x1024 ![0, 1] bcast_S1x1024_S4096x1024_0_1 (broadcastInDim S1x1024 ![1] bcast_S1024_S1x1024_1 f)
def rPP : FVec Ideal S4096x1024 .f32 :=
  Host.dotGeneral (φ₁ := .f32) (φ₂ := .f32) dot_S4096x256_S256x1024_S4096x1024_1_0_0_1_n_n none p (shapeCast _ u shapeCasts_S1x256x1024_S256x1024)
def rPre : FVec Ideal S4096x1024 .f32 :=
  Host.dotGeneral (φ₁ := .f32) (φ₂ := .f32) dot_S4096x1024_S1024x1024_S4096x1024_1_0_0_1_n_n none n (shapeCast _ w shapeCasts_S1x1024x1024_S1024x1024)
def rSig : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf x)))
def rCot : FVec Ideal S4096x1024 .f32 :=
  mulf (broadcastInDim S4096x1024 ![0] bcast_S4096_S4096x1024_0
      (Host.divf (broadcastInDim S4096 ![] bcast_S_S4096 (mulf (constant S_ .f32 0x3F000000#32) (constant S_ .f32 0x3F800000#32)))
        (broadcastInDim S4096 ![] bcast_S_S4096 (constant S_ .f32 0x44800000#32))))
    (mulf (broadcastInDim S4096x1024 ![] bcast_S_S4096x1024 (constant S_ .f32 0x40000000#32)) x)
def rHalf : FVec Ideal S4096x1024 .f32 :=
  broadcastInDim S4096x1024 ![0] bcast_S4096_S4096x1024_0
    (Host.reduceAdd (Host.divf (mulf (shapeCast _ (Host.reduceAdd (mulf x y) (constant S_ .f32 0x00000000#32) reducesTo_S4096x1024_S4096_d1 h_S_) shapeCasts_S4096_S4096x1)
        (mulf (broadcastInDim S4096x1 ![] bcast_S_S4096x1 (constant S_ .f32 0xBF000000#32)) (Host.divf (Host.rsqrt (rMean x)) (rMean x))))
      (broadcastInDim S4096x1 ![] bcast_S_S4096x1 (constant S_ .f32 0x44800000#32))) (constant S_ .f32 0x00000000#32) reducesTo_S4096x1_S4096_d1 h_S_)
def rGrad : FVec Ideal S4096x1024 .f32 :=
  addf (addf (mulf y (broadcastInDim S4096x1024 ![0, 1] bcast_S4096x1_S4096x1024_0_1 (Host.rsqrt (rMean x)))) (mulf x (rHalf x y))) (mulf (rHalf x y) x)
def rDz : FVec Ideal S4096x1024 .f32 :=
  mulf (mulf d y) (mulf s (subf (broadcastInDim S4096x1024 ![] bcast_S_S4096x1024 (constant S_ .f32 0x3F800000#32)) s))
def rDn : FVec Ideal S4096x1024 .f32 :=
  Host.dotGeneral (φ₁ := .f32) (φ₂ := .f32) dot_S4096x1024_S1024x1024_S4096x1024_1_1_0_0_n_n none d (shapeCast _ w shapeCasts_S1x1024x1024_S1024x1024)
def rLoss : FVec Ideal S1x128 .f32 :=
  broadcastInDim S1x128 ![0, 1] bcast_S1x1_S1x128_0_1 (shapeCast _ (mulf (constant S_ .f32 0x3F000000#32)
    (Host.reduceAdd (Host.divf (Host.reduceAdd (mulf x x) (constant S_ .f32 0x00000000#32) reducesTo_S4096x1024_S4096_d1 h_S_)
      (broadcastInDim S4096 ![] bcast_S_S4096 (constant S_ .f32 0x44800000#32))) (constant S_ .f32 0x00000000#32) reducesTo_S4096_S_d0 h_S_)) shapeCasts_S_S1x1)
def rDf : FVec Ideal S1x1024 .f32 :=
  shapeCast _ (Host.reduceAdd (shapeCast _ (Host.reduceAdd (mulf x y) (constant S_ .f32 0x00000000#32) reducesTo_S4096x1024_S1024_d0 h_S_) shapeCasts_S1024_S1x1024)
    (constant S_ .f32 0x00000000#32) reducesTo_S1x1024_S1024_d0 h_S_) shapeCasts_S1024_S1x1024
def rDg : FVec Ideal S1x1024 .f32 :=
  broadcastInDim S1x1024 ![1] bcast_S1024_S1x1024_1 (Host.reduceAdd (shapeCast _ (Host.reduceAdd (mulf x y) (constant S_ .f32 0x00000000#32)
    reducesTo_S4096x1024_S1024_d0 h_S_) shapeCasts_S1024_S1x1024) (constant S_ .f32 0x00000000#32) reducesTo_S1x1024_S1024_d0 h_S_)

theorem rMean_at (r : Fin 4096) : rMean x (ix2 r 0) = meanSq len fun k : Fin 1024 => x (ix2 r k) := by
  pointwise [rMean, meanSq]
theorem rUnit_at (r : Fin 4096) (k : Fin 1024) : rUnit x (ix2 r k) = x (ix2 r k) * rs fun k : Fin 1024 => x (ix2 r k) := by
  rw [rs, ← rMean_at]
  pointwise [rUnit]
theorem rRow_at (r : Fin 4096) (k : Fin 1024) : rRow g (ix2 r k) = g (ix2 0 k) := by
  pointwise [rRow]
theorem rFin_at (r : Fin 4096) (k : Fin 1024) : rFin f (ix2 r k) = f (ix1 k) := by
  pointwise [rFin]
theorem rPP_at (r : Fin 4096) (k : Fin 1024) : rPP p u (ix2 r k) = ∑ e : Fin 256, p (ix2 r e) * u (ix3 0 e k) := by
  pointwise [rPP]
theorem rPre_at (r : Fin 4096) (k : Fin 1024) : rPre n w (ix2 r k) = ∑ j : Fin 1024, n (ix2 r j) * w (ix3 0 j k) := by
  pointwise [rPre]
theorem rSig_at (r : Fin 4096) (k : Fin 1024) : rSig x (ix2 r k) = Ideal.logistic (x (ix2 r k)) := by
  unfold Ideal.logistic
  rw [← EReal.coe_one, ← word_one]
  pointwise [rSig]
theorem rCot_at (r : Fin 4096) (k : Fin 1024) : rCot x (ix2 r k) = x (ix2 r k) * Ideal.ofBits .f32 0x3A800000#32 := by
  rw [← cot_factor]
  pointwise [rCot]
theorem rHalf_at (r : Fin 4096) (k : Fin 1024) (dy gv : Fin 1024 → EReal) (hy : ∀ k, y (ix2 r k) = dy k * gv k) :
    rHalf x y (ix2 r k) = half len (fun k : Fin 1024 => x (ix2 r k)) dy gv := by
  unfold half
  simp only [← hy, ← rMean_at]
  pointwise [rHalf]
  exact Fin.sum_univ_one _
theorem rGrad_at (r : Fin 4096) (k : Fin 1024) (dy gv : Fin 1024 → EReal) (hy : ∀ k, y (ix2 r k) = dy k * gv k) :
    rGrad x y (ix2 r k) = grad len (fun k : Fin 1024 => x (ix2 r k)) dy gv k := by
  refine Eq.trans ?_ (grad_eq' len_1024 _ dy gv k)
  rw [← rHalf_at x y r k dy gv hy, ← rMean_at, ← hy]
  pointwise [rGrad]
theorem rDz_at (r : Fin 4096) (k : Fin 1024) :
    rDz y d s (ix2 r k) = d (ix2 r k) * y (ix2 r k) * (s (ix2 r k) * (one - s (ix2 r k))) := by
  pointwise [rDz]
theorem rDn_at (r : Fin 4096) (k : Fin 1024) : rDn d w (ix2 r k) = ∑ j : Fin 1024, d (ix2 r j) * w (ix3 0 k j) := by
  pointwise [rDn]
theorem rLoss_at (i : S1x128.Idx) : rLoss x i = Ideal.ofBits .f32 0x3F000000#32
    * ∑ r : Fin 4096, Ideal.div (∑ k : Fin 1024, x (ix2 r k) * x (ix2 r k)) (Ideal.ofBits .f32 len) := by
  pointwise [rLoss]
theorem rDf_at (k : Fin 1024) : rDf x y (ix2 0 k) = ∑ r : Fin 4096, x (ix2 r k) * y (ix2 r k) := by
  pointwise [rDf]
  exact Fin.sum_univ_one _
theorem rDg_at (k : Fin 1024) : rDg x y (ix2 0 k) = ∑ r : Fin 4096, x (ix2 r k) * y (ix2 r k) := by
  pointwise [rDg]
  exact Fin.sum_univ_one _

end

/-! ## The compositions -/

section
variable (h : FVec Ideal S4096x1024 .f32) (p : FVec Ideal S4096x256 .f32) (t : FVec Ideal S4096x1024 .f32) (g : FVec Ideal S1x1024 .f32)
  (f : FVec Ideal S1024 .f32) (w : FVec Ideal S1x1024x1024 .f32) (u : FVec Ideal S1x256x1024 .f32)

/-- The arguments read as functions of a row and a column. -/
def fX (x : FVec Ideal S4096x1024 .f32) (r : Fin 4096) (k : Fin 1024) : EReal := x (ix2 r k)
def fP (r : Fin 4096) (e : Fin 256) : EReal := p (ix2 r e)
def fG (k : Fin 1024) : EReal := g (ix2 0 k)
def fF (k : Fin 1024) : EReal := f (ix1 k)
def fW (k j : Fin 1024) : EReal := w (ix3 0 k j)
def fU (e : Fin 256) (k : Fin 1024) : EReal := u (ix3 0 e k)
def fS (r : Fin 4096) : Fin 1024 → EReal := gate (fX h r) (fG g) (fW w)
def fY (r : Fin 4096) : Fin 1024 → EReal := pp (fP p r) (fU u)
def fH (r : Fin 4096) : Fin 1024 → EReal := h4 (fX h r) (fS h g w r) (fY p u r)
def fD (r : Fin 4096) : Fin 1024 → EReal := dx (fH h p g w u r) (fF f) (fX t r)

/-- The normed rows, the gate, the rows the last norm takes, what the loss squares, its cotangent, that of those rows, of what enters the gate, of the
    normed rows. -/
def rN : FVec Ideal S4096x1024 .f32 := mulf (rUnit h) (rRow g)
def rS : FVec Ideal S4096x1024 .f32 := rSig (rPre (rN h g) w)
def rX : FVec Ideal S4096x1024 .f32 := addf h (mulf (rS h g w) (rPP p u))
def rE : FVec Ideal S4096x1024 .f32 := subf (mulf (rUnit (rX h p g w u)) (rFin f)) t
def rD : FVec Ideal S4096x1024 .f32 := rGrad (rX h p g w u) (mulf (rCot (rE h p t g f w u)) (rFin f))
def rZ : FVec Ideal S4096x1024 .f32 := rDz (rPP p u) (rD h p t g f w u) (rS h g w)
def rQ : FVec Ideal S4096x1024 .f32 := rDn (rZ h p t g f w u) w
def rH : FVec Ideal S4096x1024 .f32 := addf (rD h p t g f w u) (rGrad h (mulf (rQ h p t g f w u) (rRow g)))

theorem rN_at (r : Fin 4096) (k : Fin 1024) : rN h g (ix2 r k) = Cert.Ffn.nrm (fX h r) (fG g) k := by
  show rUnit h (ix2 r k) * rRow g (ix2 r k) = _
  rw [rUnit_at, rRow_at]; rfl

theorem rS_at (r : Fin 4096) (k : Fin 1024) : rS h g w (ix2 r k) = fS h g w r k := by
  rw [rS, rSig_at, rPre_at]
  simp only [rN_at]
  rfl

theorem rX_at (r : Fin 4096) (k : Fin 1024) : rX h p g w u (ix2 r k) = fH h p g w u r k := by
  show h (ix2 r k) + rS h g w (ix2 r k) * rPP p u (ix2 r k) = _
  rw [rS_at, rPP_at]; rfl

theorem rX_row (r : Fin 4096) : (fun k => rX h p g w u (ix2 r k)) = fH h p g w u r := funext fun k => rX_at h p g w u r k

theorem rE_at (r : Fin 4096) (k : Fin 1024) : rE h p t g f w u (ix2 r k) = err (fH h p g w u r) (fF f) (fX t r) k := by
  show rUnit (rX h p g w u) (ix2 r k) * rFin f (ix2 r k) - t (ix2 r k) = _
  rw [rUnit_at, rFin_at, rX_row, rX_at]; rfl

theorem rCot_eq (r : Fin 4096) (k : Fin 1024) : rCot (rE h p t g f w u) (ix2 r k) = dy (fH h p g w u r) (fF f) (fX t r) k := by
  rw [rCot_at, rE_at]; rfl

theorem rD_at (r : Fin 4096) (k : Fin 1024) : rD h p t g f w u (ix2 r k) = fD h p t g f w u r k := by
  rw [rD, rGrad_at _ _ r k (dy (fH h p g w u r) (fF f) (fX t r)) (fF f) fun k => ?_, rX_row]; · rfl
  show rCot (rE h p t g f w u) (ix2 r k) * rFin f (ix2 r k) = _
  rw [rCot_eq, rFin_at]; rfl

theorem rZ_at (r : Fin 4096) (k : Fin 1024) : rZ h p t g f w u (ix2 r k) = dz (fD h p t g f w u r) (fS h g w r) (fY p u r) k := by
  rw [rZ, rDz_at, rD_at, rS_at, rPP_at, ← mul_assoc]; rfl

theorem rQ_at (r : Fin 4096) (k : Fin 1024) : rQ h p t g f w u (ix2 r k) = dn (fD h p t g f w u r) (fS h g w r) (fY p u r) (fW w) k := by
  rw [rQ, rDn_at]
  simp only [rZ_at]
  rfl

theorem rH_at (r : Fin 4096) (k : Fin 1024) : rH h p t g f w u (ix2 r k) = dh (fX h r) (fG g) (fD h p t g f w u r) (fS h g w r) (fY p u r) (fW w) k := by
  show rD h p t g f w u (ix2 r k) + rGrad h (mulf (rQ h p t g f w u) (rRow g)) (ix2 r k) = _
  rw [rD_at, rGrad_at _ _ r k (dn (fD h p t g f w u r) (fS h g w r) (fY p u r) (fW w)) (fG g) fun k => ?_]; · rfl
  show rQ h p t g f w u (ix2 r k) * rRow g (ix2 r k) = _
  rw [rQ_at, rRow_at]; rfl

theorem dp_at (r : Fin 4096) (k : Fin 1024) : truncf (F := Ideal) .bf16 (mulf (rS h g w) (rD h p t g f w u)) bitsLt_bf16_f32 (ix2 r k)
    = dp (fD h p t g f w u r) (fS h g w r) k := by
  show rS h g w (ix2 r k) * rD h p t g f w u (ix2 r k) = _
  rw [rS_at, rD_at, mul_comm]; rfl

theorem df_at (k : Fin 1024) : rDf (rUnit (rX h p g w u)) (rCot (rE h p t g f w u)) (ix2 0 k)
    = ∑ r : Fin 4096, df (fH h p g w u r) (fF f) (fX t r) k := by
  rw [rDf_at]
  refine Finset.sum_congr rfl fun r _ => ?_
  rw [rUnit_at, rCot_eq, rX_row, rX_at, mul_comm, ← mul_assoc]; rfl

theorem dg_at (k : Fin 1024) : rDg (rUnit h) (rQ h p t g f w u) (ix2 0 k)
    = ∑ r : Fin 4096, dg (fX h r) (fD h p t g f w u r) (fS h g w r) (fY p u r) (fW w) k := by
  rw [rDg_at]
  refine Finset.sum_congr rfl fun r _ => ?_
  rw [rUnit_at, rQ_at, mul_comm, ← mul_assoc]; rfl

theorem loss_at (i : S1x128.Idx) : rLoss (rE h p t g f w u) i
    = ∑ s : Fin 8, Ideal.ofBits .f32 0x3A000000#32 * ∑ a : Fin 512,
      sq (fH h p g w u ⟨s.val * 512 + a.val, by omega⟩) (fF f) (fX t ⟨s.val * 512 + a.val, by omega⟩) := by
  rw [rLoss_at, word_half_mean, word_half, coe_mul_sum _ _ (by norm_num)]
  simp only [rE_at]
  refine (Fin.sum_mul_add_congr (S := 8) (n := 512) (F := fun s a => ((1 / 2048 : ℝ) : EReal)
    * sq (fH h p g w u ⟨s.val * 512 + a.val, by omega⟩) (fF f) (fX t ⟨s.val * 512 + a.val, by omega⟩)) fun s a hl => ?_).symm.trans ?_
  · rw [div_len, mul_comm (∑ k : Fin 1024, _), ← mul_assoc, ← EReal.coe_mul]
    unfold Cert.Head.sq
    norm_num
  · exact Finset.sum_congr rfl fun s _ => (coe_mul_sum _ _ (by norm_num)).symm

end

/-! ## The results -/

section
variable (m : (ℓ : Loc nD τ sig) → Buf (Elt Ideal) ℓ) (c : Dev nD)
abbrev aH : FVec Ideal S4096x1024 .f32 := m ((c.tc : Thread nD τ).loc main_arg0)
abbrev aP : FVec Ideal S4096x256 .f32 := m ((c.tc : Thread nD τ).loc main_arg1)
abbrev aT : FVec Ideal S4096x1024 .f32 := m ((c.tc : Thread nD τ).loc main_arg2)
abbrev aG : FVec Ideal S1x1024 .f32 := m ((c.tc : Thread nD τ).loc main_arg3)
abbrev aF : FVec Ideal S1024 .f32 := m ((c.tc : Thread nD τ).loc main_arg4)
abbrev aW : FVec Ideal S1x1024x1024 .f32 := m ((c.tc : Thread nD τ).loc main_arg5)
abbrev aU : FVec Ideal S1x256x1024 .f32 := m ((c.tc : Thread nD τ).loc main_arg6)

theorem v27_eq : res_main_v27 (launchContents m c) = rUnit (aH m c) := rfl
theorem v22_eq : res_main_v22 (launchContents m c) = Host.rsqrt (rMean (aH m c)) := rfl
theorem v58_eq : res_main_v58 (launchContents m c) = rUnit (rX (aH m c) (aP m c) (aG m c) (aW m c) (aU m c)) := rfl
theorem v40_eq : res_main_v40 (launchContents m c) = rS (aH m c) (aG m c) (aW m c) := rfl
theorem v62_eq : res_main_v62 (launchContents m c) = rE (aH m c) (aP m c) (aT m c) (aG m c) (aF m c) (aW m c) (aU m c) := rfl
theorem v76_eq : res_main_v76 (launchContents m c) = rCot (rE (aH m c) (aP m c) (aT m c) (aG m c) (aF m c) (aW m c) (aU m c)) := rfl
theorem v96_eq : res_main_v96 (launchContents m c) = rD (aH m c) (aP m c) (aT m c) (aG m c) (aF m c) (aW m c) (aU m c) := rfl
theorem v99_eq : res_main_v99 (launchContents m c) = rZ (aH m c) (aP m c) (aT m c) (aG m c) (aF m c) (aW m c) (aU m c) := rfl
theorem v100_eq : res_main_v100 (launchContents m c) = rQ (aH m c) (aP m c) (aT m c) (aG m c) (aF m c) (aW m c) (aU m c) := rfl
theorem v105_eq : res_main_v105 (launchContents m c) = mulf (rQ (aH m c) (aP m c) (aT m c) (aG m c) (aF m c) (aW m c) (aU m c)) (rRow (aG m c)) := rfl
theorem v116_eq : res_main_v116 (launchContents m c) = rHalf (aH m c) (mulf (rQ (aH m c) (aP m c) (aT m c) (aG m c) (aF m c) (aW m c) (aU m c)) (rRow (aG m c))) := rfl

end

end Cert.HeadRefIdeal.Hd

end
-- ==== Proof.Head.Claim.lean ====
/-
  The value claim of the loss, the gated per-layer embedding and the two norms: the kernel's eight results are the reference's.
-/
module

public import proofs.«01_k».proof.Defs
public import proofs.«01_k».proof.Proof.Head.Ref
public import Idealize.ShloMosaic.Lib.Claim

@[expose] public section

set_option maxRecDepth 16384

noncomputable section

open Idealize.ShloMosaic Idealize.ShloMosaic.TcCoe Idealize.SL.Sem Idealize.ShloMosaic.StableHlo

namespace Cert.Head

open Cert.HeadIdeal.Hd

/-- Two arrays agree where they agree at every row and column. -/
theorem ext2 {a b : ℕ} {x y : (⟨2, ![a, b]⟩ : Shape).Idx → EReal} (h : ∀ (p : Fin a) (k : Fin b), x (ix2 p k) = y (ix2 p k)) : x = y :=
  funext fun i => by rw [eq_ix2 i]; exact h _ _

/-- The agreement of the two launches, argument by argument. -/
def Agree (m : (ℓ : Loc Cert.HeadIdeal.nD Cert.HeadIdeal.τ Cert.HeadIdeal.sig) → Buf (Elt Ideal) ℓ)
    (m' : (ℓ : Loc Cert.HeadRefIdeal.nD Cert.HeadRefIdeal.τ Cert.HeadRefIdeal.sig) → Buf (Elt Ideal) ℓ) (c : Dev Cert.HeadIdeal.nD)
    : Prop :=
  Cert.HeadRefIdeal.Hd.aH m' c = aH m c ∧ Cert.HeadRefIdeal.Hd.aP m' c = aP m c ∧ Cert.HeadRefIdeal.Hd.aT m' c = aT m c
      ∧ Cert.HeadRefIdeal.Hd.aG m' c = aG m c ∧ Cert.HeadRefIdeal.Hd.aF m' c = aF m c ∧ Cert.HeadRefIdeal.Hd.aW m' c = aW m c
      ∧ Cert.HeadRefIdeal.Hd.aU m' c = aU m c

open Cert.HeadRefIdeal.Hd in
set_option maxHeartbeats 1600000 in
theorem algebraic : Cert.algebraic_HeadIdeal_HeadRefIdeal := by
  pair_intro
  · run_from Cert.HeadIdeal.Gen.run_main m g
  · run_from Cert.HeadRefIdeal.Value.run m' g'
    · refine Eq.trans ?_ (final7 m c).symm
      obtain ⟨h0, h1, h2, h3, h4, h5, h6⟩ : Agree m m' c := hagree c
      refine (congrArg rLoss (v62_eq m' c)).trans ?_
      simp only [h0, h1, h2, h3, h4, h5, h6]
      exact ext2 fun p k => loss_at (aH m c) (aP m c) (aT m c) (aG m c) (aF m c) (aW m c) (aU m c) _
    · refine Eq.trans ?_ (final8 m c).symm
      obtain ⟨h0, h1, h2, h3, h4, h5, h6⟩ : Agree m m' c := hagree c
      refine (congrArg₂ rDf (v58_eq m' c) (v76_eq m' c)).trans ?_
      simp only [h0, h1, h2, h3, h4, h5, h6]
      exact ext2 fun p k => (Fin.fin_one_eq_zero p) ▸ df_at (aH m c) (aP m c) (aT m c) (aG m c) (aF m c) (aW m c) (aU m c) k
    · refine Eq.trans ?_ (final9 m c).symm
      obtain ⟨h0, h1, h2, h3, h4, h5, h6⟩ : Agree m m' c := hagree c
      refine (congrArg₂ rDg (v27_eq m' c) (v100_eq m' c)).trans ?_
      simp only [h0, h1, h2, h3, h4, h5, h6]
      exact ext2 fun p k => (Fin.fin_one_eq_zero p) ▸ dg_at (aH m c) (aP m c) (aT m c) (aG m c) (aF m c) (aW m c) (aU m c) k
    · refine Eq.trans ?_ (final10 m c).symm
      obtain ⟨h0, h1, h2, h3, h4, h5, h6⟩ : Agree m m' c := hagree c
      rw [v96_eq, v105_eq, v116_eq, v22_eq]
      simp only [h0, h1, h2, h3, h4, h5, h6]
      exact ext2 fun p k => rH_at (aH m c) (aP m c) (aT m c) (aG m c) (aF m c) (aW m c) (aU m c) p k
    · refine Eq.trans ?_ (final11 m c).symm
      obtain ⟨h0, h1, h2, h3, h4, h5, h6⟩ : Agree m m' c := hagree c
      refine (congrArg (fun x => truncf (F := Ideal) .bf16 x Cert.HeadRefIdeal.Gen.bitsLt_bf16_f32) (v99_eq m' c)).trans ?_
      simp only [h0, h1, h2, h3, h4, h5, h6]
      exact ext2 fun p k => rZ_at (aH m c) (aP m c) (aT m c) (aG m c) (aF m c) (aW m c) (aU m c) p k
    · refine Eq.trans ?_ (final12 m c).symm
      obtain ⟨h0, h1, h2, h3, h4, h5, h6⟩ : Agree m m' c := hagree c
      refine (congrArg₂ (fun x y => truncf (F := Ideal) .bf16 (mulf x y) Cert.HeadRefIdeal.Gen.bitsLt_bf16_f32) (v40_eq m' c) (v96_eq m' c)).trans ?_
      simp only [h0, h1, h2, h3, h4, h5, h6]
      exact ext2 fun p k => dp_at (aH m c) (aP m c) (aT m c) (aG m c) (aF m c) (aW m c) (aU m c) p k
    · refine Eq.trans ?_ (final13 m c).symm
      exact ext2 fun p k => rN_at (aH m c) (aG m c) p k
    · refine Eq.trans ?_ (final14 m c).symm
      exact ext2 fun p k => rfl

theorem frame_ref : Cert.quiescent_HeadRefIdeal := fun m ρ _ =>
  (θ_run Cert.HeadRefIdeal.defs _ _).mono (fun r h => ⟨fun c => (h c).2.2.2.2.2.2.2.2, sem_eq_zero_of_no_sems (by decide) r.2⟩)
    (Cert.HeadRefIdeal.Value.run m ρ)

end Cert.Head

end
-- ==== Proof.Attn.LoopIdeal.lean ====
module

public import proofs.«01_k».proof.Proof.Gen.AttnBwdIdeal.Frame
public import proofs.«01_k».proof.Proof.Gen.AttnBwdIdeal.Loops

@[expose] public section

set_option maxRecDepth 16384

noncomputable section

namespace Cert.AttnBwdIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F] [Named F]

theorem off4_eq1 : ∀ (i : grid0.Coords) (t : Fin (k0_t2_loop i).trips), k0_off4 i t 1#32 = ![1024 * t.val + 512, 0] := by decide +kernel
theorem off4_eq2 : ∀ (i : grid0.Coords) (t : Fin (k0_t2_loop i).trips), k0_off4 i t 2#32 = ![1024 * t.val + 1024, 0] := by decide +kernel
theorem off5_eq : ∀ (i : grid0.Coords) (t : Fin (k0_t2_loop i).trips), k0_off5 i t = ![1024 * t.val, 0] := by decide +kernel
theorem off6_eq : ∀ (i : grid0.Coords) (t : Fin (k0_t2_loop i).trips), k0_off6 i t = ![512 * t.val, 0] := by decide +kernel
theorem off7_eq : ∀ (i : grid0.Coords) (t : Fin (k0_t2_loop i).trips), k0_off7 i t = ![512 * t.val + 256, 0] := by decide +kernel
theorem pos_of_cond2 : ∀ i : grid0.Coords, k0_cond2 i = 1#1 → 0 < (i 1).val := by decide +kernel
theorem off12_eq1 : ∀ i : grid0.Coords, k0_off12 i 1#32 = ![(1024 * (i 1).val + 4294966784) % 4294967296, 0] := by decide +kernel
theorem off12_eq2 : ∀ i : grid0.Coords, k0_off12 i 2#32 = ![(1024 * (i 1).val + 4294966272) % 4294967296, 0] := by decide +kernel
theorem off13_eq1 : ∀ i : grid0.Coords, k0_off13 i 1#32 = ![(512 * (i 1).val + 4294967040) % 4294967296, 0] := by decide +kernel
theorem off13_eq2 : ∀ i : grid0.Coords, k0_off13 i 2#32 = ![(512 * (i 1).val + 4294966784) % 4294967296, 0] := by decide +kernel
instance (i : grid0.Coords) (t : Fin (k0_t2_loop i).trips) : ClosedOff (k0_off4 i t 1#32) := ⟨_, off4_eq1 i t⟩
instance (i : grid0.Coords) (t : Fin (k0_t2_loop i).trips) : ClosedOff (k0_off4 i t 2#32) := ⟨_, off4_eq2 i t⟩
instance (i : grid0.Coords) (t : Fin (k0_t2_loop i).trips) : ClosedOff (k0_off5 i t) := ⟨_, off5_eq i t⟩
instance (i : grid0.Coords) (t : Fin (k0_t2_loop i).trips) : ClosedOff (k0_off6 i t) := ⟨_, off6_eq i t⟩
instance (i : grid0.Coords) (t : Fin (k0_t2_loop i).trips) : ClosedOff (k0_off7 i t) := ⟨_, off7_eq i t⟩
instance (i : grid0.Coords) : ClosedOff (k0_off12 i 1#32) := ⟨_, off12_eq1 i⟩
instance (i : grid0.Coords) : ClosedOff (k0_off12 i 2#32) := ⟨_, off12_eq2 i⟩
instance (i : grid0.Coords) : ClosedOff (k0_off13 i 1#32) := ⟨_, off13_eq1 i⟩
instance (i : grid0.Coords) : ClosedOff (k0_off13 i 2#32) := ⟨_, off13_eq2 i⟩

variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .vmem S512x128 .bf16) (harg5 : arg5.IsWhole)
variable (arg6 : Memref sig .tc .vmem S1x512x128 .f32) (harg6 : arg6.IsWhole)
variable (arg7 : Memref sig .tc .vmem S512x128 .bf16) (harg7 : arg7.IsWhole)
variable (arg8 : Memref sig .tc .vmem S4096x128 .bf16) (harg8 : arg8.IsWhole)
variable (arg9 : Memref sig .tc .vmem S4096x128 .bf16) (harg9 : arg9.IsWhole)
variable (arg10 : Memref sig .tc .vmem S8192x128 .bf16) (harg10 : arg10.IsWhole)
variable (arg11 : Memref sig .tc .vmem S8192x128 .bf16) (harg11 : arg11.IsWhole)
variable (arg12 : Memref sig .tc .vmem S4096x128 .f32) (harg12 : arg12.IsWhole)
variable (arg13 : Memref sig .tc .vmem S4096x128 .f32) (harg13 : arg13.IsWhole)
variable (arg14 : Memref sig .tc .vmem S512x128 .f32) (harg14 : arg14.IsWhole)
variable (arg15 : Memref sig .tc .vmem S512x256 .f32) (harg15 : arg15.IsWhole)
variable (arg16 : Memref sig .tc .vmem S512x512 .f32) (harg16 : arg16.IsWhole)
variable (arg17 : Memref sig .tc .vmem S512x512 .f32) (harg17 : arg17.IsWhole)
variable (arg18 : Memref sig .tc .vmem S512x512 .f32) (harg18 : arg18.IsWhole)
variable (arg19 : Memref sig .tc .vmem S512x512 .f32) (harg19 : arg19.IsWhole)
variable (arg20 : Memref sig .tc .vmem S512x512 .f32) (harg20 : arg20.IsWhole)
variable (arg21 : Memref sig .tc .vmem S512x512 .f32) (harg21 : arg21.IsWhole)
variable (arg22 : Memref sig .tc .vmem S512x512 .f32) (harg22 : arg22.IsWhole)
variable (arg23 : Memref sig .tc .vmem S512x512 .f32) (harg23 : arg23.IsWhole)
variable (arg1 : BitVec 32) (v0 : IVec S1x128 32) (v19 v25 : FVec F S256x256 .bf16) (v28 : IVec S1x256 1) (v41 : IVec S1x128 1) (v49 v54 : FVec F S512x128 .bf16) (v55 : Vec F S512x128 .bf16)

set_option maxHeartbeats 4000000 in
/-- One trip of the main loop leaves the three read buffers as they were and owns the written ones. -/
theorem trip_k0_t2 (k0_h2 : k0_cond2 i = 1#1) (k : Fin (k0_t2_loop i).trips) (E : Set ℕ)
    (f6 : BufTy.Contents (Elt F) arg6.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty)
    (f19 : BufTy.Contents (Elt F) arg19.view.ty)
    (f20 : BufTy.Contents (Elt F) arg20.view.ty)
    (f21 : BufTy.Contents (Elt F) arg21.view.ty)
    (f22 : BufTy.Contents (Elt F) arg22.view.ty)
    (f23 : BufTy.Contents (Elt F) arg23.view.ty) :
    (iprop((arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp (MT nD τ sig Unit (Elt F) ℕ (UR sig nD τ) ℕ))
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v0 v19 v25 v28 v41 v49 v54 v55 k0_h2 k ())
          (fun _ => iprop((arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g)) ∗ (∃ g, (arg21.view.loc (c : Thread nD τ) ↦[arg21.view.set]{fullShare} g)) ∗ (∃ g, (arg22.view.loc (c : Thread nD τ) ↦[arg22.view.set]{fullShare} g)) ∗ (∃ g, (arg23.view.loc (c : Thread nD τ) ↦[arg23.view.set]{fullShare} g)))) := by
  have hk : k.val < 6 := Nat.lt_of_lt_of_le k.isLt (k0_t2_abs i).2.1
  unfold k0_t2_body
  iintro ⟨H6, H10, H11, H12, H13, H14, H15, H16, H17, H18, H19, H20, H21, H22, H23⟩
  sl_exec
  sl_step
  sl_close

/-- The main loop: what it reads stays, what it writes is owned. -/
@[sl_loop] def loopInv_k0_t2 (k0_h2 : k0_cond2 i = 1#1) (f6 : BufTy.Contents (Elt F) arg6.view.ty) (f10 : BufTy.Contents (Elt F) arg10.view.ty) (f11 : BufTy.Contents (Elt F) arg11.view.ty) (E : Set ℕ) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v0 v19 v25 v28 v41 v49 v54 v55 k0_h2 where
  inv := fun _ _ => iprop((arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g)) ∗ (∃ g, (arg21.view.loc (c : Thread nD τ) ↦[arg21.view.set]{fullShare} g)) ∗ (∃ g, (arg22.view.loc (c : Thread nD τ) ↦[arg22.view.set]{fullShare} g)) ∗ (∃ g, (arg23.view.loc (c : Thread nD τ) ↦[arg23.view.set]{fullShare} g)))
  step := fun k acc => by
    iintro ⟨H6, H10, H11, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩⟩
    iapply (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v0 v19 v25 v28 v41 v49 v54 v55 k0_h2 k E f6 f10 f11 f12 f13 f14 f15 f16 f17 f18 f19 f20 f21 f22 f23)
    sl_close

/-- The remainder loop has no trip. -/
@[sl_loop] def loopInv_k0_t3 (k0_h2 : k0_cond2 i = 1#1) (v596 : BitVec 32) (E : Set ℕ) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v0 v19 v25 v28 v41 v49 v54 v55 k0_h2 v596 where
  inv := fun _ _ => iprop(emp)
  step := fun k _ => absurd k.isLt (Nat.not_lt.2 (Nat.le_trans (k0_t3_abs i).2.1 (Nat.zero_le _)))

end Cert.AttnBwdIdeal.Att
-- ==== Proof.Attn.RunIdeal.lean ====
module

public import Idealize.ShloMosaic.Lib.Pipeline.KitQuiescent
public import proofs.«01_k».proof.Proof.Gen.AttnBwdIdeal.Frame
public import proofs.«01_k».proof.Proof.Gen.AttnBwdIdeal.Points
public import proofs.«01_k».proof.Proof.Gen.AttnBwdIdeal.Launch
public import proofs.«01_k».proof.Proof.Attn.LoopIdeal

@[expose] public section

set_option maxRecDepth 16384

noncomputable section

namespace Cert.AttnBwdIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F] [Named F]

open Idealize.ShloMosaic.Pipeline (Dat Cfg Window BodyObligation)
open Idealize.ShloMosaic.Rounds

theorem cases3 : ∀ i : grid0.Coords, (k0_cond1 i = 1#1 ∧ ¬ k0_cond2 i = 1#1 ∧ ¬ k0_cond3 i = 1#1)
    ∨ (¬ k0_cond1 i = 1#1 ∧ k0_cond2 i = 1#1 ∧ ¬ k0_cond3 i = 1#1) ∨ (¬ k0_cond1 i = 1#1 ∧ k0_cond2 i = 1#1 ∧ k0_cond3 i = 1#1) := by
  decide +kernel

section Triple
variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .vmem S512x128 .bf16) (harg5 : arg5.IsWhole)
variable (arg6 : Memref sig .tc .vmem S1x512x128 .f32) (harg6 : arg6.IsWhole)
variable (arg7 : Memref sig .tc .vmem S512x128 .bf16) (harg7 : arg7.IsWhole)
variable (arg8 : Memref sig .tc .vmem S4096x128 .bf16) (harg8 : arg8.IsWhole)
variable (arg9 : Memref sig .tc .vmem S4096x128 .bf16) (harg9 : arg9.IsWhole)
variable (arg10 : Memref sig .tc .vmem S8192x128 .bf16) (harg10 : arg10.IsWhole)
variable (arg11 : Memref sig .tc .vmem S8192x128 .bf16) (harg11 : arg11.IsWhole)
variable (arg12 : Memref sig .tc .vmem S4096x128 .f32) (harg12 : arg12.IsWhole)
variable (arg13 : Memref sig .tc .vmem S4096x128 .f32) (harg13 : arg13.IsWhole)
variable (arg14 : Memref sig .tc .vmem S512x128 .f32) (harg14 : arg14.IsWhole)
variable (arg15 : Memref sig .tc .vmem S512x256 .f32) (harg15 : arg15.IsWhole)
variable (arg16 : Memref sig .tc .vmem S512x512 .f32) (harg16 : arg16.IsWhole)
variable (arg17 : Memref sig .tc .vmem S512x512 .f32) (harg17 : arg17.IsWhole)
variable (arg18 : Memref sig .tc .vmem S512x512 .f32) (harg18 : arg18.IsWhole)
variable (arg19 : Memref sig .tc .vmem S512x512 .f32) (harg19 : arg19.IsWhole)
variable (arg20 : Memref sig .tc .vmem S512x512 .f32) (harg20 : arg20.IsWhole)
variable (arg21 : Memref sig .tc .vmem S512x512 .f32) (harg21 : arg21.IsWhole)
variable (arg22 : Memref sig .tc .vmem S512x512 .f32) (harg22 : arg22.IsWhole)
variable (arg23 : Memref sig .tc .vmem S512x512 .f32) (harg23 : arg23.IsWhole)

set_option maxHeartbeats 64000000 in
/-- The body at any point: the inputs stay, everything else is owned. -/
theorem body_any (E : Set ℕ)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty)
    (f19 : BufTy.Contents (Elt F) arg19.view.ty)
    (f20 : BufTy.Contents (Elt F) arg20.view.ty)
    (f21 : BufTy.Contents (Elt F) arg21.view.ty)
    (f22 : BufTy.Contents (Elt F) arg22.view.ty)
    (f23 : BufTy.Contents (Elt F) arg23.view.ty) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp (MT nD τ sig Unit (Elt F) ℕ (UR sig nD τ) ℕ))
      ⊢ wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g)) ∗ (∃ g, (arg21.view.loc (c : Thread nD τ) ↦[arg21.view.set]{fullShare} g)) ∗ (∃ g, (arg22.view.loc (c : Thread nD τ) ↦[arg22.view.set]{fullShare} g)) ∗ (∃ g, (arg23.view.loc (c : Thread nD τ) ↦[arg23.view.set]{fullShare} g)))) := by
  rcases cases3 i with ⟨h1, h2, h3⟩ | ⟨h1, h2, h3⟩ | ⟨h1, h2, h3⟩
  all_goals
    have hi : (i 1).val < 8 := (i 1).isLt
    have hp : k0_cond2 i = 1#1 → 0 < (i 1).val := pos_of_cond2 i
    try replace hp := hp h2
    iintro ⟨H2, H3, H4, H5, H6, H7, H8, H9, H10, H11, H12, H13, H14, H15, H16, H17, H18, H19, H20, H21, H22, H23⟩
    sl_unfold [cc0_attn_bwd]
    sl_exec
    sl_step
    sl_close

end Triple

variable (m : (ℓ : Loc nD τ sig) → Buf (Elt F) ℓ) (ρ : Dev nD → PrngReg)

abbrev 𝒱₀ : Variants := Variants.none

/-- What each window's staging buffer holds after the body: an input its block; what is written is not named. -/
abbrev after0 (c : Dev nD) : (w : Fin cfg0.W) → Fin cfg0.N → (cfg0.win w).block.Idx → Elt F (cfg0.win w).elt
  | 0 => iblk m c 0
  | 1 => iblk m c 1
  | 2 => iblk m c 2
  | 3 => iblk m c 3
  | 4 => iblk m c 4
  | 5 => Dat.unnamed 5
  | 6 => Dat.unnamed 6
  | 7 => Dat.unnamed 7

/-- The proof data: the arrays as the region finds them, the scratch at any contents. -/
abbrev dats : (p : Fin 1) → (c : Dev nD) → Dat τ (Elt F) Unit ℕ (UR sig nD τ) ℕ (cfgs p) c
  | 0 => fun c =>
    { A := fun w => V m c (Pipeline.arrRef spec0 w)
      after := after0 m c
      Φ := fun _ => Pipeline.ΦA spec0 c
      q := fun w => Pipeline.shareOf spec0 w
      owed := fun _ => 0 }

/-- The outputs, of which nothing is said. -/
def fgt : Fin 8 → Bool
  | 0 => false
  | 1 => false
  | 2 => false
  | 3 => false
  | 4 => false
  | 5 => true
  | 6 => true
  | 7 => true

/-- The scratch buffers, each at some contents. -/
def scratch (c : Dev nD) : sProp (MT nD τ sig Unit (Elt F) ℕ (UR sig nD τ) ℕ) :=
  iprop((∃ f, ((Memref.whole cc0_scratch0 : Memref sig .tc .vmem S8192x128 .bf16).view.loc (c : Thread nD τ) ↦[(Memref.whole cc0_scratch0 : Memref sig .tc .vmem S8192x128 .bf16).view.set]{fullShare} f)) ∗ (∃ f, ((Memref.whole cc0_scratch1 : Memref sig .tc .vmem S8192x128 .bf16).view.loc (c : Thread nD τ) ↦[(Memref.whole cc0_scratch1 : Memref sig .tc .vmem S8192x128 .bf16).view.set]{fullShare} f)) ∗ (∃ f, ((Memref.whole cc0_scratch2 : Memref sig .tc .vmem S4096x128 .f32).view.loc (c : Thread nD τ) ↦[(Memref.whole cc0_scratch2 : Memref sig .tc .vmem S4096x128 .f32).view.set]{fullShare} f)) ∗ (∃ f, ((Memref.whole cc0_scratch3 : Memref sig .tc .vmem S4096x128 .f32).view.loc (c : Thread nD τ) ↦[(Memref.whole cc0_scratch3 : Memref sig .tc .vmem S4096x128 .f32).view.set]{fullShare} f)) ∗ (∃ f, ((Memref.whole cc0_scratch4 : Memref sig .tc .vmem S512x128 .f32).view.loc (c : Thread nD τ) ↦[(Memref.whole cc0_scratch4 : Memref sig .tc .vmem S512x128 .f32).view.set]{fullShare} f)) ∗ (∃ f, ((Memref.whole cc0_scratch5 : Memref sig .tc .vmem S512x256 .f32).view.loc (c : Thread nD τ) ↦[(Memref.whole cc0_scratch5 : Memref sig .tc .vmem S512x256 .f32).view.set]{fullShare} f)) ∗ (∃ f, ((Memref.whole cc0_scratch6 : Memref sig .tc .vmem S512x512 .f32).view.loc (c : Thread nD τ) ↦[(Memref.whole cc0_scratch6 : Memref sig .tc .vmem S512x512 .f32).view.set]{fullShare} f)) ∗ (∃ f, ((Memref.whole cc0_scratch7 : Memref sig .tc .vmem S512x512 .f32).view.loc (c : Thread nD τ) ↦[(Memref.whole cc0_scratch7 : Memref sig .tc .vmem S512x512 .f32).view.set]{fullShare} f)) ∗ (∃ f, ((Memref.whole cc0_scratch8 : Memref sig .tc .vmem S512x512 .f32).view.loc (c : Thread nD τ) ↦[(Memref.whole cc0_scratch8 : Memref sig .tc .vmem S512x512 .f32).view.set]{fullShare} f)) ∗ (∃ f, ((Memref.whole cc0_scratch9 : Memref sig .tc .vmem S512x512 .f32).view.loc (c : Thread nD τ) ↦[(Memref.whole cc0_scratch9 : Memref sig .tc .vmem S512x512 .f32).view.set]{fullShare} f)) ∗ (∃ f, ((Memref.whole cc0_scratch10 : Memref sig .tc .vmem S512x512 .f32).view.loc (c : Thread nD τ) ↦[(Memref.whole cc0_scratch10 : Memref sig .tc .vmem S512x512 .f32).view.set]{fullShare} f)) ∗ (∃ f, ((Memref.whole cc0_scratch11 : Memref sig .tc .vmem S512x512 .f32).view.loc (c : Thread nD τ) ↦[(Memref.whole cc0_scratch11 : Memref sig .tc .vmem S512x512 .f32).view.set]{fullShare} f)) ∗ (∃ f, ((Memref.whole cc0_scratch12 : Memref sig .tc .vmem S512x512 .f32).view.loc (c : Thread nD τ) ↦[(Memref.whole cc0_scratch12 : Memref sig .tc .vmem S512x512 .f32).view.set]{fullShare} f)) ∗ (∃ f, ((Memref.whole cc0_scratch13 : Memref sig .tc .vmem S512x512 .f32).view.loc (c : Thread nD τ) ↦[(Memref.whole cc0_scratch13 : Memref sig .tc .vmem S512x512 .f32).view.set]{fullShare} f)))

set_option maxHeartbeats 4000000 in
theorem scratch_eq (c : Dev nD) : Pipeline.scopedRest (Val := Elt F) spec0 c = scratch (F := F) c := by
  unfold scratch
  rw [scopedRest0_eq]
  simp only [Memref.view_whole, View.set_whole]

/-- What a point starts from. -/
def bodyPre (c : Dev nD) (t : Fin cfg0.N) : sProp (MT nD τ sig Unit (Elt F) ℕ (UR sig nD τ) ℕ) :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X) ∗ (∃ X, owns (c : Thread nD τ) (st0_6 t) fullShare X) ∗ (∃ X, owns (c : Thread nD τ) (st0_7 t) fullShare X))

/-- What a point leaves. -/
def bodyPost (c : Dev nD) (t : Fin cfg0.N) : sProp (MT nD τ sig Unit (Elt F) ℕ (UR sig nD τ) ℕ) :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ X, owns (c : Thread nD τ) (st0_5 t) fullShare X) ∗ (∃ X, owns (c : Thread nD τ) (st0_6 t) fullShare X) ∗ (∃ X, owns (c : Thread nD τ) (st0_7 t) fullShare X))

set_option maxHeartbeats 4000000 in
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost Pipeline.ΦA
  rw [scratch_eq]
  unfold owns scratch
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩⟩, Hr⟩, Ho, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩⟩
  rw [before0_0_of m (dats m 0 c) rfl (fun _ => rfl)] at h2
  rw [before0_1_of m (dats m 0 c) rfl (fun _ => rfl)] at h3
  rw [before0_2_of m (dats m 0 c) rfl (fun _ => rfl)] at h4
  rw [before0_3_of m (dats m 0 c) rfl (fun _ => rfl)] at h5
  rw [before0_4_of m (dats m 0 c) rfl (fun _ => rfl)] at h6
  iapply (wp_wand_r Idealize.ShloMosaic.frame (wpE (defs₀ (F := F)) 𝒱₀ (c : Thread nD τ) none) Set.univ)
  isplitl [H2 H3 H4 H5 H6 H7 H8 H9 H10 H11 H12 H13 H14 H15 H16 H17 H18 H19 H20 H21 H22 H23]
  · iapply (body_any (F := F) 𝒱₀ c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0 : Memref sig .tc .vmem S8192x128 .bf16) (Memref.isWhole_whole _) (Memref.whole cc0_scratch1 : Memref sig .tc .vmem S8192x128 .bf16) (Memref.isWhole_whole _) (Memref.whole cc0_scratch2 : Memref sig .tc .vmem S4096x128 .f32) (Memref.isWhole_whole _) (Memref.whole cc0_scratch3 : Memref sig .tc .vmem S4096x128 .f32) (Memref.isWhole_whole _) (Memref.whole cc0_scratch4 : Memref sig .tc .vmem S512x128 .f32) (Memref.isWhole_whole _) (Memref.whole cc0_scratch5 : Memref sig .tc .vmem S512x256 .f32) (Memref.isWhole_whole _) (Memref.whole cc0_scratch6 : Memref sig .tc .vmem S512x512 .f32) (Memref.isWhole_whole _) (Memref.whole cc0_scratch7 : Memref sig .tc .vmem S512x512 .f32) (Memref.isWhole_whole _) (Memref.whole cc0_scratch8 : Memref sig .tc .vmem S512x512 .f32) (Memref.isWhole_whole _) (Memref.whole cc0_scratch9 : Memref sig .tc .vmem S512x512 .f32) (Memref.isWhole_whole _) (Memref.whole cc0_scratch10 : Memref sig .tc .vmem S512x512 .f32) (Memref.isWhole_whole _) (Memref.whole cc0_scratch11 : Memref sig .tc .vmem S512x512 .f32) (Memref.isWhole_whole _) (Memref.whole cc0_scratch12 : Memref sig .tc .vmem S512x512 .f32) (Memref.isWhole_whole _) (Memref.whole cc0_scratch13 : Memref sig .tc .vmem S512x512 .f32) (Memref.isWhole_whole _) Set.univ f2 f3 f4 f5 f6 f7 f8 f9 f10 f11 f12 f13 f14 f15 f16 f17 f18 f19 f20 f21 f22 f23)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iintro %_ ⟨H2, H3, H4, H5, H6, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩⟩
    isplitl [H10 H11 H12 H13 H14 H15 H16 H17 H18 H19 H20 H21 H22 H23 Hr]
    · isplitl [H10 H11 H12 H13 H14 H15 H16 H17 H18 H19 H20 H21 H22 H23]
      · isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [H22]; · iexists _; iexact H22
        iexists _; iexact H23
      · iexact Hr
    isplitl [Ho]; · iexact Ho
    isplitl [H2]
    · iexists _; isplitr; · (ipureintro; exact h2)
      iexact H2
    isplitl [H3]
    · iexists _; isplitr; · (ipureintro; exact h3)
      iexact H3
    isplitl [H4]
    · iexists _; isplitr; · (ipureintro; exact h4)
      iexact H4
    isplitl [H5]
    · iexists _; isplitr; · (ipureintro; exact h5)
      iexact H5
    isplitl [H6]
    · iexists _; isplitr; · (ipureintro; exact h6)
      iexact H6
    isplitl [H7]
    · iexists (View.read (Elt F) (st0_5 t).view g7); iexists g7; isplitr; · (ipureintro; rfl)
      iexact H7
    isplitl [H8]
    · iexists (View.read (Elt F) (st0_6 t).view g8); iexists g8; isplitr; · (ipureintro; rfl)
      iexact H8
    iexists (View.read (Elt F) (st0_7 t).view g9); iexists g9; isplitr; · (ipureintro; rfl)
    iexact H9

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := F)) 𝒱₀ () Set.univ fgt := fun t => by
  rw [bigSep_W0, bigSep_W0, defs₀_row]
  exact triple_restated (sound_body m c t) rfl .rfl fun _ => .rfl

/-- The region's run: the arguments stay and every semaphore is zero at the end. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared cfgs (dats m) 0 launch₀0 defs₀ 𝒱₀ fgt m ρ main
    (hbody := fun c => (body_obligation m c).loose) (hq := fun _ _ _ => rfl) (howed := fun _ _ => rfl)
    (V := V m) (hmain := hmain m 𝒱₀) (hA := fun _ _ => rfl) (hΦ := fun _ _ => rfl)
    (Q' := fun r => Pipeline.RDat.FramePost cfg0 (fun c => (dats m 0 c).toRForget fgt) (V m) r ∧ r.2.sem = fun _ => 0)
    (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((congrFun (((dats m 0 c).toRForget fgt).ArrAt_in 2 rfl _) _).mp ((h.1 c).1 2)).trans (V_main_arg0 m c),
     ((congrFun (((dats m 0 c).toRForget fgt).ArrAt_in 3 rfl _) _).mp ((h.1 c).1 3)).trans (V_main_arg1 m c)⟩, h.2⟩) (run_main m ρ)

end Cert.AttnBwdIdeal.Att
-- ==== Proof.Attn.Claim.lean ====
/-
  The claims of the attention's backward call.
-/
module

public import proofs.«01_k».proof.Defs
public import proofs.«01_k».proof.Proof.Attn.Run
public import proofs.«01_k».proof.Proof.Attn.RunIdeal
public import proofs.«01_k».proof.Proof.Gen.AttnRefIdeal
public import proofs.«01_k».proof.Proof.Gen.AttnRefIdeal.Run
public import Idealize.ShloMosaic.Lib.Claim

@[expose] public section

noncomputable section

namespace Cert.Attn

open Idealize.ShloMosaic Idealize.SL.Sem

theorem frame_ref : Cert.quiescent_AttnRefIdeal :=
  fun m ρ _ => (θ_run Cert.AttnRefIdeal.defs _ _).mono (fun r h => ⟨fun c => (h c).2.2.2, sem_eq_zero_of_no_sems (by decide) r.2⟩)
    (Cert.AttnRefIdeal.Value.run m ρ)

theorem preserves : Cert.preserves_AttnBwd_AttnBwdIdeal :=
  ⟨IdealRules.named_const.statement _ _ _ _ _ rfl, IdealRules.named_const.statement _ _ _ _ _ rfl⟩

end Cert.Attn

end
-- ==== Proof.Fwd.Mix.lean ====
/-
  The mixer's input projection with its norm, forward: what the kernel's two arrays hold after its run, over the
  arguments' arrays, and that the reference's two results are these.
-/
module

public import proofs.«01_k».proof.Proof.Mix.Ref
public import proofs.«01_k».proof.Proof.Gen.MixFwdIdeal.Value
public import proofs.«01_k».proof.Proof.Gen.MixFwdRefIdeal.Run
public import proofs.«01_k».proof.Proof.Gen.MixFwd.Frame

@[expose] public section

set_option maxRecDepth 16384

noncomputable section

open Idealize.ShloMosaic Idealize.ShloMosaic.TcCoe Idealize.SL.Sem
open Idealize.ShloMosaic.Pipeline (Dat)

namespace Cert.MixFwdIdeal.Mix

open Cert.MixFwdIdeal Cert.MixFwdIdeal.Gen Cert.Common
open Cert.MixBwdIdeal.Mix (nrm)

/-- The normed rows against the weight's columns. -/
def proj (h : FVec Ideal S4096x1024 .f32) (g : FVec Ideal S1x1024 .f32) (w : FVec Ideal S1x1024x2560 .f32)
    (p : Fin 4096) (j : Fin 2560) : EReal := ∑ k : Fin 1024, nrm h g (ix2 p k) * w (ix3 0 k j)

/-- The gate's columns. -/
def zg (h : FVec Ideal S4096x1024 .f32) (g : FVec Ideal S1x1024 .f32) (w : FVec Ideal S1x1024x2560 .f32) :
    FVec Ideal S4096x1024 .f32 := fun i => proj h g w (i 0) ⟨(i 1).val, by have := (i 1).isLt; change _ < 1024 at this; omega⟩

/-- The attention's columns. -/
def qkv (h : FVec Ideal S4096x1024 .f32) (g : FVec Ideal S1x1024 .f32) (w : FVec Ideal S1x1024x2560 .f32) :
    FVec Ideal S4096x1536 .bf16 := fun i => proj h g w (i 0) ⟨1024 + (i 1).val, by have := (i 1).isLt; change _ < 1536 at this; omega⟩

variable (m : (ℓ : Loc nD τ sig) → Buf (Elt Ideal) ℓ)

abbrev aH (c : Dev nD) : FVec Ideal S4096x1024 .f32 := m ((c : Thread nD τ).loc main_arg0)
abbrev aG (c : Dev nD) : FVec Ideal S1x1024 .f32 := m ((c : Thread nD τ).loc main_arg1)
abbrev aW (c : Dev nD) : FVec Ideal S1x1024x2560 .f32 := m ((c : Thread nD τ).loc main_arg2)

/-- Where each window stands at a point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

/-- The array's row that row `a` of point `t` is. -/
def em (t : Fin cfg0.N) (a : Fin 512) : Fin 4096 := ⟨t.val * 512 + a.val, by have := t.isLt; have : cfg0.N = 8 := N_0; omega⟩

abbrev bH (c : Dev nD) (t : Fin cfg0.N) : FVec Ideal S512x1024 .f32 := iblk m c 0 t
abbrev bG (c : Dev nD) (t : Fin cfg0.N) : FVec Ideal S1x1024 .f32 := iblk m c 1 t
abbrev bW0 (c : Dev nD) (t : Fin cfg0.N) : FVec Ideal S1x1024x640 .bf16 :=
  View.ld (iblk m c 2 t) (Rect.unit ![0, 0, 0] ![1, 1024, 640] inb_S4x1024x640_S1x1024x640_0_0_0)
abbrev bW1 (c : Dev nD) (t : Fin cfg0.N) : FVec Ideal S1x1024x640 .bf16 :=
  View.ld (iblk m c 2 t) (Rect.unit ![1, 0, 0] ![1, 1024, 640] inb_S4x1024x640_S1x1024x640_1_0_0)
abbrev bW2 (c : Dev nD) (t : Fin cfg0.N) : FVec Ideal S1x1024x640 .bf16 :=
  View.ld (iblk m c 2 t) (Rect.unit ![2, 0, 0] ![1, 1024, 640] inb_S4x1024x640_S1x1024x640_2_0_0)
abbrev bW3 (c : Dev nD) (t : Fin cfg0.N) : FVec Ideal S1x1024x640 .bf16 :=
  View.ld (iblk m c 2 t) (Rect.unit ![3, 0, 0] ![1, 1024, 640] inb_S4x1024x640_S1x1024x640_3_0_0)

theorem bH_at (c : Dev nD) (t : Fin cfg0.N) (a : Fin 512) (k : Fin 1024) : bH m c t (ix2 a k) = aH m c (ix2 (em t a) k) := by
  pointwise []; blk_point [iblk, V, idx t, em]
theorem bG_at (c : Dev nD) (t : Fin cfg0.N) (k : Fin 1024) : bG m c t (ix2 0 k) = aG m c (ix2 0 k) := by
  pointwise []; blk_point [iblk, V, idx t, em]
theorem bW0_at (c : Dev nD) (t : Fin cfg0.N) (k : Fin 1024) (b : Fin 640) (h) : bW0 m c t (ix3 0 k b) = aW m c (ix3 0 k ⟨b.val, h⟩) := by
  pointwise [bW0]; blk_point [iblk, V, idx t, aW]
theorem bW1_at (c : Dev nD) (t : Fin cfg0.N) (k : Fin 1024) (b : Fin 640) (h) : bW1 m c t (ix3 0 k b) = aW m c (ix3 0 k ⟨640 + b.val, h⟩) := by
  pointwise [bW1]; blk_point [iblk, V, idx t, aW]
theorem bW2_at (c : Dev nD) (t : Fin cfg0.N) (k : Fin 1024) (b : Fin 640) (h) : bW2 m c t (ix3 0 k b) = aW m c (ix3 0 k ⟨1280 + b.val, h⟩) := by
  pointwise [bW2]; blk_point [iblk, V, idx t, aW]
theorem bW3_at (c : Dev nD) (t : Fin cfg0.N) (k : Fin 1024) (b : Fin 640) (h) : bW3 m c t (ix3 0 k b) = aW m c (ix3 0 k ⟨1920 + b.val, h⟩) := by
  pointwise [bW3]; blk_point [iblk, V, idx t, aW]

/-- A row of a block normed, against a column of its weights. -/
def dot (h : FVec Ideal S512x1024 .f32) (g : FVec Ideal S1x1024 .f32) (w : FVec Ideal S1x1024x640 .bf16) (a : Fin 512) (b : Fin 640) : EReal :=
  ∑ k : Fin 1024, h (ix2 a k) * Ideal.rsqrt (meanSq 0x44800000#32 fun k : Fin 1024 => h (ix2 a k)) * g (ix2 0 k) * w (ix3 0 k b)

theorem pay2_at (h : FVec Ideal S512x1024 .f32) (g : FVec Ideal S1x1024 .f32) (a : Fin 512) (k : Fin 1024) :
    k0_pay2 (F := Ideal) h g (ix2 a k) = h (ix2 a k) * Ideal.rsqrt (meanSq 0x44800000#32 fun k : Fin 1024 => h (ix2 a k)) * g (ix2 0 k) := by
  pointwise [k0_pay2, meanSq]

theorem pay3_at (h : FVec Ideal S512x1024 .f32) (g : FVec Ideal S1x1024 .f32) (w : FVec Ideal S1x1024x640 .bf16) (a : Fin 512) (b : Fin 640) :
    k0_pay3 (F := Ideal) h g w (ix2 a b) = dot h g w a b := by
  simp only [dot, ← pay2_at]
  pointwise [k0_pay3]
theorem pay4_at (h : FVec Ideal S512x1024 .f32) (g : FVec Ideal S1x1024 .f32) (w : FVec Ideal S1x1024x640 .bf16) (a : Fin 512) (b : Fin 640) :
    k0_pay4 (F := Ideal) h g w (ix2 a b) = dot h g w a b := by
  simp only [dot, ← pay2_at]
  pointwise [k0_pay4]
theorem pay5_at (h : FVec Ideal S512x1024 .f32) (g : FVec Ideal S1x1024 .f32) (w : FVec Ideal S1x1024x640 .bf16) (a : Fin 512) (b : Fin 384) :
    k0_pay5 (F := Ideal) h g w (ix2 a b) = dot h g w a ⟨b.val, by omega⟩ := by
  rw [← pay4_at]
  pointwise [k0_pay5]
theorem pay6_at (h : FVec Ideal S512x1024 .f32) (g : FVec Ideal S1x1024 .f32) (w : FVec Ideal S1x1024x640 .bf16) (a : Fin 512) (b : Fin 256) :
    k0_pay6 (F := Ideal) h g w (ix2 a b) = dot h g w a ⟨384 + b.val, by omega⟩ := by
  rw [← pay4_at]
  pointwise [k0_pay6]
theorem pay7_at (h : FVec Ideal S512x1024 .f32) (g : FVec Ideal S1x1024 .f32) (w : FVec Ideal S1x1024x640 .bf16) (a : Fin 512) (b : Fin 640) :
    k0_pay7 (F := Ideal) h g w (ix2 a b) = dot h g w a b := by
  simp only [dot, ← pay2_at]
  pointwise [k0_pay7]
theorem pay1_at (h : FVec Ideal S512x1024 .f32) (g : FVec Ideal S1x1024 .f32) (w : FVec Ideal S1x1024x640 .bf16) (a : Fin 512) (b : Fin 640) :
    k0_pay1 (F := Ideal) (k0_pay2 h g) w (ix2 a b) = dot h g w a b := by
  simp only [dot, ← pay2_at]
  pointwise [k0_pay1]

theorem dot_eq (c : Dev nD) (t : Fin cfg0.N) (w : FVec Ideal S1x1024x640 .bf16) (a : Fin 512) (b : Fin 640) (j : Fin 2560)
    (e : ∀ k, w (ix3 0 k b) = aW m c (ix3 0 k j)) : dot (bH m c t) (bG m c t) w a b = proj (aH m c) (aG m c) (aW m c) (em t a) j := by
  simp only [dot, bH_at, bG_at, e, proj]
  rfl

theorem emb3 (t : Fin cfg0.N) (y : S512x1024.Idx) : ((cfg0.win 3).blk t).view.emb y = ix2 (em t (y 0)) (y 1) := by
  funext a
  refine Fin.ext ?_
  fin_cases a <;> blk_simp [idx t, em] <;> rfl
theorem emb4 (t : Fin cfg0.N) (y : S512x1536.Idx) : ((cfg0.win 4).blk t).view.emb y = ix2 (em t (y 0)) (y 1) := by
  funext a
  refine Fin.ext ?_
  fin_cases a <;> blk_simp [idx t, em] <;> rfl

theorem hz2 : (![0, 0] : Fin 2 → ℕ) = fun _ => 0 := by decide

theorem point3 (c : Dev nD) (t : Fin cfg0.N) (y : S512x1024.Idx) :
    (outsAt0 m c t).1 y = zg (aH m c) (aG m c) (aW m c) (((cfg0.win 3).blk t).view.emb y) := by
  rw [emb3]
  unfold outsAt0
  frame_out
  canon_tiles x h using (View.cover_of_tiledBy _ ![512, 128] (by sl_kernel_rfl) y)
  · obtain ⟨a, b, rfl⟩ : ∃ (a : Fin 512) (b : Fin 384), x = ix2 a b := ⟨_, _, eq_ix2 x⟩
    obtain rfl : y 0 = a := Fin.ext h0
    exact (pay5_at ..).trans (dot_eq m c t _ _ _ _ fun k => (bW1_at m c t k _ (by show 640 + b.val < 2560; omega)).trans
      (congrArg (fun j => aW m c (ix3 0 k j)) (Fin.ext h1.symm)))
  · obtain ⟨a, b, rfl⟩ : ∃ (a : Fin 512) (b : Fin 640), x = ix2 a b := ⟨_, _, eq_ix2 x⟩
    obtain rfl : y 0 = a := Fin.ext h0
    exact (pay3_at ..).trans (dot_eq m c t _ _ _ _ fun k => (bW0_at m c t k _ (by show b.val < 2560; omega)).trans
      (congrArg (fun j => aW m c (ix3 0 k j)) (Fin.ext h1.symm)))

theorem col (j n b q : ℕ) (h : q = n + b) (e : j = 1024 + n + b) : j = 1024 + q := by omega

theorem point4 (c : Dev nD) (t : Fin cfg0.N) (y : S512x1536.Idx) :
    (outsAt0 m c t).2 y = qkv (aH m c) (aG m c) (aW m c) (((cfg0.win 4).blk t).view.emb y) := by
  rw [emb4]
  unfold outsAt0
  frame_out
  canon_tiles x h using (View.cover_of_tiledBy _ ![512, 128] (by sl_kernel_rfl) y)
  · obtain ⟨a, b, rfl⟩ : ∃ (a : Fin 512) (b : Fin 640), x = ix2 a b := ⟨_, _, eq_ix2 x⟩
    obtain rfl : y 0 = a := Fin.ext h0
    exact (pay1_at ..).trans (dot_eq m c t _ _ _ _ fun k => (bW3_at m c t k _ (by show 1920 + b.val < 2560; omega)).trans
      (congrArg (fun j => aW m c (ix3 0 k j)) (Fin.ext (col _ 896 b.val _ h1 rfl))))
  · obtain ⟨a, b, rfl⟩ : ∃ (a : Fin 512) (b : Fin 640), x = ix2 a b := ⟨_, _, eq_ix2 x⟩
    obtain rfl : y 0 = a := Fin.ext h0
    exact (pay7_at ..).trans (dot_eq m c t _ _ _ _ fun k => (bW2_at m c t k _ (by show 1280 + b.val < 2560; omega)).trans
      (congrArg (fun j => aW m c (ix3 0 k j)) (Fin.ext (col _ 256 b.val _ h1 rfl))))
  · obtain ⟨a, b, rfl⟩ : ∃ (a : Fin 512) (b : Fin 256), x = ix2 a b := ⟨_, _, eq_ix2 x⟩
    obtain rfl : y 0 = a := Fin.ext h0
    exact (pay6_at ..).trans (dot_eq m c t _ _ _ _ fun k => (bW1_at m c t k _ (by show 640 + (384 + b.val) < 2560; omega)).trans
      (congrArg (fun j => aW m c (ix3 0 k j)) (Fin.ext ((Nat.add_assoc 640 384 b.val).symm.trans (col _ 0 b.val _ (h1.trans (Nat.zero_add _).symm) rfl)))))

theorem final3 (c : Dev nD) : (dats m 0 c).arrAt 3 (cfgs 0).N = zg (aH m c) (aG m c) (aW m c) := by
  refine (dats m 0 c).arrAt_eq_of_covers 3 _ (by decide +kernel) fun t hf y => ?_
  blk_simp
  rw [after0_3]
  exact point3 m c t y

theorem final4 (c : Dev nD) : (dats m 0 c).arrAt 4 (cfgs 0).N = qkv (aH m c) (aG m c) (aW m c) := by
  refine (dats m 0 c).arrAt_eq_of_covers 4 _ (by decide +kernel) fun t hf y => ?_
  blk_simp
  rw [after0_4]
  exact point4 m c t y

end Cert.MixFwdIdeal.Mix

namespace Cert.MixFwdRefIdeal.Mix

open Cert.MixFwdRefIdeal Cert.MixFwdRefIdeal.Gen Cert.MixFwdRefIdeal.Value Cert.Common

/-- The normed rows as the reference computes them. -/
def rN (h : FVec Ideal S4096x1024 .f32) (g : FVec Ideal S1x1024 .f32) : FVec Ideal S4096x1024 .f32 :=
  mulf (mulf h (broadcastInDim S4096x1024 ![0, 1] bcast_S4096x1_S4096x1024_0_1 (Host.rsqrt (Cert.MixRefIdeal.Mix.rMean h))))
    (broadcastInDim S4096x1024 ![0, 1] bcast_S1x1024_S4096x1024_0_1 (broadcastInDim S1x1024 ![1] bcast_S1024_S1x1024_1
      (shapeCast S1024 g shapeCasts_S1x1024_S1024 : FVec Ideal S1024 .f32)))

theorem rN_eq (h : FVec Ideal S4096x1024 .f32) (g : FVec Ideal S1x1024 .f32) : rN h g = Cert.MixBwdIdeal.Mix.nrm h g := by
  rw [← Cert.MixRefIdeal.Mix.nrm_eq]
  rfl

/-- The whole product. -/
def rP (n : FVec Ideal S4096x1024 .f32) (w : FVec Ideal S1x1024x2560 .f32) : FVec Ideal S4096x2560 .f32 :=
  Host.dotGeneral (F := Ideal) dot_S4096x1024_S1024x2560_S4096x2560_1_0_0_1_n_n none n
    (shapeCast S1024x2560 w shapeCasts_S1x1024x2560_S1024x2560 : FVec Ideal S1024x2560 .f32)

theorem rP_at (n : FVec Ideal S4096x1024 .f32) (w : FVec Ideal S1x1024x2560 .f32) (p : Fin 4096) (j : Fin 2560) :
    rP n w (ix2 p j) = ∑ k : Fin 1024, n (ix2 p k) * w (ix3 0 k j) := by
  pointwise [rP]

theorem zg_eq (h : FVec Ideal S4096x1024 .f32) (g : FVec Ideal S1x1024 .f32) (w : FVec Ideal S1x1024x2560 .f32) :
    extractStridedSlice S4096x1024 ![0, 0] (rP (rN h g) w) slices_S4096x2560_S4096x1024_0_0 = Cert.MixFwdIdeal.Mix.zg h g w := by
  funext i
  obtain ⟨p, j, rfl⟩ : ∃ (p : Fin 4096) (j : Fin 1024), i = ix2 p j := ⟨_, _, eq_ix2 i⟩
  rw [rN_eq]
  refine Eq.trans ?_ (rP_at _ w p ⟨j.val, by omega⟩)
  pointwise []

theorem qkv_eq (h : FVec Ideal S4096x1024 .f32) (g : FVec Ideal S1x1024 .f32) (w : FVec Ideal S1x1024x2560 .f32) :
    truncf .bf16 (extractStridedSlice S4096x1536 ![0, 1024] (rP (rN h g) w) slices_S4096x2560_S4096x1536_0_1024) bitsLt_bf16_f32
      = Cert.MixFwdIdeal.Mix.qkv h g w := by
  funext i
  obtain ⟨p, j, rfl⟩ : ∃ (p : Fin 4096) (j : Fin 1536), i = ix2 p j := ⟨_, _, eq_ix2 i⟩
  rw [rN_eq]
  refine Eq.trans ?_ (rP_at _ w p ⟨1024 + j.val, by omega⟩)
  pointwise []

end Cert.MixFwdRefIdeal.Mix

end
-- ==== Proof.Fwd.MixClaim.lean ====
/-
  The value claim of the mixer's input projection and its norm, forward: the kernel's two results are the reference's.
-/
module

public import proofs.«01_k».proof.Defs
public import proofs.«01_k».proof.Proof.Fwd.Mix
public import Idealize.ShloMosaic.Lib.Claim

@[expose] public section

set_option maxRecDepth 16384

noncomputable section

open Idealize.ShloMosaic Idealize.ShloMosaic.TcCoe Idealize.SL.Sem

namespace Cert.MixFwdClaim

theorem algebraic : Cert.algebraic_MixFwdIdeal_MixFwdRefIdeal := by
  pair_intro
  · run_from Cert.MixFwdIdeal.Gen.run_main m g
  · run_from Cert.MixFwdRefIdeal.Value.run m' g'
    · exact (Cert.MixFwdRefIdeal.Mix.zg_eq _ _ _).trans (Cert.MixFwdIdeal.Mix.final3 m c).symm
    · exact (Cert.MixFwdRefIdeal.Mix.qkv_eq _ _ _).trans (Cert.MixFwdIdeal.Mix.final4 m c).symm

theorem frame_ref : Cert.quiescent_MixFwdRefIdeal := fun m ρ _ =>
  (θ_run Cert.MixFwdRefIdeal.defs _ _).mono (fun r h => ⟨fun c => (h c).2.2, sem_eq_zero_of_no_sems (by decide) r.2⟩)
    (Cert.MixFwdRefIdeal.Value.run m ρ)

end Cert.MixFwdClaim

end
-- ==== Proof.Fwd.Gmlp.lean ====
/-
  The gated MLP forward: what the kernel's array holds after its run, over the arguments' arrays, and that the
  reference's result is this.
-/
module

public import proofs.«01_k».proof.Proof.Gmlp.Ref
public import proofs.«01_k».proof.Proof.Gen.GmlpFwdIdeal.Frame
public import proofs.«01_k».proof.Proof.Gen.GmlpFwdRefIdeal.Run
public import proofs.«01_k».proof.Proof.Gen.GmlpFwd.Frame

@[expose] public section

set_option maxRecDepth 16384

noncomputable section

open Idealize.ShloMosaic Idealize.ShloMosaic.TcCoe Idealize.SL.Sem
open Idealize.ShloMosaic.Pipeline (Dat)

namespace Cert.GmlpFwdIdeal.Gmlp

open Cert.GmlpFwdIdeal Cert.GmlpFwdIdeal.Gen Cert.Common
open Cert.GmlpBwdIdeal.Gmlp (gelu sel lo hd vv vr vn du rowA rowB fU fV fG fW fB tU tU_at chunk rd cS)

/-- The gated rows. -/
def out (z : FVec Ideal S4096x1024 .f32) (gv : FVec Ideal S1x512 .f32) (ws : FVec Ideal S1x4x128x128 .f32) (gb : FVec Ideal S1x4x128 .f32)
    (p : Fin 4096) (j : Fin 512) : EReal :=
  du rowA (fV z) (fun p j => gelu (fU z p j)) (fG gv) (fW ws) (fB gb) p j

theorem const_eq : Named.named (F := Ideal) (φ := .f32) κ "sqrt_half" 0x3F3504F3#32 = cS :=
  (IdealRules.named_const.ideal_named_scalar _ _ _ _ rfl).trans Cert.GmlpBwdIdeal.Gmlp.cS_eq.symm

variable (m : (ℓ : Loc nD τ sig) → Buf (Elt Ideal) ℓ)

abbrev aZ (c : Dev nD) : FVec Ideal S4096x1024 .f32 := m ((c : Thread nD τ).loc main_arg0)
abbrev aG (c : Dev nD) : FVec Ideal S1x512 .f32 := m ((c : Thread nD τ).loc main_arg1)
abbrev aW (c : Dev nD) : FVec Ideal S1x4x128x128 .f32 := m ((c : Thread nD τ).loc main_arg2)
abbrev aB (c : Dev nD) : FVec Ideal S1x4x128 .f32 := m ((c : Thread nD τ).loc main_arg3)

/-- Where each window stands at a point. -/
theorem idx : ∀ t : Fin cfg0.N, win0_0.index t = ![t.val, 0] ∧ win0_1.index t = ![0, 0]
    ∧ win0_2.index t = ![0, 0, 0] ∧ win0_3.index t = ![0, 0] ∧ win0_4.index t = ![t.val, 0] :=
  (by decide +kernel : ∀ t : Fin grid0.N, _)

/-- The row of the array under a block's row. -/
def em (t : Fin cfg0.N) (a : Fin 512) : Fin 4096 :=
  ⟨t.val * 512 + a.val, by have h := t.isLt; have : cfg0.N = 8 := N_0; omega⟩

theorem em_row (t : Fin cfg0.N) (a : Fin 512) (s : Fin 128) : em t (rowB a s) = rowA (em t a) s :=
  Fin.ext (by show t.val * 512 + (a.val / 128 * 128 + s.val) = (t.val * 512 + a.val) / 128 * 128 + s.val; omega)

theorem em_lo (t : Fin cfg0.N) (a : Fin 512) : lo (em t a) = lo a :=
  Fin.ext (by show (t.val * 512 + a.val) % 128 = a.val % 128; omega)

abbrev lU (c : Dev nD) (t : Fin cfg0.N) : FVec Ideal S512x512 .f32 := View.ld (iblk m c 0 t) r0_0
abbrev lV (c : Dev nD) (t : Fin cfg0.N) : FVec Ideal S512x512 .f32 := View.ld (iblk m c 0 t) r0_1
abbrev lG (c : Dev nD) (t : Fin cfg0.N) : FVec Ideal S1x512 .f32 := View.ld (iblk m c 1 t) r0_2

theorem lU_eq (c : Dev nD) (t : Fin cfg0.N) (a j : Fin 512) : lU m c t (ix2 a j) = fU (aZ m c) (em t a) j := by
  pointwise [lU, fU]; blk_point [iblk, V, idx t, em, aZ]
theorem lV_eq (c : Dev nD) (t : Fin cfg0.N) (a j : Fin 512) : lV m c t (ix2 a j) = fV (aZ m c) (em t a) j := by
  pointwise [lV, fV]; blk_point [iblk, V, idx t, em, aZ]
theorem lG_eq (c : Dev nD) (t : Fin cfg0.N) (j : Fin 512) : lG m c t (ix2 0 j) = fG (aG m c) j := by
  pointwise [lG, fG]; blk_point [iblk, V, idx t, aG]

/-- The weights and the biases as the host hands them to the kernel. -/
theorem V_w (c : Dev nD) : V m c (Pipeline.arrRef spec0 2) = (shapeCast S4x128x128 (aW m c) shapeCasts_S1x4x128x128_S4x128x128 : FVec Ideal S4x128x128 .f32) := by
  show StableHlo.after (List.flatten [hostOps0]) (fun b => m (c, b)) (Proc.devRef .tc main_v0) = _
  simp only [List.flatten_cons, List.flatten_nil, List.append_nil]
  after_results
  rfl
theorem V_b (c : Dev nD) : V m c (Pipeline.arrRef spec0 3)
    = (transpose S128x4 [1, 0] (shapeCast S4x128 (aB m c) shapeCasts_S1x4x128_S4x128) transposes_S4x128_S128x4_1_0 : FVec Ideal S128x4 .f32) := by
  show StableHlo.after (List.flatten [hostOps0]) (fun b => m (c, b)) (Proc.devRef .tc main_v2) = _
  simp only [List.flatten_cons, List.flatten_nil, List.append_nil]
  after_results
  rfl

theorem read2 (t : Fin cfg0.N) (X : FVec Ideal S4x128x128 .f32) : ((cfg0.win 2).blk t).view.read (Elt Ideal) X = X := by
  funext i
  refine congrArg X (funext fun a => Fin.ext ?_)
  fin_cases a <;> blk_simp [idx t]
theorem read3 (t : Fin cfg0.N) (X : FVec Ideal S128x4 .f32) : ((cfg0.win 3).blk t).view.read (Elt Ideal) X = X := by
  funext i
  refine congrArg X (funext fun a => Fin.ext ?_)
  fin_cases a <;> blk_simp [idx t]

abbrev lW0 (c : Dev nD) (t : Fin cfg0.N) : FVec Ideal S1x128x128 .f32 := View.ld (iblk m c 2 t) r0_3
abbrev lB0 (c : Dev nD) (t : Fin cfg0.N) : FVec Ideal S128x1 .f32 := View.ld (iblk m c 3 t) r0_4
theorem lW0_at (c : Dev nD) (t : Fin cfg0.N) (p s : Fin 128) : lW0 m c t (ix3 0 p s) = fW (aW m c) 0 p s := by
  unfold lW0 iblk; rw [V_w, read2]; pointwise [fW]
theorem lB0_at (c : Dev nD) (t : Fin cfg0.N) (p : Fin 128) : lB0 m c t (ix2 p 0) = fB (aB m c) p 0 := by
  unfold lB0 iblk; rw [V_b, read3]; pointwise [fB]
abbrev lW1 (c : Dev nD) (t : Fin cfg0.N) : FVec Ideal S1x128x128 .f32 := View.ld (iblk m c 2 t) r0_9
abbrev lB1 (c : Dev nD) (t : Fin cfg0.N) : FVec Ideal S128x1 .f32 := View.ld (iblk m c 3 t) r0_10
theorem lW1_at (c : Dev nD) (t : Fin cfg0.N) (p s : Fin 128) : lW1 m c t (ix3 0 p s) = fW (aW m c) 1 p s := by
  unfold lW1 iblk; rw [V_w, read2]; pointwise [fW]
theorem lB1_at (c : Dev nD) (t : Fin cfg0.N) (p : Fin 128) : lB1 m c t (ix2 p 0) = fB (aB m c) p 1 := by
  unfold lB1 iblk; rw [V_b, read3]; pointwise [fB]
abbrev lW2 (c : Dev nD) (t : Fin cfg0.N) : FVec Ideal S1x128x128 .f32 := View.ld (iblk m c 2 t) r0_15
abbrev lB2 (c : Dev nD) (t : Fin cfg0.N) : FVec Ideal S128x1 .f32 := View.ld (iblk m c 3 t) r0_16
theorem lW2_at (c : Dev nD) (t : Fin cfg0.N) (p s : Fin 128) : lW2 m c t (ix3 0 p s) = fW (aW m c) 2 p s := by
  unfold lW2 iblk; rw [V_w, read2]; pointwise [fW]
theorem lB2_at (c : Dev nD) (t : Fin cfg0.N) (p : Fin 128) : lB2 m c t (ix2 p 0) = fB (aB m c) p 2 := by
  unfold lB2 iblk; rw [V_b, read3]; pointwise [fB]
abbrev lW3 (c : Dev nD) (t : Fin cfg0.N) : FVec Ideal S1x128x128 .f32 := View.ld (iblk m c 2 t) r0_21
abbrev lB3 (c : Dev nD) (t : Fin cfg0.N) : FVec Ideal S128x1 .f32 := View.ld (iblk m c 3 t) r0_22
theorem lW3_at (c : Dev nD) (t : Fin cfg0.N) (p s : Fin 128) : lW3 m c t (ix3 0 p s) = fW (aW m c) 3 p s := by
  unfold lW3 iblk; rw [V_w, read2]; pointwise [fW]
theorem lB3_at (c : Dev nD) (t : Fin cfg0.N) (p : Fin 128) : lB3 m c t (ix2 p 0) = fB (aB m c) p 3 := by
  unfold lB3 iblk; rw [V_b, read3]; pointwise [fB]

/-! ## The activations and the norm -/

theorem act_at (z : FVec Ideal S512x512 .f32) (a b : Fin 512) : k0_pay4 (F := Ideal) z (ix2 a b) = gelu (z (ix2 a b)) := by
  rw [gelu, ← const_eq]
  pointwise [k0_pay4]

theorem nrm_at (z : FVec Ideal S512x512 .f32) (g : FVec Ideal S1x512 .f32) (a b : Fin 512) :
    k0_pay5 (F := Ideal) z g (ix2 a b) = vn (fun a b => z (ix2 a b)) (fun j => g (ix2 0 j)) a b := by
  simp only [vn, vr, meanSq, vv, ← act_at]
  pointwise [k0_pay5, k0_pay4]

/-- A tile of 128 rows of one head. -/
theorem tile_at (c : Dev nD) (t : Fin cfg0.N) (w : FVec Ideal S1x128x128 .f32) (bt : FVec Ideal S128x1 .f32) (h : Fin 4)
    (hw : ∀ p s, w (ix3 0 p s) = fW (aW m c) h p s) (hb : ∀ p, bt (ix2 p 0) = fB (aB m c) p h)
    (r q : ℕ) (hs : S512x512.Slices ![r, q] S128x128) (hr : r % 128 = 0) (hr' : r + 128 ≤ 512) (hq : q = 128 * h.val) (x k : Fin 128)
    (a b : Fin 512) (ha : a.val = r + x.val) (hb' : b.val = q + k.val) :
    tU w bt r q hs (k0_pay5 (F := Ideal) (lV m c t) (lG m c t)) (k0_pay4 (F := Ideal) (lU m c t)) (ix2 x k)
      = out (aZ m c) (aG m c) (aW m c) (aB m c) (em t a) b := by
  obtain ⟨e, e'⟩ := chunk r hr hr' x
  have hx : r + x.val < 512 := by clear ha hb'; omega
  have hk : q + k.val < 512 := by clear ha hb'; omega
  obtain rfl : a = ⟨r + x.val, hx⟩ := Fin.ext ha
  obtain rfl : b = ⟨q + k.val, hk⟩ := Fin.ext hb'
  have eh : hd (⟨q + k.val, by omega⟩ : Fin 512) = h := Fin.ext (by show (q + k.val) / 128 = h.val; omega)
  rw [tU_at w bt r q hs hr' (by omega)]
  simp only [out, du, em_lo, e, eh, ← em_row, e', hw, hb, act_at, nrm_at, lU_eq, vn, vr, vv, lV_eq, lG_eq]
  rfl

theorem pos (i r j : ℕ) (h : i = r + j) : i = r + j := h

theorem pos0 (i j : ℕ) (h : i = j) : i = 0 + j := h.trans (Nat.zero_add j).symm

theorem emb4 (t : Fin cfg0.N) (y : S512x512.Idx) : ((cfg0.win 4).blk t).view.emb y = ix2 (em t (y 0)) ⟨(y 1).val, by have := (y 1).isLt; change _ < 512 at this; omega⟩ := by
  funext a
  refine Fin.ext ?_
  fin_cases a <;> blk_simp [idx t, em] <;> rfl

/-- The result's half of the array. -/
def half (z : FVec Ideal S4096x1024 .f32) (gv : FVec Ideal S1x512 .f32) (ws : FVec Ideal S1x4x128x128 .f32) (gb : FVec Ideal S1x4x128 .f32) :
    FVec Ideal S4096x1024 .bf16 := fun i => if h : (i 1).val < 512 then out z gv ws gb (i 0) ⟨(i 1).val, h⟩ else 0

theorem half_at (z : FVec Ideal S4096x1024 .f32) (gv : FVec Ideal S1x512 .f32) (ws : FVec Ideal S1x4x128x128 .f32) (gb : FVec Ideal S1x4x128 .f32)
    (p : Fin 4096) (j : Fin 1024) (h : j.val < 512) : half z gv ws gb (ix2 p j) = out z gv ws gb p ⟨j.val, h⟩ := dif_pos h

theorem point4 (c : Dev nD) (t : Fin cfg0.N) (y : S512x512.Idx) :
    out0_4 (iblk m c 0 t) (iblk m c 1 t) (iblk m c 2 t) (iblk m c 3 t) y
      = half (aZ m c) (aG m c) (aW m c) (aB m c) (((cfg0.win 4).blk t).view.emb y) := by
  rw [emb4, half_at _ _ _ _ _ _ (y 1).isLt]
  unfold out0_4
  canon_tiles x h <;>
    obtain ⟨a, b, rfl⟩ : ∃ a b : Fin 128, x = ix2 a b := ⟨_, _, eq_ix2 x⟩
  · exact tile_at m c t (lW3 m c t) (lB3 m c t) 3 (lW3_at m c t) (lB3_at m c t) 384 384 slices_S512x512_o384_384_S128x128 (by norm_num) (by norm_num) rfl a b (y 0) (y 1) (pos _ _ _ h0) (pos _ _ _ h1)
  · exact tile_at m c t (lW3 m c t) (lB3 m c t) 3 (lW3_at m c t) (lB3_at m c t) 256 384 slices_S512x512_o256_384_S128x128 (by norm_num) (by norm_num) rfl a b (y 0) (y 1) (pos _ _ _ h0) (pos _ _ _ h1)
  · exact tile_at m c t (lW3 m c t) (lB3 m c t) 3 (lW3_at m c t) (lB3_at m c t) 128 384 slices_S512x512_o128_384_S128x128 (by norm_num) (by norm_num) rfl a b (y 0) (y 1) (pos _ _ _ h0) (pos _ _ _ h1)
  · exact tile_at m c t (lW3 m c t) (lB3 m c t) 3 (lW3_at m c t) (lB3_at m c t) 0 384 slices_S512x512_o0_384_S128x128 (by norm_num) (by norm_num) rfl a b (y 0) (y 1) (pos0 _ _ h0) (pos _ _ _ h1)
  · exact tile_at m c t (lW2 m c t) (lB2 m c t) 2 (lW2_at m c t) (lB2_at m c t) 384 256 slices_S512x512_o384_256_S128x128 (by norm_num) (by norm_num) rfl a b (y 0) (y 1) (pos _ _ _ h0) (pos _ _ _ h1)
  · exact tile_at m c t (lW2 m c t) (lB2 m c t) 2 (lW2_at m c t) (lB2_at m c t) 256 256 slices_S512x512_o256_256_S128x128 (by norm_num) (by norm_num) rfl a b (y 0) (y 1) (pos _ _ _ h0) (pos _ _ _ h1)
  · exact tile_at m c t (lW2 m c t) (lB2 m c t) 2 (lW2_at m c t) (lB2_at m c t) 128 256 slices_S512x512_o128_256_S128x128 (by norm_num) (by norm_num) rfl a b (y 0) (y 1) (pos _ _ _ h0) (pos _ _ _ h1)
  · exact tile_at m c t (lW2 m c t) (lB2 m c t) 2 (lW2_at m c t) (lB2_at m c t) 0 256 slices_S512x512_o0_256_S128x128 (by norm_num) (by norm_num) rfl a b (y 0) (y 1) (pos0 _ _ h0) (pos _ _ _ h1)
  · exact tile_at m c t (lW1 m c t) (lB1 m c t) 1 (lW1_at m c t) (lB1_at m c t) 384 128 slices_S512x512_o384_128_S128x128 (by norm_num) (by norm_num) rfl a b (y 0) (y 1) (pos _ _ _ h0) (pos _ _ _ h1)
  · exact tile_at m c t (lW1 m c t) (lB1 m c t) 1 (lW1_at m c t) (lB1_at m c t) 256 128 slices_S512x512_o256_128_S128x128 (by norm_num) (by norm_num) rfl a b (y 0) (y 1) (pos _ _ _ h0) (pos _ _ _ h1)
  · exact tile_at m c t (lW1 m c t) (lB1 m c t) 1 (lW1_at m c t) (lB1_at m c t) 128 128 slices_S512x512_o128_128_S128x128 (by norm_num) (by norm_num) rfl a b (y 0) (y 1) (pos _ _ _ h0) (pos _ _ _ h1)
  · exact tile_at m c t (lW1 m c t) (lB1 m c t) 1 (lW1_at m c t) (lB1_at m c t) 0 128 slices_S512x512_o0_128_S128x128 (by norm_num) (by norm_num) rfl a b (y 0) (y 1) (pos0 _ _ h0) (pos _ _ _ h1)
  · exact tile_at m c t (lW0 m c t) (lB0 m c t) 0 (lW0_at m c t) (lB0_at m c t) 384 0 slices_S512x512_o384_0_S128x128 (by norm_num) (by norm_num) rfl a b (y 0) (y 1) (pos _ _ _ h0) (pos0 _ _ h1)
  · exact tile_at m c t (lW0 m c t) (lB0 m c t) 0 (lW0_at m c t) (lB0_at m c t) 256 0 slices_S512x512_o256_0_S128x128 (by norm_num) (by norm_num) rfl a b (y 0) (y 1) (pos _ _ _ h0) (pos0 _ _ h1)
  · exact tile_at m c t (lW0 m c t) (lB0 m c t) 0 (lW0_at m c t) (lB0_at m c t) 128 0 slices_S512x512_o128_0_S128x128 (by norm_num) (by norm_num) rfl a b (y 0) (y 1) (pos _ _ _ h0) (pos0 _ _ h1)
  · exact tile_at m c t (lW0 m c t) (lB0 m c t) 0 (lW0_at m c t) (lB0_at m c t) 0 0 slices_S512x512_o0_0_S128x128 (by norm_num) (by norm_num) rfl a b (y 0) (y 1) (pos0 _ _ h0) (pos0 _ _ h1)

/-- What the array holds in the columns that the kernel writes. -/
theorem final4 (c : Dev nD) (p : Fin 4096) (j : Fin 512) : (dats m 0 c).arrAt 4 (cfgs 0).N (ix2 p ⟨j.val, by omega⟩ : S4096x1024.Idx)
      = out (aZ m c) (aG m c) (aW m c) (aB m c) p j := by
  have key : (dats m 0 c).arrAt 4 cfg0.N = fun i : S4096x1024.Idx => if (i 1 : ℕ) / 512 = 0 then half (aZ m c) (aG m c) (aW m c) (aB m c) i else (dats m 0 c).A 4 i := by
    refine (dats m 0 c).arrAt_eq_of_coversWhere 4 _ (fun β => β (1 : Fin _) = 0) (by decide +kernel) (fun t hf y => ?_) (fun j => Iff.rfl)
    blk_simp
    rw [after0_4]
    exact point4 m c t y
  refine (congrFun key _).trans ?_
  rw [if_pos (by show j.val / 512 = 0; omega)]
  exact half_at _ _ _ _ _ _ j.isLt

/-- The result that the host takes from the array. -/
def res (z : FVec Ideal S4096x1024 .f32) (gv : FVec Ideal S1x512 .f32) (ws : FVec Ideal S1x4x128x128 .f32) (gb : FVec Ideal S1x4x128 .f32) :
    FVec Ideal S4096x512 .bf16 := fun i => out z gv ws gb (i 0) (i 1)

theorem tail_eq (c : Dev nD) : Pipeline.afterTail₀ cfgs (dats m) 0 (V0 m) [hostOps1] c main_v4 = res (aZ m c) (aG m c) (aW m c) (aB m c) := by
  have e : Pipeline.afterTail₀ cfgs (dats m) 0 (V0 m) [hostOps1] c main_v4
      = (extractStridedSlice S4096x512 ![0, 0] ((dats m 0 c).arrAt 4 (cfgs 0).N : FVec Ideal S4096x1024 .bf16) slices_S4096x1024_S4096x512_0_0 : FVec Ideal S4096x512 .bf16) := by
    unfold Pipeline.afterTail₀
    rw [← Pipeline.withArrays_arr spec0 launch0.win.arr_inj c (V0 m c) (fun w => (dats m 0 c).arrAt w (cfgs 0).N) 4]
    simp only [List.flatten_cons, List.flatten_nil, List.append_nil]
    after_results
  rw [e]
  funext i
  obtain ⟨p, j, rfl⟩ : ∃ (p : Fin 4096) (j : Fin 512), i = ix2 p j := ⟨_, _, eq_ix2 i⟩
  refine Eq.trans ?_ (final4 m c p j)
  pointwise []

end Cert.GmlpFwdIdeal.Gmlp

namespace Cert.GmlpFwdRefIdeal.Gmlp

open Cert.GmlpFwdRefIdeal Cert.GmlpFwdRefIdeal.Gen Cert.GmlpFwdRefIdeal.Value Cert.Common
open Cert.GmlpRefIdeal.Gmlp (rU rV rGelu rN rGate rW rd3 rGate_at rN_at rW_at rU_at rGelu_at sel_mul)
open Cert.GmlpBwdIdeal.Gmlp (fU fV fG fW fB gelu du)

variable (m : (ℓ : Loc nD τ sig) → Buf (Elt Ideal) ℓ)

abbrev aZ (c : Dev nD) : FVec Ideal S4096x1024 .f32 := m ((c : Thread nD τ).loc main_arg0)
abbrev aG (c : Dev nD) : FVec Ideal S1x512 .f32 := m ((c : Thread nD τ).loc main_arg1)
abbrev aW (c : Dev nD) : FVec Ideal S1x4x128x128 .f32 := m ((c : Thread nD τ).loc main_arg2)
abbrev aB (c : Dev nD) : FVec Ideal S1x4x128 .f32 := m ((c : Thread nD τ).loc main_arg3)

/-- The gated rows as the reference computes them. -/
def rOut (z : FVec Ideal S4096x1024 .f32) (gv : FVec Ideal S1x512 .f32) (ws : FVec Ideal S1x4x128x128 .f32) (gb : FVec Ideal S1x4x128 .f32) :
    FVec Ideal S4096x512 .bf16 :=
  truncf .bf16 (shapeCast _ (mulf (rGelu (rU z)) (rGate (rN z gv) (rW ws) gb)) shapeCasts_S1x4096x512_S4096x512) bitsLt_bf16_f32

theorem out_eq (c : Dev nD) : res_main_v52 m c = rOut (aZ m c) (aG m c) (aW m c) (aB m c) := rfl

theorem rOut_eq (z : FVec Ideal S4096x1024 .f32) (gv : FVec Ideal S1x512 .f32) (ws : FVec Ideal S1x4x128x128 .f32) (gb : FVec Ideal S1x4x128 .f32) :
    rOut z gv ws gb = Cert.GmlpFwdIdeal.Gmlp.res z gv ws gb := by
  funext i
  obtain ⟨p, j, rfl⟩ : ∃ (p : Fin 4096) (j : Fin 512), i = ix2 p j := ⟨_, _, eq_ix2 i⟩
  have e : rOut z gv ws gb (ix2 p j) = rGelu (rU z) (ix3 0 p j) * rGate (rN z gv) (rW ws) gb (ix3 0 p j) := by
    pointwise [rOut]
  rw [e, rGelu_at, rGate_at, rN_at, rU_at]
  simp only [rW_at, sel_mul]
  rfl

end Cert.GmlpFwdRefIdeal.Gmlp

end
-- ==== Proof.Fwd.GmlpClaim.lean ====
/-
  The value claim of the gMLP, forward: the kernel's result is the reference's.
-/
module

public import proofs.«01_k».proof.Defs
public import proofs.«01_k».proof.Proof.Fwd.Gmlp
public import Idealize.ShloMosaic.Lib.Claim

@[expose] public section

set_option maxRecDepth 16384

noncomputable section

open Idealize.ShloMosaic Idealize.ShloMosaic.TcCoe Idealize.SL.Sem

namespace Cert.GmlpFwdClaim

theorem preserves : Cert.preserves_GmlpFwd_GmlpFwdIdeal := IdealRules.named_const.statement _ _ _ _ _ rfl

theorem algebraic : Cert.algebraic_GmlpFwdIdeal_GmlpFwdRefIdeal := by
  pair_intro
  · run_from Cert.GmlpFwdIdeal.Gen.run_main m g
    · exact Cert.GmlpFwdIdeal.Gen.W_main_arg2 m _ _
    · exact Cert.GmlpFwdIdeal.Gen.W_main_arg3 m _ _
  · run_from Cert.GmlpFwdRefIdeal.Value.run m' g'
    · obtain ⟨h0, h1, h2, h3⟩ := hagree c
      refine Eq.trans ?_ (Cert.GmlpFwdIdeal.Gmlp.tail_eq m c).symm
      refine (Cert.GmlpFwdRefIdeal.Gmlp.out_eq m' c).trans ?_
      refine Eq.trans ?_ (Cert.GmlpFwdRefIdeal.Gmlp.rOut_eq _ _ _ _)
      exact congr (congr (congrArg₂ Cert.GmlpFwdRefIdeal.Gmlp.rOut h0 h1) h2) h3

theorem frame_ref : Cert.quiescent_GmlpFwdRefIdeal := fun m ρ _ =>
  (θ_run Cert.GmlpFwdRefIdeal.defs _ _).mono (fun r h => ⟨fun c => (h c).2, sem_eq_zero_of_no_sems (by decide) r.2⟩)
    (Cert.GmlpFwdRefIdeal.Value.run m ρ)

end Cert.GmlpFwdClaim

end
-- ==== Proof.Fwd.AttnSpec.lean ====
module

public import proofs.«01_k».proof.Proof.Gen.AttnFwdIdeal.Frame
public import Idealize.ShloMosaic.Lib.VecWindow
public import Idealize.ShloMosaic.Lib.Pointwise.Reshape
public import proofs.«01_k».proof.Proof.Gen.AttnFwdIdeal.Skeleton

@[expose] public section

set_option maxRecDepth 16384

noncomputable section

namespace Cert.AttnFwdIdeal.Att

open Idealize.ShloMosaic Idealize.ShloMosaic.TcCoe
open Cert.AttnFwdIdeal Cert.AttnFwdIdeal.Gen

variable {F : FTy → Type} [FloatOps F] [Named F]

/-- Tile `m` of 512 rows of the laid-out keys or values. -/
def kw (K : FVec F S8192x128 .bf16) (m : ℕ) : FVec F S512x128 .bf16 :=
  fun y => K fun a => match a with
    | 0 => ⟨(512 * m + (y 0).val) % 8192, Nat.mod_lt _ (by norm_num)⟩
    | 1 => ⟨(y 1).val, (y 1).isLt⟩

/-- A tile's scores. -/
def zt (q : FVec F S512x128 .bf16) (w : FVec F S512x128 .bf16) : FVec F S512x512 .f32 :=
  matmul dot_S512x128_S512x128_S512x512_1_1_0_0_n_n none q w (constant S512x512 .f32 0x00000000#32)

/-- Softplus in base two. -/
def sp (z : FVec F S512x512 .f32) : FVec F S512x512 .f32 :=
  addf (maximumf z (broadcast S512x512 (Scalar.ofBits .f32 0x00000000#32)))
    (mulf (log (addf (broadcast S512x512 (Scalar.ofBits .f32 0x3F800000#32)) (exp2 (subf (broadcast S512x512 (Scalar.ofBits .f32 0x00000000#32)) (absf z)))))
      (broadcast S512x512 (Named.named κ "log2_e_inv" 0x3FB8AA3B#32)))

/-- A half tile's sums over the later keys of each block. -/
def rt0 (M : FVec F S256x256 .bf16) (s : FVec F S512x512 .f32) : FVec F S512x256 .f32 :=
  matmul dot_S512x256_S256x256_S512x256_1_0_0_1_n_n none (truncf .bf16 (extractStridedSlice S512x256 ![0, 0] s slices_S512x512_o0_0_S512x256) bitsLt_bf16_f32) M
    (constant S512x256 .f32 0x00000000#32)
def rt1 (M : FVec F S256x256 .bf16) (s : FVec F S512x512 .f32) : FVec F S512x256 .f32 :=
  matmul dot_S512x256_S256x256_S512x256_1_0_0_1_n_n none (truncf .bf16 (extractStridedSlice S512x256 ![0, 256] s slices_S512x512_o0_256_S512x256) bitsLt_bf16_f32) M
    (constant S512x256 .f32 0x00000000#32)

/-- The carry after a half tile. -/
def ct (L : IVec S1x256 1) (r C : FVec F S512x256 .f32) : FVec F S512x256 .f32 :=
  addf C (select (broadcastTo S512x256 L broadcasts_S1x256_S512x256)
    (broadcastTo S512x256 (extractStridedSlice S512x1 ![0, 0] r slices_S512x256_o0_0_S512x1) broadcasts_S512x1_S512x256)
    (broadcastTo S512x256 (extractStridedSlice S512x1 ![0, 128] r slices_S512x256_o0_128_S512x1) broadcasts_S512x1_S512x256))

/-- The two halves of a tile. -/
def lo (z : FVec F S512x512 .f32) : FVec F S512x256 .f32 :=
  VecWindow.window z ![0, 0] ![512, 256] inb_S512x512_S512x256_0_0
def hi (z : FVec F S512x512 .f32) : FVec F S512x256 .f32 :=
  VecWindow.window z ![0, 256] ![512, 256] inb_S512x512_S512x256_0_256

/-- A half tile's weights, from its scores, its sums and the carry. -/
def pt (z r C : FVec F S512x256 .f32) : FVec F S512x256 .bf16 := truncf .bf16 (exp2 (subf z (addf r C))) bitsLt_bf16_f32

/-- A tile's weights against its values. -/
def dt (p0 p1 : FVec F S512x256 .bf16) (w : FVec F S512x128 .bf16) : FVec F S512x128 .f32 :=
  matmul dot_S512x512_S512x128_S512x128_1_0_0_1_n_n none
    (concatenate S512x512 1 [⟨S512x256, p0⟩, ⟨S512x256, p1⟩] concatenates_S512x256_S512x256_S512x512_d1) w (constant S512x128 .f32 0x00000000#32)

/-- The result's sum after a tile. -/
def acc (p0 p1 : FVec F S512x256 .bf16) (w : FVec F S512x128 .bf16) (A : FVec F S512x128 .f32) : FVec F S512x128 .f32 := addf A (dt p0 p1 w)

section Payloads
variable (p0 p1 : FVec F S512x256 .bf16) (e0 : FVec F S512x256 .f32) (A : FVec F S512x128 .f32) (w : FVec F S512x128 .bf16)
theorem pay2_eq : k0_pay2 p1 p0 A w = acc p0 p1 w A := by simp only [k0_pay2, shapeCast_id]; rfl
theorem pay3_eq : k0_pay3 p1 p0 A w = acc p0 p1 w A := by simp only [k0_pay3, shapeCast_id]; rfl
theorem pay21_eq : k0_pay21 p1 p0 A w = acc p0 p1 w A := by simp only [k0_pay21, shapeCast_id]; rfl
theorem pay64_eq : k0_pay64 p1 e0 A w = acc (truncf .bf16 e0 bitsLt_bf16_f32) p1 w A := by simp only [k0_pay64, shapeCast_id]; rfl
end Payloads

/-- The carry and the sum after a whole tile, from its scores and sums. -/
def ct2 (L : IVec S1x256 1) (r0 r1 C : FVec F S512x256 .f32) : FVec F S512x256 .f32 := ct L r0 (ct L r1 C)
def acc2 (L : IVec S1x256 1) (z : FVec F S512x512 .f32) (r0 r1 C : FVec F S512x256 .f32) (w : FVec F S512x128 .bf16) (A : FVec F S512x128 .f32) :
    FVec F S512x128 .f32 :=
  acc (pt (lo z) r0 (ct L r1 C)) (pt (hi z) r1 C) w A

section Keys
variable (M : FVec F S256x256 .bf16) (L : IVec S1x256 1) (q : FVec F S512x128 .bf16) (K V : FVec F S8192x128 .bf16)

def zm (m : ℕ) : FVec F S512x512 .f32 := zt q (kw K m)
def r0m (m : ℕ) : FVec F S512x256 .f32 := rt0 M (sp (zm q K m))
def r1m (m : ℕ) : FVec F S512x256 .f32 := rt1 M (sp (zm q K m))

/-- The carry and the sum `n` tiles below tile `m`, tile `m - 1` the first, from those after tile `m`. -/
def cn (C : FVec F S512x256 .f32) (m : ℕ) : ℕ → FVec F S512x256 .f32
  | 0 => C
  | n + 1 => ct2 L (r0m M q K (m - 1 - n)) (r1m M q K (m - 1 - n)) (cn C m n)
def an (C : FVec F S512x256 .f32) (A : FVec F S512x128 .f32) (m : ℕ) : ℕ → FVec F S512x128 .f32
  | 0 => A
  | n + 1 => acc2 L (zm q K (m - 1 - n)) (r0m M q K (m - 1 - n)) (r1m M q K (m - 1 - n)) (cn M L q K C m n) (kw V (m - 1 - n)) (an C A m n)
end Keys

section Reads
variable {sig : RefSig} {κ : Kind} {sp : Space} {s : Shape} {e : EltTy} {Val : EltTy → Type}

/-- A covered load of a part of one whole piece. -/
theorem readCov_window [∀ e, Nonempty (Val e)] (v : View sig κ sp s e) {off off' size : Fin s.rank → ℕ} (inb : ∀ a, off a + size a ≤ s.size a)
    (inb' : ∀ a, off' a + s.size a ≤ s.size a) (w : (Rect.unit off' s.size inb').shape.Idx → Val e) (L : List (View.Piece Val s e)) :
    v.readCov (⟨Rect.unit off' s.size inb', w⟩ :: L) (Rect.unit off size inb).toLoadRect = VecWindow.window w off size inb := by
  show v.readAt Val _ (v.writes Val v.junk _) = _
  rw [View.readAt_unit v _ inb rfl inb, View.read_writes_full]

/-- A load of the newest piece. -/
theorem readAt_newest (v : View sig κ sp s e) (f : v.ty.Contents Val) {off size : Fin s.rank → ℕ} (inb inb' : ∀ a, off a + size a ≤ s.size a)
    (w : (Rect.unit off size inb').shape.Idx → Val e) (L : List (View.Piece Val s e)) :
    v.readAt Val (Rect.unit off size inb).toLoadRect (v.writes Val f (⟨Rect.unit off size inb', w⟩ :: L)) = w := by
  rw [View.readAt_unit v _ inb rfl inb, View.read_writes_cons_put v f inb' w L rfl]
  exact VecWindow.window_put_same _ _ _ _ _
theorem readCov_newest [∀ e, Nonempty (Val e)] (v : View sig κ sp s e) {off size : Fin s.rank → ℕ} (inb inb' : ∀ a, off a + size a ≤ s.size a)
    (w : (Rect.unit off size inb').shape.Idx → Val e) (L : List (View.Piece Val s e)) :
    v.readCov (⟨Rect.unit off size inb', w⟩ :: L) (Rect.unit off size inb).toLoadRect = w := readAt_newest v v.junk inb inb' w L

/-- A load beside the newest piece, on one axis. -/
theorem readAt_beside (v : View sig κ sp s e) (f : v.ty.Contents Val) {off size off' size' : Fin s.rank → ℕ} (inb : ∀ a, off a + size a ≤ s.size a)
    (inb' : ∀ a, off' a + size' a ≤ s.size a) (w : (Rect.unit off' size' inb').shape.Idx → Val e) (L : List (View.Piece Val s e))
    (a : Fin s.rank) (h : off' a + size' a ≤ off a ∨ off a + size a ≤ off' a) :
    v.readAt Val (Rect.unit off size inb).toLoadRect (v.writes Val f (⟨Rect.unit off' size' inb', w⟩ :: L))
      = v.readAt Val (Rect.unit off size inb).toLoadRect (v.writes Val f L) := by
  rw [View.readAt_unit v _ inb rfl inb, View.readAt_unit v _ inb rfl inb]
  funext y
  refine View.read_writes_cons_unit_of_not_mem v f inb' w L _ rfl a ?_
  have e : ((Rect.unit off size inb).emb y a).val = off a + 1 * (y a).val := rfl
  have hy : (y a).val < size a := (y a).isLt
  rw [e]; omega

theorem readAt_hi {F : FTy → Type} {κ : Kind} {sp : Space} (v : View sig κ sp S512x512 .f32) (f : v.ty.Contents (Elt F))
    (w : FVec F S512x256 .f32) (L : List (View.Piece (Elt F) S512x512 .f32)) :
    v.readAt (Elt F) (Rect.unit (s := S512x512) ![0, 256] ![512, 256] inb_S512x512_S512x256_0_256).toLoadRect
      (v.writes (Elt F) f (⟨Rect.unit (s := S512x512) ![0, 0] ![512, 256] inb_S512x512_S512x256_0_0, w⟩ :: L))
      = v.readAt (Elt F) (Rect.unit (s := S512x512) ![0, 256] ![512, 256] inb_S512x512_S512x256_0_256).toLoadRect (v.writes (Elt F) f L) :=
  readAt_beside v f _ _ w L 1 (.inl (Nat.le_refl 256))
theorem readCov_hi {F : FTy → Type} [FloatOps F] {κ : Kind} {sp : Space} (v : View sig κ sp S512x512 .f32)
    (w : FVec F S512x256 .f32) (L : List (View.Piece (Elt F) S512x512 .f32)) :
    v.readCov (⟨Rect.unit (s := S512x512) ![0, 0] ![512, 256] inb_S512x512_S512x256_0_0, w⟩ :: L)
      (Rect.unit (s := S512x512) ![0, 256] ![512, 256] inb_S512x512_S512x256_0_256).toLoadRect
      = v.readCov L (Rect.unit (s := S512x512) ![0, 256] ![512, 256] inb_S512x512_S512x256_0_256).toLoadRect :=
  readAt_hi v v.junk w L
/-- Loads of a whole buffer. -/
theorem full10 {F : FTy → Type} {κ : Kind} {sp : Space} (v : View sig κ sp S512x128 .f32) (f : v.ty.Contents (Elt F)) (inb) :
    v.readAt (Elt F) (Rect.unit (s := S512x128) ![0, 0] ![512, 128] inb).toLoadRect f = v.read (Elt F) f := View.readAt_full v f inb
theorem full11 {F : FTy → Type} {κ : Kind} {sp : Space} (v : View sig κ sp S512x256 .f32) (f : v.ty.Contents (Elt F)) (inb) :
    v.readAt (Elt F) (Rect.unit (s := S512x256) ![0, 0] ![512, 256] inb).toLoadRect f = v.read (Elt F) f := View.readAt_full v f inb
theorem cov12 {F : FTy → Type} [FloatOps F] {κ : Kind} {sp : Space} (v : View sig κ sp S512x512 .f32) {off size : Fin 2 → ℕ}
    (inb : ∀ a : Fin 2, off a + size a ≤ S512x512.size a) (inb' : ∀ a : Fin 2, (![0, 0] : Fin 2 → ℕ) a + (![512, 512] : Fin 2 → ℕ) a ≤ S512x512.size a)
    (w : (Rect.unit (s := S512x512) ![0, 0] ![512, 512] inb').shape.Idx → Elt F .f32) (L : List (View.Piece (Elt F) S512x512 .f32)) :
    v.readCov (⟨Rect.unit (s := S512x512) ![0, 0] ![512, 512] inb', w⟩ :: L) (Rect.unit (s := S512x512) off size inb).toLoadRect = VecWindow.window w off size inb :=
  readCov_window (s := S512x512) v (off' := ![0, 0]) inb inb' w L
/-- A part of a load of the whole. -/
theorem readAt_window (v : View sig κ sp s e) (f : v.ty.Contents Val) {off size : Fin s.rank → ℕ} (inb : ∀ a, off a + size a ≤ s.size a) :
    v.readAt Val (Rect.unit off size inb).toLoadRect f = VecWindow.window (v.read Val f) off size inb := View.readAt_unit v f inb rfl inb

/-- A load of a tile of the laid-out keys or values. -/
theorem readAt_tile {F : FTy → Type} {κ : Kind} {sp : Space} (v : View sig κ sp S8192x128 .bf16) (f : v.ty.Contents (Elt F)) {off : Fin 2 → ℕ}
    (inb : ∀ a, off a + S512x128.size a ≤ S8192x128.size a) (m : ℕ) (h : off = ![512 * m, 0]) :
    v.readAt (Elt F) (Rect.unit (s := S8192x128) off ![512, 128] inb).toLoadRect f = kw (v.read (Elt F) f) m := by
  subst h
  rw [View.readAt_unit v f inb rfl inb]
  funext y
  have h0 := inb 0
  have hy := (y 0).isLt
  refine congrArg (v.read (Elt F) f) (funext fun a => Fin.ext ?_)
  match a with
  | 0 =>
    show 512 * m + 1 * (y 0).val = (512 * m + (y 0).val) % 8192
    have h0 : 512 * m + 512 ≤ 8192 := inb 0
    have hy : (y 0).val < 512 := (y 0).isLt
    rw [Nat.mod_eq_of_lt (by omega)]; omega
  | 1 => show 0 + 1 * (y 1).val = (y 1).val; omega
end Reads

end Cert.AttnFwdIdeal.Att
-- ==== Proof.Fwd.AttnDiag.lean ====
module

public import proofs.«01_k».proof.Proof.Fwd.AttnSpec

@[expose] public section

set_option maxRecDepth 16384

noncomputable section

namespace Cert.AttnFwdIdeal.Att

open Idealize.ShloMosaic Idealize.ShloMosaic.TcCoe
open Cert.AttnFwdIdeal Cert.AttnFwdIdeal.Gen

variable {F : FTy → Type} [FloatOps F] [Named F]

/-- The zero the buffers start from. -/
def zero256 : FVec F S512x256 .f32 := broadcast S512x256 (Scalar.ofBits .f32 0x00000000#32)
def zero128 : FVec F S512x128 .f32 := broadcast S512x128 (Scalar.ofBits .f32 0x00000000#32)

/-- The late rows' scores against a tile, their softplus, and the masked sums. -/
def zH (q : FVec F S512x128 .bf16) (w : FVec F S512x128 .bf16) : FVec F S256x512 .f32 :=
  matmul dot_S256x128_S512x128_S256x512_1_1_0_0_n_n none (extractStridedSlice S256x128 ![256, 0] q slices_S512x128_o256_0_S256x128) w (constant S256x512 .f32 0x00000000#32)
def spH (z : FVec F S256x512 .f32) : FVec F S256x512 .f32 :=
  addf (maximumf z (broadcast S256x512 (Scalar.ofBits .f32 0x00000000#32)))
    (mulf (log (addf (broadcast S256x512 (Scalar.ofBits .f32 0x3F800000#32)) (exp2 (subf (broadcast S256x512 (Scalar.ofBits .f32 0x00000000#32)) (absf z)))))
      (broadcast S256x512 (Named.named κ "log2_e_inv" 0x3FB8AA3B#32)))
def sH (m : IVec S512x512 1) (z : FVec F S256x512 .f32) : FVec F S256x512 .f32 :=
  select (extractStridedSlice S256x512 ![256, 0] m slices_S512x512_o256_0_S256x512) (spH z) (broadcast S256x512 (Scalar.ofBits .f32 0x00000000#32))
def rH0 (M : FVec F S256x256 .bf16) (s : FVec F S256x512 .f32) : FVec F S256x256 .f32 :=
  matmul dot_S256x256_S256x256_S256x256_1_0_0_1_n_n none (truncf .bf16 (extractStridedSlice S256x256 ![0, 0] s slices_S256x512_o0_0_S256x256) bitsLt_bf16_f32) M
    (constant S256x256 .f32 0x00000000#32)
def rH1 (M : FVec F S256x256 .bf16) (s : FVec F S256x512 .f32) : FVec F S256x256 .f32 :=
  matmul dot_S256x256_S256x256_S256x256_1_0_0_1_n_n none (truncf .bf16 (extractStridedSlice S256x256 ![0, 256] s slices_S256x512_o0_256_S256x256) bitsLt_bf16_f32) M
    (constant S256x256 .f32 0x00000000#32)
def ctH (L : IVec S1x256 1) (r C : FVec F S256x256 .f32) : FVec F S256x256 .f32 :=
  addf C (select (broadcastTo S256x256 L broadcasts_S1x256_S256x256)
    (broadcastTo S256x256 (extractStridedSlice S256x1 ![0, 0] r slices_S256x256_o0_0_S256x1) broadcasts_S256x1_S256x256)
    (broadcastTo S256x256 (extractStridedSlice S256x1 ![0, 128] r slices_S256x256_o0_128_S256x1) broadcasts_S256x1_S256x256))
/-- The late rows' masked weights, and their part of the result's sum. -/
def pH (m : IVec S256x256 1) (z r C : FVec F S256x256 .f32) : FVec F S256x256 .bf16 :=
  truncf .bf16 (select m (exp2 (subf z (addf r C))) (broadcast S256x256 (Scalar.ofBits .f32 0x00000000#32))) bitsLt_bf16_f32
def accH (p0 p1 : FVec F S256x256 .bf16) (w : FVec F S512x128 .bf16) (A : FVec F S256x128 .f32) : FVec F S256x128 .f32 :=
  addf A (matmul dot_S256x512_S512x128_S256x128_1_0_0_1_n_n none
    (concatenate S256x512 1 [⟨S256x256, p0⟩, ⟨S256x256, p1⟩] concatenates_S256x256_S256x256_S256x512_d1) w (constant S256x128 .f32 0x00000000#32))
/-- A whole tile's masked weights. -/
def pm (m : IVec S512x256 1) (z r C : FVec F S512x256 .f32) : FVec F S512x256 .bf16 :=
  truncf .bf16 (select m (exp2 (subf z (addf r C))) (broadcast S512x256 (Scalar.ofBits .f32 0x00000000#32))) bitsLt_bf16_f32
def sm (m : IVec S512x512 1) (z : FVec F S512x512 .f32) : FVec F S512x512 .f32 := select m (sp z) (broadcast S512x512 (Scalar.ofBits .f32 0x00000000#32))

/-- The two halves of the late rows' scores. -/
def loH (z : FVec F S256x512 .f32) : FVec F S256x256 .f32 := VecWindow.window z ![0, 0] ![256, 256] (Fin.forall_fin_two.2 ⟨by decide, by decide⟩)
def hiH (z : FVec F S256x512 .f32) : FVec F S256x256 .f32 := VecWindow.window z ![0, 256] ![256, 256] (Fin.forall_fin_two.2 ⟨by decide, by decide⟩)
/-- The late rows of an array, and an array with its late rows replaced. -/
def late256 (C : FVec F S512x256 .f32) : FVec F S256x256 .f32 := VecWindow.window C ![256, 0] ![256, 256] inb_S512x256_S256x256_256_0
def late128 (A : FVec F S512x128 .f32) : FVec F S256x128 .f32 := VecWindow.window A ![256, 0] ![256, 128] inb_S512x128_S256x128_256_0
def put256 (C : FVec F S512x256 .f32) (w : FVec F S256x256 .f32) : FVec F S512x256 .f32 := VecWindow.put C ![256, 0] ![256, 256] w
def put128 (A : FVec F S512x128 .f32) (w : FVec F S256x128 .f32) : FVec F S512x128 .f32 := VecWindow.put A ![256, 0] ![256, 128] w

section Diagonal
variable (M : FVec F S256x256 .bf16) (L : IVec S1x256 1) (m1 m0 : IVec S512x512 1) (q : FVec F S512x128 .bf16) (K V : FVec F S8192x128 .bf16) (I : ℕ)

/-- The carry and the sum after the late rows' tile. -/
def sL : FVec F S256x512 .f32 := sH m1 (zH q (kw K (2 * I + 1)))
def cL1 : FVec F S256x256 .f32 := ctH L (rH1 M (sL m1 q K I)) (late256 zero256)
def cL : FVec F S512x256 .f32 := put256 zero256 (ctH L (rH0 M (sL m1 q K I)) (cL1 M L m1 q K I))
def aL : FVec F S512x128 .f32 :=
  put128 zero128 (accH
    (pH (extractStridedSlice S256x256 ![256, 0] m1 slices_S512x512_o256_0_S256x256) (loH (zH q (kw K (2 * I + 1)))) (rH0 M (sL m1 q K I)) (cL1 M L m1 q K I))
    (pH (extractStridedSlice S256x256 ![256, 256] m1 slices_S512x512_o256_256_S256x256) (hiH (zH q (kw K (2 * I + 1)))) (rH1 M (sL m1 q K I)) (late256 zero256))
    (kw V (2 * I + 1)) (late128 zero128))
/-- The carry and the sum after the diagonal's tiles. -/
def sD : FVec F S512x512 .f32 := sm m0 (zm q K (2 * I))
def cD1 : FVec F S512x256 .f32 := ct L (rt1 M (sD m0 q K I)) (cL M L m1 q K I)
def cD : FVec F S512x256 .f32 := ct L (rt0 M (sD m0 q K I)) (cD1 M L m1 m0 q K I)
def aD : FVec F S512x128 .f32 :=
  acc (pm (extractStridedSlice S512x256 ![0, 0] m0 slices_S512x512_o0_0_S512x256) (lo (zm q K (2 * I))) (rt0 M (sD m0 q K I)) (cD1 M L m1 m0 q K I))
    (pm (extractStridedSlice S512x256 ![0, 256] m0 slices_S512x512_o0_256_S512x256) (hi (zm q K (2 * I))) (rt1 M (sD m0 q K I)) (cL M L m1 q K I))
    (kw V (2 * I)) (aL M L m1 q K V I)
end Diagonal

theorem accH_fold (p0 p1 : FVec F S256x256 .bf16) (w : FVec F S512x128 .bf16) (A : FVec F S256x128 .f32) :
    addf A (matmul dot_S256x512_S512x128_S256x128_1_0_0_1_n_n none
      (concatenate S256x512 1 [⟨S256x256, p0⟩, ⟨S256x256, p1⟩] concatenates_S256x256_S256x256_S256x512_d1) w (constant S256x128 .f32 0x00000000#32)) = accH p0 p1 w A := rfl

section Reads
variable {sig : RefSig} {κ : Kind} {sp : Space}

theorem readAt_hiH {F : FTy → Type} {κ : Kind} {sp : Space} (v : View sig κ sp S512x512 .f32) (f : v.ty.Contents (Elt F))
    (w : FVec F S256x256 .f32) (L : List (View.Piece (Elt F) S512x512 .f32)) :
    v.readAt (Elt F) (Rect.unit (s := S512x512) ![256, 256] ![256, 256] inb_S512x512_S256x256_256_256).toLoadRect
      (v.writes (Elt F) f (⟨Rect.unit (s := S512x512) ![256, 0] ![256, 256] inb_S512x512_S256x256_256_0, w⟩ :: L))
      = v.readAt (Elt F) (Rect.unit (s := S512x512) ![256, 256] ![256, 256] inb_S512x512_S256x256_256_256).toLoadRect (v.writes (Elt F) f L) :=
  readAt_beside v f _ _ w L 1 (.inl (Nat.le_refl 256))
theorem readCov_hiH {F : FTy → Type} [FloatOps F] {κ : Kind} {sp : Space} (v : View sig κ sp S512x512 .f32)
    (w : FVec F S256x256 .f32) (L : List (View.Piece (Elt F) S512x512 .f32)) :
    v.readCov (⟨Rect.unit (s := S512x512) ![256, 0] ![256, 256] inb_S512x512_S256x256_256_0, w⟩ :: L)
      (Rect.unit (s := S512x512) ![256, 256] ![256, 256] inb_S512x512_S256x256_256_256).toLoadRect
      = v.readCov L (Rect.unit (s := S512x512) ![256, 256] ![256, 256] inb_S512x512_S256x256_256_256).toLoadRect :=
  readAt_hiH v v.junk w L
/-- A covered load inside the newest piece. -/
theorem readCov_inside {s : Shape} {e : EltTy} {Val : EltTy → Type} [∀ e, Nonempty (Val e)] (v : View sig κ sp s e) {off off' size size' d : Fin s.rank → ℕ}
    (inb : ∀ a, off a + size a ≤ s.size a) (inb' : ∀ a, off' a + size' a ≤ s.size a) (h : ∀ a, off a = off' a + d a ∧ d a + size a ≤ size' a)
    (w : (Rect.unit off' size' inb').shape.Idx → Val e) (L : List (View.Piece Val s e)) :
    v.readCov (⟨Rect.unit off' size' inb', w⟩ :: L) (Rect.unit off size inb).toLoadRect
      = VecWindow.window (s := ⟨s.rank, size'⟩) w d size (fun a => (h a).2) := by
  have e : (fun a => off a - off' a) = d := funext fun a => by have := (h a).1; omega
  subst e
  show v.readAt Val _ (v.writes Val v.junk _) = _
  rw [View.readAt_unit v _ inb rfl inb, View.read_writes_cons_put v v.junk inb' w L rfl]
  exact VecWindow.window_put_of_inside _ _ _ _ _ _ _ fun a => ⟨by have := (h a).1; omega, by have := h a; omega⟩
/-- A covered load of a whole piece written over at one place. -/
theorem readCov_put {s : Shape} {e : EltTy} {Val : EltTy → Type} [∀ e, Nonempty (Val e)] (v : View sig κ sp s e) {off0 off1 off size : Fin s.rank → ℕ}
    (inb0 : ∀ a, off0 a + s.size a ≤ s.size a) (inb1 : ∀ a, off1 a + s.size a ≤ s.size a) (inb : ∀ a, off a + size a ≤ s.size a)
    (w : (Rect.unit off0 s.size inb0).shape.Idx → Val e) (b : (Rect.unit off size inb).shape.Idx → Val e) (L : List (View.Piece Val s e)) :
    v.readCov (⟨Rect.unit off size inb, b⟩ :: ⟨Rect.unit off0 s.size inb0, w⟩ :: L) (Rect.unit off1 s.size inb1).toLoadRect = VecWindow.put w off size b := by
  show v.readAt Val _ (v.writes Val v.junk _) = _
  rw [View.readAt_full v _ inb1, View.read_writes_cons_put v v.junk inb b _ rfl, View.read_writes_full v v.junk inb0 w L]
theorem readCov_put2 {s : Shape} {e : EltTy} {Val : EltTy → Type} [∀ e, Nonempty (Val e)] (v : View sig κ sp s e) {off0 off1 off size : Fin s.rank → ℕ}
    (inb0 : ∀ a, off0 a + s.size a ≤ s.size a) (inb1 : ∀ a, off1 a + s.size a ≤ s.size a) (inb inb' : ∀ a, off a + size a ≤ s.size a)
    (w : (Rect.unit off0 s.size inb0).shape.Idx → Val e) (b : (Rect.unit off size inb).shape.Idx → Val e) (a : (Rect.unit off size inb').shape.Idx → Val e) (L : List (View.Piece Val s e)) :
    v.readCov (⟨Rect.unit off size inb, b⟩ :: ⟨Rect.unit off size inb', a⟩ :: ⟨Rect.unit off0 s.size inb0, w⟩ :: L) (Rect.unit off1 s.size inb1).toLoadRect = VecWindow.put w off size b := by
  show v.readAt Val _ (v.writes Val v.junk _) = _
  rw [View.readAt_full v _ inb1, View.read_writes_cons_put v v.junk inb b _ rfl, View.read_writes_cons_put v v.junk inb' a _ rfl, View.read_writes_full v v.junk inb0 w L]
  exact VecWindow.put_put_same _ _ _ _ _

/-- Loads inside the late rows' scores. -/
theorem cov14_lo {F : FTy → Type} [FloatOps F] {κ : Kind} {sp : Space} (v : View sig κ sp S512x512 .f32)
    (ia : ∀ a : Fin 2, (![256, 0] : Fin 2 → ℕ) a + (![256, 512] : Fin 2 → ℕ) a ≤ S512x512.size a) (ib : ∀ a : Fin 2, (![256, 0] : Fin 2 → ℕ) a + (![256, 256] : Fin 2 → ℕ) a ≤ S512x512.size a)
    (w : (Rect.unit (s := S512x512) ![256, 0] ![256, 512] ia).shape.Idx → Elt F .f32) (L : List (View.Piece (Elt F) S512x512 .f32)) :
    v.readCov (⟨Rect.unit (s := S512x512) ![256, 0] ![256, 512] ia, w⟩ :: L)
      (Rect.unit (s := S512x512) ![256, 0] ![256, 256] ib).toLoadRect = loH (F := F) w :=
  readCov_inside (s := S512x512) v (off' := ![256, 0]) (size' := ![256, 512]) (off := ![256, 0]) (size := ![256, 256]) (d := ![0, 0]) ib ia (Fin.forall_fin_two.2 ⟨by decide, by decide⟩) w L
theorem cov14_hi {F : FTy → Type} [FloatOps F] {κ : Kind} {sp : Space} (v : View sig κ sp S512x512 .f32)
    (ia : ∀ a : Fin 2, (![256, 0] : Fin 2 → ℕ) a + (![256, 512] : Fin 2 → ℕ) a ≤ S512x512.size a) (ib : ∀ a : Fin 2, (![256, 256] : Fin 2 → ℕ) a + (![256, 256] : Fin 2 → ℕ) a ≤ S512x512.size a)
    (w : (Rect.unit (s := S512x512) ![256, 0] ![256, 512] ia).shape.Idx → Elt F .f32) (L : List (View.Piece (Elt F) S512x512 .f32)) :
    v.readCov (⟨Rect.unit (s := S512x512) ![256, 0] ![256, 512] ia, w⟩ :: L)
      (Rect.unit (s := S512x512) ![256, 256] ![256, 256] ib).toLoadRect = hiH (F := F) w :=
  readCov_inside (s := S512x512) v (off' := ![256, 0]) (size' := ![256, 512]) (off := ![256, 256]) (size := ![256, 256]) (d := ![0, 256]) ib ia (Fin.forall_fin_two.2 ⟨by decide, by decide⟩) w L

theorem cov11_late {F : FTy → Type} [FloatOps F] {κ : Kind} {sp : Space} (v : View sig κ sp S512x256 .f32) (ia : ∀ a : Fin 2, (![0, 0] : Fin 2 → ℕ) a + (![512, 256] : Fin 2 → ℕ) a ≤ S512x256.size a) (ib : ∀ a : Fin 2, (![256, 0] : Fin 2 → ℕ) a + (![256, 256] : Fin 2 → ℕ) a ≤ S512x256.size a) (w : (Rect.unit (s := S512x256) ![0, 0] ![512, 256] ia).shape.Idx → Elt F .f32) (L : List (View.Piece (Elt F) S512x256 .f32)) :
    v.readCov (⟨Rect.unit (s := S512x256) ![0, 0] ![512, 256] ia, w⟩ :: L) (Rect.unit (s := S512x256) ![256, 0] ![256, 256] ib).toLoadRect = late256 (F := F) w :=
  readCov_window (s := S512x256) v (off := ![256, 0]) (size := ![256, 256]) (off' := ![0, 0]) ib ia w L
theorem cov11_put2 {F : FTy → Type} [FloatOps F] {κ : Kind} {sp : Space} (v : View sig κ sp S512x256 .f32) (ia ia' : ∀ a : Fin 2, (![0, 0] : Fin 2 → ℕ) a + (![512, 256] : Fin 2 → ℕ) a ≤ S512x256.size a) (ib : ∀ a : Fin 2, (![256, 0] : Fin 2 → ℕ) a + (![256, 256] : Fin 2 → ℕ) a ≤ S512x256.size a) (w : (Rect.unit (s := S512x256) ![0, 0] ![512, 256] ia).shape.Idx → Elt F .f32) (b : (Rect.unit (s := S512x256) ![256, 0] ![256, 256] ib).shape.Idx → Elt F .f32) (a : (Rect.unit (s := S512x256) ![256, 0] ![256, 256] ib).shape.Idx → Elt F .f32) (L : List (View.Piece (Elt F) S512x256 .f32)) :
    v.readCov (⟨Rect.unit (s := S512x256) ![256, 0] ![256, 256] ib, b⟩ :: ⟨Rect.unit (s := S512x256) ![256, 0] ![256, 256] ib, a⟩ :: ⟨Rect.unit (s := S512x256) ![0, 0] ![512, 256] ia, w⟩ :: L) (Rect.unit (s := S512x256) ![0, 0] ![512, 256] ia').toLoadRect = put256 (F := F) w b :=
  readCov_put2 (s := S512x256) v (off0 := ![0, 0]) (off1 := ![0, 0]) (off := ![256, 0]) (size := ![256, 256]) ia ia' ib ib w b a L

theorem cov10_late {F : FTy → Type} [FloatOps F] {κ : Kind} {sp : Space} (v : View sig κ sp S512x128 .f32) (ia : ∀ a : Fin 2, (![0, 0] : Fin 2 → ℕ) a + (![512, 128] : Fin 2 → ℕ) a ≤ S512x128.size a) (ib : ∀ a : Fin 2, (![256, 0] : Fin 2 → ℕ) a + (![256, 128] : Fin 2 → ℕ) a ≤ S512x128.size a) (w : (Rect.unit (s := S512x128) ![0, 0] ![512, 128] ia).shape.Idx → Elt F .f32) (L : List (View.Piece (Elt F) S512x128 .f32)) :
    v.readCov (⟨Rect.unit (s := S512x128) ![0, 0] ![512, 128] ia, w⟩ :: L) (Rect.unit (s := S512x128) ![256, 0] ![256, 128] ib).toLoadRect = late128 (F := F) w :=
  readCov_window (s := S512x128) v (off := ![256, 0]) (size := ![256, 128]) (off' := ![0, 0]) ib ia w L
theorem cov10_put {F : FTy → Type} [FloatOps F] {κ : Kind} {sp : Space} (v : View sig κ sp S512x128 .f32) (ia ia' : ∀ a : Fin 2, (![0, 0] : Fin 2 → ℕ) a + (![512, 128] : Fin 2 → ℕ) a ≤ S512x128.size a) (ib : ∀ a : Fin 2, (![256, 0] : Fin 2 → ℕ) a + (![256, 128] : Fin 2 → ℕ) a ≤ S512x128.size a) (w : (Rect.unit (s := S512x128) ![0, 0] ![512, 128] ia).shape.Idx → Elt F .f32) (b : (Rect.unit (s := S512x128) ![256, 0] ![256, 128] ib).shape.Idx → Elt F .f32) (L : List (View.Piece (Elt F) S512x128 .f32)) :
    v.readCov (⟨Rect.unit (s := S512x128) ![256, 0] ![256, 128] ib, b⟩ :: ⟨Rect.unit (s := S512x128) ![0, 0] ![512, 128] ia, w⟩ :: L) (Rect.unit (s := S512x128) ![0, 0] ![512, 128] ia').toLoadRect = put128 (F := F) w b :=
  readCov_put (s := S512x128) v (off0 := ![0, 0]) (off1 := ![0, 0]) (off := ![256, 0]) (size := ![256, 128]) ia ia' ib w b L
end Reads

end Cert.AttnFwdIdeal.Att
-- ==== Proof.Fwd.AttnCarry.lean ====
module

public import proofs.«01_k».proof.Proof.Fwd.AttnDiag

@[expose] public section

set_option maxRecDepth 16384

noncomputable section

namespace Cert.AttnFwdIdeal.Att

open Idealize.ShloMosaic Idealize.ShloMosaic.TcCoe
open Cert.AttnFwdIdeal Cert.AttnFwdIdeal.Gen

variable {F : FTy → Type} [FloatOps F] [Named F]

/-- The kept carries with a key block's two lanes written from the carry, and the same for the late rows. -/
def tw (v0 : IVec S1x128 32) (w : BitVec 32) (C : FVec F S512x256 .f32) (X : FVec F S1x512x128 .f32) : FVec F S1x512x128 .f32 :=
  shapeCast S1x512x128 (select (broadcastTo S512x128 (cmpi .eq v0 (broadcast S1x128 w)) broadcasts_S1x128_S512x128)
    (extractStridedSlice S512x128 ![0, 0] C slices_S512x256_o0_0_S512x128)
    (select (broadcastTo S512x128 (cmpi .eq v0 (broadcast S1x128 (Scalar.addi 32#32 w))) broadcasts_S1x128_S512x128)
      (extractStridedSlice S512x128 ![0, 128] C slices_S512x256_o0_128_S512x128)
      (shapeCast S512x128 X shapeCasts_S1x512x128_S512x128))) shapeCasts_S512x128_S1x512x128
def twH (v0 : IVec S1x128 32) (w : BitVec 32) (C : FVec F S256x256 .f32) (X : FVec F S1x256x128 .f32) : FVec F S1x256x128 .f32 :=
  shapeCast S1x256x128 (select (broadcastTo S256x128 (cmpi .eq v0 (broadcast S1x128 w)) broadcasts_S1x128_S256x128)
    (extractStridedSlice S256x128 ![0, 0] C slices_S256x256_o0_0_S256x128)
    (select (broadcastTo S256x128 (cmpi .eq v0 (broadcast S1x128 (Scalar.addi 32#32 w))) broadcasts_S1x128_S256x128)
      (extractStridedSlice S256x128 ![0, 128] C slices_S256x256_o0_128_S256x128)
      (shapeCast S256x128 X shapeCasts_S1x256x128_S256x128))) shapeCasts_S256x128_S1x256x128

/-- The key blocks of a tile's two halves. -/
def w1 (w : BitVec 32) : BitVec 32 := Scalar.addi (Scalar.muli 2#32 w) 1#32
def w0 (w : BitVec 32) : BitVec 32 := Scalar.addi (Scalar.muli 2#32 w) 0#32

/-- The kept carries after a whole tile. -/
def tw2 (v0 : IVec S1x128 32) (w : BitVec 32) (L : IVec S1x256 1) (r1 C : FVec F S512x256 .f32) (X : FVec F S1x512x128 .f32) : FVec F S1x512x128 .f32 :=
  tw v0 (w0 w) (ct L r1 C) (tw v0 (w1 w) C X)

/-- The zeros the kept carries start from, their late rows, and the late rows replaced. -/
def zeroC : FVec F S1x512x128 .f32 := k0_pay94
def lateC (X : FVec F S1x512x128 .f32) : FVec F S1x256x128 .f32 := VecWindow.window X ![0, 256, 0] ![1, 256, 128] inb_S1x512x128_S1x256x128_0_256_0
def putC (X : FVec F S1x512x128 .f32) (w : FVec F S1x256x128 .f32) : FVec F S1x512x128 .f32 := VecWindow.put X ![0, 256, 0] ![1, 256, 128] w

section Diagonal
variable (v0 : IVec S1x128 32) (a : BitVec 32) (M : FVec F S256x256 .bf16) (L : IVec S1x256 1) (m1 m0 : IVec S512x512 1) (q : FVec F S512x128 .bf16) (K : FVec F S8192x128 .bf16) (I : ℕ)
/-- The kept carries after the late rows' tile, and after the diagonal's. -/
def tL : FVec F S1x512x128 .f32 :=
  putC zeroC (twH v0 (w0 (w1 a)) (cL1 M L m1 q K I) (twH v0 (w1 (w1 a)) (late256 zero256) (lateC zeroC)))
def tD : FVec F S1x512x128 .f32 := tw2 v0 (Scalar.muli 2#32 a) L (rt1 M (sD m0 q K I)) (cL M L m1 q K I) (tL v0 a M L m1 q K I)
end Diagonal

section Payloads
variable (v0 : IVec S1x128 32) (w : BitVec 32) (C : FVec F S512x256 .f32) (X : FVec F S1x512x128 .f32) (D : FVec F S256x256 .f32) (Y : FVec F S1x256x128 .f32)
theorem pay15_eq : k0_pay15 v0 w C X = tw v0 (w1 (Scalar.addi w 1#32)) C X := by simp only [k0_pay15, shapeCast_id]; rfl
theorem pay18_eq : k0_pay18 v0 w C X = tw v0 (w0 w) C X := by simp only [k0_pay18, shapeCast_id]; rfl
theorem pay28_eq : k0_pay28 v0 w C X = tw v0 (w1 (Scalar.muli 2#32 w)) C X := by simp only [k0_pay28, shapeCast_id]; rfl
theorem pay32_eq : k0_pay32 v0 w C X = tw v0 (w0 w) C X := by simp only [k0_pay32, shapeCast_id]; rfl
end Payloads

section Folds
theorem tw_fold (v0 : IVec S1x128 32) (w : BitVec 32) (C : FVec F S512x256 .f32) (X : FVec F S1x512x128 .f32) (b1 b2 s1 s2 c1 c2) :
    shapeCast S1x512x128 (select (broadcastTo S512x128 (cmpi .eq v0 (broadcast S1x128 w)) b1) (extractStridedSlice S512x128 ![0, 0] C s1)
      (select (broadcastTo S512x128 (cmpi .eq v0 (broadcast S1x128 (Scalar.addi 32#32 w))) b2)
        (extractStridedSlice S512x128 ![0, 128] C s2) (shapeCast S512x128 X c1))) c2 = tw v0 w C X := rfl
theorem twH_fold (v0 : IVec S1x128 32) (w : BitVec 32) (C : FVec F S256x256 .f32) (X : FVec F S1x256x128 .f32) (b1 b2 s1 s2 c1 c2) :
    shapeCast S1x256x128 (select (broadcastTo S256x128 (cmpi .eq v0 (broadcast S1x128 w)) b1) (extractStridedSlice S256x128 ![0, 0] C s1)
      (select (broadcastTo S256x128 (cmpi .eq v0 (broadcast S1x128 (Scalar.addi 32#32 w))) b2)
        (extractStridedSlice S256x128 ![0, 128] C s2) (shapeCast S256x128 X c1))) c2 = twH v0 w C X := rfl
theorem tw_congr {v0 : IVec S1x128 32} {w w' : BitVec 32} {C C' : FVec F S512x256 .f32} {X X' : FVec F S1x512x128 .f32} (hw : w = w') (hC : C = C') (hX : X = X') :
    tw v0 w C X = tw v0 w' C' X' := by subst hw hC hX; rfl
theorem twH_congr {v0 : IVec S1x128 32} {w w' : BitVec 32} {C C' : FVec F S256x256 .f32} {X X' : FVec F S1x256x128 .f32} (hw : w = w') (hC : C = C') (hX : X = X') :
    twH v0 w C X = twH v0 w' C' X' := by subst hw hC hX; rfl
theorem putC_congr {X X' : FVec F S1x512x128 .f32} {w w' : FVec F S1x256x128 .f32} (hX : X = X') (hw : w = w') : putC X w = putC X' w' := by subst hX hw; rfl
end Folds

section Reads
variable {sig : RefSig} {κ : Kind} {sp : Space} (v : View sig κ sp S1x512x128 .f32)
theorem full7 (f : v.ty.Contents (Elt F)) (inb) :
    v.readAt (Elt F) (Rect.unit (s := S1x512x128) ![0, 0, 0] ![1, 512, 128] inb).toLoadRect f = v.read (Elt F) f := View.readAt_full v f inb
theorem cov7_late (ia : ∀ a : Fin 3, (![0, 0, 0] : Fin 3 → ℕ) a + (![1, 512, 128] : Fin 3 → ℕ) a ≤ S1x512x128.size a) (ib : ∀ a : Fin 3, (![0, 256, 0] : Fin 3 → ℕ) a + (![1, 256, 128] : Fin 3 → ℕ) a ≤ S1x512x128.size a)
    (w : (Rect.unit (s := S1x512x128) ![0, 0, 0] ![1, 512, 128] ia).shape.Idx → Elt F .f32) (L : List (View.Piece (Elt F) S1x512x128 .f32)) :
    v.readCov (⟨Rect.unit (s := S1x512x128) ![0, 0, 0] ![1, 512, 128] ia, w⟩ :: L) (Rect.unit (s := S1x512x128) ![0, 256, 0] ![1, 256, 128] ib).toLoadRect = lateC (F := F) w :=
  readCov_window (s := S1x512x128) v (off := ![0, 256, 0]) (size := ![1, 256, 128]) (off' := ![0, 0, 0]) ib ia w L
theorem cov7_put2 (ia ia' : ∀ a : Fin 3, (![0, 0, 0] : Fin 3 → ℕ) a + (![1, 512, 128] : Fin 3 → ℕ) a ≤ S1x512x128.size a) (ib : ∀ a : Fin 3, (![0, 256, 0] : Fin 3 → ℕ) a + (![1, 256, 128] : Fin 3 → ℕ) a ≤ S1x512x128.size a)
    (w : (Rect.unit (s := S1x512x128) ![0, 0, 0] ![1, 512, 128] ia).shape.Idx → Elt F .f32) (b a : (Rect.unit (s := S1x512x128) ![0, 256, 0] ![1, 256, 128] ib).shape.Idx → Elt F .f32) (L : List (View.Piece (Elt F) S1x512x128 .f32)) :
    v.readCov (⟨Rect.unit (s := S1x512x128) ![0, 256, 0] ![1, 256, 128] ib, b⟩ :: ⟨Rect.unit (s := S1x512x128) ![0, 256, 0] ![1, 256, 128] ib, a⟩ :: ⟨Rect.unit (s := S1x512x128) ![0, 0, 0] ![1, 512, 128] ia, w⟩ :: L)
      (Rect.unit (s := S1x512x128) ![0, 0, 0] ![1, 512, 128] ia').toLoadRect = putC (F := F) w b :=
  readCov_put2 (s := S1x512x128) v (off0 := ![0, 0, 0]) (off1 := ![0, 0, 0]) (off := ![0, 256, 0]) (size := ![1, 256, 128]) ia ia' ib ib w b a L
theorem rd7 (f : v.ty.Contents (Elt F)) (inb : ∀ a : Fin 3, (![0, 0, 0] : Fin 3 → ℕ) a + (![1, 512, 128] : Fin 3 → ℕ) a ≤ S1x512x128.size a)
    (w : (Rect.unit (s := S1x512x128) ![0, 0, 0] ![1, 512, 128] inb).shape.Idx → Elt F .f32) (L : List (View.Piece (Elt F) S1x512x128 .f32)) :
    v.read (Elt F) (v.writes (Elt F) f (⟨Rect.unit (s := S1x512x128) ![0, 0, 0] ![1, 512, 128] inb, w⟩ :: L)) = w := View.read_writes_full (s := S1x512x128) v f inb w L
end Reads

end Cert.AttnFwdIdeal.Att
-- ==== Proof.Fwd.AttnLoop.lean ====
module

public import proofs.«01_k».proof.Proof.Fwd.AttnCarry
public import Idealize.ShloMosaic.Lib.Tactic.RunNames
public import Idealize.ShloMosaic.Lib.Tactic.Stretches
public import proofs.«01_k».proof.Proof.Gen.AttnFwdIdeal.Loops

@[expose] public section

set_option maxRecDepth 16384

noncomputable section

namespace Cert.AttnFwdIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnFwdIdeal.Gen

variable {F : FTy → Type} [FloatOps F] [Named F]

theorem off7_eq : ∀ (i : grid0.Coords) (t : Fin (k0_t2_loop i).trips), k0_off7 i t = ![512 * (2 * ((i 1).val - 1 - t.val)), 0] := by decide +kernel
theorem off8_eq : ∀ (i : grid0.Coords) (t : Fin (k0_t2_loop i).trips), k0_off8 i t = ![512 * (2 * ((i 1).val - 1 - t.val) + 1), 0] := by decide +kernel
theorem off9_eq : ∀ (i : grid0.Coords) (t : Fin (k0_t2_loop i).trips), k0_off9 i t = ![512 * (2 * ((i 1).val - 1 - t.val) - 1), 0] := by decide +kernel
theorem trips2 : ∀ (i : grid0.Coords), (k0_t2_loop i).trips = (i 1).val - 1 := by decide +kernel
theorem off4_eq : ∀ (i : grid0.Coords), k0_off4 i = ![512 * (2 * (i 1).val + 1), 0] := by decide +kernel
theorem off5_eq : ∀ (i : grid0.Coords), k0_off5 i = ![512 * (2 * (i 1).val), 0] := by decide +kernel
theorem off6_eq : ∀ (i : grid0.Coords), k0_cond2 i = 1#1 → k0_off6 i = ![512 * (2 * (i 1).val - 1), 0] := by decide +kernel
instance (i : grid0.Coords) (t : Fin (k0_t2_loop i).trips) : ClosedOff (k0_off7 i t) := ⟨_, off7_eq i t⟩
instance (i : grid0.Coords) (t : Fin (k0_t2_loop i).trips) : ClosedOff (k0_off8 i t) := ⟨_, off8_eq i t⟩
instance (i : grid0.Coords) (t : Fin (k0_t2_loop i).trips) : ClosedOff (k0_off9 i t) := ⟨_, off9_eq i t⟩
instance (i : grid0.Coords) : ClosedOff (k0_off4 i) := ⟨_, off4_eq i⟩
instance (i : grid0.Coords) : ClosedOff (k0_off5 i) := ⟨_, off5_eq i⟩

/-- The tile a trip of the loop works on, as the program's word. -/
def wu (a : BitVec 32) (k : ℕ) : BitVec 32 := Scalar.subi (Scalar.subi a 1#32) (Scf.iv 0#32 1#32 k)

variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .hbm S4096x1024 .bf16) (harg5 : arg5.IsWhole)
variable (arg6 : Memref sig .tc .vmem S512x128 .bf16) (harg6 : arg6.IsWhole)
variable (arg7 : Memref sig .tc .vmem S1x512x128 .f32) (harg7 : arg7.IsWhole)
variable (arg8 : Memref sig .tc .vmem S8192x128 .bf16) (harg8 : arg8.IsWhole)
variable (arg9 : Memref sig .tc .vmem S8192x128 .bf16) (harg9 : arg9.IsWhole)
variable (arg10 : Memref sig .tc .vmem S512x128 .f32) (harg10 : arg10.IsWhole)
variable (arg11 : Memref sig .tc .vmem S512x256 .f32) (harg11 : arg11.IsWhole)
variable (arg12 : Memref sig .tc .vmem S512x512 .f32) (harg12 : arg12.IsWhole)
variable (arg13 : Memref sig .tc .vmem S512x512 .f32) (harg13 : arg13.IsWhole)
variable (arg14 : Memref sig .tc .vmem S512x512 .f32) (harg14 : arg14.IsWhole)
variable (arg15 : Memref sig .tc .vmem S512x512 .f32) (harg15 : arg15.IsWhole)
variable (arg1 : BitVec 32) (v0 : IVec S1x128 32) (v19 : FVec F S256x256 .bf16) (v22 : IVec S1x256 1) (v41 : FVec F S512x128 .bf16)

set_option maxHeartbeats 4000000 in
theorem trip_k0_t2 (k0_h2 : k0_cond2 i = 1#1) (v373 : BitVec 32) (k : Fin (k0_t2_loop i).trips) (E : Set ℕ) (mm : ℕ) (hmm : (i 1).val - 1 - k.val = mm + 1)
    (K V : FVec F S8192x128 .bf16) (Z : FVec F S512x512 .f32) (R0 R1 Cc : FVec F S512x256 .f32) (A : FVec F S512x128 .f32) (X : FVec F S1x512x128 .f32)
    (f8 : BufTy.Contents (Elt F) arg8.view.ty)
    (f9 : BufTy.Contents (Elt F) arg9.view.ty)
    (f7 : BufTy.Contents (Elt F) arg7.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (hK : arg8.view.read (Elt F) f8 = K) (hV : arg9.view.read (Elt F) f9 = V)
    (hZ : arg14.view.read (Elt F) f14 = Z)
    (hR0 : arg15.view.readAt (Elt F) (Rect.unit (s := S512x512) ![0, 0] S512x256.size inb_S512x512_S512x256_0_0).toLoadRect f15 = R0)
    (hR1 : arg15.view.readAt (Elt F) (Rect.unit (s := S512x512) ![0, 256] S512x256.size inb_S512x512_S512x256_0_256).toLoadRect f15 = R1)
    (hC : arg11.view.read (Elt F) f11 = Cc) (hA : arg10.view.read (Elt F) f10 = A) (hX : arg7.view.read (Elt F) f7 = X) :
    (iprop((arg8.view.loc (c : Thread nD τ) ↦[arg8.view.set]{fullShare} f8) ∗ (arg9.view.loc (c : Thread nD τ) ↦[arg9.view.set]{fullShare} f9) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v0 v19 v22 v41 k0_h2 v373 0#32 k ())
          (fun _ => iprop((arg8.view.loc (c : Thread nD τ) ↦[arg8.view.set]{fullShare} f8) ∗ (arg9.view.loc (c : Thread nD τ) ↦[arg9.view.set]{fullShare} f9) ∗ (∃ g, (arg12.view.loc (c : Thread nD τ) ↦[arg12.view.set]{fullShare} g)) ∗ (∃ g, (arg13.view.loc (c : Thread nD τ) ↦[arg13.view.set]{fullShare} g)) ∗ (∃ g, (arg10.view.loc (c : Thread nD τ) ↦[arg10.view.set]{fullShare} g) ∗ ⌜arg10.view.read (Elt F) g = acc2 v22 (zm v41 K (2 * (mm + 1))) (r0m v19 v41 K (2 * (mm + 1))) (r1m v19 v41 K (2 * (mm + 1))) (ct2 v22 R0 R1 Cc) (kw V (2 * (mm + 1))) (acc2 v22 Z R0 R1 Cc (kw V (2 * (mm + 1) + 1)) A)⌝) ∗ (∃ g, (arg11.view.loc (c : Thread nD τ) ↦[arg11.view.set]{fullShare} g) ∗ ⌜arg11.view.read (Elt F) g = ct2 v22 (r0m v19 v41 K (2 * (mm + 1))) (r1m v19 v41 K (2 * (mm + 1))) (ct2 v22 R0 R1 Cc)⌝) ∗ (∃ g, (arg14.view.loc (c : Thread nD τ) ↦[arg14.view.set]{fullShare} g) ∗ ⌜arg14.view.read (Elt F) g = zm v41 K (2 * mm + 1)⌝) ∗ (∃ g, (arg15.view.loc (c : Thread nD τ) ↦[arg15.view.set]{fullShare} g) ∗ ⌜arg15.view.readAt (Elt F) (Rect.unit (s := S512x512) ![0, 0] S512x256.size inb_S512x512_S512x256_0_0).toLoadRect g = r0m v19 v41 K (2 * mm + 1) ∧ arg15.view.readAt (Elt F) (Rect.unit (s := S512x512) ![0, 256] S512x256.size inb_S512x512_S512x256_0_256).toLoadRect g = r1m v19 v41 K (2 * mm + 1)⌝) ∗ (∃ g, (arg7.view.loc (c : Thread nD τ) ↦[arg7.view.set]{fullShare} g) ∗ ⌜arg7.view.read (Elt F) g = tw2 v0 (Scalar.muli 2#32 (wu arg1 k.val)) v22 (r1m v19 v41 K (2 * (mm + 1))) (ct2 v22 R0 R1 Cc) (tw2 v0 (Scalar.addi (Scalar.muli 2#32 (wu arg1 k.val)) 1#32) v22 R1 Cc X)⌝))) := by
  have hk : k.val < (i 1).val - 1 := trips2 i ▸ k.isLt
  have o7 : k0_off7 i k = ![512 * (2 * (mm + 1)), 0] := by rw [off7_eq, hmm]
  have o8 : k0_off8 i k = ![512 * (2 * (mm + 1) + 1), 0] := by rw [off8_eq, hmm]
  have o9 : k0_off9 i k = ![512 * (2 * mm + 1), 0] := by rw [off9_eq, hmm]; rfl
  unfold k0_t2_body
  iintro ⟨H8, H9, H7, H10, H11, H12, H13, H14, H15⟩
  sl_exec
  sl_step
  isplitl [H8]; · iexact H8
  isplitl [H9]; · iexact H9
  isplitl [H12]; · iexists _; iexact H12
  isplitl [H13]; · iexists _; iexact H13
  isplitl [H10]
  · iexists _; isplitl [H10]; · iexact H10
    ipureintro
    rw [View.read_writes_full]
    sl_unfold_run_names
    simp only [readCov_newest, readCov_hi, cov12, full10, full11, readAt_tile _ _ _ _ o7, readAt_tile _ _ _ _ o8, readAt_tile _ _ _ _ o9, hK, hV, hC, hA, hR0, hR1, readAt_window arg14.view, hZ]
    simp only [k0_pay10, k0_pay11, k0_pay12, k0_pay13, k0_pay14, k0_pay16, k0_pay17, k0_pay22, k0_pay23, k0_pay24, k0_pay25, k0_pay63, pay21_eq, pay64_eq, shapeCast_id]
    rfl
  isplitl [H11]
  · iexists _; isplitl [H11]; · iexact H11
    ipureintro
    rw [View.read_writes_full]
    sl_unfold_run_names
    simp only [readCov_newest, readCov_hi, cov12, full10, full11, readAt_tile _ _ _ _ o7, readAt_tile _ _ _ _ o8, readAt_tile _ _ _ _ o9, hK, hV, hC, hA, hR0, hR1, readAt_window arg14.view, hZ]
    simp only [k0_pay10, k0_pay11, k0_pay12, k0_pay13, k0_pay14, k0_pay16, k0_pay17, k0_pay22, k0_pay23, k0_pay24, k0_pay25, k0_pay63, pay21_eq, pay64_eq, shapeCast_id]
    rfl
  isplitl [H14]
  · iexists _; isplitl [H14]; · iexact H14
    ipureintro
    rw [View.read_writes_full]
    sl_unfold_run_names
    simp only [readCov_newest, readCov_hi, cov12, full10, full11, readAt_tile _ _ _ _ o7, readAt_tile _ _ _ _ o8, readAt_tile _ _ _ _ o9, hK, hV, hC, hA, hR0, hR1, readAt_window arg14.view, hZ]
    simp only [k0_pay10, k0_pay11, k0_pay12, k0_pay13, k0_pay14, k0_pay16, k0_pay17, k0_pay22, k0_pay23, k0_pay24, k0_pay25, k0_pay63, pay21_eq, pay64_eq, shapeCast_id]
    rfl
  isplitl [H15]
  · iexists _; isplitl [H15]; · iexact H15
    ipureintro
    sl_unfold_run_names
    simp only [readAt_newest, readAt_hi, readAt_tile _ _ _ _ o9, hK]
    simp only [k0_pay10, k0_pay11, k0_pay12, k0_pay13, k0_pay14, k0_pay16, k0_pay17, k0_pay22, k0_pay23, k0_pay24, k0_pay25, k0_pay63, pay21_eq, pay64_eq, shapeCast_id]
    exact ⟨rfl, rfl⟩
  iexists _; isplitl [H7]; · iexact H7
  ipureintro
  rw [View.read_writes_full]
  sl_unfold_run_names
  simp only [readCov_newest, readCov_hi, cov12, full7, full10, full11, readAt_tile _ _ _ _ o7, readAt_tile _ _ _ _ o8, readAt_tile _ _ _ _ o9, hK, hV, hC, hA, hR0, hR1, readAt_window arg14.view, hZ, hX]
  simp only [pay15_eq, pay18_eq, pay28_eq, pay32_eq, k0_pay10, k0_pay11, k0_pay12, k0_pay13, k0_pay14, k0_pay16, k0_pay17, k0_pay22, k0_pay23, k0_pay24, k0_pay25, k0_pay63, pay21_eq, pay64_eq, shapeCast_id]
  rfl
end Cert.AttnFwdIdeal.Att
-- ==== Proof.Fwd.AttnInv.lean ====
module

public import proofs.«01_k».proof.Proof.Fwd.AttnLoop
public import proofs.«01_k».proof.Proof.Gen.AttnFwdIdeal.Loops

@[expose] public section

set_option maxRecDepth 16384

noncomputable section

namespace Cert.AttnFwdIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnFwdIdeal.Gen

variable {F : FTy → Type} [FloatOps F] [Named F]

section State
variable (M : FVec F S256x256 .bf16) (L : IVec S1x256 1) (q : FVec F S512x128 .bf16) (K V : FVec F S8192x128 .bf16) (I : ℕ)
variable (Z : FVec F S512x512 .f32) (R0 R1 Cc : FVec F S512x256 .f32) (A : FVec F S512x128 .f32)

/-- What the main loop has after `k` trips, from what it was given: the next tile's scores and sums, the carry and the result's sum. -/
def sZ : ℕ → FVec F S512x512 .f32
  | 0 => Z
  | k + 1 => zm q K (2 * (I - 1 - k) - 1)
def sR0 : ℕ → FVec F S512x256 .f32
  | 0 => R0
  | k + 1 => r0m M q K (2 * (I - 1 - k) - 1)
def sR1 : ℕ → FVec F S512x256 .f32
  | 0 => R1
  | k + 1 => r1m M q K (2 * (I - 1 - k) - 1)
def sC : ℕ → FVec F S512x256 .f32
  | 0 => Cc
  | k + 1 => ct2 L (r0m M q K (2 * (I - 1 - k))) (r1m M q K (2 * (I - 1 - k))) (ct2 L (sR0 M q K I R0 k) (sR1 M q K I R1 k) (sC k))
def sA : ℕ → FVec F S512x128 .f32
  | 0 => A
  | k + 1 => acc2 L (zm q K (2 * (I - 1 - k))) (r0m M q K (2 * (I - 1 - k))) (r1m M q K (2 * (I - 1 - k)))
      (ct2 L (sR0 M q K I R0 k) (sR1 M q K I R1 k) (sC M L q K I R0 R1 Cc k)) (kw V (2 * (I - 1 - k)))
      (acc2 L (sZ q K I Z k) (sR0 M q K I R0 k) (sR1 M q K I R1 k) (sC M L q K I R0 R1 Cc k) (kw V (2 * (I - 1 - k) + 1)) (sA k))
/-- The kept carries after `k` trips. -/
def sT (v0 : IVec S1x128 32) (a : BitVec 32) (X : FVec F S1x512x128 .f32) : ℕ → FVec F S1x512x128 .f32
  | 0 => X
  | k + 1 => tw2 v0 (Scalar.muli 2#32 (wu a k)) L (r1m M q K (2 * (I - 1 - k)))
      (ct2 L (sR0 M q K I R0 k) (sR1 M q K I R1 k) (sC M L q K I R0 R1 Cc k))
      (tw2 v0 (Scalar.addi (Scalar.muli 2#32 (wu a k)) 1#32) L (sR1 M q K I R1 k) (sC M L q K I R0 R1 Cc k) (sT v0 a X k))
end State

variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .hbm S4096x1024 .bf16) (harg5 : arg5.IsWhole)
variable (arg6 : Memref sig .tc .vmem S512x128 .bf16) (harg6 : arg6.IsWhole)
variable (arg7 : Memref sig .tc .vmem S1x512x128 .f32) (harg7 : arg7.IsWhole)
variable (arg8 : Memref sig .tc .vmem S8192x128 .bf16) (harg8 : arg8.IsWhole)
variable (arg9 : Memref sig .tc .vmem S8192x128 .bf16) (harg9 : arg9.IsWhole)
variable (arg10 : Memref sig .tc .vmem S512x128 .f32) (harg10 : arg10.IsWhole)
variable (arg11 : Memref sig .tc .vmem S512x256 .f32) (harg11 : arg11.IsWhole)
variable (arg12 : Memref sig .tc .vmem S512x512 .f32) (harg12 : arg12.IsWhole)
variable (arg13 : Memref sig .tc .vmem S512x512 .f32) (harg13 : arg13.IsWhole)
variable (arg14 : Memref sig .tc .vmem S512x512 .f32) (harg14 : arg14.IsWhole)
variable (arg15 : Memref sig .tc .vmem S512x512 .f32) (harg15 : arg15.IsWhole)
variable (arg1 : BitVec 32) (v0 : IVec S1x128 32) (v19 : FVec F S256x256 .bf16) (v22 : IVec S1x256 1) (v41 : FVec F S512x128 .bf16)

/-- The main loop: the laid-out keys and values stay, and the carry, the sum and the next tile's scores and sums are those of the trips done. -/
@[sl_loop] def loopInv_k0_t2 (k0_h2 : k0_cond2 i = 1#1) (v373 : BitVec 32) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f14 : BufTy.Contents (Elt F) arg14.view.ty) (f15 : BufTy.Contents (Elt F) arg15.view.ty) (E : Set ℕ) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg1 v0 v19 v22 v41 k0_h2 v373 0#32 where
  inv := fun k _ => iprop((arg8.view.loc (c : Thread nD τ) ↦[arg8.view.set]{fullShare} f8) ∗ (arg9.view.loc (c : Thread nD τ) ↦[arg9.view.set]{fullShare} f9) ∗ (∃ g, (arg12.view.loc (c : Thread nD τ) ↦[arg12.view.set]{fullShare} g)) ∗ (∃ g, (arg13.view.loc (c : Thread nD τ) ↦[arg13.view.set]{fullShare} g)) ∗ (∃ g, (arg10.view.loc (c : Thread nD τ) ↦[arg10.view.set]{fullShare} g) ∗ ⌜arg10.view.read (Elt F) g = sA v19 v22 v41 (arg8.view.read (Elt F) f8) (arg9.view.read (Elt F) f9) (i 1).val (arg14.view.read (Elt F) f14) (arg15.view.readAt (Elt F) (Rect.unit (s := S512x512) ![0, 0] S512x256.size inb_S512x512_S512x256_0_0).toLoadRect f15) (arg15.view.readAt (Elt F) (Rect.unit (s := S512x512) ![0, 256] S512x256.size inb_S512x512_S512x256_0_256).toLoadRect f15) (arg11.view.read (Elt F) f11) (arg10.view.read (Elt F) f10) k⌝) ∗ (∃ g, (arg11.view.loc (c : Thread nD τ) ↦[arg11.view.set]{fullShare} g) ∗ ⌜arg11.view.read (Elt F) g = sC v19 v22 v41 (arg8.view.read (Elt F) f8) (i 1).val (arg15.view.readAt (Elt F) (Rect.unit (s := S512x512) ![0, 0] S512x256.size inb_S512x512_S512x256_0_0).toLoadRect f15) (arg15.view.readAt (Elt F) (Rect.unit (s := S512x512) ![0, 256] S512x256.size inb_S512x512_S512x256_0_256).toLoadRect f15) (arg11.view.read (Elt F) f11) k⌝) ∗ (∃ g, (arg14.view.loc (c : Thread nD τ) ↦[arg14.view.set]{fullShare} g) ∗ ⌜arg14.view.read (Elt F) g = sZ v41 (arg8.view.read (Elt F) f8) (i 1).val (arg14.view.read (Elt F) f14) k⌝) ∗ (∃ g, (arg15.view.loc (c : Thread nD τ) ↦[arg15.view.set]{fullShare} g) ∗ ⌜arg15.view.readAt (Elt F) (Rect.unit (s := S512x512) ![0, 0] S512x256.size inb_S512x512_S512x256_0_0).toLoadRect g = sR0 v19 v41 (arg8.view.read (Elt F) f8) (i 1).val (arg15.view.readAt (Elt F) (Rect.unit (s := S512x512) ![0, 0] S512x256.size inb_S512x512_S512x256_0_0).toLoadRect f15) k⌝ ∗ ⌜arg15.view.readAt (Elt F) (Rect.unit (s := S512x512) ![0, 256] S512x256.size inb_S512x512_S512x256_0_256).toLoadRect g = sR1 v19 v41 (arg8.view.read (Elt F) f8) (i 1).val (arg15.view.readAt (Elt F) (Rect.unit (s := S512x512) ![0, 256] S512x256.size inb_S512x512_S512x256_0_256).toLoadRect f15) k⌝) ∗ (∃ g, (arg7.view.loc (c : Thread nD τ) ↦[arg7.view.set]{fullShare} g) ∗ ⌜arg7.view.read (Elt F) g = sT v19 v22 v41 (arg8.view.read (Elt F) f8) (i 1).val (arg15.view.readAt (Elt F) (Rect.unit (s := S512x512) ![0, 0] S512x256.size inb_S512x512_S512x256_0_0).toLoadRect f15) (arg15.view.readAt (Elt F) (Rect.unit (s := S512x512) ![0, 256] S512x256.size inb_S512x512_S512x256_0_256).toLoadRect f15) (arg11.view.read (Elt F) f11) v0 arg1 (arg7.view.read (Elt F) f7) k⌝))
  step := fun k acc => by
    have hk : k.val < (i 1).val - 1 := trips2 i ▸ k.isLt
    obtain ⟨mm, hmm⟩ : ∃ mm, (i 1).val - 1 - k.val = mm + 1 := ⟨(i 1).val - 1 - k.val - 1, by omega⟩
    have e : 2 * (mm + 1) - 1 = 2 * mm + 1 := by omega
    iintro ⟨H8, H9, ⟨%f12, H12⟩, ⟨%f13, H13⟩, ⟨%g10, H10, %hA⟩, ⟨%g11, H11, %hC⟩, ⟨%g14, H14, %hZ⟩, ⟨%g15, H15, %hR0, %hR1⟩, ⟨%g7, H7, %hX⟩⟩
    iapply (wp_wand_r Idealize.ShloMosaic.frame (wpE (defs₀ (F := F)) 𝒱 (c : Thread nD τ) bd) E)
    isplitl [H8 H9 H7 H10 H11 H12 H13 H14 H15]
    · iapply (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v0 v19 v22 v41 k0_h2 v373 k E mm hmm _ _ _ _ _ _ _ _ f8 f9 g7 g10 g11 f12 f13 g14 g15 rfl rfl hZ hR0 hR1 hC hA hX)
      sl_close
    iintro %_
    iintro ⟨H8, H9, ⟨%f12, H12⟩, ⟨%f13, H13⟩, ⟨%g10, H10, %hA⟩, ⟨%g11, H11, %hC⟩, ⟨%g14, H14, %hZ⟩, ⟨%g15, H15, %hR⟩, ⟨%g7, H7, %hX⟩⟩
    isplitl [H8]; · iexact H8
    isplitl [H9]; · iexact H9
    isplitl [H12]; · iexists _; iexact H12
    isplitl [H13]; · iexists _; iexact H13
    isplitl [H10]
    · iexists _; isplitl [H10]; · iexact H10
      ipureintro; rw [hA]; simp only [sA, hmm]
    isplitl [H11]
    · iexists _; isplitl [H11]; · iexact H11
      ipureintro; rw [hC]; simp only [sC, hmm]
    isplitl [H14]
    · iexists _; isplitl [H14]; · iexact H14
      ipureintro; rw [hZ]; simp only [sZ, hmm, e]
    isplitl [H15]
    · iexists _; isplitl [H15]; · iexact H15
      isplitl []
      · ipureintro; rw [hR.1]; simp only [sR0, hmm, e]
      · ipureintro; rw [hR.2]; simp only [sR1, hmm, e]
    iexists _; isplitl [H7]; · iexact H7
    ipureintro; rw [hX]; simp only [sT, hmm]

/-- The remainder loop has no trip. -/
@[sl_loop] def loopInv_k0_t3 (k0_h2 : k0_cond2 i = 1#1) (v373 v378 : BitVec 32) (E : Set ℕ) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg1 v0 v19 v22 v41 k0_h2 v373 0#32 v378 where
  inv := fun _ _ => iprop(emp)
  step := fun k _ => absurd k.isLt (Nat.not_lt.2 (Nat.le_trans (k0_t3_abs i).2.1 (Nat.zero_le _)))

end Cert.AttnFwdIdeal.Att
-- ==== Proof.Fwd.AttnFill.lean ====
module

public import proofs.«01_k».proof.Proof.Fwd.AttnSpec
public import Idealize.ShloMosaic.Lib.Tactic.RunNames
public import Idealize.ShloMosaic.Lib.Tactic.Stretches
public import proofs.«01_k».proof.Proof.Gen.AttnFwdIdeal.Loops

@[expose] public section

set_option maxRecDepth 16384

noncomputable section

namespace Cert.AttnFwdIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnFwdIdeal.Gen

variable {F : FTy → Type} [FloatOps F] [Named F]

/-- Block `k` of 128 rows of the keys or values. -/
def xw (X : FVec F S4096x128 .bf16) (k : ℕ) : FVec F S128x128 .bf16 :=
  fun y => X fun a => match a with
    | 0 => ⟨(128 * k + (y 0).val) % 4096, Nat.mod_lt _ (by norm_num)⟩
    | 1 => ⟨(y 1).val, (y 1).isLt⟩

/-- The laid-out rows of a block: the first head's, then the second head's. -/
def hd0 (w : FVec F S128x128 .bf16) : FVec F S128x128 .bf16 := select (broadcastTo S128x128 k0_pay89 broadcasts_S1x128_S128x128) w (broadcast S128x128 (Scalar.ofBits .bf16 0x0000#16))
def hd1 (w : FVec F S128x128 .bf16) : FVec F S128x128 .bf16 := select (broadcastTo S128x128 k0_pay89 broadcasts_S1x128_S128x128) (broadcast S128x128 (Scalar.ofBits .bf16 0x0000#16)) w

/-- The laid-out array after `k` blocks, from what it held. -/
def fill (X : FVec F S4096x128 .bf16) (P : FVec F S8192x128 .bf16) : ℕ → FVec F S8192x128 .bf16
  | 0 => P
  | k + 1 => VecWindow.put (VecWindow.put (fill X P k) ![256 * k, 0] S128x128.size (hd0 (xw X k))) ![256 * k + 128, 0] S128x128.size (hd1 (xw X k))

theorem off1_eq : ∀ (t : Fin k0_t1_loop.trips), k0_off1 t = ![128 * t.val, 0] := by decide +kernel
theorem off2_eq : ∀ (t : Fin k0_t1_loop.trips), k0_off2 t = ![256 * t.val, 0] := by decide +kernel
theorem off3_eq : ∀ (t : Fin k0_t1_loop.trips), k0_off3 t = ![256 * t.val + 128, 0] := by decide +kernel
theorem readAt_block {κ : Kind} {sp : Space} (v : View sig κ sp S4096x128 .bf16) (f : v.ty.Contents (Elt F)) {off : Fin 2 → ℕ}
    (inb : ∀ a, off a + S128x128.size a ≤ S4096x128.size a) (m : ℕ) (h : off = ![128 * m, 0]) :
    v.readAt (Elt F) (Rect.unit (s := S4096x128) off ![128, 128] inb).toLoadRect f = xw (v.read (Elt F) f) m := by
  subst h
  rw [View.readAt_unit v f inb rfl inb]
  funext y
  refine congrArg (v.read (Elt F) f) (funext fun a => Fin.ext ?_)
  match a with
  | 0 =>
    show 128 * m + 1 * (y 0).val = (128 * m + (y 0).val) % 4096
    have h0 : 128 * m + 128 ≤ 4096 := inb 0
    have hy : (y 0).val < 128 := (y 0).isLt
    rw [Nat.mod_eq_of_lt (by omega)]; omega
  | 1 => show 0 + 1 * (y 1).val = (y 1).val; omega

variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .hbm S4096x1024 .bf16) (harg5 : arg5.IsWhole)
variable (arg6 : Memref sig .tc .vmem S512x128 .bf16) (harg6 : arg6.IsWhole)
variable (arg7 : Memref sig .tc .vmem S1x512x128 .f32) (harg7 : arg7.IsWhole)
variable (arg8 : Memref sig .tc .vmem S8192x128 .bf16) (harg8 : arg8.IsWhole)
variable (arg9 : Memref sig .tc .vmem S8192x128 .bf16) (harg9 : arg9.IsWhole)
variable (arg10 : Memref sig .tc .vmem S512x128 .f32) (harg10 : arg10.IsWhole)
variable (arg11 : Memref sig .tc .vmem S512x256 .f32) (harg11 : arg11.IsWhole)
variable (arg12 : Memref sig .tc .vmem S512x512 .f32) (harg12 : arg12.IsWhole)
variable (arg13 : Memref sig .tc .vmem S512x512 .f32) (harg13 : arg13.IsWhole)
variable (arg14 : Memref sig .tc .vmem S512x512 .f32) (harg14 : arg14.IsWhole)
variable (arg15 : Memref sig .tc .vmem S512x512 .f32) (harg15 : arg15.IsWhole)

set_option maxHeartbeats 4000000 in
theorem trip_fill (k0_h1 : k0_cond1 i = 1#1) (k : Fin k0_t1_loop.trips) (E : Set ℕ)
    (f3 : BufTy.Contents (Elt F) arg3.view.ty)
    (f4 : BufTy.Contents (Elt F) arg4.view.ty)
    (f8 : BufTy.Contents (Elt F) arg8.view.ty)
    (f9 : BufTy.Contents (Elt F) arg9.view.ty) :
    (iprop((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg9.view.loc (c : Thread nD τ) ↦[arg9.view.set]{fullShare} f9)) : sProp (MT nD τ sig Unit (Elt F) ℕ (UR sig nD τ) ℕ))
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k0_h1 k ())
          (fun _ => iprop((arg3.view.loc (c : Thread nD τ) ↦[arg3.view.set]{fullShare} f3) ∗ (arg4.view.loc (c : Thread nD τ) ↦[arg4.view.set]{fullShare} f4) ∗ (∃ g, (arg8.view.loc (c : Thread nD τ) ↦[arg8.view.set]{fullShare} g) ∗ ⌜arg8.view.read (Elt F) g = VecWindow.put (VecWindow.put (arg8.view.read (Elt F) f8) ![256 * k.val, 0] S128x128.size (hd0 (xw (arg3.view.read (Elt F) f3) k.val))) ![256 * k.val + 128, 0] S128x128.size (hd1 (xw (arg3.view.read (Elt F) f3) k.val))⌝) ∗ (∃ g, (arg9.view.loc (c : Thread nD τ) ↦[arg9.view.set]{fullShare} g) ∗ ⌜arg9.view.read (Elt F) g = VecWindow.put (VecWindow.put (arg9.view.read (Elt F) f9) ![256 * k.val, 0] S128x128.size (hd0 (xw (arg4.view.read (Elt F) f4) k.val))) ![256 * k.val + 128, 0] S128x128.size (hd1 (xw (arg4.view.read (Elt F) f4) k.val))⌝))) := by
  have hk : k.val < 32 := Nat.lt_of_lt_of_le k.isLt k0_t1_abs.2.1
  unfold k0_t1_body
  iintro ⟨H3, H4, H8, H9⟩
  sl_exec
  sl_step
  isplitl [H3]; · iexact H3
  isplitl [H4]; · iexact H4
  isplitl [H8]
  · iexists _; isplitl [H8]; · iexact H8
    ipureintro
    rw [View.read_writes_cons_put _ _ _ _ _ (off3_eq k), View.read_writes_cons_put _ _ _ _ _ (off2_eq k)]
    sl_unfold_run_names
    simp only [readAt_block _ _ _ _ (off1_eq k)]
    simp only [k0_pay5, k0_pay6, k0_pay7, k0_pay8, k0_pay9, shapeCast_id]
    rfl
  iexists _; isplitl [H9]; · iexact H9
  ipureintro
  rw [View.read_writes_cons_put _ _ _ _ _ (off3_eq k), View.read_writes_cons_put _ _ _ _ _ (off2_eq k)]
  sl_unfold_run_names
  simp only [readAt_block _ _ _ _ (off1_eq k)]
  simp only [k0_pay5, k0_pay6, k0_pay7, k0_pay8, k0_pay9, shapeCast_id]
  rfl

/-- The loop that lays the keys and values out, block by block. -/
@[sl_loop] def loopInv_fill (k0_h1 : k0_cond1 i = 1#1) (f3 : BufTy.Contents (Elt F) arg3.view.ty) (f4 : BufTy.Contents (Elt F) arg4.view.ty) (f8 : BufTy.Contents (Elt F) arg8.view.ty) (f9 : BufTy.Contents (Elt F) arg9.view.ty) (E : Set ℕ) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 k0_h1 where
  inv := fun k _ => iprop((arg3.view.loc (c : Thread nD τ) ↦[arg3.view.set]{fullShare} f3) ∗ (arg4.view.loc (c : Thread nD τ) ↦[arg4.view.set]{fullShare} f4) ∗ (∃ g, (arg8.view.loc (c : Thread nD τ) ↦[arg8.view.set]{fullShare} g) ∗ ⌜arg8.view.read (Elt F) g = fill (arg3.view.read (Elt F) f3) (arg8.view.read (Elt F) f8) k⌝) ∗ (∃ g, (arg9.view.loc (c : Thread nD τ) ↦[arg9.view.set]{fullShare} g) ∗ ⌜arg9.view.read (Elt F) g = fill (arg4.view.read (Elt F) f4) (arg9.view.read (Elt F) f9) k⌝))
  step := fun k acc => by
    iintro ⟨H3, H4, ⟨%g8, H8, %h8⟩, ⟨%g9, H9, %h9⟩⟩
    iapply (wp_wand_r Idealize.ShloMosaic.frame (wpE (defs₀ (F := F)) 𝒱 (c : Thread nD τ) bd) E)
    isplitl [H3 H4 H8 H9]
    · iapply (trip_fill (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k E f3 f4 g8 g9)
      sl_close
    iintro %_
    iintro ⟨H3, H4, ⟨%k8, H8, %e8⟩, ⟨%k9, H9, %e9⟩⟩
    isplitl [H3]; · iexact H3
    isplitl [H4]; · iexact H4
    isplitl [H8]
    · iexists _; isplitl [H8]; · iexact H8
      ipureintro; rw [e8, h8]; rfl
    iexists _; isplitl [H9]; · iexact H9
    ipureintro; rw [e9, h9]; rfl
end Cert.AttnFwdIdeal.Att
-- ==== Proof.Fwd.AttnBody.lean ====
module

public import proofs.«01_k».proof.Proof.Fwd.AttnInv
public import proofs.«01_k».proof.Proof.Fwd.AttnFill
public import proofs.«01_k».proof.Proof.Fwd.AttnDiag
public import Idealize.ShloMosaic.Lib.Tactic.RunNames
public import Idealize.ShloMosaic.Lib.Tactic.Stretches
public import proofs.«01_k».proof.Proof.Gen.AttnFwdIdeal.Loops

@[expose] public section

set_option maxRecDepth 16384

noncomputable section

namespace Cert.AttnFwdIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnFwdIdeal.Gen

variable {F : FTy → Type} [FloatOps F] [Named F]

/-- The scaled queries, and the diagonal's masks. -/
def qs (q : FVec F S512x128 .bf16) : FVec F S512x128 .bf16 :=
  truncf .bf16 (mulf (extf .f32 q bitsLt_bf16_f32) (broadcast S512x128 (Named.named κ "scale_log2_e" 0x3E38AA3B#32))) bitsLt_bf16_f32
def mk1 : IVec S512x512 1 := (cmpi .slt (addi k0_pay88 (broadcast S512x512 256#32)) (iota .tc S512x512 32 [0] iota_S512x512_d0_w32))
def mk0 : IVec S512x512 1 := (cmpi .slt k0_pay88 (iota .tc S512x512 32 [0] iota_S512x512_d0_w32))

/-- The lanes of the kept carries, and those of the first block of queries. -/
def ln : IVec S1x128 32 := iota .tc S1x128 32 [1] iota_S1x128_d1_w32
def car0 (q : FVec F S512x128 .bf16) (K : FVec F S8192x128 .bf16) : FVec F S1x512x128 .f32 :=
  tD ln (BitVec.ofNat 32 0) k0_pay86 k0_pay87 mk1 mk0 (qs q) K 0

/-- The result of the first block of queries. -/
def out0 (q : FVec F S512x128 .bf16) (K V : FVec F S8192x128 .bf16) : FVec F S512x128 .bf16 :=
  truncf .bf16 (aD k0_pay86 k0_pay87 mk1 mk0 (qs q) K V 0) bitsLt_bf16_f32

variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .hbm S4096x1024 .bf16) (harg5 : arg5.IsWhole)
variable (arg6 : Memref sig .tc .vmem S512x128 .bf16) (harg6 : arg6.IsWhole)
variable (arg7 : Memref sig .tc .vmem S1x512x128 .f32) (harg7 : arg7.IsWhole)
variable (arg8 : Memref sig .tc .vmem S8192x128 .bf16) (harg8 : arg8.IsWhole)
variable (arg9 : Memref sig .tc .vmem S8192x128 .bf16) (harg9 : arg9.IsWhole)
variable (arg10 : Memref sig .tc .vmem S512x128 .f32) (harg10 : arg10.IsWhole)
variable (arg11 : Memref sig .tc .vmem S512x256 .f32) (harg11 : arg11.IsWhole)
variable (arg12 : Memref sig .tc .vmem S512x512 .f32) (harg12 : arg12.IsWhole)
variable (arg13 : Memref sig .tc .vmem S512x512 .f32) (harg13 : arg13.IsWhole)
variable (arg14 : Memref sig .tc .vmem S512x512 .f32) (harg14 : arg14.IsWhole)
variable (arg15 : Memref sig .tc .vmem S512x512 .f32) (harg15 : arg15.IsWhole)

theorem full2 {κ : Kind} {sp : Space} (v : View sig κ sp S512x128 .bf16) (f : v.ty.Contents (Elt F)) (inb) :
    v.readAt (Elt F) (Rect.unit (s := S512x128) ![0, 0] ![512, 128] inb).toLoadRect f = v.read (Elt F) f := View.readAt_full v f inb

theorem fst0 (i : grid0.Coords) (h2 : ¬ k0_cond2 i = 1#1) : (i 1).val = 0 := by
  revert h2; revert i; decide +kernel

set_option maxHeartbeats 4000000 in
theorem body_first (h1 : k0_cond1 i = 1#1) (h2 : ¬ k0_cond2 i = 1#1) (E : Set ℕ)
    (f2 : BufTy.Contents (Elt F) arg2.view.ty)
    (f3 : BufTy.Contents (Elt F) arg3.view.ty)
    (f4 : BufTy.Contents (Elt F) arg4.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) 𝒱 (c : Thread nD τ) bd) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ g, (arg6.view.loc (c : Thread nD τ) ↦[arg6.view.set]{fullShare} g) ∗ ⌜arg6.view.read (Elt F) g = out0 (arg2.view.read (Elt F) f2) (fill (arg3.view.read (Elt F) f3) (arg8.view.read (Elt F) f8) 32) (fill (arg4.view.read (Elt F) f4) (arg9.view.read (Elt F) f9) 32)⌝) ∗ (∃ g, (arg8.view.loc (c : Thread nD τ) ↦[arg8.view.set]{fullShare} g) ∗ ⌜arg8.view.read (Elt F) g = fill (arg3.view.read (Elt F) f3) (arg8.view.read (Elt F) f8) 32⌝) ∗ (∃ g, (arg9.view.loc (c : Thread nD τ) ↦[arg9.view.set]{fullShare} g) ∗ ⌜arg9.view.read (Elt F) g = fill (arg4.view.read (Elt F) f4) (arg9.view.read (Elt F) f9) 32⌝) ∗ (∃ g, (arg7.view.loc (c : Thread nD τ) ↦[arg7.view.set]{fullShare} g) ∗ ⌜arg7.view.read (Elt F) g = car0 (arg2.view.read (Elt F) f2) (fill (arg3.view.read (Elt F) f3) (arg8.view.read (Elt F) f8) 32)⌝) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) := by
  iintro ⟨H2, H3, H4, H6, H7, H8, H9, H10, H11, H12, H13, H14, H15⟩
  sl_unfold [cc0_attn_fwd]
  sl_exec
  sl_step
  have hz := fst0 i h2
  have o4 : k0_off4 i = ![512 * (2 * 0 + 1), 0] := by rw [off4_eq i, hz]
  have o5 : k0_off5 i = ![512 * (2 * 0), 0] := by rw [off5_eq i, hz]
  isplitl [H2]; · iexact H2
  isplitl [H3]; · iexact H3
  isplitl [H4]; · iexact H4
  isplitl [H6]
  · iexists _; isplitl [H6]; · iexact H6
    ipureintro
    have hK : arg8.view.read (Elt F) gL0 = fill (arg3.view.read (Elt F) f3) (arg8.view.read (Elt F) f8) 32 := hL3
    have hV : arg9.view.read (Elt F) gL1 = fill (arg4.view.read (Elt F) f4) (arg9.view.read (Elt F) f9) 32 := hL5
    generalize (fill (arg3.view.read (Elt F) f3) (arg8.view.read (Elt F) f8) 32) = K at hK ⊢
    generalize (fill (arg4.view.read (Elt F) f4) (arg9.view.read (Elt F) f9) 32) = V at hV ⊢
    rw [View.read_writes_full]
    sl_unfold_run_names
    simp only [accH_fold, shapeCast_id]
    simp only [readCov_hi, readCov_newest, readCov_hiH, cov12, full10, full11, cov14_lo, cov14_hi, cov10_late, cov11_late, full2, cov10_put, cov11_put2, readAt_tile _ _ _ _ o4, readAt_tile _ _ _ _ o5, hK, hV]
    simp only [k0_pay4, k0_pay1, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay116, k0_pay117, k0_pay124, k0_pay127, k0_pay128, k0_pay129, k0_pay131, k0_pay132, k0_pay133, k0_pay134, pay2_eq, shapeCast_id]

    rfl
  isplitl [H8]
  · iexists _; isplitl [H8]; · iexact H8
    ipureintro; exact hL3
  isplitl [H9]
  · iexists _; isplitl [H9]; · iexact H9
    ipureintro; exact hL5
  isplitl [H7]
  · iexists _; isplitl [H7]; · iexact H7
    ipureintro
    have hK : arg8.view.read (Elt F) gL0 = fill (arg3.view.read (Elt F) f3) (arg8.view.read (Elt F) f8) 32 := hL3
    generalize (fill (arg3.view.read (Elt F) f3) (arg8.view.read (Elt F) f8) 32) = K at hK ⊢
    rw [rd7]
    sl_unfold_run_names
    simp only [accH_fold, shapeCast_id]
    simp only [readCov_hi, readCov_newest, readCov_hiH, cov12, full7, cov7_late, cov7_put2, full10, full11, cov14_lo, cov14_hi, cov10_late, cov11_late, full2, cov10_put, cov11_put2, readAt_tile _ _ _ _ o4, readAt_tile _ _ _ _ o5, hK]
    simp only [k0_pay112, k0_pay113, k0_pay114, k0_pay115, k0_pay118, k0_pay119, k0_pay120, k0_pay121, k0_pay122, k0_pay123, k0_pay126, k0_pay130, k0_pay4, k0_pay1, k0_pay90, k0_pay91, k0_pay92, k0_pay93, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay116, k0_pay117, k0_pay124, k0_pay127, k0_pay128, k0_pay129, k0_pay131, k0_pay132, k0_pay133, k0_pay134, pay2_eq, shapeCast_id]
    rw [hz]
    simp only [tw_fold, twH_fold]
    refine tw_congr rfl ?_ (tw_congr rfl ?_ (putC_congr rfl (twH_congr rfl ?_ (twH_congr rfl rfl rfl))))
    · rfl
    · rfl
    · rfl
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Cert.AttnFwdIdeal.Att
-- ==== Proof.Fwd.AttnBodyN.lean ====
module

public import proofs.«01_k».proof.Proof.Fwd.AttnBody
public import proofs.«01_k».proof.Proof.Fwd.AttnFill
public import proofs.«01_k».proof.Proof.Fwd.AttnDiag
public import Idealize.ShloMosaic.Lib.Tactic.RunNames
public import Idealize.ShloMosaic.Lib.Tactic.Stretches
public import proofs.«01_k».proof.Proof.Gen.AttnFwdIdeal.Loops

@[expose] public section

set_option maxRecDepth 16384

noncomputable section

namespace Cert.AttnFwdIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnFwdIdeal.Gen

variable {F : FTy → Type} [FloatOps F] [Named F]

/-- The result of a later block of queries: the diagonal, the tiles the loop takes two at a time, and the last two. -/
def outN (q : FVec F S512x128 .bf16) (K V : FVec F S8192x128 .bf16) (I : ℕ) : FVec F S512x128 .bf16 :=
  let M : FVec F S256x256 .bf16 := k0_pay86
  let L := k0_pay87
  let C := cD M L mk1 mk0 (qs q) K I
  let A := aD M L mk1 mk0 (qs q) K V I
  let Z := zm (qs q) K (2 * I - 1)
  let R0 := r0m M (qs q) K (2 * I - 1)
  let R1 := r1m M (qs q) K (2 * I - 1)
  let c := sC M L (qs q) K I R0 R1 C (I - 1)
  let a := sA M L (qs q) K V I Z R0 R1 C A (I - 1)
  let z := sZ (qs q) K I Z (I - 1)
  let r0 := sR0 M (qs q) K I R0 (I - 1)
  let r1 := sR1 M (qs q) K I R1 (I - 1)
  truncf .bf16 (acc2 L (zm (qs q) K 0) (r0m M (qs q) K 0) (r1m M (qs q) K 0) (ct2 L r0 r1 c) (kw V 0) (acc2 L z r0 r1 c (kw V 1) a)) bitsLt_bf16_f32

/-- The kept carries of a later block of queries. -/
def carN (q : FVec F S512x128 .bf16) (K : FVec F S8192x128 .bf16) (I : ℕ) : FVec F S1x512x128 .f32 :=
  let M : FVec F S256x256 .bf16 := k0_pay86
  let L := k0_pay87
  let C := cD M L mk1 mk0 (qs q) K I
  let R0 := r0m M (qs q) K (2 * I - 1)
  let R1 := r1m M (qs q) K (2 * I - 1)
  let c := sC M L (qs q) K I R0 R1 C (I - 1)
  let r0 := sR0 M (qs q) K I R0 (I - 1)
  let r1 := sR1 M (qs q) K I R1 (I - 1)
  tw2 ln 0#32 L (r1m M (qs q) K 0) (ct2 L r0 r1 c) (tw2 ln 1#32 L r1 c
    (sT M L (qs q) K I R0 R1 C ln (BitVec.ofNat 32 I) (tD ln (BitVec.ofNat 32 I) M L mk1 mk0 (qs q) K I) (I - 1)))

variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .hbm S4096x1024 .bf16) (harg5 : arg5.IsWhole)
variable (arg6 : Memref sig .tc .vmem S512x128 .bf16) (harg6 : arg6.IsWhole)
variable (arg7 : Memref sig .tc .vmem S1x512x128 .f32) (harg7 : arg7.IsWhole)
variable (arg8 : Memref sig .tc .vmem S8192x128 .bf16) (harg8 : arg8.IsWhole)
variable (arg9 : Memref sig .tc .vmem S8192x128 .bf16) (harg9 : arg9.IsWhole)
variable (arg10 : Memref sig .tc .vmem S512x128 .f32) (harg10 : arg10.IsWhole)
variable (arg11 : Memref sig .tc .vmem S512x256 .f32) (harg11 : arg11.IsWhole)
variable (arg12 : Memref sig .tc .vmem S512x512 .f32) (harg12 : arg12.IsWhole)
variable (arg13 : Memref sig .tc .vmem S512x512 .f32) (harg13 : arg13.IsWhole)
variable (arg14 : Memref sig .tc .vmem S512x512 .f32) (harg14 : arg14.IsWhole)
variable (arg15 : Memref sig .tc .vmem S512x512 .f32) (harg15 : arg15.IsWhole)

theorem rd10 {κ : Kind} {sp : Space} (v : View sig κ sp S512x128 .f32) (f : v.ty.Contents (Elt F)) (inb : ∀ a : Fin 2, (![0, 0] : Fin 2 → ℕ) a + (![512, 128] : Fin 2 → ℕ) a ≤ S512x128.size a)
    (w : (Rect.unit (s := S512x128) ![0, 0] ![512, 128] inb).shape.Idx → Elt F .f32) (L : List (View.Piece (Elt F) S512x128 .f32)) :
    v.read (Elt F) (v.writes (Elt F) f (⟨Rect.unit (s := S512x128) ![0, 0] ![512, 128] inb, w⟩ :: L)) = w := View.read_writes_full (s := S512x128) v f inb w L
theorem rd11 {κ : Kind} {sp : Space} (v : View sig κ sp S512x256 .f32) (f : v.ty.Contents (Elt F)) (inb : ∀ a : Fin 2, (![0, 0] : Fin 2 → ℕ) a + (![512, 256] : Fin 2 → ℕ) a ≤ S512x256.size a)
    (w : (Rect.unit (s := S512x256) ![0, 0] ![512, 256] inb).shape.Idx → Elt F .f32) (L : List (View.Piece (Elt F) S512x256 .f32)) :
    v.read (Elt F) (v.writes (Elt F) f (⟨Rect.unit (s := S512x256) ![0, 0] ![512, 256] inb, w⟩ :: L)) = w := View.read_writes_full (s := S512x256) v f inb w L
theorem rd14 {κ : Kind} {sp : Space} (v : View sig κ sp S512x512 .f32) (f : v.ty.Contents (Elt F)) (inb : ∀ a : Fin 2, (![0, 0] : Fin 2 → ℕ) a + (![512, 512] : Fin 2 → ℕ) a ≤ S512x512.size a)
    (w : (Rect.unit (s := S512x512) ![0, 0] ![512, 512] inb).shape.Idx → Elt F .f32) (L : List (View.Piece (Elt F) S512x512 .f32)) :
    v.read (Elt F) (v.writes (Elt F) f (⟨Rect.unit (s := S512x512) ![0, 0] ![512, 512] inb, w⟩ :: L)) = w := View.read_writes_full (s := S512x512) v f inb w L

section Folds
theorem pt_fold (z r C : FVec F S512x256 .f32) (b) : truncf .bf16 (exp2 (subf z (addf r C))) b = pt z r C := rfl
theorem ct_fold (L : IVec S1x256 1) (r C : FVec F S512x256 .f32) (b1 b2 b3 s1 s2) : addf C (select (broadcastTo S512x256 L b1)
    (broadcastTo S512x256 (extractStridedSlice S512x1 ![0, 0] r s1) b2) (broadcastTo S512x256 (extractStridedSlice S512x1 ![0, 128] r s2) b3)) = ct L r C := rfl
theorem zt_fold (q w : FVec F S512x128 .bf16) :
    matmul dot_S512x128_S512x128_S512x512_1_1_0_0_n_n none q w (constant S512x512 .f32 0x00000000#32) = zt q w := rfl
theorem rt0_fold (M : FVec F S256x256 .bf16) (s : FVec F S512x512 .f32) (h b) :
    matmul dot_S512x256_S256x256_S512x256_1_0_0_1_n_n none (truncf .bf16 (extractStridedSlice S512x256 ![0, 0] s h) b) M
    (constant S512x256 .f32 0x00000000#32) = rt0 M s := rfl
theorem rt1_fold (M : FVec F S256x256 .bf16) (s : FVec F S512x512 .f32) (h b) :
    matmul dot_S512x256_S256x256_S512x256_1_0_0_1_n_n none (truncf .bf16 (extractStridedSlice S512x256 ![0, 256] s h) b) M
    (constant S512x256 .f32 0x00000000#32) = rt1 M s := rfl
theorem lo_fold (z : FVec F S512x512 .f32) (b) : VecWindow.window z ![0, 0] ![512, 256] b = lo z := rfl
theorem hi_fold (z : FVec F S512x512 .f32) (b) : VecWindow.window z ![0, 256] ![512, 256] b = hi z := rfl
theorem sp_fold (z : FVec F S512x512 .f32) :
    addf (maximumf z (broadcast S512x512 (FloatOps.ofBits .f32 0x00000000#32)))
    (mulf (log (addf (broadcast S512x512 (FloatOps.ofBits .f32 0x3F800000#32)) (exp2 (subf (broadcast S512x512 (FloatOps.ofBits .f32 0x00000000#32)) (absf z)))))
      (broadcast S512x512 (Named.named κ "log2_e_inv" 0x3FB8AA3B#32))) = sp z := rfl
theorem dt_fold (p0 p1 : FVec F S512x256 .bf16) (w : FVec F S512x128 .bf16) (h) :
    matmul dot_S512x512_S512x128_S512x128_1_0_0_1_n_n none (concatenate S512x512 1 [⟨S512x256, p0⟩, ⟨S512x256, p1⟩] h) w (constant S512x128 .f32 0x00000000#32) = dt p0 p1 w := rfl
end Folds

section Starts
variable {M : FVec F S256x256 .bf16} {L : IVec S1x256 1} {q : FVec F S512x128 .bf16} {K V : FVec F S8192x128 .bf16} {I k : ℕ}
  {Z Z' : FVec F S512x512 .f32} {R0 R0' R1 R1' C C' : FVec F S512x256 .f32} {A A' : FVec F S512x128 .f32}
theorem sZ_of {x : FVec F S512x512 .f32} (h : x = sZ q K I Z k) (hZ : Z = Z') : x = sZ q K I Z' k := hZ ▸ h
theorem sR0_of {x : FVec F S512x256 .f32} (h : x = sR0 M q K I R0 k) (hZ : R0 = R0') : x = sR0 M q K I R0' k := hZ ▸ h
theorem sR1_of {x : FVec F S512x256 .f32} (h : x = sR1 M q K I R1 k) (hZ : R1 = R1') : x = sR1 M q K I R1' k := hZ ▸ h
theorem sC_of {x : FVec F S512x256 .f32} (h : x = sC M L q K I R0 R1 C k) (h0 : R0 = R0') (h1 : R1 = R1') (hC : C = C') :
    x = sC M L q K I R0' R1' C' k := by subst h0 h1 hC; exact h
theorem sA_of {x : FVec F S512x128 .f32} (h : x = sA M L q K V I Z R0 R1 C A k) (hZ : Z = Z') (h0 : R0 = R0') (h1 : R1 = R1') (hC : C = C')
    (hA : A = A') : x = sA M L q K V I Z' R0' R1' C' A' k := by subst hZ h0 h1 hC hA; exact h
theorem sT_of {v0 : IVec S1x128 32} {a : BitVec 32} {X X' x : FVec F S1x512x128 .f32} (h : x = sT M L q K I R0 R1 C v0 a X k) (h0 : R0 = R0') (h1 : R1 = R1') (hC : C = C')
    (hX : X = X') : x = sT M L q K I R0' R1' C' v0 a X' k := by subst h0 h1 hC hX; exact h
end Starts

theorem later0 (i : grid0.Coords) (h2 : k0_cond2 i = 1#1) : 0 < (i 1).val := by
  revert h2; revert i; decide +kernel

set_option maxHeartbeats 4000000 in
theorem body_later (h1 : ¬ k0_cond1 i = 1#1) (h2 : k0_cond2 i = 1#1) (E : Set ℕ)
    (f2 : BufTy.Contents (Elt F) arg2.view.ty)
    (f3 : BufTy.Contents (Elt F) arg3.view.ty)
    (f4 : BufTy.Contents (Elt F) arg4.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) 𝒱 (c : Thread nD τ) bd) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ g, (arg6.view.loc (c : Thread nD τ) ↦[arg6.view.set]{fullShare} g) ∗ ⌜arg6.view.read (Elt F) g = outN (arg2.view.read (Elt F) f2) (arg8.view.read (Elt F) f8) (arg9.view.read (Elt F) f9) (i 1).val⌝) ∗ (arg8.view.loc (c : Thread nD τ) ↦[arg8.view.set]{fullShare} f8) ∗ (arg9.view.loc (c : Thread nD τ) ↦[arg9.view.set]{fullShare} f9) ∗ (∃ g, (arg7.view.loc (c : Thread nD τ) ↦[arg7.view.set]{fullShare} g) ∗ ⌜arg7.view.read (Elt F) g = carN (arg2.view.read (Elt F) f2) (arg8.view.read (Elt F) f8) (i 1).val⌝) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) := by
  iintro ⟨H2, H3, H4, H6, H7, H8, H9, H10, H11, H12, H13, H14, H15⟩
  have o6 := off6_eq i h2
  haveI : ClosedOff (k0_off6 i) := ⟨_, o6⟩
  have hp := later0 i h2
  have hI8 : (i 1).val < 8 := (i 1).isLt
  have o4 := off4_eq i
  have o5 := off5_eq i
  sl_unfold [cc0_attn_fwd]
  sl_exec
  sl_step
  obtain ⟨K, hK⟩ : ∃ K, arg8.view.read (Elt F) f8 = K := ⟨_, rfl⟩
  obtain ⟨V, hV⟩ : ∃ V, arg9.view.read (Elt F) f9 = V := ⟨_, rfl⟩
  rw [show Scf.trips (k0_t2_loop i).lb (k0_t2_loop i).ub (k0_t2_loop i).st = (i 1).val - 1 from trips2 i] at hL5 hL7 hL9 hL11 hL12 hL14
  obtain ⟨h10, h12, h13, h8, h6⟩ : arg14.view.read (Elt F) gL4 = sZ (qs (arg2.view.read (Elt F) f2)) K (i 1).val (zm (qs (arg2.view.read (Elt F) f2)) K (2 * (i 1).val - 1)) ((i 1).val - 1)
      ∧ arg15.view.readAt (Elt F) (Rect.unit (s := S512x512) ![0, 0] S512x256.size inb_S512x512_S512x256_0_0).toLoadRect gL5 = sR0 k0_pay86 (qs (arg2.view.read (Elt F) f2)) K (i 1).val (r0m k0_pay86 (qs (arg2.view.read (Elt F) f2)) K (2 * (i 1).val - 1)) ((i 1).val - 1)
      ∧ arg15.view.readAt (Elt F) (Rect.unit (s := S512x512) ![0, 256] S512x256.size inb_S512x512_S512x256_0_256).toLoadRect gL5 = sR1 k0_pay86 (qs (arg2.view.read (Elt F) f2)) K (i 1).val (r1m k0_pay86 (qs (arg2.view.read (Elt F) f2)) K (2 * (i 1).val - 1)) ((i 1).val - 1)
      ∧ arg11.view.read (Elt F) gL3 = sC k0_pay86 k0_pay87 (qs (arg2.view.read (Elt F) f2)) K (i 1).val (r0m k0_pay86 (qs (arg2.view.read (Elt F) f2)) K (2 * (i 1).val - 1)) (r1m k0_pay86 (qs (arg2.view.read (Elt F) f2)) K (2 * (i 1).val - 1)) (cD k0_pay86 k0_pay87 mk1 mk0 (qs (arg2.view.read (Elt F) f2)) K (i 1).val) ((i 1).val - 1)
      ∧ arg10.view.read (Elt F) gL2 = sA k0_pay86 k0_pay87 (qs (arg2.view.read (Elt F) f2)) K V (i 1).val (zm (qs (arg2.view.read (Elt F) f2)) K (2 * (i 1).val - 1)) (r0m k0_pay86 (qs (arg2.view.read (Elt F) f2)) K (2 * (i 1).val - 1)) (r1m k0_pay86 (qs (arg2.view.read (Elt F) f2)) K (2 * (i 1).val - 1)) (cD k0_pay86 k0_pay87 mk1 mk0 (qs (arg2.view.read (Elt F) f2)) K (i 1).val) (aD k0_pay86 k0_pay87 mk1 mk0 (qs (arg2.view.read (Elt F) f2)) K V (i 1).val) ((i 1).val - 1) := by
    clear hL14
    revert hL5 hL7 hL9 hL11 hL12
    sl_unfold_run_names
    simp only [accH_fold, shapeCast_id]
    simp only [readAt_newest, readAt_hi, readCov_hi, readCov_newest, readCov_hiH, cov12, full10, full11, cov14_lo, cov14_hi, cov10_late, cov11_late, full2, cov10_put, cov11_put2, rd10, rd11, rd14, readAt_tile _ _ _ _ o4, readAt_tile _ _ _ _ o5, readAt_tile _ _ _ _ o6, readAt_tile _ _ _ _ (show (![512, 0] : Fin 2 → ℕ) = ![512 * 1, 0] from rfl), readAt_tile _ _ _ _ (show (![0, 0] : Fin 2 → ℕ) = ![512 * 0, 0] from rfl), hK, hV]
    simp only [k0_pay4, k0_pay1, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay116, k0_pay117, k0_pay124, k0_pay127, k0_pay128, k0_pay129, k0_pay131, k0_pay132, k0_pay133, k0_pay134, k0_pay5, k0_pay6, k0_pay7, k0_pay8, k0_pay9, k0_pay10, k0_pay11, k0_pay12, k0_pay13, k0_pay14, k0_pay16, k0_pay17, k0_pay22, k0_pay23, k0_pay24, k0_pay25, k0_pay59, k0_pay60, k0_pay61, k0_pay62, k0_pay63, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, pay2_eq, pay3_eq, pay21_eq, pay64_eq, shapeCast_id]
    intro g6 g8 g10 g12 g13
    exact ⟨sZ_of g10 rfl, sR0_of g12 rfl, sR1_of g13 rfl, sC_of g8 rfl rfl rfl, sA_of g6 rfl rfl rfl rfl rfl⟩
  have h7 : arg7.view.read (Elt F) gL6 = sT k0_pay86 k0_pay87 (qs (arg2.view.read (Elt F) f2)) K (i 1).val (r0m k0_pay86 (qs (arg2.view.read (Elt F) f2)) K (2 * (i 1).val - 1)) (r1m k0_pay86 (qs (arg2.view.read (Elt F) f2)) K (2 * (i 1).val - 1)) (cD k0_pay86 k0_pay87 mk1 mk0 (qs (arg2.view.read (Elt F) f2)) K (i 1).val) ln (BitVec.ofNat 32 (i 1).val) (tD ln (BitVec.ofNat 32 (i 1).val) k0_pay86 k0_pay87 mk1 mk0 (qs (arg2.view.read (Elt F) f2)) K (i 1).val) ((i 1).val - 1) := by
    clear hL5 hL7 hL9 hL11 hL12 h10 h12 h13 h8 h6
    revert hL14
    sl_unfold_run_names
    simp only [readAt_newest, readAt_hi, readCov_hi, readCov_newest, readCov_hiH, cov12, full7, cov7_late, cov7_put2, rd7, full10, full11, cov14_lo, cov14_hi, cov10_late, cov11_late, full2, cov10_put, cov11_put2, rd10, rd11, rd14, readAt_tile _ _ _ _ o4, readAt_tile _ _ _ _ o5, readAt_tile _ _ _ _ o6, readAt_tile _ _ _ _ (show (![512, 0] : Fin 2 → ℕ) = ![512 * 1, 0] from rfl), readAt_tile _ _ _ _ (show (![0, 0] : Fin 2 → ℕ) = ![512 * 0, 0] from rfl), hK, hV]
    simp only [k0_pay112, k0_pay113, k0_pay114, k0_pay115, k0_pay118, k0_pay119, k0_pay120, k0_pay121, k0_pay122, k0_pay123, k0_pay126, k0_pay130, k0_pay4, k0_pay1, k0_pay90, k0_pay91, k0_pay92, k0_pay93, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay116, k0_pay117, k0_pay124, k0_pay127, k0_pay128, k0_pay129, k0_pay131, k0_pay132, k0_pay133, k0_pay134, k0_pay5, k0_pay6, k0_pay7, k0_pay8, k0_pay9, k0_pay10, k0_pay11, k0_pay12, k0_pay13, k0_pay14, k0_pay16, k0_pay17, k0_pay22, k0_pay23, k0_pay24, k0_pay15, k0_pay18, k0_pay25, k0_pay59, k0_pay60, k0_pay61, k0_pay62, k0_pay63, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, pay2_eq, pay3_eq, pay21_eq, pay64_eq, shapeCast_id]
    simp only [tw_fold, twH_fold]
    intro h
    refine sT_of h rfl rfl rfl (tw_congr rfl ?_ (tw_congr rfl ?_ (putC_congr rfl (twH_congr rfl ?_ (twH_congr rfl rfl rfl)))))
    · rfl
    · rfl
    · rfl
  clear hL5 hL7 hL9 hL11 hL12 hL14
  isplitl [H2]; · iexact H2
  isplitl [H3]; · iexact H3
  isplitl [H4]; · iexact H4
  isplitl [H6]
  · iexists _; isplitl [H6]; · iexact H6
    ipureintro
    rw [View.read_writes_full]
    sl_unfold_run_names
    have ht : Scf.trips 0#32 (Scalar.addi 0#32 (Scalar.muli (Scalar.divsi (Scalar.subi (Scalar.subi (BitVec.ofNat 32 (i 1).val) 1#32) 0#32) 1#32) 1#32)) 1#32 = (i 1).val - 1 := trips2 i
    simp only [dt_fold, accH_fold, shapeCast_id]
    simp only [readAt_newest, readAt_hi, readCov_hi, readCov_newest, readCov_hiH, cov12, full10, full11, cov14_lo, cov14_hi, cov10_late, cov11_late, full2, cov10_put, cov11_put2, rd10, rd11, rd14, readAt_tile _ _ _ _ o4, readAt_tile _ _ _ _ o5, readAt_tile _ _ _ _ o6, readAt_tile _ _ _ _ (show (![512, 0] : Fin 2 → ℕ) = ![512 * 1, 0] from rfl), readAt_tile _ _ _ _ (show (![0, 0] : Fin 2 → ℕ) = ![512 * 0, 0] from rfl), hK, hV]
    simp only [readAt_window arg14.view, h6, h8, h10, h12, h13]
    clear h6 h8 h10 h12 h13
    simp only [k0_pay4, k0_pay1, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay116, k0_pay117, k0_pay124, k0_pay127, k0_pay128, k0_pay129, k0_pay131, k0_pay132, k0_pay133, k0_pay134, k0_pay5, k0_pay6, k0_pay7, k0_pay8, k0_pay9, k0_pay10, k0_pay11, k0_pay12, k0_pay13, k0_pay14, k0_pay16, k0_pay17, k0_pay22, k0_pay23, k0_pay24, k0_pay25, k0_pay59, k0_pay60, k0_pay61, k0_pay62, k0_pay63, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, pay2_eq, pay3_eq, pay21_eq, pay64_eq, shapeCast_id]
    simp only [k0_pay58, ht]
    simp only [pt_fold, ct_fold, zt_fold, sp_fold, rt0_fold, rt1_fold, lo_fold, hi_fold]
    rfl
  isplitl [H8]; · iexact H8
  isplitl [H9]; · iexact H9
  isplitl [H7]
  · iexists _; isplitl [H7]; · iexact H7
    ipureintro
    rw [rd7]
    sl_unfold_run_names
    have ht : Scf.trips 0#32 (Scalar.addi 0#32 (Scalar.muli (Scalar.divsi (Scalar.subi (Scalar.subi (BitVec.ofNat 32 (i 1).val) 1#32) 0#32) 1#32) 1#32)) 1#32 = (i 1).val - 1 := trips2 i
    simp only [readAt_newest, readAt_hi, readCov_hi, readCov_newest, readCov_hiH, cov12, full7, cov7_late, cov7_put2, rd7, full10, full11, cov14_lo, cov14_hi, cov10_late, cov11_late, full2, cov10_put, cov11_put2, rd10, rd11, rd14, readAt_tile _ _ _ _ o4, readAt_tile _ _ _ _ o5, readAt_tile _ _ _ _ o6, readAt_tile _ _ _ _ (show (![512, 0] : Fin 2 → ℕ) = ![512 * 1, 0] from rfl), readAt_tile _ _ _ _ (show (![0, 0] : Fin 2 → ℕ) = ![512 * 0, 0] from rfl), hK, hV]
    simp only [readAt_window arg14.view, h7, h8, h10, h12, h13]
    clear h6 h7 h8 h10 h12 h13
    simp only [k0_pay112, k0_pay113, k0_pay114, k0_pay115, k0_pay118, k0_pay119, k0_pay120, k0_pay121, k0_pay122, k0_pay123, k0_pay126, k0_pay130, k0_pay4, k0_pay1, k0_pay90, k0_pay91, k0_pay92, k0_pay93, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay116, k0_pay117, k0_pay124, k0_pay127, k0_pay128, k0_pay129, k0_pay131, k0_pay132, k0_pay133, k0_pay134, k0_pay5, k0_pay6, k0_pay7, k0_pay8, k0_pay9, k0_pay10, k0_pay11, k0_pay12, k0_pay13, k0_pay14, k0_pay16, k0_pay17, k0_pay22, k0_pay23, k0_pay24, k0_pay15, k0_pay18, k0_pay25, k0_pay59, k0_pay60, k0_pay61, k0_pay62, k0_pay63, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, pay2_eq, pay3_eq, pay21_eq, pay64_eq, shapeCast_id]
    simp only [k0_pay58, ht]
    simp only [tw_fold, pt_fold, ct_fold, zt_fold, sp_fold, rt0_fold, rt1_fold, lo_fold, hi_fold]
    refine tw_congr rfl ?_ (tw_congr rfl ?_ (tw_congr rfl ?_ (tw_congr rfl ?_ ?_)))
    · rfl
    · rfl
    · rfl
    · rfl
    · rfl
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Cert.AttnFwdIdeal.Att
-- ==== Proof.Fwd.AttnPoint.lean ====
module

public import proofs.«01_k».proof.Proof.Fwd.AttnBodyN
public import proofs.«01_k».proof.Proof.Common.Reals
public import Idealize.ShloMosaic.Lib.Pipeline.ValueKit
public import Idealize.ShloMosaic.Lib.WordCmp

@[expose] public section

set_option maxRecDepth 16384

noncomputable section

namespace Cert.AttnFwdIdeal.Att

open Idealize.ShloMosaic Idealize.ShloMosaic.TcCoe
open Cert.AttnFwdIdeal Cert.AttnFwdIdeal.Gen Cert.Common

/-- The head and the key of a laid-out row. -/
def hd (c : ℕ) : ℕ := c / 128 % 2
def ky (c : ℕ) : ℕ := c / 256 * 128 + c % 128

theorem log2e : (Named.named κ "log2_e_inv" 0x3FB8AA3B#32 : Ideal .f32) = ((Real.log 2)⁻¹ : ℝ) := rfl
theorem scale2e : (Named.named κ "scale_log2_e" 0x3E38AA3B#32 : Ideal .f32) = ((8⁻¹ * (Real.log 2)⁻¹ : ℝ) : EReal) := rfl

theorem sum_coe {ι : Type} (S : Finset ι) (f : ι → ℝ) : (∑ i ∈ S, (f i : EReal)) = ((∑ i ∈ S, f i : ℝ) : EReal) := by
  classical
  induction S using Finset.induction_on with
  | empty => rfl
  | insert a S h ih => rw [Finset.sum_insert h, Finset.sum_insert h, ih, EReal.coe_add]

/-- Softplus in base two, of a number. -/
def sp2 (x : ℝ) : ℝ := max x 0 + Real.log (1 + Real.rpow 2 (0 - |x|)) * (Real.log 2)⁻¹

theorem sp2_coe (x : ℝ) : max (x : EReal) 0 + Ideal.log (1 + Ideal.exp2 (0 - max (x : EReal) (-(x : EReal)))) * ((Real.log 2)⁻¹ : ℝ) = (sp2 x : EReal) := by
  have e : max (x : EReal) (-(x : EReal)) = ((|x| : ℝ) : EReal) := by
    rw [abs_eq_max_neg, EReal.coe_strictMono.monotone.map_max]; rfl
  have h : ¬ (1 + Real.rpow 2 (0 - |x|)) ≤ 0 := by
    have : 0 < Real.rpow 2 (0 - |x|) := Real.rpow_pos_of_pos (by norm_num) _
    linarith
  have e2 : (0 : EReal) - ((|x| : ℝ) : EReal) = ((0 - |x| : ℝ) : EReal) := by rw [EReal.coe_sub, EReal.coe_zero]
  have e3 : (1 : EReal) + Ideal.exp2 ((0 - |x| : ℝ) : EReal) = ((1 + Real.rpow 2 (0 - |x|) : ℝ) : EReal) := by
    rw [EReal.coe_add, EReal.coe_one]; rfl
  have e4 : Ideal.log ((1 + Real.rpow 2 (0 - |x|) : ℝ) : EReal) = ((Real.log (1 + Real.rpow 2 (0 - |x|)) : ℝ) : EReal) := if_neg h
  rw [e, e2, e3, e4, sp2, EReal.coe_add, EReal.coe_mul, EReal.coe_strictMono.monotone.map_max]; rfl

theorem kw_at (K : FVec Ideal S8192x128 .bf16) (m : ℕ) (c : Fin 512) (l : Fin 128) (h : 512 * m + c.val < 8192) :
    kw K m (ix2 c l) = K (ix2 ⟨512 * m + c.val, h⟩ l) := by
  unfold kw
  refine congrArg K (funext fun a => ?_)
  match a with
  | 0 => exact Fin.ext (Nat.mod_eq_of_lt h)
  | 1 => rfl

theorem zt_at (q w : FVec Ideal S512x128 .bf16) (a c : Fin 512) : zt q w (ix2 a c) = ∑ l : Fin 128, q (ix2 a l) * w (ix2 c l) := by
  pointwise [zt]
theorem zH_at (q w : FVec Ideal S512x128 .bf16) (a : Fin 256) (c : Fin 512) :
    zH q w (ix2 a c) = ∑ l : Fin 128, q (ix2 (⟨256 + a.val, by omega⟩ : Fin 512) l) * w (ix2 c l) := by
  pointwise [zH]

theorem sp_at (z : FVec Ideal S512x512 .f32) (a c : Fin 512) (x : ℝ) (h : z (ix2 a c) = (x : EReal)) : sp z (ix2 a c) = (sp2 x : EReal) := by
  rw [← sp2_coe]
  pointwise [sp, log2e, h]
  rfl
theorem spH_at (z : FVec Ideal S256x512 .f32) (a : Fin 256) (c : Fin 512) (x : ℝ) (h : z (ix2 a c) = (x : EReal)) : spH z (ix2 a c) = (sp2 x : EReal) := by
  rw [← sp2_coe]
  pointwise [spH, log2e, h]
  rfl

theorem slt_at (x y : ℕ) (hx : x < 4096) (hy : y < 4096) : IntOp.cmpi CmpIPredicate.slt (BitVec.ofNat 32 x) (BitVec.ofNat 32 y) = BitVec.ofBool (decide (x < y)) := by
  word_cmp
theorem sge_at (x y : ℕ) (hx : x < 4096) (hy : y < 4096) : IntOp.cmpi CmpIPredicate.sge (BitVec.ofNat 32 x) (BitVec.ofNat 32 y) = BitVec.ofBool (decide (y ≤ x)) := by
  word_cmp
theorem bit_at (p : Prop) [Decidable p] : BitVec.ofBool (decide p) = if p then 1#1 else 0#1 := by
  by_cases h : p <;> simp [h]
theorem later_at (k j : Fin 256) : (k0_pay86 : FVec Ideal S256x256 .bf16) (ix2 k j) = if k.val / 128 = j.val / 128 ∧ j.val ≤ k.val then (1 : EReal) else 0 := by
  pointwise [k0_pay86]
  have hk := k.isLt
  have hj := j.isLt
  rw [slt_at k.val 128 (by omega) (by omega), slt_at j.val 128 (by omega) (by omega), sge_at k.val 128 (by omega) (by omega),
    sge_at j.val 128 (by omega) (by omega), sge_at k.val j.val (by omega) (by omega)]
  by_cases h1 : k.val < 128 <;> by_cases h2 : j.val < 128 <;> by_cases h3 : j.val ≤ k.val
  all_goals first
    | rw [if_pos (show k.val / 128 = j.val / 128 ∧ j.val ≤ k.val by omega)]; simp only [h1, h2, h3, show (128 ≤ k.val) = ¬ k.val < 128 from propext (by omega), show (128 ≤ j.val) = ¬ j.val < 128 from propext (by omega)]; rfl
    | rw [if_neg (show ¬ (k.val / 128 = j.val / 128 ∧ j.val ≤ k.val) by omega)]; simp only [h1, h2, h3, show (128 ≤ k.val) = ¬ k.val < 128 from propext (by omega), show (128 ≤ j.val) = ¬ j.val < 128 from propext (by omega)]; rfl
theorem first_at (j : Fin 256) : k0_pay87 (ix2 (0 : Fin 1) j) = if j.val < 128 then 1#1 else 0#1 := by
  pointwise [k0_pay87]
  rw [slt_at j.val 128 (by omega) (by omega), bit_at]
theorem key_at (a c : Fin 512) : k0_pay88 (ix2 a c) = BitVec.ofNat 32 (ky c.val) := by
  pointwise [k0_pay88]
  revert c; decide +kernel
theorem ky_lt (c : Fin 512) : ky c.val < 256 := by have := c.isLt; unfold ky; omega
theorem mk0_at (a c : Fin 512) : mk0 (ix2 a c) = if ky c.val < a.val then 1#1 else 0#1 := by
  have hk := ky_lt c
  pointwise [mk0, key_at]
  rw [slt_at _ a.val (by omega) (by omega), bit_at]
theorem mk1_at (a c : Fin 512) : mk1 (ix2 a c) = if ky c.val + 256 < a.val then 1#1 else 0#1 := by
  have hk := ky_lt c
  pointwise [mk1, key_at]
  rw [show IntOp.addi (BitVec.ofNat 32 (ky c.val)) 256#32 = BitVec.ofNat 32 (ky c.val + 256) from (BitVec.ofNat_add _ _).symm,
    slt_at _ a.val (by omega) (by omega), bit_at]
end Cert.AttnFwdIdeal.Att
-- ==== Proof.Fwd.AttnRow.lean ====
module

public import proofs.«01_k».proof.Proof.Fwd.AttnPoint

@[expose] public section

set_option maxRecDepth 16384

noncomputable section

namespace Cert.AttnFwdIdeal.Att

open Idealize.ShloMosaic Idealize.ShloMosaic.TcCoe
open Cert.AttnFwdIdeal Cert.AttnFwdIdeal.Gen Cert.Common

/-! ## A row of a tile, as the kernel takes it -/

/-- The sums over the later keys of a block; the carry; the weights against the values. -/
def rR (s : Fin 256 → EReal) (j : Fin 256) : EReal := ∑ k : Fin 256, s k * (if k.val / 128 = j.val / 128 ∧ j.val ≤ k.val then (1 : EReal) else 0)
def rC (r C : Fin 256 → EReal) (j : Fin 256) : EReal := C j + if j.val < 128 then r 0 else r 128
def rD (p0 p1 : Fin 256 → EReal) (w : Fin 512 → EReal) : EReal :=
  (∑ k : Fin 256, p0 k * w ⟨k.val, by omega⟩) + ∑ k : Fin 256, p1 k * w ⟨256 + k.val, by omega⟩
def f0 (s : Fin 512 → EReal) (k : Fin 256) : EReal := s ⟨k.val, by omega⟩
def f1 (s : Fin 512 → EReal) (k : Fin 256) : EReal := s ⟨256 + k.val, by omega⟩

theorem rt0_at (s : FVec Ideal S512x512 .f32) (a : Fin 512) (j : Fin 256) : rt0 k0_pay86 s (ix2 a j) = rR (f0 fun k => s (ix2 a k)) j := by
  pointwise [rt0, later_at, rR, f0]
theorem rt1_at (s : FVec Ideal S512x512 .f32) (a : Fin 512) (j : Fin 256) : rt1 k0_pay86 s (ix2 a j) = rR (f1 fun k => s (ix2 a k)) j := by
  pointwise [rt1, later_at, rR, f1]
theorem rH0_at (s : FVec Ideal S256x512 .f32) (a : Fin 256) (j : Fin 256) : rH0 k0_pay86 s (ix2 a j) = rR (f0 fun k => s (ix2 a k)) j := by
  pointwise [rH0, later_at, rR, f0]
theorem rH1_at (s : FVec Ideal S256x512 .f32) (a : Fin 256) (j : Fin 256) : rH1 k0_pay86 s (ix2 a j) = rR (f1 fun k => s (ix2 a k)) j := by
  pointwise [rH1, later_at, rR, f1]
theorem sel_at (p : Prop) [Decidable p] (x y : EReal) : Scalar.select (if p then 1#1 else 0#1) x y = if p then x else y := by
  by_cases h : p <;> simp [h, Scalar.select]
theorem ct_at (r C : FVec Ideal S512x256 .f32) (a : Fin 512) (j : Fin 256) :
    ct k0_pay87 r C (ix2 a j) = rC (fun k => r (ix2 a k)) (fun k => C (ix2 a k)) j := by
  pointwise [ct, first_at, rC, sel_at]
theorem ctH_at (r C : FVec Ideal S256x256 .f32) (a : Fin 256) (j : Fin 256) :
    ctH k0_pay87 r C (ix2 a j) = rC (fun k => r (ix2 a k)) (fun k => C (ix2 a k)) j := by
  pointwise [ctH, first_at, rC, sel_at]
theorem acc_at (p0 p1 : FVec Ideal S512x256 .bf16) (w : FVec Ideal S512x128 .bf16) (A : FVec Ideal S512x128 .f32) (a : Fin 512) (l : Fin 128) :
    acc p0 p1 w A (ix2 a l) = A (ix2 a l) + rD (fun k => p0 (ix2 a k)) (fun k => p1 (ix2 a k)) (fun k => w (ix2 k l)) := by
  pointwise [acc, dt, rD]
theorem accH_at (p0 p1 : FVec Ideal S256x256 .bf16) (w : FVec Ideal S512x128 .bf16) (A : FVec Ideal S256x128 .f32) (a : Fin 256) (l : Fin 128) :
    accH p0 p1 w A (ix2 a l) = A (ix2 a l) + rD (fun k => p0 (ix2 a k)) (fun k => p1 (ix2 a k)) (fun k => w (ix2 k l)) := by
  pointwise [accH, rD]

/-! ## The same over the reals -/

theorem pick (h lo : ℕ) (hh : h < 2) (hl : lo ≤ 128) (G : Fin 256 → ℝ) (F : ℕ → ℝ) (hG : ∀ k : Fin 256, G k = if k.val / 128 = h ∧ lo ≤ k.val % 128 then F (k.val % 128) else 0) :
    ∑ k : Fin 256, G k = ∑ κ ∈ Finset.Ico lo 128, F κ := by
  rw [Finset.sum_congr rfl fun k _ => hG k, ← Finset.sum_filter]
  refine Finset.sum_bij' (fun k _ => k.val % 128) (fun κ hκ => ⟨h * 128 + κ, by have := Finset.mem_Ico.1 hκ; omega⟩) ?_ ?_ ?_ ?_ ?_
  · intro k hk
    have := (Finset.mem_filter.1 hk).2
    exact Finset.mem_Ico.2 ⟨this.2, Nat.mod_lt _ (by norm_num)⟩
  · intro κ hκ
    have := Finset.mem_Ico.1 hκ
    refine Finset.mem_filter.2 ⟨Finset.mem_univ _, ?_⟩
    show (h * 128 + κ) / 128 = h ∧ lo ≤ (h * 128 + κ) % 128
    omega
  · intro k hk
    have := (Finset.mem_filter.1 hk).2
    exact Fin.ext (by show h * 128 + k.val % 128 = k.val; omega)
  · intro κ hκ
    have := Finset.mem_Ico.1 hκ
    show (h * 128 + κ) % 128 = κ
    omega
  · intro k hk; rfl

theorem rR_real (s : Fin 256 → EReal) (f : ℕ → ℕ → ℝ) (hs : ∀ k, s k = (f (k.val / 128) (k.val % 128) : ℝ)) (j : Fin 256) :
    rR s j = ((∑ κ ∈ Finset.Ico (j.val % 128) 128, f (j.val / 128) κ : ℝ) : EReal) := by
  have e : ∀ k : Fin 256, s k * (if k.val / 128 = j.val / 128 ∧ j.val ≤ k.val then (1 : EReal) else 0)
      = (((fun k : ℕ => if k / 128 = j.val / 128 ∧ j.val ≤ k then f (k / 128) (k % 128) else 0) k.val : ℝ) : EReal) := by
    intro k
    rw [hs]
    by_cases h : k.val / 128 = j.val / 128 ∧ j.val ≤ k.val
    · simp only [if_pos h, mul_one]
    · simp only [if_neg h, mul_zero]; rfl
  unfold rR
  rw [Finset.sum_congr rfl fun k _ => e k, sum_coe, pick (j.val / 128) (j.val % 128) (by omega) (by omega) _ (fun κ => f (j.val / 128) κ)]
  intro k
  beta_reduce
  by_cases h : k.val / 128 = j.val / 128 ∧ j.val ≤ k.val
  · rw [if_pos h, if_pos ⟨h.1, by omega⟩, h.1]
  · rw [if_neg h, if_neg (by intro h'; exact h ⟨h'.1, by omega⟩)]

theorem rC_real (r C : Fin 256 → EReal) (f : ℕ → ℕ → ℝ) (g : ℕ → ℝ) (hr : ∀ j : Fin 256, r j = ((∑ κ ∈ Finset.Ico (j.val % 128) 128, f (j.val / 128) κ : ℝ) : EReal))
    (hC : ∀ j : Fin 256, C j = (g (j.val / 128) : ℝ)) (j : Fin 256) :
    rC r C j = (((∑ κ ∈ Finset.Ico 0 128, f (j.val / 128) κ) + g (j.val / 128) : ℝ) : EReal) := by
  have hj := j.isLt
  unfold rC
  rw [hC, add_comm (∑ κ ∈ Finset.Ico 0 128, f (j.val / 128) κ), EReal.coe_add]
  by_cases h : j.val < 128
  · rw [if_pos h, hr 0, show j.val / 128 = 0 by omega]; rfl
  · rw [if_neg h, hr 128, show j.val / 128 = 1 by omega]; rfl

theorem rD_real (p0 p1 : Fin 256 → EReal) (w : Fin 512 → EReal) (b h : ℕ) (hh : h < 2) (P : ℕ → ℕ → ℝ) (v : ℕ → ℝ)
    (h0 : ∀ j : Fin 256, p0 j = (P (j.val / 128) (b + j.val % 128) : ℝ)) (h1 : ∀ j : Fin 256, p1 j = (P (j.val / 128) (b + 128 + j.val % 128) : ℝ))
    (hw : ∀ c : Fin 512, w c = ((if h = hd c.val then v (b + ky c.val) else 0 : ℝ) : EReal)) :
    rD p0 p1 w = ((∑ s ∈ Finset.Ico b (b + 256), P h s * v s : ℝ) : EReal) := by
  have e0 : ∀ k : Fin 256, p0 k * w ⟨k.val, by omega⟩ = (((fun k : ℕ => P (k / 128) (b + k % 128) * (if h = k / 128 then v (b + k % 128) else 0)) k.val : ℝ) : EReal) := by
    intro k
    rw [h0, hw, ← EReal.coe_mul, show hd k.val = k.val / 128 by unfold hd; omega, show ky k.val = k.val % 128 by unfold ky; omega]
  have e1 : ∀ k : Fin 256, p1 k * w ⟨256 + k.val, by omega⟩ = (((fun k : ℕ => P (k / 128) (b + 128 + k % 128) * (if h = k / 128 then v (b + 128 + k % 128) else 0)) k.val : ℝ) : EReal) := by
    intro k
    rw [h1, hw, ← EReal.coe_mul, show hd (256 + k.val) = k.val / 128 by unfold hd; omega, show ky (256 + k.val) = 128 + k.val % 128 by unfold ky; omega, ← Nat.add_assoc]
  have g : ∀ b' : ℕ, (∑ k : Fin 256, (fun k : ℕ => P (k / 128) (b' + k % 128) * (if h = k / 128 then v (b' + k % 128) else 0)) k.val) = ∑ s ∈ Finset.Ico b' (b' + 128), P h s * v s := by
    intro b'
    rw [pick h 0 hh (by norm_num) _ (fun κ => P h (b' + κ) * v (b' + κ))]
    · rw [Finset.sum_Ico_add (fun s => P h s * v s) 0 128 b', Nat.zero_add, Nat.add_comm 128 b']
    · intro k
      beta_reduce
      by_cases e : h = k.val / 128
      · rw [if_pos e, if_pos ⟨e.symm, Nat.zero_le _⟩, e]
      · rw [if_neg e, if_neg (fun e' => e e'.1.symm), mul_zero]
  unfold rD
  rw [Finset.sum_congr rfl fun k _ => e0 k, Finset.sum_congr rfl fun k _ => e1 k, sum_coe, sum_coe, ← EReal.coe_add, g b, g (b + 128)]
  rw [Finset.sum_Ico_consecutive _ (by omega) (by omega)]

/-! ## The attention of one row -/

section Row
variable (n : ℕ) (z : ℕ → ℕ → ℝ) (v : ℕ → ℝ)

/-- The masked softplus, its sum from a key on, and the weight. -/
def sg (h s : ℕ) : ℝ := if s < n then sp2 (z h s) else 0
def T (h s : ℕ) : ℝ := ∑ k ∈ Finset.Ico s 4096, sg n z h k
def W (h s : ℕ) : ℝ := if s < n then Real.rpow 2 (z h s - T n z h s) else 0

theorem T_split (h s e : ℕ) (h1 : s ≤ e) (h2 : e ≤ 4096) : (∑ k ∈ Finset.Ico s e, sg n z h k) + T n z h e = T n z h s :=
  Finset.sum_Ico_consecutive _ h1 h2

variable {n z}
variable {b : ℕ} (hb : b + 256 ≤ 4096) {s : Fin 512 → EReal} {C : Fin 256 → EReal}
  (hs : ∀ c : Fin 512, s c = (sg n z (hd c.val) (b + ky c.val) : ℝ)) (hC : ∀ j : Fin 256, C j = (T n z (j.val / 128) (b + 256) : ℝ))
include hb hs hC

theorem tile_r1 (j : Fin 256) : rR (f1 s) j = ((∑ κ ∈ Finset.Ico (j.val % 128) 128, sg n z (j.val / 128) (b + 128 + κ) : ℝ) : EReal) :=
  rR_real _ (fun h κ => sg n z h (b + 128 + κ)) (fun k => by
    unfold f1
    rw [hs, show hd (256 + k.val) = k.val / 128 by unfold hd; omega, show ky (256 + k.val) = 128 + k.val % 128 by unfold ky; omega, ← Nat.add_assoc]) j
theorem tile_r0 (j : Fin 256) : rR (f0 s) j = ((∑ κ ∈ Finset.Ico (j.val % 128) 128, sg n z (j.val / 128) (b + κ) : ℝ) : EReal) :=
  rR_real _ (fun h κ => sg n z h (b + κ)) (fun k => by
    unfold f0
    rw [hs, show hd k.val = k.val / 128 by unfold hd; omega, show ky k.val = k.val % 128 by unfold ky; omega]) j
theorem tile_c1 (j : Fin 256) : rC (rR (f1 s)) C j = (T n z (j.val / 128) (b + 128) : ℝ) := by
  rw [rC_real _ _ (fun h κ => sg n z h (b + 128 + κ)) (fun h => T n z h (b + 256)) (tile_r1 hb hs hC) hC, Finset.sum_Ico_add (sg n z (j.val / 128)) 0 128 (b + 128)]
  rw [← T_split n z (j.val / 128) (b + 128) (b + 256) (by omega) (by omega), show 0 + (b + 128) = b + 128 by omega, show 128 + (b + 128) = b + 256 by omega]
theorem tile_c0 (j : Fin 256) : rC (rR (f0 s)) (rC (rR (f1 s)) C) j = (T n z (j.val / 128) b : ℝ) := by
  rw [rC_real _ _ (fun h κ => sg n z h (b + κ)) (fun h => T n z h (b + 128)) (tile_r0 hb hs hC) (tile_c1 hb hs hC), Finset.sum_Ico_add (sg n z (j.val / 128)) 0 128 b]
  rw [← T_split n z (j.val / 128) b (b + 128) (by omega) (by omega), show 0 + b = b by omega, show 128 + b = b + 128 by omega]
theorem tile_e1 (j : Fin 256) : rR (f1 s) j + C j = (T n z (j.val / 128) (b + 128 + j.val % 128) : ℝ) := by
  have := Nat.mod_lt j.val (show 0 < 128 by norm_num)
  rw [tile_r1 hb hs hC, hC, ← EReal.coe_add, Finset.sum_Ico_add (sg n z (j.val / 128)) _ 128 (b + 128)]
  rw [← T_split n z (j.val / 128) (b + 128 + j.val % 128) (b + 256) (by omega) (by omega), show j.val % 128 + (b + 128) = b + 128 + j.val % 128 by omega, show 128 + (b + 128) = b + 256 by omega]
theorem tile_e0 (j : Fin 256) : rR (f0 s) j + rC (rR (f1 s)) C j = (T n z (j.val / 128) (b + j.val % 128) : ℝ) := by
  have := Nat.mod_lt j.val (show 0 < 128 by norm_num)
  rw [tile_r0 hb hs hC, tile_c1 hb hs hC, ← EReal.coe_add, Finset.sum_Ico_add (sg n z (j.val / 128)) _ 128 b]
  rw [← T_split n z (j.val / 128) (b + j.val % 128) (b + 128) (by omega) (by omega), show j.val % 128 + b = b + j.val % 128 by omega, show 128 + b = b + 128 by omega]
end Row

theorem weight (n : ℕ) (z : ℕ → ℕ → ℝ) (h s : ℕ) : (if s < n then Ideal.exp2 ((z h s : EReal) - (T n z h s : ℝ)) else 0) = ((W n z h s : ℝ) : EReal) := by
  unfold W
  by_cases e : s < n
  · rw [if_pos e, if_pos e, ← EReal.coe_sub]; rfl
  · rw [if_neg e, if_neg e]; rfl
end Cert.AttnFwdIdeal.Att
-- ==== Proof.Fwd.AttnRes.lean ====
module

public import proofs.«01_k».proof.Proof.Fwd.AttnRow

@[expose] public section

set_option maxRecDepth 16384

noncomputable section

namespace Cert.AttnFwdIdeal.Att

open Idealize.ShloMosaic Idealize.ShloMosaic.TcCoe
open Cert.AttnFwdIdeal Cert.AttnFwdIdeal.Gen Cert.Common

/-! ## Late rows put into an array -/

theorem put256_late (C : FVec Ideal S512x256 .f32) (w : FVec Ideal S256x256 .f32) (a : Fin 256) (j : Fin 256) :
    put256 C w (ix2 (⟨256 + a.val, by omega⟩ : Fin 512) j) = w (ix2 a j) := by
  have h := congrFun (VecWindow.window_put_same C ![256, 0] ![256, 256] inb_S512x256_S256x256_256_0 w) (ix2 a j)
  rw [← h]
  refine congrArg (put256 C w) (funext fun x => Fin.ext ?_)
  match x with
  | 0 => show 256 + a.val = 256 + 1 * a.val; omega
  | 1 => show j.val = 0 + 1 * j.val; omega
theorem put128_late (C : FVec Ideal S512x128 .f32) (w : FVec Ideal S256x128 .f32) (a : Fin 256) (j : Fin 128) :
    put128 C w (ix2 (⟨256 + a.val, by omega⟩ : Fin 512) j) = w (ix2 a j) := by
  have h := congrFun (VecWindow.window_put_same C ![256, 0] ![256, 128] inb_S512x128_S256x128_256_0 w) (ix2 a j)
  rw [← h]
  refine congrArg (put128 C w) (funext fun x => Fin.ext ?_)
  match x with
  | 0 => show 256 + a.val = 256 + 1 * a.val; omega
  | 1 => show j.val = 0 + 1 * j.val; omega
theorem put256_early (C : FVec Ideal S512x256 .f32) (w : FVec Ideal S256x256 .f32) (a : Fin 512) (h : a.val < 256) (j : Fin 256) :
    put256 C w (ix2 a j) = C (ix2 a j) := by
  unfold put256 VecWindow.put
  exact dif_neg fun h' => absurd (show 256 ≤ a.val from (h' 0).1) (by omega)
theorem put128_early (C : FVec Ideal S512x128 .f32) (w : FVec Ideal S256x128 .f32) (a : Fin 512) (h : a.val < 256) (j : Fin 128) :
    put128 C w (ix2 a j) = C (ix2 a j) := by
  unfold put128 VecWindow.put
  exact dif_neg fun h' => absurd (show 256 ≤ a.val from (h' 0).1) (by omega)
theorem zero256_at (a : Fin 512) (j : Fin 256) : (zero256 : FVec Ideal S512x256 .f32) (ix2 a j) = 0 := by pointwise [zero256]
theorem zero128_at (a : Fin 512) (j : Fin 128) : (zero128 : FVec Ideal S512x128 .f32) (ix2 a j) = 0 := by pointwise [zero128]
theorem late256_at (a : Fin 256) (j : Fin 256) : late256 (zero256 : FVec Ideal S512x256 .f32) (ix2 a j) = 0 := by
  unfold late256 VecWindow.window zero256; pointwise []
theorem late128_at (a : Fin 256) (j : Fin 128) : late128 (zero128 : FVec Ideal S512x128 .f32) (ix2 a j) = 0 := by
  unfold late128 VecWindow.window zero128; pointwise []
theorem emb_lo (z : FVec Ideal S512x512 .f32) (a : Fin 512) (j : Fin 256) : lo z (ix2 a j) = z (ix2 a (⟨j.val, by omega⟩ : Fin 512)) := by
  refine congrArg z (funext fun x => Fin.ext ?_)
  match x with
  | 0 => show 0 + 1 * a.val = a.val; omega
  | 1 => show 0 + 1 * j.val = j.val; omega
theorem emb_hi (z : FVec Ideal S512x512 .f32) (a : Fin 512) (j : Fin 256) : hi z (ix2 a j) = z (ix2 a (⟨256 + j.val, by omega⟩ : Fin 512)) := by
  refine congrArg z (funext fun x => Fin.ext ?_)
  match x with
  | 0 => show 0 + 1 * a.val = a.val; omega
  | 1 => show 256 + 1 * j.val = 256 + j.val; omega
theorem emb_loH (z : FVec Ideal S256x512 .f32) (a : Fin 256) (j : Fin 256) : loH z (ix2 a j) = z (ix2 a (⟨j.val, by omega⟩ : Fin 512)) := by
  refine congrArg z (funext fun x => Fin.ext ?_)
  match x with
  | 0 => show 0 + 1 * a.val = a.val; omega
  | 1 => show 0 + 1 * j.val = j.val; omega
theorem emb_hiH (z : FVec Ideal S256x512 .f32) (a : Fin 256) (j : Fin 256) : hiH z (ix2 a j) = z (ix2 a (⟨256 + j.val, by omega⟩ : Fin 512)) := by
  refine congrArg z (funext fun x => Fin.ext ?_)
  match x with
  | 0 => show 0 + 1 * a.val = a.val; omega
  | 1 => show 256 + 1 * j.val = 256 + j.val; omega

theorem pt_at (z r C : FVec Ideal S512x256 .f32) (a : Fin 512) (j : Fin 256) : pt z r C (ix2 a j) = Ideal.exp2 (z (ix2 a j) - (r (ix2 a j) + C (ix2 a j))) := by
  pointwise [pt]; rfl
theorem pm_at (m : IVec S512x256 1) (z r C : FVec Ideal S512x256 .f32) (a : Fin 512) (j : Fin 256) (p : Prop) [Decidable p] (h : m (ix2 a j) = if p then 1#1 else 0#1) :
    pm m z r C (ix2 a j) = if p then Ideal.exp2 (z (ix2 a j) - (r (ix2 a j) + C (ix2 a j))) else 0 := by
  pointwise [pm, h, sel_at]; rfl
theorem pH_at (m : IVec S256x256 1) (z r C : FVec Ideal S256x256 .f32) (a : Fin 256) (j : Fin 256) (p : Prop) [Decidable p] (h : m (ix2 a j) = if p then 1#1 else 0#1) :
    pH m z r C (ix2 a j) = if p then Ideal.exp2 (z (ix2 a j) - (r (ix2 a j) + C (ix2 a j))) else 0 := by
  pointwise [pH, h, sel_at]; rfl

/-! ## The scores of real arguments -/

variable (q : FVec Ideal S512x128 .bf16) (K V : FVec Ideal S8192x128 .bf16) (qr : Fin 512 → Fin 128 → ℝ) (Kr Vr : ℕ → Fin 128 → ℝ)

/-- A score: a row of queries against a key, over a head's lanes. -/
def zz (qr : Fin 512 → Fin 128 → ℝ) (Kr : ℕ → Fin 128 → ℝ) (a : Fin 512) (h s : ℕ) : ℝ := ∑ l : Fin 128, qr a l * (if l.val / 64 = h then Kr s l else 0)
/-- A row's result from key `e` on. -/
def AA (n : ℕ) (z : ℕ → ℕ → ℝ) (Vr : ℕ → Fin 128 → ℝ) (l : Fin 128) (e : ℕ) : ℝ := ∑ s ∈ Finset.Ico e 4096, W n z (l.val / 64) s * Vr s l

variable (hq : ∀ a l, q (ix2 a l) = (qr a l : ℝ)) (hK : ∀ (c : Fin 8192) l, K (ix2 c l) = ((if l.val / 64 = hd c.val then Kr (ky c.val) l else 0 : ℝ) : EReal))
  (hV : ∀ (c : Fin 8192) l, V (ix2 c l) = ((if l.val / 64 = hd c.val then Vr (ky c.val) l else 0 : ℝ) : EReal))

theorem tile_hd (m c : ℕ) (hc : c < 512) : hd (512 * m + c) = hd c ∧ ky (512 * m + c) = 256 * m + ky c := by
  unfold hd ky; omega

include hV in
theorem kv_real (m : ℕ) (hm : m < 16) (c : Fin 512) (l : Fin 128) :
    kw V m (ix2 c l) = ((if l.val / 64 = hd c.val then Vr (256 * m + ky c.val) l else 0 : ℝ) : EReal) := by
  have hc := c.isLt
  rw [kw_at V m c l (by omega), hV, (tile_hd m c.val hc).1, (tile_hd m c.val hc).2]
include hq hK in
theorem zm_real (m : ℕ) (hm : m < 16) (a c : Fin 512) : zm q K m (ix2 a c) = (zz qr Kr a (hd c.val) (256 * m + ky c.val) : ℝ) := by
  unfold zm zz
  rw [zt_at, ← sum_coe]
  refine Finset.sum_congr rfl fun l _ => ?_
  rw [hq, kv_real K Kr hK m hm, ← EReal.coe_mul]
include hq hK in
theorem zH_real (m : ℕ) (hm : m < 16) (a : Fin 256) (c : Fin 512) :
    zH q (kw K m) (ix2 a c) = (zz qr Kr ⟨256 + a.val, by omega⟩ (hd c.val) (256 * m + ky c.val) : ℝ) := by
  unfold zz
  rw [zH_at, ← sum_coe]
  refine Finset.sum_congr rfl fun l _ => ?_
  rw [hq, kv_real K Kr hK m hm, ← EReal.coe_mul]

theorem f0_hd (j : Fin 256) : hd j.val = j.val / 128 ∧ ky j.val = j.val % 128 := by unfold hd ky; omega
theorem f1_hd (j : Fin 256) : hd (256 + j.val) = j.val / 128 ∧ ky (256 + j.val) = 128 + j.val % 128 := by unfold hd ky; omega

/-- The carry and the sum of row `a` stand after key `e`. -/
def At (n : ℕ) (z : ℕ → ℕ → ℝ) (a : Fin 512) (C : FVec Ideal S512x256 .f32) (A : FVec Ideal S512x128 .f32) (e : ℕ) : Prop :=
  (∀ j : Fin 256, C (ix2 a j) = (T n z (j.val / 128) e : ℝ)) ∧ ∀ l : Fin 128, A (ix2 a l) = (AA n z Vr l e : ℝ)

theorem AA_split (n : ℕ) (z : ℕ → ℕ → ℝ) (l : Fin 128) (s e : ℕ) (h1 : s ≤ e) (h2 : e ≤ 4096) :
    (AA n z Vr l e : EReal) + ((∑ k ∈ Finset.Ico s e, W n z (l.val / 64) k * Vr k l : ℝ) : EReal) = (AA n z Vr l s : ℝ) := by
  rw [← EReal.coe_add, add_comm]
  exact congrArg _ (Finset.sum_Ico_consecutive _ h1 h2)

include hq hK hV in
theorem step (n m : ℕ) (hm : m < 16) (a : Fin 512) (hn : 256 * m + 256 ≤ n) (C : FVec Ideal S512x256 .f32) (A : FVec Ideal S512x128 .f32)
    (h : At Vr n (zz qr Kr a) a C A (256 * m + 256)) :
    At Vr n (zz qr Kr a) a (ct2 k0_pay87 (r0m k0_pay86 q K m) (r1m k0_pay86 q K m) C)
      (acc2 k0_pay87 (zm q K m) (r0m k0_pay86 q K m) (r1m k0_pay86 q K m) C (kw V m) A) (256 * m) := by
  have hs : ∀ c : Fin 512, (fun k => sp (zm q K m) (ix2 a k)) c = (sg n (zz qr Kr a) (hd c.val) (256 * m + ky c.val) : ℝ) := by
    intro c
    have := ky_lt c
    rw [sg, if_pos (by omega)]
    exact sp_at _ _ _ _ (zm_real q K qr Kr hq hK m hm a c)
  have hb : 256 * m + 256 ≤ 4096 := by omega
  have r0 : ∀ j : Fin 256, r0m k0_pay86 q K m (ix2 a j) = rR (f0 fun k => sp (zm q K m) (ix2 a k)) j := fun j => rt0_at _ a j
  have r1 : ∀ j : Fin 256, r1m k0_pay86 q K m (ix2 a j) = rR (f1 fun k => sp (zm q K m) (ix2 a k)) j := fun j => rt1_at _ a j
  have c1 : ∀ j : Fin 256, ct k0_pay87 (r1m k0_pay86 q K m) C (ix2 a j) = rC (rR (f1 fun k => sp (zm q K m) (ix2 a k))) (fun k => C (ix2 a k)) j := fun j => by
    rw [ct_at]; simp only [r1]
  refine ⟨fun j => ?_, fun l => ?_⟩
  · unfold ct2
    rw [ct_at]
    simp only [r0, c1]
    exact tile_c0 hb hs h.1 j
  · unfold acc2
    have hl := l.isLt
    rw [acc_at, h.2, rD_real _ _ _ (256 * m) (l.val / 64) (by omega) (W n (zz qr Kr a)) (fun s => Vr s l) ?_ ?_ (fun c => kv_real V Vr hV m hm c l)]
    · exact AA_split Vr n _ l _ _ (by omega) hb
    · intro j
      have hj := Nat.mod_lt j.val (show 0 < 128 by norm_num)
      rw [pt_at, r0, c1, tile_e0 hb hs h.1 j, emb_lo, zm_real q K qr Kr hq hK m hm, (f0_hd j).1, (f0_hd j).2, ← weight, if_pos (by omega)]
    · intro j
      have hj := Nat.mod_lt j.val (show 0 < 128 by norm_num)
      rw [pt_at, r1, tile_e1 hb hs h.1 j, emb_hi, zm_real q K qr Kr hq hK m hm, (f1_hd j).1, (f1_hd j).2, ← Nat.add_assoc, ← weight, if_pos (by omega)]
end Cert.AttnFwdIdeal.Att
-- ==== Proof.Fwd.AttnSum.lean ====
module

public import proofs.«01_k».proof.Proof.Fwd.AttnRes

@[expose] public section

set_option maxRecDepth 16384

noncomputable section

namespace Cert.AttnFwdIdeal.Att

open Idealize.ShloMosaic Idealize.ShloMosaic.TcCoe
open Cert.AttnFwdIdeal Cert.AttnFwdIdeal.Gen Cert.Common

variable (q : FVec Ideal S512x128 .bf16) (K V : FVec Ideal S8192x128 .bf16) (qr : Fin 512 → Fin 128 → ℝ) (Kr Vr : ℕ → Fin 128 → ℝ)
variable (hq : ∀ a l, q (ix2 a l) = (qr a l : ℝ)) (hK : ∀ (c : Fin 8192) l, K (ix2 c l) = ((if l.val / 64 = hd c.val then Kr (ky c.val) l else 0 : ℝ) : EReal))
  (hV : ∀ (c : Fin 8192) l, V (ix2 c l) = ((if l.val / 64 = hd c.val then Vr (ky c.val) l else 0 : ℝ) : EReal))

/-- Past the row's own key nothing is summed. -/
theorem T_past (n : ℕ) (z : ℕ → ℕ → ℝ) (h e : ℕ) (he : n ≤ e) : T n z h e = 0 :=
  Finset.sum_eq_zero fun k hk => if_neg (by have := (Finset.mem_Ico.1 hk).1; omega)
theorem AA_past (n : ℕ) (z : ℕ → ℕ → ℝ) (l : Fin 128) (e : ℕ) (he : n ≤ e) : AA n z Vr l e = 0 :=
  Finset.sum_eq_zero fun k hk => by rw [W, if_neg (by have := (Finset.mem_Ico.1 hk).1; omega), zero_mul]

theorem mkL_at (a : Fin 256) (c : Fin 512) :
    (extractStridedSlice S256x512 ![256, 0] mk1 slices_S512x512_o256_0_S256x512) (ix2 a c) = if ky c.val < a.val then 1#1 else 0#1 := by
  pointwise [mk1_at]
  simp only [show (ky c.val + 256 < 256 + a.val) = (ky c.val < a.val) from propext (by omega)]

include hq hK hV in
theorem late (I : ℕ) (hI : I < 8) (a : Fin 512) :
    At Vr (512 * I + a.val) (zz qr Kr a) a (cL k0_pay86 k0_pay87 mk1 q K I) (aL k0_pay86 k0_pay87 mk1 q K V I) (512 * I + 256) := by
  by_cases ha : a.val < 256
  · refine ⟨fun j => ?_, fun l => ?_⟩
    · unfold cL; rw [put256_early _ _ a ha, zero256_at, T_past _ _ _ _ (by omega)]; rfl
    · unfold aL; rw [put128_early _ _ a ha, zero128_at, AA_past _ _ _ _ _ (by omega)]; rfl
  · obtain ⟨a', e⟩ : ∃ a' : Fin 256, a.val = 256 + a'.val := ⟨⟨a.val - 256, by omega⟩, by show a.val = 256 + (a.val - 256); omega⟩
    have e : a = ⟨256 + a'.val, Nat.add_lt_add_left a'.isLt 256⟩ := Fin.ext e

    subst e
    have hm : 2 * I + 1 < 16 := by omega
    have hb : 256 * (2 * I + 1) + 256 ≤ 4096 := by omega
    have hs : ∀ c : Fin 512, (fun k => sL mk1 q K I (ix2 a' k)) c
        = (sg (512 * I + (256 + a'.val)) (zz qr Kr ⟨256 + a'.val, by omega⟩) (hd c.val) (256 * (2 * I + 1) + ky c.val) : ℝ) := by
      intro c
      have e : sL mk1 q K I (ix2 a' c) = if ky c.val < a'.val then spH (zH q (kw K (2 * I + 1))) (ix2 a' c) else 0 := by
        have := mkL_at a' c
        pointwise [sL, sH] at this ⊢
        rw [this, sel_at]
      show sL mk1 q K I (ix2 a' c) = _
      rw [e, spH_at _ _ _ _ (zH_real q K qr Kr hq hK (2 * I + 1) hm a' c), sg]
      by_cases h : ky c.val < a'.val
      · rw [if_pos h, if_pos (by omega)]
      · rw [if_neg h, if_neg (by omega)]; rfl
    have hC : ∀ j : Fin 256, (fun k => late256 (zero256 : FVec Ideal S512x256 .f32) (ix2 a' k)) j
        = (T (512 * I + (256 + a'.val)) (zz qr Kr ⟨256 + a'.val, by omega⟩) (j.val / 128) (256 * (2 * I + 1) + 256) : ℝ) := by
      intro j
      show late256 (zero256 : FVec Ideal S512x256 .f32) (ix2 a' j) = _
      rw [late256_at, T_past _ _ _ _ (by omega)]; rfl
    have r0 : ∀ j : Fin 256, rH0 k0_pay86 (sL mk1 q K I) (ix2 a' j) = rR (f0 fun k => sL mk1 q K I (ix2 a' k)) j := fun j => rH0_at _ a' j
    have r1 : ∀ j : Fin 256, rH1 k0_pay86 (sL mk1 q K I) (ix2 a' j) = rR (f1 fun k => sL mk1 q K I (ix2 a' k)) j := fun j => rH1_at _ a' j
    have c1 : ∀ j : Fin 256, cL1 k0_pay86 k0_pay87 mk1 q K I (ix2 a' j)
        = rC (rR (f1 fun k => sL mk1 q K I (ix2 a' k))) (fun k => late256 (zero256 : FVec Ideal S512x256 .f32) (ix2 a' k)) j := fun j => by
      unfold cL1; rw [ctH_at]; simp only [r1]
    refine ⟨fun j => ?_, fun l => ?_⟩
    · unfold cL
      rw [put256_late, ctH_at]
      simp only [r0, c1]
      exact (tile_c0 hb hs hC j).trans (by rw [show 256 * (2 * I + 1) = 512 * I + 256 by omega])
    · unfold aL
      have hl := l.isLt
      rw [put128_late, accH_at, late128_at, zero_add, rD_real _ _ _ (256 * (2 * I + 1)) (l.val / 64) (by omega) (W (512 * I + (256 + a'.val)) (zz qr Kr ⟨256 + a'.val, by omega⟩)) (fun s => Vr s l) ?_ ?_ (fun c => kv_real V Vr hV _ hm c l)]
      · have := AA_split Vr (512 * I + (256 + a'.val)) (zz qr Kr ⟨256 + a'.val, by omega⟩) l (256 * (2 * I + 1)) (256 * (2 * I + 1) + 256) (by omega) hb
        rw [AA_past _ _ _ _ _ (by omega), EReal.coe_zero, zero_add] at this
        rw [this, show 256 * (2 * I + 1) = 512 * I + 256 by omega]
      · intro j
        have hj := Nat.mod_lt j.val (show 0 < 128 by norm_num)
        rw [pH_at _ _ _ _ a' j (j.val % 128 < a'.val) ?_, r0, c1, tile_e0 hb hs hC j, emb_loH, zH_real q K qr Kr hq hK _ hm, (f0_hd j).1, (f0_hd j).2, ← weight]
        · simp only [show (256 * (2 * I + 1) + j.val % 128 < 512 * I + (256 + a'.val)) = (j.val % 128 < a'.val) from propext (by omega)]
        · have := mk1_at ⟨256 + a'.val, by omega⟩ ⟨j.val, by omega⟩
          pointwise [this]
          simp only [(f0_hd j).2, show (j.val % 128 + 256 < 256 + a'.val) = (j.val % 128 < a'.val) from propext (by omega)]
      · intro j
        have hj := Nat.mod_lt j.val (show 0 < 128 by norm_num)
        rw [pH_at _ _ _ _ a' j (128 + j.val % 128 < a'.val) ?_, r1, tile_e1 hb hs hC j, emb_hiH, zH_real q K qr Kr hq hK _ hm, (f1_hd j).1, (f1_hd j).2, ← Nat.add_assoc, ← weight]
        · simp only [show (256 * (2 * I + 1) + 128 + j.val % 128 < 512 * I + (256 + a'.val)) = (128 + j.val % 128 < a'.val) from propext (by omega)]
        · have := mk1_at ⟨256 + a'.val, by omega⟩ ⟨256 + j.val, by omega⟩
          pointwise [this]
          simp only [(f1_hd j).2, show (128 + j.val % 128 + 256 < 256 + a'.val) = (128 + j.val % 128 < a'.val) from propext (by omega)]

include hq hK hV in
theorem diag (I : ℕ) (hI : I < 8) (a : Fin 512) :
    At Vr (512 * I + a.val) (zz qr Kr a) a (cD k0_pay86 k0_pay87 mk1 mk0 q K I) (aD k0_pay86 k0_pay87 mk1 mk0 q K V I) (512 * I) := by
  have h := late q K V qr Kr Vr hq hK hV I hI a
  rw [show 512 * I + 256 = 256 * (2 * I) + 256 by omega] at h
  have hm : 2 * I < 16 := by omega
  have hb : 256 * (2 * I) + 256 ≤ 4096 := by omega
  have hs : ∀ c : Fin 512, (fun k => sD mk0 q K I (ix2 a k)) c = (sg (512 * I + a.val) (zz qr Kr a) (hd c.val) (256 * (2 * I) + ky c.val) : ℝ) := by
    intro c
    have e : sD mk0 q K I (ix2 a c) = if ky c.val < a.val then sp (zm q K (2 * I)) (ix2 a c) else 0 := by
      pointwise [sD, sm, mk0_at, sel_at]
    show sD mk0 q K I (ix2 a c) = _
    rw [e, sp_at _ _ _ _ (zm_real q K qr Kr hq hK (2 * I) hm a c), sg]
    by_cases h : ky c.val < a.val
    · rw [if_pos h, if_pos (by omega)]
    · rw [if_neg h, if_neg (by omega)]; rfl
  have r0 : ∀ j : Fin 256, rt0 k0_pay86 (sD mk0 q K I) (ix2 a j) = rR (f0 fun k => sD mk0 q K I (ix2 a k)) j := fun j => rt0_at _ a j
  have r1 : ∀ j : Fin 256, rt1 k0_pay86 (sD mk0 q K I) (ix2 a j) = rR (f1 fun k => sD mk0 q K I (ix2 a k)) j := fun j => rt1_at _ a j
  have c1 : ∀ j : Fin 256, cD1 k0_pay86 k0_pay87 mk1 mk0 q K I (ix2 a j)
      = rC (rR (f1 fun k => sD mk0 q K I (ix2 a k))) (fun k => cL k0_pay86 k0_pay87 mk1 q K I (ix2 a k)) j := fun j => by
    unfold cD1; rw [ct_at]; simp only [r1]
  refine ⟨fun j => ?_, fun l => ?_⟩
  · unfold cD
    rw [ct_at]
    simp only [r0, c1]
    exact (tile_c0 hb hs h.1 j).trans (by rw [show 256 * (2 * I) = 512 * I by omega])
  · unfold aD
    have hl := l.isLt
    rw [acc_at, h.2, rD_real _ _ _ (256 * (2 * I)) (l.val / 64) (by omega) (W (512 * I + a.val) (zz qr Kr a)) (fun s => Vr s l) ?_ ?_ (fun c => kv_real V Vr hV _ hm c l)]
    · exact (AA_split Vr _ _ l _ _ (by omega) hb).trans (by rw [show 256 * (2 * I) = 512 * I by omega])
    · intro j
      have hj := Nat.mod_lt j.val (show 0 < 128 by norm_num)
      rw [pm_at _ _ _ _ a j (j.val % 128 < a.val) ?_, r0, c1, tile_e0 hb hs h.1 j, emb_lo, zm_real q K qr Kr hq hK _ hm, (f0_hd j).1, (f0_hd j).2, ← weight]
      · simp only [show (256 * (2 * I) + j.val % 128 < 512 * I + a.val) = (j.val % 128 < a.val) from propext (by omega)]
      · have := mk0_at a ⟨j.val, by omega⟩
        pointwise [this]
        simp only [(f0_hd j).2]
    · intro j
      have hj := Nat.mod_lt j.val (show 0 < 128 by norm_num)
      rw [pm_at _ _ _ _ a j (128 + j.val % 128 < a.val) ?_, r1, tile_e1 hb hs h.1 j, emb_hi, zm_real q K qr Kr hq hK _ hm, (f1_hd j).1, (f1_hd j).2, ← Nat.add_assoc, ← weight]
      · simp only [show (256 * (2 * I) + 128 + j.val % 128 < 512 * I + a.val) = (128 + j.val % 128 < a.val) from propext (by omega)]
      · have := mk0_at a ⟨256 + j.val, by omega⟩
        pointwise [this]
        simp only [(f1_hd j).2]

/-! ## The loop, and the whole block -/

section Loop
variable (I : ℕ)
theorem sZ_at (k : ℕ) : sZ q K I (zm q K (2 * I - 1)) k = zm q K (2 * (I - k) - 1) := by
  cases k with
  | zero => rfl
  | succ k => show zm q K (2 * (I - 1 - k) - 1) = _; rw [show I - 1 - k = I - (k + 1) by omega]
theorem sR0_at (k : ℕ) : sR0 k0_pay86 q K I (r0m k0_pay86 q K (2 * I - 1)) k = r0m k0_pay86 q K (2 * (I - k) - 1) := by
  cases k with
  | zero => rfl
  | succ k => show r0m k0_pay86 q K (2 * (I - 1 - k) - 1) = _; rw [show I - 1 - k = I - (k + 1) by omega]
theorem sR1_at (k : ℕ) : sR1 k0_pay86 q K I (r1m k0_pay86 q K (2 * I - 1)) k = r1m k0_pay86 q K (2 * (I - k) - 1) := by
  cases k with
  | zero => rfl
  | succ k => show r1m k0_pay86 q K (2 * (I - 1 - k) - 1) = _; rw [show I - 1 - k = I - (k + 1) by omega]

include hq hK hV in
theorem loop_at (hI : I < 8) (a : Fin 512) (k : ℕ) (hk : k < I) :
    At Vr (512 * I + a.val) (zz qr Kr a) a
      (sC k0_pay86 k0_pay87 q K I (r0m k0_pay86 q K (2 * I - 1)) (r1m k0_pay86 q K (2 * I - 1)) (cD k0_pay86 k0_pay87 mk1 mk0 q K I) k)
      (sA k0_pay86 k0_pay87 q K V I (zm q K (2 * I - 1)) (r0m k0_pay86 q K (2 * I - 1)) (r1m k0_pay86 q K (2 * I - 1)) (cD k0_pay86 k0_pay87 mk1 mk0 q K I)
        (aD k0_pay86 k0_pay87 mk1 mk0 q K V I) k) (512 * (I - k)) := by
  induction k with
  | zero => exact diag q K V qr Kr Vr hq hK hV I hI a
  | succ k ih =>
    have h := ih (by omega)
    have e1 := step q K V qr Kr Vr hq hK hV (512 * I + a.val) (2 * (I - k) - 1) (by omega) a (by omega) _ _
      (by rw [show 256 * (2 * (I - k) - 1) + 256 = 512 * (I - k) by omega]; exact h)
    have e2 := step q K V qr Kr Vr hq hK hV (512 * I + a.val) (2 * (I - 1 - k)) (by omega) a (by omega) _ _
      (by rw [show 256 * (2 * (I - 1 - k)) + 256 = 256 * (2 * (I - k) - 1) by omega]; exact e1)
    rw [show 512 * (I - (k + 1)) = 256 * (2 * (I - 1 - k)) by omega]
    unfold sC sA
    rw [sZ_at, sR0_at, sR1_at, show 2 * (I - 1 - k) + 1 = 2 * (I - k) - 1 by omega]
    exact e2
end Loop

include hq hK hV in
/-- A block's result before it is stored. -/
theorem whole (I : ℕ) (hI : I < 8) (h0 : 0 < I) (a : Fin 512) (l : Fin 128) :
    acc2 k0_pay87 (zm q K 0) (r0m k0_pay86 q K 0) (r1m k0_pay86 q K 0)
      (ct2 k0_pay87 (sR0 k0_pay86 q K I (r0m k0_pay86 q K (2 * I - 1)) (I - 1)) (sR1 k0_pay86 q K I (r1m k0_pay86 q K (2 * I - 1)) (I - 1))
        (sC k0_pay86 k0_pay87 q K I (r0m k0_pay86 q K (2 * I - 1)) (r1m k0_pay86 q K (2 * I - 1)) (cD k0_pay86 k0_pay87 mk1 mk0 q K I) (I - 1)))
      (kw V 0)
      (acc2 k0_pay87 (sZ q K I (zm q K (2 * I - 1)) (I - 1)) (sR0 k0_pay86 q K I (r0m k0_pay86 q K (2 * I - 1)) (I - 1))
        (sR1 k0_pay86 q K I (r1m k0_pay86 q K (2 * I - 1)) (I - 1))
        (sC k0_pay86 k0_pay87 q K I (r0m k0_pay86 q K (2 * I - 1)) (r1m k0_pay86 q K (2 * I - 1)) (cD k0_pay86 k0_pay87 mk1 mk0 q K I) (I - 1)) (kw V 1)
        (sA k0_pay86 k0_pay87 q K V I (zm q K (2 * I - 1)) (r0m k0_pay86 q K (2 * I - 1)) (r1m k0_pay86 q K (2 * I - 1)) (cD k0_pay86 k0_pay87 mk1 mk0 q K I)
          (aD k0_pay86 k0_pay87 mk1 mk0 q K V I) (I - 1))) (ix2 a l)
      = (AA (512 * I + a.val) (zz qr Kr a) Vr l 0 : ℝ) := by
  have h := loop_at q K V qr Kr Vr hq hK hV I hI a (I - 1) (by omega)
  rw [sZ_at, sR0_at, sR1_at, show 2 * (I - (I - 1)) - 1 = 1 by omega]
  have e1 := step q K V qr Kr Vr hq hK hV (512 * I + a.val) 1 (by omega) a (by omega) _ _
    (by rw [show 256 * 1 + 256 = 512 * (I - (I - 1)) by omega]; exact h)
  exact (step q K V qr Kr Vr hq hK hV (512 * I + a.val) 0 (by omega) a (by omega) _ _ e1).2 l
end Cert.AttnFwdIdeal.Att
-- ==== Proof.Fwd.AttnFinal.lean ====
module

public import proofs.«01_k».proof.Proof.Fwd.AttnSum
public import proofs.«01_k».proof.Proof.Fwd.AttnBodyN

@[expose] public section

set_option maxRecDepth 16384

noncomputable section

namespace Cert.AttnFwdIdeal.Att

open Idealize.ShloMosaic Idealize.ShloMosaic.TcCoe
open Cert.AttnFwdIdeal Cert.AttnFwdIdeal.Gen Cert.Common

/-! ## The scaled queries, and the keys and values laid out -/

theorem qs_at (q : FVec Ideal S512x128 .bf16) (qr : Fin 512 → Fin 128 → ℝ) (hq : ∀ a l, q (ix2 a l) = (qr a l : ℝ)) (a : Fin 512) (l : Fin 128) :
    qs q (ix2 a l) = ((qr a l * (8⁻¹ * (Real.log 2)⁻¹) : ℝ) : EReal) := by
  rw [EReal.coe_mul]
  pointwise [qs, scale2e, hq]

theorem ky_big (c : Fin 8192) : ky c.val < 4096 := by have := c.isLt; unfold ky; omega

theorem lane_at (l : Fin 128) : k0_pay89 (ix2 (0 : Fin 1) l) = if l.val < 64 then 1#1 else 0#1 := by
  pointwise [k0_pay89]
  have := l.isLt
  rw [slt_at l.val 64 (by omega) (by omega), bit_at]

theorem hd0_at (w : FVec Ideal S128x128 .bf16) (r l : Fin 128) : hd0 w (ix2 r l) = if l.val < 64 then w (ix2 r l) else 0 := by
  pointwise [hd0, lane_at, sel_at]
theorem hd1_at (w : FVec Ideal S128x128 .bf16) (r l : Fin 128) : hd1 w (ix2 r l) = if l.val < 64 then 0 else w (ix2 r l) := by
  pointwise [hd1, lane_at, sel_at]

theorem put_in (x : FVec Ideal S8192x128 .bf16) (w : FVec Ideal S128x128 .bf16) (b : ℕ) (c : Fin 8192) (l : Fin 128) (h1 : b ≤ c.val) (h2 : c.val < b + 128) :
    (VecWindow.put x ![b, 0] S128x128.size w : FVec Ideal S8192x128 .bf16) (ix2 c l) = w (ix2 (⟨c.val - b, by omega⟩ : Fin 128) l) := by
  have h : ∀ a : Fin 2, (![b, 0] : Fin 2 → ℕ) a ≤ ((ix2 c l : S8192x128.Idx) a).val ∧ ((ix2 c l : S8192x128.Idx) a).val < (![b, 0] : Fin 2 → ℕ) a + S128x128.size a := fun a => by
    match a with
    | 0 => exact ⟨h1, h2⟩
    | 1 => exact ⟨Nat.zero_le _, by show l.val < 0 + 128; have := l.isLt; omega⟩
  unfold VecWindow.put
  refine (dif_pos h).trans (congrArg w (funext fun a => Fin.ext ?_))
  match a with
  | 0 => rfl
  | 1 => rfl
theorem put_out (x : FVec Ideal S8192x128 .bf16) (w : FVec Ideal S128x128 .bf16) (b : ℕ) (c : Fin 8192) (l : Fin 128) (h : c.val < b ∨ b + 128 ≤ c.val) :
    (VecWindow.put x ![b, 0] S128x128.size w : FVec Ideal S8192x128 .bf16) (ix2 c l) = x (ix2 c l) := by
  unfold VecWindow.put
  exact dif_neg fun h' => by have h1 : b ≤ c.val := (h' 0).1; have h2 : c.val < b + 128 := (h' 0).2; omega

theorem xw_at (X : FVec Ideal S4096x128 .bf16) (k : ℕ) (r l : Fin 128) (n : ℕ) (hn : n < 4096) (e : 128 * k + r.val = n) : xw X k (ix2 r l) = X (ix2 ⟨n, hn⟩ l) := by
  unfold xw
  refine congrArg X (funext fun a => Fin.ext ?_)
  match a with
  | 0 => show (128 * k + r.val) % 4096 = n; omega
  | 1 => rfl

theorem fill_upto (X : FVec Ideal S4096x128 .bf16) (P : FVec Ideal S8192x128 .bf16) (k : ℕ) (hk : k ≤ 32) (c : Fin 8192) (hc : c.val < 256 * k) (l : Fin 128) :
    fill X P k (ix2 c l) = if l.val / 64 = hd c.val then X (ix2 (⟨ky c.val, ky_big c⟩ : Fin 4096) l) else 0 := by
  induction k with
  | zero => omega
  | succ k ih =>
    have hl := l.isLt
    unfold fill
    by_cases h1 : 256 * k + 128 ≤ c.val
    · rw [put_in _ _ _ c l h1 (by omega), hd1_at, xw_at X k _ l (ky c.val) (ky_big c) (by show 128 * k + (c.val - (256 * k + 128)) = ky c.val; unfold ky; omega)]
      by_cases hh : l.val < 64
      · rw [if_pos hh, if_neg (by unfold hd; omega)]
      · rw [if_neg hh, if_pos (by unfold hd; omega)]
    · rw [put_out _ _ _ c l (Or.inl (by omega))]
      by_cases h2 : 256 * k ≤ c.val
      · rw [put_in _ _ _ c l h2 (by omega), hd0_at, xw_at X k _ l (ky c.val) (ky_big c) (by show 128 * k + (c.val - 256 * k) = ky c.val; unfold ky; omega)]
        by_cases hh : l.val < 64
        · rw [if_pos hh, if_pos (by unfold hd; omega)]
        · rw [if_neg hh, if_neg (by unfold hd; omega)]
      · rw [put_out _ _ _ c l (Or.inl (by omega)), ih (by omega) (by omega)]

theorem fill_real (X : FVec Ideal S4096x128 .bf16) (P : FVec Ideal S8192x128 .bf16) (Xr : ℕ → Fin 128 → ℝ) (hX : ∀ (s : Fin 4096) l, X (ix2 s l) = (Xr s.val l : ℝ)) (c : Fin 8192) (l : Fin 128) :
    fill X P 32 (ix2 c l) = ((if l.val / 64 = hd c.val then Xr (ky c.val) l else 0 : ℝ) : EReal) := by
  rw [fill_upto X P 32 (by omega) c (by have := c.isLt; omega) l, hX]
  split <;> rfl

/-! ## A block's result -/

variable (q : FVec Ideal S512x128 .bf16) (K V : FVec Ideal S4096x128 .bf16) (PK PV : FVec Ideal S8192x128 .bf16) (qr : Fin 512 → Fin 128 → ℝ) (Kr Vr : ℕ → Fin 128 → ℝ)
variable (hq : ∀ a l, q (ix2 a l) = (qr a l : ℝ)) (hK : ∀ (s : Fin 4096) l, K (ix2 s l) = (Kr s.val l : ℝ)) (hV : ∀ (s : Fin 4096) l, V (ix2 s l) = (Vr s.val l : ℝ))

/-- The queries' real numbers, scaled. -/
def qsr (qr : Fin 512 → Fin 128 → ℝ) : Fin 512 → Fin 128 → ℝ := fun a l => qr a l * (8⁻¹ * (Real.log 2)⁻¹)

include hq hK hV in
theorem out0_at (a : Fin 512) (l : Fin 128) :
    out0 q (fill K PK 32) (fill V PV 32) (ix2 a l) = (AA a.val (zz (qsr qr) Kr a) Vr l 0 : ℝ) := by
  have := (diag (qs q) (fill K PK 32) (fill V PV 32) (qsr qr) Kr Vr (qs_at q qr hq) (fill_real K PK Kr hK) (fill_real V PV Vr hV) 0 (by omega) a).2 l
  rw [show 512 * 0 + a.val = a.val by omega] at this
  exact this
include hq hK hV in
theorem outN_at (I : ℕ) (hI : I < 8) (h0 : 0 < I) (a : Fin 512) (l : Fin 128) :
    outN q (fill K PK 32) (fill V PV 32) I (ix2 a l) = (AA (512 * I + a.val) (zz (qsr qr) Kr a) Vr l 0 : ℝ) :=
  whole (qs q) (fill K PK 32) (fill V PV 32) (qsr qr) Kr Vr (qs_at q qr hq) (fill_real K PK Kr hK) (fill_real V PV Vr hV) I hI h0 a l
end Cert.AttnFwdIdeal.Att
-- ==== Proof.Fwd.AttnKept.lean ====
/-
  The attention, forward: the kept carries. Lane `32 h + j` of a row's kept carries is the sum, over the keys from
  `128 (j + 1)` on, of the head's masked softplus.
-/
module

public import proofs.«01_k».proof.Proof.Fwd.AttnFinal

@[expose] public section

set_option maxRecDepth 16384

noncomputable section

namespace Cert.AttnFwdIdeal.Att

open Idealize.ShloMosaic Idealize.ShloMosaic.TcCoe
open Cert.AttnFwdIdeal Cert.AttnFwdIdeal.Gen Cert.Common

/-! ## The words -/

theorem w0_at : ∀ m : Fin 16, w0 (BitVec.ofNat 32 m.val) = BitVec.ofNat 32 (2 * m.val) := by decide +kernel
theorem w1_at : ∀ m : Fin 16, w1 (BitVec.ofNat 32 m.val) = BitVec.ofNat 32 (2 * m.val + 1) := by decide +kernel
theorem mul2_at : ∀ m : Fin 8, Scalar.muli 2#32 (BitVec.ofNat 32 m.val) = BitVec.ofNat 32 (2 * m.val) := by decide +kernel
theorem mul21_at : ∀ m : Fin 8, Scalar.addi (Scalar.muli 2#32 (BitVec.ofNat 32 m.val)) 1#32 = BitVec.ofNat 32 (2 * m.val + 1) := by decide +kernel
theorem wu_at : ∀ I k : Fin 8, k.val + 1 < I.val → wu (BitVec.ofNat 32 I.val) k.val = BitVec.ofNat 32 (I.val - 1 - k.val) := by decide +kernel
theorem eq_lane : ∀ (l : Fin 128) (n : Fin 32), IntOp.cmpi .eq (BitVec.ofNat 32 l.val) (BitVec.ofNat 32 n.val) = if l.val = n.val then 1#1 else 0#1 := by decide +kernel
theorem eq_lane32 : ∀ (l : Fin 128) (n : Fin 32), IntOp.cmpi .eq (BitVec.ofNat 32 l.val) (Scalar.addi 32#32 (BitVec.ofNat 32 n.val)) = if l.val = n.val + 32 then 1#1 else 0#1 := by decide +kernel

theorem tw_at (n : Fin 32) (C : FVec Ideal S512x256 .f32) (X : FVec Ideal S1x512x128 .f32) (a : Fin 512) (l : Fin 128) :
    tw ln (BitVec.ofNat 32 n.val) C X (ix3 (0 : Fin 1) a l)
      = if l.val = n.val then C (ix2 a (⟨l.val, by omega⟩ : Fin 256)) else if l.val = n.val + 32 then C (ix2 a (⟨128 + l.val, by omega⟩ : Fin 256)) else X (ix3 (0 : Fin 1) a l) := by
  pointwise [tw, ln]
  rw [eq_lane, eq_lane32, sel_at, sel_at]
theorem twH_at (n : Fin 32) (C : FVec Ideal S256x256 .f32) (X : FVec Ideal S1x256x128 .f32) (a : Fin 256) (l : Fin 128) :
    twH ln (BitVec.ofNat 32 n.val) C X (ix3 (0 : Fin 1) a l)
      = if l.val = n.val then C (ix2 a (⟨l.val, by omega⟩ : Fin 256)) else if l.val = n.val + 32 then C (ix2 a (⟨128 + l.val, by omega⟩ : Fin 256)) else X (ix3 (0 : Fin 1) a l) := by
  pointwise [twH, ln]
  rw [eq_lane, eq_lane32, sel_at, sel_at]
theorem zeroC_at (a : Fin 512) (l : Fin 128) : (zeroC : FVec Ideal S1x512x128 .f32) (ix3 (0 : Fin 1) a l) = 0 := by pointwise [zeroC, k0_pay94]
theorem lateC_at (a : Fin 256) (l : Fin 128) : lateC (zeroC : FVec Ideal S1x512x128 .f32) (ix3 (0 : Fin 1) a l) = 0 := by
  unfold lateC VecWindow.window zeroC; pointwise [k0_pay94]
theorem putC_late (X : FVec Ideal S1x512x128 .f32) (w : FVec Ideal S1x256x128 .f32) (a : Fin 256) (l : Fin 128) :
    putC X w (ix3 (0 : Fin 1) (⟨256 + a.val, by omega⟩ : Fin 512) l) = w (ix3 (0 : Fin 1) a l) := by
  have h := congrFun (VecWindow.window_put_same X ![0, 256, 0] ![1, 256, 128] inb_S1x512x128_S1x256x128_0_256_0 w) (ix3 (0 : Fin 1) a l)
  rw [← h]
  refine congrArg (putC X w) (funext fun x => Fin.ext ?_)
  match x with
  | 0 => rfl
  | 1 => show 256 + a.val = 256 + 1 * a.val; omega
  | 2 => show l.val = 0 + 1 * l.val; omega
theorem putC_early (X : FVec Ideal S1x512x128 .f32) (w : FVec Ideal S1x256x128 .f32) (a : Fin 512) (h : a.val < 256) (l : Fin 128) :
    putC X w (ix3 (0 : Fin 1) a l) = X (ix3 (0 : Fin 1) a l) := by
  unfold putC VecWindow.put
  exact dif_neg fun h' => absurd (show 256 ≤ a.val from (h' 1).1) (by omega)

/-! ## A row of the kept carries -/

/-- The lanes of key blocks `n` on are written; the others are zero. -/
def Car (n N : ℕ) (z : ℕ → ℕ → ℝ) (f : Fin 128 → EReal) : Prop :=
  ∀ l : Fin 128, f l = ((if l.val < 64 ∧ n ≤ l.val % 32 then T N z (l.val / 32) (128 * (l.val % 32 + 1)) else 0 : ℝ) : EReal)

theorem car_zero (n N : ℕ) (z : ℕ → ℕ → ℝ) (f : Fin 128 → EReal) (h : N ≤ 128 * (n + 1)) (hf : ∀ l, f l = 0) : Car n N z f := fun l => by
  rw [hf]
  split
  · rename_i h'; rw [T_past _ _ _ _ (by omega)]; rfl
  · rfl

theorem car_step (n : Fin 32) (N : ℕ) (z : ℕ → ℕ → ℝ) (f f' : Fin 128 → EReal) (c : Fin 256 → EReal) (h : Car (n.val + 1) N z f)
    (hc : ∀ j : Fin 256, c j = (T N z (j.val / 128) (128 * (n.val + 1)) : ℝ))
    (hf : ∀ l : Fin 128, f' l = if l.val = n.val then c ⟨l.val, by omega⟩ else if l.val = n.val + 32 then c ⟨128 + l.val, by omega⟩ else f l) : Car n.val N z f' := fun l => by
  have hl := l.isLt
  have hn := n.isLt
  rw [hf]
  by_cases h1 : l.val = n.val
  · rw [if_pos h1, hc, if_pos (by omega), show l.val / 32 = 0 by omega, show l.val % 32 = n.val by omega]
    show ((T N z (l.val / 128) _ : ℝ) : EReal) = _
    rw [show l.val / 128 = 0 by omega]
  · rw [if_neg h1]
    by_cases h2 : l.val = n.val + 32
    · rw [if_pos h2, hc, if_pos (by omega), show l.val / 32 = 1 by omega, show l.val % 32 = n.val by omega]
      show ((T N z ((128 + l.val) / 128) _ : ℝ) : EReal) = _
      rw [show (128 + l.val) / 128 = 1 by omega]
    · rw [if_neg h2, h l]
      by_cases h3 : l.val < 64 ∧ n.val ≤ l.val % 32
      · rw [if_pos h3, if_pos (by omega)]
      · rw [if_neg h3, if_neg (by omega)]

/-- A whole tile. -/
theorem car_tile (m : Fin 16) (N : ℕ) (z : ℕ → ℕ → ℝ) (a : Fin 512) (w : BitVec 32) (hw : w = BitVec.ofNat 32 m.val) (r1 C : FVec Ideal S512x256 .f32) (X : FVec Ideal S1x512x128 .f32)
    (h : Car (2 * m.val + 2) N z fun l => X (ix3 (0 : Fin 1) a l))
    (hC : ∀ j : Fin 256, C (ix2 a j) = (T N z (j.val / 128) (256 * m.val + 256) : ℝ))
    (h1 : ∀ j : Fin 256, ct k0_pay87 r1 C (ix2 a j) = (T N z (j.val / 128) (256 * m.val + 128) : ℝ)) :
    Car (2 * m.val) N z fun l => tw2 ln w k0_pay87 r1 C X (ix3 (0 : Fin 1) a l) := by
  subst hw
  unfold tw2
  rw [w0_at, w1_at]
  have e := car_step ⟨2 * m.val + 1, by omega⟩ N z _ (fun l => tw ln (BitVec.ofNat 32 (2 * m.val + 1)) C X (ix3 (0 : Fin 1) a l)) (fun j => C (ix2 a j)) h
    (fun j => (hC j).trans (by rw [show 128 * (2 * m.val + 1 + 1) = 256 * m.val + 256 by omega]))
    (fun l => tw_at ⟨2 * m.val + 1, by omega⟩ C X a l)
  exact car_step ⟨2 * m.val, by omega⟩ N z _ _ (fun j => ct k0_pay87 r1 C (ix2 a j)) e
    (fun j => (h1 j).trans (by rw [show 128 * (2 * m.val + 1) = 256 * m.val + 128 by omega]))
    (fun l => tw_at ⟨2 * m.val, by omega⟩ _ _ a l)

/-! ## The carries between a tile's halves -/

section Half
variable (q : FVec Ideal S512x128 .bf16) (K V : FVec Ideal S8192x128 .bf16) (qr : Fin 512 → Fin 128 → ℝ) (Kr Vr : ℕ → Fin 128 → ℝ)
variable (hq : ∀ a l, q (ix2 a l) = (qr a l : ℝ)) (hK : ∀ (c : Fin 8192) l, K (ix2 c l) = ((if l.val / 64 = hd c.val then Kr (ky c.val) l else 0 : ℝ) : EReal))
  (hV : ∀ (c : Fin 8192) l, V (ix2 c l) = ((if l.val / 64 = hd c.val then Vr (ky c.val) l else 0 : ℝ) : EReal))

include hq hK in
theorem half (n m : ℕ) (hm : m < 16) (a : Fin 512) (hn : 256 * m + 256 ≤ n) (C : FVec Ideal S512x256 .f32)
    (h : ∀ j : Fin 256, C (ix2 a j) = (T n (zz qr Kr a) (j.val / 128) (256 * m + 256) : ℝ)) (j : Fin 256) :
    ct k0_pay87 (r1m k0_pay86 q K m) C (ix2 a j) = (T n (zz qr Kr a) (j.val / 128) (256 * m + 128) : ℝ) := by
  have hs : ∀ c : Fin 512, (fun k => sp (zm q K m) (ix2 a k)) c = (sg n (zz qr Kr a) (hd c.val) (256 * m + ky c.val) : ℝ) := by
    intro c
    have := ky_lt c
    rw [sg, if_pos (by omega)]
    exact sp_at _ _ _ _ (zm_real q K qr Kr hq hK m hm a c)
  have hb : 256 * m + 256 ≤ 4096 := by omega
  have r1 : ∀ j : Fin 256, r1m k0_pay86 q K m (ix2 a j) = rR (f1 fun k => sp (zm q K m) (ix2 a k)) j := fun j => rt1_at _ a j
  rw [ct_at]
  simp only [r1]
  exact tile_c1 hb hs h j

include hq hK in
theorem late_half (I : ℕ) (hI : I < 8) (a' : Fin 256) (j : Fin 256) :
    cL1 k0_pay86 k0_pay87 mk1 q K I (ix2 a' j) = (T (512 * I + (256 + a'.val)) (zz qr Kr ⟨256 + a'.val, by omega⟩) (j.val / 128) (256 * (2 * I + 1) + 128) : ℝ) := by
  have hm : 2 * I + 1 < 16 := by omega
  have hb : 256 * (2 * I + 1) + 256 ≤ 4096 := by omega
  have hs : ∀ c : Fin 512, (fun k => sL mk1 q K I (ix2 a' k)) c
      = (sg (512 * I + (256 + a'.val)) (zz qr Kr ⟨256 + a'.val, by omega⟩) (hd c.val) (256 * (2 * I + 1) + ky c.val) : ℝ) := by
    intro c
    have e : sL mk1 q K I (ix2 a' c) = if ky c.val < a'.val then spH (zH q (kw K (2 * I + 1))) (ix2 a' c) else 0 := by
      have := mkL_at a' c
      pointwise [sL, sH] at this ⊢
      rw [this, sel_at]
    show sL mk1 q K I (ix2 a' c) = _
    rw [e, spH_at _ _ _ _ (zH_real q K qr Kr hq hK (2 * I + 1) hm a' c), sg]
    by_cases h : ky c.val < a'.val
    · rw [if_pos h, if_pos (by omega)]
    · rw [if_neg h, if_neg (by omega)]; rfl
  have hC : ∀ j : Fin 256, (fun k => late256 (zero256 : FVec Ideal S512x256 .f32) (ix2 a' k)) j
      = (T (512 * I + (256 + a'.val)) (zz qr Kr ⟨256 + a'.val, by omega⟩) (j.val / 128) (256 * (2 * I + 1) + 256) : ℝ) := by
    intro j
    show late256 (zero256 : FVec Ideal S512x256 .f32) (ix2 a' j) = _
    rw [late256_at, T_past _ _ _ _ (by omega)]; rfl
  have r1 : ∀ j : Fin 256, rH1 k0_pay86 (sL mk1 q K I) (ix2 a' j) = rR (f1 fun k => sL mk1 q K I (ix2 a' k)) j := fun j => rH1_at _ a' j
  have c1 : ∀ j : Fin 256, cL1 k0_pay86 k0_pay87 mk1 q K I (ix2 a' j)
      = rC (rR (f1 fun k => sL mk1 q K I (ix2 a' k))) (fun k => late256 (zero256 : FVec Ideal S512x256 .f32) (ix2 a' k)) j := fun j => by
    unfold cL1; rw [ctH_at]; simp only [r1]
  rw [c1]
  exact tile_c1 hb hs hC j

include hq hK hV in
theorem diag_half (I : ℕ) (hI : I < 8) (a : Fin 512) (j : Fin 256) :
    cD1 k0_pay86 k0_pay87 mk1 mk0 q K I (ix2 a j) = (T (512 * I + a.val) (zz qr Kr a) (j.val / 128) (256 * (2 * I) + 128) : ℝ) := by
  have h := late q K V qr Kr Vr hq hK hV I hI a
  rw [show 512 * I + 256 = 256 * (2 * I) + 256 by omega] at h
  have hm : 2 * I < 16 := by omega
  have hb : 256 * (2 * I) + 256 ≤ 4096 := by omega
  have hs : ∀ c : Fin 512, (fun k => sD mk0 q K I (ix2 a k)) c = (sg (512 * I + a.val) (zz qr Kr a) (hd c.val) (256 * (2 * I) + ky c.val) : ℝ) := by
    intro c
    have e : sD mk0 q K I (ix2 a c) = if ky c.val < a.val then sp (zm q K (2 * I)) (ix2 a c) else 0 := by
      pointwise [sD, sm, mk0_at, sel_at]
    show sD mk0 q K I (ix2 a c) = _
    rw [e, sp_at _ _ _ _ (zm_real q K qr Kr hq hK (2 * I) hm a c), sg]
    by_cases h : ky c.val < a.val
    · rw [if_pos h, if_pos (by omega)]
    · rw [if_neg h, if_neg (by omega)]; rfl
  have r1 : ∀ j : Fin 256, rt1 k0_pay86 (sD mk0 q K I) (ix2 a j) = rR (f1 fun k => sD mk0 q K I (ix2 a k)) j := fun j => rt1_at _ a j
  have c1 : ∀ j : Fin 256, cD1 k0_pay86 k0_pay87 mk1 mk0 q K I (ix2 a j)
      = rC (rR (f1 fun k => sD mk0 q K I (ix2 a k))) (fun k => cL k0_pay86 k0_pay87 mk1 q K I (ix2 a k)) j := fun j => by
    unfold cD1; rw [ct_at]; simp only [r1]
  rw [c1]
  exact tile_c1 hb hs h.1 j

include hq hK in
theorem car_late (I : Fin 8) (a : Fin 512) :
    Car (2 * (2 * I.val) + 2) (512 * I.val + a.val) (zz qr Kr a) fun l => tL ln (BitVec.ofNat 32 I.val) k0_pay86 k0_pay87 mk1 q K I.val (ix3 (0 : Fin 1) a l) := by
  have hI := I.isLt
  unfold tL
  rw [w1_at ⟨I.val, by omega⟩, w0_at ⟨2 * I.val + 1, by omega⟩, w1_at ⟨2 * I.val + 1, by omega⟩]
  by_cases ha : a.val < 256
  · exact car_zero _ _ _ _ (by omega) fun l => (putC_early _ _ a ha l).trans (zeroC_at a l)
  · obtain ⟨a', e⟩ : ∃ a' : Fin 256, a.val = 256 + a'.val := ⟨⟨a.val - 256, by omega⟩, by show a.val = 256 + (a.val - 256); omega⟩
    have e : a = ⟨256 + a'.val, Nat.add_lt_add_left a'.isLt 256⟩ := Fin.ext e
    subst e
    simp only [putC_late]
    have e0 : Car (2 * (2 * I.val + 1) + 1 + 1) (512 * I.val + (256 + a'.val)) (zz qr Kr ⟨256 + a'.val, by omega⟩) fun l => lateC (zeroC : FVec Ideal S1x512x128 .f32) (ix3 (0 : Fin 1) a' l) :=
      car_zero _ _ _ _ (by omega) fun l => lateC_at a' l
    have e1 := car_step ⟨2 * (2 * I.val + 1) + 1, by omega⟩ _ _ _ (fun l => twH ln (BitVec.ofNat 32 (2 * (2 * I.val + 1) + 1)) (late256 (zero256 : FVec Ideal S512x256 .f32)) (lateC zeroC) (ix3 (0 : Fin 1) a' l))
      (fun j => late256 (zero256 : FVec Ideal S512x256 .f32) (ix2 a' j)) e0 (fun j => by rw [late256_at, T_past _ _ _ _ (by show _ ≤ 128 * (2 * (2 * I.val + 1) + 1 + 1); omega)]; rfl)
      (fun l => twH_at ⟨2 * (2 * I.val + 1) + 1, by omega⟩ _ _ a' l)
    exact car_step ⟨2 * (2 * I.val + 1), by omega⟩ _ _ _ _ (fun j => cL1 k0_pay86 k0_pay87 mk1 q K I.val (ix2 a' j)) e1
      (fun j => (late_half q K qr Kr hq hK I.val hI a' j).trans (by rw [show 128 * (2 * (2 * I.val + 1) + 1) = 256 * (2 * I.val + 1) + 128 by omega]))
      (fun l => twH_at ⟨2 * (2 * I.val + 1), by omega⟩ _ _ a' l)

include hq hK hV in
theorem car_diag (I : Fin 8) (a : Fin 512) :
    Car (2 * (2 * I.val)) (512 * I.val + a.val) (zz qr Kr a) fun l => tD ln (BitVec.ofNat 32 I.val) k0_pay86 k0_pay87 mk1 mk0 q K I.val (ix3 (0 : Fin 1) a l) := by
  have hI := I.isLt
  exact car_tile ⟨2 * I.val, by omega⟩ _ _ a _ (mul2_at I) _ _ _ (car_late q K qr Kr hq hK I a)
    (fun j => ((late q K V qr Kr Vr hq hK hV I.val hI a).1 j).trans (by rw [show 512 * I.val + 256 = 256 * (2 * I.val) + 256 by omega]))
    (fun j => diag_half q K V qr Kr Vr hq hK hV I.val hI a j)

section Loop
variable (I : Fin 8)
/-- The carry after the loop's trips, and the kept carries. -/
abbrev lC (k : ℕ) : FVec Ideal S512x256 .f32 := sC k0_pay86 k0_pay87 q K I.val (r0m k0_pay86 q K (2 * I.val - 1)) (r1m k0_pay86 q K (2 * I.val - 1)) (cD k0_pay86 k0_pay87 mk1 mk0 q K I.val) k
abbrev lT (k : ℕ) : FVec Ideal S1x512x128 .f32 := sT k0_pay86 k0_pay87 q K I.val (r0m k0_pay86 q K (2 * I.val - 1)) (r1m k0_pay86 q K (2 * I.val - 1)) (cD k0_pay86 k0_pay87 mk1 mk0 q K I.val)
  ln (BitVec.ofNat 32 I.val) (tD ln (BitVec.ofNat 32 I.val) k0_pay86 k0_pay87 mk1 mk0 q K I.val) k

include hq hK hV in
/-- Two tiles, from a carry at the first one's end. -/
theorem car_two (a : Fin 512) (M : ℕ) (hM : 2 * M + 1 < 16) (hn : 512 * M + 512 ≤ 512 * I.val) (w u : BitVec 32) (hw : w = BitVec.ofNat 32 (2 * M + 1)) (hu : u = BitVec.ofNat 32 (2 * M))
    (C : FVec Ideal S512x256 .f32) (A : FVec Ideal S512x128 .f32) (X : FVec Ideal S1x512x128 .f32)
    (h : At Vr (512 * I.val + a.val) (zz qr Kr a) a C A (256 * (2 * M + 1) + 256)) (hX : Car (2 * (2 * M + 1) + 2) (512 * I.val + a.val) (zz qr Kr a) fun l => X (ix3 (0 : Fin 1) a l)) :
    Car (2 * (2 * M)) (512 * I.val + a.val) (zz qr Kr a) fun l => tw2 ln u k0_pay87 (r1m k0_pay86 q K (2 * M))
      (ct2 k0_pay87 (r0m k0_pay86 q K (2 * M + 1)) (r1m k0_pay86 q K (2 * M + 1)) C) (tw2 ln w k0_pay87 (r1m k0_pay86 q K (2 * M + 1)) C X) (ix3 (0 : Fin 1) a l) := by
  have e1 := (step q K V qr Kr Vr hq hK hV (512 * I.val + a.val) (2 * M + 1) hM a (by omega) C A h).1
  rw [show 256 * (2 * M + 1) = 256 * (2 * M) + 256 by omega] at e1
  exact car_tile ⟨2 * M, by omega⟩ _ _ a _ hu _ _ _
    (car_tile ⟨2 * M + 1, hM⟩ _ _ a _ hw _ _ _ hX h.1 (half q K qr Kr hq hK _ _ hM a (by omega) C h.1))
    e1 (half q K qr Kr hq hK _ _ (by omega) a (by omega) _ e1)

include hq hK hV in
theorem car_loop (a : Fin 512) (k : ℕ) (hk : k < I.val) : Car (4 * (I.val - k)) (512 * I.val + a.val) (zz qr Kr a) fun l => lT q K I k (ix3 (0 : Fin 1) a l) := by
  have hI := I.isLt
  induction k with
  | zero => exact (show 2 * (2 * I.val) = 4 * (I.val - 0) by omega) ▸ car_diag q K V qr Kr Vr hq hK hV I a
  | succ k ih =>
    have h := loop_at q K V qr Kr Vr hq hK hV I.val hI a k (by omega)
    have hX := ih (by omega)
    obtain ⟨M, eM⟩ : ∃ M, I.val - 1 - k = M := ⟨_, rfl⟩
    have ew := wu_at I ⟨k, by omega⟩ hk
    rw [eM] at ew
    have e := car_two q K V qr Kr Vr hq hK hV I a M (by omega) (by omega) (Scalar.addi (Scalar.muli 2#32 (wu (BitVec.ofNat 32 I.val) k)) 1#32) (Scalar.muli 2#32 (wu (BitVec.ofNat 32 I.val) k))
      ((congrArg (fun x => Scalar.addi (Scalar.muli 2#32 x) 1#32) ew).trans (mul21_at ⟨M, by omega⟩)) ((congrArg (fun x => Scalar.muli 2#32 x) ew).trans (mul2_at ⟨M, by omega⟩))
      (lC q K I k) _ (lT q K I k) (by rw [show 256 * (2 * M + 1) + 256 = 512 * (I.val - k) by omega]; exact h) (by rw [show 2 * (2 * M + 1) + 2 = 4 * (I.val - k) by omega]; exact hX)
    rw [show 4 * (I.val - (k + 1)) = 2 * (2 * M) by omega]
    unfold lT sT
    rw [sR0_at, sR1_at, eM, show 2 * (I.val - k) - 1 = 2 * M + 1 by omega]
    exact e
end Loop
end Half

/-! ## A block's kept carries -/

section Block
variable (q : FVec Ideal S512x128 .bf16) (K V : FVec Ideal S4096x128 .bf16) (PK : FVec Ideal S8192x128 .bf16) (qr : Fin 512 → Fin 128 → ℝ) (Kr Vr : ℕ → Fin 128 → ℝ)
variable (hq : ∀ a l, q (ix2 a l) = (qr a l : ℝ)) (hK : ∀ (s : Fin 4096) l, K (ix2 s l) = (Kr s.val l : ℝ)) (hV : ∀ (s : Fin 4096) l, V (ix2 s l) = (Vr s.val l : ℝ))

include hq hK hV in
theorem car0_at (a : Fin 512) : Car 0 (512 * 0 + a.val) (zz (qsr qr) Kr a) fun l => car0 q (fill K PK 32) (ix3 (0 : Fin 1) a l) :=
  car_diag (qs q) (fill K PK 32) (fill V PK 32) (qsr qr) Kr Vr (qs_at q qr hq) (fill_real K PK Kr hK) (fill_real V PK Vr hV) 0 a

include hq hK hV in
theorem carN_at (I : Fin 8) (h0 : 0 < I.val) (a : Fin 512) : Car 0 (512 * I.val + a.val) (zz (qsr qr) Kr a) fun l => carN q (fill K PK 32) I.val (ix3 (0 : Fin 1) a l) := by
  have h := loop_at (qs q) (fill K PK 32) (fill V PK 32) (qsr qr) Kr Vr (qs_at q qr hq) (fill_real K PK Kr hK) (fill_real V PK Vr hV) I.val I.isLt a (I.val - 1) (by omega)
  have hX := car_loop (qs q) (fill K PK 32) (fill V PK 32) (qsr qr) Kr Vr (qs_at q qr hq) (fill_real K PK Kr hK) (fill_real V PK Vr hV) I a (I.val - 1) (by omega)
  have e := car_two (qs q) (fill K PK 32) (fill V PK 32) (qsr qr) Kr Vr (qs_at q qr hq) (fill_real K PK Kr hK) (fill_real V PK Vr hV) I a 0 (by omega) (by omega) 1#32 0#32 rfl rfl
    (lC (qs q) (fill K PK 32) I (I.val - 1)) _ (lT (qs q) (fill K PK 32) I (I.val - 1)) (by rw [show 256 * (2 * 0 + 1) + 256 = 512 * (I.val - (I.val - 1)) by omega]; exact h)
    (by rw [show 2 * (2 * 0 + 1) + 2 = 4 * (I.val - (I.val - 1)) by omega]; exact hX)
  unfold carN
  rw [sR0_at, sR1_at, show 2 * (I.val - (I.val - 1)) - 1 = 2 * 0 + 1 by omega]
  exact e
end Block

end Cert.AttnFwdIdeal.Att
-- ==== Proof.Fwd.AttnRef.lean ====
module

public import proofs.«01_k».proof.Proof.Fwd.AttnRes
public import proofs.«01_k».proof.Proof.Gen.AttnFwdRefIdeal.Run

@[expose] public section

set_option maxRecDepth 16384

noncomputable section

open Idealize.ShloMosaic Idealize.ShloMosaic.TcCoe Idealize.SL.Sem

namespace Cert.AttnFwdRefIdeal.Att

open Cert.AttnFwdRefIdeal Cert.AttnFwdRefIdeal.Gen Cert.AttnFwdRefIdeal.Value Cert.Common
open Cert.AttnFwdIdeal.Att (slt_at bit_at sel_at sum_coe sp2 sg W AA)

/-- Queries, keys and values by head. -/
def rQ (x : FVec Ideal S4096x1536 .bf16) : FVec Ideal S4096x8x64 .f32 :=
  shapeCast _ (extf .f32 (extractStridedSlice S4096x512 ![0, 0] x slices_S4096x1536_S4096x512_0_0) bitsLt_bf16_f32) shapeCasts_S4096x512_S4096x8x64
def rK (x : FVec Ideal S4096x1536 .bf16) : FVec Ideal S4096x8x64 .f32 :=
  shapeCast _ (extf .f32 (extractStridedSlice S4096x512 ![0, 512] x slices_S4096x1536_S4096x512_0_512) bitsLt_bf16_f32) shapeCasts_S4096x512_S4096x8x64
def rV (x : FVec Ideal S4096x1536 .bf16) : FVec Ideal S4096x8x64 .f32 :=
  shapeCast _ (extf .f32 (extractStridedSlice S4096x512 ![0, 1024] x slices_S4096x1536_S4096x512_0_1024) bitsLt_bf16_f32) shapeCasts_S4096x512_S4096x8x64
/-- The scores. -/
def rZ (x : FVec Ideal S4096x1536 .bf16) : FVec Ideal S8x4096x4096 .f32 :=
  mulf (Host.dotGeneral dot_S4096x8x64_S4096x8x64_S8x4096x4096_2_2_0_0_1_1 none (rQ x) (rK x)) (broadcastInDim S8x4096x4096 ![] bcast_S_S8x4096x4096 (constant S_ .f32 0x3E000000#32))
/-- The zero array. -/
def r0 : FVec Ideal S8x4096x4096 .f32 := broadcastInDim S8x4096x4096 ![] bcast_S_S8x4096x4096 (constant S_ .f32 0x00000000#32)
/-- The softplus. -/
def rSp (z : FVec Ideal S8x4096x4096 .f32) : FVec Ideal S8x4096x4096 .f32 :=
  select (cmpf .une (subf z r0) (subf z r0)) (addf z r0) (addf (maximumf z r0) (Host.log1p (Host.exp (Host.negf (Host.absf (subf z r0))))))
/-- The causal mask. -/
def rM : IVec S8x4096x4096 1 :=
  broadcastInDim S8x4096x4096 ![0, 1, 2] bcast_S1x4096x4096_S8x4096x4096_0_1_2 (cmpi .slt (broadcastInDim S1x4096x4096 ![0, 1, 2] bcast_S1x1x4096_S1x4096x4096_0_1_2 (broadcastInDim S1x1x4096 ![2] bcast_S4096_S1x1x4096_2 (iotaInDim S4096 32 0))) (broadcastInDim S1x4096x4096 ![0, 1, 2] bcast_S1x4096x1_S1x4096x4096_0_1_2 (broadcastInDim S1x4096x1 ![1] bcast_S4096_S1x4096x1_1 (iotaInDim S4096 32 0))))
def rL (z : FVec Ideal S8x4096x4096 .f32) : FVec Ideal S8x4096x4096 .f32 := select rM (Host.negf (rSp z)) (broadcastInDim S8x4096x4096 ![] bcast_S_S8x4096x4096 (id (constant S_ .f32 0x00000000#32)))
/-- Sums from a key on. -/
def rCum (l : FVec Ideal S8x4096x4096 .f32) : FVec Ideal S8x4096x4096 .f32 :=
  Host.reduceWindowAdd ![1, 1, 4096] ![1, 1, 1] ![0, 0, 0] ![0, 0, 4095] l (broadcastInDim S_ ![] bcast_S_S_ (constant S_ .f32 0x00000000#32)) reduceWindows_S8x4096x4096_S8x4096x4096_w1s1p0_0_w1s1p0_0_w4096s1p0_4095 h_S_
/-- The weights. -/
def rW (z : FVec Ideal S8x4096x4096 .f32) : FVec Ideal S8x4096x4096 .f32 :=
  select rM (Host.exp (addf (Host.negf (rSp (Host.negf z))) (subf (rCum (rL z)) (rL z)))) (broadcastInDim S8x4096x4096 ![] bcast_S_S8x4096x4096 (id (constant S_ .f32 0x00000000#32)))
/-- The result's attention half. -/
def rO (v : FVec Ideal S4096x8x64 .f32) (w : FVec Ideal S8x4096x4096 .f32) : FVec Ideal S4096x512 .bf16 :=
  truncf .bf16 (shapeCast _ (transpose S4096x8x64 [2, 0, 1] (Host.dotGeneral dot_S4096x8x64_S8x4096x4096_S8x64x4096_0_2_2_1_1_0 none v w) transposes_S8x64x4096_S4096x8x64_2_0_1) shapeCasts_S4096x8x64_S4096x512) bitsLt_bf16_f32

theorem res_eq (m : (ℓ : Loc nD τ sig) → Buf (Elt Ideal) ℓ) (c : Dev nD) (x : FVec Ideal S4096x1536 .bf16) (y : FVec Ideal S4096x1024 .bf16)
    (hx : m ((c.tc : Thread nD τ).loc main_arg0) = x) (hy : m ((c.tc : Thread nD τ).loc main_arg1) = y) :
    res_out0 m c = concatenate S4096x1024 1 [⟨S4096x512, (extractStridedSlice S4096x512 ![0, 0] y slices_S4096x1024_S4096x512_0_0)⟩, ⟨S4096x512, rO (rV x) (rW (rZ x))⟩] concatenates_S4096x512_S4096x512_S4096x1024_d1 := by
  unfold res_out0 res_main_v33
  subst hx hy
  rfl

theorem rM_at (h : Fin 8) (t s : Fin 4096) : rM (ix3 h t s) = if s.val < t.val then 1#1 else 0#1 := by
  pointwise [rM]
  have := t.isLt; have := s.isLt
  rw [slt_at s.val t.val (by omega) (by omega), bit_at]
theorem r0_at (h : Fin 8) (t s : Fin 4096) : r0 (ix3 h t s) = 0 := by pointwise [r0]

/-- The softplus over real numbers. -/
def spl (x : ℝ) : ℝ := max x 0 + Real.log (1 + Real.exp (-|x|))

theorem spl_coe (x : ℝ) : max (x : EReal) 0 + Ideal.log1p (Ideal.exp (-max (x - 0 : EReal) (-(x - 0 : EReal)))) = (spl x : EReal) := by
  have e : max (x - 0 : EReal) (-(x - 0 : EReal)) = ((|x| : ℝ) : EReal) := by
    rw [sub_zero, abs_eq_max_neg, EReal.coe_strictMono.monotone.map_max]; rfl
  have h : ¬ (1 + Real.exp (-|x|)) ≤ 0 := by have := Real.exp_pos (-|x|); linarith
  have e3 : (1 : EReal) + Ideal.exp (-((|x| : ℝ) : EReal)) = ((1 + Real.exp (-|x|) : ℝ) : EReal) := by
    rw [EReal.coe_add, EReal.coe_one]; rfl
  have e4 : Ideal.log ((1 + Real.exp (-|x|) : ℝ) : EReal) = ((Real.log (1 + Real.exp (-|x|)) : ℝ) : EReal) := if_neg h
  unfold Ideal.log1p
  rw [e, e3, e4, spl, EReal.coe_add, EReal.coe_strictMono.monotone.map_max]; rfl

theorem rSp_at (z : FVec Ideal S8x4096x4096 .f32) (h : Fin 8) (t s : Fin 4096) (x : ℝ) (hz : z (ix3 h t s) = (x : EReal)) : rSp z (ix3 h t s) = (spl x : EReal) := by
  rw [← spl_coe]
  pointwise [rSp, r0_at, hz]
  rw [if_neg (by simp)]
  rfl

theorem spl_neg (x : ℝ) : - spl (-x) = x - spl x := by
  unfold spl
  rw [abs_neg]
  rcases le_total 0 x with h | h
  · rw [max_eq_left h, max_eq_right (by linarith)]; ring
  · rw [max_eq_right h, max_eq_left (by linarith)]; ring

theorem log2_pos : 0 < Real.log 2 := Real.log_pos (by norm_num)

/-- The two softplus, of base `e` and base two. -/
theorem spl_sp2 (x : ℝ) : spl x = Real.log 2 * sp2 (x * (Real.log 2)⁻¹) := by
  have hp := log2_pos
  have e : Real.rpow 2 (0 - |x * (Real.log 2)⁻¹|) = Real.exp (-|x|) := by
    show (2 : ℝ) ^ (0 - |x * (Real.log 2)⁻¹|) = _
    rw [Real.rpow_def_of_pos (by norm_num), abs_mul, abs_of_pos (inv_pos.2 hp)]
    congr 1
    field_simp
    ring
  unfold spl sp2
  rw [e, mul_add, show Real.log 2 * (Real.log (1 + Real.exp (-|x|)) * (Real.log 2)⁻¹) = Real.log (1 + Real.exp (-|x|)) by field_simp]
  congr 1
  rcases le_total 0 x with h | h
  · rw [max_eq_left h, max_eq_left (mul_nonneg h (inv_nonneg.2 hp.le))]; field_simp
  · rw [max_eq_right h, max_eq_right (mul_nonpos_of_nonpos_of_nonneg h (inv_nonneg.2 hp.le)), mul_zero]

/-! ## The sum from a key on -/

theorem foldl_sum {n : ℕ} (g : Fin n → EReal) (v : EReal) : (List.finRange n).foldl (fun r k => r + g k) v = v + ∑ k, g k := by
  have : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [this, Fin.sum_univ_def]

/-- A window's sum, over the window's indices. -/
theorem win_sum {s t : Shape} (window strides lo hi : Fin s.rank → ℕ) (h : s.ReduceWindows window strides lo hi t) (x : s.Idx → EReal) (v : EReal) (j : t.Idx) :
    Ideal.hostReduceWindowAdd window strides lo hi h x v j = v + ∑ p : (⟨s.rank, window⟩ : Shape).Idx,
      (if hin : ∀ a, lo a ≤ (j (a.cast h.1.symm)).val * strides a + (p a).val ∧ (j (a.cast h.1.symm)).val * strides a + (p a).val - lo a < s.size a
        then x (fun a => ⟨(j (a.cast h.1.symm)).val * strides a + (p a).val - lo a, (hin a).2⟩) else v) := by
  unfold Ideal.hostReduceWindowAdd Host.reduceWindow
  dsimp only
  rw [← Equiv.sum_comp (Shape.rowMajor (⟨s.rank, window⟩ : Shape)).symm]
  rw [foldl_sum]
  refine congrArg (fun y => v + y) (Finset.sum_congr rfl fun n _ => ?_)
  congr

/-- The window's third coordinate counts it. -/
def win : (⟨3, ![1, 1, 4096]⟩ : Shape).Idx ≃ Fin 4096 where
  toFun p := p 2
  invFun k := ix3 (0 : Fin 1) (0 : Fin 1) k
  left_inv p := by
    funext a
    match a with
    | 0 => exact Subsingleton.elim (α := Fin 1) _ _
    | 1 => exact Subsingleton.elim (α := Fin 1) _ _
    | 2 => rfl
  right_inv k := rfl

theorem rCum_at (l : FVec Ideal S8x4096x4096 .f32) (h : Fin 8) (t s : Fin 4096) (g : ℕ → ℝ) (hl : ∀ k : Fin 4096, l (ix3 h t k) = (g k.val : EReal)) :
    rCum l (ix3 h t s) = ((∑ k ∈ Finset.Ico s.val 4096, g k : ℝ) : EReal) := by
  have e0 : (broadcastInDim S_ ![] bcast_S_S_ (constant S_ .f32 0x00000000#32) : FVec Ideal S_ .f32) (Shape.Idx.first h_S_) = 0 := by
    show Ideal.ofBits .f32 0x00000000#32 = 0
    exact Ideal.ofBits_zero _
  unfold rCum Host.reduceWindowAdd
  rw [e0, Ideal.hostReduceWindowAdd_def, win_sum, zero_add]
  refine (Equiv.sum_comp win.symm _).symm.trans ?_
  have key : ∀ k : Fin 4096, (if hin : ∀ a : Fin 3, (![0, 0, 0] : Fin 3 → ℕ) a ≤ ((ix3 h t s : S8x4096x4096.Idx) a).val * (![1, 1, 1] : Fin 3 → ℕ) a + (win.symm k a).val ∧ ((ix3 h t s : S8x4096x4096.Idx) a).val * (![1, 1, 1] : Fin 3 → ℕ) a + (win.symm k a).val - (![0, 0, 0] : Fin 3 → ℕ) a < S8x4096x4096.size a
      then l (fun a => ⟨((ix3 h t s : S8x4096x4096.Idx) a).val * (![1, 1, 1] : Fin 3 → ℕ) a + (win.symm k a).val - (![0, 0, 0] : Fin 3 → ℕ) a, (hin a).2⟩) else (0 : EReal)) = ((if s.val + k.val < 4096 then g (s.val + k.val) else 0 : ℝ) : EReal) := by
    intro k
    by_cases hk : s.val + k.val < 4096
    · rw [if_pos hk, ← hl ⟨s.val + k.val, hk⟩]
      have hin : ∀ a : Fin 3, (![0, 0, 0] : Fin 3 → ℕ) a ≤ ((ix3 h t s : S8x4096x4096.Idx) a).val * (![1, 1, 1] : Fin 3 → ℕ) a + (win.symm k a).val ∧ ((ix3 h t s : S8x4096x4096.Idx) a).val * (![1, 1, 1] : Fin 3 → ℕ) a + (win.symm k a).val - (![0, 0, 0] : Fin 3 → ℕ) a < S8x4096x4096.size a := fun a => by
        match a with
        | 0 => exact ⟨Nat.zero_le _, by show h.val * 1 + 0 - 0 < 8; have := h.isLt; omega⟩
        | 1 => exact ⟨Nat.zero_le _, by show t.val * 1 + 0 - 0 < 4096; have := t.isLt; omega⟩
        | 2 => exact ⟨Nat.zero_le _, by show s.val * 1 + k.val - 0 < 4096; omega⟩
      rw [dif_pos hin]
      refine congrArg l (funext fun a => Fin.ext ?_)
      match a with
      | 0 => show h.val * 1 + 0 - 0 = h.val; omega
      | 1 => show t.val * 1 + 0 - 0 = t.val; omega
      | 2 => show s.val * 1 + k.val - 0 = s.val + k.val; omega
    · rw [if_neg hk, dif_neg fun hin => hk (by have h2 : s.val * 1 + k.val - 0 < 4096 := (hin 2).2; omega)]
      rfl
  refine (Finset.sum_congr rfl fun k _ => key k).trans ?_
  rw [sum_coe]
  congr 1
  rw [Fin.sum_univ_eq_sum_range (fun k => if s.val + k < 4096 then g (s.val + k) else 0), ← Finset.sum_filter, Finset.sum_Ico_eq_sum_range]
  refine Finset.sum_congr (Finset.ext fun k => ?_) fun _ _ => rfl
  simp only [Finset.mem_filter, Finset.mem_range]
  omega

/-! ## The weights -/

theorem zero_id : (id (constant S_ FTy.f32 0x00000000#32) : FVec Ideal S_ .f32) ix0 = ((0 : ℝ) : EReal) := Ideal.ofBits_zero .f32

theorem rL_at (z : FVec Ideal S8x4096x4096 .f32) (h : Fin 8) (t : Fin 4096) (g : ℕ → ℝ) (hz : ∀ k : Fin 4096, z (ix3 h t k) = (g k.val : EReal)) (k : Fin 4096) :
    rL z (ix3 h t k) = ((if k.val < t.val then - spl (g k.val) else 0 : ℝ) : EReal) := by
  pointwise [rL, rM_at, rSp_at z h t k _ (hz k), sel_at]
  split
  · exact (EReal.coe_neg _).symm
  · exact zero_id

theorem rW_at (z : FVec Ideal S8x4096x4096 .f32) (h : Fin 8) (t s : Fin 4096) (g : ℕ → ℝ) (hz : ∀ k : Fin 4096, z (ix3 h t k) = (g k.val : EReal)) :
    rW z (ix3 h t s) = (W t.val (fun _ k => g k * (Real.log 2)⁻¹) 0 s.val : EReal) := by
  have e1 : rSp (Host.negf z) (ix3 h t s) = (spl (-(g s.val)) : EReal) := rSp_at _ h t s _ (by pointwise [hz]; exact (EReal.coe_neg _).symm)
  have e2 := rCum_at (rL z) h t s (fun k => if k < t.val then - spl (g k) else 0) (rL_at z h t g hz)
  have e3 := rL_at z h t g hz s
  pointwise [rW, rM_at, e1, e2, e3, sel_at]
  unfold W
  by_cases hs : s.val < t.val
  · rw [if_pos hs, if_pos hs, if_pos hs, ← EReal.coe_neg, ← EReal.coe_sub, ← EReal.coe_add]
    refine (congrArg (fun r : ℝ => (r : EReal)) ?_ : ((Real.exp (- spl (-(g s.val)) + ((∑ k ∈ Finset.Ico s.val 4096, if k < t.val then - spl (g k) else 0) - (- spl (g s.val)))) : ℝ) : EReal) = _)
    rw [show Real.rpow 2 (g s.val * (Real.log 2)⁻¹ - Cert.AttnFwdIdeal.Att.T t.val (fun _ k => g k * (Real.log 2)⁻¹) 0 s.val) = Real.exp (Real.log 2 * (g s.val * (Real.log 2)⁻¹ - Cert.AttnFwdIdeal.Att.T t.val (fun _ k => g k * (Real.log 2)⁻¹) 0 s.val)) from Real.rpow_def_of_pos (by norm_num) _, spl_neg]
    refine congrArg Real.exp ?_
    have hp := log2_pos
    have e : (∑ k ∈ Finset.Ico s.val 4096, if k < t.val then - spl (g k) else 0) = - (Real.log 2 * Cert.AttnFwdIdeal.Att.T t.val (fun _ k => g k * (Real.log 2)⁻¹) 0 s.val) := by
      unfold Cert.AttnFwdIdeal.Att.T sg
      rw [Finset.mul_sum, ← Finset.sum_neg_distrib]
      refine Finset.sum_congr rfl fun k _ => ?_
      split
      · rw [spl_sp2]
      · simp
    rw [e, mul_sub, show Real.log 2 * (g s.val * (Real.log 2)⁻¹) = g s.val by field_simp]
    ring
  · rw [if_neg hs, if_neg hs]; exact zero_id

/-! ## The result -/

/-- The real numbers of an array. -/
def xr (x : FVec Ideal S4096x1536 .bf16) (t j : ℕ) : ℝ := if h : t < 4096 ∧ j < 1536 then (x (ix2 (⟨t, h.1⟩ : Fin 4096) (⟨j, h.2⟩ : Fin 1536)) : EReal).toReal else 0

section Real
variable (x : FVec Ideal S4096x1536 .bf16) (hx : ∀ i, IsReal (x i))

include hx in
theorem xr_at (t : Fin 4096) (j : Fin 1536) : x (ix2 t j) = (xr x t.val j.val : EReal) := by
  obtain ⟨r, hr⟩ := hx (ix2 t j)
  unfold xr
  rw [dif_pos ⟨t.isLt, j.isLt⟩]
  show x (ix2 t j) = (((x (ix2 t j) : EReal).toReal : ℝ) : EReal)
  rw [hr]; rfl

include hx in
theorem rQ_at (t : Fin 4096) (h : Fin 8) (d : Fin 64) : rQ x (ix3 t h d) = (xr x t.val (64 * h.val + d.val) : EReal) := by
  pointwise [rQ, xr_at x hx]
  congr 2; omega
include hx in
theorem rK_at (t : Fin 4096) (h : Fin 8) (d : Fin 64) : rK x (ix3 t h d) = (xr x t.val (512 + 64 * h.val + d.val) : EReal) := by
  pointwise [rK, xr_at x hx]
  congr 2; omega
include hx in
theorem rV_at (t : Fin 4096) (h : Fin 8) (d : Fin 64) : rV x (ix3 t h d) = (xr x t.val (1024 + 64 * h.val + d.val) : EReal) := by
  pointwise [rV, xr_at x hx]
  congr 2; omega

theorem word_eighth : Ideal.ofBits .f32 0x3E000000#32 = ((8⁻¹ : ℝ) : EReal) := by
  simp [Ideal.ofBits, Ideal.ieee]; rw [← EReal.coe_mul]; norm_num

/-- A score over real numbers. -/
def zr (x : FVec Ideal S4096x1536 .bf16) (h t s : ℕ) : ℝ := (∑ d : Fin 64, xr x t (64 * h + d.val) * xr x s (512 + 64 * h + d.val)) * 8⁻¹

include hx in
theorem rZ_at (h : Fin 8) (t s : Fin 4096) : rZ x (ix3 h t s) = (zr x h.val t.val s.val : EReal) := by
  pointwise [rZ, rQ_at x hx, rK_at x hx]
  simp only [← EReal.coe_mul]
  rw [sum_coe, word_eighth, ← EReal.coe_mul]
  rfl

include hx in
theorem rO_at (t : Fin 4096) (j : Fin 512) : rO (rV x) (rW (rZ x)) (ix2 t j)
    = ((∑ s : Fin 4096, xr x s.val (1024 + j.val) * W t.val (fun _ k => zr x (j.val / 64) t.val k * (Real.log 2)⁻¹) 0 s.val : ℝ) : EReal) := by
  have hw : ∀ (h : Fin 8) (s : Fin 4096), rW (rZ x) (ix3 h t s) = _ := fun h s => rW_at (rZ x) h t s (fun k => zr x h.val t.val k) (fun k => rZ_at x hx h t k)
  pointwise [rO, rV_at x hx, hw]
  simp only [← EReal.coe_mul]
  rw [sum_coe]
  simp only [show 1024 + 64 * (j.val / 64) + j.val % 64 = 1024 + j.val by omega]
end Real
end Cert.AttnFwdRefIdeal.Att
-- ==== Proof.Fwd.AttnRun.lean ====
module

public import Idealize.ShloMosaic.Lib.Pipeline.KitQuiescent
public import Idealize.ShloMosaic.Lib.Pipeline.ValueKit.Geometry
public import proofs.«01_k».proof.Proof.Gen.AttnFwdIdeal.Frame
public import proofs.«01_k».proof.Proof.Gen.AttnFwdIdeal.Points
public import proofs.«01_k».proof.Proof.Gen.AttnFwdIdeal.Launch
public import proofs.«01_k».proof.Proof.Fwd.AttnBodyN
public import proofs.«01_k».proof.Proof.Gen.AttnFwdIdeal.Loops

@[expose] public section

set_option maxRecDepth 16384

noncomputable section

namespace Cert.AttnFwdIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnFwdIdeal.Gen

variable {F : FTy → Type} [FloatOps F] [Named F]

open Idealize.ShloMosaic.Pipeline (Dat Cfg Window BodyObligation)
open Idealize.ShloMosaic.Rounds

theorem cases2 : ∀ i : grid0.Coords, (k0_cond1 i = 1#1 ∧ ¬ k0_cond2 i = 1#1 ∧ (i 1).val = 0)
    ∨ (¬ k0_cond1 i = 1#1 ∧ k0_cond2 i = 1#1 ∧ (i 1).val ≠ 0) := by decide +kernel

theorem point1 : ∀ t : Fin cfg0.N, ((grid0.coords t) 1).val = t.val % 8 :=
  (by decide +kernel : ∀ t : Fin grid0.N, ((grid0.coords t) 1).val = t.val % 8)

/-! ## The laid-out array does not depend on what it held -/

theorem put_same (P P' : FVec F S8192x128 .bf16) (off : Fin 2 → ℕ) (w : FVec F S128x128 .bf16) (y : S8192x128.Idx)
    (h : (∀ a : Fin 2, off a ≤ (y a).val ∧ (y a).val < off a + S128x128.size a) ∨ P y = P' y) :
    (VecWindow.put P off S128x128.size w : FVec F S8192x128 .bf16) y = (VecWindow.put P' off S128x128.size w : FVec F S8192x128 .bf16) y := by
  by_cases hi : ∀ a : Fin 2, off a ≤ (y a).val ∧ (y a).val < off a + S128x128.size a
  · unfold VecWindow.put; rw [dif_pos hi, dif_pos hi]
  · unfold VecWindow.put; rw [dif_neg hi, dif_neg hi]; exact h.resolve_left hi

theorem fill_same (X : FVec F S4096x128 .bf16) (P P' : FVec F S8192x128 .bf16) (k : ℕ) (y : S8192x128.Idx) (hy : (y 0).val < 256 * k) :
    fill X P k y = fill X P' k y := by
  induction k with
  | zero => omega
  | succ k ih =>
    have h1 : (y 1).val < 128 := (y 1).isLt
    refine put_same _ _ _ _ y (or_iff_not_imp_left.mpr fun n => put_same _ _ _ _ y (or_iff_not_imp_left.mpr fun n' => ih ?_))
    by_contra hc
    by_cases hd : (y 0).val < 256 * k + 128
    · refine n' fun a => ?_
      match a with
      | 0 => exact ⟨show 256 * k ≤ (y 0).val by omega, show (y 0).val < 256 * k + 128 from hd⟩
      | 1 => exact ⟨Nat.zero_le _, show (y 1).val < 0 + 128 by omega⟩
    · refine n fun a => ?_
      match a with
      | 0 => exact ⟨show 256 * k + 128 ≤ (y 0).val by omega, show (y 0).val < 256 * k + 128 + 128 by omega⟩
      | 1 => exact ⟨Nat.zero_le _, show (y 1).val < 0 + 128 by omega⟩

/-- An array of zeros, over which the keys and the values are named. -/
def zr0 : FVec F S8192x128 .bf16 := broadcast S8192x128 (Scalar.ofBits .bf16 0x0000#16)

theorem fill_all (X : FVec F S4096x128 .bf16) (P P' : FVec F S8192x128 .bf16) : fill X P 32 = fill X P' 32 :=
  funext fun y => fill_same X P P' 32 y (y 0).isLt

/-- The result of a block of queries. -/
def outAt (q : FVec F S512x128 .bf16) (K V : FVec F S8192x128 .bf16) (I : ℕ) : FVec F S512x128 .bf16 :=
  if I = 0 then out0 q K V else outN q K V I
/-- The kept carries at a grid's column. -/
def carAt (q : FVec F S512x128 .bf16) (K : FVec F S8192x128 .bf16) (I : ℕ) : FVec F S1x512x128 .f32 :=
  if I = 0 then car0 q K else carN q K I

section Triple
variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .hbm S4096x1024 .bf16) (harg5 : arg5.IsWhole)
variable (arg6 : Memref sig .tc .vmem S512x128 .bf16) (harg6 : arg6.IsWhole)
variable (arg7 : Memref sig .tc .vmem S1x512x128 .f32) (harg7 : arg7.IsWhole)
variable (arg8 : Memref sig .tc .vmem S8192x128 .bf16) (harg8 : arg8.IsWhole)
variable (arg9 : Memref sig .tc .vmem S8192x128 .bf16) (harg9 : arg9.IsWhole)
variable (arg10 : Memref sig .tc .vmem S512x128 .f32) (harg10 : arg10.IsWhole)
variable (arg11 : Memref sig .tc .vmem S512x256 .f32) (harg11 : arg11.IsWhole)
variable (arg12 : Memref sig .tc .vmem S512x512 .f32) (harg12 : arg12.IsWhole)
variable (arg13 : Memref sig .tc .vmem S512x512 .f32) (harg13 : arg13.IsWhole)
variable (arg14 : Memref sig .tc .vmem S512x512 .f32) (harg14 : arg14.IsWhole)
variable (arg15 : Memref sig .tc .vmem S512x512 .f32) (harg15 : arg15.IsWhole)

/-- The body at any point: the inputs stay, the result is named, the keys and values stay laid out. -/
theorem body_any (E : Set ℕ)
    (f2 : BufTy.Contents (Elt F) arg2.view.ty)
    (f3 : BufTy.Contents (Elt F) arg3.view.ty)
    (f4 : BufTy.Contents (Elt F) arg4.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (K V : FVec F S8192x128 .bf16) (hK : K = fill (arg3.view.read (Elt F) f3) zr0 32) (hV : V = fill (arg4.view.read (Elt F) f4) zr0 32)
    (h8 : (i 1).val ≠ 0 → arg8.view.read (Elt F) f8 = K) (h9 : (i 1).val ≠ 0 → arg9.view.read (Elt F) f9 = V) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) 𝒱 (c : Thread nD τ) bd) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ g, (arg6.view.loc (c : Thread nD τ) ↦[arg6.view.set]{fullShare} g) ∗ ⌜arg6.view.read (Elt F) g = outAt (arg2.view.read (Elt F) f2) K V (i 1).val⌝) ∗ (∃ g, (arg8.view.loc (c : Thread nD τ) ↦[arg8.view.set]{fullShare} g) ∗ ⌜arg8.view.read (Elt F) g = K⌝) ∗ (∃ g, (arg9.view.loc (c : Thread nD τ) ↦[arg9.view.set]{fullShare} g) ∗ ⌜arg9.view.read (Elt F) g = V⌝) ∗ (∃ g, (arg7.view.loc (c : Thread nD τ) ↦[arg7.view.set]{fullShare} g) ∗ ⌜arg7.view.read (Elt F) g = carAt (arg2.view.read (Elt F) f2) K (i 1).val⌝) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) := by
  rcases cases2 i with ⟨h1, h2, hz⟩ | ⟨h1, h2, hz⟩
  · have e8 : fill (arg3.view.read (Elt F) f3) (arg8.view.read (Elt F) f8) 32 = K := (fill_all _ _ _).trans hK.symm
    have e9 : fill (arg4.view.read (Elt F) f4) (arg9.view.read (Elt F) f9) 32 = V := (fill_all _ _ _).trans hV.symm
    have e6 : outAt (arg2.view.read (Elt F) f2) K V (i 1).val = out0 (arg2.view.read (Elt F) f2) K V := if_pos hz
    have e7 : carAt (arg2.view.read (Elt F) f2) K (i 1).val = car0 (arg2.view.read (Elt F) f2) K := if_pos hz
    rw [e6, e7, ← e8, ← e9]
    exact body_first 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 h2 E f2 f3 f4 f6 f7 f8 f9 f10 f11 f12 f13 f14 f15
  · have e8 := h8 hz
    have e9 := h9 hz
    have e6 : outAt (arg2.view.read (Elt F) f2) K V (i 1).val = outN (arg2.view.read (Elt F) f2) K V (i 1).val := if_neg hz
    have e7 : carAt (arg2.view.read (Elt F) f2) K (i 1).val = carN (arg2.view.read (Elt F) f2) K (i 1).val := if_neg hz
    rw [e6, e7, ← e8, ← e9]
    refine (body_later 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 h2 E f2 f3 f4 f6 f7 f8 f9 f10 f11 f12 f13 f14 f15).trans (wp_mono _ _ _ fun _ => ?_)
    iintro ⟨H2, H3, H4, H6, H8, H9, H7, H10, H11, H12, H13, H14, H15⟩
    isplitl [H2]; · iexact H2
    isplitl [H3]; · iexact H3
    isplitl [H4]; · iexact H4
    isplitl [H6]; · iexact H6
    isplitl [H8]
    · iexists _; isplitl [H8]; · iexact H8
      ipureintro; rfl
    isplitl [H9]
    · iexists _; isplitl [H9]; · iexact H9
      ipureintro; rfl
    isplitl [H7]; · iexact H7
    isplitl [H10]; · iexact H10
    isplitl [H11]; · iexact H11
    isplitl [H12]; · iexact H12
    isplitl [H13]; · iexact H13
    isplitl [H14]; · iexact H14
    iexact H15
end Triple

variable (m : (ℓ : Loc nD τ sig) → Buf (Elt F) ℓ) (ρ : Dev nD → PrngReg)

abbrev 𝒱₀ : Variants := Variants.none

/-- A number as a point of the grid. -/
def pt0 (s : ℕ) : Fin cfg0.N := ⟨s % 32, lt_of_lt_of_eq (Nat.mod_lt _ (by norm_num)) N_0.symm⟩

theorem pt0_val (t : Fin cfg0.N) : pt0 t.val = t := Fin.ext (Nat.mod_eq_of_lt (lt_of_lt_of_eq t.isLt N_0))

/-- The keys and the values laid out, at a point. -/
def kc (c : Dev nD) (s : ℕ) : FVec F S8192x128 .bf16 := fill (iblk m c 1 (pt0 s)) zr0 32
def vc (c : Dev nD) (s : ℕ) : FVec F S8192x128 .bf16 := fill (iblk m c 2 (pt0 s)) zr0 32

theorem idx1 : ∀ t : Fin cfg0.N, win0_1.index t = ![0, t.val / 8 + 4] := (by decide +kernel : ∀ t : Fin grid0.N, _)
theorem idx2 : ∀ t : Fin cfg0.N, win0_2.index t = ![0, t.val / 8 + 8] := (by decide +kernel : ∀ t : Fin grid0.N, _)

theorem blk1_same (c : Dev nD) (t t' : Fin cfg0.N) (h : t'.val / 8 = t.val / 8) : iblk m c 1 t' = iblk m c 1 t := by
  funext y
  refine congrArg (V m c (Pipeline.arrRef spec0 1)) (funext fun a => Fin.ext ?_)
  fin_cases a <;> blk_simp [idx1, h]
theorem blk2_same (c : Dev nD) (t t' : Fin cfg0.N) (h : t'.val / 8 = t.val / 8) : iblk m c 2 t' = iblk m c 2 t := by
  funext y
  refine congrArg (V m c (Pipeline.arrRef spec0 2)) (funext fun a => Fin.ext ?_)
  fin_cases a <;> blk_simp [idx2, h]

theorem next_pt (t : Fin cfg0.N) (h : (t.val + 1) % 8 ≠ 0) : (pt0 (t.val + 1)).val / 8 = t.val / 8 := by
  have ht : t.val < 32 := lt_of_lt_of_eq t.isLt N_0
  show (t.val + 1) % 32 / 8 = t.val / 8
  omega

theorem kc_next (c : Dev nD) (t : Fin cfg0.N) (h : (t.val + 1) % 8 ≠ 0) : kc m c (t.val + 1) = fill (iblk m c 1 t) zr0 32 := by
  unfold kc; rw [blk1_same m c t _ (next_pt t h)]
theorem vc_next (c : Dev nD) (t : Fin cfg0.N) (h : (t.val + 1) % 8 ≠ 0) : vc m c (t.val + 1) = fill (iblk m c 2 t) zr0 32 := by
  unfold vc; rw [blk2_same m c t _ (next_pt t h)]
theorem kc_at (c : Dev nD) (t : Fin cfg0.N) : kc m c t.val = fill (iblk m c 1 t) zr0 32 := by unfold kc; rw [pt0_val]
theorem vc_at (c : Dev nD) (t : Fin cfg0.N) : vc m c t.val = fill (iblk m c 2 t) zr0 32 := by unfold vc; rw [pt0_val]

/-- The result's block at a point. -/
def resAt (c : Dev nD) (t : Fin cfg0.N) : FVec F S512x128 .bf16 := outAt (iblk m c 0 t) (kc m c t.val) (vc m c t.val) (t.val % 8)
/-- The kept carries' block at a point. -/
def carBlk (c : Dev nD) (t : Fin cfg0.N) : FVec F S1x512x128 .f32 := carAt (iblk m c 0 t) (kc m c t.val) (t.val % 8)

/-- What each window's staging buffer holds after the body: an input its block, a result its block. -/
abbrev after0 (c : Dev nD) : (w : Fin cfg0.W) → Fin cfg0.N → (cfg0.win w).block.Idx → Elt F (cfg0.win w).elt
  | 0 => iblk m c 0
  | 1 => iblk m c 1
  | 2 => iblk m c 2
  | 3 => resAt m c
  | 4 => carBlk m c

/-- The scratch between points: inside a pair's points the keys and values stand laid out. -/
def scratchAt (c : Dev nD) (s : ℕ) : sProp (MT nD τ sig Unit (Elt F) ℕ (UR sig nD τ) ℕ) :=
  iprop((∃ f, ((Memref.whole cc0_scratch0 : Memref sig .tc .vmem S8192x128 .bf16).view.loc (c : Thread nD τ) ↦[(Memref.whole cc0_scratch0 : Memref sig .tc .vmem S8192x128 .bf16).view.set]{fullShare} f) ∗ ⌜s % 8 ≠ 0 → (Memref.whole cc0_scratch0 : Memref sig .tc .vmem S8192x128 .bf16).view.read (Elt F) f = kc m c s⌝) ∗ (∃ f, ((Memref.whole cc0_scratch1 : Memref sig .tc .vmem S8192x128 .bf16).view.loc (c : Thread nD τ) ↦[(Memref.whole cc0_scratch1 : Memref sig .tc .vmem S8192x128 .bf16).view.set]{fullShare} f) ∗ ⌜s % 8 ≠ 0 → (Memref.whole cc0_scratch1 : Memref sig .tc .vmem S8192x128 .bf16).view.read (Elt F) f = vc m c s⌝) ∗ (∃ f, ((Memref.whole cc0_scratch2 : Memref sig .tc .vmem S512x128 .f32).view.loc (c : Thread nD τ) ↦[(Memref.whole cc0_scratch2 : Memref sig .tc .vmem S512x128 .f32).view.set]{fullShare} f)) ∗ (∃ f, ((Memref.whole cc0_scratch3 : Memref sig .tc .vmem S512x256 .f32).view.loc (c : Thread nD τ) ↦[(Memref.whole cc0_scratch3 : Memref sig .tc .vmem S512x256 .f32).view.set]{fullShare} f)) ∗ (∃ f, ((Memref.whole cc0_scratch4 : Memref sig .tc .vmem S512x512 .f32).view.loc (c : Thread nD τ) ↦[(Memref.whole cc0_scratch4 : Memref sig .tc .vmem S512x512 .f32).view.set]{fullShare} f)) ∗ (∃ f, ((Memref.whole cc0_scratch5 : Memref sig .tc .vmem S512x512 .f32).view.loc (c : Thread nD τ) ↦[(Memref.whole cc0_scratch5 : Memref sig .tc .vmem S512x512 .f32).view.set]{fullShare} f)) ∗ (∃ f, ((Memref.whole cc0_scratch6 : Memref sig .tc .vmem S512x512 .f32).view.loc (c : Thread nD τ) ↦[(Memref.whole cc0_scratch6 : Memref sig .tc .vmem S512x512 .f32).view.set]{fullShare} f)) ∗ (∃ f, ((Memref.whole cc0_scratch7 : Memref sig .tc .vmem S512x512 .f32).view.loc (c : Thread nD τ) ↦[(Memref.whole cc0_scratch7 : Memref sig .tc .vmem S512x512 .f32).view.set]{fullShare} f)))

/-- The proof data: the arrays as the region finds them, the scratch as above. -/
abbrev dats : (p : Fin 1) → (c : Dev nD) → Dat τ (Elt F) Unit ℕ (UR sig nD τ) ℕ (cfgs p) c
  | 0 => fun c =>
    { A := fun w => V m c (Pipeline.arrRef spec0 w)
      after := after0 m c
      Φ := fun s => iprop(scratchAt m c s.val ∗ (∃ r, prngReg c r))
      q := fun w => Pipeline.shareOf spec0 w
      owed := fun _ => 0 }

/-- No output is left unnamed. -/
def fgt : Fin 5 → Bool
  | 0 => false
  | 1 => false
  | 2 => false
  | 3 => false
  | 4 => false

/-- The scratch buffers, each at some contents. -/
def scratch (c : Dev nD) : sProp (MT nD τ sig Unit (Elt F) ℕ (UR sig nD τ) ℕ) :=
  iprop((∃ f, ((Memref.whole cc0_scratch0 : Memref sig .tc .vmem S8192x128 .bf16).view.loc (c : Thread nD τ) ↦[(Memref.whole cc0_scratch0 : Memref sig .tc .vmem S8192x128 .bf16).view.set]{fullShare} f)) ∗ (∃ f, ((Memref.whole cc0_scratch1 : Memref sig .tc .vmem S8192x128 .bf16).view.loc (c : Thread nD τ) ↦[(Memref.whole cc0_scratch1 : Memref sig .tc .vmem S8192x128 .bf16).view.set]{fullShare} f)) ∗ (∃ f, ((Memref.whole cc0_scratch2 : Memref sig .tc .vmem S512x128 .f32).view.loc (c : Thread nD τ) ↦[(Memref.whole cc0_scratch2 : Memref sig .tc .vmem S512x128 .f32).view.set]{fullShare} f)) ∗ (∃ f, ((Memref.whole cc0_scratch3 : Memref sig .tc .vmem S512x256 .f32).view.loc (c : Thread nD τ) ↦[(Memref.whole cc0_scratch3 : Memref sig .tc .vmem S512x256 .f32).view.set]{fullShare} f)) ∗ (∃ f, ((Memref.whole cc0_scratch4 : Memref sig .tc .vmem S512x512 .f32).view.loc (c : Thread nD τ) ↦[(Memref.whole cc0_scratch4 : Memref sig .tc .vmem S512x512 .f32).view.set]{fullShare} f)) ∗ (∃ f, ((Memref.whole cc0_scratch5 : Memref sig .tc .vmem S512x512 .f32).view.loc (c : Thread nD τ) ↦[(Memref.whole cc0_scratch5 : Memref sig .tc .vmem S512x512 .f32).view.set]{fullShare} f)) ∗ (∃ f, ((Memref.whole cc0_scratch6 : Memref sig .tc .vmem S512x512 .f32).view.loc (c : Thread nD τ) ↦[(Memref.whole cc0_scratch6 : Memref sig .tc .vmem S512x512 .f32).view.set]{fullShare} f)) ∗ (∃ f, ((Memref.whole cc0_scratch7 : Memref sig .tc .vmem S512x512 .f32).view.loc (c : Thread nD τ) ↦[(Memref.whole cc0_scratch7 : Memref sig .tc .vmem S512x512 .f32).view.set]{fullShare} f)))

set_option maxHeartbeats 4000000 in
theorem scratch_eq (c : Dev nD) : Pipeline.scopedRest (Val := Elt F) spec0 c = scratch (F := F) c := by
  unfold scratch
  rw [scopedRest0_eq]
  simp only [Memref.view_whole, View.set_whole]

/-- At any contents the scratch is as a pair's first point takes it. -/
theorem scratch_in (c : Dev nD) : scratch (F := F) c ⊢ scratchAt m c 0 := by
  unfold scratch scratchAt
  iintro ⟨⟨%f8, H8⟩, ⟨%f9, H9⟩, H⟩
  isplitl [H8]
  · iexists f8; isplitl [H8]; · iexact H8
    ipureintro; exact fun h => absurd rfl h
  isplitl [H9]
  · iexists f9; isplitl [H9]; · iexact H9
    ipureintro; exact fun h => absurd rfl h
  iexact H

theorem scratch_out (c : Dev nD) (s : ℕ) : scratchAt m c s ⊢ scratch (F := F) c := by
  unfold scratch scratchAt
  iintro ⟨⟨%f8, H8, %e8⟩, ⟨%f9, H9, %e9⟩, H⟩
  isplitl [H8]; · iexists f8; iexact H8
  isplitl [H9]; · iexists f9; iexact H9
  iexact H

theorem scoped_in (c : Dev nD) : Pipeline.ΦA spec0 c ⊢ (dats m 0 c).Φ 0 := by
  unfold Pipeline.ΦA
  rw [scratch_eq]
  show _ ⊢ iprop(scratchAt m c 0 ∗ (∃ r, prngReg c r))
  iintro ⟨H, Hr⟩
  isplitl [H]; · iapply (scratch_in m c); iexact H
  iexact Hr

theorem scoped_out (c : Dev nD) : (dats m 0 c).Φ (Fin.last cfg0.N) ⊢ Pipeline.ΦA spec0 c := by
  unfold Pipeline.ΦA
  rw [scratch_eq]
  show iprop(scratchAt m c cfg0.N ∗ (∃ r, prngReg c r)) ⊢ _
  iintro ⟨H, Hr⟩
  isplitl [H]; · iapply (scratch_out m c cfg0.N); iexact H
  iexact Hr

/-- What a point starts from. -/
def bodyPre (c : Dev nD) (t : Fin cfg0.N) : sProp (MT nD τ sig Unit (Elt F) ℕ (UR sig nD τ) ℕ) :=
  iprop((scratchAt m c t.val ∗ (∃ r, prngReg c r)) ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What a point leaves. -/
def bodyPost (c : Dev nD) (t : Fin cfg0.N) : sProp (MT nD τ sig Unit (Elt F) ℕ (UR sig nD τ) ℕ) :=
  iprop((scratchAt m c (t.val + 1) ∗ (∃ r, prngReg c r)) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (resAt m c t)
    ∗ owns (c : Thread nD τ) (st0_4 t) fullShare (carBlk m c t))

set_option maxHeartbeats 8000000 in
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  unfold owns scratchAt
  iintro ⟨⟨⟨⟨%f8, H8, %e8⟩, ⟨%f9, H9, %e9⟩, ⟨%f10, H10⟩, ⟨%f11, H11⟩, ⟨%f12, H12⟩, ⟨%f13, H13⟩, ⟨%f14, H14⟩, ⟨%f15, H15⟩⟩, Hr⟩, Ho, ⟨%d2, %f2, %h2, H2⟩, ⟨%d3, %f3, %h3, H3⟩, ⟨%d4, %f4, %h4, H4⟩, ⟨%d6, %f6, %h6, H6⟩, ⟨%d7, %f7, %h7, H7⟩⟩
  rw [before0_0_of m (dats m 0 c) rfl (fun _ => rfl)] at h2
  rw [before0_1_of m (dats m 0 c) rfl (fun _ => rfl)] at h3
  rw [before0_2_of m (dats m 0 c) rfl (fun _ => rfl)] at h4
  have hp := point1 t
  rw [kc_at] at e8
  rw [vc_at] at e9
  iapply (wp_wand_r Idealize.ShloMosaic.frame (wpE (defs₀ (F := F)) 𝒱₀ (c : Thread nD τ) none) Set.univ)
  isplitl [H2 H3 H4 H6 H7 H8 H9 H10 H11 H12 H13 H14 H15]
  · iapply (body_any (F := F) 𝒱₀ c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole main_arg1) (Memref.isWhole_whole _) (win0_3.stage (cfg0.slots t 3)) (hstage0_3 ((cfg0.slots t 3).cast nbuf0_3)) (win0_4.stage (cfg0.slots t 4)) (hstage0_4 ((cfg0.slots t 4).cast nbuf0_4)) (Memref.whole cc0_scratch0 : Memref sig .tc .vmem S8192x128 .bf16) (Memref.isWhole_whole _) (Memref.whole cc0_scratch1 : Memref sig .tc .vmem S8192x128 .bf16) (Memref.isWhole_whole _) (Memref.whole cc0_scratch2 : Memref sig .tc .vmem S512x128 .f32) (Memref.isWhole_whole _) (Memref.whole cc0_scratch3 : Memref sig .tc .vmem S512x256 .f32) (Memref.isWhole_whole _) (Memref.whole cc0_scratch4 : Memref sig .tc .vmem S512x512 .f32) (Memref.isWhole_whole _) (Memref.whole cc0_scratch5 : Memref sig .tc .vmem S512x512 .f32) (Memref.isWhole_whole _) (Memref.whole cc0_scratch6 : Memref sig .tc .vmem S512x512 .f32) (Memref.isWhole_whole _) (Memref.whole cc0_scratch7 : Memref sig .tc .vmem S512x512 .f32) (Memref.isWhole_whole _) Set.univ f2 f3 f4 f6 f7 f8 f9 f10 f11 f12 f13 f14 f15
      (fill (iblk m c 1 t) zr0 32) (fill (iblk m c 2 t) zr0 32) (congrArg (fun X => fill X zr0 32) h3.symm) (congrArg (fun X => fill X zr0 32) h4.symm)
      (fun h => e8 fun h' => h (hp.trans h')) (fun h => e9 fun h' => h (hp.trans h')))
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨H2, H3, H4, ⟨%g6, H6, %r6⟩, ⟨%g8, H8, %r8⟩, ⟨%g9, H9, %r9⟩, ⟨%g7, H7, %r7⟩, ⟨%g10, H10⟩, ⟨%g11, H11⟩, ⟨%g12, H12⟩, ⟨%g13, H13⟩, ⟨%g14, H14⟩, ⟨%g15, H15⟩⟩
    isplitl [H8 H9 H10 H11 H12 H13 H14 H15 Hr]
    · isplitl [H8 H9 H10 H11 H12 H13 H14 H15]
      · isplitl [H8]
        · iexists g8; isplitl [H8]; · iexact H8
          ipureintro; exact fun h => r8.trans (kc_next m c t h).symm
        isplitl [H9]
        · iexists g9; isplitl [H9]; · iexact H9
          ipureintro; exact fun h => r9.trans (vc_next m c t h).symm
        isplitl [H10]; · iexists _; iexact H10
        isplitl [H11]; · iexists _; iexact H11
        isplitl [H12]; · iexists _; iexact H12
        isplitl [H13]; · iexists _; iexact H13
        isplitl [H14]; · iexists _; iexact H14
        iexists _; iexact H15
      · iexact Hr
    isplitl [Ho]; · iexact Ho
    isplitl [H2]
    · iexists _; isplitr; · (ipureintro; exact h2)
      iexact H2
    isplitl [H3]
    · iexists _; isplitr; · (ipureintro; exact h3)
      iexact H3
    isplitl [H4]
    · iexists _; isplitr; · (ipureintro; exact h4)
      iexact H4
    isplitl [H6]
    · iexists g6; isplitr
      · ipureintro
        refine r6.trans ?_
        unfold resAt
        rw [kc_at, vc_at, ← hp]
        exact congrArg (fun X => outAt X _ _ _) h2
      iexact H6
    iexists g7; isplitr
    · ipureintro
      refine r7.trans ?_
      unfold carBlk
      rw [kc_at, ← hp]
      exact congrArg (fun X => carAt X _ _) h2
    iexact H7

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := F)) 𝒱₀ () Set.univ fgt := fun t => by
  rw [bigSep_W0, bigSep_W0, defs₀_row]
  exact triple_restated (sound_body m c t) rfl .rfl fun _ => .rfl

/-- The region's run: the result's array at its named contents and every semaphore zero at the end. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_track_forget_shared cfgs (dats m) 0 launch₀0 defs₀ 𝒱₀ fgt m ρ main
    (hbody := fun c => (body_obligation m c).loose) (hq := fun _ _ _ => rfl) (howed := fun _ _ => rfl)
    (V := V m) (hmain := hmain m 𝒱₀) (hA := fun _ _ => rfl) (hin := fun c => scoped_in m c) (hout := fun c => scoped_out m c)
    (Q' := fun r => Pipeline.RDat.FramePost cfg0 (fun c => (dats m 0 c).toRForget fgt) (V m) r ∧ r.2.sem = fun _ => 0)
    (hQ' := fun _ h => h)

/-- The run's end: the result's array, the arguments as they were, the semaphores at zero. -/
theorem run_res : θ_run defs (onTc (τ := τ) (main (F := F))) ⟨m, fun _ => 0, ρ⟩ (fun r => (∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((dats m 0 c).toRForget_arrAt_iff rfl _ _).mp ((h.1 c).1 3),
     ((dats m 0 c).toRForget_arrAt_iff rfl _ _).mp ((h.1 c).1 4),
     ((congrFun (((dats m 0 c).toRForget fgt).ArrAt_in 2 rfl _) _).mp ((h.1 c).1 2)).trans (V_main_arg0 m c),
     ((h.1 c).2 main_arg1 (Pipeline.mem_restRefs_of main_arg1 (by decide) (by decide))).trans (V_main_arg1 m c)⟩, h.2⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2.2, h.2⟩) (run_res m ρ)

end Cert.AttnFwdIdeal.Att
-- ==== Proof.Fwd.AttnOut.lean ====
/-
  The attention, forward: the kernel's array after its run over the arguments' arrays, and that the reference's
  result is this.
-/
module

public import proofs.«01_k».proof.Proof.Fwd.AttnFinal
public import proofs.«01_k».proof.Proof.Fwd.AttnRef
public import proofs.«01_k».proof.Proof.Fwd.AttnRun

@[expose] public section

set_option maxRecDepth 16384

noncomputable section

namespace Cert.AttnFwdIdeal.Att

open Idealize.ShloMosaic Idealize.ShloMosaic.TcCoe
open Cert.AttnFwdIdeal Cert.AttnFwdIdeal.Gen Cert.Common
open Cert.AttnFwdRefIdeal.Att (xr xr_at zr rO rV rW rZ rO_at)

/-! ## The block's formula is the reference's -/

theorem W_congr (n : ℕ) (z z' : ℕ → ℕ → ℝ) (h h' s : ℕ) (e : ∀ k, z h k = z' h' k) : W n z h s = W n z' h' s := by
  simp only [W, T, sg, e]

/-- A sum over a head's lanes. -/
theorem sum_head (h : ℕ) (hh : h < 2) (f : Fin 128 → ℝ) : (∑ l : Fin 128, if l.val / 64 = h then f l else 0) = ∑ d : Fin 64, f ⟨64 * h + d.val, by omega⟩ := by
  rw [← Finset.sum_filter]
  refine Finset.sum_bij' (fun l _ => (⟨l.val % 64, Nat.mod_lt _ (by norm_num)⟩ : Fin 64)) (fun d _ => ⟨64 * h + d.val, by omega⟩) ?_ ?_ ?_ ?_ ?_
  · intro l hl; exact Finset.mem_univ _
  · intro d hd; refine Finset.mem_filter.mpr ⟨Finset.mem_univ _, ?_⟩; show (64 * h + d.val) / 64 = h; omega
  · intro l hl
    have e := (Finset.mem_filter.mp hl).2
    exact Fin.ext (by show 64 * h + l.val % 64 = l.val; omega)
  · intro d hd; exact Fin.ext (by show (64 * h + d.val) % 64 = d.val; omega)
  · intro l hl
    have e := (Finset.mem_filter.mp hl).2
    exact congrArg f (Fin.ext (by show l.val = 64 * h + l.val % 64; omega))

section Bridge
variable (x : FVec Ideal S4096x1536 .bf16) (p I : ℕ)

/-- The pair's queries, keys and values. -/
def qP (a : Fin 512) (l : Fin 128) : ℝ := xr x (512 * I + a.val) (128 * p + l.val)
def kP (s : ℕ) (l : Fin 128) : ℝ := xr x s (512 + 128 * p + l.val)
def vP (s : ℕ) (l : Fin 128) : ℝ := xr x s (1024 + 128 * p + l.val)

theorem zz_eq (a : Fin 512) (h s : ℕ) (hh : h < 2) :
    zz (qsr (qP x p I)) (kP x p) a h s = zr x (2 * p + h) (512 * I + a.val) s * (Real.log 2)⁻¹ := by
  unfold zz zr
  simp only [mul_ite, mul_zero]
  rw [sum_head h hh, Finset.sum_mul, Finset.sum_mul]
  refine Finset.sum_congr rfl fun d _ => ?_
  show xr x (512 * I + a.val) (128 * p + (64 * h + d.val)) * (8⁻¹ * (Real.log 2)⁻¹) * xr x s (512 + 128 * p + (64 * h + d.val)) = _
  rw [show 128 * p + (64 * h + d.val) = 64 * (2 * p + h) + d.val by omega, show 512 + 128 * p + (64 * h + d.val) = 512 + 64 * (2 * p + h) + d.val by omega]
  ring

theorem AA_eq (a : Fin 512) (l : Fin 128) (t j : ℕ) (ht : t = 512 * I + a.val) (hj : j = 128 * p + l.val) :
    AA (512 * I + a.val) (zz (qsr (qP x p I)) (kP x p) a) (vP x p) l 0
      = ∑ s : Fin 4096, xr x s.val (1024 + j) * W t (fun _ k => zr x (j / 64) t k * (Real.log 2)⁻¹) 0 s.val := by
  subst ht hj
  have hl := l.isLt
  unfold AA
  rw [← Finset.range_eq_Ico, Finset.sum_range]
  refine Finset.sum_congr rfl fun s _ => ?_
  rw [W_congr _ _ (fun _ k => zr x ((128 * p + l.val) / 64) (512 * I + a.val) k * (Real.log 2)⁻¹) _ 0 s.val fun k => ?_, mul_comm]
  · rw [vP, show 1024 + 128 * p + l.val = 1024 + (128 * p + l.val) by omega]
  · rw [zz_eq x p I a _ k (by omega), show 2 * p + l.val / 64 = (128 * p + l.val) / 64 by omega]
end Bridge

/-! ## The array after the run -/

variable (m : (ℓ : Loc nD τ sig) → Buf (Elt Ideal) ℓ)

abbrev aX (c : Dev nD) : FVec Ideal S4096x1536 .bf16 := m ((c : Thread nD τ).loc main_arg0)
abbrev aY (c : Dev nD) : FVec Ideal S4096x1024 .bf16 := m ((c : Thread nD τ).loc main_arg1)

theorem idx : ∀ t : Fin cfg0.N, win0_0.index t = ![t.val % 8, t.val / 8] ∧ win0_3.index t = ![t.val % 8, t.val / 8 + 4] :=
  (by decide +kernel : ∀ t : Fin grid0.N, _)

theorem V_y (c : Dev nD) : V m c (Pipeline.arrRef spec0 3) = aY m c := by
  show StableHlo.after hostOps0 (fun b => m (c, b)) (Proc.devRef .tc main_v0_0) = _
  after_results
  rfl

section Blocks
variable (c : Dev nD) (t : Fin cfg0.N) (hx : ∀ i, IsReal (aX m c i))

include hx in
theorem q_at (a : Fin 512) (l : Fin 128) : (iblk m c 0 t : FVec Ideal S512x128 .bf16) (ix2 a l) = (qP (aX m c) (t.val / 8) (t.val % 8) a l : EReal) := by
  have ht : t.val < 32 := lt_of_lt_of_eq t.isLt N_0
  refine Eq.trans ?_ (xr_at (aX m c) hx ⟨512 * (t.val % 8) + a.val, by omega⟩ ⟨128 * (t.val / 8) + l.val, by omega⟩)
  blk_point [iblk, V, idx t, aX]

include hx in
theorem k_at (a : Fin 4096) (l : Fin 128) : (iblk m c 1 t : FVec Ideal S4096x128 .bf16) (ix2 a l) = (kP (aX m c) (t.val / 8) a.val l : EReal) := by
  have ht : t.val < 32 := lt_of_lt_of_eq t.isLt N_0
  refine Eq.trans ?_ (xr_at (aX m c) hx a ⟨512 + 128 * (t.val / 8) + l.val, by omega⟩)
  blk_point [iblk, V, idx1 t, aX]

include hx in
theorem v_at (a : Fin 4096) (l : Fin 128) : (iblk m c 2 t : FVec Ideal S4096x128 .bf16) (ix2 a l) = (vP (aX m c) (t.val / 8) a.val l : EReal) := by
  have ht : t.val < 32 := lt_of_lt_of_eq t.isLt N_0
  refine Eq.trans ?_ (xr_at (aX m c) hx a ⟨1024 + 128 * (t.val / 8) + l.val, by omega⟩)
  blk_point [iblk, V, idx2 t, aX]

include hx in
theorem res_at (a : Fin 512) (l : Fin 128) (r : Fin 4096) (j : Fin 512) (hr : r.val = 512 * (t.val % 8) + a.val) (hj : j.val = 128 * (t.val / 8) + l.val) :
    resAt m c t (ix2 a l) = rO (rV (aX m c)) (rW (rZ (aX m c))) (ix2 r j) := by
  rw [rO_at (aX m c) hx r j, ← AA_eq (aX m c) (t.val / 8) (t.val % 8) a l r.val j.val hr hj]
  unfold resAt outAt
  rw [kc_at, vc_at]
  by_cases hz : t.val % 8 = 0
  · rw [if_pos hz]
    refine (out0_at _ _ _ _ _ _ _ _ (q_at m c t hx) (k_at m c t hx) (v_at m c t hx) a l).trans ?_
    rw [hz, show 512 * 0 + a.val = a.val by omega]
  · rw [if_neg hz]
    exact outN_at _ _ _ _ _ _ _ _ (q_at m c t hx) (k_at m c t hx) (v_at m c t hx) (t.val % 8) (Nat.mod_lt _ (by norm_num)) (Nat.pos_of_ne_zero hz) a l
end Blocks

/-- The joined array: the other branch's columns as they were, the attention's beside them. -/
def joined (c : Dev nD) : FVec Ideal S4096x1024 .bf16 := fun i =>
  if h : 512 ≤ (i 1).val then rO (rV (aX m c)) (rW (rZ (aX m c))) (ix2 (i 0) ⟨(i 1).val - 512, by have := (i 1).isLt; change (i 1).val < 1024 at this; omega⟩)
  else aY m c i

theorem emb3 (t : Fin cfg0.N) (a : Fin 512) (l : Fin 128) : ((cfg0.win 3).blk t).view.emb (ix2 a l : S512x128.Idx)
    = (ix2 (⟨512 * (t.val % 8) + a.val, by omega⟩ : Fin 4096) (⟨512 + 128 * (t.val / 8) + l.val, by have := lt_of_lt_of_eq t.isLt N_0; omega⟩ : Fin 1024) : S4096x1024.Idx) := by
  funext b
  refine Fin.ext ?_
  fin_cases b <;> blk_simp [idx t]
  · show t.val % 8 * 512 + a.val = 512 * (t.val % 8) + a.val; omega
  · show (t.val / 8 + 4) * 128 + l.val = 512 + 128 * (t.val / 8) + l.val; omega

theorem point3 (c : Dev nD) (t : Fin cfg0.N) (hx : ∀ i, IsReal (aX m c i)) (y : S512x128.Idx) :
    resAt m c t y = joined m c (((cfg0.win 3).blk t).view.emb y) := by
  obtain ⟨a, l, rfl⟩ : ∃ (a : Fin 512) (l : Fin 128), y = ix2 a l := ⟨_, _, eq_ix2 y⟩
  rw [emb3]
  refine (res_at m c t hx a l ⟨512 * (t.val % 8) + a.val, by omega⟩ ⟨128 * (t.val / 8) + l.val, by have := lt_of_lt_of_eq t.isLt N_0; omega⟩ rfl rfl).trans ?_
  refine Eq.trans ?_ (dif_pos (show 512 ≤ 512 + 128 * (t.val / 8) + l.val by omega)).symm
  exact congrArg (fun k => rO (rV (aX m c)) (rW (rZ (aX m c))) (ix2 _ k)) (Fin.ext (show 128 * (t.val / 8) + l.val = 512 + 128 * (t.val / 8) + l.val - 512 by omega))

theorem final3 (c : Dev nD) (hx : ∀ i, IsReal (aX m c i)) : (dats m 0 c).arrAt 3 cfg0.N = joined m c := by
  have key : (dats m 0 c).arrAt 3 cfg0.N = fun i : S4096x1024.Idx => if 4 ≤ (i 1 : ℕ) / 128 then joined m c i else (dats m 0 c).A 3 i := by
    refine (dats m 0 c).arrAt_eq_of_coversWhere 3 _ (fun β => 4 ≤ β (1 : Fin _)) (by decide +kernel) (fun t hf y => ?_) (fun j => Iff.rfl)
    blk_simp
    exact point3 m c t hx y
  refine key.trans (funext fun i => ?_)
  by_cases h : 4 ≤ (i 1 : ℕ) / 128
  · exact if_pos h
  · refine (if_neg h).trans ((congrFun (V_y m c) i).trans ?_)
    unfold joined
    rw [dif_neg (show ¬ 512 ≤ (i 1).val by omega)]

end Cert.AttnFwdIdeal.Att

namespace Cert.AttnFwdRefIdeal.Att

open Idealize.ShloMosaic Idealize.ShloMosaic.TcCoe
open Cert.AttnFwdRefIdeal Cert.AttnFwdRefIdeal.Gen Cert.Common

/-- The reference's result over the kernel's arrays. -/
theorem joined_eq (mk : (ℓ : Loc Cert.AttnFwdIdeal.nD Cert.AttnFwdIdeal.τ Cert.AttnFwdIdeal.sig) → Buf (Elt Ideal) ℓ)
    (m : (ℓ : Loc nD τ sig) → Buf (Elt Ideal) ℓ) (c : Dev nD)
    (hx : m ((c : Thread nD τ).loc main_arg0) = Cert.AttnFwdIdeal.Att.aX mk c) (hy : m ((c : Thread nD τ).loc main_arg1) = Cert.AttnFwdIdeal.Att.aY mk c) :
    Value.res_out0 m c = Cert.AttnFwdIdeal.Att.joined mk c := by
  rw [res_eq m c _ _ hx hy]
  funext i
  obtain ⟨p, j, rfl⟩ : ∃ (p : Fin 4096) (j : Fin 1024), i = ix2 p j := ⟨_, _, eq_ix2 i⟩
  by_cases h : 512 ≤ j.val
  · refine Eq.trans ?_ (dif_pos h).symm
    pointwise []
    exact dif_neg (by omega)
  · refine Eq.trans ?_ (dif_neg h).symm
    pointwise []
    exact dif_pos (by omega)

end Cert.AttnFwdRefIdeal.Att

end
-- ==== Proof.Fwd.AttnSaved.lean ====
/-
  The attention, forward: the array of kept carries after the run, and that the reference's second result is this.
-/
module

public import proofs.«01_k».proof.Proof.Fwd.AttnKept
public import proofs.«01_k».proof.Proof.Fwd.AttnOut

@[expose] public section

set_option maxRecDepth 16384

noncomputable section

namespace Cert.AttnFwdRefIdeal.Att

open Idealize.ShloMosaic Idealize.ShloMosaic.TcCoe
open Cert.AttnFwdRefIdeal Cert.AttnFwdRefIdeal.Gen Cert.Common
open Cert.AttnFwdIdeal.Att (sg)

/-- The sums past a key block's last key, in base two. -/
def rB (u l : FVec Ideal S8x4096x4096 .f32) : FVec Ideal S8x4096x32 .f32 :=
  Host.divf (Host.negf (shapeCast _ (extractStridedSlice S8x4096x32x1 ![0, 0, 0, 127] (shapeCast _ (subf u l) shapeCasts_S8x4096x4096_S8x4096x32x128)
    slices_S8x4096x32x128_S8x4096x32x1_0_0_0_127) shapeCasts_S8x4096x32x1_S8x4096x32)) (broadcastInDim S8x4096x32 ![] bcast_S_S8x4096x32 (id (Host.log (constant S_ .f32 0x40000000#32))))
/-- The same by pair of heads. -/
def rE (b : FVec Ideal S8x4096x32 .f32) : FVec Ideal S4x4096x64 .f32 :=
  shapeCast _ (transpose S4x4096x2x32 [0, 2, 1, 3] (shapeCast _ b shapeCasts_S8x4096x32_S4x2x4096x32) transposes_S4x2x4096x32_S4x4096x2x32_0_2_1_3) shapeCasts_S4x4096x2x32_S4x4096x64
/-- The reference's second result. -/
def rKeep (z : FVec Ideal S8x4096x4096 .f32) : FVec Ideal S4x4096x128 .f32 :=
  concatenate S4x4096x128 2 [⟨S4x4096x64, rE (rB (rCum (rL z)) (rL z))⟩, ⟨S4x4096x64, broadcastInDim S4x4096x64 ![] bcast_S_S4x4096x64 (constant S_ .f32 0x00000000#32)⟩] concatenates_S4x4096x64_S4x4096x64_S4x4096x128_d2

theorem res1_eq (m : (ℓ : Loc nD τ sig) → Buf (Elt Ideal) ℓ) (c : Dev nD) (x : FVec Ideal S4096x1536 .bf16)
    (hx : m ((c.tc : Thread nD τ).loc main_arg0) = x) : Value.res_out1 m c = rKeep (rZ x) := by
  unfold Value.res_out1 Value.res_main_v46
  subst hx
  rfl

theorem log_two_word : Ideal.log (Ideal.ofBits .f32 0x40000000#32) = ((Real.log 2 : ℝ) : EReal) := by
  have e : Ideal.ofBits .f32 0x40000000#32 = ((2 : ℝ) : EReal) := by simp [Ideal.ofBits, Ideal.ieee]; rw [← EReal.coe_mul]; norm_num
  rw [e]
  exact if_neg (by norm_num)

theorem rB_pt (u l : FVec Ideal S8x4096x4096 .f32) (h : Fin 8) (t : Fin 4096) (j : Fin 32) :
    rB u l (ix3 h t j) = Ideal.div (-(u (ix3 h t (⟨j.val * 128 + 127, by omega⟩ : Fin 4096)) - l (ix3 h t (⟨j.val * 128 + 127, by omega⟩ : Fin 4096)))) (Ideal.log (Ideal.ofBits .f32 0x40000000#32)) := by
  pointwise [rB]
  rfl

theorem rB_at (z : FVec Ideal S8x4096x4096 .f32) (h : Fin 8) (t : Fin 4096) (j : Fin 32) (g : ℕ → ℝ) (hz : ∀ k : Fin 4096, z (ix3 h t k) = (g k.val : EReal)) :
    rB (rCum (rL z)) (rL z) (ix3 h t j) = (Cert.AttnFwdIdeal.Att.T t.val (fun _ k => g k * (Real.log 2)⁻¹) 0 (128 * (j.val + 1)) : EReal) := by
  have hj := j.isLt
  have hp := log2_pos
  rw [rB_pt, rCum_at (rL z) h t _ (fun k => if k < t.val then - spl (g k) else 0) (rL_at z h t g hz), rL_at z h t g hz, log_two_word]
  rw [Finset.sum_eq_sum_Ico_succ_bot (show j.val * 128 + 127 < 4096 by omega), ← EReal.coe_sub, ← EReal.coe_neg]
  have e : (∑ k ∈ Finset.Ico (j.val * 128 + 127 + 1) 4096, if k < t.val then - spl (g k) else 0) = - (Real.log 2 * Cert.AttnFwdIdeal.Att.T t.val (fun _ k => g k * (Real.log 2)⁻¹) 0 (128 * (j.val + 1))) := by
    unfold Cert.AttnFwdIdeal.Att.T sg
    rw [Finset.mul_sum, ← Finset.sum_neg_distrib, show j.val * 128 + 127 + 1 = 128 * (j.val + 1) by omega]
    refine Finset.sum_congr rfl fun k _ => ?_
    split
    · rw [spl_sp2]
    · simp
  rw [e, Ideal.div, if_neg (by exact_mod_cast hp.ne'), ← EReal.coe_inv, ← EReal.coe_mul]
  refine congrArg (fun x : ℝ => (x : EReal)) ?_
  field_simp
  ring

theorem rE_at (b : FVec Ideal S8x4096x32 .f32) (p : Fin 4) (t : Fin 4096) (l : Fin 64) :
    rE b (ix3 p t l) = b (ix3 (⟨2 * p.val + l.val / 32, by omega⟩ : Fin 8) t (⟨l.val % 32, by omega⟩ : Fin 32)) := by
  pointwise [rE]
  exact congrArg (fun x => b (ix3 x t _)) (Fin.ext (by show p.val * 2 + l.val / 32 = 2 * p.val + l.val / 32; omega))

theorem rKeep_at (z : FVec Ideal S8x4096x4096 .f32) (p : Fin 4) (t : Fin 4096) (l : Fin 128) (h : Fin 8) (hh : l.val < 64 → h.val = 2 * p.val + l.val / 32) (g : ℕ → ℝ)
    (hz : ∀ k : Fin 4096, z (ix3 h t k) = (g k.val : EReal)) :
    rKeep z (ix3 p t l) = ((if l.val < 64 then Cert.AttnFwdIdeal.Att.T t.val (fun _ k => g k * (Real.log 2)⁻¹) 0 (128 * (l.val % 32 + 1)) else 0 : ℝ) : EReal) := by
  by_cases hl : l.val < 64
  · rw [if_pos hl]
    refine Eq.trans ?_ (rB_at z h t ⟨l.val % 32, by omega⟩ g hz)
    refine Eq.trans ?_ ((rE_at (rB (rCum (rL z)) (rL z)) p t ⟨l.val, hl⟩).trans ?_)
    · pointwise [rKeep]
      exact dif_pos hl
    · exact congrArg (fun x => rB (rCum (rL z)) (rL z) (ix3 x t _)) (Fin.ext (hh hl).symm)
  · rw [if_neg hl]
    pointwise [rKeep]
    exact dif_neg hl

end Cert.AttnFwdRefIdeal.Att

namespace Cert.AttnFwdIdeal.Att

open Idealize.ShloMosaic Idealize.ShloMosaic.TcCoe
open Cert.AttnFwdIdeal Cert.AttnFwdIdeal.Gen Cert.Common
open Cert.AttnFwdRefIdeal.Att (xr zr rZ rZ_at rKeep rKeep_at)

theorem T_congr (n : ℕ) (z z' : ℕ → ℕ → ℝ) (h h' e : ℕ) (hz : ∀ k, z h k = z' h' k) : T n z h e = T n z' h' e := by
  simp only [T, sg, hz]

variable (m : (ℓ : Loc nD τ sig) → Buf (Elt Ideal) ℓ) (c : Dev nD)

theorem idx4 : ∀ t : Fin cfg0.N, win0_4.index t = ![t.val / 8, t.val % 8, 0] := (by decide +kernel : ∀ t : Fin grid0.N, _)

theorem keep_at (t : Fin cfg0.N) (hx : ∀ i, IsReal (aX m c i)) (a : Fin 512) (l : Fin 128) (p : Fin 4) (r : Fin 4096) (hp : p.val = t.val / 8) (hr : r.val = 512 * (t.val % 8) + a.val) :
    carBlk m c t (ix3 (0 : Fin 1) a l) = rKeep (rZ (aX m c)) (ix3 p r l) := by
  have hl := l.isLt
  have ht : t.val < 32 := lt_of_lt_of_eq t.isLt N_0
  obtain ⟨h, hh⟩ : ∃ h : Fin 8, l.val < 64 → h.val = 2 * p.val + l.val / 32 := by
    by_cases hl : l.val < 64
    · exact ⟨⟨2 * p.val + l.val / 32, by omega⟩, fun _ => rfl⟩
    · exact ⟨0, fun h => absurd h hl⟩
  rw [rKeep_at (rZ (aX m c)) p r l h hh (fun k => zr (aX m c) h.val r.val k) (fun k => rZ_at (aX m c) hx h r k)]
  have e : Car 0 r.val (zz (qsr (qP (aX m c) (t.val / 8) (t.val % 8))) (kP (aX m c) (t.val / 8)) a) fun l => carBlk m c t (ix3 (0 : Fin 1) a l) := by
    unfold carBlk carAt
    rw [kc_at]
    by_cases hz : t.val % 8 = 0
    · simp only [if_pos hz]
      have := car0_at _ _ _ (zr0 : FVec Ideal S8192x128 .bf16) _ _ _ (q_at m c t hx) (k_at m c t hx) (v_at m c t hx) a
      rw [hr, hz]
      rw [hz] at this
      exact this
    · simp only [if_neg hz]
      rw [hr]
      exact carN_at _ _ _ (zr0 : FVec Ideal S8192x128 .bf16) _ _ _ (q_at m c t hx) (k_at m c t hx) (v_at m c t hx) ⟨t.val % 8, Nat.mod_lt _ (by norm_num)⟩ (Nat.pos_of_ne_zero hz) a
  refine (e l).trans ?_
  by_cases h64 : l.val < 64
  · rw [if_pos ⟨h64, Nat.zero_le _⟩, if_pos h64]
    refine congrArg (fun x : ℝ => (x : EReal)) (T_congr _ _ _ _ _ _ fun k => ?_)
    rw [zz_eq (aX m c) _ _ a _ k (by omega), hh h64, hp, hr]
  · rw [if_neg (fun h' => h64 h'.1), if_neg h64]

theorem emb4 (t : Fin cfg0.N) (a : Fin 512) (l : Fin 128) : ((cfg0.win 4).blk t).view.emb (ix3 (0 : Fin 1) a l : S1x512x128.Idx)
    = (ix3 (⟨t.val / 8, by have := lt_of_lt_of_eq t.isLt N_0; omega⟩ : Fin 4) (⟨512 * (t.val % 8) + a.val, by omega⟩ : Fin 4096) l : S4x4096x128.Idx) := by
  funext b
  refine Fin.ext ?_
  fin_cases b <;> blk_simp [idx4 t]
  · rfl
  · show t.val % 8 * 512 + a.val = 512 * (t.val % 8) + a.val; omega
  · rfl

theorem point4 (t : Fin cfg0.N) (hx : ∀ i, IsReal (aX m c i)) (y : S1x512x128.Idx) :
    carBlk m c t y = rKeep (rZ (aX m c)) (((cfg0.win 4).blk t).view.emb y) := by
  obtain ⟨o, a, l, rfl⟩ : ∃ (o : Fin 1) (a : Fin 512) (l : Fin 128), y = ix3 o a l := ⟨_, _, _, eq_ix3 y⟩
  obtain rfl : o = 0 := Subsingleton.elim _ _
  rw [emb4]
  exact keep_at m c t hx a l _ _ rfl rfl

theorem final4 (hx : ∀ i, IsReal (aX m c i)) : (dats m 0 c).arrAt 4 cfg0.N = rKeep (rZ (aX m c)) := by
  refine (dats m 0 c).arrAt_eq_of_covers 4 _ (by decide +kernel) (fun t hf y => ?_)
  blk_simp
  exact point4 m c t hx y
end Cert.AttnFwdIdeal.Att

end
-- ==== Proof.Fwd.AttnClaim.lean ====
/-
  The value claim of the attention, forward: the kernel's two arrays, the joined one and the kept carries, are the reference's where the arguments are finite.
-/
module

public import proofs.«01_k».proof.Defs
public import proofs.«01_k».proof.Proof.Fwd.AttnSaved
public import proofs.«01_k».proof.Proof.Gen.AttnFwdRefIdeal.Run
public import Idealize.ShloMosaic.Lib.Claim

@[expose] public section

set_option maxRecDepth 16384

noncomputable section

open Idealize.ShloMosaic Idealize.ShloMosaic.TcCoe Idealize.SL.Sem

namespace Cert.AttnFwdClaim

open Cert.AttnFwdIdeal.Att Cert.Common

theorem preserves : Cert.preserves_AttnFwd_AttnFwdIdeal :=
  ⟨IdealRules.named_const.statement _ _ _ _ _ rfl, IdealRules.named_const.statement _ _ _ _ _ rfl⟩

theorem real_args [Cert.Pre_attn_fwd_finite.Facts] (m : (ℓ : Loc Cert.AttnFwdIdeal.nD Cert.AttnFwdIdeal.τ Cert.AttnFwdIdeal.sig) → Buf (Elt Ideal) ℓ)
    (h : Cert.Pre_AttnFwdIdeal_attn_fwd_finite m) (c : Dev Cert.AttnFwdIdeal.nD) : ∀ i, IsReal (aX m c i) :=
  fun i => .of_finite (congrFun (h c) i)

theorem algebraic [Cert.Pre_attn_fwd_finite.Facts] : Cert.algebraic_AttnFwdIdeal_AttnFwdRefIdeal_pre_attn_fwd_finite := by
  intro m g m' g' hpre hagree
  refine ⟨fun c => joined m c, fun c => Cert.AttnFwdRefIdeal.Att.rKeep (Cert.AttnFwdRefIdeal.Att.rZ (aX m c)), ?_, ?_⟩
  · exact (θ_run Cert.AttnFwdIdeal.defs _ _).mono (fun r h c => ⟨(h.1 c).1.trans (final3 m c (real_args m hpre c)), (h.1 c).2.1.trans (final4 m c (real_args m hpre c)), (h.1 c).2.2⟩) (run_res m g)
  · exact (θ_run Cert.AttnFwdRefIdeal.defs _ _).mono
      (fun r h c => ⟨(h c).1.trans (Cert.AttnFwdRefIdeal.Att.joined_eq m m' c (hagree c).1 (hagree c).2),
        (h c).2.1.trans (Cert.AttnFwdRefIdeal.Att.res1_eq m' c _ (hagree c).1), (h c).2.2⟩) (Cert.AttnFwdRefIdeal.Value.run m' g')

theorem frame_ref : Cert.quiescent_AttnFwdRefIdeal := fun m ρ _ =>
  (θ_run Cert.AttnFwdRefIdeal.defs _ _).mono (fun r h => ⟨fun c => (h c).2.2, sem_eq_zero_of_no_sems (by decide) r.2⟩)
    (Cert.AttnFwdRefIdeal.Value.run m ρ)

end Cert.AttnFwdClaim

end
-- ==== Proof.Fwd.AttnFrame.lean ====
/-
  The attention, forward: the run of its one region, and that the arguments stay.
-/
module

public import Idealize.ShloMosaic.Lib.Pipeline.KitQuiescent
public import proofs.«01_k».proof.Proof.Gen.AttnFwd.Frame
public import proofs.«01_k».proof.Proof.Gen.AttnFwd.Points
public import proofs.«01_k».proof.Proof.Gen.AttnFwd.Launch
public import proofs.«01_k».proof.Proof.Gen.AttnFwd.Loops

@[expose] public section

set_option maxRecDepth 16384

noncomputable section

namespace Cert.AttnFwd.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnFwd.Gen

variable {F : FTy → Type} [FloatOps F]

open Idealize.ShloMosaic.Pipeline (Dat Cfg Window BodyObligation)
open Idealize.ShloMosaic.Rounds

theorem cases2 : ∀ i : grid0.Coords, (k0_cond1 i = 1#1 ∧ ¬ k0_cond2 i = 1#1) ∨ (¬ k0_cond1 i = 1#1 ∧ k0_cond2 i = 1#1) := by decide +kernel

theorem row_tile : ∀ i : grid0.Coords, k0_off4 i = ![1024 * (i 1).val + 512, 0] ∧ k0_off5 i = ![1024 * (i 1).val, 0]
    ∧ (k0_cond2 i = 1#1 → k0_off6 i = ![1024 * (i 1).val - 512, 0] ∧ 0 < (i 1).val) := by decide +kernel
theorem trip_tile : ∀ (i : grid0.Coords) (t : Fin (k0_t2_loop i).trips), k0_off7 i t = ![1024 * ((i 1).val - 1 - t.val), 0]
    ∧ k0_off8 i t = ![1024 * ((i 1).val - 1 - t.val) + 512, 0] ∧ k0_off9 i t = ![1024 * ((i 1).val - 1 - t.val) - 512, 0]
    ∧ 0 < (i 1).val - 1 - t.val := by decide +kernel

section Triple
variable (𝒱 : Variants) (c : Dev nD) (bd : Option 𝒱.V) (i : grid0.Coords)
variable (arg2 : Memref sig .tc .vmem S512x128 .bf16) (harg2 : arg2.IsWhole)
variable (arg3 : Memref sig .tc .vmem S4096x128 .bf16) (harg3 : arg3.IsWhole)
variable (arg4 : Memref sig .tc .vmem S4096x128 .bf16) (harg4 : arg4.IsWhole)
variable (arg5 : Memref sig .tc .hbm S4096x1024 .bf16) (harg5 : arg5.IsWhole)
variable (arg6 : Memref sig .tc .vmem S512x128 .bf16) (harg6 : arg6.IsWhole)
variable (arg7 : Memref sig .tc .vmem S1x512x128 .f32) (harg7 : arg7.IsWhole)
variable (arg8 : Memref sig .tc .vmem S8192x128 .bf16) (harg8 : arg8.IsWhole)
variable (arg9 : Memref sig .tc .vmem S8192x128 .bf16) (harg9 : arg9.IsWhole)
variable (arg10 : Memref sig .tc .vmem S512x128 .f32) (harg10 : arg10.IsWhole)
variable (arg11 : Memref sig .tc .vmem S512x256 .f32) (harg11 : arg11.IsWhole)
variable (arg12 : Memref sig .tc .vmem S512x512 .f32) (harg12 : arg12.IsWhole)
variable (arg13 : Memref sig .tc .vmem S512x512 .f32) (harg13 : arg13.IsWhole)
variable (arg14 : Memref sig .tc .vmem S512x512 .f32) (harg14 : arg14.IsWhole)
variable (arg15 : Memref sig .tc .vmem S512x512 .f32) (harg15 : arg15.IsWhole)
variable (arg1 : BitVec 32) (v0 : IVec S1x128 32) (v19 : FVec F S256x256 .bf16) (v22 : IVec S1x256 1) (v41 : FVec F S512x128 .bf16)

set_option maxHeartbeats 4000000 in
/-- A trip over the earlier keys: what it reads stays, what it writes is owned. -/
theorem trip_past (k0_h2 : k0_cond2 i = 1#1) (v373 : BitVec 32) (k : Fin (k0_t2_loop i).trips) (E : Set ℕ)
    (f8 : BufTy.Contents (Elt F) arg8.view.ty)
    (f9 : BufTy.Contents (Elt F) arg9.view.ty)
    (f7 : BufTy.Contents (Elt F) arg7.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty) :
    (iprop((arg8.view.loc (c : Thread nD τ) ↦[arg8.view.set]{fullShare} f8) ∗ (arg9.view.loc (c : Thread nD τ) ↦[arg9.view.set]{fullShare} f9) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v0 v19 v22 v41 k0_h2 v373 0#32 k ())
          (fun _ => iprop((arg8.view.loc (c : Thread nD τ) ↦[arg8.view.set]{fullShare} f8) ∗ (arg9.view.loc (c : Thread nD τ) ↦[arg9.view.set]{fullShare} f9) ∗ (∃ g, (arg7.view.loc (c : Thread nD τ) ↦[arg7.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) := by
  obtain ⟨e7, e8, e9, hk⟩ := trip_tile i k
  haveI : ClosedOff (k0_off7 i k) := ⟨_, e7⟩
  haveI : ClosedOff (k0_off8 i k) := ⟨_, e8⟩
  haveI : ClosedOff (k0_off9 i k) := ⟨_, e9⟩
  have hI : (i 1).val < 8 := (i 1).isLt
  unfold k0_t2_body
  iintro ⟨H8, H9, H7, H10, H11, H12, H13, H14, H15⟩
  sl_exec
  sl_step
  sl_close

/-- The loop over the earlier keys, and the remainder loop, which has no trip. -/
@[sl_loop] def loopInv_k0_t2 (k0_h2 : k0_cond2 i = 1#1) (v373 : BitVec 32) (f8 : BufTy.Contents (Elt F) arg8.view.ty) (f9 : BufTy.Contents (Elt F) arg9.view.ty) (E : Set ℕ) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg1 v0 v19 v22 v41 k0_h2 v373 0#32 where
  inv := fun _ _ => iprop((arg8.view.loc (c : Thread nD τ) ↦[arg8.view.set]{fullShare} f8) ∗ (arg9.view.loc (c : Thread nD τ) ↦[arg9.view.set]{fullShare} f9) ∗ (∃ g, (arg7.view.loc (c : Thread nD τ) ↦[arg7.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))
  step := fun k acc => by
    iintro ⟨H8, H9, ⟨%f7, H7⟩, ⟨%f10, H10⟩, ⟨%f11, H11⟩, ⟨%f12, H12⟩, ⟨%f13, H13⟩, ⟨%f14, H14⟩, ⟨%f15, H15⟩⟩
    iapply (trip_past (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v0 v19 v22 v41 k0_h2 v373 k E f8 f9 f7 f10 f11 f12 f13 f14 f15)
    sl_close
@[sl_loop] def loopInv_k0_t3 (k0_h2 : k0_cond2 i = 1#1) (v373 v378 : BitVec 32) (E : Set ℕ) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg1 v0 v19 v22 v41 k0_h2 v373 0#32 v378 where
  inv := fun _ _ => iprop(emp)
  step := fun k _ => absurd k.isLt (Nat.not_lt.2 (Nat.le_trans (k0_t3_abs i).2.1 (Nat.zero_le _)))

set_option maxHeartbeats 16000000 in
/-- The body at any point: the inputs stay, everything else is owned. -/
theorem body_any (E : Set ℕ)
    (f2 : BufTy.Contents (Elt F) arg2.view.ty)
    (f3 : BufTy.Contents (Elt F) arg3.view.ty)
    (f4 : BufTy.Contents (Elt F) arg4.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) 𝒱 (c : Thread nD τ) bd) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ g, (arg6.view.loc (c : Thread nD τ) ↦[arg6.view.set]{fullShare} g)) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) := by
  obtain ⟨e4, e5, e6⟩ := row_tile i
  haveI : ClosedOff (k0_off4 i) := ⟨_, e4⟩
  haveI : ClosedOff (k0_off5 i) := ⟨_, e5⟩
  have hI : (i 1).val < 8 := (i 1).isLt
  iintro ⟨H2, H3, H4, H6, H7, H8, H9, H10, H11, H12, H13, H14, H15⟩
  rcases cases2 i with ⟨h1, h2⟩ | ⟨h1, h2⟩
  · sl_unfold [cc0_attn_fwd]
    sl_exec
    sl_step
    sl_close
  · haveI : ClosedOff (k0_off6 i) := ⟨_, (e6 h2).1⟩
    have hp := (e6 h2).2
    sl_unfold [cc0_attn_fwd]
    sl_exec
    sl_step
    sl_close
end Triple

variable (m : (ℓ : Loc nD τ sig) → Buf (Elt F) ℓ) (ρ : Dev nD → PrngReg)

abbrev 𝒱₀ : Variants := Variants.none

/-- What each window's staging buffer holds after the body: an input its block; what is written is not named. -/
abbrev after0 (c : Dev nD) : (w : Fin cfg0.W) → Fin cfg0.N → (cfg0.win w).block.Idx → Elt F (cfg0.win w).elt
  | 0 => iblk m c 0
  | 1 => iblk m c 1
  | 2 => iblk m c 2
  | 3 => Dat.unnamed 3
  | 4 => Dat.unnamed 4

/-- The proof data: the arrays as the region finds them, the scratch at any contents. -/
abbrev dats : (p : Fin 1) → (c : Dev nD) → Dat τ (Elt F) Unit ℕ (UR sig nD τ) ℕ (cfgs p) c
  | 0 => fun c =>
    { A := fun w => V m c (Pipeline.arrRef spec0 w)
      after := after0 m c
      Φ := fun _ => Pipeline.ΦA spec0 c
      q := fun w => Pipeline.shareOf spec0 w
      owed := fun _ => 0 }

/-- The outputs, of which nothing is said. -/
def fgt : Fin 5 → Bool
  | 0 => false
  | 1 => false
  | 2 => false
  | 3 => true
  | 4 => true

/-- The scratch buffers, each at some contents. -/
def scratch (c : Dev nD) : sProp (MT nD τ sig Unit (Elt F) ℕ (UR sig nD τ) ℕ) :=
  iprop((∃ f, ((Memref.whole cc0_scratch0 : Memref sig .tc .vmem S8192x128 .bf16).view.loc (c : Thread nD τ) ↦[(Memref.whole cc0_scratch0 : Memref sig .tc .vmem S8192x128 .bf16).view.set]{fullShare} f)) ∗ (∃ f, ((Memref.whole cc0_scratch1 : Memref sig .tc .vmem S8192x128 .bf16).view.loc (c : Thread nD τ) ↦[(Memref.whole cc0_scratch1 : Memref sig .tc .vmem S8192x128 .bf16).view.set]{fullShare} f)) ∗ (∃ f, ((Memref.whole cc0_scratch2 : Memref sig .tc .vmem S512x128 .f32).view.loc (c : Thread nD τ) ↦[(Memref.whole cc0_scratch2 : Memref sig .tc .vmem S512x128 .f32).view.set]{fullShare} f)) ∗ (∃ f, ((Memref.whole cc0_scratch3 : Memref sig .tc .vmem S512x256 .f32).view.loc (c : Thread nD τ) ↦[(Memref.whole cc0_scratch3 : Memref sig .tc .vmem S512x256 .f32).view.set]{fullShare} f)) ∗ (∃ f, ((Memref.whole cc0_scratch4 : Memref sig .tc .vmem S512x512 .f32).view.loc (c : Thread nD τ) ↦[(Memref.whole cc0_scratch4 : Memref sig .tc .vmem S512x512 .f32).view.set]{fullShare} f)) ∗ (∃ f, ((Memref.whole cc0_scratch5 : Memref sig .tc .vmem S512x512 .f32).view.loc (c : Thread nD τ) ↦[(Memref.whole cc0_scratch5 : Memref sig .tc .vmem S512x512 .f32).view.set]{fullShare} f)) ∗ (∃ f, ((Memref.whole cc0_scratch6 : Memref sig .tc .vmem S512x512 .f32).view.loc (c : Thread nD τ) ↦[(Memref.whole cc0_scratch6 : Memref sig .tc .vmem S512x512 .f32).view.set]{fullShare} f)) ∗ (∃ f, ((Memref.whole cc0_scratch7 : Memref sig .tc .vmem S512x512 .f32).view.loc (c : Thread nD τ) ↦[(Memref.whole cc0_scratch7 : Memref sig .tc .vmem S512x512 .f32).view.set]{fullShare} f)))

set_option maxHeartbeats 4000000 in
theorem scratch_eq (c : Dev nD) : Pipeline.scopedRest (Val := Elt F) spec0 c = scratch (F := F) c := by
  unfold scratch
  rw [scopedRest0_eq]
  simp only [Memref.view_whole, View.set_whole]

/-- What a point starts from. -/
def bodyPre (c : Dev nD) (t : Fin cfg0.N) : sProp (MT nD τ sig Unit (Elt F) ℕ (UR sig nD τ) ℕ) :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X) ∗ (∃ X, owns (c : Thread nD τ) (st0_4 t) fullShare X))

/-- What a point leaves. -/
def bodyPost (c : Dev nD) (t : Fin cfg0.N) : sProp (MT nD τ sig Unit (Elt F) ℕ (UR sig nD τ) ℕ) :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X) ∗ (∃ X, owns (c : Thread nD τ) (st0_4 t) fullShare X))

set_option maxHeartbeats 4000000 in
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost Pipeline.ΦA
  rw [scratch_eq]
  unfold owns scratch
  iintro ⟨⟨⟨⟨%f8, H8⟩, ⟨%f9, H9⟩, ⟨%f10, H10⟩, ⟨%f11, H11⟩, ⟨%f12, H12⟩, ⟨%f13, H13⟩, ⟨%f14, H14⟩, ⟨%f15, H15⟩⟩, Hr⟩, Ho, ⟨%d2, %f2, %h2, H2⟩, ⟨%d3, %f3, %h3, H3⟩, ⟨%d4, %f4, %h4, H4⟩, ⟨%d6, %f6, %h6, H6⟩, ⟨%d7, %f7, %h7, H7⟩⟩
  rw [before0_0_of m (dats m 0 c) rfl (fun _ => rfl)] at h2
  rw [before0_1_of m (dats m 0 c) rfl (fun _ => rfl)] at h3
  rw [before0_2_of m (dats m 0 c) rfl (fun _ => rfl)] at h4
  iapply (wp_wand_r Idealize.ShloMosaic.frame (wpE (defs₀ (F := F)) 𝒱₀ (c : Thread nD τ) none) Set.univ)
  isplitl [H2 H3 H4 H6 H7 H8 H9 H10 H11 H12 H13 H14 H15]
  · iapply (body_any (F := F) 𝒱₀ c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole main_arg1) (Memref.isWhole_whole _) (win0_3.stage (cfg0.slots t 3)) (hstage0_3 ((cfg0.slots t 3).cast nbuf0_3)) (win0_4.stage (cfg0.slots t 4)) (hstage0_4 ((cfg0.slots t 4).cast nbuf0_4)) (Memref.whole cc0_scratch0 : Memref sig .tc .vmem S8192x128 .bf16) (Memref.isWhole_whole _) (Memref.whole cc0_scratch1 : Memref sig .tc .vmem S8192x128 .bf16) (Memref.isWhole_whole _) (Memref.whole cc0_scratch2 : Memref sig .tc .vmem S512x128 .f32) (Memref.isWhole_whole _) (Memref.whole cc0_scratch3 : Memref sig .tc .vmem S512x256 .f32) (Memref.isWhole_whole _) (Memref.whole cc0_scratch4 : Memref sig .tc .vmem S512x512 .f32) (Memref.isWhole_whole _) (Memref.whole cc0_scratch5 : Memref sig .tc .vmem S512x512 .f32) (Memref.isWhole_whole _) (Memref.whole cc0_scratch6 : Memref sig .tc .vmem S512x512 .f32) (Memref.isWhole_whole _) (Memref.whole cc0_scratch7 : Memref sig .tc .vmem S512x512 .f32) (Memref.isWhole_whole _) Set.univ f2 f3 f4 f6 f7 f8 f9 f10 f11 f12 f13 f14 f15)
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨H2, H3, H4, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩⟩
    isplitl [H8 H9 H10 H11 H12 H13 H14 H15 Hr]
    · isplitl [H8 H9 H10 H11 H12 H13 H14 H15]
      · isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        iexists _; iexact H15
      · iexact Hr
    isplitl [Ho]; · iexact Ho
    isplitl [H2]
    · iexists _; isplitr; · (ipureintro; exact h2)
      iexact H2
    isplitl [H3]
    · iexists _; isplitr; · (ipureintro; exact h3)
      iexact H3
    isplitl [H4]
    · iexists _; isplitr; · (ipureintro; exact h4)
      iexact H4
    isplitl [H6]
    · iexists (View.read (Elt F) (st0_3 t).view g6); iexists g6; isplitr; · (ipureintro; rfl)
      iexact H6
    iexists (View.read (Elt F) (st0_4 t).view g7); iexists g7; isplitr; · (ipureintro; rfl)
    iexact H7

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := F)) 𝒱₀ () Set.univ fgt := fun t => by
  rw [bigSep_W0, bigSep_W0, defs₀_row]
  exact triple_restated (sound_body m c t) rfl .rfl fun _ => .rfl

/-- The region's run: the arguments stay and every semaphore is zero at the end. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared cfgs (dats m) 0 launch₀0 defs₀ 𝒱₀ fgt m ρ main
    (hbody := fun c => (body_obligation m c).loose) (hq := fun _ _ _ => rfl) (howed := fun _ _ => rfl)
    (V := V m) (hmain := hmain m 𝒱₀) (hA := fun _ _ => rfl) (hΦ := fun _ _ => rfl)
    (Q' := fun r => Pipeline.RDat.FramePost cfg0 (fun c => (dats m 0 c).toRForget fgt) (V m) r ∧ r.2.sem = fun _ => 0)
    (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((congrFun (((dats m 0 c).toRForget fgt).ArrAt_in 2 rfl _) _).mp ((h.1 c).1 2)).trans (V_main_arg0 m c),
     ((h.1 c).2 main_arg1 (Pipeline.mem_restRefs_of main_arg1 (by decide) (by decide))).trans (V_main_arg1 m c)⟩, h.2⟩) (run_main m ρ)

end Cert.AttnFwd.Att
-- ==== Proof.Plain.Adam.lean ====
/-
  The optimiser's step of one weight: the kernel's eight row blocks against the reference's whole arrays. Both compute the
  same expression of an element's weight, gradient and moments.
-/
module

public import proofs.«01_k».proof.Defs
public import proofs.«01_k».proof.Proof.Common.Norm
public import proofs.«01_k».proof.Proof.Gen.AdamW.Frame
public import proofs.«01_k».proof.Proof.Gen.AdamWIdeal.Value
public import proofs.«01_k».proof.Proof.Gen.AdamWRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamWClaim

theorem algebraic : Cert.algebraic_AdamWIdeal_AdamWRefIdeal := by
  pair_intro
  · run_from Cert.AdamWIdeal.Value.run m g
  · run_from Cert.AdamWRefIdeal.Value.run m' g'
    · funext i; pointwise [Cert.AdamWIdeal.Value.G4]
    · funext i; pointwise [Cert.AdamWIdeal.Value.G5]
    · funext i; pointwise [Cert.AdamWIdeal.Value.G6]

theorem frame_ref : Cert.quiescent_AdamWRefIdeal := fun m ρ _ =>
  (θ_run Cert.AdamWRefIdeal.defs _ _).mono (fun r h => ⟨fun c => (h c).2.2.2, sem_eq_zero_of_no_sems (by decide) r.2⟩)
    (Cert.AdamWRefIdeal.Value.run m ρ)

end Cert.AdamWClaim

end
-- ==== Proof.Plain.Wgrad.lean ====
/-
  A weight's gradient: the kernel adds the products of two halves of the tokens in its output's block, four column blocks
  one after another; the reference is the derivative of the plain product, its columns laid out by block.
-/
module

public import proofs.«01_k».proof.Defs
public import proofs.«01_k».proof.Proof.Common.Norm
public import proofs.«01_k».proof.Proof.Gen.Wgrad.Frame
public import proofs.«01_k».proof.Proof.Gen.WgradIdeal.Value
public import proofs.«01_k».proof.Proof.Gen.WgradRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WgradIdeal.Plain

open Cert.WgradIdeal Cert.WgradIdeal.Gen

/-- The gradient's column block `b`: over all tokens, what enters times the cotangent. -/
def dw (a : FVec Ideal S4096x1024 .bf16) (d : FVec Ideal S4096x5632 .bf16) : FVec Ideal S4x1024x1408 .f32 :=
  fun i => ∑ p : Fin 4096, a (ix2 p (i 1)) * d (ix2 p ⟨(i 0).val * 1408 + (i 2).val, by
    have h0 : (i 0).val < 4 := (i 0).isLt; have h2 : (i 2).val < 1408 := (i 2).isLt; omega⟩)

variable (m : (ℓ : Loc nD τ sig) → Buf (Elt Ideal) ℓ)

abbrev aA (c : Dev nD) : FVec Ideal S4096x1024 .bf16 := m ((c : Thread nD τ).loc main_arg0)
abbrev aD (c : Dev nD) : FVec Ideal S4096x5632 .bf16 := m ((c : Thread nD τ).loc main_arg1)

/-- Where each window stands at a point. -/
theorem idx : ∀ t : Fin cfg0.N, win0_0.index t = ![t.val % 2, 0] ∧ win0_1.index t = ![t.val % 2, t.val / 2]
    ∧ win0_2.index t = ![t.val / 2, 0, 0] ∧ win0_3.index t = ![t.val / 2, 0, 0] :=
  (by decide +kernel : ∀ t : Fin grid0.N, _)

/-- One half of the tokens' part. -/
def half (c : Dev nD) (t : Fin cfg0.N) (y : S1x1024x1408.Idx) : EReal := k0_pay1 (F := Ideal) (iblk m c 0 t) (iblk m c 1 t) y

theorem half_eq (c : Dev nD) (t : Fin cfg0.N) (y : S1x1024x1408.Idx) (s : Fin 2) (b : Fin 4) (hs : s.val = t.val % 2) (hb : b.val = t.val / 2) :
    half m c t y = ∑ p : Fin 2048, aA m c (ix2 ⟨s.val * 2048 + p.val, by omega⟩ (y 1))
      * aD m c (ix2 ⟨s.val * 2048 + p.val, by omega⟩ ⟨b.val * 1408 + (y 2).val, by have := (y 2).isLt; change _ < 1408 at this; omega⟩) := by
  pointwise [half, k0_pay1]
  blk_point [iblk, V, idx t, hs, hb]

theorem even1 (c : Dev nD) (t : Fin cfg0.N) (h : t.val % 2 = 0) (y : S1x1024x1408.Idx) : (outsAt0 m c t.val t.isLt).1 y = half m c t y := by
  rw [outsAt0_A m c t h (by omega) (by omega)]
  frame_out
  rfl

theorem odd1 (c : Dev nD) (t : Fin cfg0.N) (h : t.val % 2 = 1) (y : S1x1024x1408.Idx) :
    (outsAt0 m c t.val t.isLt).1 y = half m c ⟨t.val - 1, by omega⟩ y + half m c t y := by
  rw [← even1 m c ⟨t.val - 1, by omega⟩ (by show (t.val - 1) % 2 = 0; omega), outsAt0_B m c t (by omega) h h]
  frame_out
  pointwise [k0_pay2, half]

theorem odd2 (c : Dev nD) (t : Fin cfg0.N) (h : t.val % 2 = 1) (y : S1x1024x1408.Idx) :
    (outsAt0 m c t.val t.isLt).2 y = (outsAt0 m c t.val t.isLt).1 y := by
  rw [outsAt0_B m c t (by omega) h h]
  frame_out
  pointwise [k0_pay3]

theorem sum_halves (f : Fin 4096 → EReal) :
    ∑ p : Fin 2048, f ⟨0 * 2048 + p.val, by omega⟩ + ∑ p : Fin 2048, f ⟨1 * 2048 + p.val, by omega⟩ = ∑ p : Fin 4096, f p := by
  have e := Fin.sum_mul_add_fin 2 2048 f
  rw [Fin.sum_univ_two] at e
  exact e

theorem point (c : Dev nD) (t : Fin cfg0.N) (h : t.val % 2 = 1) (y : S1x1024x1408.Idx) :
    (outsAt0 m c t.val t.isLt).1 y = dw (aA m c) (aD m c) (((cfg0.win 2).blk t).view.emb y) := by
  have hN : cfg0.N = 8 := N_0
  have ht := t.isLt
  have hy0 : (y 0).val < 1 := (y 0).isLt
  rw [odd1 m c t h, half_eq m c ⟨t.val - 1, by omega⟩ y 0 ⟨t.val / 2, by omega⟩ (by show 0 = (t.val - 1) % 2; omega) (by show t.val / 2 = (t.val - 1) / 2; omega),
    half_eq m c t y 1 ⟨t.val / 2, by omega⟩ (by show 1 = t.val % 2; omega) rfl]
  refine (sum_halves fun p => aA m c (ix2 p (y 1)) * aD m c (ix2 p ⟨t.val / 2 * 1408 + (y 2).val, by
    have h2 : (y 2).val < 1408 := (y 2).isLt; omega⟩)).trans ?_
  have e : ((cfg0.win 2).blk t).view.emb y = ix3 ⟨t.val / 2, by omega⟩ (y 1) (y 2) := by
    funext a
    refine Fin.ext ?_
    fin_cases a <;> blk_simp [idx t]
    all_goals first | rfl | (show t.val / 2 * 1 + 1 * (y 0).val = t.val / 2; omega) | (show t.val / 2 + (y 0).val = t.val / 2; omega)
  rw [e]
  rfl

theorem final2 (c : Dev nD) : (dats m 0 c).arrAt 2 (cfgs 0).N = dw (aA m c) (aD m c) := by
  refine (dats m 0 c).arrAt_eq_of_covers 2 _ (by decide +kernel) fun t hf y => ?_
  blk_simp
  rw [after0_2]
  exact point m c t ((flush0_2 t).mp hf) y

theorem final3 (c : Dev nD) : (dats m 0 c).arrAt 3 (cfgs 0).N = (dw (aA m c) (aD m c) : FVec Ideal S4x1024x1408 .bf16) := by
  refine (dats m 0 c).arrAt_eq_of_covers 3 _ (by decide +kernel) fun t hf y => ?_
  blk_simp
  rw [after0_3]
  have h := (flush0_3 t).mp hf
  exact (odd2 m c t h y).trans (point m c t h y)

theorem ref_eq (a : FVec Ideal S4096x1024 .bf16) (d : FVec Ideal S4096x5632 .bf16) :
    transpose S4x1024x1408 [1, 0, 2] (shapeCast Cert.WgradRefIdeal.S1024x4x1408 (transpose Cert.WgradRefIdeal.S1024x5632 [1, 0]
      (Host.dotGeneral (F := Ideal) Cert.WgradRefIdeal.dot_S4096x5632_S4096x1024_S5632x1024_0_0_1_1_n_n none
        (extf .f32 d Cert.WgradRefIdeal.Gen.facts.bitsLt_bf16_f32) (extf .f32 a Cert.WgradRefIdeal.Gen.facts.bitsLt_bf16_f32))
      Cert.WgradRefIdeal.Gen.facts.transposes_S5632x1024_S1024x5632_1_0) Cert.WgradRefIdeal.Gen.facts.shapeCasts_S1024x5632_S1024x4x1408)
      Cert.WgradRefIdeal.Gen.facts.transposes_S1024x4x1408_S4x1024x1408_1_0_2 = dw a d := by
  funext i
  pointwise [dw]
  exact Finset.sum_congr rfl fun p _ => mul_comm _ _

end Cert.WgradIdeal.Plain

namespace Cert.WgradClaim

theorem algebraic : Cert.algebraic_WgradIdeal_WgradRefIdeal := by
  pair_intro
  · run_from Cert.WgradIdeal.Gen.run_main m g
  · run_from Cert.WgradRefIdeal.Value.run m' g'
    · exact (Cert.WgradIdeal.Plain.ref_eq _ _).trans (Cert.WgradIdeal.Plain.final2 m c).symm
    · exact (Cert.WgradIdeal.Plain.ref_eq _ _).trans (Cert.WgradIdeal.Plain.final3 m c).symm

theorem frame_ref : Cert.quiescent_WgradRefIdeal := fun m ρ _ =>
  (θ_run Cert.WgradRefIdeal.defs _ _).mono (fun r h => ⟨fun c => (h c).2.2, sem_eq_zero_of_no_sems (by decide) r.2⟩)
    (Cert.WgradRefIdeal.Value.run m ρ)

end Cert.WgradClaim

end
-- ==== Proof.Plain.Bwd.lean ====
/-
  The mixer's output projection, backward: the cotangent against the weight's rows, and the cotangent itself.
-/
module

public import proofs.«01_k».proof.Defs
public import proofs.«01_k».proof.Proof.Common.Norm
public import proofs.«01_k».proof.Proof.Gen.OutBwd.Frame
public import proofs.«01_k».proof.Proof.Gen.OutBwdIdeal.Value
public import proofs.«01_k».proof.Proof.Gen.OutBwdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutBwdIdeal.Out

open Cert.OutBwdIdeal Cert.OutBwdIdeal.Gen

/-- The cotangent against the weight's rows. -/
def dm (d : FVec Ideal S4096x1024 .f32) (w : FVec Ideal S1024x1024 .f32) : FVec Ideal S4096x1024 .bf16 :=
  fun i => ∑ k : Fin 1024, d (ix2 (i 0) k) * w (ix2 (i 1) k)

variable (m : (ℓ : Loc nD τ sig) → Buf (Elt Ideal) ℓ)

abbrev aD (c : Dev nD) : FVec Ideal S4096x1024 .f32 := m ((c : Thread nD τ).loc main_arg0)
abbrev aW (c : Dev nD) : FVec Ideal S1024x1024 .f32 := m ((c : Thread nD τ).loc main_arg1)

/-- Where each window stands at a point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem final2 (c : Dev nD) : (dats m 0 c).arrAt 2 (cfgs 0).N = dm (aD m c) (aW m c) := by
  refine (dats m 0 c).arrAt_eq_of_covers 2 _ (by decide +kernel) fun t hf y => ?_
  blk_simp
  rw [after0_2]
  have key : k0_pay2 (F := Ideal) (iblk m c 0 t) (iblk m c 1 t) y = dm (aD m c) (aW m c) (((cfg0.win 2).blk t).view.emb y) := by
    pointwise [k0_pay2, k0_pay1, dm]
    blk_point [iblk, V, idx t]
  frame_out
  exact key

theorem final3 (c : Dev nD) : (dats m 0 c).arrAt 3 (cfgs 0).N = (aD m c : FVec Ideal S4096x1024 .bf16) := by
  refine (dats m 0 c).arrAt_eq_of_covers 3 _ (by decide +kernel) fun t hf y => ?_
  blk_simp
  rw [after0_3]
  have key : k0_pay1 (F := Ideal) (iblk m c 0 t) y = aD m c (((cfg0.win 3).blk t).view.emb y) := by
    pointwise [k0_pay1]
    blk_point [iblk, V, idx t]
  frame_out
  exact key

theorem ref_eq (d : FVec Ideal S4096x1024 .f32) (w : FVec Ideal S1024x1024 .f32) :
    truncf .bf16 (Host.dotGeneral (F := Ideal) Cert.OutBwdRefIdeal.dot_S4096x1024_S1024x1024_S4096x1024_1_1_0_0_n_n none d w) Cert.OutBwdRefIdeal.Gen.facts.bitsLt_bf16_f32
      = dm d w := by
  funext i
  pointwise [dm]

end Cert.OutBwdIdeal.Out

namespace Cert.OutBwdClaim

theorem algebraic : Cert.algebraic_OutBwdIdeal_OutBwdRefIdeal := by
  pair_intro
  · run_from Cert.OutBwdIdeal.Gen.run_main m g
  · run_from Cert.OutBwdRefIdeal.Value.run m' g'
    · exact (Cert.OutBwdIdeal.Out.ref_eq _ _).trans (Cert.OutBwdIdeal.Out.final2 m c).symm
    · exact (Cert.OutBwdIdeal.Out.final3 m c).symm

theorem frame_ref : Cert.quiescent_OutBwdRefIdeal := fun m ρ _ =>
  (θ_run Cert.OutBwdRefIdeal.defs _ _).mono (fun r h => ⟨fun c => (h c).2.2, sem_eq_zero_of_no_sems (by decide) r.2⟩)
    (Cert.OutBwdRefIdeal.Value.run m ρ)

end Cert.OutBwdClaim

end
-- ==== Proof.Plain.Fwd.lean ====
/-
  The mixer's output projection, forward: the kernel adds a tile's product to the residual, the reference the whole
  product.
-/
module

public import proofs.«01_k».proof.Defs
public import proofs.«01_k».proof.Proof.Common.Norm
public import proofs.«01_k».proof.Proof.Gen.OutFwd.Frame
public import proofs.«01_k».proof.Proof.Gen.OutFwdIdeal.Value
public import proofs.«01_k».proof.Proof.Gen.OutFwdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutFwdIdeal.Out

open Cert.OutFwdIdeal Cert.OutFwdIdeal.Gen

/-- The residual and the mixed rows against the weight's columns. -/
def out (h : FVec Ideal S4096x1024 .f32) (a : FVec Ideal S4096x1024 .bf16) (w : FVec Ideal S1024x1024 .f32) :
    FVec Ideal S4096x1024 .f32 := fun i => h i + ∑ k : Fin 1024, a (ix2 (i 0) k) * w (ix2 k (i 1))

variable (m : (ℓ : Loc nD τ sig) → Buf (Elt Ideal) ℓ)

abbrev aH (c : Dev nD) : FVec Ideal S4096x1024 .f32 := m ((c : Thread nD τ).loc main_arg0)
abbrev aA (c : Dev nD) : FVec Ideal S4096x1024 .bf16 := m ((c : Thread nD τ).loc main_arg1)
abbrev aW (c : Dev nD) : FVec Ideal S1024x1024 .f32 := m ((c : Thread nD τ).loc main_arg2)

/-- Where each window stands at a point. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem final3 (c : Dev nD) : (dats m 0 c).arrAt 3 (cfgs 0).N = out (aH m c) (aA m c) (aW m c) := by
  refine (dats m 0 c).arrAt_eq_of_covers 3 _ (by decide +kernel) fun t hf y => ?_
  blk_simp
  rw [after0_3]
  have key : k0_pay1 (F := Ideal) (iblk m c 0 t) (iblk m c 1 t) (iblk m c 2 t) y = out (aH m c) (aA m c) (aW m c) (((cfg0.win 3).blk t).view.emb y) := by
    pointwise [k0_pay1, out]
    blk_point [iblk, V, idx t]
  frame_out
  exact key

theorem ref_eq (h : FVec Ideal S4096x1024 .f32) (a : FVec Ideal S4096x1024 .bf16) (w : FVec Ideal S1024x1024 .f32) :
    addf h (Host.dotGeneral (F := Ideal) Cert.OutFwdRefIdeal.dot_S4096x1024_S1024x1024_S4096x1024_1_0_0_1_n_n none (extf .f32 a Cert.OutFwdRefIdeal.Gen.facts.bitsLt_bf16_f32) w)
      = out h a w := by
  funext i
  pointwise [out]

end Cert.OutFwdIdeal.Out

namespace Cert.OutFwdClaim

theorem algebraic : Cert.algebraic_OutFwdIdeal_OutFwdRefIdeal := by
  pair_intro
  · run_from Cert.OutFwdIdeal.Gen.run_main m g
  · run_from Cert.OutFwdRefIdeal.Value.run m' g'
    exact (Cert.OutFwdIdeal.Out.ref_eq _ _ _).trans (Cert.OutFwdIdeal.Out.final3 m c).symm

theorem frame_ref : Cert.quiescent_OutFwdRefIdeal := fun m ρ _ =>
  (θ_run Cert.OutFwdRefIdeal.defs _ _).mono (fun r h => ⟨fun c => (h c).2, sem_eq_zero_of_no_sems (by decide) r.2⟩)
    (Cert.OutFwdRefIdeal.Value.run m ρ)

end Cert.OutFwdClaim

end
-- ==== Proof.lean ====
/-
  The claims of the certificate, put together: of each call the frames of kernel and idealization, the frame of the
  reference, that the idealization preserves, and the value.
-/
module

public import proofs.«01_k».proof.Defs
public import proofs.«01_k».proof.Proof.Gen.MixBwd.Frame
public import proofs.«01_k».proof.Proof.Gen.MixBwdIdeal.Frame
public import proofs.«01_k».proof.Proof.Gen.MixBwdIdeal.Value
public import proofs.«01_k».proof.Proof.Gen.MixRefIdeal.Run
public import proofs.«01_k».proof.Proof.Mix.Claim
public import proofs.«01_k».proof.Proof.Gmlp.Claim
public import proofs.«01_k».proof.Proof.Gen.GmlpBwd.Frame
public import proofs.«01_k».proof.Proof.Gen.GmlpBwdIdeal.Frame
public import proofs.«01_k».proof.Proof.Gen.GmlpBwdIdeal.Value
public import proofs.«01_k».proof.Proof.Gen.GmlpRefIdeal.Run
public import proofs.«01_k».proof.Proof.Gen.Pre_gmlp_finite
public import proofs.«01_k».proof.Proof.Ffn.Claim
public import proofs.«01_k».proof.Proof.Gen.FfnBwd.Frame
public import proofs.«01_k».proof.Proof.Gen.FfnBwdIdeal.Frame
public import proofs.«01_k».proof.Proof.Gen.FfnRefIdeal.Run
public import proofs.«01_k».proof.Proof.Gen.Pre_ffn_finite
public import proofs.«01_k».proof.Proof.Head.Claim
public import proofs.«01_k».proof.Proof.Gen.Head.Frame
public import proofs.«01_k».proof.Proof.Gen.HeadIdeal.Frame
public import proofs.«01_k».proof.Proof.Gen.HeadIdeal.Value
public import proofs.«01_k».proof.Proof.Gen.HeadRefIdeal.Run
public import proofs.«01_k».proof.Proof.Attn.Claim
public import proofs.«01_k».proof.Proof.Fwd.MixClaim
public import proofs.«01_k».proof.Proof.Fwd.GmlpClaim
public import proofs.«01_k».proof.Proof.Fwd.AttnClaim
public import proofs.«01_k».proof.Proof.Fwd.AttnFrame
public import proofs.«01_k».proof.Proof.Plain.Adam
public import proofs.«01_k».proof.Proof.Plain.Wgrad
public import proofs.«01_k».proof.Proof.Plain.Bwd
public import proofs.«01_k».proof.Proof.Plain.Fwd
public import proofs.«01_k».proof.Proof.Gen.MixFwd.Frame
public import proofs.«01_k».proof.Proof.Gen.MixFwdIdeal.Frame
public import proofs.«01_k».proof.Proof.Gen.MixFwdRefIdeal.Run
public import proofs.«01_k».proof.Proof.Gen.GmlpFwd.Frame
public import proofs.«01_k».proof.Proof.Gen.GmlpFwdIdeal.Frame
public import proofs.«01_k».proof.Proof.Gen.GmlpFwdRefIdeal.Run
public import proofs.«01_k».proof.Proof.Gen.AttnFwd
public import proofs.«01_k».proof.Proof.Gen.AttnFwdIdeal
public import proofs.«01_k».proof.Proof.Gen.AttnFwdRefIdeal.Run
public import proofs.«01_k».proof.Proof.Gen.Pre_attn_fwd_finite
public import proofs.«01_k».proof.Proof.Gen.AttnBwd
public import proofs.«01_k».proof.Proof.Gen.AttnBwdIdeal
public import proofs.«01_k».proof.Proof.Gen.AttnRefIdeal.Run
public import Idealize.ShloMosaic.Adequacy
public import Idealize.ShloMosaic.Init
public import Idealize.ShloMosaic.Lib.Claim

@[expose] public section

noncomputable section

namespace Cert.Proof

open Idealize.ShloMosaic Idealize.SL.Sem

theorem claim : Cert.Claim :=
  ⟨Cert.MixBwd.Gen.facts, Cert.MixBwdIdeal.Gen.facts, Cert.MixRefIdeal.Gen.facts,
    Cert.GmlpBwd.Gen.facts, Cert.GmlpBwdIdeal.Gen.facts, Cert.GmlpRefIdeal.Gen.facts,
    Cert.FfnBwd.Gen.facts, Cert.FfnBwdIdeal.Gen.facts, Cert.FfnRefIdeal.Gen.facts,
    Cert.Head.Gen.facts, Cert.HeadIdeal.Gen.facts, Cert.HeadRefIdeal.Gen.facts,
    Cert.AttnBwd.Gen.facts, Cert.AttnBwdIdeal.Gen.facts, Cert.AttnRefIdeal.Gen.facts,
    Cert.MixFwd.Gen.facts, Cert.MixFwdIdeal.Gen.facts, Cert.MixFwdRefIdeal.Gen.facts,
    Cert.GmlpFwd.Gen.facts, Cert.GmlpFwdIdeal.Gen.facts, Cert.GmlpFwdRefIdeal.Gen.facts,
    Cert.AttnFwd.Gen.facts, Cert.AttnFwdIdeal.Gen.facts, Cert.AttnFwdRefIdeal.Gen.facts,
    Cert.OutFwd.Gen.facts, Cert.OutFwdIdeal.Gen.facts, Cert.OutFwdRefIdeal.Gen.facts,
    Cert.OutBwd.Gen.facts, Cert.OutBwdIdeal.Gen.facts, Cert.OutBwdRefIdeal.Gen.facts,
    Cert.Wgrad.Gen.facts, Cert.WgradIdeal.Gen.facts, Cert.WgradRefIdeal.Gen.facts,
    Cert.AdamW.Gen.facts, Cert.AdamWIdeal.Gen.facts, Cert.AdamWRefIdeal.Gen.facts,
    Cert.Pre_gmlp_finite.Gen.facts, Cert.Pre_ffn_finite.Gen.facts, Cert.Pre_attn_fwd_finite.Gen.facts,
    fun m ρ _ => Cert.MixBwd.Gen.frame m ρ, fun m ρ _ => Cert.MixBwdIdeal.Gen.frame m ρ, Cert.Mix.frame_ref,
    fun m ρ _ => Cert.GmlpBwd.Gen.frame m ρ, fun m ρ _ => Cert.GmlpBwdIdeal.Gen.frame m ρ, fun m ρ _ => Cert.GmlpBwdIdeal.Gen.frame m ρ,
    Cert.Gmlp.frame_ref, fun m ρ _ => Cert.Gmlp.frame_ref m ρ trivial,
    fun m ρ _ => Cert.FfnBwd.Gen.frame m ρ, fun m ρ _ => Cert.FfnBwdIdeal.Gen.frame m ρ, fun m ρ _ => Cert.FfnBwdIdeal.Gen.frame m ρ,
    Cert.Ffn.frame_ref, fun m ρ _ => Cert.Ffn.frame_ref m ρ trivial,
    fun m ρ _ => Cert.Head.Gen.frame m ρ, fun m ρ _ => Cert.HeadIdeal.Gen.frame m ρ, Cert.Head.frame_ref,
    fun m ρ _ => Cert.AttnBwd.Att.frame m ρ, fun m ρ _ => Cert.AttnBwdIdeal.Att.frame m ρ, Cert.Attn.frame_ref,
    fun m ρ _ => Cert.MixFwd.Gen.frame m ρ, fun m ρ _ => Cert.MixFwdIdeal.Gen.frame m ρ, Cert.MixFwdClaim.frame_ref,
    fun m ρ _ => Cert.GmlpFwd.Gen.frame m ρ, fun m ρ _ => Cert.GmlpFwdIdeal.Gen.frame m ρ, Cert.GmlpFwdClaim.frame_ref,
    fun m ρ _ => Cert.AttnFwd.Att.frame m ρ, fun m ρ _ => Cert.AttnFwdIdeal.Att.frame m ρ, fun m ρ _ => Cert.AttnFwdIdeal.Att.frame m ρ,
    Cert.AttnFwdClaim.frame_ref, fun m ρ _ => Cert.AttnFwdClaim.frame_ref m ρ trivial,
    fun m ρ _ => Cert.OutFwd.Gen.frame m ρ, fun m ρ _ => Cert.OutFwdIdeal.Gen.frame m ρ, Cert.OutFwdClaim.frame_ref,
    fun m ρ _ => Cert.OutBwd.Gen.frame m ρ, fun m ρ _ => Cert.OutBwdIdeal.Gen.frame m ρ, Cert.OutBwdClaim.frame_ref,
    fun m ρ _ => Cert.Wgrad.Gen.frame m ρ, fun m ρ _ => Cert.WgradIdeal.Gen.frame m ρ, Cert.WgradClaim.frame_ref,
    fun m ρ _ => Cert.AdamW.Gen.frame m ρ, fun m ρ _ => Cert.AdamWIdeal.Gen.frame m ρ, Cert.AdamWClaim.frame_ref,
    trivial, Cert.Mix.algebraic, Cert.Gmlp.preserves, Cert.Gmlp.algebraic, trivial, Cert.Ffn.algebraic, trivial, Cert.Head.algebraic, Cert.Attn.preserves,
    trivial, Cert.MixFwdClaim.algebraic, Cert.GmlpFwdClaim.preserves, Cert.GmlpFwdClaim.algebraic,
    Cert.AttnFwdClaim.preserves, Cert.AttnFwdClaim.algebraic,
    trivial, Cert.OutFwdClaim.algebraic, trivial, Cert.OutBwdClaim.algebraic, trivial, Cert.WgradClaim.algebraic, trivial, Cert.AdamWClaim.algebraic⟩

end Cert.Proof

end
